-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_all_finite [hPre_all_finite : Cert.Pre_all_finite.Facts] (m : (ℓ : Loc Cert.SsdIdeal.nD Cert.SsdIdeal.τ Cert.SsdIdeal.sig) → Buf (Elt Ideal) ℓ) : Prop :=
  ∀ c : Dev Cert.SsdIdeal.nD,
    (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).1 = (fun _ => 1#1)
    ∧ (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.1 = (fun _ => 1#1)
    ∧ (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.1 = (fun _ => 1#1)
    ∧ (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.1 = (fun _ => 1#1)
    ∧ (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.2.1 = (fun _ => 1#1)
    ∧ (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.2.2.1 = (fun _ => 1#1)
    ∧ (Cert.Pre_all_finite.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6))).2.2.2.2.2.2 = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_all_finite [hPre_all_finite : Cert.Pre_all_finite.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).1 = (fun _ => 1#1)
    ∧ (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.1 = (fun _ => 1#1)
    ∧ (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.1 = (fun _ => 1#1)
    ∧ (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.1 = (fun _ => 1#1)
    ∧ (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.2.1 = (fun _ => 1#1)
    ∧ (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.2.2.1 = (fun _ => 1#1)
    ∧ (Cert.Pre_all_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6))).2.2.2.2.2.2 = (fun _ => 1#1)

def Pre_SsdFwd (m : (ℓ : Loc Cert.SsdFwd.nD Cert.SsdFwd.τ Cert.SsdFwd.sig) → Buf (Elt Bits) ℓ) : Prop :=
  True

def Pre_SsdFwdIdeal (m : (ℓ : Loc Cert.SsdFwdIdeal.nD Cert.SsdFwdIdeal.τ Cert.SsdFwdIdeal.sig) → Buf (Elt Ideal) ℓ) : Prop :=
  True

def Pre_SsdFwdIdeal_finite_inputs [hPre_finite_inputs : Cert.Pre_finite_inputs.Facts] (m : (ℓ : Loc Cert.SsdFwdIdeal.nD Cert.SsdFwdIdeal.τ Cert.SsdFwdIdeal.sig) → Buf (Elt Ideal) ℓ) : Prop :=
  ∀ c : Dev Cert.SsdFwdIdeal.nD,
    (Cert.Pre_finite_inputs.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5))).1 = (fun _ => 1#1)
    ∧ (Cert.Pre_finite_inputs.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5))).2.1 = (fun _ => 1#1)
    ∧ (Cert.Pre_finite_inputs.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5))).2.2.1 = (fun _ => 1#1)
    ∧ (Cert.Pre_finite_inputs.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5))).2.2.2.1 = (fun _ => 1#1)
    ∧ (Cert.Pre_finite_inputs.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5))).2.2.2.2.1 = (fun _ => 1#1)
    ∧ (Cert.Pre_finite_inputs.fn (F := Ideal) (m ((c.tc : Thread Cert.SsdFwdIdeal.nD Cert.SsdFwdIdeal.τ).loc Cert.SsdFwdIdeal.main_arg0)) (m ((c.tc : Thread Cert.SsdFwdIdeal.nD Cert.SsdFwdIdeal.τ).loc Cert.SsdFwdIdeal.main_arg1)) (m ((c.tc : Thread Cert.SsdFwdIdeal.nD Cert.SsdFwdIdeal.τ).loc Cert.SsdFwdIdeal.main_arg2)) (m ((c.tc : Thread Cert.SsdFwdIdeal.nD Cert.SsdFwdIdeal.τ).loc Cert.SsdFwdIdeal.main_arg3)) (m ((c.tc : Thread Cert.SsdFwdIdeal.nD Cert.SsdFwdIdeal.τ).loc Cert.SsdFwdIdeal.main_arg4)) (m ((c.tc : Thread Cert.SsdFwdIdeal.nD Cert.SsdFwdIdeal.τ).loc Cert.SsdFwdIdeal.main_arg5))).2.2.2.2.2 = (fun _ => 1#1)

def Pre_SsdFwdRefIdeal (m : (ℓ : Loc Cert.SsdFwdRefIdeal.nD Cert.SsdFwdRefIdeal.τ Cert.SsdFwdRefIdeal.sig) → Buf (Elt Ideal) ℓ) : Prop :=
  True

def Pre_SsdFwdRefIdeal_finite_inputs [hPre_finite_inputs : Cert.Pre_finite_inputs.Facts] (m : (ℓ : Loc Cert.SsdFwdRefIdeal.nD Cert.SsdFwdRefIdeal.τ Cert.SsdFwdRefIdeal.sig) → Buf (Elt Ideal) ℓ) : Prop :=
  ∀ c : Dev Cert.SsdFwdRefIdeal.nD,
    (Cert.Pre_finite_inputs.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5))).1 = (fun _ => 1#1)
    ∧ (Cert.Pre_finite_inputs.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5))).2.1 = (fun _ => 1#1)
    ∧ (Cert.Pre_finite_inputs.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5))).2.2.1 = (fun _ => 1#1)
    ∧ (Cert.Pre_finite_inputs.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5))).2.2.2.1 = (fun _ => 1#1)
    ∧ (Cert.Pre_finite_inputs.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5))).2.2.2.2.1 = (fun _ => 1#1)
    ∧ (Cert.Pre_finite_inputs.fn (F := Ideal) (m ((c.tc : Thread Cert.SsdFwdRefIdeal.nD Cert.SsdFwdRefIdeal.τ).loc Cert.SsdFwdRefIdeal.main_arg0)) (m ((c.tc : Thread Cert.SsdFwdRefIdeal.nD Cert.SsdFwdRefIdeal.τ).loc Cert.SsdFwdRefIdeal.main_arg1)) (m ((c.tc : Thread Cert.SsdFwdRefIdeal.nD Cert.SsdFwdRefIdeal.τ).loc Cert.SsdFwdRefIdeal.main_arg2)) (m ((c.tc : Thread Cert.SsdFwdRefIdeal.nD Cert.SsdFwdRefIdeal.τ).loc Cert.SsdFwdRefIdeal.main_arg3)) (m ((c.tc : Thread Cert.SsdFwdRefIdeal.nD Cert.SsdFwdRefIdeal.τ).loc Cert.SsdFwdRefIdeal.main_arg4)) (m ((c.tc : Thread Cert.SsdFwdRefIdeal.nD Cert.SsdFwdRefIdeal.τ).loc Cert.SsdFwdRefIdeal.main_arg5))).2.2.2.2.2 = (fun _ => 1#1)

def Pre_GuDx (m : (ℓ : Loc Cert.GuDx.nD Cert.GuDx.τ Cert.GuDx.sig) → Buf (Elt Bits) ℓ) : Prop :=
  True

def Pre_GuDxIdeal (m : (ℓ : Loc Cert.GuDxIdeal.nD Cert.GuDxIdeal.τ Cert.GuDxIdeal.sig) → Buf (Elt Ideal) ℓ) : Prop :=
  True

def Pre_GuDxRefIdeal (m : (ℓ : Loc Cert.GuDxRefIdeal.nD Cert.GuDxRefIdeal.τ Cert.GuDxRefIdeal.sig) → Buf (Elt Ideal) ℓ) : Prop :=
  True

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwRefIdeal (m : (ℓ : Loc Cert.GuDwRefIdeal.nD Cert.GuDwRefIdeal.τ Cert.GuDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GuFwd (m : (ℓ : Loc Cert.GuFwd.nD Cert.GuFwd.τ Cert.GuFwd.sig) → Buf (Elt Bits) ℓ) : Prop :=
  True

def Pre_GuFwdIdeal (m : (ℓ : Loc Cert.GuFwdIdeal.nD Cert.GuFwdIdeal.τ Cert.GuFwdIdeal.sig) → Buf (Elt Ideal) ℓ) : Prop :=
  True

def Pre_GuFwdRefIdeal (m : (ℓ : Loc Cert.GuFwdRefIdeal.nD Cert.GuFwdRefIdeal.τ Cert.GuFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_SsdZDx (m : (ℓ : Loc Cert.SsdZDx.nD Cert.SsdZDx.τ Cert.SsdZDx.sig) → Buf (Elt Bits) ℓ) : Prop :=
  True

def Pre_SsdZDxIdeal (m : (ℓ : Loc Cert.SsdZDxIdeal.nD Cert.SsdZDxIdeal.τ Cert.SsdZDxIdeal.sig) → Buf (Elt Ideal) ℓ) : Prop :=
  True

def Pre_SsdZDxRefIdeal (m : (ℓ : Loc Cert.SsdZDxRefIdeal.nD Cert.SsdZDxRefIdeal.τ Cert.SsdZDxRefIdeal.sig) → Buf (Elt Ideal) ℓ) : Prop :=
  True

def Pre_SsdZDw (m : (ℓ : Loc Cert.SsdZDw.nD Cert.SsdZDw.τ Cert.SsdZDw.sig) → Buf (Elt Bits) ℓ) : Prop :=
  True

def Pre_SsdZDwIdeal (m : (ℓ : Loc Cert.SsdZDwIdeal.nD Cert.SsdZDwIdeal.τ Cert.SsdZDwIdeal.sig) → Buf (Elt Ideal) ℓ) : Prop :=
  True

def Pre_SsdZDwRefIdeal (m : (ℓ : Loc Cert.SsdZDwRefIdeal.nD Cert.SsdZDwRefIdeal.τ Cert.SsdZDwRefIdeal.sig) → Buf (Elt Ideal) ℓ) : Prop :=
  True

def Pre_SsdZFwd (m : (ℓ : Loc Cert.SsdZFwd.nD Cert.SsdZFwd.τ Cert.SsdZFwd.sig) → Buf (Elt Bits) ℓ) : Prop :=
  True

def Pre_SsdZFwdIdeal (m : (ℓ : Loc Cert.SsdZFwdIdeal.nD Cert.SsdZFwdIdeal.τ Cert.SsdZFwdIdeal.sig) → Buf (Elt Ideal) ℓ) : Prop :=
  True

def Pre_SsdZFwdRefIdeal (m : (ℓ : Loc Cert.SsdZFwdRefIdeal.nD Cert.SsdZFwdRefIdeal.τ Cert.SsdZFwdRefIdeal.sig) → Buf (Elt Ideal) ℓ) : Prop :=
  True

def Pre_SsdXbcDx (m : (ℓ : Loc Cert.SsdXbcDx.nD Cert.SsdXbcDx.τ Cert.SsdXbcDx.sig) → Buf (Elt Bits) ℓ) : Prop :=
  True

def Pre_SsdXbcDxIdeal (m : (ℓ : Loc Cert.SsdXbcDxIdeal.nD Cert.SsdXbcDxIdeal.τ Cert.SsdXbcDxIdeal.sig) → Buf (Elt Ideal) ℓ) : Prop :=
  True

def Pre_SsdXbcDxRefIdeal (m : (ℓ : Loc Cert.SsdXbcDxRefIdeal.nD Cert.SsdXbcDxRefIdeal.τ Cert.SsdXbcDxRefIdeal.sig) → Buf (Elt Ideal) ℓ) : Prop :=
  True

def Pre_SsdXbcDw (m : (ℓ : Loc Cert.SsdXbcDw.nD Cert.SsdXbcDw.τ Cert.SsdXbcDw.sig) → Buf (Elt Bits) ℓ) : Prop :=
  True

def Pre_SsdXbcDwIdeal (m : (ℓ : Loc Cert.SsdXbcDwIdeal.nD Cert.SsdXbcDwIdeal.τ Cert.SsdXbcDwIdeal.sig) → Buf (Elt Ideal) ℓ) : Prop :=
  True

def Pre_SsdXbcDwRefIdeal (m : (ℓ : Loc Cert.SsdXbcDwRefIdeal.nD Cert.SsdXbcDwRefIdeal.τ Cert.SsdXbcDwRefIdeal.sig) → Buf (Elt Ideal) ℓ) : Prop :=
  True

def Pre_SsdXbcFwd (m : (ℓ : Loc Cert.SsdXbcFwd.nD Cert.SsdXbcFwd.τ Cert.SsdXbcFwd.sig) → Buf (Elt Bits) ℓ) : Prop :=
  True

def Pre_SsdXbcFwdIdeal (m : (ℓ : Loc Cert.SsdXbcFwdIdeal.nD Cert.SsdXbcFwdIdeal.τ Cert.SsdXbcFwdIdeal.sig) → Buf (Elt Ideal) ℓ) : Prop :=
  True

def Pre_SsdXbcFwdRefIdeal (m : (ℓ : Loc Cert.SsdXbcFwdRefIdeal.nD Cert.SsdXbcFwdRefIdeal.τ Cert.SsdXbcFwdRefIdeal.sig) → Buf (Elt Ideal) ℓ) : Prop :=
  True

def Pre_SsdDtDx (m : (ℓ : Loc Cert.SsdDtDx.nD Cert.SsdDtDx.τ Cert.SsdDtDx.sig) → Buf (Elt Bits) ℓ) : Prop :=
  True

def Pre_SsdDtDxIdeal (m : (ℓ : Loc Cert.SsdDtDxIdeal.nD Cert.SsdDtDxIdeal.τ Cert.SsdDtDxIdeal.sig) → Buf (Elt Ideal) ℓ) : Prop :=
  True

def Pre_SsdDtDxRefIdeal (m : (ℓ : Loc Cert.SsdDtDxRefIdeal.nD Cert.SsdDtDxRefIdeal.τ Cert.SsdDtDxRefIdeal.sig) → Buf (Elt Ideal) ℓ) : Prop :=
  True

def Pre_SsdDtDw (m : (ℓ : Loc Cert.SsdDtDw.nD Cert.SsdDtDw.τ Cert.SsdDtDw.sig) → Buf (Elt Bits) ℓ) : Prop :=
  True

def Pre_SsdDtDwIdeal (m : (ℓ : Loc Cert.SsdDtDwIdeal.nD Cert.SsdDtDwIdeal.τ Cert.SsdDtDwIdeal.sig) → Buf (Elt Ideal) ℓ) : Prop :=
  True

def Pre_SsdDtDwRefIdeal (m : (ℓ : Loc Cert.SsdDtDwRefIdeal.nD Cert.SsdDtDwRefIdeal.τ Cert.SsdDtDwRefIdeal.sig) → Buf (Elt Ideal) ℓ) : Prop :=
  True

def Pre_SsdDtFwd (m : (ℓ : Loc Cert.SsdDtFwd.nD Cert.SsdDtFwd.τ Cert.SsdDtFwd.sig) → Buf (Elt Bits) ℓ) : Prop :=
  True

def Pre_SsdDtFwdIdeal (m : (ℓ : Loc Cert.SsdDtFwdIdeal.nD Cert.SsdDtFwdIdeal.τ Cert.SsdDtFwdIdeal.sig) → Buf (Elt Ideal) ℓ) : Prop :=
  True

def Pre_SsdDtFwdRefIdeal (m : (ℓ : Loc Cert.SsdDtFwdRefIdeal.nD Cert.SsdDtFwdRefIdeal.τ Cert.SsdDtFwdRefIdeal.sig) → Buf (Elt Ideal) ℓ) : Prop :=
  True

def Pre_SsdOutDx (m : (ℓ : Loc Cert.SsdOutDx.nD Cert.SsdOutDx.τ Cert.SsdOutDx.sig) → Buf (Elt Bits) ℓ) : Prop :=
  True

def Pre_SsdOutDxIdeal (m : (ℓ : Loc Cert.SsdOutDxIdeal.nD Cert.SsdOutDxIdeal.τ Cert.SsdOutDxIdeal.sig) → Buf (Elt Ideal) ℓ) : Prop :=
  True

def Pre_SsdOutDxRefIdeal (m : (ℓ : Loc Cert.SsdOutDxRefIdeal.nD Cert.SsdOutDxRefIdeal.τ Cert.SsdOutDxRefIdeal.sig) → Buf (Elt Ideal) ℓ) : Prop :=
  True

def Pre_SsdOutDw (m : (ℓ : Loc Cert.SsdOutDw.nD Cert.SsdOutDw.τ Cert.SsdOutDw.sig) → Buf (Elt Bits) ℓ) : Prop :=
  True

def Pre_SsdOutDwIdeal (m : (ℓ : Loc Cert.SsdOutDwIdeal.nD Cert.SsdOutDwIdeal.τ Cert.SsdOutDwIdeal.sig) → Buf (Elt Ideal) ℓ) : Prop :=
  True

def Pre_SsdOutDwRefIdeal (m : (ℓ : Loc Cert.SsdOutDwRefIdeal.nD Cert.SsdOutDwRefIdeal.τ Cert.SsdOutDwRefIdeal.sig) → Buf (Elt Ideal) ℓ) : Prop :=
  True

def Pre_SsdOutFwd (m : (ℓ : Loc Cert.SsdOutFwd.nD Cert.SsdOutFwd.τ Cert.SsdOutFwd.sig) → Buf (Elt Bits) ℓ) : Prop :=
  True

def Pre_SsdOutFwdIdeal (m : (ℓ : Loc Cert.SsdOutFwdIdeal.nD Cert.SsdOutFwdIdeal.τ Cert.SsdOutFwdIdeal.sig) → Buf (Elt Ideal) ℓ) : Prop :=
  True

def Pre_SsdOutFwdRefIdeal (m : (ℓ : Loc Cert.SsdOutFwdRefIdeal.nD Cert.SsdOutFwdRefIdeal.τ Cert.SsdOutFwdRefIdeal.sig) → Buf (Elt Ideal) ℓ) : Prop :=
  True

def Pre_MlaADx (m : (ℓ : Loc Cert.MlaADx.nD Cert.MlaADx.τ Cert.MlaADx.sig) → Buf (Elt Bits) ℓ) : Prop :=
  True

def Pre_MlaADxIdeal (m : (ℓ : Loc Cert.MlaADxIdeal.nD Cert.MlaADxIdeal.τ Cert.MlaADxIdeal.sig) → Buf (Elt Ideal) ℓ) : Prop :=
  True

def Pre_MlaADxRefIdeal (m : (ℓ : Loc Cert.MlaADxRefIdeal.nD Cert.MlaADxRefIdeal.τ Cert.MlaADxRefIdeal.sig) → Buf (Elt Ideal) ℓ) : Prop :=
  True

def Pre_MlaADw (m : (ℓ : Loc Cert.MlaADw.nD Cert.MlaADw.τ Cert.MlaADw.sig) → Buf (Elt Bits) ℓ) : Prop :=
  True

def Pre_MlaADwIdeal (m : (ℓ : Loc Cert.MlaADwIdeal.nD Cert.MlaADwIdeal.τ Cert.MlaADwIdeal.sig) → Buf (Elt Ideal) ℓ) : Prop :=
  True

def Pre_MlaADwRefIdeal (m : (ℓ : Loc Cert.MlaADwRefIdeal.nD Cert.MlaADwRefIdeal.τ Cert.MlaADwRefIdeal.sig) → Buf (Elt Ideal) ℓ) : Prop :=
  True

def Pre_MlaAFwd (m : (ℓ : Loc Cert.MlaAFwd.nD Cert.MlaAFwd.τ Cert.MlaAFwd.sig) → Buf (Elt Bits) ℓ) : Prop :=
  True

def Pre_MlaAFwdIdeal (m : (ℓ : Loc Cert.MlaAFwdIdeal.nD Cert.MlaAFwdIdeal.τ Cert.MlaAFwdIdeal.sig) → Buf (Elt Ideal) ℓ) : Prop :=
  True

def Pre_MlaAFwdRefIdeal (m : (ℓ : Loc Cert.MlaAFwdRefIdeal.nD Cert.MlaAFwdRefIdeal.τ Cert.MlaAFwdRefIdeal.sig) → Buf (Elt Ideal) ℓ) : Prop :=
  True

def Pre_MlaQbDx (m : (ℓ : Loc Cert.MlaQbDx.nD Cert.MlaQbDx.τ Cert.MlaQbDx.sig) → Buf (Elt Bits) ℓ) : Prop :=
  True

def Pre_MlaQbDxIdeal (m : (ℓ : Loc Cert.MlaQbDxIdeal.nD Cert.MlaQbDxIdeal.τ Cert.MlaQbDxIdeal.sig) → Buf (Elt Ideal) ℓ) : Prop :=
  True

def Pre_MlaQbDxRefIdeal (m : (ℓ : Loc Cert.MlaQbDxRefIdeal.nD Cert.MlaQbDxRefIdeal.τ Cert.MlaQbDxRefIdeal.sig) → Buf (Elt Ideal) ℓ) : Prop :=
  True

def Pre_MlaQbDw (m : (ℓ : Loc Cert.MlaQbDw.nD Cert.MlaQbDw.τ Cert.MlaQbDw.sig) → Buf (Elt Bits) ℓ) : Prop :=
  True

def Pre_MlaQbDwIdeal (m : (ℓ : Loc Cert.MlaQbDwIdeal.nD Cert.MlaQbDwIdeal.τ Cert.MlaQbDwIdeal.sig) → Buf (Elt Ideal) ℓ) : Prop :=
  True

def Pre_MlaQbDwRefIdeal (m : (ℓ : Loc Cert.MlaQbDwRefIdeal.nD Cert.MlaQbDwRefIdeal.τ Cert.MlaQbDwRefIdeal.sig) → Buf (Elt Ideal) ℓ) : Prop :=
  True

def Pre_MlaQbFwd (m : (ℓ : Loc Cert.MlaQbFwd.nD Cert.MlaQbFwd.τ Cert.MlaQbFwd.sig) → Buf (Elt Bits) ℓ) : Prop :=
  True

def Pre_MlaQbFwdIdeal (m : (ℓ : Loc Cert.MlaQbFwdIdeal.nD Cert.MlaQbFwdIdeal.τ Cert.MlaQbFwdIdeal.sig) → Buf (Elt Ideal) ℓ) : Prop :=
  True

def Pre_MlaQbFwdRefIdeal (m : (ℓ : Loc Cert.MlaQbFwdRefIdeal.nD Cert.MlaQbFwdRefIdeal.τ Cert.MlaQbFwdRefIdeal.sig) → Buf (Elt Ideal) ℓ) : Prop :=
  True

def Pre_MlaKvbDx (m : (ℓ : Loc Cert.MlaKvbDx.nD Cert.MlaKvbDx.τ Cert.MlaKvbDx.sig) → Buf (Elt Bits) ℓ) : Prop :=
  True

def Pre_MlaKvbDxIdeal (m : (ℓ : Loc Cert.MlaKvbDxIdeal.nD Cert.MlaKvbDxIdeal.τ Cert.MlaKvbDxIdeal.sig) → Buf (Elt Ideal) ℓ) : Prop :=
  True

def Pre_MlaKvbDxRefIdeal (m : (ℓ : Loc Cert.MlaKvbDxRefIdeal.nD Cert.MlaKvbDxRefIdeal.τ Cert.MlaKvbDxRefIdeal.sig) → Buf (Elt Ideal) ℓ) : Prop :=
  True

def Pre_MlaKvbDw (m : (ℓ : Loc Cert.MlaKvbDw.nD Cert.MlaKvbDw.τ Cert.MlaKvbDw.sig) → Buf (Elt Bits) ℓ) : Prop :=
  True

def Pre_MlaKvbDwIdeal (m : (ℓ : Loc Cert.MlaKvbDwIdeal.nD Cert.MlaKvbDwIdeal.τ Cert.MlaKvbDwIdeal.sig) → Buf (Elt Ideal) ℓ) : Prop :=
  True

def Pre_MlaKvbDwRefIdeal (m : (ℓ : Loc Cert.MlaKvbDwRefIdeal.nD Cert.MlaKvbDwRefIdeal.τ Cert.MlaKvbDwRefIdeal.sig) → Buf (Elt Ideal) ℓ) : Prop :=
  True

def Pre_MlaKvbFwd (m : (ℓ : Loc Cert.MlaKvbFwd.nD Cert.MlaKvbFwd.τ Cert.MlaKvbFwd.sig) → Buf (Elt Bits) ℓ) : Prop :=
  True

def Pre_MlaKvbFwdIdeal (m : (ℓ : Loc Cert.MlaKvbFwdIdeal.nD Cert.MlaKvbFwdIdeal.τ Cert.MlaKvbFwdIdeal.sig) → Buf (Elt Ideal) ℓ) : Prop :=
  True

def Pre_MlaKvbFwdRefIdeal (m : (ℓ : Loc Cert.MlaKvbFwdRefIdeal.nD Cert.MlaKvbFwdRefIdeal.τ Cert.MlaKvbFwdRefIdeal.sig) → Buf (Elt Ideal) ℓ) : Prop :=
  True

def Pre_MlaODx (m : (ℓ : Loc Cert.MlaODx.nD Cert.MlaODx.τ Cert.MlaODx.sig) → Buf (Elt Bits) ℓ) : Prop :=
  True

def Pre_MlaODxIdeal (m : (ℓ : Loc Cert.MlaODxIdeal.nD Cert.MlaODxIdeal.τ Cert.MlaODxIdeal.sig) → Buf (Elt Ideal) ℓ) : Prop :=
  True

def Pre_MlaODxRefIdeal (m : (ℓ : Loc Cert.MlaODxRefIdeal.nD Cert.MlaODxRefIdeal.τ Cert.MlaODxRefIdeal.sig) → Buf (Elt Ideal) ℓ) : Prop :=
  True

def Pre_MlaODw (m : (ℓ : Loc Cert.MlaODw.nD Cert.MlaODw.τ Cert.MlaODw.sig) → Buf (Elt Bits) ℓ) : Prop :=
  True

def Pre_MlaODwIdeal (m : (ℓ : Loc Cert.MlaODwIdeal.nD Cert.MlaODwIdeal.τ Cert.MlaODwIdeal.sig) → Buf (Elt Ideal) ℓ) : Prop :=
  True

def Pre_MlaODwRefIdeal (m : (ℓ : Loc Cert.MlaODwRefIdeal.nD Cert.MlaODwRefIdeal.τ Cert.MlaODwRefIdeal.sig) → Buf (Elt Ideal) ℓ) : Prop :=
  True

def Pre_MlaOFwd (m : (ℓ : Loc Cert.MlaOFwd.nD Cert.MlaOFwd.τ Cert.MlaOFwd.sig) → Buf (Elt Bits) ℓ) : Prop :=
  True

def Pre_MlaOFwdIdeal (m : (ℓ : Loc Cert.MlaOFwdIdeal.nD Cert.MlaOFwdIdeal.τ Cert.MlaOFwdIdeal.sig) → Buf (Elt Ideal) ℓ) : Prop :=
  True

def Pre_MlaOFwdRefIdeal (m : (ℓ : Loc Cert.MlaOFwdRefIdeal.nD Cert.MlaOFwdRefIdeal.τ Cert.MlaOFwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_cotangent [hPre_finite_cotangent : Cert.Pre_finite_cotangent.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_cotangent.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_cotangent [hPre_finite_cotangent : Cert.Pre_finite_cotangent.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_cotangent.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_ResidBwd (m : (ℓ : Loc Cert.ResidBwd.nD Cert.ResidBwd.τ Cert.ResidBwd.sig) → Buf (Elt Bits) ℓ) : Prop :=
  True

def Pre_ResidBwdIdeal (m : (ℓ : Loc Cert.ResidBwdIdeal.nD Cert.ResidBwdIdeal.τ Cert.ResidBwdIdeal.sig) → Buf (Elt Ideal) ℓ) : Prop :=
  True

def Pre_ResidBwdRefIdeal (m : (ℓ : Loc Cert.ResidBwdRefIdeal.nD Cert.ResidBwdRefIdeal.τ Cert.ResidBwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdIdeal_pre_all_finite [hSsdIdeal : Cert.SsdIdeal.Facts] [hPre_all_finite : Cert.Pre_all_finite.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_all_finite m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdRefIdeal_pre_all_finite [hSsdRefIdeal : Cert.SsdRefIdeal.Facts] [hPre_all_finite : Cert.Pre_all_finite.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_all_finite m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_SsdFwd [hSsdFwd : Cert.SsdFwd.Facts] : Prop :=
  ∀ (m : (ℓ : Loc Cert.SsdFwd.nD Cert.SsdFwd.τ Cert.SsdFwd.sig) → Buf (Elt Bits) ℓ) (g : Dev Cert.SsdFwd.nD → PrngReg), Pre_SsdFwd m →
    θ_run (Cert.SsdFwd.defs (F := Bits)) (onTc (τ := Cert.SsdFwd.τ) (Cert.SsdFwd.main (F := Bits))) ⟨m, fun _ => 0, g⟩ (fun r => (∀ c : Dev Cert.SsdFwd.nD,
      r.2.mem ((c.tc : Thread Cert.SsdFwd.nD Cert.SsdFwd.τ).loc Cert.SsdFwd.main_arg0) = m ((c.tc : Thread Cert.SsdFwd.nD Cert.SsdFwd.τ).loc Cert.SsdFwd.main_arg0)
      ∧ r.2.mem ((c.tc : Thread Cert.SsdFwd.nD Cert.SsdFwd.τ).loc Cert.SsdFwd.main_arg1) = m ((c.tc : Thread Cert.SsdFwd.nD Cert.SsdFwd.τ).loc Cert.SsdFwd.main_arg1)
      ∧ r.2.mem ((c.tc : Thread Cert.SsdFwd.nD Cert.SsdFwd.τ).loc Cert.SsdFwd.main_arg2) = m ((c.tc : Thread Cert.SsdFwd.nD Cert.SsdFwd.τ).loc Cert.SsdFwd.main_arg2)
      ∧ r.2.mem ((c.tc : Thread Cert.SsdFwd.nD Cert.SsdFwd.τ).loc Cert.SsdFwd.main_arg3) = m ((c.tc : Thread Cert.SsdFwd.nD Cert.SsdFwd.τ).loc Cert.SsdFwd.main_arg3)
      ∧ r.2.mem ((c.tc : Thread Cert.SsdFwd.nD Cert.SsdFwd.τ).loc Cert.SsdFwd.main_arg4) = m ((c.tc : Thread Cert.SsdFwd.nD Cert.SsdFwd.τ).loc Cert.SsdFwd.main_arg4)
      ∧ r.2.mem ((c.tc : Thread Cert.SsdFwd.nD Cert.SsdFwd.τ).loc Cert.SsdFwd.main_arg5) = m ((c.tc : Thread Cert.SsdFwd.nD Cert.SsdFwd.τ).loc Cert.SsdFwd.main_arg5))
      ∧ r.2.sem = fun _ => 0)

def quiescent_SsdFwdIdeal [hSsdFwdIdeal : Cert.SsdFwdIdeal.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5))
      ∧ r.2.sem = fun _ => 0)

def quiescent_SsdFwdIdeal_pre_finite_inputs [hSsdFwdIdeal : Cert.SsdFwdIdeal.Facts] [hPre_finite_inputs : Cert.Pre_finite_inputs.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg), Pre_SsdFwdIdeal_finite_inputs m →
    θ_run (Cert.SsdFwdIdeal.defs (F := Ideal)) (onTc (τ := Cert.SsdFwdIdeal.τ) (Cert.SsdFwdIdeal.main (F := Ideal))) ⟨m, fun _ => 0, g⟩ (fun r => (∀ c : Dev Cert.SsdFwdIdeal.nD,
      r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
      ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
      ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
      ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
      ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
      ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5))
      ∧ r.2.sem = fun _ => 0)

def quiescent_SsdFwdRefIdeal [hSsdFwdRefIdeal : Cert.SsdFwdRefIdeal.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5))
      ∧ r.2.sem = fun _ => 0)

def quiescent_SsdFwdRefIdeal_pre_finite_inputs [hSsdFwdRefIdeal : Cert.SsdFwdRefIdeal.Facts] [hPre_finite_inputs : Cert.Pre_finite_inputs.Facts] : Prop :=
  ∀ (m : (ℓ : Loc Cert.SsdFwdRefIdeal.nD Cert.SsdFwdRefIdeal.τ Cert.SsdFwdRefIdeal.sig) → Buf (Elt Ideal) ℓ) (g : Dev Cert.SsdFwdRefIdeal.nD → PrngReg), Pre_SsdFwdRefIdeal_finite_inputs m →
    θ_run (Cert.SsdFwdRefIdeal.defs (F := Ideal)) (onTc (τ := Cert.SsdFwdRefIdeal.τ) (Cert.SsdFwdRefIdeal.main (F := Ideal))) ⟨m, fun _ => 0, g⟩ (fun r => (∀ c : Dev Cert.SsdFwdRefIdeal.nD,
      r.2.mem ((c.tc : Thread Cert.SsdFwdRefIdeal.nD Cert.SsdFwdRefIdeal.τ).loc Cert.SsdFwdRefIdeal.main_arg0) = m ((c.tc : Thread Cert.SsdFwdRefIdeal.nD Cert.SsdFwdRefIdeal.τ).loc Cert.SsdFwdRefIdeal.main_arg0)
      ∧ r.2.mem ((c.tc : Thread Cert.SsdFwdRefIdeal.nD Cert.SsdFwdRefIdeal.τ).loc Cert.SsdFwdRefIdeal.main_arg1) = m ((c.tc : Thread Cert.SsdFwdRefIdeal.nD Cert.SsdFwdRefIdeal.τ).loc Cert.SsdFwdRefIdeal.main_arg1)
      ∧ r.2.mem ((c.tc : Thread Cert.SsdFwdRefIdeal.nD Cert.SsdFwdRefIdeal.τ).loc Cert.SsdFwdRefIdeal.main_arg2) = m ((c.tc : Thread Cert.SsdFwdRefIdeal.nD Cert.SsdFwdRefIdeal.τ).loc Cert.SsdFwdRefIdeal.main_arg2)
      ∧ r.2.mem ((c.tc : Thread Cert.SsdFwdRefIdeal.nD Cert.SsdFwdRefIdeal.τ).loc Cert.SsdFwdRefIdeal.main_arg3) = m ((c.tc : Thread Cert.SsdFwdRefIdeal.nD Cert.SsdFwdRefIdeal.τ).loc Cert.SsdFwdRefIdeal.main_arg3)
      ∧ r.2.mem ((c.tc : Thread Cert.SsdFwdRefIdeal.nD Cert.SsdFwdRefIdeal.τ).loc Cert.SsdFwdRefIdeal.main_arg4) = m ((c.tc : Thread Cert.SsdFwdRefIdeal.nD Cert.SsdFwdRefIdeal.τ).loc Cert.SsdFwdRefIdeal.main_arg4)
      ∧ r.2.mem ((c.tc : Thread Cert.SsdFwdRefIdeal.nD Cert.SsdFwdRefIdeal.τ).loc Cert.SsdFwdRefIdeal.main_arg5) = m ((c.tc : Thread Cert.SsdFwdRefIdeal.nD Cert.SsdFwdRefIdeal.τ).loc Cert.SsdFwdRefIdeal.main_arg5))
      ∧ r.2.sem = fun _ => 0)

def quiescent_GuDx [hGuDx : Cert.GuDx.Facts] : Prop :=
  ∀ (m : (ℓ : Loc Cert.GuDx.nD Cert.GuDx.τ Cert.GuDx.sig) → Buf (Elt Bits) ℓ) (g : Dev Cert.GuDx.nD → PrngReg), Pre_GuDx m →
    θ_run (Cert.GuDx.defs (F := Bits)) (onTc (τ := Cert.GuDx.τ) (Cert.GuDx.main (F := Bits))) ⟨m, fun _ => 0, g⟩ (fun r => (∀ c : Dev Cert.GuDx.nD,
      r.2.mem ((c.tc : Thread Cert.GuDx.nD Cert.GuDx.τ).loc Cert.GuDx.main_arg0) = m ((c.tc : Thread Cert.GuDx.nD Cert.GuDx.τ).loc Cert.GuDx.main_arg0)
      ∧ r.2.mem ((c.tc : Thread Cert.GuDx.nD Cert.GuDx.τ).loc Cert.GuDx.main_arg1) = m ((c.tc : Thread Cert.GuDx.nD Cert.GuDx.τ).loc Cert.GuDx.main_arg1))
      ∧ r.2.sem = fun _ => 0)

def quiescent_GuDxIdeal [hGuDxIdeal : Cert.GuDxIdeal.Facts] : Prop :=
  ∀ (m : (ℓ : Loc Cert.GuDxIdeal.nD Cert.GuDxIdeal.τ Cert.GuDxIdeal.sig) → Buf (Elt Ideal) ℓ) (g : Dev Cert.GuDxIdeal.nD → PrngReg), Pre_GuDxIdeal m →
    θ_run (Cert.GuDxIdeal.defs (F := Ideal)) (onTc (τ := Cert.GuDxIdeal.τ) (Cert.GuDxIdeal.main (F := Ideal))) ⟨m, fun _ => 0, g⟩ (fun r => (∀ c : Dev Cert.GuDxIdeal.nD,
      r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
      ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1))
      ∧ r.2.sem = fun _ => 0)

def quiescent_GuDxRefIdeal [hGuDxRefIdeal : Cert.GuDxRefIdeal.Facts] : Prop :=
  ∀ (m : (ℓ : Loc Cert.GuDxRefIdeal.nD Cert.GuDxRefIdeal.τ Cert.GuDxRefIdeal.sig) → Buf (Elt Ideal) ℓ) (g : Dev Cert.GuDxRefIdeal.nD → PrngReg), Pre_GuDxRefIdeal m →
    θ_run (Cert.GuDxRefIdeal.defs (F := Ideal)) (onTc (τ := Cert.GuDxRefIdeal.τ) (Cert.GuDxRefIdeal.main (F := Ideal))) ⟨m, fun _ => 0, g⟩ (fun r => (∀ c : Dev Cert.GuDxRefIdeal.nD,
      r.2.mem ((c.tc : Thread Cert.GuDxRefIdeal.nD Cert.GuDxRefIdeal.τ).loc Cert.GuDxRefIdeal.main_arg0) = m ((c.tc : Thread Cert.GuDxRefIdeal.nD Cert.GuDxRefIdeal.τ).loc Cert.GuDxRefIdeal.main_arg0)
      ∧ r.2.mem ((c.tc : Thread Cert.GuDxRefIdeal.nD Cert.GuDxRefIdeal.τ).loc Cert.GuDxRefIdeal.main_arg1) = m ((c.tc : Thread Cert.GuDxRefIdeal.nD Cert.GuDxRefIdeal.τ).loc Cert.GuDxRefIdeal.main_arg1))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ r.2.sem = fun _ => 0)

def quiescent_GuDwRefIdeal [hGuDwRefIdeal : Cert.GuDwRefIdeal.Facts] : Prop :=
  ∀ (m : (ℓ : Loc Cert.GuDwRefIdeal.nD Cert.GuDwRefIdeal.τ Cert.GuDwRefIdeal.sig) → Buf (Elt Ideal) ℓ) (g : Dev Cert.GuDwRefIdeal.nD → PrngReg), Pre_GuDwRefIdeal m →
    θ_run (Cert.GuDwRefIdeal.defs (F := Ideal)) (onTc (τ := Cert.GuDwRefIdeal.τ) (Cert.GuDwRefIdeal.main (F := Ideal))) ⟨m, fun _ => 0, g⟩ (fun r => (∀ c : Dev Cert.GuDwRefIdeal.nD,
      r.2.mem ((c.tc : Thread Cert.GuDwRefIdeal.nD Cert.GuDwRefIdeal.τ).loc Cert.GuDwRefIdeal.main_arg0) = m ((c.tc : Thread Cert.GuDwRefIdeal.nD Cert.GuDwRefIdeal.τ).loc Cert.GuDwRefIdeal.main_arg0)
      ∧ r.2.mem ((c.tc : Thread Cert.GuDwRefIdeal.nD Cert.GuDwRefIdeal.τ).loc Cert.GuDwRefIdeal.main_arg1) = m ((c.tc : Thread Cert.GuDwRefIdeal.nD Cert.GuDwRefIdeal.τ).loc Cert.GuDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GuFwd [hGuFwd : Cert.GuFwd.Facts] : Prop :=
  ∀ (m : (ℓ : Loc Cert.GuFwd.nD Cert.GuFwd.τ Cert.GuFwd.sig) → Buf (Elt Bits) ℓ) (g : Dev Cert.GuFwd.nD → PrngReg), Pre_GuFwd m →
    θ_run (Cert.GuFwd.defs (F := Bits)) (onTc (τ := Cert.GuFwd.τ) (Cert.GuFwd.main (F := Bits))) ⟨m, fun _ => 0, g⟩ (fun r => (∀ c : Dev Cert.GuFwd.nD,
      r.2.mem ((c.tc : Thread Cert.GuFwd.nD Cert.GuFwd.τ).loc Cert.GuFwd.main_arg0) = m ((c.tc : Thread Cert.GuFwd.nD Cert.GuFwd.τ).loc Cert.GuFwd.main_arg0)
      ∧ r.2.mem ((c.tc : Thread Cert.GuFwd.nD Cert.GuFwd.τ).loc Cert.GuFwd.main_arg1) = m ((c.tc : Thread Cert.GuFwd.nD Cert.GuFwd.τ).loc Cert.GuFwd.main_arg1))
      ∧ r.2.sem = fun _ => 0)

def quiescent_GuFwdIdeal [hGuFwdIdeal : Cert.GuFwdIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg), Pre_GuFwdIdeal m →
    θ_run (Cert.GuFwdIdeal.defs (F := Ideal)) (onTc (τ := Cert.GuFwdIdeal.τ) (Cert.GuFwdIdeal.main (F := Ideal))) ⟨m, fun _ => 0, g⟩ (fun r => (∀ c : Dev Cert.GuFwdIdeal.nD,
      r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
      ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ r.2.sem = fun _ => 0)

def quiescent_GuFwdRefIdeal [hGuFwdRefIdeal : Cert.GuFwdRefIdeal.Facts] : Prop :=
  ∀ (m : (ℓ : Loc Cert.GuFwdRefIdeal.nD Cert.GuFwdRefIdeal.τ Cert.GuFwdRefIdeal.sig) → Buf (Elt Ideal) ℓ) (g : Dev Cert.GuFwdRefIdeal.nD → PrngReg), Pre_GuFwdRefIdeal m →
    θ_run (Cert.GuFwdRefIdeal.defs (F := Ideal)) (onTc (τ := Cert.GuFwdRefIdeal.τ) (Cert.GuFwdRefIdeal.main (F := Ideal))) ⟨m, fun _ => 0, g⟩ (fun r => (∀ c : Dev Cert.GuFwdRefIdeal.nD,
      r.2.mem ((c.tc : Thread Cert.GuFwdRefIdeal.nD Cert.GuFwdRefIdeal.τ).loc Cert.GuFwdRefIdeal.main_arg0) = m ((c.tc : Thread Cert.GuFwdRefIdeal.nD Cert.GuFwdRefIdeal.τ).loc Cert.GuFwdRefIdeal.main_arg0)
      ∧ r.2.mem ((c.tc : Thread Cert.GuFwdRefIdeal.nD Cert.GuFwdRefIdeal.τ).loc Cert.GuFwdRefIdeal.main_arg1) = m ((c.tc : Thread Cert.GuFwdRefIdeal.nD Cert.GuFwdRefIdeal.τ).loc Cert.GuFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_SsdZDx [hSsdZDx : Cert.SsdZDx.Facts] : Prop :=
  ∀ (m : (ℓ : Loc Cert.SsdZDx.nD Cert.SsdZDx.τ Cert.SsdZDx.sig) → Buf (Elt Bits) ℓ) (g : Dev Cert.SsdZDx.nD → PrngReg), Pre_SsdZDx m →
    θ_run (Cert.SsdZDx.defs (F := Bits)) (onTc (τ := Cert.SsdZDx.τ) (Cert.SsdZDx.main (F := Bits))) ⟨m, fun _ => 0, g⟩ (fun r => (∀ c : Dev Cert.SsdZDx.nD,
      r.2.mem ((c.tc : Thread Cert.SsdZDx.nD Cert.SsdZDx.τ).loc Cert.SsdZDx.main_arg0) = m ((c.tc : Thread Cert.SsdZDx.nD Cert.SsdZDx.τ).loc Cert.SsdZDx.main_arg0)
      ∧ r.2.mem ((c.tc : Thread Cert.SsdZDx.nD Cert.SsdZDx.τ).loc Cert.SsdZDx.main_arg1) = m ((c.tc : Thread Cert.SsdZDx.nD Cert.SsdZDx.τ).loc Cert.SsdZDx.main_arg1))
      ∧ r.2.sem = fun _ => 0)

def quiescent_SsdZDxIdeal [hSsdZDxIdeal : Cert.SsdZDxIdeal.Facts] : Prop :=
  ∀ (m : (ℓ : Loc Cert.SsdZDxIdeal.nD Cert.SsdZDxIdeal.τ Cert.SsdZDxIdeal.sig) → Buf (Elt Ideal) ℓ) (g : Dev Cert.SsdZDxIdeal.nD → PrngReg), Pre_SsdZDxIdeal m →
    θ_run (Cert.SsdZDxIdeal.defs (F := Ideal)) (onTc (τ := Cert.SsdZDxIdeal.τ) (Cert.SsdZDxIdeal.main (F := Ideal))) ⟨m, fun _ => 0, g⟩ (fun r => (∀ c : Dev Cert.SsdZDxIdeal.nD,
      r.2.mem ((c.tc : Thread Cert.SsdZDxIdeal.nD Cert.SsdZDxIdeal.τ).loc Cert.SsdZDxIdeal.main_arg0) = m ((c.tc : Thread Cert.SsdZDxIdeal.nD Cert.SsdZDxIdeal.τ).loc Cert.SsdZDxIdeal.main_arg0)
      ∧ r.2.mem ((c.tc : Thread Cert.SsdZDxIdeal.nD Cert.SsdZDxIdeal.τ).loc Cert.SsdZDxIdeal.main_arg1) = m ((c.tc : Thread Cert.SsdZDxIdeal.nD Cert.SsdZDxIdeal.τ).loc Cert.SsdZDxIdeal.main_arg1))
      ∧ r.2.sem = fun _ => 0)

def quiescent_SsdZDxRefIdeal [hSsdZDxRefIdeal : Cert.SsdZDxRefIdeal.Facts] : Prop :=
  ∀ (m : (ℓ : Loc Cert.SsdZDxRefIdeal.nD Cert.SsdZDxRefIdeal.τ Cert.SsdZDxRefIdeal.sig) → Buf (Elt Ideal) ℓ) (g : Dev Cert.SsdZDxRefIdeal.nD → PrngReg), Pre_SsdZDxRefIdeal m →
    θ_run (Cert.SsdZDxRefIdeal.defs (F := Ideal)) (onTc (τ := Cert.SsdZDxRefIdeal.τ) (Cert.SsdZDxRefIdeal.main (F := Ideal))) ⟨m, fun _ => 0, g⟩ (fun r => (∀ c : Dev Cert.SsdZDxRefIdeal.nD,
      r.2.mem ((c.tc : Thread Cert.SsdZDxRefIdeal.nD Cert.SsdZDxRefIdeal.τ).loc Cert.SsdZDxRefIdeal.main_arg0) = m ((c.tc : Thread Cert.SsdZDxRefIdeal.nD Cert.SsdZDxRefIdeal.τ).loc Cert.SsdZDxRefIdeal.main_arg0)
      ∧ r.2.mem ((c.tc : Thread Cert.SsdZDxRefIdeal.nD Cert.SsdZDxRefIdeal.τ).loc Cert.SsdZDxRefIdeal.main_arg1) = m ((c.tc : Thread Cert.SsdZDxRefIdeal.nD Cert.SsdZDxRefIdeal.τ).loc Cert.SsdZDxRefIdeal.main_arg1))
      ∧ r.2.sem = fun _ => 0)

def quiescent_SsdZDw [hSsdZDw : Cert.SsdZDw.Facts] : Prop :=
  ∀ (m : (ℓ : Loc Cert.SsdZDw.nD Cert.SsdZDw.τ Cert.SsdZDw.sig) → Buf (Elt Bits) ℓ) (g : Dev Cert.SsdZDw.nD → PrngReg), Pre_SsdZDw m →
    θ_run (Cert.SsdZDw.defs (F := Bits)) (onTc (τ := Cert.SsdZDw.τ) (Cert.SsdZDw.main (F := Bits))) ⟨m, fun _ => 0, g⟩ (fun r => (∀ c : Dev Cert.SsdZDw.nD,
      r.2.mem ((c.tc : Thread Cert.SsdZDw.nD Cert.SsdZDw.τ).loc Cert.SsdZDw.main_arg0) = m ((c.tc : Thread Cert.SsdZDw.nD Cert.SsdZDw.τ).loc Cert.SsdZDw.main_arg0)
      ∧ r.2.mem ((c.tc : Thread Cert.SsdZDw.nD Cert.SsdZDw.τ).loc Cert.SsdZDw.main_arg1) = m ((c.tc : Thread Cert.SsdZDw.nD Cert.SsdZDw.τ).loc Cert.SsdZDw.main_arg1))
      ∧ r.2.sem = fun _ => 0)

def quiescent_SsdZDwIdeal [hSsdZDwIdeal : Cert.SsdZDwIdeal.Facts] : Prop :=
  ∀ (m : (ℓ : Loc Cert.SsdZDwIdeal.nD Cert.SsdZDwIdeal.τ Cert.SsdZDwIdeal.sig) → Buf (Elt Ideal) ℓ) (g : Dev Cert.SsdZDwIdeal.nD → PrngReg), Pre_SsdZDwIdeal m →
    θ_run (Cert.SsdZDwIdeal.defs (F := Ideal)) (onTc (τ := Cert.SsdZDwIdeal.τ) (Cert.SsdZDwIdeal.main (F := Ideal))) ⟨m, fun _ => 0, g⟩ (fun r => (∀ c : Dev Cert.SsdZDwIdeal.nD,
      r.2.mem ((c.tc : Thread Cert.SsdZDwIdeal.nD Cert.SsdZDwIdeal.τ).loc Cert.SsdZDwIdeal.main_arg0) = m ((c.tc : Thread Cert.SsdZDwIdeal.nD Cert.SsdZDwIdeal.τ).loc Cert.SsdZDwIdeal.main_arg0)
      ∧ r.2.mem ((c.tc : Thread Cert.SsdZDwIdeal.nD Cert.SsdZDwIdeal.τ).loc Cert.SsdZDwIdeal.main_arg1) = m ((c.tc : Thread Cert.SsdZDwIdeal.nD Cert.SsdZDwIdeal.τ).loc Cert.SsdZDwIdeal.main_arg1))
      ∧ r.2.sem = fun _ => 0)

def quiescent_SsdZDwRefIdeal [hSsdZDwRefIdeal : Cert.SsdZDwRefIdeal.Facts] : Prop :=
  ∀ (m : (ℓ : Loc Cert.SsdZDwRefIdeal.nD Cert.SsdZDwRefIdeal.τ Cert.SsdZDwRefIdeal.sig) → Buf (Elt Ideal) ℓ) (g : Dev Cert.SsdZDwRefIdeal.nD → PrngReg), Pre_SsdZDwRefIdeal m →
    θ_run (Cert.SsdZDwRefIdeal.defs (F := Ideal)) (onTc (τ := Cert.SsdZDwRefIdeal.τ) (Cert.SsdZDwRefIdeal.main (F := Ideal))) ⟨m, fun _ => 0, g⟩ (fun r => (∀ c : Dev Cert.SsdZDwRefIdeal.nD,
      r.2.mem ((c.tc : Thread Cert.SsdZDwRefIdeal.nD Cert.SsdZDwRefIdeal.τ).loc Cert.SsdZDwRefIdeal.main_arg0) = m ((c.tc : Thread Cert.SsdZDwRefIdeal.nD Cert.SsdZDwRefIdeal.τ).loc Cert.SsdZDwRefIdeal.main_arg0)
      ∧ r.2.mem ((c.tc : Thread Cert.SsdZDwRefIdeal.nD Cert.SsdZDwRefIdeal.τ).loc Cert.SsdZDwRefIdeal.main_arg1) = m ((c.tc : Thread Cert.SsdZDwRefIdeal.nD Cert.SsdZDwRefIdeal.τ).loc Cert.SsdZDwRefIdeal.main_arg1))
      ∧ r.2.sem = fun _ => 0)

def quiescent_SsdZFwd [hSsdZFwd : Cert.SsdZFwd.Facts] : Prop :=
  ∀ (m : (ℓ : Loc Cert.SsdZFwd.nD Cert.SsdZFwd.τ Cert.SsdZFwd.sig) → Buf (Elt Bits) ℓ) (g : Dev Cert.SsdZFwd.nD → PrngReg), Pre_SsdZFwd m →
    θ_run (Cert.SsdZFwd.defs (F := Bits)) (onTc (τ := Cert.SsdZFwd.τ) (Cert.SsdZFwd.main (F := Bits))) ⟨m, fun _ => 0, g⟩ (fun r => (∀ c : Dev Cert.SsdZFwd.nD,
      r.2.mem ((c.tc : Thread Cert.SsdZFwd.nD Cert.SsdZFwd.τ).loc Cert.SsdZFwd.main_arg0) = m ((c.tc : Thread Cert.SsdZFwd.nD Cert.SsdZFwd.τ).loc Cert.SsdZFwd.main_arg0)
      ∧ r.2.mem ((c.tc : Thread Cert.SsdZFwd.nD Cert.SsdZFwd.τ).loc Cert.SsdZFwd.main_arg1) = m ((c.tc : Thread Cert.SsdZFwd.nD Cert.SsdZFwd.τ).loc Cert.SsdZFwd.main_arg1))
      ∧ r.2.sem = fun _ => 0)

def quiescent_SsdZFwdIdeal [hSsdZFwdIdeal : Cert.SsdZFwdIdeal.Facts] : Prop :=
  ∀ (m : (ℓ : Loc Cert.SsdZFwdIdeal.nD Cert.SsdZFwdIdeal.τ Cert.SsdZFwdIdeal.sig) → Buf (Elt Ideal) ℓ) (g : Dev Cert.SsdZFwdIdeal.nD → PrngReg), Pre_SsdZFwdIdeal m →
    θ_run (Cert.SsdZFwdIdeal.defs (F := Ideal)) (onTc (τ := Cert.SsdZFwdIdeal.τ) (Cert.SsdZFwdIdeal.main (F := Ideal))) ⟨m, fun _ => 0, g⟩ (fun r => (∀ c : Dev Cert.SsdZFwdIdeal.nD,
      r.2.mem ((c.tc : Thread Cert.SsdZFwdIdeal.nD Cert.SsdZFwdIdeal.τ).loc Cert.SsdZFwdIdeal.main_arg0) = m ((c.tc : Thread Cert.SsdZFwdIdeal.nD Cert.SsdZFwdIdeal.τ).loc Cert.SsdZFwdIdeal.main_arg0)
      ∧ r.2.mem ((c.tc : Thread Cert.SsdZFwdIdeal.nD Cert.SsdZFwdIdeal.τ).loc Cert.SsdZFwdIdeal.main_arg1) = m ((c.tc : Thread Cert.SsdZFwdIdeal.nD Cert.SsdZFwdIdeal.τ).loc Cert.SsdZFwdIdeal.main_arg1))
      ∧ r.2.sem = fun _ => 0)

def quiescent_SsdZFwdRefIdeal [hSsdZFwdRefIdeal : Cert.SsdZFwdRefIdeal.Facts] : Prop :=
  ∀ (m : (ℓ : Loc Cert.SsdZFwdRefIdeal.nD Cert.SsdZFwdRefIdeal.τ Cert.SsdZFwdRefIdeal.sig) → Buf (Elt Ideal) ℓ) (g : Dev Cert.SsdZFwdRefIdeal.nD → PrngReg), Pre_SsdZFwdRefIdeal m →
    θ_run (Cert.SsdZFwdRefIdeal.defs (F := Ideal)) (onTc (τ := Cert.SsdZFwdRefIdeal.τ) (Cert.SsdZFwdRefIdeal.main (F := Ideal))) ⟨m, fun _ => 0, g⟩ (fun r => (∀ c : Dev Cert.SsdZFwdRefIdeal.nD,
      r.2.mem ((c.tc : Thread Cert.SsdZFwdRefIdeal.nD Cert.SsdZFwdRefIdeal.τ).loc Cert.SsdZFwdRefIdeal.main_arg0) = m ((c.tc : Thread Cert.SsdZFwdRefIdeal.nD Cert.SsdZFwdRefIdeal.τ).loc Cert.SsdZFwdRefIdeal.main_arg0)
      ∧ r.2.mem ((c.tc : Thread Cert.SsdZFwdRefIdeal.nD Cert.SsdZFwdRefIdeal.τ).loc Cert.SsdZFwdRefIdeal.main_arg1) = m ((c.tc : Thread Cert.SsdZFwdRefIdeal.nD Cert.SsdZFwdRefIdeal.τ).loc Cert.SsdZFwdRefIdeal.main_arg1))
      ∧ r.2.sem = fun _ => 0)

def quiescent_SsdXbcDx [hSsdXbcDx : Cert.SsdXbcDx.Facts] : Prop :=
  ∀ (m : (ℓ : Loc Cert.SsdXbcDx.nD Cert.SsdXbcDx.τ Cert.SsdXbcDx.sig) → Buf (Elt Bits) ℓ) (g : Dev Cert.SsdXbcDx.nD → PrngReg), Pre_SsdXbcDx m →
    θ_run (Cert.SsdXbcDx.defs (F := Bits)) (onTc (τ := Cert.SsdXbcDx.τ) (Cert.SsdXbcDx.main (F := Bits))) ⟨m, fun _ => 0, g⟩ (fun r => (∀ c : Dev Cert.SsdXbcDx.nD,
      r.2.mem ((c.tc : Thread Cert.SsdXbcDx.nD Cert.SsdXbcDx.τ).loc Cert.SsdXbcDx.main_arg0) = m ((c.tc : Thread Cert.SsdXbcDx.nD Cert.SsdXbcDx.τ).loc Cert.SsdXbcDx.main_arg0)
      ∧ r.2.mem ((c.tc : Thread Cert.SsdXbcDx.nD Cert.SsdXbcDx.τ).loc Cert.SsdXbcDx.main_arg1) = m ((c.tc : Thread Cert.SsdXbcDx.nD Cert.SsdXbcDx.τ).loc Cert.SsdXbcDx.main_arg1))
      ∧ r.2.sem = fun _ => 0)

def quiescent_SsdXbcDxIdeal [hSsdXbcDxIdeal : Cert.SsdXbcDxIdeal.Facts] : Prop :=
  ∀ (m : (ℓ : Loc Cert.SsdXbcDxIdeal.nD Cert.SsdXbcDxIdeal.τ Cert.SsdXbcDxIdeal.sig) → Buf (Elt Ideal) ℓ) (g : Dev Cert.SsdXbcDxIdeal.nD → PrngReg), Pre_SsdXbcDxIdeal m →
    θ_run (Cert.SsdXbcDxIdeal.defs (F := Ideal)) (onTc (τ := Cert.SsdXbcDxIdeal.τ) (Cert.SsdXbcDxIdeal.main (F := Ideal))) ⟨m, fun _ => 0, g⟩ (fun r => (∀ c : Dev Cert.SsdXbcDxIdeal.nD,
      r.2.mem ((c.tc : Thread Cert.SsdXbcDxIdeal.nD Cert.SsdXbcDxIdeal.τ).loc Cert.SsdXbcDxIdeal.main_arg0) = m ((c.tc : Thread Cert.SsdXbcDxIdeal.nD Cert.SsdXbcDxIdeal.τ).loc Cert.SsdXbcDxIdeal.main_arg0)
      ∧ r.2.mem ((c.tc : Thread Cert.SsdXbcDxIdeal.nD Cert.SsdXbcDxIdeal.τ).loc Cert.SsdXbcDxIdeal.main_arg1) = m ((c.tc : Thread Cert.SsdXbcDxIdeal.nD Cert.SsdXbcDxIdeal.τ).loc Cert.SsdXbcDxIdeal.main_arg1))
      ∧ r.2.sem = fun _ => 0)

def quiescent_SsdXbcDxRefIdeal [hSsdXbcDxRefIdeal : Cert.SsdXbcDxRefIdeal.Facts] : Prop :=
  ∀ (m : (ℓ : Loc Cert.SsdXbcDxRefIdeal.nD Cert.SsdXbcDxRefIdeal.τ Cert.SsdXbcDxRefIdeal.sig) → Buf (Elt Ideal) ℓ) (g : Dev Cert.SsdXbcDxRefIdeal.nD → PrngReg), Pre_SsdXbcDxRefIdeal m →
    θ_run (Cert.SsdXbcDxRefIdeal.defs (F := Ideal)) (onTc (τ := Cert.SsdXbcDxRefIdeal.τ) (Cert.SsdXbcDxRefIdeal.main (F := Ideal))) ⟨m, fun _ => 0, g⟩ (fun r => (∀ c : Dev Cert.SsdXbcDxRefIdeal.nD,
      r.2.mem ((c.tc : Thread Cert.SsdXbcDxRefIdeal.nD Cert.SsdXbcDxRefIdeal.τ).loc Cert.SsdXbcDxRefIdeal.main_arg0) = m ((c.tc : Thread Cert.SsdXbcDxRefIdeal.nD Cert.SsdXbcDxRefIdeal.τ).loc Cert.SsdXbcDxRefIdeal.main_arg0)
      ∧ r.2.mem ((c.tc : Thread Cert.SsdXbcDxRefIdeal.nD Cert.SsdXbcDxRefIdeal.τ).loc Cert.SsdXbcDxRefIdeal.main_arg1) = m ((c.tc : Thread Cert.SsdXbcDxRefIdeal.nD Cert.SsdXbcDxRefIdeal.τ).loc Cert.SsdXbcDxRefIdeal.main_arg1))
      ∧ r.2.sem = fun _ => 0)

def quiescent_SsdXbcDw [hSsdXbcDw : Cert.SsdXbcDw.Facts] : Prop :=
  ∀ (m : (ℓ : Loc Cert.SsdXbcDw.nD Cert.SsdXbcDw.τ Cert.SsdXbcDw.sig) → Buf (Elt Bits) ℓ) (g : Dev Cert.SsdXbcDw.nD → PrngReg), Pre_SsdXbcDw m →
    θ_run (Cert.SsdXbcDw.defs (F := Bits)) (onTc (τ := Cert.SsdXbcDw.τ) (Cert.SsdXbcDw.main (F := Bits))) ⟨m, fun _ => 0, g⟩ (fun r => (∀ c : Dev Cert.SsdXbcDw.nD,
      r.2.mem ((c.tc : Thread Cert.SsdXbcDw.nD Cert.SsdXbcDw.τ).loc Cert.SsdXbcDw.main_arg0) = m ((c.tc : Thread Cert.SsdXbcDw.nD Cert.SsdXbcDw.τ).loc Cert.SsdXbcDw.main_arg0)
      ∧ r.2.mem ((c.tc : Thread Cert.SsdXbcDw.nD Cert.SsdXbcDw.τ).loc Cert.SsdXbcDw.main_arg1) = m ((c.tc : Thread Cert.SsdXbcDw.nD Cert.SsdXbcDw.τ).loc Cert.SsdXbcDw.main_arg1))
      ∧ r.2.sem = fun _ => 0)

def quiescent_SsdXbcDwIdeal [hSsdXbcDwIdeal : Cert.SsdXbcDwIdeal.Facts] : Prop :=
  ∀ (m : (ℓ : Loc Cert.SsdXbcDwIdeal.nD Cert.SsdXbcDwIdeal.τ Cert.SsdXbcDwIdeal.sig) → Buf (Elt Ideal) ℓ) (g : Dev Cert.SsdXbcDwIdeal.nD → PrngReg), Pre_SsdXbcDwIdeal m →
    θ_run (Cert.SsdXbcDwIdeal.defs (F := Ideal)) (onTc (τ := Cert.SsdXbcDwIdeal.τ) (Cert.SsdXbcDwIdeal.main (F := Ideal))) ⟨m, fun _ => 0, g⟩ (fun r => (∀ c : Dev Cert.SsdXbcDwIdeal.nD,
      r.2.mem ((c.tc : Thread Cert.SsdXbcDwIdeal.nD Cert.SsdXbcDwIdeal.τ).loc Cert.SsdXbcDwIdeal.main_arg0) = m ((c.tc : Thread Cert.SsdXbcDwIdeal.nD Cert.SsdXbcDwIdeal.τ).loc Cert.SsdXbcDwIdeal.main_arg0)
      ∧ r.2.mem ((c.tc : Thread Cert.SsdXbcDwIdeal.nD Cert.SsdXbcDwIdeal.τ).loc Cert.SsdXbcDwIdeal.main_arg1) = m ((c.tc : Thread Cert.SsdXbcDwIdeal.nD Cert.SsdXbcDwIdeal.τ).loc Cert.SsdXbcDwIdeal.main_arg1))
      ∧ r.2.sem = fun _ => 0)

def quiescent_SsdXbcDwRefIdeal [hSsdXbcDwRefIdeal : Cert.SsdXbcDwRefIdeal.Facts] : Prop :=
  ∀ (m : (ℓ : Loc Cert.SsdXbcDwRefIdeal.nD Cert.SsdXbcDwRefIdeal.τ Cert.SsdXbcDwRefIdeal.sig) → Buf (Elt Ideal) ℓ) (g : Dev Cert.SsdXbcDwRefIdeal.nD → PrngReg), Pre_SsdXbcDwRefIdeal m →
    θ_run (Cert.SsdXbcDwRefIdeal.defs (F := Ideal)) (onTc (τ := Cert.SsdXbcDwRefIdeal.τ) (Cert.SsdXbcDwRefIdeal.main (F := Ideal))) ⟨m, fun _ => 0, g⟩ (fun r => (∀ c : Dev Cert.SsdXbcDwRefIdeal.nD,
      r.2.mem ((c.tc : Thread Cert.SsdXbcDwRefIdeal.nD Cert.SsdXbcDwRefIdeal.τ).loc Cert.SsdXbcDwRefIdeal.main_arg0) = m ((c.tc : Thread Cert.SsdXbcDwRefIdeal.nD Cert.SsdXbcDwRefIdeal.τ).loc Cert.SsdXbcDwRefIdeal.main_arg0)
      ∧ r.2.mem ((c.tc : Thread Cert.SsdXbcDwRefIdeal.nD Cert.SsdXbcDwRefIdeal.τ).loc Cert.SsdXbcDwRefIdeal.main_arg1) = m ((c.tc : Thread Cert.SsdXbcDwRefIdeal.nD Cert.SsdXbcDwRefIdeal.τ).loc Cert.SsdXbcDwRefIdeal.main_arg1))
      ∧ r.2.sem = fun _ => 0)

def quiescent_SsdXbcFwd [hSsdXbcFwd : Cert.SsdXbcFwd.Facts] : Prop :=
  ∀ (m : (ℓ : Loc Cert.SsdXbcFwd.nD Cert.SsdXbcFwd.τ Cert.SsdXbcFwd.sig) → Buf (Elt Bits) ℓ) (g : Dev Cert.SsdXbcFwd.nD → PrngReg), Pre_SsdXbcFwd m →
    θ_run (Cert.SsdXbcFwd.defs (F := Bits)) (onTc (τ := Cert.SsdXbcFwd.τ) (Cert.SsdXbcFwd.main (F := Bits))) ⟨m, fun _ => 0, g⟩ (fun r => (∀ c : Dev Cert.SsdXbcFwd.nD,
      r.2.mem ((c.tc : Thread Cert.SsdXbcFwd.nD Cert.SsdXbcFwd.τ).loc Cert.SsdXbcFwd.main_arg0) = m ((c.tc : Thread Cert.SsdXbcFwd.nD Cert.SsdXbcFwd.τ).loc Cert.SsdXbcFwd.main_arg0)
      ∧ r.2.mem ((c.tc : Thread Cert.SsdXbcFwd.nD Cert.SsdXbcFwd.τ).loc Cert.SsdXbcFwd.main_arg1) = m ((c.tc : Thread Cert.SsdXbcFwd.nD Cert.SsdXbcFwd.τ).loc Cert.SsdXbcFwd.main_arg1))
      ∧ r.2.sem = fun _ => 0)

def quiescent_SsdXbcFwdIdeal [hSsdXbcFwdIdeal : Cert.SsdXbcFwdIdeal.Facts] : Prop :=
  ∀ (m : (ℓ : Loc Cert.SsdXbcFwdIdeal.nD Cert.SsdXbcFwdIdeal.τ Cert.SsdXbcFwdIdeal.sig) → Buf (Elt Ideal) ℓ) (g : Dev Cert.SsdXbcFwdIdeal.nD → PrngReg), Pre_SsdXbcFwdIdeal m →
    θ_run (Cert.SsdXbcFwdIdeal.defs (F := Ideal)) (onTc (τ := Cert.SsdXbcFwdIdeal.τ) (Cert.SsdXbcFwdIdeal.main (F := Ideal))) ⟨m, fun _ => 0, g⟩ (fun r => (∀ c : Dev Cert.SsdXbcFwdIdeal.nD,
      r.2.mem ((c.tc : Thread Cert.SsdXbcFwdIdeal.nD Cert.SsdXbcFwdIdeal.τ).loc Cert.SsdXbcFwdIdeal.main_arg0) = m ((c.tc : Thread Cert.SsdXbcFwdIdeal.nD Cert.SsdXbcFwdIdeal.τ).loc Cert.SsdXbcFwdIdeal.main_arg0)
      ∧ r.2.mem ((c.tc : Thread Cert.SsdXbcFwdIdeal.nD Cert.SsdXbcFwdIdeal.τ).loc Cert.SsdXbcFwdIdeal.main_arg1) = m ((c.tc : Thread Cert.SsdXbcFwdIdeal.nD Cert.SsdXbcFwdIdeal.τ).loc Cert.SsdXbcFwdIdeal.main_arg1))
      ∧ r.2.sem = fun _ => 0)

def quiescent_SsdXbcFwdRefIdeal [hSsdXbcFwdRefIdeal : Cert.SsdXbcFwdRefIdeal.Facts] : Prop :=
  ∀ (m : (ℓ : Loc Cert.SsdXbcFwdRefIdeal.nD Cert.SsdXbcFwdRefIdeal.τ Cert.SsdXbcFwdRefIdeal.sig) → Buf (Elt Ideal) ℓ) (g : Dev Cert.SsdXbcFwdRefIdeal.nD → PrngReg), Pre_SsdXbcFwdRefIdeal m →
    θ_run (Cert.SsdXbcFwdRefIdeal.defs (F := Ideal)) (onTc (τ := Cert.SsdXbcFwdRefIdeal.τ) (Cert.SsdXbcFwdRefIdeal.main (F := Ideal))) ⟨m, fun _ => 0, g⟩ (fun r => (∀ c : Dev Cert.SsdXbcFwdRefIdeal.nD,
      r.2.mem ((c.tc : Thread Cert.SsdXbcFwdRefIdeal.nD Cert.SsdXbcFwdRefIdeal.τ).loc Cert.SsdXbcFwdRefIdeal.main_arg0) = m ((c.tc : Thread Cert.SsdXbcFwdRefIdeal.nD Cert.SsdXbcFwdRefIdeal.τ).loc Cert.SsdXbcFwdRefIdeal.main_arg0)
      ∧ r.2.mem ((c.tc : Thread Cert.SsdXbcFwdRefIdeal.nD Cert.SsdXbcFwdRefIdeal.τ).loc Cert.SsdXbcFwdRefIdeal.main_arg1) = m ((c.tc : Thread Cert.SsdXbcFwdRefIdeal.nD Cert.SsdXbcFwdRefIdeal.τ).loc Cert.SsdXbcFwdRefIdeal.main_arg1))
      ∧ r.2.sem = fun _ => 0)

def quiescent_SsdDtDx [hSsdDtDx : Cert.SsdDtDx.Facts] : Prop :=
  ∀ (m : (ℓ : Loc Cert.SsdDtDx.nD Cert.SsdDtDx.τ Cert.SsdDtDx.sig) → Buf (Elt Bits) ℓ) (g : Dev Cert.SsdDtDx.nD → PrngReg), Pre_SsdDtDx m →
    θ_run (Cert.SsdDtDx.defs (F := Bits)) (onTc (τ := Cert.SsdDtDx.τ) (Cert.SsdDtDx.main (F := Bits))) ⟨m, fun _ => 0, g⟩ (fun r => (∀ c : Dev Cert.SsdDtDx.nD,
      r.2.mem ((c.tc : Thread Cert.SsdDtDx.nD Cert.SsdDtDx.τ).loc Cert.SsdDtDx.main_arg0) = m ((c.tc : Thread Cert.SsdDtDx.nD Cert.SsdDtDx.τ).loc Cert.SsdDtDx.main_arg0)
      ∧ r.2.mem ((c.tc : Thread Cert.SsdDtDx.nD Cert.SsdDtDx.τ).loc Cert.SsdDtDx.main_arg1) = m ((c.tc : Thread Cert.SsdDtDx.nD Cert.SsdDtDx.τ).loc Cert.SsdDtDx.main_arg1))
      ∧ r.2.sem = fun _ => 0)

def quiescent_SsdDtDxIdeal [hSsdDtDxIdeal : Cert.SsdDtDxIdeal.Facts] : Prop :=
  ∀ (m : (ℓ : Loc Cert.SsdDtDxIdeal.nD Cert.SsdDtDxIdeal.τ Cert.SsdDtDxIdeal.sig) → Buf (Elt Ideal) ℓ) (g : Dev Cert.SsdDtDxIdeal.nD → PrngReg), Pre_SsdDtDxIdeal m →
    θ_run (Cert.SsdDtDxIdeal.defs (F := Ideal)) (onTc (τ := Cert.SsdDtDxIdeal.τ) (Cert.SsdDtDxIdeal.main (F := Ideal))) ⟨m, fun _ => 0, g⟩ (fun r => (∀ c : Dev Cert.SsdDtDxIdeal.nD,
      r.2.mem ((c.tc : Thread Cert.SsdDtDxIdeal.nD Cert.SsdDtDxIdeal.τ).loc Cert.SsdDtDxIdeal.main_arg0) = m ((c.tc : Thread Cert.SsdDtDxIdeal.nD Cert.SsdDtDxIdeal.τ).loc Cert.SsdDtDxIdeal.main_arg0)
      ∧ r.2.mem ((c.tc : Thread Cert.SsdDtDxIdeal.nD Cert.SsdDtDxIdeal.τ).loc Cert.SsdDtDxIdeal.main_arg1) = m ((c.tc : Thread Cert.SsdDtDxIdeal.nD Cert.SsdDtDxIdeal.τ).loc Cert.SsdDtDxIdeal.main_arg1))
      ∧ r.2.sem = fun _ => 0)

def quiescent_SsdDtDxRefIdeal [hSsdDtDxRefIdeal : Cert.SsdDtDxRefIdeal.Facts] : Prop :=
  ∀ (m : (ℓ : Loc Cert.SsdDtDxRefIdeal.nD Cert.SsdDtDxRefIdeal.τ Cert.SsdDtDxRefIdeal.sig) → Buf (Elt Ideal) ℓ) (g : Dev Cert.SsdDtDxRefIdeal.nD → PrngReg), Pre_SsdDtDxRefIdeal m →
    θ_run (Cert.SsdDtDxRefIdeal.defs (F := Ideal)) (onTc (τ := Cert.SsdDtDxRefIdeal.τ) (Cert.SsdDtDxRefIdeal.main (F := Ideal))) ⟨m, fun _ => 0, g⟩ (fun r => (∀ c : Dev Cert.SsdDtDxRefIdeal.nD,
      r.2.mem ((c.tc : Thread Cert.SsdDtDxRefIdeal.nD Cert.SsdDtDxRefIdeal.τ).loc Cert.SsdDtDxRefIdeal.main_arg0) = m ((c.tc : Thread Cert.SsdDtDxRefIdeal.nD Cert.SsdDtDxRefIdeal.τ).loc Cert.SsdDtDxRefIdeal.main_arg0)
      ∧ r.2.mem ((c.tc : Thread Cert.SsdDtDxRefIdeal.nD Cert.SsdDtDxRefIdeal.τ).loc Cert.SsdDtDxRefIdeal.main_arg1) = m ((c.tc : Thread Cert.SsdDtDxRefIdeal.nD Cert.SsdDtDxRefIdeal.τ).loc Cert.SsdDtDxRefIdeal.main_arg1))
      ∧ r.2.sem = fun _ => 0)

def quiescent_SsdDtDw [hSsdDtDw : Cert.SsdDtDw.Facts] : Prop :=
  ∀ (m : (ℓ : Loc Cert.SsdDtDw.nD Cert.SsdDtDw.τ Cert.SsdDtDw.sig) → Buf (Elt Bits) ℓ) (g : Dev Cert.SsdDtDw.nD → PrngReg), Pre_SsdDtDw m →
    θ_run (Cert.SsdDtDw.defs (F := Bits)) (onTc (τ := Cert.SsdDtDw.τ) (Cert.SsdDtDw.main (F := Bits))) ⟨m, fun _ => 0, g⟩ (fun r => (∀ c : Dev Cert.SsdDtDw.nD,
      r.2.mem ((c.tc : Thread Cert.SsdDtDw.nD Cert.SsdDtDw.τ).loc Cert.SsdDtDw.main_arg0) = m ((c.tc : Thread Cert.SsdDtDw.nD Cert.SsdDtDw.τ).loc Cert.SsdDtDw.main_arg0)
      ∧ r.2.mem ((c.tc : Thread Cert.SsdDtDw.nD Cert.SsdDtDw.τ).loc Cert.SsdDtDw.main_arg1) = m ((c.tc : Thread Cert.SsdDtDw.nD Cert.SsdDtDw.τ).loc Cert.SsdDtDw.main_arg1))
      ∧ r.2.sem = fun _ => 0)

def quiescent_SsdDtDwIdeal [hSsdDtDwIdeal : Cert.SsdDtDwIdeal.Facts] : Prop :=
  ∀ (m : (ℓ : Loc Cert.SsdDtDwIdeal.nD Cert.SsdDtDwIdeal.τ Cert.SsdDtDwIdeal.sig) → Buf (Elt Ideal) ℓ) (g : Dev Cert.SsdDtDwIdeal.nD → PrngReg), Pre_SsdDtDwIdeal m →
    θ_run (Cert.SsdDtDwIdeal.defs (F := Ideal)) (onTc (τ := Cert.SsdDtDwIdeal.τ) (Cert.SsdDtDwIdeal.main (F := Ideal))) ⟨m, fun _ => 0, g⟩ (fun r => (∀ c : Dev Cert.SsdDtDwIdeal.nD,
      r.2.mem ((c.tc : Thread Cert.SsdDtDwIdeal.nD Cert.SsdDtDwIdeal.τ).loc Cert.SsdDtDwIdeal.main_arg0) = m ((c.tc : Thread Cert.SsdDtDwIdeal.nD Cert.SsdDtDwIdeal.τ).loc Cert.SsdDtDwIdeal.main_arg0)
      ∧ r.2.mem ((c.tc : Thread Cert.SsdDtDwIdeal.nD Cert.SsdDtDwIdeal.τ).loc Cert.SsdDtDwIdeal.main_arg1) = m ((c.tc : Thread Cert.SsdDtDwIdeal.nD Cert.SsdDtDwIdeal.τ).loc Cert.SsdDtDwIdeal.main_arg1))
      ∧ r.2.sem = fun _ => 0)

def quiescent_SsdDtDwRefIdeal [hSsdDtDwRefIdeal : Cert.SsdDtDwRefIdeal.Facts] : Prop :=
  ∀ (m : (ℓ : Loc Cert.SsdDtDwRefIdeal.nD Cert.SsdDtDwRefIdeal.τ Cert.SsdDtDwRefIdeal.sig) → Buf (Elt Ideal) ℓ) (g : Dev Cert.SsdDtDwRefIdeal.nD → PrngReg), Pre_SsdDtDwRefIdeal m →
    θ_run (Cert.SsdDtDwRefIdeal.defs (F := Ideal)) (onTc (τ := Cert.SsdDtDwRefIdeal.τ) (Cert.SsdDtDwRefIdeal.main (F := Ideal))) ⟨m, fun _ => 0, g⟩ (fun r => (∀ c : Dev Cert.SsdDtDwRefIdeal.nD,
      r.2.mem ((c.tc : Thread Cert.SsdDtDwRefIdeal.nD Cert.SsdDtDwRefIdeal.τ).loc Cert.SsdDtDwRefIdeal.main_arg0) = m ((c.tc : Thread Cert.SsdDtDwRefIdeal.nD Cert.SsdDtDwRefIdeal.τ).loc Cert.SsdDtDwRefIdeal.main_arg0)
      ∧ r.2.mem ((c.tc : Thread Cert.SsdDtDwRefIdeal.nD Cert.SsdDtDwRefIdeal.τ).loc Cert.SsdDtDwRefIdeal.main_arg1) = m ((c.tc : Thread Cert.SsdDtDwRefIdeal.nD Cert.SsdDtDwRefIdeal.τ).loc Cert.SsdDtDwRefIdeal.main_arg1))
      ∧ r.2.sem = fun _ => 0)

def quiescent_SsdDtFwd [hSsdDtFwd : Cert.SsdDtFwd.Facts] : Prop :=
  ∀ (m : (ℓ : Loc Cert.SsdDtFwd.nD Cert.SsdDtFwd.τ Cert.SsdDtFwd.sig) → Buf (Elt Bits) ℓ) (g : Dev Cert.SsdDtFwd.nD → PrngReg), Pre_SsdDtFwd m →
    θ_run (Cert.SsdDtFwd.defs (F := Bits)) (onTc (τ := Cert.SsdDtFwd.τ) (Cert.SsdDtFwd.main (F := Bits))) ⟨m, fun _ => 0, g⟩ (fun r => (∀ c : Dev Cert.SsdDtFwd.nD,
      r.2.mem ((c.tc : Thread Cert.SsdDtFwd.nD Cert.SsdDtFwd.τ).loc Cert.SsdDtFwd.main_arg0) = m ((c.tc : Thread Cert.SsdDtFwd.nD Cert.SsdDtFwd.τ).loc Cert.SsdDtFwd.main_arg0)
      ∧ r.2.mem ((c.tc : Thread Cert.SsdDtFwd.nD Cert.SsdDtFwd.τ).loc Cert.SsdDtFwd.main_arg1) = m ((c.tc : Thread Cert.SsdDtFwd.nD Cert.SsdDtFwd.τ).loc Cert.SsdDtFwd.main_arg1))
      ∧ r.2.sem = fun _ => 0)

def quiescent_SsdDtFwdIdeal [hSsdDtFwdIdeal : Cert.SsdDtFwdIdeal.Facts] : Prop :=
  ∀ (m : (ℓ : Loc Cert.SsdDtFwdIdeal.nD Cert.SsdDtFwdIdeal.τ Cert.SsdDtFwdIdeal.sig) → Buf (Elt Ideal) ℓ) (g : Dev Cert.SsdDtFwdIdeal.nD → PrngReg), Pre_SsdDtFwdIdeal m →
    θ_run (Cert.SsdDtFwdIdeal.defs (F := Ideal)) (onTc (τ := Cert.SsdDtFwdIdeal.τ) (Cert.SsdDtFwdIdeal.main (F := Ideal))) ⟨m, fun _ => 0, g⟩ (fun r => (∀ c : Dev Cert.SsdDtFwdIdeal.nD,
      r.2.mem ((c.tc : Thread Cert.SsdDtFwdIdeal.nD Cert.SsdDtFwdIdeal.τ).loc Cert.SsdDtFwdIdeal.main_arg0) = m ((c.tc : Thread Cert.SsdDtFwdIdeal.nD Cert.SsdDtFwdIdeal.τ).loc Cert.SsdDtFwdIdeal.main_arg0)
      ∧ r.2.mem ((c.tc : Thread Cert.SsdDtFwdIdeal.nD Cert.SsdDtFwdIdeal.τ).loc Cert.SsdDtFwdIdeal.main_arg1) = m ((c.tc : Thread Cert.SsdDtFwdIdeal.nD Cert.SsdDtFwdIdeal.τ).loc Cert.SsdDtFwdIdeal.main_arg1))
      ∧ r.2.sem = fun _ => 0)

def quiescent_SsdDtFwdRefIdeal [hSsdDtFwdRefIdeal : Cert.SsdDtFwdRefIdeal.Facts] : Prop :=
  ∀ (m : (ℓ : Loc Cert.SsdDtFwdRefIdeal.nD Cert.SsdDtFwdRefIdeal.τ Cert.SsdDtFwdRefIdeal.sig) → Buf (Elt Ideal) ℓ) (g : Dev Cert.SsdDtFwdRefIdeal.nD → PrngReg), Pre_SsdDtFwdRefIdeal m →
    θ_run (Cert.SsdDtFwdRefIdeal.defs (F := Ideal)) (onTc (τ := Cert.SsdDtFwdRefIdeal.τ) (Cert.SsdDtFwdRefIdeal.main (F := Ideal))) ⟨m, fun _ => 0, g⟩ (fun r => (∀ c : Dev Cert.SsdDtFwdRefIdeal.nD,
      r.2.mem ((c.tc : Thread Cert.SsdDtFwdRefIdeal.nD Cert.SsdDtFwdRefIdeal.τ).loc Cert.SsdDtFwdRefIdeal.main_arg0) = m ((c.tc : Thread Cert.SsdDtFwdRefIdeal.nD Cert.SsdDtFwdRefIdeal.τ).loc Cert.SsdDtFwdRefIdeal.main_arg0)
      ∧ r.2.mem ((c.tc : Thread Cert.SsdDtFwdRefIdeal.nD Cert.SsdDtFwdRefIdeal.τ).loc Cert.SsdDtFwdRefIdeal.main_arg1) = m ((c.tc : Thread Cert.SsdDtFwdRefIdeal.nD Cert.SsdDtFwdRefIdeal.τ).loc Cert.SsdDtFwdRefIdeal.main_arg1))
      ∧ r.2.sem = fun _ => 0)

def quiescent_SsdOutDx [hSsdOutDx : Cert.SsdOutDx.Facts] : Prop :=
  ∀ (m : (ℓ : Loc Cert.SsdOutDx.nD Cert.SsdOutDx.τ Cert.SsdOutDx.sig) → Buf (Elt Bits) ℓ) (g : Dev Cert.SsdOutDx.nD → PrngReg), Pre_SsdOutDx m →
    θ_run (Cert.SsdOutDx.defs (F := Bits)) (onTc (τ := Cert.SsdOutDx.τ) (Cert.SsdOutDx.main (F := Bits))) ⟨m, fun _ => 0, g⟩ (fun r => (∀ c : Dev Cert.SsdOutDx.nD,
      r.2.mem ((c.tc : Thread Cert.SsdOutDx.nD Cert.SsdOutDx.τ).loc Cert.SsdOutDx.main_arg0) = m ((c.tc : Thread Cert.SsdOutDx.nD Cert.SsdOutDx.τ).loc Cert.SsdOutDx.main_arg0)
      ∧ r.2.mem ((c.tc : Thread Cert.SsdOutDx.nD Cert.SsdOutDx.τ).loc Cert.SsdOutDx.main_arg1) = m ((c.tc : Thread Cert.SsdOutDx.nD Cert.SsdOutDx.τ).loc Cert.SsdOutDx.main_arg1))
      ∧ r.2.sem = fun _ => 0)

def quiescent_SsdOutDxIdeal [hSsdOutDxIdeal : Cert.SsdOutDxIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg), Pre_SsdOutDxIdeal m →
    θ_run (Cert.SsdOutDxIdeal.defs (F := Ideal)) (onTc (τ := Cert.SsdOutDxIdeal.τ) (Cert.SsdOutDxIdeal.main (F := Ideal))) ⟨m, fun _ => 0, g⟩ (fun r => (∀ c : Dev Cert.SsdOutDxIdeal.nD,
      r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
      ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ r.2.sem = fun _ => 0)

def quiescent_SsdOutDxRefIdeal [hSsdOutDxRefIdeal : Cert.SsdOutDxRefIdeal.Facts] : Prop :=
  ∀ (m : (ℓ : Loc Cert.SsdOutDxRefIdeal.nD Cert.SsdOutDxRefIdeal.τ Cert.SsdOutDxRefIdeal.sig) → Buf (Elt Ideal) ℓ) (g : Dev Cert.SsdOutDxRefIdeal.nD → PrngReg), Pre_SsdOutDxRefIdeal m →
    θ_run (Cert.SsdOutDxRefIdeal.defs (F := Ideal)) (onTc (τ := Cert.SsdOutDxRefIdeal.τ) (Cert.SsdOutDxRefIdeal.main (F := Ideal))) ⟨m, fun _ => 0, g⟩ (fun r => (∀ c : Dev Cert.SsdOutDxRefIdeal.nD,
      r.2.mem ((c.tc : Thread Cert.SsdOutDxRefIdeal.nD Cert.SsdOutDxRefIdeal.τ).loc Cert.SsdOutDxRefIdeal.main_arg0) = m ((c.tc : Thread Cert.SsdOutDxRefIdeal.nD Cert.SsdOutDxRefIdeal.τ).loc Cert.SsdOutDxRefIdeal.main_arg0)
      ∧ r.2.mem ((c.tc : Thread Cert.SsdOutDxRefIdeal.nD Cert.SsdOutDxRefIdeal.τ).loc Cert.SsdOutDxRefIdeal.main_arg1) = m ((c.tc : Thread Cert.SsdOutDxRefIdeal.nD Cert.SsdOutDxRefIdeal.τ).loc Cert.SsdOutDxRefIdeal.main_arg1))
      ∧ r.2.sem = fun _ => 0)

def quiescent_SsdOutDw [hSsdOutDw : Cert.SsdOutDw.Facts] : Prop :=
  ∀ (m : (ℓ : Loc Cert.SsdOutDw.nD Cert.SsdOutDw.τ Cert.SsdOutDw.sig) → Buf (Elt Bits) ℓ) (g : Dev Cert.SsdOutDw.nD → PrngReg), Pre_SsdOutDw m →
    θ_run (Cert.SsdOutDw.defs (F := Bits)) (onTc (τ := Cert.SsdOutDw.τ) (Cert.SsdOutDw.main (F := Bits))) ⟨m, fun _ => 0, g⟩ (fun r => (∀ c : Dev Cert.SsdOutDw.nD,
      r.2.mem ((c.tc : Thread Cert.SsdOutDw.nD Cert.SsdOutDw.τ).loc Cert.SsdOutDw.main_arg0) = m ((c.tc : Thread Cert.SsdOutDw.nD Cert.SsdOutDw.τ).loc Cert.SsdOutDw.main_arg0)
      ∧ r.2.mem ((c.tc : Thread Cert.SsdOutDw.nD Cert.SsdOutDw.τ).loc Cert.SsdOutDw.main_arg1) = m ((c.tc : Thread Cert.SsdOutDw.nD Cert.SsdOutDw.τ).loc Cert.SsdOutDw.main_arg1))
      ∧ r.2.sem = fun _ => 0)

def quiescent_SsdOutDwIdeal [hSsdOutDwIdeal : Cert.SsdOutDwIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg), Pre_SsdOutDwIdeal m →
    θ_run (Cert.SsdOutDwIdeal.defs (F := Ideal)) (onTc (τ := Cert.SsdOutDwIdeal.τ) (Cert.SsdOutDwIdeal.main (F := Ideal))) ⟨m, fun _ => 0, g⟩ (fun r => (∀ c : Dev Cert.SsdOutDwIdeal.nD,
      r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
      ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ r.2.sem = fun _ => 0)

def quiescent_SsdOutDwRefIdeal [hSsdOutDwRefIdeal : Cert.SsdOutDwRefIdeal.Facts] : Prop :=
  ∀ (m : (ℓ : Loc Cert.SsdOutDwRefIdeal.nD Cert.SsdOutDwRefIdeal.τ Cert.SsdOutDwRefIdeal.sig) → Buf (Elt Ideal) ℓ) (g : Dev Cert.SsdOutDwRefIdeal.nD → PrngReg), Pre_SsdOutDwRefIdeal m →
    θ_run (Cert.SsdOutDwRefIdeal.defs (F := Ideal)) (onTc (τ := Cert.SsdOutDwRefIdeal.τ) (Cert.SsdOutDwRefIdeal.main (F := Ideal))) ⟨m, fun _ => 0, g⟩ (fun r => (∀ c : Dev Cert.SsdOutDwRefIdeal.nD,
      r.2.mem ((c.tc : Thread Cert.SsdOutDwRefIdeal.nD Cert.SsdOutDwRefIdeal.τ).loc Cert.SsdOutDwRefIdeal.main_arg0) = m ((c.tc : Thread Cert.SsdOutDwRefIdeal.nD Cert.SsdOutDwRefIdeal.τ).loc Cert.SsdOutDwRefIdeal.main_arg0)
      ∧ r.2.mem ((c.tc : Thread Cert.SsdOutDwRefIdeal.nD Cert.SsdOutDwRefIdeal.τ).loc Cert.SsdOutDwRefIdeal.main_arg1) = m ((c.tc : Thread Cert.SsdOutDwRefIdeal.nD Cert.SsdOutDwRefIdeal.τ).loc Cert.SsdOutDwRefIdeal.main_arg1))
      ∧ r.2.sem = fun _ => 0)

def quiescent_SsdOutFwd [hSsdOutFwd : Cert.SsdOutFwd.Facts] : Prop :=
  ∀ (m : (ℓ : Loc Cert.SsdOutFwd.nD Cert.SsdOutFwd.τ Cert.SsdOutFwd.sig) → Buf (Elt Bits) ℓ) (g : Dev Cert.SsdOutFwd.nD → PrngReg), Pre_SsdOutFwd m →
    θ_run (Cert.SsdOutFwd.defs (F := Bits)) (onTc (τ := Cert.SsdOutFwd.τ) (Cert.SsdOutFwd.main (F := Bits))) ⟨m, fun _ => 0, g⟩ (fun r => (∀ c : Dev Cert.SsdOutFwd.nD,
      r.2.mem ((c.tc : Thread Cert.SsdOutFwd.nD Cert.SsdOutFwd.τ).loc Cert.SsdOutFwd.main_arg0) = m ((c.tc : Thread Cert.SsdOutFwd.nD Cert.SsdOutFwd.τ).loc Cert.SsdOutFwd.main_arg0)
      ∧ r.2.mem ((c.tc : Thread Cert.SsdOutFwd.nD Cert.SsdOutFwd.τ).loc Cert.SsdOutFwd.main_arg1) = m ((c.tc : Thread Cert.SsdOutFwd.nD Cert.SsdOutFwd.τ).loc Cert.SsdOutFwd.main_arg1))
      ∧ r.2.sem = fun _ => 0)

def quiescent_SsdOutFwdIdeal [hSsdOutFwdIdeal : Cert.SsdOutFwdIdeal.Facts] : Prop :=
  ∀ (m : (ℓ : Loc Cert.SsdOutFwdIdeal.nD Cert.SsdOutFwdIdeal.τ Cert.SsdOutFwdIdeal.sig) → Buf (Elt Ideal) ℓ) (g : Dev Cert.SsdOutFwdIdeal.nD → PrngReg), Pre_SsdOutFwdIdeal m →
    θ_run (Cert.SsdOutFwdIdeal.defs (F := Ideal)) (onTc (τ := Cert.SsdOutFwdIdeal.τ) (Cert.SsdOutFwdIdeal.main (F := Ideal))) ⟨m, fun _ => 0, g⟩ (fun r => (∀ c : Dev Cert.SsdOutFwdIdeal.nD,
      r.2.mem ((c.tc : Thread Cert.SsdOutFwdIdeal.nD Cert.SsdOutFwdIdeal.τ).loc Cert.SsdOutFwdIdeal.main_arg0) = m ((c.tc : Thread Cert.SsdOutFwdIdeal.nD Cert.SsdOutFwdIdeal.τ).loc Cert.SsdOutFwdIdeal.main_arg0)
      ∧ r.2.mem ((c.tc : Thread Cert.SsdOutFwdIdeal.nD Cert.SsdOutFwdIdeal.τ).loc Cert.SsdOutFwdIdeal.main_arg1) = m ((c.tc : Thread Cert.SsdOutFwdIdeal.nD Cert.SsdOutFwdIdeal.τ).loc Cert.SsdOutFwdIdeal.main_arg1))
      ∧ r.2.sem = fun _ => 0)

def quiescent_SsdOutFwdRefIdeal [hSsdOutFwdRefIdeal : Cert.SsdOutFwdRefIdeal.Facts] : Prop :=
  ∀ (m : (ℓ : Loc Cert.SsdOutFwdRefIdeal.nD Cert.SsdOutFwdRefIdeal.τ Cert.SsdOutFwdRefIdeal.sig) → Buf (Elt Ideal) ℓ) (g : Dev Cert.SsdOutFwdRefIdeal.nD → PrngReg), Pre_SsdOutFwdRefIdeal m →
    θ_run (Cert.SsdOutFwdRefIdeal.defs (F := Ideal)) (onTc (τ := Cert.SsdOutFwdRefIdeal.τ) (Cert.SsdOutFwdRefIdeal.main (F := Ideal))) ⟨m, fun _ => 0, g⟩ (fun r => (∀ c : Dev Cert.SsdOutFwdRefIdeal.nD,
      r.2.mem ((c.tc : Thread Cert.SsdOutFwdRefIdeal.nD Cert.SsdOutFwdRefIdeal.τ).loc Cert.SsdOutFwdRefIdeal.main_arg0) = m ((c.tc : Thread Cert.SsdOutFwdRefIdeal.nD Cert.SsdOutFwdRefIdeal.τ).loc Cert.SsdOutFwdRefIdeal.main_arg0)
      ∧ r.2.mem ((c.tc : Thread Cert.SsdOutFwdRefIdeal.nD Cert.SsdOutFwdRefIdeal.τ).loc Cert.SsdOutFwdRefIdeal.main_arg1) = m ((c.tc : Thread Cert.SsdOutFwdRefIdeal.nD Cert.SsdOutFwdRefIdeal.τ).loc Cert.SsdOutFwdRefIdeal.main_arg1))
      ∧ r.2.sem = fun _ => 0)

def quiescent_MlaADx [hMlaADx : Cert.MlaADx.Facts] : Prop :=
  ∀ (m : (ℓ : Loc Cert.MlaADx.nD Cert.MlaADx.τ Cert.MlaADx.sig) → Buf (Elt Bits) ℓ) (g : Dev Cert.MlaADx.nD → PrngReg), Pre_MlaADx m →
    θ_run (Cert.MlaADx.defs (F := Bits)) (onTc (τ := Cert.MlaADx.τ) (Cert.MlaADx.main (F := Bits))) ⟨m, fun _ => 0, g⟩ (fun r => (∀ c : Dev Cert.MlaADx.nD,
      r.2.mem ((c.tc : Thread Cert.MlaADx.nD Cert.MlaADx.τ).loc Cert.MlaADx.main_arg0) = m ((c.tc : Thread Cert.MlaADx.nD Cert.MlaADx.τ).loc Cert.MlaADx.main_arg0)
      ∧ r.2.mem ((c.tc : Thread Cert.MlaADx.nD Cert.MlaADx.τ).loc Cert.MlaADx.main_arg1) = m ((c.tc : Thread Cert.MlaADx.nD Cert.MlaADx.τ).loc Cert.MlaADx.main_arg1))
      ∧ r.2.sem = fun _ => 0)

def quiescent_MlaADxIdeal [hMlaADxIdeal : Cert.MlaADxIdeal.Facts] : Prop :=
  ∀ (m : (ℓ : Loc Cert.MlaADxIdeal.nD Cert.MlaADxIdeal.τ Cert.MlaADxIdeal.sig) → Buf (Elt Ideal) ℓ) (g : Dev Cert.MlaADxIdeal.nD → PrngReg), Pre_MlaADxIdeal m →
    θ_run (Cert.MlaADxIdeal.defs (F := Ideal)) (onTc (τ := Cert.MlaADxIdeal.τ) (Cert.MlaADxIdeal.main (F := Ideal))) ⟨m, fun _ => 0, g⟩ (fun r => (∀ c : Dev Cert.MlaADxIdeal.nD,
      r.2.mem ((c.tc : Thread Cert.MlaADxIdeal.nD Cert.MlaADxIdeal.τ).loc Cert.MlaADxIdeal.main_arg0) = m ((c.tc : Thread Cert.MlaADxIdeal.nD Cert.MlaADxIdeal.τ).loc Cert.MlaADxIdeal.main_arg0)
      ∧ r.2.mem ((c.tc : Thread Cert.MlaADxIdeal.nD Cert.MlaADxIdeal.τ).loc Cert.MlaADxIdeal.main_arg1) = m ((c.tc : Thread Cert.MlaADxIdeal.nD Cert.MlaADxIdeal.τ).loc Cert.MlaADxIdeal.main_arg1))
      ∧ r.2.sem = fun _ => 0)

def quiescent_MlaADxRefIdeal [hMlaADxRefIdeal : Cert.MlaADxRefIdeal.Facts] : Prop :=
  ∀ (m : (ℓ : Loc Cert.MlaADxRefIdeal.nD Cert.MlaADxRefIdeal.τ Cert.MlaADxRefIdeal.sig) → Buf (Elt Ideal) ℓ) (g : Dev Cert.MlaADxRefIdeal.nD → PrngReg), Pre_MlaADxRefIdeal m →
    θ_run (Cert.MlaADxRefIdeal.defs (F := Ideal)) (onTc (τ := Cert.MlaADxRefIdeal.τ) (Cert.MlaADxRefIdeal.main (F := Ideal))) ⟨m, fun _ => 0, g⟩ (fun r => (∀ c : Dev Cert.MlaADxRefIdeal.nD,
      r.2.mem ((c.tc : Thread Cert.MlaADxRefIdeal.nD Cert.MlaADxRefIdeal.τ).loc Cert.MlaADxRefIdeal.main_arg0) = m ((c.tc : Thread Cert.MlaADxRefIdeal.nD Cert.MlaADxRefIdeal.τ).loc Cert.MlaADxRefIdeal.main_arg0)
      ∧ r.2.mem ((c.tc : Thread Cert.MlaADxRefIdeal.nD Cert.MlaADxRefIdeal.τ).loc Cert.MlaADxRefIdeal.main_arg1) = m ((c.tc : Thread Cert.MlaADxRefIdeal.nD Cert.MlaADxRefIdeal.τ).loc Cert.MlaADxRefIdeal.main_arg1))
      ∧ r.2.sem = fun _ => 0)

def quiescent_MlaADw [hMlaADw : Cert.MlaADw.Facts] : Prop :=
  ∀ (m : (ℓ : Loc Cert.MlaADw.nD Cert.MlaADw.τ Cert.MlaADw.sig) → Buf (Elt Bits) ℓ) (g : Dev Cert.MlaADw.nD → PrngReg), Pre_MlaADw m →
    θ_run (Cert.MlaADw.defs (F := Bits)) (onTc (τ := Cert.MlaADw.τ) (Cert.MlaADw.main (F := Bits))) ⟨m, fun _ => 0, g⟩ (fun r => (∀ c : Dev Cert.MlaADw.nD,
      r.2.mem ((c.tc : Thread Cert.MlaADw.nD Cert.MlaADw.τ).loc Cert.MlaADw.main_arg0) = m ((c.tc : Thread Cert.MlaADw.nD Cert.MlaADw.τ).loc Cert.MlaADw.main_arg0)
      ∧ r.2.mem ((c.tc : Thread Cert.MlaADw.nD Cert.MlaADw.τ).loc Cert.MlaADw.main_arg1) = m ((c.tc : Thread Cert.MlaADw.nD Cert.MlaADw.τ).loc Cert.MlaADw.main_arg1))
      ∧ r.2.sem = fun _ => 0)

def quiescent_MlaADwIdeal [hMlaADwIdeal : Cert.MlaADwIdeal.Facts] : Prop :=
  ∀ (m : (ℓ : Loc Cert.MlaADwIdeal.nD Cert.MlaADwIdeal.τ Cert.MlaADwIdeal.sig) → Buf (Elt Ideal) ℓ) (g : Dev Cert.MlaADwIdeal.nD → PrngReg), Pre_MlaADwIdeal m →
    θ_run (Cert.MlaADwIdeal.defs (F := Ideal)) (onTc (τ := Cert.MlaADwIdeal.τ) (Cert.MlaADwIdeal.main (F := Ideal))) ⟨m, fun _ => 0, g⟩ (fun r => (∀ c : Dev Cert.MlaADwIdeal.nD,
      r.2.mem ((c.tc : Thread Cert.MlaADwIdeal.nD Cert.MlaADwIdeal.τ).loc Cert.MlaADwIdeal.main_arg0) = m ((c.tc : Thread Cert.MlaADwIdeal.nD Cert.MlaADwIdeal.τ).loc Cert.MlaADwIdeal.main_arg0)
      ∧ r.2.mem ((c.tc : Thread Cert.MlaADwIdeal.nD Cert.MlaADwIdeal.τ).loc Cert.MlaADwIdeal.main_arg1) = m ((c.tc : Thread Cert.MlaADwIdeal.nD Cert.MlaADwIdeal.τ).loc Cert.MlaADwIdeal.main_arg1))
      ∧ r.2.sem = fun _ => 0)

def quiescent_MlaADwRefIdeal [hMlaADwRefIdeal : Cert.MlaADwRefIdeal.Facts] : Prop :=
  ∀ (m : (ℓ : Loc Cert.MlaADwRefIdeal.nD Cert.MlaADwRefIdeal.τ Cert.MlaADwRefIdeal.sig) → Buf (Elt Ideal) ℓ) (g : Dev Cert.MlaADwRefIdeal.nD → PrngReg), Pre_MlaADwRefIdeal m →
    θ_run (Cert.MlaADwRefIdeal.defs (F := Ideal)) (onTc (τ := Cert.MlaADwRefIdeal.τ) (Cert.MlaADwRefIdeal.main (F := Ideal))) ⟨m, fun _ => 0, g⟩ (fun r => (∀ c : Dev Cert.MlaADwRefIdeal.nD,
      r.2.mem ((c.tc : Thread Cert.MlaADwRefIdeal.nD Cert.MlaADwRefIdeal.τ).loc Cert.MlaADwRefIdeal.main_arg0) = m ((c.tc : Thread Cert.MlaADwRefIdeal.nD Cert.MlaADwRefIdeal.τ).loc Cert.MlaADwRefIdeal.main_arg0)
      ∧ r.2.mem ((c.tc : Thread Cert.MlaADwRefIdeal.nD Cert.MlaADwRefIdeal.τ).loc Cert.MlaADwRefIdeal.main_arg1) = m ((c.tc : Thread Cert.MlaADwRefIdeal.nD Cert.MlaADwRefIdeal.τ).loc Cert.MlaADwRefIdeal.main_arg1))
      ∧ r.2.sem = fun _ => 0)

def quiescent_MlaAFwd [hMlaAFwd : Cert.MlaAFwd.Facts] : Prop :=
  ∀ (m : (ℓ : Loc Cert.MlaAFwd.nD Cert.MlaAFwd.τ Cert.MlaAFwd.sig) → Buf (Elt Bits) ℓ) (g : Dev Cert.MlaAFwd.nD → PrngReg), Pre_MlaAFwd m →
    θ_run (Cert.MlaAFwd.defs (F := Bits)) (onTc (τ := Cert.MlaAFwd.τ) (Cert.MlaAFwd.main (F := Bits))) ⟨m, fun _ => 0, g⟩ (fun r => (∀ c : Dev Cert.MlaAFwd.nD,
      r.2.mem ((c.tc : Thread Cert.MlaAFwd.nD Cert.MlaAFwd.τ).loc Cert.MlaAFwd.main_arg0) = m ((c.tc : Thread Cert.MlaAFwd.nD Cert.MlaAFwd.τ).loc Cert.MlaAFwd.main_arg0)
      ∧ r.2.mem ((c.tc : Thread Cert.MlaAFwd.nD Cert.MlaAFwd.τ).loc Cert.MlaAFwd.main_arg1) = m ((c.tc : Thread Cert.MlaAFwd.nD Cert.MlaAFwd.τ).loc Cert.MlaAFwd.main_arg1))
      ∧ r.2.sem = fun _ => 0)

def quiescent_MlaAFwdIdeal [hMlaAFwdIdeal : Cert.MlaAFwdIdeal.Facts] : Prop :=
  ∀ (m : (ℓ : Loc Cert.MlaAFwdIdeal.nD Cert.MlaAFwdIdeal.τ Cert.MlaAFwdIdeal.sig) → Buf (Elt Ideal) ℓ) (g : Dev Cert.MlaAFwdIdeal.nD → PrngReg), Pre_MlaAFwdIdeal m →
    θ_run (Cert.MlaAFwdIdeal.defs (F := Ideal)) (onTc (τ := Cert.MlaAFwdIdeal.τ) (Cert.MlaAFwdIdeal.main (F := Ideal))) ⟨m, fun _ => 0, g⟩ (fun r => (∀ c : Dev Cert.MlaAFwdIdeal.nD,
      r.2.mem ((c.tc : Thread Cert.MlaAFwdIdeal.nD Cert.MlaAFwdIdeal.τ).loc Cert.MlaAFwdIdeal.main_arg0) = m ((c.tc : Thread Cert.MlaAFwdIdeal.nD Cert.MlaAFwdIdeal.τ).loc Cert.MlaAFwdIdeal.main_arg0)
      ∧ r.2.mem ((c.tc : Thread Cert.MlaAFwdIdeal.nD Cert.MlaAFwdIdeal.τ).loc Cert.MlaAFwdIdeal.main_arg1) = m ((c.tc : Thread Cert.MlaAFwdIdeal.nD Cert.MlaAFwdIdeal.τ).loc Cert.MlaAFwdIdeal.main_arg1))
      ∧ r.2.sem = fun _ => 0)

def quiescent_MlaAFwdRefIdeal [hMlaAFwdRefIdeal : Cert.MlaAFwdRefIdeal.Facts] : Prop :=
  ∀ (m : (ℓ : Loc Cert.MlaAFwdRefIdeal.nD Cert.MlaAFwdRefIdeal.τ Cert.MlaAFwdRefIdeal.sig) → Buf (Elt Ideal) ℓ) (g : Dev Cert.MlaAFwdRefIdeal.nD → PrngReg), Pre_MlaAFwdRefIdeal m →
    θ_run (Cert.MlaAFwdRefIdeal.defs (F := Ideal)) (onTc (τ := Cert.MlaAFwdRefIdeal.τ) (Cert.MlaAFwdRefIdeal.main (F := Ideal))) ⟨m, fun _ => 0, g⟩ (fun r => (∀ c : Dev Cert.MlaAFwdRefIdeal.nD,
      r.2.mem ((c.tc : Thread Cert.MlaAFwdRefIdeal.nD Cert.MlaAFwdRefIdeal.τ).loc Cert.MlaAFwdRefIdeal.main_arg0) = m ((c.tc : Thread Cert.MlaAFwdRefIdeal.nD Cert.MlaAFwdRefIdeal.τ).loc Cert.MlaAFwdRefIdeal.main_arg0)
      ∧ r.2.mem ((c.tc : Thread Cert.MlaAFwdRefIdeal.nD Cert.MlaAFwdRefIdeal.τ).loc Cert.MlaAFwdRefIdeal.main_arg1) = m ((c.tc : Thread Cert.MlaAFwdRefIdeal.nD Cert.MlaAFwdRefIdeal.τ).loc Cert.MlaAFwdRefIdeal.main_arg1))
      ∧ r.2.sem = fun _ => 0)

def quiescent_MlaQbDx [hMlaQbDx : Cert.MlaQbDx.Facts] : Prop :=
  ∀ (m : (ℓ : Loc Cert.MlaQbDx.nD Cert.MlaQbDx.τ Cert.MlaQbDx.sig) → Buf (Elt Bits) ℓ) (g : Dev Cert.MlaQbDx.nD → PrngReg), Pre_MlaQbDx m →
    θ_run (Cert.MlaQbDx.defs (F := Bits)) (onTc (τ := Cert.MlaQbDx.τ) (Cert.MlaQbDx.main (F := Bits))) ⟨m, fun _ => 0, g⟩ (fun r => (∀ c : Dev Cert.MlaQbDx.nD,
      r.2.mem ((c.tc : Thread Cert.MlaQbDx.nD Cert.MlaQbDx.τ).loc Cert.MlaQbDx.main_arg0) = m ((c.tc : Thread Cert.MlaQbDx.nD Cert.MlaQbDx.τ).loc Cert.MlaQbDx.main_arg0)
      ∧ r.2.mem ((c.tc : Thread Cert.MlaQbDx.nD Cert.MlaQbDx.τ).loc Cert.MlaQbDx.main_arg1) = m ((c.tc : Thread Cert.MlaQbDx.nD Cert.MlaQbDx.τ).loc Cert.MlaQbDx.main_arg1))
      ∧ r.2.sem = fun _ => 0)

def quiescent_MlaQbDxIdeal [hMlaQbDxIdeal : Cert.MlaQbDxIdeal.Facts] : Prop :=
  ∀ (m : (ℓ : Loc Cert.MlaQbDxIdeal.nD Cert.MlaQbDxIdeal.τ Cert.MlaQbDxIdeal.sig) → Buf (Elt Ideal) ℓ) (g : Dev Cert.MlaQbDxIdeal.nD → PrngReg), Pre_MlaQbDxIdeal m →
    θ_run (Cert.MlaQbDxIdeal.defs (F := Ideal)) (onTc (τ := Cert.MlaQbDxIdeal.τ) (Cert.MlaQbDxIdeal.main (F := Ideal))) ⟨m, fun _ => 0, g⟩ (fun r => (∀ c : Dev Cert.MlaQbDxIdeal.nD,
      r.2.mem ((c.tc : Thread Cert.MlaQbDxIdeal.nD Cert.MlaQbDxIdeal.τ).loc Cert.MlaQbDxIdeal.main_arg0) = m ((c.tc : Thread Cert.MlaQbDxIdeal.nD Cert.MlaQbDxIdeal.τ).loc Cert.MlaQbDxIdeal.main_arg0)
      ∧ r.2.mem ((c.tc : Thread Cert.MlaQbDxIdeal.nD Cert.MlaQbDxIdeal.τ).loc Cert.MlaQbDxIdeal.main_arg1) = m ((c.tc : Thread Cert.MlaQbDxIdeal.nD Cert.MlaQbDxIdeal.τ).loc Cert.MlaQbDxIdeal.main_arg1))
      ∧ r.2.sem = fun _ => 0)

def quiescent_MlaQbDxRefIdeal [hMlaQbDxRefIdeal : Cert.MlaQbDxRefIdeal.Facts] : Prop :=
  ∀ (m : (ℓ : Loc Cert.MlaQbDxRefIdeal.nD Cert.MlaQbDxRefIdeal.τ Cert.MlaQbDxRefIdeal.sig) → Buf (Elt Ideal) ℓ) (g : Dev Cert.MlaQbDxRefIdeal.nD → PrngReg), Pre_MlaQbDxRefIdeal m →
    θ_run (Cert.MlaQbDxRefIdeal.defs (F := Ideal)) (onTc (τ := Cert.MlaQbDxRefIdeal.τ) (Cert.MlaQbDxRefIdeal.main (F := Ideal))) ⟨m, fun _ => 0, g⟩ (fun r => (∀ c : Dev Cert.MlaQbDxRefIdeal.nD,
      r.2.mem ((c.tc : Thread Cert.MlaQbDxRefIdeal.nD Cert.MlaQbDxRefIdeal.τ).loc Cert.MlaQbDxRefIdeal.main_arg0) = m ((c.tc : Thread Cert.MlaQbDxRefIdeal.nD Cert.MlaQbDxRefIdeal.τ).loc Cert.MlaQbDxRefIdeal.main_arg0)
      ∧ r.2.mem ((c.tc : Thread Cert.MlaQbDxRefIdeal.nD Cert.MlaQbDxRefIdeal.τ).loc Cert.MlaQbDxRefIdeal.main_arg1) = m ((c.tc : Thread Cert.MlaQbDxRefIdeal.nD Cert.MlaQbDxRefIdeal.τ).loc Cert.MlaQbDxRefIdeal.main_arg1))
      ∧ r.2.sem = fun _ => 0)

def quiescent_MlaQbDw [hMlaQbDw : Cert.MlaQbDw.Facts] : Prop :=
  ∀ (m : (ℓ : Loc Cert.MlaQbDw.nD Cert.MlaQbDw.τ Cert.MlaQbDw.sig) → Buf (Elt Bits) ℓ) (g : Dev Cert.MlaQbDw.nD → PrngReg), Pre_MlaQbDw m →
    θ_run (Cert.MlaQbDw.defs (F := Bits)) (onTc (τ := Cert.MlaQbDw.τ) (Cert.MlaQbDw.main (F := Bits))) ⟨m, fun _ => 0, g⟩ (fun r => (∀ c : Dev Cert.MlaQbDw.nD,
      r.2.mem ((c.tc : Thread Cert.MlaQbDw.nD Cert.MlaQbDw.τ).loc Cert.MlaQbDw.main_arg0) = m ((c.tc : Thread Cert.MlaQbDw.nD Cert.MlaQbDw.τ).loc Cert.MlaQbDw.main_arg0)
      ∧ r.2.mem ((c.tc : Thread Cert.MlaQbDw.nD Cert.MlaQbDw.τ).loc Cert.MlaQbDw.main_arg1) = m ((c.tc : Thread Cert.MlaQbDw.nD Cert.MlaQbDw.τ).loc Cert.MlaQbDw.main_arg1))
      ∧ r.2.sem = fun _ => 0)

def quiescent_MlaQbDwIdeal [hMlaQbDwIdeal : Cert.MlaQbDwIdeal.Facts] : Prop :=
  ∀ (m : (ℓ : Loc Cert.MlaQbDwIdeal.nD Cert.MlaQbDwIdeal.τ Cert.MlaQbDwIdeal.sig) → Buf (Elt Ideal) ℓ) (g : Dev Cert.MlaQbDwIdeal.nD → PrngReg), Pre_MlaQbDwIdeal m →
    θ_run (Cert.MlaQbDwIdeal.defs (F := Ideal)) (onTc (τ := Cert.MlaQbDwIdeal.τ) (Cert.MlaQbDwIdeal.main (F := Ideal))) ⟨m, fun _ => 0, g⟩ (fun r => (∀ c : Dev Cert.MlaQbDwIdeal.nD,
      r.2.mem ((c.tc : Thread Cert.MlaQbDwIdeal.nD Cert.MlaQbDwIdeal.τ).loc Cert.MlaQbDwIdeal.main_arg0) = m ((c.tc : Thread Cert.MlaQbDwIdeal.nD Cert.MlaQbDwIdeal.τ).loc Cert.MlaQbDwIdeal.main_arg0)
      ∧ r.2.mem ((c.tc : Thread Cert.MlaQbDwIdeal.nD Cert.MlaQbDwIdeal.τ).loc Cert.MlaQbDwIdeal.main_arg1) = m ((c.tc : Thread Cert.MlaQbDwIdeal.nD Cert.MlaQbDwIdeal.τ).loc Cert.MlaQbDwIdeal.main_arg1))
      ∧ r.2.sem = fun _ => 0)

def quiescent_MlaQbDwRefIdeal [hMlaQbDwRefIdeal : Cert.MlaQbDwRefIdeal.Facts] : Prop :=
  ∀ (m : (ℓ : Loc Cert.MlaQbDwRefIdeal.nD Cert.MlaQbDwRefIdeal.τ Cert.MlaQbDwRefIdeal.sig) → Buf (Elt Ideal) ℓ) (g : Dev Cert.MlaQbDwRefIdeal.nD → PrngReg), Pre_MlaQbDwRefIdeal m →
    θ_run (Cert.MlaQbDwRefIdeal.defs (F := Ideal)) (onTc (τ := Cert.MlaQbDwRefIdeal.τ) (Cert.MlaQbDwRefIdeal.main (F := Ideal))) ⟨m, fun _ => 0, g⟩ (fun r => (∀ c : Dev Cert.MlaQbDwRefIdeal.nD,
      r.2.mem ((c.tc : Thread Cert.MlaQbDwRefIdeal.nD Cert.MlaQbDwRefIdeal.τ).loc Cert.MlaQbDwRefIdeal.main_arg0) = m ((c.tc : Thread Cert.MlaQbDwRefIdeal.nD Cert.MlaQbDwRefIdeal.τ).loc Cert.MlaQbDwRefIdeal.main_arg0)
      ∧ r.2.mem ((c.tc : Thread Cert.MlaQbDwRefIdeal.nD Cert.MlaQbDwRefIdeal.τ).loc Cert.MlaQbDwRefIdeal.main_arg1) = m ((c.tc : Thread Cert.MlaQbDwRefIdeal.nD Cert.MlaQbDwRefIdeal.τ).loc Cert.MlaQbDwRefIdeal.main_arg1))
      ∧ r.2.sem = fun _ => 0)

def quiescent_MlaQbFwd [hMlaQbFwd : Cert.MlaQbFwd.Facts] : Prop :=
  ∀ (m : (ℓ : Loc Cert.MlaQbFwd.nD Cert.MlaQbFwd.τ Cert.MlaQbFwd.sig) → Buf (Elt Bits) ℓ) (g : Dev Cert.MlaQbFwd.nD → PrngReg), Pre_MlaQbFwd m →
    θ_run (Cert.MlaQbFwd.defs (F := Bits)) (onTc (τ := Cert.MlaQbFwd.τ) (Cert.MlaQbFwd.main (F := Bits))) ⟨m, fun _ => 0, g⟩ (fun r => (∀ c : Dev Cert.MlaQbFwd.nD,
      r.2.mem ((c.tc : Thread Cert.MlaQbFwd.nD Cert.MlaQbFwd.τ).loc Cert.MlaQbFwd.main_arg0) = m ((c.tc : Thread Cert.MlaQbFwd.nD Cert.MlaQbFwd.τ).loc Cert.MlaQbFwd.main_arg0)
      ∧ r.2.mem ((c.tc : Thread Cert.MlaQbFwd.nD Cert.MlaQbFwd.τ).loc Cert.MlaQbFwd.main_arg1) = m ((c.tc : Thread Cert.MlaQbFwd.nD Cert.MlaQbFwd.τ).loc Cert.MlaQbFwd.main_arg1))
      ∧ r.2.sem = fun _ => 0)

def quiescent_MlaQbFwdIdeal [hMlaQbFwdIdeal : Cert.MlaQbFwdIdeal.Facts] : Prop :=
  ∀ (m : (ℓ : Loc Cert.MlaQbFwdIdeal.nD Cert.MlaQbFwdIdeal.τ Cert.MlaQbFwdIdeal.sig) → Buf (Elt Ideal) ℓ) (g : Dev Cert.MlaQbFwdIdeal.nD → PrngReg), Pre_MlaQbFwdIdeal m →
    θ_run (Cert.MlaQbFwdIdeal.defs (F := Ideal)) (onTc (τ := Cert.MlaQbFwdIdeal.τ) (Cert.MlaQbFwdIdeal.main (F := Ideal))) ⟨m, fun _ => 0, g⟩ (fun r => (∀ c : Dev Cert.MlaQbFwdIdeal.nD,
      r.2.mem ((c.tc : Thread Cert.MlaQbFwdIdeal.nD Cert.MlaQbFwdIdeal.τ).loc Cert.MlaQbFwdIdeal.main_arg0) = m ((c.tc : Thread Cert.MlaQbFwdIdeal.nD Cert.MlaQbFwdIdeal.τ).loc Cert.MlaQbFwdIdeal.main_arg0)
      ∧ r.2.mem ((c.tc : Thread Cert.MlaQbFwdIdeal.nD Cert.MlaQbFwdIdeal.τ).loc Cert.MlaQbFwdIdeal.main_arg1) = m ((c.tc : Thread Cert.MlaQbFwdIdeal.nD Cert.MlaQbFwdIdeal.τ).loc Cert.MlaQbFwdIdeal.main_arg1))
      ∧ r.2.sem = fun _ => 0)

def quiescent_MlaQbFwdRefIdeal [hMlaQbFwdRefIdeal : Cert.MlaQbFwdRefIdeal.Facts] : Prop :=
  ∀ (m : (ℓ : Loc Cert.MlaQbFwdRefIdeal.nD Cert.MlaQbFwdRefIdeal.τ Cert.MlaQbFwdRefIdeal.sig) → Buf (Elt Ideal) ℓ) (g : Dev Cert.MlaQbFwdRefIdeal.nD → PrngReg), Pre_MlaQbFwdRefIdeal m →
    θ_run (Cert.MlaQbFwdRefIdeal.defs (F := Ideal)) (onTc (τ := Cert.MlaQbFwdRefIdeal.τ) (Cert.MlaQbFwdRefIdeal.main (F := Ideal))) ⟨m, fun _ => 0, g⟩ (fun r => (∀ c : Dev Cert.MlaQbFwdRefIdeal.nD,
      r.2.mem ((c.tc : Thread Cert.MlaQbFwdRefIdeal.nD Cert.MlaQbFwdRefIdeal.τ).loc Cert.MlaQbFwdRefIdeal.main_arg0) = m ((c.tc : Thread Cert.MlaQbFwdRefIdeal.nD Cert.MlaQbFwdRefIdeal.τ).loc Cert.MlaQbFwdRefIdeal.main_arg0)
      ∧ r.2.mem ((c.tc : Thread Cert.MlaQbFwdRefIdeal.nD Cert.MlaQbFwdRefIdeal.τ).loc Cert.MlaQbFwdRefIdeal.main_arg1) = m ((c.tc : Thread Cert.MlaQbFwdRefIdeal.nD Cert.MlaQbFwdRefIdeal.τ).loc Cert.MlaQbFwdRefIdeal.main_arg1))
      ∧ r.2.sem = fun _ => 0)

def quiescent_MlaKvbDx [hMlaKvbDx : Cert.MlaKvbDx.Facts] : Prop :=
  ∀ (m : (ℓ : Loc Cert.MlaKvbDx.nD Cert.MlaKvbDx.τ Cert.MlaKvbDx.sig) → Buf (Elt Bits) ℓ) (g : Dev Cert.MlaKvbDx.nD → PrngReg), Pre_MlaKvbDx m →
    θ_run (Cert.MlaKvbDx.defs (F := Bits)) (onTc (τ := Cert.MlaKvbDx.τ) (Cert.MlaKvbDx.main (F := Bits))) ⟨m, fun _ => 0, g⟩ (fun r => (∀ c : Dev Cert.MlaKvbDx.nD,
      r.2.mem ((c.tc : Thread Cert.MlaKvbDx.nD Cert.MlaKvbDx.τ).loc Cert.MlaKvbDx.main_arg0) = m ((c.tc : Thread Cert.MlaKvbDx.nD Cert.MlaKvbDx.τ).loc Cert.MlaKvbDx.main_arg0)
      ∧ r.2.mem ((c.tc : Thread Cert.MlaKvbDx.nD Cert.MlaKvbDx.τ).loc Cert.MlaKvbDx.main_arg1) = m ((c.tc : Thread Cert.MlaKvbDx.nD Cert.MlaKvbDx.τ).loc Cert.MlaKvbDx.main_arg1))
      ∧ r.2.sem = fun _ => 0)

def quiescent_MlaKvbDxIdeal [hMlaKvbDxIdeal : Cert.MlaKvbDxIdeal.Facts] : Prop :=
  ∀ (m : (ℓ : Loc Cert.MlaKvbDxIdeal.nD Cert.MlaKvbDxIdeal.τ Cert.MlaKvbDxIdeal.sig) → Buf (Elt Ideal) ℓ) (g : Dev Cert.MlaKvbDxIdeal.nD → PrngReg), Pre_MlaKvbDxIdeal m →
    θ_run (Cert.MlaKvbDxIdeal.defs (F := Ideal)) (onTc (τ := Cert.MlaKvbDxIdeal.τ) (Cert.MlaKvbDxIdeal.main (F := Ideal))) ⟨m, fun _ => 0, g⟩ (fun r => (∀ c : Dev Cert.MlaKvbDxIdeal.nD,
      r.2.mem ((c.tc : Thread Cert.MlaKvbDxIdeal.nD Cert.MlaKvbDxIdeal.τ).loc Cert.MlaKvbDxIdeal.main_arg0) = m ((c.tc : Thread Cert.MlaKvbDxIdeal.nD Cert.MlaKvbDxIdeal.τ).loc Cert.MlaKvbDxIdeal.main_arg0)
      ∧ r.2.mem ((c.tc : Thread Cert.MlaKvbDxIdeal.nD Cert.MlaKvbDxIdeal.τ).loc Cert.MlaKvbDxIdeal.main_arg1) = m ((c.tc : Thread Cert.MlaKvbDxIdeal.nD Cert.MlaKvbDxIdeal.τ).loc Cert.MlaKvbDxIdeal.main_arg1))
      ∧ r.2.sem = fun _ => 0)

def quiescent_MlaKvbDxRefIdeal [hMlaKvbDxRefIdeal : Cert.MlaKvbDxRefIdeal.Facts] : Prop :=
  ∀ (m : (ℓ : Loc Cert.MlaKvbDxRefIdeal.nD Cert.MlaKvbDxRefIdeal.τ Cert.MlaKvbDxRefIdeal.sig) → Buf (Elt Ideal) ℓ) (g : Dev Cert.MlaKvbDxRefIdeal.nD → PrngReg), Pre_MlaKvbDxRefIdeal m →
    θ_run (Cert.MlaKvbDxRefIdeal.defs (F := Ideal)) (onTc (τ := Cert.MlaKvbDxRefIdeal.τ) (Cert.MlaKvbDxRefIdeal.main (F := Ideal))) ⟨m, fun _ => 0, g⟩ (fun r => (∀ c : Dev Cert.MlaKvbDxRefIdeal.nD,
      r.2.mem ((c.tc : Thread Cert.MlaKvbDxRefIdeal.nD Cert.MlaKvbDxRefIdeal.τ).loc Cert.MlaKvbDxRefIdeal.main_arg0) = m ((c.tc : Thread Cert.MlaKvbDxRefIdeal.nD Cert.MlaKvbDxRefIdeal.τ).loc Cert.MlaKvbDxRefIdeal.main_arg0)
      ∧ r.2.mem ((c.tc : Thread Cert.MlaKvbDxRefIdeal.nD Cert.MlaKvbDxRefIdeal.τ).loc Cert.MlaKvbDxRefIdeal.main_arg1) = m ((c.tc : Thread Cert.MlaKvbDxRefIdeal.nD Cert.MlaKvbDxRefIdeal.τ).loc Cert.MlaKvbDxRefIdeal.main_arg1))
      ∧ r.2.sem = fun _ => 0)

def quiescent_MlaKvbDw [hMlaKvbDw : Cert.MlaKvbDw.Facts] : Prop :=
  ∀ (m : (ℓ : Loc Cert.MlaKvbDw.nD Cert.MlaKvbDw.τ Cert.MlaKvbDw.sig) → Buf (Elt Bits) ℓ) (g : Dev Cert.MlaKvbDw.nD → PrngReg), Pre_MlaKvbDw m →
    θ_run (Cert.MlaKvbDw.defs (F := Bits)) (onTc (τ := Cert.MlaKvbDw.τ) (Cert.MlaKvbDw.main (F := Bits))) ⟨m, fun _ => 0, g⟩ (fun r => (∀ c : Dev Cert.MlaKvbDw.nD,
      r.2.mem ((c.tc : Thread Cert.MlaKvbDw.nD Cert.MlaKvbDw.τ).loc Cert.MlaKvbDw.main_arg0) = m ((c.tc : Thread Cert.MlaKvbDw.nD Cert.MlaKvbDw.τ).loc Cert.MlaKvbDw.main_arg0)
      ∧ r.2.mem ((c.tc : Thread Cert.MlaKvbDw.nD Cert.MlaKvbDw.τ).loc Cert.MlaKvbDw.main_arg1) = m ((c.tc : Thread Cert.MlaKvbDw.nD Cert.MlaKvbDw.τ).loc Cert.MlaKvbDw.main_arg1))
      ∧ r.2.sem = fun _ => 0)

def quiescent_MlaKvbDwIdeal [hMlaKvbDwIdeal : Cert.MlaKvbDwIdeal.Facts] : Prop :=
  ∀ (m : (ℓ : Loc Cert.MlaKvbDwIdeal.nD Cert.MlaKvbDwIdeal.τ Cert.MlaKvbDwIdeal.sig) → Buf (Elt Ideal) ℓ) (g : Dev Cert.MlaKvbDwIdeal.nD → PrngReg), Pre_MlaKvbDwIdeal m →
    θ_run (Cert.MlaKvbDwIdeal.defs (F := Ideal)) (onTc (τ := Cert.MlaKvbDwIdeal.τ) (Cert.MlaKvbDwIdeal.main (F := Ideal))) ⟨m, fun _ => 0, g⟩ (fun r => (∀ c : Dev Cert.MlaKvbDwIdeal.nD,
      r.2.mem ((c.tc : Thread Cert.MlaKvbDwIdeal.nD Cert.MlaKvbDwIdeal.τ).loc Cert.MlaKvbDwIdeal.main_arg0) = m ((c.tc : Thread Cert.MlaKvbDwIdeal.nD Cert.MlaKvbDwIdeal.τ).loc Cert.MlaKvbDwIdeal.main_arg0)
      ∧ r.2.mem ((c.tc : Thread Cert.MlaKvbDwIdeal.nD Cert.MlaKvbDwIdeal.τ).loc Cert.MlaKvbDwIdeal.main_arg1) = m ((c.tc : Thread Cert.MlaKvbDwIdeal.nD Cert.MlaKvbDwIdeal.τ).loc Cert.MlaKvbDwIdeal.main_arg1))
      ∧ r.2.sem = fun _ => 0)

def quiescent_MlaKvbDwRefIdeal [hMlaKvbDwRefIdeal : Cert.MlaKvbDwRefIdeal.Facts] : Prop :=
  ∀ (m : (ℓ : Loc Cert.MlaKvbDwRefIdeal.nD Cert.MlaKvbDwRefIdeal.τ Cert.MlaKvbDwRefIdeal.sig) → Buf (Elt Ideal) ℓ) (g : Dev Cert.MlaKvbDwRefIdeal.nD → PrngReg), Pre_MlaKvbDwRefIdeal m →
    θ_run (Cert.MlaKvbDwRefIdeal.defs (F := Ideal)) (onTc (τ := Cert.MlaKvbDwRefIdeal.τ) (Cert.MlaKvbDwRefIdeal.main (F := Ideal))) ⟨m, fun _ => 0, g⟩ (fun r => (∀ c : Dev Cert.MlaKvbDwRefIdeal.nD,
      r.2.mem ((c.tc : Thread Cert.MlaKvbDwRefIdeal.nD Cert.MlaKvbDwRefIdeal.τ).loc Cert.MlaKvbDwRefIdeal.main_arg0) = m ((c.tc : Thread Cert.MlaKvbDwRefIdeal.nD Cert.MlaKvbDwRefIdeal.τ).loc Cert.MlaKvbDwRefIdeal.main_arg0)
      ∧ r.2.mem ((c.tc : Thread Cert.MlaKvbDwRefIdeal.nD Cert.MlaKvbDwRefIdeal.τ).loc Cert.MlaKvbDwRefIdeal.main_arg1) = m ((c.tc : Thread Cert.MlaKvbDwRefIdeal.nD Cert.MlaKvbDwRefIdeal.τ).loc Cert.MlaKvbDwRefIdeal.main_arg1))
      ∧ r.2.sem = fun _ => 0)

def quiescent_MlaKvbFwd [hMlaKvbFwd : Cert.MlaKvbFwd.Facts] : Prop :=
  ∀ (m : (ℓ : Loc Cert.MlaKvbFwd.nD Cert.MlaKvbFwd.τ Cert.MlaKvbFwd.sig) → Buf (Elt Bits) ℓ) (g : Dev Cert.MlaKvbFwd.nD → PrngReg), Pre_MlaKvbFwd m →
    θ_run (Cert.MlaKvbFwd.defs (F := Bits)) (onTc (τ := Cert.MlaKvbFwd.τ) (Cert.MlaKvbFwd.main (F := Bits))) ⟨m, fun _ => 0, g⟩ (fun r => (∀ c : Dev Cert.MlaKvbFwd.nD,
      r.2.mem ((c.tc : Thread Cert.MlaKvbFwd.nD Cert.MlaKvbFwd.τ).loc Cert.MlaKvbFwd.main_arg0) = m ((c.tc : Thread Cert.MlaKvbFwd.nD Cert.MlaKvbFwd.τ).loc Cert.MlaKvbFwd.main_arg0)
      ∧ r.2.mem ((c.tc : Thread Cert.MlaKvbFwd.nD Cert.MlaKvbFwd.τ).loc Cert.MlaKvbFwd.main_arg1) = m ((c.tc : Thread Cert.MlaKvbFwd.nD Cert.MlaKvbFwd.τ).loc Cert.MlaKvbFwd.main_arg1))
      ∧ r.2.sem = fun _ => 0)

def quiescent_MlaKvbFwdIdeal [hMlaKvbFwdIdeal : Cert.MlaKvbFwdIdeal.Facts] : Prop :=
  ∀ (m : (ℓ : Loc Cert.MlaKvbFwdIdeal.nD Cert.MlaKvbFwdIdeal.τ Cert.MlaKvbFwdIdeal.sig) → Buf (Elt Ideal) ℓ) (g : Dev Cert.MlaKvbFwdIdeal.nD → PrngReg), Pre_MlaKvbFwdIdeal m →
    θ_run (Cert.MlaKvbFwdIdeal.defs (F := Ideal)) (onTc (τ := Cert.MlaKvbFwdIdeal.τ) (Cert.MlaKvbFwdIdeal.main (F := Ideal))) ⟨m, fun _ => 0, g⟩ (fun r => (∀ c : Dev Cert.MlaKvbFwdIdeal.nD,
      r.2.mem ((c.tc : Thread Cert.MlaKvbFwdIdeal.nD Cert.MlaKvbFwdIdeal.τ).loc Cert.MlaKvbFwdIdeal.main_arg0) = m ((c.tc : Thread Cert.MlaKvbFwdIdeal.nD Cert.MlaKvbFwdIdeal.τ).loc Cert.MlaKvbFwdIdeal.main_arg0)
      ∧ r.2.mem ((c.tc : Thread Cert.MlaKvbFwdIdeal.nD Cert.MlaKvbFwdIdeal.τ).loc Cert.MlaKvbFwdIdeal.main_arg1) = m ((c.tc : Thread Cert.MlaKvbFwdIdeal.nD Cert.MlaKvbFwdIdeal.τ).loc Cert.MlaKvbFwdIdeal.main_arg1))
      ∧ r.2.sem = fun _ => 0)

def quiescent_MlaKvbFwdRefIdeal [hMlaKvbFwdRefIdeal : Cert.MlaKvbFwdRefIdeal.Facts] : Prop :=
  ∀ (m : (ℓ : Loc Cert.MlaKvbFwdRefIdeal.nD Cert.MlaKvbFwdRefIdeal.τ Cert.MlaKvbFwdRefIdeal.sig) → Buf (Elt Ideal) ℓ) (g : Dev Cert.MlaKvbFwdRefIdeal.nD → PrngReg), Pre_MlaKvbFwdRefIdeal m →
    θ_run (Cert.MlaKvbFwdRefIdeal.defs (F := Ideal)) (onTc (τ := Cert.MlaKvbFwdRefIdeal.τ) (Cert.MlaKvbFwdRefIdeal.main (F := Ideal))) ⟨m, fun _ => 0, g⟩ (fun r => (∀ c : Dev Cert.MlaKvbFwdRefIdeal.nD,
      r.2.mem ((c.tc : Thread Cert.MlaKvbFwdRefIdeal.nD Cert.MlaKvbFwdRefIdeal.τ).loc Cert.MlaKvbFwdRefIdeal.main_arg0) = m ((c.tc : Thread Cert.MlaKvbFwdRefIdeal.nD Cert.MlaKvbFwdRefIdeal.τ).loc Cert.MlaKvbFwdRefIdeal.main_arg0)
      ∧ r.2.mem ((c.tc : Thread Cert.MlaKvbFwdRefIdeal.nD Cert.MlaKvbFwdRefIdeal.τ).loc Cert.MlaKvbFwdRefIdeal.main_arg1) = m ((c.tc : Thread Cert.MlaKvbFwdRefIdeal.nD Cert.MlaKvbFwdRefIdeal.τ).loc Cert.MlaKvbFwdRefIdeal.main_arg1))
      ∧ r.2.sem = fun _ => 0)

def quiescent_MlaODx [hMlaODx : Cert.MlaODx.Facts] : Prop :=
  ∀ (m : (ℓ : Loc Cert.MlaODx.nD Cert.MlaODx.τ Cert.MlaODx.sig) → Buf (Elt Bits) ℓ) (g : Dev Cert.MlaODx.nD → PrngReg), Pre_MlaODx m →
    θ_run (Cert.MlaODx.defs (F := Bits)) (onTc (τ := Cert.MlaODx.τ) (Cert.MlaODx.main (F := Bits))) ⟨m, fun _ => 0, g⟩ (fun r => (∀ c : Dev Cert.MlaODx.nD,
      r.2.mem ((c.tc : Thread Cert.MlaODx.nD Cert.MlaODx.τ).loc Cert.MlaODx.main_arg0) = m ((c.tc : Thread Cert.MlaODx.nD Cert.MlaODx.τ).loc Cert.MlaODx.main_arg0)
      ∧ r.2.mem ((c.tc : Thread Cert.MlaODx.nD Cert.MlaODx.τ).loc Cert.MlaODx.main_arg1) = m ((c.tc : Thread Cert.MlaODx.nD Cert.MlaODx.τ).loc Cert.MlaODx.main_arg1))
      ∧ r.2.sem = fun _ => 0)

def quiescent_MlaODxIdeal [hMlaODxIdeal : Cert.MlaODxIdeal.Facts] : Prop :=
  ∀ (m : (ℓ : Loc Cert.MlaODxIdeal.nD Cert.MlaODxIdeal.τ Cert.MlaODxIdeal.sig) → Buf (Elt Ideal) ℓ) (g : Dev Cert.MlaODxIdeal.nD → PrngReg), Pre_MlaODxIdeal m →
    θ_run (Cert.MlaODxIdeal.defs (F := Ideal)) (onTc (τ := Cert.MlaODxIdeal.τ) (Cert.MlaODxIdeal.main (F := Ideal))) ⟨m, fun _ => 0, g⟩ (fun r => (∀ c : Dev Cert.MlaODxIdeal.nD,
      r.2.mem ((c.tc : Thread Cert.MlaODxIdeal.nD Cert.MlaODxIdeal.τ).loc Cert.MlaODxIdeal.main_arg0) = m ((c.tc : Thread Cert.MlaODxIdeal.nD Cert.MlaODxIdeal.τ).loc Cert.MlaODxIdeal.main_arg0)
      ∧ r.2.mem ((c.tc : Thread Cert.MlaODxIdeal.nD Cert.MlaODxIdeal.τ).loc Cert.MlaODxIdeal.main_arg1) = m ((c.tc : Thread Cert.MlaODxIdeal.nD Cert.MlaODxIdeal.τ).loc Cert.MlaODxIdeal.main_arg1))
      ∧ r.2.sem = fun _ => 0)

def quiescent_MlaODxRefIdeal [hMlaODxRefIdeal : Cert.MlaODxRefIdeal.Facts] : Prop :=
  ∀ (m : (ℓ : Loc Cert.MlaODxRefIdeal.nD Cert.MlaODxRefIdeal.τ Cert.MlaODxRefIdeal.sig) → Buf (Elt Ideal) ℓ) (g : Dev Cert.MlaODxRefIdeal.nD → PrngReg), Pre_MlaODxRefIdeal m →
    θ_run (Cert.MlaODxRefIdeal.defs (F := Ideal)) (onTc (τ := Cert.MlaODxRefIdeal.τ) (Cert.MlaODxRefIdeal.main (F := Ideal))) ⟨m, fun _ => 0, g⟩ (fun r => (∀ c : Dev Cert.MlaODxRefIdeal.nD,
      r.2.mem ((c.tc : Thread Cert.MlaODxRefIdeal.nD Cert.MlaODxRefIdeal.τ).loc Cert.MlaODxRefIdeal.main_arg0) = m ((c.tc : Thread Cert.MlaODxRefIdeal.nD Cert.MlaODxRefIdeal.τ).loc Cert.MlaODxRefIdeal.main_arg0)
      ∧ r.2.mem ((c.tc : Thread Cert.MlaODxRefIdeal.nD Cert.MlaODxRefIdeal.τ).loc Cert.MlaODxRefIdeal.main_arg1) = m ((c.tc : Thread Cert.MlaODxRefIdeal.nD Cert.MlaODxRefIdeal.τ).loc Cert.MlaODxRefIdeal.main_arg1))
      ∧ r.2.sem = fun _ => 0)

def quiescent_MlaODw [hMlaODw : Cert.MlaODw.Facts] : Prop :=
  ∀ (m : (ℓ : Loc Cert.MlaODw.nD Cert.MlaODw.τ Cert.MlaODw.sig) → Buf (Elt Bits) ℓ) (g : Dev Cert.MlaODw.nD → PrngReg), Pre_MlaODw m →
    θ_run (Cert.MlaODw.defs (F := Bits)) (onTc (τ := Cert.MlaODw.τ) (Cert.MlaODw.main (F := Bits))) ⟨m, fun _ => 0, g⟩ (fun r => (∀ c : Dev Cert.MlaODw.nD,
      r.2.mem ((c.tc : Thread Cert.MlaODw.nD Cert.MlaODw.τ).loc Cert.MlaODw.main_arg0) = m ((c.tc : Thread Cert.MlaODw.nD Cert.MlaODw.τ).loc Cert.MlaODw.main_arg0)
      ∧ r.2.mem ((c.tc : Thread Cert.MlaODw.nD Cert.MlaODw.τ).loc Cert.MlaODw.main_arg1) = m ((c.tc : Thread Cert.MlaODw.nD Cert.MlaODw.τ).loc Cert.MlaODw.main_arg1))
      ∧ r.2.sem = fun _ => 0)

def quiescent_MlaODwIdeal [hMlaODwIdeal : Cert.MlaODwIdeal.Facts] : Prop :=
  ∀ (m : (ℓ : Loc Cert.MlaODwIdeal.nD Cert.MlaODwIdeal.τ Cert.MlaODwIdeal.sig) → Buf (Elt Ideal) ℓ) (g : Dev Cert.MlaODwIdeal.nD → PrngReg), Pre_MlaODwIdeal m →
    θ_run (Cert.MlaODwIdeal.defs (F := Ideal)) (onTc (τ := Cert.MlaODwIdeal.τ) (Cert.MlaODwIdeal.main (F := Ideal))) ⟨m, fun _ => 0, g⟩ (fun r => (∀ c : Dev Cert.MlaODwIdeal.nD,
      r.2.mem ((c.tc : Thread Cert.MlaODwIdeal.nD Cert.MlaODwIdeal.τ).loc Cert.MlaODwIdeal.main_arg0) = m ((c.tc : Thread Cert.MlaODwIdeal.nD Cert.MlaODwIdeal.τ).loc Cert.MlaODwIdeal.main_arg0)
      ∧ r.2.mem ((c.tc : Thread Cert.MlaODwIdeal.nD Cert.MlaODwIdeal.τ).loc Cert.MlaODwIdeal.main_arg1) = m ((c.tc : Thread Cert.MlaODwIdeal.nD Cert.MlaODwIdeal.τ).loc Cert.MlaODwIdeal.main_arg1))
      ∧ r.2.sem = fun _ => 0)

def quiescent_MlaODwRefIdeal [hMlaODwRefIdeal : Cert.MlaODwRefIdeal.Facts] : Prop :=
  ∀ (m : (ℓ : Loc Cert.MlaODwRefIdeal.nD Cert.MlaODwRefIdeal.τ Cert.MlaODwRefIdeal.sig) → Buf (Elt Ideal) ℓ) (g : Dev Cert.MlaODwRefIdeal.nD → PrngReg), Pre_MlaODwRefIdeal m →
    θ_run (Cert.MlaODwRefIdeal.defs (F := Ideal)) (onTc (τ := Cert.MlaODwRefIdeal.τ) (Cert.MlaODwRefIdeal.main (F := Ideal))) ⟨m, fun _ => 0, g⟩ (fun r => (∀ c : Dev Cert.MlaODwRefIdeal.nD,
      r.2.mem ((c.tc : Thread Cert.MlaODwRefIdeal.nD Cert.MlaODwRefIdeal.τ).loc Cert.MlaODwRefIdeal.main_arg0) = m ((c.tc : Thread Cert.MlaODwRefIdeal.nD Cert.MlaODwRefIdeal.τ).loc Cert.MlaODwRefIdeal.main_arg0)
      ∧ r.2.mem ((c.tc : Thread Cert.MlaODwRefIdeal.nD Cert.MlaODwRefIdeal.τ).loc Cert.MlaODwRefIdeal.main_arg1) = m ((c.tc : Thread Cert.MlaODwRefIdeal.nD Cert.MlaODwRefIdeal.τ).loc Cert.MlaODwRefIdeal.main_arg1))
      ∧ r.2.sem = fun _ => 0)

def quiescent_MlaOFwd [hMlaOFwd : Cert.MlaOFwd.Facts] : Prop :=
  ∀ (m : (ℓ : Loc Cert.MlaOFwd.nD Cert.MlaOFwd.τ Cert.MlaOFwd.sig) → Buf (Elt Bits) ℓ) (g : Dev Cert.MlaOFwd.nD → PrngReg), Pre_MlaOFwd m →
    θ_run (Cert.MlaOFwd.defs (F := Bits)) (onTc (τ := Cert.MlaOFwd.τ) (Cert.MlaOFwd.main (F := Bits))) ⟨m, fun _ => 0, g⟩ (fun r => (∀ c : Dev Cert.MlaOFwd.nD,
      r.2.mem ((c.tc : Thread Cert.MlaOFwd.nD Cert.MlaOFwd.τ).loc Cert.MlaOFwd.main_arg0) = m ((c.tc : Thread Cert.MlaOFwd.nD Cert.MlaOFwd.τ).loc Cert.MlaOFwd.main_arg0)
      ∧ r.2.mem ((c.tc : Thread Cert.MlaOFwd.nD Cert.MlaOFwd.τ).loc Cert.MlaOFwd.main_arg1) = m ((c.tc : Thread Cert.MlaOFwd.nD Cert.MlaOFwd.τ).loc Cert.MlaOFwd.main_arg1))
      ∧ r.2.sem = fun _ => 0)

def quiescent_MlaOFwdIdeal [hMlaOFwdIdeal : Cert.MlaOFwdIdeal.Facts] : Prop :=
  ∀ (m : (ℓ : Loc Cert.MlaOFwdIdeal.nD Cert.MlaOFwdIdeal.τ Cert.MlaOFwdIdeal.sig) → Buf (Elt Ideal) ℓ) (g : Dev Cert.MlaOFwdIdeal.nD → PrngReg), Pre_MlaOFwdIdeal m →
    θ_run (Cert.MlaOFwdIdeal.defs (F := Ideal)) (onTc (τ := Cert.MlaOFwdIdeal.τ) (Cert.MlaOFwdIdeal.main (F := Ideal))) ⟨m, fun _ => 0, g⟩ (fun r => (∀ c : Dev Cert.MlaOFwdIdeal.nD,
      r.2.mem ((c.tc : Thread Cert.MlaOFwdIdeal.nD Cert.MlaOFwdIdeal.τ).loc Cert.MlaOFwdIdeal.main_arg0) = m ((c.tc : Thread Cert.MlaOFwdIdeal.nD Cert.MlaOFwdIdeal.τ).loc Cert.MlaOFwdIdeal.main_arg0)
      ∧ r.2.mem ((c.tc : Thread Cert.MlaOFwdIdeal.nD Cert.MlaOFwdIdeal.τ).loc Cert.MlaOFwdIdeal.main_arg1) = m ((c.tc : Thread Cert.MlaOFwdIdeal.nD Cert.MlaOFwdIdeal.τ).loc Cert.MlaOFwdIdeal.main_arg1))
      ∧ r.2.sem = fun _ => 0)

def quiescent_MlaOFwdRefIdeal [hMlaOFwdRefIdeal : Cert.MlaOFwdRefIdeal.Facts] : Prop :=
  ∀ (m : (ℓ : Loc Cert.MlaOFwdRefIdeal.nD Cert.MlaOFwdRefIdeal.τ Cert.MlaOFwdRefIdeal.sig) → Buf (Elt Ideal) ℓ) (g : Dev Cert.MlaOFwdRefIdeal.nD → PrngReg), Pre_MlaOFwdRefIdeal m →
    θ_run (Cert.MlaOFwdRefIdeal.defs (F := Ideal)) (onTc (τ := Cert.MlaOFwdRefIdeal.τ) (Cert.MlaOFwdRefIdeal.main (F := Ideal))) ⟨m, fun _ => 0, g⟩ (fun r => (∀ c : Dev Cert.MlaOFwdRefIdeal.nD,
      r.2.mem ((c.tc : Thread Cert.MlaOFwdRefIdeal.nD Cert.MlaOFwdRefIdeal.τ).loc Cert.MlaOFwdRefIdeal.main_arg0) = m ((c.tc : Thread Cert.MlaOFwdRefIdeal.nD Cert.MlaOFwdRefIdeal.τ).loc Cert.MlaOFwdRefIdeal.main_arg0)
      ∧ r.2.mem ((c.tc : Thread Cert.MlaOFwdRefIdeal.nD Cert.MlaOFwdRefIdeal.τ).loc Cert.MlaOFwdRefIdeal.main_arg1) = m ((c.tc : Thread Cert.MlaOFwdRefIdeal.nD Cert.MlaOFwdRefIdeal.τ).loc Cert.MlaOFwdRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_cotangent [hConvBwdIdeal : Cert.ConvBwdIdeal.Facts] [hPre_finite_cotangent : Cert.Pre_finite_cotangent.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_cotangent m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_finite_cotangent [hConvBwdRefIdeal : Cert.ConvBwdRefIdeal.Facts] [hPre_finite_cotangent : Cert.Pre_finite_cotangent.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_cotangent m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def quiescent_ResidBwd [hResidBwd : Cert.ResidBwd.Facts] : Prop :=
  ∀ (m : (ℓ : Loc Cert.ResidBwd.nD Cert.ResidBwd.τ Cert.ResidBwd.sig) → Buf (Elt Bits) ℓ) (g : Dev Cert.ResidBwd.nD → PrngReg), Pre_ResidBwd m →
    θ_run (Cert.ResidBwd.defs (F := Bits)) (onTc (τ := Cert.ResidBwd.τ) (Cert.ResidBwd.main (F := Bits))) ⟨m, fun _ => 0, g⟩ (fun r => (∀ c : Dev Cert.ResidBwd.nD,
      r.2.mem ((c.tc : Thread Cert.ResidBwd.nD Cert.ResidBwd.τ).loc Cert.ResidBwd.main_arg0) = m ((c.tc : Thread Cert.ResidBwd.nD Cert.ResidBwd.τ).loc Cert.ResidBwd.main_arg0)
      ∧ r.2.mem ((c.tc : Thread Cert.ResidBwd.nD Cert.ResidBwd.τ).loc Cert.ResidBwd.main_arg1) = m ((c.tc : Thread Cert.ResidBwd.nD Cert.ResidBwd.τ).loc Cert.ResidBwd.main_arg1)
      ∧ r.2.mem ((c.tc : Thread Cert.ResidBwd.nD Cert.ResidBwd.τ).loc Cert.ResidBwd.main_arg2) = m ((c.tc : Thread Cert.ResidBwd.nD Cert.ResidBwd.τ).loc Cert.ResidBwd.main_arg2)
      ∧ r.2.mem ((c.tc : Thread Cert.ResidBwd.nD Cert.ResidBwd.τ).loc Cert.ResidBwd.main_arg3) = m ((c.tc : Thread Cert.ResidBwd.nD Cert.ResidBwd.τ).loc Cert.ResidBwd.main_arg3))
      ∧ r.2.sem = fun _ => 0)

def quiescent_ResidBwdIdeal [hResidBwdIdeal : Cert.ResidBwdIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg), Pre_ResidBwdIdeal m →
    θ_run (Cert.ResidBwdIdeal.defs (F := Ideal)) (onTc (τ := Cert.ResidBwdIdeal.τ) (Cert.ResidBwdIdeal.main (F := Ideal))) ⟨m, fun _ => 0, g⟩ (fun r => (∀ c : Dev Cert.ResidBwdIdeal.nD,
      r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
      ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
      ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2)
      ∧ r.2.mem ((c.tc : Thread Cert.ResidBwdIdeal.nD Cert.ResidBwdIdeal.τ).loc Cert.ResidBwdIdeal.main_arg3) = m ((c.tc : Thread Cert.ResidBwdIdeal.nD Cert.ResidBwdIdeal.τ).loc Cert.ResidBwdIdeal.main_arg3))
      ∧ r.2.sem = fun _ => 0)

def quiescent_ResidBwdRefIdeal [hResidBwdRefIdeal : Cert.ResidBwdRefIdeal.Facts] : Prop :=
  ∀ (m : (ℓ : Loc Cert.ResidBwdRefIdeal.nD Cert.ResidBwdRefIdeal.τ Cert.ResidBwdRefIdeal.sig) → Buf (Elt Ideal) ℓ) (g : Dev Cert.ResidBwdRefIdeal.nD → PrngReg), Pre_ResidBwdRefIdeal m →
    θ_run (Cert.ResidBwdRefIdeal.defs (F := Ideal)) (onTc (τ := Cert.ResidBwdRefIdeal.τ) (Cert.ResidBwdRefIdeal.main (F := Ideal))) ⟨m, fun _ => 0, g⟩ (fun r => (∀ c : Dev Cert.ResidBwdRefIdeal.nD,
      r.2.mem ((c.tc : Thread Cert.ResidBwdRefIdeal.nD Cert.ResidBwdRefIdeal.τ).loc Cert.ResidBwdRefIdeal.main_arg0) = m ((c.tc : Thread Cert.ResidBwdRefIdeal.nD Cert.ResidBwdRefIdeal.τ).loc Cert.ResidBwdRefIdeal.main_arg0)
      ∧ r.2.mem ((c.tc : Thread Cert.ResidBwdRefIdeal.nD Cert.ResidBwdRefIdeal.τ).loc Cert.ResidBwdRefIdeal.main_arg1) = m ((c.tc : Thread Cert.ResidBwdRefIdeal.nD Cert.ResidBwdRefIdeal.τ).loc Cert.ResidBwdRefIdeal.main_arg1)
      ∧ r.2.mem ((c.tc : Thread Cert.ResidBwdRefIdeal.nD Cert.ResidBwdRefIdeal.τ).loc Cert.ResidBwdRefIdeal.main_arg2) = m ((c.tc : Thread Cert.ResidBwdRefIdeal.nD Cert.ResidBwdRefIdeal.τ).loc Cert.ResidBwdRefIdeal.main_arg2)
      ∧ r.2.mem ((c.tc : Thread Cert.ResidBwdRefIdeal.nD Cert.ResidBwdRefIdeal.τ).loc Cert.ResidBwdRefIdeal.main_arg3) = m ((c.tc : Thread Cert.ResidBwdRefIdeal.nD Cert.ResidBwdRefIdeal.τ).loc Cert.ResidBwdRefIdeal.main_arg3))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def preserves_Ssd_SsdIdeal : Prop :=
  True

def algebraic_SsdIdeal_SsdRefIdeal_pre_all_finite [hSsdIdeal : Cert.SsdIdeal.Facts] [hSsdRefIdeal : Cert.SsdRefIdeal.Facts] [hPre_all_finite : Cert.Pre_all_finite.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_all_finite m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v42_0)) (v1 : (c : Dev Cert.SsdIdeal.nD) → Buf (Elt Ideal) ((c.tc : Thread Cert.SsdIdeal.nD Cert.SsdIdeal.τ).loc Cert.SsdIdeal.main_v42_1)) (v2 : (c : Dev Cert.SsdIdeal.nD) → Buf (Elt Ideal) ((c.tc : Thread Cert.SsdIdeal.nD Cert.SsdIdeal.τ).loc Cert.SsdIdeal.main_v45)) (v3 : (c : Dev Cert.SsdIdeal.nD) → Buf (Elt Ideal) ((c.tc : Thread Cert.SsdIdeal.nD Cert.SsdIdeal.τ).loc Cert.SsdIdeal.main_v42_4)) (v4 : (c : Dev Cert.SsdIdeal.nD) → Buf (Elt Ideal) ((c.tc : Thread Cert.SsdIdeal.nD Cert.SsdIdeal.τ).loc Cert.SsdIdeal.main_v42_5)) (v5 : (c : Dev Cert.SsdIdeal.nD) → Buf (Elt Ideal) ((c.tc : Thread Cert.SsdIdeal.nD Cert.SsdIdeal.τ).loc Cert.SsdIdeal.main_v42_6)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v42_0) = v0 c
          ∧ r.2.mem ((c.tc : Thread Cert.SsdIdeal.nD Cert.SsdIdeal.τ).loc Cert.SsdIdeal.main_v42_1) = v1 c
          ∧ r.2.mem ((c.tc : Thread Cert.SsdIdeal.nD Cert.SsdIdeal.τ).loc Cert.SsdIdeal.main_v45) = v2 c
          ∧ r.2.mem ((c.tc : Thread Cert.SsdIdeal.nD Cert.SsdIdeal.τ).loc Cert.SsdIdeal.main_v42_4) = v3 c
          ∧ r.2.mem ((c.tc : Thread Cert.SsdIdeal.nD Cert.SsdIdeal.τ).loc Cert.SsdIdeal.main_v42_5) = v4 c
          ∧ r.2.mem ((c.tc : Thread Cert.SsdIdeal.nD Cert.SsdIdeal.τ).loc Cert.SsdIdeal.main_v42_6) = v5 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v157) = v0 c
          ∧ r.2.mem ((c.tc : Thread Cert.SsdRefIdeal.nD Cert.SsdRefIdeal.τ).loc Cert.SsdRefIdeal.main_v153) = v1 c
          ∧ r.2.mem ((c.tc : Thread Cert.SsdRefIdeal.nD Cert.SsdRefIdeal.τ).loc Cert.SsdRefIdeal.main_v145) = v2 c
          ∧ r.2.mem ((c.tc : Thread Cert.SsdRefIdeal.nD Cert.SsdRefIdeal.τ).loc Cert.SsdRefIdeal.main_v143) = v3 c
          ∧ r.2.mem ((c.tc : Thread Cert.SsdRefIdeal.nD Cert.SsdRefIdeal.τ).loc Cert.SsdRefIdeal.main_v142) = v4 c
          ∧ r.2.mem ((c.tc : Thread Cert.SsdRefIdeal.nD Cert.SsdRefIdeal.τ).loc Cert.SsdRefIdeal.main_v160) = v5 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_SsdFwd_SsdFwdIdeal : Prop :=
  True

def algebraic_SsdFwdIdeal_SsdFwdRefIdeal_pre_finite_inputs [hSsdFwdIdeal : Cert.SsdFwdIdeal.Facts] [hSsdFwdRefIdeal : Cert.SsdFwdRefIdeal.Facts] [hPre_finite_inputs : Cert.Pre_finite_inputs.Facts] : Prop :=
  ∀ (m : (ℓ : Loc Cert.SsdFwdIdeal.nD Cert.SsdFwdIdeal.τ Cert.SsdFwdIdeal.sig) → Buf (Elt Ideal) ℓ) (g : Dev Cert.SsdFwdIdeal.nD → PrngReg)
    (m' : (ℓ : Loc Cert.SsdFwdRefIdeal.nD Cert.SsdFwdRefIdeal.τ Cert.SsdFwdRefIdeal.sig) → Buf (Elt Ideal) ℓ) (g' : Dev Cert.SsdFwdRefIdeal.nD → PrngReg), Pre_SsdFwdIdeal_finite_inputs m →
    (∀ c : Dev Cert.SsdFwdIdeal.nD,
      m' ((c.tc : Thread Cert.SsdFwdRefIdeal.nD Cert.SsdFwdRefIdeal.τ).loc Cert.SsdFwdRefIdeal.main_arg0) = m ((c.tc : Thread Cert.SsdFwdIdeal.nD Cert.SsdFwdIdeal.τ).loc Cert.SsdFwdIdeal.main_arg0)
      ∧ m' ((c.tc : Thread Cert.SsdFwdRefIdeal.nD Cert.SsdFwdRefIdeal.τ).loc Cert.SsdFwdRefIdeal.main_arg1) = m ((c.tc : Thread Cert.SsdFwdIdeal.nD Cert.SsdFwdIdeal.τ).loc Cert.SsdFwdIdeal.main_arg1)
      ∧ m' ((c.tc : Thread Cert.SsdFwdRefIdeal.nD Cert.SsdFwdRefIdeal.τ).loc Cert.SsdFwdRefIdeal.main_arg2) = m ((c.tc : Thread Cert.SsdFwdIdeal.nD Cert.SsdFwdIdeal.τ).loc Cert.SsdFwdIdeal.main_arg2)
      ∧ m' ((c.tc : Thread Cert.SsdFwdRefIdeal.nD Cert.SsdFwdRefIdeal.τ).loc Cert.SsdFwdRefIdeal.main_arg3) = m ((c.tc : Thread Cert.SsdFwdIdeal.nD Cert.SsdFwdIdeal.τ).loc Cert.SsdFwdIdeal.main_arg3)
      ∧ m' ((c.tc : Thread Cert.SsdFwdRefIdeal.nD Cert.SsdFwdRefIdeal.τ).loc Cert.SsdFwdRefIdeal.main_arg4) = m ((c.tc : Thread Cert.SsdFwdIdeal.nD Cert.SsdFwdIdeal.τ).loc Cert.SsdFwdIdeal.main_arg4)
      ∧ m' ((c.tc : Thread Cert.SsdFwdRefIdeal.nD Cert.SsdFwdRefIdeal.τ).loc Cert.SsdFwdRefIdeal.main_arg5) = m ((c.tc : Thread Cert.SsdFwdIdeal.nD Cert.SsdFwdIdeal.τ).loc Cert.SsdFwdIdeal.main_arg5)) →
    ∃ (v0 : (c : Dev Cert.SsdFwdIdeal.nD) → Buf (Elt Ideal) ((c.tc : Thread Cert.SsdFwdIdeal.nD Cert.SsdFwdIdeal.τ).loc Cert.SsdFwdIdeal.main_v2_0)) (v1 : (c : Dev Cert.SsdFwdIdeal.nD) → Buf (Elt Ideal) ((c.tc : Thread Cert.SsdFwdIdeal.nD Cert.SsdFwdIdeal.τ).loc Cert.SsdFwdIdeal.main_v2_1)),
      θ_run (Cert.SsdFwdIdeal.defs (F := Ideal)) (onTc (τ := Cert.SsdFwdIdeal.τ) (Cert.SsdFwdIdeal.main (F := Ideal))) ⟨m, fun _ => 0, g⟩ (fun r => ∀ c : Dev Cert.SsdFwdIdeal.nD,
          r.2.mem ((c.tc : Thread Cert.SsdFwdIdeal.nD Cert.SsdFwdIdeal.τ).loc Cert.SsdFwdIdeal.main_v2_0) = v0 c
          ∧ r.2.mem ((c.tc : Thread Cert.SsdFwdIdeal.nD Cert.SsdFwdIdeal.τ).loc Cert.SsdFwdIdeal.main_v2_1) = v1 c
          ∧ r.2.mem ((c.tc : Thread Cert.SsdFwdIdeal.nD Cert.SsdFwdIdeal.τ).loc Cert.SsdFwdIdeal.main_arg0) = m ((c.tc : Thread Cert.SsdFwdIdeal.nD Cert.SsdFwdIdeal.τ).loc Cert.SsdFwdIdeal.main_arg0)
          ∧ r.2.mem ((c.tc : Thread Cert.SsdFwdIdeal.nD Cert.SsdFwdIdeal.τ).loc Cert.SsdFwdIdeal.main_arg1) = m ((c.tc : Thread Cert.SsdFwdIdeal.nD Cert.SsdFwdIdeal.τ).loc Cert.SsdFwdIdeal.main_arg1)
          ∧ r.2.mem ((c.tc : Thread Cert.SsdFwdIdeal.nD Cert.SsdFwdIdeal.τ).loc Cert.SsdFwdIdeal.main_arg2) = m ((c.tc : Thread Cert.SsdFwdIdeal.nD Cert.SsdFwdIdeal.τ).loc Cert.SsdFwdIdeal.main_arg2)
          ∧ r.2.mem ((c.tc : Thread Cert.SsdFwdIdeal.nD Cert.SsdFwdIdeal.τ).loc Cert.SsdFwdIdeal.main_arg3) = m ((c.tc : Thread Cert.SsdFwdIdeal.nD Cert.SsdFwdIdeal.τ).loc Cert.SsdFwdIdeal.main_arg3)
          ∧ r.2.mem ((c.tc : Thread Cert.SsdFwdIdeal.nD Cert.SsdFwdIdeal.τ).loc Cert.SsdFwdIdeal.main_arg4) = m ((c.tc : Thread Cert.SsdFwdIdeal.nD Cert.SsdFwdIdeal.τ).loc Cert.SsdFwdIdeal.main_arg4)
          ∧ r.2.mem ((c.tc : Thread Cert.SsdFwdIdeal.nD Cert.SsdFwdIdeal.τ).loc Cert.SsdFwdIdeal.main_arg5) = m ((c.tc : Thread Cert.SsdFwdIdeal.nD Cert.SsdFwdIdeal.τ).loc Cert.SsdFwdIdeal.main_arg5))
      ∧ θ_run (Cert.SsdFwdRefIdeal.defs (F := Ideal)) (onTc (τ := Cert.SsdFwdRefIdeal.τ) (Cert.SsdFwdRefIdeal.main (F := Ideal))) ⟨m', fun _ => 0, g'⟩ (fun r => ∀ c : Dev Cert.SsdFwdRefIdeal.nD,
          r.2.mem ((c.tc : Thread Cert.SsdFwdRefIdeal.nD Cert.SsdFwdRefIdeal.τ).loc Cert.SsdFwdRefIdeal.main_v75) = v0 c
          ∧ r.2.mem ((c.tc : Thread Cert.SsdFwdRefIdeal.nD Cert.SsdFwdRefIdeal.τ).loc Cert.SsdFwdRefIdeal.main_v105) = v1 c
          ∧ r.2.mem ((c.tc : Thread Cert.SsdFwdRefIdeal.nD Cert.SsdFwdRefIdeal.τ).loc Cert.SsdFwdRefIdeal.main_arg0) = m' ((c.tc : Thread Cert.SsdFwdRefIdeal.nD Cert.SsdFwdRefIdeal.τ).loc Cert.SsdFwdRefIdeal.main_arg0)
          ∧ r.2.mem ((c.tc : Thread Cert.SsdFwdRefIdeal.nD Cert.SsdFwdRefIdeal.τ).loc Cert.SsdFwdRefIdeal.main_arg1) = m' ((c.tc : Thread Cert.SsdFwdRefIdeal.nD Cert.SsdFwdRefIdeal.τ).loc Cert.SsdFwdRefIdeal.main_arg1)
          ∧ r.2.mem ((c.tc : Thread Cert.SsdFwdRefIdeal.nD Cert.SsdFwdRefIdeal.τ).loc Cert.SsdFwdRefIdeal.main_arg2) = m' ((c.tc : Thread Cert.SsdFwdRefIdeal.nD Cert.SsdFwdRefIdeal.τ).loc Cert.SsdFwdRefIdeal.main_arg2)
          ∧ r.2.mem ((c.tc : Thread Cert.SsdFwdRefIdeal.nD Cert.SsdFwdRefIdeal.τ).loc Cert.SsdFwdRefIdeal.main_arg3) = m' ((c.tc : Thread Cert.SsdFwdRefIdeal.nD Cert.SsdFwdRefIdeal.τ).loc Cert.SsdFwdRefIdeal.main_arg3)
          ∧ r.2.mem ((c.tc : Thread Cert.SsdFwdRefIdeal.nD Cert.SsdFwdRefIdeal.τ).loc Cert.SsdFwdRefIdeal.main_arg4) = m' ((c.tc : Thread Cert.SsdFwdRefIdeal.nD Cert.SsdFwdRefIdeal.τ).loc Cert.SsdFwdRefIdeal.main_arg4)
          ∧ r.2.mem ((c.tc : Thread Cert.SsdFwdRefIdeal.nD Cert.SsdFwdRefIdeal.τ).loc Cert.SsdFwdRefIdeal.main_arg5) = m' ((c.tc : Thread Cert.SsdFwdRefIdeal.nD Cert.SsdFwdRefIdeal.τ).loc Cert.SsdFwdRefIdeal.main_arg5))

def preserves_GuDx_GuDxIdeal : Prop :=
  True

def algebraic_GuDxIdeal_GuDxRefIdeal [hGuDxIdeal : Cert.GuDxIdeal.Facts] [hGuDxRefIdeal : Cert.GuDxRefIdeal.Facts] : Prop :=
  ∀ (m : (ℓ : Loc Cert.GuDxIdeal.nD Cert.GuDxIdeal.τ Cert.GuDxIdeal.sig) → Buf (Elt Ideal) ℓ) (g : Dev Cert.GuDxIdeal.nD → PrngReg)
    (m' : (ℓ : Loc Cert.GuDxRefIdeal.nD Cert.GuDxRefIdeal.τ Cert.GuDxRefIdeal.sig) → Buf (Elt Ideal) ℓ) (g' : Dev Cert.GuDxRefIdeal.nD → PrngReg), Pre_GuDxIdeal m →
    (∀ c : Dev Cert.GuDxIdeal.nD,
      m' ((c.tc : Thread Cert.GuDxRefIdeal.nD Cert.GuDxRefIdeal.τ).loc Cert.GuDxRefIdeal.main_arg0) = m ((c.tc : Thread Cert.GuDxIdeal.nD Cert.GuDxIdeal.τ).loc Cert.GuDxIdeal.main_arg0)
      ∧ m' ((c.tc : Thread Cert.GuDxRefIdeal.nD Cert.GuDxRefIdeal.τ).loc Cert.GuDxRefIdeal.main_arg1) = m ((c.tc : Thread Cert.GuDxIdeal.nD Cert.GuDxIdeal.τ).loc Cert.GuDxIdeal.main_arg1)) →
    ∃ (v0 : (c : Dev Cert.GuDxIdeal.nD) → Buf (Elt Ideal) ((c.tc : Thread Cert.GuDxIdeal.nD Cert.GuDxIdeal.τ).loc Cert.GuDxIdeal.main_v0)),
      θ_run (Cert.GuDxIdeal.defs (F := Ideal)) (onTc (τ := Cert.GuDxIdeal.τ) (Cert.GuDxIdeal.main (F := Ideal))) ⟨m, fun _ => 0, g⟩ (fun r => ∀ c : Dev Cert.GuDxIdeal.nD,
          r.2.mem ((c.tc : Thread Cert.GuDxIdeal.nD Cert.GuDxIdeal.τ).loc Cert.GuDxIdeal.main_v0) = v0 c
          ∧ r.2.mem ((c.tc : Thread Cert.GuDxIdeal.nD Cert.GuDxIdeal.τ).loc Cert.GuDxIdeal.main_arg0) = m ((c.tc : Thread Cert.GuDxIdeal.nD Cert.GuDxIdeal.τ).loc Cert.GuDxIdeal.main_arg0)
          ∧ r.2.mem ((c.tc : Thread Cert.GuDxIdeal.nD Cert.GuDxIdeal.τ).loc Cert.GuDxIdeal.main_arg1) = m ((c.tc : Thread Cert.GuDxIdeal.nD Cert.GuDxIdeal.τ).loc Cert.GuDxIdeal.main_arg1))
      ∧ θ_run (Cert.GuDxRefIdeal.defs (F := Ideal)) (onTc (τ := Cert.GuDxRefIdeal.τ) (Cert.GuDxRefIdeal.main (F := Ideal))) ⟨m', fun _ => 0, g'⟩ (fun r => ∀ c : Dev Cert.GuDxRefIdeal.nD,
          r.2.mem ((c.tc : Thread Cert.GuDxRefIdeal.nD Cert.GuDxRefIdeal.τ).loc Cert.GuDxRefIdeal.main_v8) = v0 c
          ∧ r.2.mem ((c.tc : Thread Cert.GuDxRefIdeal.nD Cert.GuDxRefIdeal.τ).loc Cert.GuDxRefIdeal.main_arg0) = m' ((c.tc : Thread Cert.GuDxRefIdeal.nD Cert.GuDxRefIdeal.τ).loc Cert.GuDxRefIdeal.main_arg0)
          ∧ r.2.mem ((c.tc : Thread Cert.GuDxRefIdeal.nD Cert.GuDxRefIdeal.τ).loc Cert.GuDxRefIdeal.main_arg1) = m' ((c.tc : Thread Cert.GuDxRefIdeal.nD Cert.GuDxRefIdeal.τ).loc Cert.GuDxRefIdeal.main_arg1))

def preserves_GuDw_GuDwIdeal : Prop :=
  True

def algebraic_GuDwIdeal_GuDwRefIdeal [hGuDwIdeal : Cert.GuDwIdeal.Facts] [hGuDwRefIdeal : Cert.GuDwRefIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwRefIdeal.nD Cert.GuDwRefIdeal.τ Cert.GuDwRefIdeal.sig) → Buf (Elt Ideal) ℓ) (g' : Dev Cert.GuDwRefIdeal.nD → PrngReg), Pre_GuDwIdeal m →
    (∀ c : Dev Cert.GuDwIdeal.nD,
      m' ((c.tc : Thread Cert.GuDwRefIdeal.nD Cert.GuDwRefIdeal.τ).loc Cert.GuDwRefIdeal.main_arg0) = m ((c.tc : Thread Cert.GuDwIdeal.nD Cert.GuDwIdeal.τ).loc Cert.GuDwIdeal.main_arg0)
      ∧ m' ((c.tc : Thread Cert.GuDwRefIdeal.nD Cert.GuDwRefIdeal.τ).loc Cert.GuDwRefIdeal.main_arg1) = m ((c.tc : Thread Cert.GuDwIdeal.nD Cert.GuDwIdeal.τ).loc Cert.GuDwIdeal.main_arg1)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ θ_run (Cert.GuDwRefIdeal.defs (F := Ideal)) (onTc (τ := Cert.GuDwRefIdeal.τ) (Cert.GuDwRefIdeal.main (F := Ideal))) ⟨m', fun _ => 0, g'⟩ (fun r => ∀ c : Dev Cert.GuDwRefIdeal.nD,
          r.2.mem ((c.tc : Thread Cert.GuDwRefIdeal.nD Cert.GuDwRefIdeal.τ).loc Cert.GuDwRefIdeal.main_v9) = v0 c
          ∧ r.2.mem ((c.tc : Thread Cert.GuDwRefIdeal.nD Cert.GuDwRefIdeal.τ).loc Cert.GuDwRefIdeal.main_arg0) = m' ((c.tc : Thread Cert.GuDwRefIdeal.nD Cert.GuDwRefIdeal.τ).loc Cert.GuDwRefIdeal.main_arg0)
          ∧ r.2.mem ((c.tc : Thread Cert.GuDwRefIdeal.nD Cert.GuDwRefIdeal.τ).loc Cert.GuDwRefIdeal.main_arg1) = m' ((c.tc : Thread Cert.GuDwRefIdeal.nD Cert.GuDwRefIdeal.τ).loc Cert.GuDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GuFwd_GuFwdIdeal : Prop :=
  True

def algebraic_GuFwdIdeal_GuFwdRefIdeal [hGuFwdIdeal : Cert.GuFwdIdeal.Facts] [hGuFwdRefIdeal : Cert.GuFwdRefIdeal.Facts] : Prop :=
  ∀ (m : (ℓ : Loc Cert.GuFwdIdeal.nD Cert.GuFwdIdeal.τ Cert.GuFwdIdeal.sig) → Buf (Elt Ideal) ℓ) (g : Dev Cert.GuFwdIdeal.nD → PrngReg)
    (m' : (ℓ : Loc Cert.GuFwdRefIdeal.nD Cert.GuFwdRefIdeal.τ Cert.GuFwdRefIdeal.sig) → Buf (Elt Ideal) ℓ) (g' : Dev Cert.GuFwdRefIdeal.nD → PrngReg), Pre_GuFwdIdeal m →
    (∀ c : Dev Cert.GuFwdIdeal.nD,
      m' ((c.tc : Thread Cert.GuFwdRefIdeal.nD Cert.GuFwdRefIdeal.τ).loc Cert.GuFwdRefIdeal.main_arg0) = m ((c.tc : Thread Cert.GuFwdIdeal.nD Cert.GuFwdIdeal.τ).loc Cert.GuFwdIdeal.main_arg0)
      ∧ m' ((c.tc : Thread Cert.GuFwdRefIdeal.nD Cert.GuFwdRefIdeal.τ).loc Cert.GuFwdRefIdeal.main_arg1) = m ((c.tc : Thread Cert.GuFwdIdeal.nD Cert.GuFwdIdeal.τ).loc Cert.GuFwdIdeal.main_arg1)) →
    ∃ (v0 : (c : Dev Cert.GuFwdIdeal.nD) → Buf (Elt Ideal) ((c.tc : Thread Cert.GuFwdIdeal.nD Cert.GuFwdIdeal.τ).loc Cert.GuFwdIdeal.main_v0)),
      θ_run (Cert.GuFwdIdeal.defs (F := Ideal)) (onTc (τ := Cert.GuFwdIdeal.τ) (Cert.GuFwdIdeal.main (F := Ideal))) ⟨m, fun _ => 0, g⟩ (fun r => ∀ c : Dev Cert.GuFwdIdeal.nD,
          r.2.mem ((c.tc : Thread Cert.GuFwdIdeal.nD Cert.GuFwdIdeal.τ).loc Cert.GuFwdIdeal.main_v0) = v0 c
          ∧ r.2.mem ((c.tc : Thread Cert.GuFwdIdeal.nD Cert.GuFwdIdeal.τ).loc Cert.GuFwdIdeal.main_arg0) = m ((c.tc : Thread Cert.GuFwdIdeal.nD Cert.GuFwdIdeal.τ).loc Cert.GuFwdIdeal.main_arg0)
          ∧ r.2.mem ((c.tc : Thread Cert.GuFwdIdeal.nD Cert.GuFwdIdeal.τ).loc Cert.GuFwdIdeal.main_arg1) = m ((c.tc : Thread Cert.GuFwdIdeal.nD Cert.GuFwdIdeal.τ).loc Cert.GuFwdIdeal.main_arg1))
      ∧ θ_run (Cert.GuFwdRefIdeal.defs (F := Ideal)) (onTc (τ := Cert.GuFwdRefIdeal.τ) (Cert.GuFwdRefIdeal.main (F := Ideal))) ⟨m', fun _ => 0, g'⟩ (fun r => ∀ c : Dev Cert.GuFwdRefIdeal.nD,
          r.2.mem ((c.tc : Thread Cert.GuFwdRefIdeal.nD Cert.GuFwdRefIdeal.τ).loc Cert.GuFwdRefIdeal.main_v6) = v0 c
          ∧ r.2.mem ((c.tc : Thread Cert.GuFwdRefIdeal.nD Cert.GuFwdRefIdeal.τ).loc Cert.GuFwdRefIdeal.main_arg0) = m' ((c.tc : Thread Cert.GuFwdRefIdeal.nD Cert.GuFwdRefIdeal.τ).loc Cert.GuFwdRefIdeal.main_arg0)
          ∧ r.2.mem ((c.tc : Thread Cert.GuFwdRefIdeal.nD Cert.GuFwdRefIdeal.τ).loc Cert.GuFwdRefIdeal.main_arg1) = m' ((c.tc : Thread Cert.GuFwdRefIdeal.nD Cert.GuFwdRefIdeal.τ).loc Cert.GuFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_SsdZDx_SsdZDxIdeal : Prop :=
  True

def algebraic_SsdZDxIdeal_SsdZDxRefIdeal [hSsdZDxIdeal : Cert.SsdZDxIdeal.Facts] [hSsdZDxRefIdeal : Cert.SsdZDxRefIdeal.Facts] : Prop :=
  ∀ (m : (ℓ : Loc Cert.SsdZDxIdeal.nD Cert.SsdZDxIdeal.τ Cert.SsdZDxIdeal.sig) → Buf (Elt Ideal) ℓ) (g : Dev Cert.SsdZDxIdeal.nD → PrngReg)
    (m' : (ℓ : Loc Cert.SsdZDxRefIdeal.nD Cert.SsdZDxRefIdeal.τ Cert.SsdZDxRefIdeal.sig) → Buf (Elt Ideal) ℓ) (g' : Dev Cert.SsdZDxRefIdeal.nD → PrngReg), Pre_SsdZDxIdeal m →
    (∀ c : Dev Cert.SsdZDxIdeal.nD,
      m' ((c.tc : Thread Cert.SsdZDxRefIdeal.nD Cert.SsdZDxRefIdeal.τ).loc Cert.SsdZDxRefIdeal.main_arg0) = m ((c.tc : Thread Cert.SsdZDxIdeal.nD Cert.SsdZDxIdeal.τ).loc Cert.SsdZDxIdeal.main_arg0)
      ∧ m' ((c.tc : Thread Cert.SsdZDxRefIdeal.nD Cert.SsdZDxRefIdeal.τ).loc Cert.SsdZDxRefIdeal.main_arg1) = m ((c.tc : Thread Cert.SsdZDxIdeal.nD Cert.SsdZDxIdeal.τ).loc Cert.SsdZDxIdeal.main_arg1)) →
    ∃ (v0 : (c : Dev Cert.SsdZDxIdeal.nD) → Buf (Elt Ideal) ((c.tc : Thread Cert.SsdZDxIdeal.nD Cert.SsdZDxIdeal.τ).loc Cert.SsdZDxIdeal.main_v0)),
      θ_run (Cert.SsdZDxIdeal.defs (F := Ideal)) (onTc (τ := Cert.SsdZDxIdeal.τ) (Cert.SsdZDxIdeal.main (F := Ideal))) ⟨m, fun _ => 0, g⟩ (fun r => ∀ c : Dev Cert.SsdZDxIdeal.nD,
          r.2.mem ((c.tc : Thread Cert.SsdZDxIdeal.nD Cert.SsdZDxIdeal.τ).loc Cert.SsdZDxIdeal.main_v0) = v0 c
          ∧ r.2.mem ((c.tc : Thread Cert.SsdZDxIdeal.nD Cert.SsdZDxIdeal.τ).loc Cert.SsdZDxIdeal.main_arg0) = m ((c.tc : Thread Cert.SsdZDxIdeal.nD Cert.SsdZDxIdeal.τ).loc Cert.SsdZDxIdeal.main_arg0)
          ∧ r.2.mem ((c.tc : Thread Cert.SsdZDxIdeal.nD Cert.SsdZDxIdeal.τ).loc Cert.SsdZDxIdeal.main_arg1) = m ((c.tc : Thread Cert.SsdZDxIdeal.nD Cert.SsdZDxIdeal.τ).loc Cert.SsdZDxIdeal.main_arg1))
      ∧ θ_run (Cert.SsdZDxRefIdeal.defs (F := Ideal)) (onTc (τ := Cert.SsdZDxRefIdeal.τ) (Cert.SsdZDxRefIdeal.main (F := Ideal))) ⟨m', fun _ => 0, g'⟩ (fun r => ∀ c : Dev Cert.SsdZDxRefIdeal.nD,
          r.2.mem ((c.tc : Thread Cert.SsdZDxRefIdeal.nD Cert.SsdZDxRefIdeal.τ).loc Cert.SsdZDxRefIdeal.main_v4) = v0 c
          ∧ r.2.mem ((c.tc : Thread Cert.SsdZDxRefIdeal.nD Cert.SsdZDxRefIdeal.τ).loc Cert.SsdZDxRefIdeal.main_arg0) = m' ((c.tc : Thread Cert.SsdZDxRefIdeal.nD Cert.SsdZDxRefIdeal.τ).loc Cert.SsdZDxRefIdeal.main_arg0)
          ∧ r.2.mem ((c.tc : Thread Cert.SsdZDxRefIdeal.nD Cert.SsdZDxRefIdeal.τ).loc Cert.SsdZDxRefIdeal.main_arg1) = m' ((c.tc : Thread Cert.SsdZDxRefIdeal.nD Cert.SsdZDxRefIdeal.τ).loc Cert.SsdZDxRefIdeal.main_arg1))

def preserves_SsdZDw_SsdZDwIdeal : Prop :=
  True

def algebraic_SsdZDwIdeal_SsdZDwRefIdeal [hSsdZDwIdeal : Cert.SsdZDwIdeal.Facts] [hSsdZDwRefIdeal : Cert.SsdZDwRefIdeal.Facts] : Prop :=
  ∀ (m : (ℓ : Loc Cert.SsdZDwIdeal.nD Cert.SsdZDwIdeal.τ Cert.SsdZDwIdeal.sig) → Buf (Elt Ideal) ℓ) (g : Dev Cert.SsdZDwIdeal.nD → PrngReg)
    (m' : (ℓ : Loc Cert.SsdZDwRefIdeal.nD Cert.SsdZDwRefIdeal.τ Cert.SsdZDwRefIdeal.sig) → Buf (Elt Ideal) ℓ) (g' : Dev Cert.SsdZDwRefIdeal.nD → PrngReg), Pre_SsdZDwIdeal m →
    (∀ c : Dev Cert.SsdZDwIdeal.nD,
      m' ((c.tc : Thread Cert.SsdZDwRefIdeal.nD Cert.SsdZDwRefIdeal.τ).loc Cert.SsdZDwRefIdeal.main_arg0) = m ((c.tc : Thread Cert.SsdZDwIdeal.nD Cert.SsdZDwIdeal.τ).loc Cert.SsdZDwIdeal.main_arg0)
      ∧ m' ((c.tc : Thread Cert.SsdZDwRefIdeal.nD Cert.SsdZDwRefIdeal.τ).loc Cert.SsdZDwRefIdeal.main_arg1) = m ((c.tc : Thread Cert.SsdZDwIdeal.nD Cert.SsdZDwIdeal.τ).loc Cert.SsdZDwIdeal.main_arg1)) →
    ∃ (v0 : (c : Dev Cert.SsdZDwIdeal.nD) → Buf (Elt Ideal) ((c.tc : Thread Cert.SsdZDwIdeal.nD Cert.SsdZDwIdeal.τ).loc Cert.SsdZDwIdeal.main_v0)),
      θ_run (Cert.SsdZDwIdeal.defs (F := Ideal)) (onTc (τ := Cert.SsdZDwIdeal.τ) (Cert.SsdZDwIdeal.main (F := Ideal))) ⟨m, fun _ => 0, g⟩ (fun r => ∀ c : Dev Cert.SsdZDwIdeal.nD,
          r.2.mem ((c.tc : Thread Cert.SsdZDwIdeal.nD Cert.SsdZDwIdeal.τ).loc Cert.SsdZDwIdeal.main_v0) = v0 c
          ∧ r.2.mem ((c.tc : Thread Cert.SsdZDwIdeal.nD Cert.SsdZDwIdeal.τ).loc Cert.SsdZDwIdeal.main_arg0) = m ((c.tc : Thread Cert.SsdZDwIdeal.nD Cert.SsdZDwIdeal.τ).loc Cert.SsdZDwIdeal.main_arg0)
          ∧ r.2.mem ((c.tc : Thread Cert.SsdZDwIdeal.nD Cert.SsdZDwIdeal.τ).loc Cert.SsdZDwIdeal.main_arg1) = m ((c.tc : Thread Cert.SsdZDwIdeal.nD Cert.SsdZDwIdeal.τ).loc Cert.SsdZDwIdeal.main_arg1))
      ∧ θ_run (Cert.SsdZDwRefIdeal.defs (F := Ideal)) (onTc (τ := Cert.SsdZDwRefIdeal.τ) (Cert.SsdZDwRefIdeal.main (F := Ideal))) ⟨m', fun _ => 0, g'⟩ (fun r => ∀ c : Dev Cert.SsdZDwRefIdeal.nD,
          r.2.mem ((c.tc : Thread Cert.SsdZDwRefIdeal.nD Cert.SsdZDwRefIdeal.τ).loc Cert.SsdZDwRefIdeal.main_v4) = v0 c
          ∧ r.2.mem ((c.tc : Thread Cert.SsdZDwRefIdeal.nD Cert.SsdZDwRefIdeal.τ).loc Cert.SsdZDwRefIdeal.main_arg0) = m' ((c.tc : Thread Cert.SsdZDwRefIdeal.nD Cert.SsdZDwRefIdeal.τ).loc Cert.SsdZDwRefIdeal.main_arg0)
          ∧ r.2.mem ((c.tc : Thread Cert.SsdZDwRefIdeal.nD Cert.SsdZDwRefIdeal.τ).loc Cert.SsdZDwRefIdeal.main_arg1) = m' ((c.tc : Thread Cert.SsdZDwRefIdeal.nD Cert.SsdZDwRefIdeal.τ).loc Cert.SsdZDwRefIdeal.main_arg1))

def preserves_SsdZFwd_SsdZFwdIdeal : Prop :=
  True

def algebraic_SsdZFwdIdeal_SsdZFwdRefIdeal [hSsdZFwdIdeal : Cert.SsdZFwdIdeal.Facts] [hSsdZFwdRefIdeal : Cert.SsdZFwdRefIdeal.Facts] : Prop :=
  ∀ (m : (ℓ : Loc Cert.SsdZFwdIdeal.nD Cert.SsdZFwdIdeal.τ Cert.SsdZFwdIdeal.sig) → Buf (Elt Ideal) ℓ) (g : Dev Cert.SsdZFwdIdeal.nD → PrngReg)
    (m' : (ℓ : Loc Cert.SsdZFwdRefIdeal.nD Cert.SsdZFwdRefIdeal.τ Cert.SsdZFwdRefIdeal.sig) → Buf (Elt Ideal) ℓ) (g' : Dev Cert.SsdZFwdRefIdeal.nD → PrngReg), Pre_SsdZFwdIdeal m →
    (∀ c : Dev Cert.SsdZFwdIdeal.nD,
      m' ((c.tc : Thread Cert.SsdZFwdRefIdeal.nD Cert.SsdZFwdRefIdeal.τ).loc Cert.SsdZFwdRefIdeal.main_arg0) = m ((c.tc : Thread Cert.SsdZFwdIdeal.nD Cert.SsdZFwdIdeal.τ).loc Cert.SsdZFwdIdeal.main_arg0)
      ∧ m' ((c.tc : Thread Cert.SsdZFwdRefIdeal.nD Cert.SsdZFwdRefIdeal.τ).loc Cert.SsdZFwdRefIdeal.main_arg1) = m ((c.tc : Thread Cert.SsdZFwdIdeal.nD Cert.SsdZFwdIdeal.τ).loc Cert.SsdZFwdIdeal.main_arg1)) →
    ∃ (v0 : (c : Dev Cert.SsdZFwdIdeal.nD) → Buf (Elt Ideal) ((c.tc : Thread Cert.SsdZFwdIdeal.nD Cert.SsdZFwdIdeal.τ).loc Cert.SsdZFwdIdeal.main_v0)),
      θ_run (Cert.SsdZFwdIdeal.defs (F := Ideal)) (onTc (τ := Cert.SsdZFwdIdeal.τ) (Cert.SsdZFwdIdeal.main (F := Ideal))) ⟨m, fun _ => 0, g⟩ (fun r => ∀ c : Dev Cert.SsdZFwdIdeal.nD,
          r.2.mem ((c.tc : Thread Cert.SsdZFwdIdeal.nD Cert.SsdZFwdIdeal.τ).loc Cert.SsdZFwdIdeal.main_v0) = v0 c
          ∧ r.2.mem ((c.tc : Thread Cert.SsdZFwdIdeal.nD Cert.SsdZFwdIdeal.τ).loc Cert.SsdZFwdIdeal.main_arg0) = m ((c.tc : Thread Cert.SsdZFwdIdeal.nD Cert.SsdZFwdIdeal.τ).loc Cert.SsdZFwdIdeal.main_arg0)
          ∧ r.2.mem ((c.tc : Thread Cert.SsdZFwdIdeal.nD Cert.SsdZFwdIdeal.τ).loc Cert.SsdZFwdIdeal.main_arg1) = m ((c.tc : Thread Cert.SsdZFwdIdeal.nD Cert.SsdZFwdIdeal.τ).loc Cert.SsdZFwdIdeal.main_arg1))
      ∧ θ_run (Cert.SsdZFwdRefIdeal.defs (F := Ideal)) (onTc (τ := Cert.SsdZFwdRefIdeal.τ) (Cert.SsdZFwdRefIdeal.main (F := Ideal))) ⟨m', fun _ => 0, g'⟩ (fun r => ∀ c : Dev Cert.SsdZFwdRefIdeal.nD,
          r.2.mem ((c.tc : Thread Cert.SsdZFwdRefIdeal.nD Cert.SsdZFwdRefIdeal.τ).loc Cert.SsdZFwdRefIdeal.main_v2) = v0 c
          ∧ r.2.mem ((c.tc : Thread Cert.SsdZFwdRefIdeal.nD Cert.SsdZFwdRefIdeal.τ).loc Cert.SsdZFwdRefIdeal.main_arg0) = m' ((c.tc : Thread Cert.SsdZFwdRefIdeal.nD Cert.SsdZFwdRefIdeal.τ).loc Cert.SsdZFwdRefIdeal.main_arg0)
          ∧ r.2.mem ((c.tc : Thread Cert.SsdZFwdRefIdeal.nD Cert.SsdZFwdRefIdeal.τ).loc Cert.SsdZFwdRefIdeal.main_arg1) = m' ((c.tc : Thread Cert.SsdZFwdRefIdeal.nD Cert.SsdZFwdRefIdeal.τ).loc Cert.SsdZFwdRefIdeal.main_arg1))

def preserves_SsdXbcDx_SsdXbcDxIdeal : Prop :=
  True

def algebraic_SsdXbcDxIdeal_SsdXbcDxRefIdeal [hSsdXbcDxIdeal : Cert.SsdXbcDxIdeal.Facts] [hSsdXbcDxRefIdeal : Cert.SsdXbcDxRefIdeal.Facts] : Prop :=
  ∀ (m : (ℓ : Loc Cert.SsdXbcDxIdeal.nD Cert.SsdXbcDxIdeal.τ Cert.SsdXbcDxIdeal.sig) → Buf (Elt Ideal) ℓ) (g : Dev Cert.SsdXbcDxIdeal.nD → PrngReg)
    (m' : (ℓ : Loc Cert.SsdXbcDxRefIdeal.nD Cert.SsdXbcDxRefIdeal.τ Cert.SsdXbcDxRefIdeal.sig) → Buf (Elt Ideal) ℓ) (g' : Dev Cert.SsdXbcDxRefIdeal.nD → PrngReg), Pre_SsdXbcDxIdeal m →
    (∀ c : Dev Cert.SsdXbcDxIdeal.nD,
      m' ((c.tc : Thread Cert.SsdXbcDxRefIdeal.nD Cert.SsdXbcDxRefIdeal.τ).loc Cert.SsdXbcDxRefIdeal.main_arg0) = m ((c.tc : Thread Cert.SsdXbcDxIdeal.nD Cert.SsdXbcDxIdeal.τ).loc Cert.SsdXbcDxIdeal.main_arg0)
      ∧ m' ((c.tc : Thread Cert.SsdXbcDxRefIdeal.nD Cert.SsdXbcDxRefIdeal.τ).loc Cert.SsdXbcDxRefIdeal.main_arg1) = m ((c.tc : Thread Cert.SsdXbcDxIdeal.nD Cert.SsdXbcDxIdeal.τ).loc Cert.SsdXbcDxIdeal.main_arg1)) →
    ∃ (v0 : (c : Dev Cert.SsdXbcDxIdeal.nD) → Buf (Elt Ideal) ((c.tc : Thread Cert.SsdXbcDxIdeal.nD Cert.SsdXbcDxIdeal.τ).loc Cert.SsdXbcDxIdeal.main_v0)),
      θ_run (Cert.SsdXbcDxIdeal.defs (F := Ideal)) (onTc (τ := Cert.SsdXbcDxIdeal.τ) (Cert.SsdXbcDxIdeal.main (F := Ideal))) ⟨m, fun _ => 0, g⟩ (fun r => ∀ c : Dev Cert.SsdXbcDxIdeal.nD,
          r.2.mem ((c.tc : Thread Cert.SsdXbcDxIdeal.nD Cert.SsdXbcDxIdeal.τ).loc Cert.SsdXbcDxIdeal.main_v0) = v0 c
          ∧ r.2.mem ((c.tc : Thread Cert.SsdXbcDxIdeal.nD Cert.SsdXbcDxIdeal.τ).loc Cert.SsdXbcDxIdeal.main_arg0) = m ((c.tc : Thread Cert.SsdXbcDxIdeal.nD Cert.SsdXbcDxIdeal.τ).loc Cert.SsdXbcDxIdeal.main_arg0)
          ∧ r.2.mem ((c.tc : Thread Cert.SsdXbcDxIdeal.nD Cert.SsdXbcDxIdeal.τ).loc Cert.SsdXbcDxIdeal.main_arg1) = m ((c.tc : Thread Cert.SsdXbcDxIdeal.nD Cert.SsdXbcDxIdeal.τ).loc Cert.SsdXbcDxIdeal.main_arg1))
      ∧ θ_run (Cert.SsdXbcDxRefIdeal.defs (F := Ideal)) (onTc (τ := Cert.SsdXbcDxRefIdeal.τ) (Cert.SsdXbcDxRefIdeal.main (F := Ideal))) ⟨m', fun _ => 0, g'⟩ (fun r => ∀ c : Dev Cert.SsdXbcDxRefIdeal.nD,
          r.2.mem ((c.tc : Thread Cert.SsdXbcDxRefIdeal.nD Cert.SsdXbcDxRefIdeal.τ).loc Cert.SsdXbcDxRefIdeal.main_v4) = v0 c
          ∧ r.2.mem ((c.tc : Thread Cert.SsdXbcDxRefIdeal.nD Cert.SsdXbcDxRefIdeal.τ).loc Cert.SsdXbcDxRefIdeal.main_arg0) = m' ((c.tc : Thread Cert.SsdXbcDxRefIdeal.nD Cert.SsdXbcDxRefIdeal.τ).loc Cert.SsdXbcDxRefIdeal.main_arg0)
          ∧ r.2.mem ((c.tc : Thread Cert.SsdXbcDxRefIdeal.nD Cert.SsdXbcDxRefIdeal.τ).loc Cert.SsdXbcDxRefIdeal.main_arg1) = m' ((c.tc : Thread Cert.SsdXbcDxRefIdeal.nD Cert.SsdXbcDxRefIdeal.τ).loc Cert.SsdXbcDxRefIdeal.main_arg1))

def preserves_SsdXbcDw_SsdXbcDwIdeal : Prop :=
  True

def algebraic_SsdXbcDwIdeal_SsdXbcDwRefIdeal [hSsdXbcDwIdeal : Cert.SsdXbcDwIdeal.Facts] [hSsdXbcDwRefIdeal : Cert.SsdXbcDwRefIdeal.Facts] : Prop :=
  ∀ (m : (ℓ : Loc Cert.SsdXbcDwIdeal.nD Cert.SsdXbcDwIdeal.τ Cert.SsdXbcDwIdeal.sig) → Buf (Elt Ideal) ℓ) (g : Dev Cert.SsdXbcDwIdeal.nD → PrngReg)
    (m' : (ℓ : Loc Cert.SsdXbcDwRefIdeal.nD Cert.SsdXbcDwRefIdeal.τ Cert.SsdXbcDwRefIdeal.sig) → Buf (Elt Ideal) ℓ) (g' : Dev Cert.SsdXbcDwRefIdeal.nD → PrngReg), Pre_SsdXbcDwIdeal m →
    (∀ c : Dev Cert.SsdXbcDwIdeal.nD,
      m' ((c.tc : Thread Cert.SsdXbcDwRefIdeal.nD Cert.SsdXbcDwRefIdeal.τ).loc Cert.SsdXbcDwRefIdeal.main_arg0) = m ((c.tc : Thread Cert.SsdXbcDwIdeal.nD Cert.SsdXbcDwIdeal.τ).loc Cert.SsdXbcDwIdeal.main_arg0)
      ∧ m' ((c.tc : Thread Cert.SsdXbcDwRefIdeal.nD Cert.SsdXbcDwRefIdeal.τ).loc Cert.SsdXbcDwRefIdeal.main_arg1) = m ((c.tc : Thread Cert.SsdXbcDwIdeal.nD Cert.SsdXbcDwIdeal.τ).loc Cert.SsdXbcDwIdeal.main_arg1)) →
    ∃ (v0 : (c : Dev Cert.SsdXbcDwIdeal.nD) → Buf (Elt Ideal) ((c.tc : Thread Cert.SsdXbcDwIdeal.nD Cert.SsdXbcDwIdeal.τ).loc Cert.SsdXbcDwIdeal.main_v0)),
      θ_run (Cert.SsdXbcDwIdeal.defs (F := Ideal)) (onTc (τ := Cert.SsdXbcDwIdeal.τ) (Cert.SsdXbcDwIdeal.main (F := Ideal))) ⟨m, fun _ => 0, g⟩ (fun r => ∀ c : Dev Cert.SsdXbcDwIdeal.nD,
          r.2.mem ((c.tc : Thread Cert.SsdXbcDwIdeal.nD Cert.SsdXbcDwIdeal.τ).loc Cert.SsdXbcDwIdeal.main_v0) = v0 c
          ∧ r.2.mem ((c.tc : Thread Cert.SsdXbcDwIdeal.nD Cert.SsdXbcDwIdeal.τ).loc Cert.SsdXbcDwIdeal.main_arg0) = m ((c.tc : Thread Cert.SsdXbcDwIdeal.nD Cert.SsdXbcDwIdeal.τ).loc Cert.SsdXbcDwIdeal.main_arg0)
          ∧ r.2.mem ((c.tc : Thread Cert.SsdXbcDwIdeal.nD Cert.SsdXbcDwIdeal.τ).loc Cert.SsdXbcDwIdeal.main_arg1) = m ((c.tc : Thread Cert.SsdXbcDwIdeal.nD Cert.SsdXbcDwIdeal.τ).loc Cert.SsdXbcDwIdeal.main_arg1))
      ∧ θ_run (Cert.SsdXbcDwRefIdeal.defs (F := Ideal)) (onTc (τ := Cert.SsdXbcDwRefIdeal.τ) (Cert.SsdXbcDwRefIdeal.main (F := Ideal))) ⟨m', fun _ => 0, g'⟩ (fun r => ∀ c : Dev Cert.SsdXbcDwRefIdeal.nD,
          r.2.mem ((c.tc : Thread Cert.SsdXbcDwRefIdeal.nD Cert.SsdXbcDwRefIdeal.τ).loc Cert.SsdXbcDwRefIdeal.main_v4) = v0 c
          ∧ r.2.mem ((c.tc : Thread Cert.SsdXbcDwRefIdeal.nD Cert.SsdXbcDwRefIdeal.τ).loc Cert.SsdXbcDwRefIdeal.main_arg0) = m' ((c.tc : Thread Cert.SsdXbcDwRefIdeal.nD Cert.SsdXbcDwRefIdeal.τ).loc Cert.SsdXbcDwRefIdeal.main_arg0)
          ∧ r.2.mem ((c.tc : Thread Cert.SsdXbcDwRefIdeal.nD Cert.SsdXbcDwRefIdeal.τ).loc Cert.SsdXbcDwRefIdeal.main_arg1) = m' ((c.tc : Thread Cert.SsdXbcDwRefIdeal.nD Cert.SsdXbcDwRefIdeal.τ).loc Cert.SsdXbcDwRefIdeal.main_arg1))

def preserves_SsdXbcFwd_SsdXbcFwdIdeal : Prop :=
  True

def algebraic_SsdXbcFwdIdeal_SsdXbcFwdRefIdeal [hSsdXbcFwdIdeal : Cert.SsdXbcFwdIdeal.Facts] [hSsdXbcFwdRefIdeal : Cert.SsdXbcFwdRefIdeal.Facts] : Prop :=
  ∀ (m : (ℓ : Loc Cert.SsdXbcFwdIdeal.nD Cert.SsdXbcFwdIdeal.τ Cert.SsdXbcFwdIdeal.sig) → Buf (Elt Ideal) ℓ) (g : Dev Cert.SsdXbcFwdIdeal.nD → PrngReg)
    (m' : (ℓ : Loc Cert.SsdXbcFwdRefIdeal.nD Cert.SsdXbcFwdRefIdeal.τ Cert.SsdXbcFwdRefIdeal.sig) → Buf (Elt Ideal) ℓ) (g' : Dev Cert.SsdXbcFwdRefIdeal.nD → PrngReg), Pre_SsdXbcFwdIdeal m →
    (∀ c : Dev Cert.SsdXbcFwdIdeal.nD,
      m' ((c.tc : Thread Cert.SsdXbcFwdRefIdeal.nD Cert.SsdXbcFwdRefIdeal.τ).loc Cert.SsdXbcFwdRefIdeal.main_arg0) = m ((c.tc : Thread Cert.SsdXbcFwdIdeal.nD Cert.SsdXbcFwdIdeal.τ).loc Cert.SsdXbcFwdIdeal.main_arg0)
      ∧ m' ((c.tc : Thread Cert.SsdXbcFwdRefIdeal.nD Cert.SsdXbcFwdRefIdeal.τ).loc Cert.SsdXbcFwdRefIdeal.main_arg1) = m ((c.tc : Thread Cert.SsdXbcFwdIdeal.nD Cert.SsdXbcFwdIdeal.τ).loc Cert.SsdXbcFwdIdeal.main_arg1)) →
    ∃ (v0 : (c : Dev Cert.SsdXbcFwdIdeal.nD) → Buf (Elt Ideal) ((c.tc : Thread Cert.SsdXbcFwdIdeal.nD Cert.SsdXbcFwdIdeal.τ).loc Cert.SsdXbcFwdIdeal.main_v0)),
      θ_run (Cert.SsdXbcFwdIdeal.defs (F := Ideal)) (onTc (τ := Cert.SsdXbcFwdIdeal.τ) (Cert.SsdXbcFwdIdeal.main (F := Ideal))) ⟨m, fun _ => 0, g⟩ (fun r => ∀ c : Dev Cert.SsdXbcFwdIdeal.nD,
          r.2.mem ((c.tc : Thread Cert.SsdXbcFwdIdeal.nD Cert.SsdXbcFwdIdeal.τ).loc Cert.SsdXbcFwdIdeal.main_v0) = v0 c
          ∧ r.2.mem ((c.tc : Thread Cert.SsdXbcFwdIdeal.nD Cert.SsdXbcFwdIdeal.τ).loc Cert.SsdXbcFwdIdeal.main_arg0) = m ((c.tc : Thread Cert.SsdXbcFwdIdeal.nD Cert.SsdXbcFwdIdeal.τ).loc Cert.SsdXbcFwdIdeal.main_arg0)
          ∧ r.2.mem ((c.tc : Thread Cert.SsdXbcFwdIdeal.nD Cert.SsdXbcFwdIdeal.τ).loc Cert.SsdXbcFwdIdeal.main_arg1) = m ((c.tc : Thread Cert.SsdXbcFwdIdeal.nD Cert.SsdXbcFwdIdeal.τ).loc Cert.SsdXbcFwdIdeal.main_arg1))
      ∧ θ_run (Cert.SsdXbcFwdRefIdeal.defs (F := Ideal)) (onTc (τ := Cert.SsdXbcFwdRefIdeal.τ) (Cert.SsdXbcFwdRefIdeal.main (F := Ideal))) ⟨m', fun _ => 0, g'⟩ (fun r => ∀ c : Dev Cert.SsdXbcFwdRefIdeal.nD,
          r.2.mem ((c.tc : Thread Cert.SsdXbcFwdRefIdeal.nD Cert.SsdXbcFwdRefIdeal.τ).loc Cert.SsdXbcFwdRefIdeal.main_v2) = v0 c
          ∧ r.2.mem ((c.tc : Thread Cert.SsdXbcFwdRefIdeal.nD Cert.SsdXbcFwdRefIdeal.τ).loc Cert.SsdXbcFwdRefIdeal.main_arg0) = m' ((c.tc : Thread Cert.SsdXbcFwdRefIdeal.nD Cert.SsdXbcFwdRefIdeal.τ).loc Cert.SsdXbcFwdRefIdeal.main_arg0)
          ∧ r.2.mem ((c.tc : Thread Cert.SsdXbcFwdRefIdeal.nD Cert.SsdXbcFwdRefIdeal.τ).loc Cert.SsdXbcFwdRefIdeal.main_arg1) = m' ((c.tc : Thread Cert.SsdXbcFwdRefIdeal.nD Cert.SsdXbcFwdRefIdeal.τ).loc Cert.SsdXbcFwdRefIdeal.main_arg1))

def preserves_SsdDtDx_SsdDtDxIdeal : Prop :=
  True

def algebraic_SsdDtDxIdeal_SsdDtDxRefIdeal [hSsdDtDxIdeal : Cert.SsdDtDxIdeal.Facts] [hSsdDtDxRefIdeal : Cert.SsdDtDxRefIdeal.Facts] : Prop :=
  ∀ (m : (ℓ : Loc Cert.SsdDtDxIdeal.nD Cert.SsdDtDxIdeal.τ Cert.SsdDtDxIdeal.sig) → Buf (Elt Ideal) ℓ) (g : Dev Cert.SsdDtDxIdeal.nD → PrngReg)
    (m' : (ℓ : Loc Cert.SsdDtDxRefIdeal.nD Cert.SsdDtDxRefIdeal.τ Cert.SsdDtDxRefIdeal.sig) → Buf (Elt Ideal) ℓ) (g' : Dev Cert.SsdDtDxRefIdeal.nD → PrngReg), Pre_SsdDtDxIdeal m →
    (∀ c : Dev Cert.SsdDtDxIdeal.nD,
      m' ((c.tc : Thread Cert.SsdDtDxRefIdeal.nD Cert.SsdDtDxRefIdeal.τ).loc Cert.SsdDtDxRefIdeal.main_arg0) = m ((c.tc : Thread Cert.SsdDtDxIdeal.nD Cert.SsdDtDxIdeal.τ).loc Cert.SsdDtDxIdeal.main_arg0)
      ∧ m' ((c.tc : Thread Cert.SsdDtDxRefIdeal.nD Cert.SsdDtDxRefIdeal.τ).loc Cert.SsdDtDxRefIdeal.main_arg1) = m ((c.tc : Thread Cert.SsdDtDxIdeal.nD Cert.SsdDtDxIdeal.τ).loc Cert.SsdDtDxIdeal.main_arg1)) →
    ∃ (v0 : (c : Dev Cert.SsdDtDxIdeal.nD) → Buf (Elt Ideal) ((c.tc : Thread Cert.SsdDtDxIdeal.nD Cert.SsdDtDxIdeal.τ).loc Cert.SsdDtDxIdeal.main_v0)),
      θ_run (Cert.SsdDtDxIdeal.defs (F := Ideal)) (onTc (τ := Cert.SsdDtDxIdeal.τ) (Cert.SsdDtDxIdeal.main (F := Ideal))) ⟨m, fun _ => 0, g⟩ (fun r => ∀ c : Dev Cert.SsdDtDxIdeal.nD,
          r.2.mem ((c.tc : Thread Cert.SsdDtDxIdeal.nD Cert.SsdDtDxIdeal.τ).loc Cert.SsdDtDxIdeal.main_v0) = v0 c
          ∧ r.2.mem ((c.tc : Thread Cert.SsdDtDxIdeal.nD Cert.SsdDtDxIdeal.τ).loc Cert.SsdDtDxIdeal.main_arg0) = m ((c.tc : Thread Cert.SsdDtDxIdeal.nD Cert.SsdDtDxIdeal.τ).loc Cert.SsdDtDxIdeal.main_arg0)
          ∧ r.2.mem ((c.tc : Thread Cert.SsdDtDxIdeal.nD Cert.SsdDtDxIdeal.τ).loc Cert.SsdDtDxIdeal.main_arg1) = m ((c.tc : Thread Cert.SsdDtDxIdeal.nD Cert.SsdDtDxIdeal.τ).loc Cert.SsdDtDxIdeal.main_arg1))
      ∧ θ_run (Cert.SsdDtDxRefIdeal.defs (F := Ideal)) (onTc (τ := Cert.SsdDtDxRefIdeal.τ) (Cert.SsdDtDxRefIdeal.main (F := Ideal))) ⟨m', fun _ => 0, g'⟩ (fun r => ∀ c : Dev Cert.SsdDtDxRefIdeal.nD,
          r.2.mem ((c.tc : Thread Cert.SsdDtDxRefIdeal.nD Cert.SsdDtDxRefIdeal.τ).loc Cert.SsdDtDxRefIdeal.main_v4) = v0 c
          ∧ r.2.mem ((c.tc : Thread Cert.SsdDtDxRefIdeal.nD Cert.SsdDtDxRefIdeal.τ).loc Cert.SsdDtDxRefIdeal.main_arg0) = m' ((c.tc : Thread Cert.SsdDtDxRefIdeal.nD Cert.SsdDtDxRefIdeal.τ).loc Cert.SsdDtDxRefIdeal.main_arg0)
          ∧ r.2.mem ((c.tc : Thread Cert.SsdDtDxRefIdeal.nD Cert.SsdDtDxRefIdeal.τ).loc Cert.SsdDtDxRefIdeal.main_arg1) = m' ((c.tc : Thread Cert.SsdDtDxRefIdeal.nD Cert.SsdDtDxRefIdeal.τ).loc Cert.SsdDtDxRefIdeal.main_arg1))

def preserves_SsdDtDw_SsdDtDwIdeal : Prop :=
  True

def algebraic_SsdDtDwIdeal_SsdDtDwRefIdeal [hSsdDtDwIdeal : Cert.SsdDtDwIdeal.Facts] [hSsdDtDwRefIdeal : Cert.SsdDtDwRefIdeal.Facts] : Prop :=
  ∀ (m : (ℓ : Loc Cert.SsdDtDwIdeal.nD Cert.SsdDtDwIdeal.τ Cert.SsdDtDwIdeal.sig) → Buf (Elt Ideal) ℓ) (g : Dev Cert.SsdDtDwIdeal.nD → PrngReg)
    (m' : (ℓ : Loc Cert.SsdDtDwRefIdeal.nD Cert.SsdDtDwRefIdeal.τ Cert.SsdDtDwRefIdeal.sig) → Buf (Elt Ideal) ℓ) (g' : Dev Cert.SsdDtDwRefIdeal.nD → PrngReg), Pre_SsdDtDwIdeal m →
    (∀ c : Dev Cert.SsdDtDwIdeal.nD,
      m' ((c.tc : Thread Cert.SsdDtDwRefIdeal.nD Cert.SsdDtDwRefIdeal.τ).loc Cert.SsdDtDwRefIdeal.main_arg0) = m ((c.tc : Thread Cert.SsdDtDwIdeal.nD Cert.SsdDtDwIdeal.τ).loc Cert.SsdDtDwIdeal.main_arg0)
      ∧ m' ((c.tc : Thread Cert.SsdDtDwRefIdeal.nD Cert.SsdDtDwRefIdeal.τ).loc Cert.SsdDtDwRefIdeal.main_arg1) = m ((c.tc : Thread Cert.SsdDtDwIdeal.nD Cert.SsdDtDwIdeal.τ).loc Cert.SsdDtDwIdeal.main_arg1)) →
    ∃ (v0 : (c : Dev Cert.SsdDtDwIdeal.nD) → Buf (Elt Ideal) ((c.tc : Thread Cert.SsdDtDwIdeal.nD Cert.SsdDtDwIdeal.τ).loc Cert.SsdDtDwIdeal.main_v0)),
      θ_run (Cert.SsdDtDwIdeal.defs (F := Ideal)) (onTc (τ := Cert.SsdDtDwIdeal.τ) (Cert.SsdDtDwIdeal.main (F := Ideal))) ⟨m, fun _ => 0, g⟩ (fun r => ∀ c : Dev Cert.SsdDtDwIdeal.nD,
          r.2.mem ((c.tc : Thread Cert.SsdDtDwIdeal.nD Cert.SsdDtDwIdeal.τ).loc Cert.SsdDtDwIdeal.main_v0) = v0 c
          ∧ r.2.mem ((c.tc : Thread Cert.SsdDtDwIdeal.nD Cert.SsdDtDwIdeal.τ).loc Cert.SsdDtDwIdeal.main_arg0) = m ((c.tc : Thread Cert.SsdDtDwIdeal.nD Cert.SsdDtDwIdeal.τ).loc Cert.SsdDtDwIdeal.main_arg0)
          ∧ r.2.mem ((c.tc : Thread Cert.SsdDtDwIdeal.nD Cert.SsdDtDwIdeal.τ).loc Cert.SsdDtDwIdeal.main_arg1) = m ((c.tc : Thread Cert.SsdDtDwIdeal.nD Cert.SsdDtDwIdeal.τ).loc Cert.SsdDtDwIdeal.main_arg1))
      ∧ θ_run (Cert.SsdDtDwRefIdeal.defs (F := Ideal)) (onTc (τ := Cert.SsdDtDwRefIdeal.τ) (Cert.SsdDtDwRefIdeal.main (F := Ideal))) ⟨m', fun _ => 0, g'⟩ (fun r => ∀ c : Dev Cert.SsdDtDwRefIdeal.nD,
          r.2.mem ((c.tc : Thread Cert.SsdDtDwRefIdeal.nD Cert.SsdDtDwRefIdeal.τ).loc Cert.SsdDtDwRefIdeal.main_v4) = v0 c
          ∧ r.2.mem ((c.tc : Thread Cert.SsdDtDwRefIdeal.nD Cert.SsdDtDwRefIdeal.τ).loc Cert.SsdDtDwRefIdeal.main_arg0) = m' ((c.tc : Thread Cert.SsdDtDwRefIdeal.nD Cert.SsdDtDwRefIdeal.τ).loc Cert.SsdDtDwRefIdeal.main_arg0)
          ∧ r.2.mem ((c.tc : Thread Cert.SsdDtDwRefIdeal.nD Cert.SsdDtDwRefIdeal.τ).loc Cert.SsdDtDwRefIdeal.main_arg1) = m' ((c.tc : Thread Cert.SsdDtDwRefIdeal.nD Cert.SsdDtDwRefIdeal.τ).loc Cert.SsdDtDwRefIdeal.main_arg1))

def preserves_SsdDtFwd_SsdDtFwdIdeal : Prop :=
  True

def algebraic_SsdDtFwdIdeal_SsdDtFwdRefIdeal [hSsdDtFwdIdeal : Cert.SsdDtFwdIdeal.Facts] [hSsdDtFwdRefIdeal : Cert.SsdDtFwdRefIdeal.Facts] : Prop :=
  ∀ (m : (ℓ : Loc Cert.SsdDtFwdIdeal.nD Cert.SsdDtFwdIdeal.τ Cert.SsdDtFwdIdeal.sig) → Buf (Elt Ideal) ℓ) (g : Dev Cert.SsdDtFwdIdeal.nD → PrngReg)
    (m' : (ℓ : Loc Cert.SsdDtFwdRefIdeal.nD Cert.SsdDtFwdRefIdeal.τ Cert.SsdDtFwdRefIdeal.sig) → Buf (Elt Ideal) ℓ) (g' : Dev Cert.SsdDtFwdRefIdeal.nD → PrngReg), Pre_SsdDtFwdIdeal m →
    (∀ c : Dev Cert.SsdDtFwdIdeal.nD,
      m' ((c.tc : Thread Cert.SsdDtFwdRefIdeal.nD Cert.SsdDtFwdRefIdeal.τ).loc Cert.SsdDtFwdRefIdeal.main_arg0) = m ((c.tc : Thread Cert.SsdDtFwdIdeal.nD Cert.SsdDtFwdIdeal.τ).loc Cert.SsdDtFwdIdeal.main_arg0)
      ∧ m' ((c.tc : Thread Cert.SsdDtFwdRefIdeal.nD Cert.SsdDtFwdRefIdeal.τ).loc Cert.SsdDtFwdRefIdeal.main_arg1) = m ((c.tc : Thread Cert.SsdDtFwdIdeal.nD Cert.SsdDtFwdIdeal.τ).loc Cert.SsdDtFwdIdeal.main_arg1)) →
    ∃ (v0 : (c : Dev Cert.SsdDtFwdIdeal.nD) → Buf (Elt Ideal) ((c.tc : Thread Cert.SsdDtFwdIdeal.nD Cert.SsdDtFwdIdeal.τ).loc Cert.SsdDtFwdIdeal.main_v0)),
      θ_run (Cert.SsdDtFwdIdeal.defs (F := Ideal)) (onTc (τ := Cert.SsdDtFwdIdeal.τ) (Cert.SsdDtFwdIdeal.main (F := Ideal))) ⟨m, fun _ => 0, g⟩ (fun r => ∀ c : Dev Cert.SsdDtFwdIdeal.nD,
          r.2.mem ((c.tc : Thread Cert.SsdDtFwdIdeal.nD Cert.SsdDtFwdIdeal.τ).loc Cert.SsdDtFwdIdeal.main_v0) = v0 c
          ∧ r.2.mem ((c.tc : Thread Cert.SsdDtFwdIdeal.nD Cert.SsdDtFwdIdeal.τ).loc Cert.SsdDtFwdIdeal.main_arg0) = m ((c.tc : Thread Cert.SsdDtFwdIdeal.nD Cert.SsdDtFwdIdeal.τ).loc Cert.SsdDtFwdIdeal.main_arg0)
          ∧ r.2.mem ((c.tc : Thread Cert.SsdDtFwdIdeal.nD Cert.SsdDtFwdIdeal.τ).loc Cert.SsdDtFwdIdeal.main_arg1) = m ((c.tc : Thread Cert.SsdDtFwdIdeal.nD Cert.SsdDtFwdIdeal.τ).loc Cert.SsdDtFwdIdeal.main_arg1))
      ∧ θ_run (Cert.SsdDtFwdRefIdeal.defs (F := Ideal)) (onTc (τ := Cert.SsdDtFwdRefIdeal.τ) (Cert.SsdDtFwdRefIdeal.main (F := Ideal))) ⟨m', fun _ => 0, g'⟩ (fun r => ∀ c : Dev Cert.SsdDtFwdRefIdeal.nD,
          r.2.mem ((c.tc : Thread Cert.SsdDtFwdRefIdeal.nD Cert.SsdDtFwdRefIdeal.τ).loc Cert.SsdDtFwdRefIdeal.main_v2) = v0 c
          ∧ r.2.mem ((c.tc : Thread Cert.SsdDtFwdRefIdeal.nD Cert.SsdDtFwdRefIdeal.τ).loc Cert.SsdDtFwdRefIdeal.main_arg0) = m' ((c.tc : Thread Cert.SsdDtFwdRefIdeal.nD Cert.SsdDtFwdRefIdeal.τ).loc Cert.SsdDtFwdRefIdeal.main_arg0)
          ∧ r.2.mem ((c.tc : Thread Cert.SsdDtFwdRefIdeal.nD Cert.SsdDtFwdRefIdeal.τ).loc Cert.SsdDtFwdRefIdeal.main_arg1) = m' ((c.tc : Thread Cert.SsdDtFwdRefIdeal.nD Cert.SsdDtFwdRefIdeal.τ).loc Cert.SsdDtFwdRefIdeal.main_arg1))

def preserves_SsdOutDx_SsdOutDxIdeal : Prop :=
  True

def algebraic_SsdOutDxIdeal_SsdOutDxRefIdeal [hSsdOutDxIdeal : Cert.SsdOutDxIdeal.Facts] [hSsdOutDxRefIdeal : Cert.SsdOutDxRefIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg)
    (m' : (ℓ : Loc Cert.SsdOutDxRefIdeal.nD Cert.SsdOutDxRefIdeal.τ Cert.SsdOutDxRefIdeal.sig) → Buf (Elt Ideal) ℓ) (g' : Dev Cert.SsdOutDxRefIdeal.nD → PrngReg), Pre_SsdOutDxIdeal m →
    (∀ c : Dev Cert.SsdOutDxIdeal.nD,
      m' ((c.tc : Thread Cert.SsdOutDxRefIdeal.nD Cert.SsdOutDxRefIdeal.τ).loc Cert.SsdOutDxRefIdeal.main_arg0) = m ((c.tc : Thread Cert.SsdOutDxIdeal.nD Cert.SsdOutDxIdeal.τ).loc Cert.SsdOutDxIdeal.main_arg0)
      ∧ m' ((c.tc : Thread Cert.SsdOutDxRefIdeal.nD Cert.SsdOutDxRefIdeal.τ).loc Cert.SsdOutDxRefIdeal.main_arg1) = m ((c.tc : Thread Cert.SsdOutDxIdeal.nD Cert.SsdOutDxIdeal.τ).loc Cert.SsdOutDxIdeal.main_arg1)) →
    ∃ (v0 : (c : Dev Cert.SsdOutDxIdeal.nD) → Buf (Elt Ideal) ((c.tc : Thread Cert.SsdOutDxIdeal.nD Cert.SsdOutDxIdeal.τ).loc Cert.SsdOutDxIdeal.main_v0)),
      θ_run (Cert.SsdOutDxIdeal.defs (F := Ideal)) (onTc (τ := Cert.SsdOutDxIdeal.τ) (Cert.SsdOutDxIdeal.main (F := Ideal))) ⟨m, fun _ => 0, g⟩ (fun r => ∀ c : Dev Cert.SsdOutDxIdeal.nD,
          r.2.mem ((c.tc : Thread Cert.SsdOutDxIdeal.nD Cert.SsdOutDxIdeal.τ).loc Cert.SsdOutDxIdeal.main_v0) = v0 c
          ∧ r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
          ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ θ_run (Cert.SsdOutDxRefIdeal.defs (F := Ideal)) (onTc (τ := Cert.SsdOutDxRefIdeal.τ) (Cert.SsdOutDxRefIdeal.main (F := Ideal))) ⟨m', fun _ => 0, g'⟩ (fun r => ∀ c : Dev Cert.SsdOutDxRefIdeal.nD,
          r.2.mem ((c.tc : Thread Cert.SsdOutDxRefIdeal.nD Cert.SsdOutDxRefIdeal.τ).loc Cert.SsdOutDxRefIdeal.main_v4) = v0 c
          ∧ r.2.mem ((c.tc : Thread Cert.SsdOutDxRefIdeal.nD Cert.SsdOutDxRefIdeal.τ).loc Cert.SsdOutDxRefIdeal.main_arg0) = m' ((c.tc : Thread Cert.SsdOutDxRefIdeal.nD Cert.SsdOutDxRefIdeal.τ).loc Cert.SsdOutDxRefIdeal.main_arg0)
          ∧ r.2.mem ((c.tc : Thread Cert.SsdOutDxRefIdeal.nD Cert.SsdOutDxRefIdeal.τ).loc Cert.SsdOutDxRefIdeal.main_arg1) = m' ((c.tc : Thread Cert.SsdOutDxRefIdeal.nD Cert.SsdOutDxRefIdeal.τ).loc Cert.SsdOutDxRefIdeal.main_arg1))

def preserves_SsdOutDw_SsdOutDwIdeal : Prop :=
  True

def algebraic_SsdOutDwIdeal_SsdOutDwRefIdeal [hSsdOutDwIdeal : Cert.SsdOutDwIdeal.Facts] [hSsdOutDwRefIdeal : Cert.SsdOutDwRefIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg)
    (m' : (ℓ : Loc Cert.SsdOutDwRefIdeal.nD Cert.SsdOutDwRefIdeal.τ Cert.SsdOutDwRefIdeal.sig) → Buf (Elt Ideal) ℓ) (g' : Dev Cert.SsdOutDwRefIdeal.nD → PrngReg), Pre_SsdOutDwIdeal m →
    (∀ c : Dev Cert.SsdOutDwIdeal.nD,
      m' ((c.tc : Thread Cert.SsdOutDwRefIdeal.nD Cert.SsdOutDwRefIdeal.τ).loc Cert.SsdOutDwRefIdeal.main_arg0) = m ((c.tc : Thread Cert.SsdOutDwIdeal.nD Cert.SsdOutDwIdeal.τ).loc Cert.SsdOutDwIdeal.main_arg0)
      ∧ m' ((c.tc : Thread Cert.SsdOutDwRefIdeal.nD Cert.SsdOutDwRefIdeal.τ).loc Cert.SsdOutDwRefIdeal.main_arg1) = m ((c.tc : Thread Cert.SsdOutDwIdeal.nD Cert.SsdOutDwIdeal.τ).loc Cert.SsdOutDwIdeal.main_arg1)) →
    ∃ (v0 : (c : Dev Cert.SsdOutDwIdeal.nD) → Buf (Elt Ideal) ((c.tc : Thread Cert.SsdOutDwIdeal.nD Cert.SsdOutDwIdeal.τ).loc Cert.SsdOutDwIdeal.main_v0)),
      θ_run (Cert.SsdOutDwIdeal.defs (F := Ideal)) (onTc (τ := Cert.SsdOutDwIdeal.τ) (Cert.SsdOutDwIdeal.main (F := Ideal))) ⟨m, fun _ => 0, g⟩ (fun r => ∀ c : Dev Cert.SsdOutDwIdeal.nD,
          r.2.mem ((c.tc : Thread Cert.SsdOutDwIdeal.nD Cert.SsdOutDwIdeal.τ).loc Cert.SsdOutDwIdeal.main_v0) = v0 c
          ∧ r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
          ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ θ_run (Cert.SsdOutDwRefIdeal.defs (F := Ideal)) (onTc (τ := Cert.SsdOutDwRefIdeal.τ) (Cert.SsdOutDwRefIdeal.main (F := Ideal))) ⟨m', fun _ => 0, g'⟩ (fun r => ∀ c : Dev Cert.SsdOutDwRefIdeal.nD,
          r.2.mem ((c.tc : Thread Cert.SsdOutDwRefIdeal.nD Cert.SsdOutDwRefIdeal.τ).loc Cert.SsdOutDwRefIdeal.main_v4) = v0 c
          ∧ r.2.mem ((c.tc : Thread Cert.SsdOutDwRefIdeal.nD Cert.SsdOutDwRefIdeal.τ).loc Cert.SsdOutDwRefIdeal.main_arg0) = m' ((c.tc : Thread Cert.SsdOutDwRefIdeal.nD Cert.SsdOutDwRefIdeal.τ).loc Cert.SsdOutDwRefIdeal.main_arg0)
          ∧ r.2.mem ((c.tc : Thread Cert.SsdOutDwRefIdeal.nD Cert.SsdOutDwRefIdeal.τ).loc Cert.SsdOutDwRefIdeal.main_arg1) = m' ((c.tc : Thread Cert.SsdOutDwRefIdeal.nD Cert.SsdOutDwRefIdeal.τ).loc Cert.SsdOutDwRefIdeal.main_arg1))

def preserves_SsdOutFwd_SsdOutFwdIdeal : Prop :=
  True

def algebraic_SsdOutFwdIdeal_SsdOutFwdRefIdeal [hSsdOutFwdIdeal : Cert.SsdOutFwdIdeal.Facts] [hSsdOutFwdRefIdeal : Cert.SsdOutFwdRefIdeal.Facts] : Prop :=
  ∀ (m : (ℓ : Loc Cert.SsdOutFwdIdeal.nD Cert.SsdOutFwdIdeal.τ Cert.SsdOutFwdIdeal.sig) → Buf (Elt Ideal) ℓ) (g : Dev Cert.SsdOutFwdIdeal.nD → PrngReg)
    (m' : (ℓ : Loc Cert.SsdOutFwdRefIdeal.nD Cert.SsdOutFwdRefIdeal.τ Cert.SsdOutFwdRefIdeal.sig) → Buf (Elt Ideal) ℓ) (g' : Dev Cert.SsdOutFwdRefIdeal.nD → PrngReg), Pre_SsdOutFwdIdeal m →
    (∀ c : Dev Cert.SsdOutFwdIdeal.nD,
      m' ((c.tc : Thread Cert.SsdOutFwdRefIdeal.nD Cert.SsdOutFwdRefIdeal.τ).loc Cert.SsdOutFwdRefIdeal.main_arg0) = m ((c.tc : Thread Cert.SsdOutFwdIdeal.nD Cert.SsdOutFwdIdeal.τ).loc Cert.SsdOutFwdIdeal.main_arg0)
      ∧ m' ((c.tc : Thread Cert.SsdOutFwdRefIdeal.nD Cert.SsdOutFwdRefIdeal.τ).loc Cert.SsdOutFwdRefIdeal.main_arg1) = m ((c.tc : Thread Cert.SsdOutFwdIdeal.nD Cert.SsdOutFwdIdeal.τ).loc Cert.SsdOutFwdIdeal.main_arg1)) →
    ∃ (v0 : (c : Dev Cert.SsdOutFwdIdeal.nD) → Buf (Elt Ideal) ((c.tc : Thread Cert.SsdOutFwdIdeal.nD Cert.SsdOutFwdIdeal.τ).loc Cert.SsdOutFwdIdeal.main_v0)),
      θ_run (Cert.SsdOutFwdIdeal.defs (F := Ideal)) (onTc (τ := Cert.SsdOutFwdIdeal.τ) (Cert.SsdOutFwdIdeal.main (F := Ideal))) ⟨m, fun _ => 0, g⟩ (fun r => ∀ c : Dev Cert.SsdOutFwdIdeal.nD,
          r.2.mem ((c.tc : Thread Cert.SsdOutFwdIdeal.nD Cert.SsdOutFwdIdeal.τ).loc Cert.SsdOutFwdIdeal.main_v0) = v0 c
          ∧ r.2.mem ((c.tc : Thread Cert.SsdOutFwdIdeal.nD Cert.SsdOutFwdIdeal.τ).loc Cert.SsdOutFwdIdeal.main_arg0) = m ((c.tc : Thread Cert.SsdOutFwdIdeal.nD Cert.SsdOutFwdIdeal.τ).loc Cert.SsdOutFwdIdeal.main_arg0)
          ∧ r.2.mem ((c.tc : Thread Cert.SsdOutFwdIdeal.nD Cert.SsdOutFwdIdeal.τ).loc Cert.SsdOutFwdIdeal.main_arg1) = m ((c.tc : Thread Cert.SsdOutFwdIdeal.nD Cert.SsdOutFwdIdeal.τ).loc Cert.SsdOutFwdIdeal.main_arg1))
      ∧ θ_run (Cert.SsdOutFwdRefIdeal.defs (F := Ideal)) (onTc (τ := Cert.SsdOutFwdRefIdeal.τ) (Cert.SsdOutFwdRefIdeal.main (F := Ideal))) ⟨m', fun _ => 0, g'⟩ (fun r => ∀ c : Dev Cert.SsdOutFwdRefIdeal.nD,
          r.2.mem ((c.tc : Thread Cert.SsdOutFwdRefIdeal.nD Cert.SsdOutFwdRefIdeal.τ).loc Cert.SsdOutFwdRefIdeal.main_v2) = v0 c
          ∧ r.2.mem ((c.tc : Thread Cert.SsdOutFwdRefIdeal.nD Cert.SsdOutFwdRefIdeal.τ).loc Cert.SsdOutFwdRefIdeal.main_arg0) = m' ((c.tc : Thread Cert.SsdOutFwdRefIdeal.nD Cert.SsdOutFwdRefIdeal.τ).loc Cert.SsdOutFwdRefIdeal.main_arg0)
          ∧ r.2.mem ((c.tc : Thread Cert.SsdOutFwdRefIdeal.nD Cert.SsdOutFwdRefIdeal.τ).loc Cert.SsdOutFwdRefIdeal.main_arg1) = m' ((c.tc : Thread Cert.SsdOutFwdRefIdeal.nD Cert.SsdOutFwdRefIdeal.τ).loc Cert.SsdOutFwdRefIdeal.main_arg1))

def preserves_MlaADx_MlaADxIdeal : Prop :=
  True

def algebraic_MlaADxIdeal_MlaADxRefIdeal [hMlaADxIdeal : Cert.MlaADxIdeal.Facts] [hMlaADxRefIdeal : Cert.MlaADxRefIdeal.Facts] : Prop :=
  ∀ (m : (ℓ : Loc Cert.MlaADxIdeal.nD Cert.MlaADxIdeal.τ Cert.MlaADxIdeal.sig) → Buf (Elt Ideal) ℓ) (g : Dev Cert.MlaADxIdeal.nD → PrngReg)
    (m' : (ℓ : Loc Cert.MlaADxRefIdeal.nD Cert.MlaADxRefIdeal.τ Cert.MlaADxRefIdeal.sig) → Buf (Elt Ideal) ℓ) (g' : Dev Cert.MlaADxRefIdeal.nD → PrngReg), Pre_MlaADxIdeal m →
    (∀ c : Dev Cert.MlaADxIdeal.nD,
      m' ((c.tc : Thread Cert.MlaADxRefIdeal.nD Cert.MlaADxRefIdeal.τ).loc Cert.MlaADxRefIdeal.main_arg0) = m ((c.tc : Thread Cert.MlaADxIdeal.nD Cert.MlaADxIdeal.τ).loc Cert.MlaADxIdeal.main_arg0)
      ∧ m' ((c.tc : Thread Cert.MlaADxRefIdeal.nD Cert.MlaADxRefIdeal.τ).loc Cert.MlaADxRefIdeal.main_arg1) = m ((c.tc : Thread Cert.MlaADxIdeal.nD Cert.MlaADxIdeal.τ).loc Cert.MlaADxIdeal.main_arg1)) →
    ∃ (v0 : (c : Dev Cert.MlaADxIdeal.nD) → Buf (Elt Ideal) ((c.tc : Thread Cert.MlaADxIdeal.nD Cert.MlaADxIdeal.τ).loc Cert.MlaADxIdeal.main_v0)),
      θ_run (Cert.MlaADxIdeal.defs (F := Ideal)) (onTc (τ := Cert.MlaADxIdeal.τ) (Cert.MlaADxIdeal.main (F := Ideal))) ⟨m, fun _ => 0, g⟩ (fun r => ∀ c : Dev Cert.MlaADxIdeal.nD,
          r.2.mem ((c.tc : Thread Cert.MlaADxIdeal.nD Cert.MlaADxIdeal.τ).loc Cert.MlaADxIdeal.main_v0) = v0 c
          ∧ r.2.mem ((c.tc : Thread Cert.MlaADxIdeal.nD Cert.MlaADxIdeal.τ).loc Cert.MlaADxIdeal.main_arg0) = m ((c.tc : Thread Cert.MlaADxIdeal.nD Cert.MlaADxIdeal.τ).loc Cert.MlaADxIdeal.main_arg0)
          ∧ r.2.mem ((c.tc : Thread Cert.MlaADxIdeal.nD Cert.MlaADxIdeal.τ).loc Cert.MlaADxIdeal.main_arg1) = m ((c.tc : Thread Cert.MlaADxIdeal.nD Cert.MlaADxIdeal.τ).loc Cert.MlaADxIdeal.main_arg1))
      ∧ θ_run (Cert.MlaADxRefIdeal.defs (F := Ideal)) (onTc (τ := Cert.MlaADxRefIdeal.τ) (Cert.MlaADxRefIdeal.main (F := Ideal))) ⟨m', fun _ => 0, g'⟩ (fun r => ∀ c : Dev Cert.MlaADxRefIdeal.nD,
          r.2.mem ((c.tc : Thread Cert.MlaADxRefIdeal.nD Cert.MlaADxRefIdeal.τ).loc Cert.MlaADxRefIdeal.main_v4) = v0 c
          ∧ r.2.mem ((c.tc : Thread Cert.MlaADxRefIdeal.nD Cert.MlaADxRefIdeal.τ).loc Cert.MlaADxRefIdeal.main_arg0) = m' ((c.tc : Thread Cert.MlaADxRefIdeal.nD Cert.MlaADxRefIdeal.τ).loc Cert.MlaADxRefIdeal.main_arg0)
          ∧ r.2.mem ((c.tc : Thread Cert.MlaADxRefIdeal.nD Cert.MlaADxRefIdeal.τ).loc Cert.MlaADxRefIdeal.main_arg1) = m' ((c.tc : Thread Cert.MlaADxRefIdeal.nD Cert.MlaADxRefIdeal.τ).loc Cert.MlaADxRefIdeal.main_arg1))

def preserves_MlaADw_MlaADwIdeal : Prop :=
  True

def algebraic_MlaADwIdeal_MlaADwRefIdeal [hMlaADwIdeal : Cert.MlaADwIdeal.Facts] [hMlaADwRefIdeal : Cert.MlaADwRefIdeal.Facts] : Prop :=
  ∀ (m : (ℓ : Loc Cert.MlaADwIdeal.nD Cert.MlaADwIdeal.τ Cert.MlaADwIdeal.sig) → Buf (Elt Ideal) ℓ) (g : Dev Cert.MlaADwIdeal.nD → PrngReg)
    (m' : (ℓ : Loc Cert.MlaADwRefIdeal.nD Cert.MlaADwRefIdeal.τ Cert.MlaADwRefIdeal.sig) → Buf (Elt Ideal) ℓ) (g' : Dev Cert.MlaADwRefIdeal.nD → PrngReg), Pre_MlaADwIdeal m →
    (∀ c : Dev Cert.MlaADwIdeal.nD,
      m' ((c.tc : Thread Cert.MlaADwRefIdeal.nD Cert.MlaADwRefIdeal.τ).loc Cert.MlaADwRefIdeal.main_arg0) = m ((c.tc : Thread Cert.MlaADwIdeal.nD Cert.MlaADwIdeal.τ).loc Cert.MlaADwIdeal.main_arg0)
      ∧ m' ((c.tc : Thread Cert.MlaADwRefIdeal.nD Cert.MlaADwRefIdeal.τ).loc Cert.MlaADwRefIdeal.main_arg1) = m ((c.tc : Thread Cert.MlaADwIdeal.nD Cert.MlaADwIdeal.τ).loc Cert.MlaADwIdeal.main_arg1)) →
    ∃ (v0 : (c : Dev Cert.MlaADwIdeal.nD) → Buf (Elt Ideal) ((c.tc : Thread Cert.MlaADwIdeal.nD Cert.MlaADwIdeal.τ).loc Cert.MlaADwIdeal.main_v0)),
      θ_run (Cert.MlaADwIdeal.defs (F := Ideal)) (onTc (τ := Cert.MlaADwIdeal.τ) (Cert.MlaADwIdeal.main (F := Ideal))) ⟨m, fun _ => 0, g⟩ (fun r => ∀ c : Dev Cert.MlaADwIdeal.nD,
          r.2.mem ((c.tc : Thread Cert.MlaADwIdeal.nD Cert.MlaADwIdeal.τ).loc Cert.MlaADwIdeal.main_v0) = v0 c
          ∧ r.2.mem ((c.tc : Thread Cert.MlaADwIdeal.nD Cert.MlaADwIdeal.τ).loc Cert.MlaADwIdeal.main_arg0) = m ((c.tc : Thread Cert.MlaADwIdeal.nD Cert.MlaADwIdeal.τ).loc Cert.MlaADwIdeal.main_arg0)
          ∧ r.2.mem ((c.tc : Thread Cert.MlaADwIdeal.nD Cert.MlaADwIdeal.τ).loc Cert.MlaADwIdeal.main_arg1) = m ((c.tc : Thread Cert.MlaADwIdeal.nD Cert.MlaADwIdeal.τ).loc Cert.MlaADwIdeal.main_arg1))
      ∧ θ_run (Cert.MlaADwRefIdeal.defs (F := Ideal)) (onTc (τ := Cert.MlaADwRefIdeal.τ) (Cert.MlaADwRefIdeal.main (F := Ideal))) ⟨m', fun _ => 0, g'⟩ (fun r => ∀ c : Dev Cert.MlaADwRefIdeal.nD,
          r.2.mem ((c.tc : Thread Cert.MlaADwRefIdeal.nD Cert.MlaADwRefIdeal.τ).loc Cert.MlaADwRefIdeal.main_v4) = v0 c
          ∧ r.2.mem ((c.tc : Thread Cert.MlaADwRefIdeal.nD Cert.MlaADwRefIdeal.τ).loc Cert.MlaADwRefIdeal.main_arg0) = m' ((c.tc : Thread Cert.MlaADwRefIdeal.nD Cert.MlaADwRefIdeal.τ).loc Cert.MlaADwRefIdeal.main_arg0)
          ∧ r.2.mem ((c.tc : Thread Cert.MlaADwRefIdeal.nD Cert.MlaADwRefIdeal.τ).loc Cert.MlaADwRefIdeal.main_arg1) = m' ((c.tc : Thread Cert.MlaADwRefIdeal.nD Cert.MlaADwRefIdeal.τ).loc Cert.MlaADwRefIdeal.main_arg1))

def preserves_MlaAFwd_MlaAFwdIdeal : Prop :=
  True

def algebraic_MlaAFwdIdeal_MlaAFwdRefIdeal [hMlaAFwdIdeal : Cert.MlaAFwdIdeal.Facts] [hMlaAFwdRefIdeal : Cert.MlaAFwdRefIdeal.Facts] : Prop :=
  ∀ (m : (ℓ : Loc Cert.MlaAFwdIdeal.nD Cert.MlaAFwdIdeal.τ Cert.MlaAFwdIdeal.sig) → Buf (Elt Ideal) ℓ) (g : Dev Cert.MlaAFwdIdeal.nD → PrngReg)
    (m' : (ℓ : Loc Cert.MlaAFwdRefIdeal.nD Cert.MlaAFwdRefIdeal.τ Cert.MlaAFwdRefIdeal.sig) → Buf (Elt Ideal) ℓ) (g' : Dev Cert.MlaAFwdRefIdeal.nD → PrngReg), Pre_MlaAFwdIdeal m →
    (∀ c : Dev Cert.MlaAFwdIdeal.nD,
      m' ((c.tc : Thread Cert.MlaAFwdRefIdeal.nD Cert.MlaAFwdRefIdeal.τ).loc Cert.MlaAFwdRefIdeal.main_arg0) = m ((c.tc : Thread Cert.MlaAFwdIdeal.nD Cert.MlaAFwdIdeal.τ).loc Cert.MlaAFwdIdeal.main_arg0)
      ∧ m' ((c.tc : Thread Cert.MlaAFwdRefIdeal.nD Cert.MlaAFwdRefIdeal.τ).loc Cert.MlaAFwdRefIdeal.main_arg1) = m ((c.tc : Thread Cert.MlaAFwdIdeal.nD Cert.MlaAFwdIdeal.τ).loc Cert.MlaAFwdIdeal.main_arg1)) →
    ∃ (v0 : (c : Dev Cert.MlaAFwdIdeal.nD) → Buf (Elt Ideal) ((c.tc : Thread Cert.MlaAFwdIdeal.nD Cert.MlaAFwdIdeal.τ).loc Cert.MlaAFwdIdeal.main_v0)),
      θ_run (Cert.MlaAFwdIdeal.defs (F := Ideal)) (onTc (τ := Cert.MlaAFwdIdeal.τ) (Cert.MlaAFwdIdeal.main (F := Ideal))) ⟨m, fun _ => 0, g⟩ (fun r => ∀ c : Dev Cert.MlaAFwdIdeal.nD,
          r.2.mem ((c.tc : Thread Cert.MlaAFwdIdeal.nD Cert.MlaAFwdIdeal.τ).loc Cert.MlaAFwdIdeal.main_v0) = v0 c
          ∧ r.2.mem ((c.tc : Thread Cert.MlaAFwdIdeal.nD Cert.MlaAFwdIdeal.τ).loc Cert.MlaAFwdIdeal.main_arg0) = m ((c.tc : Thread Cert.MlaAFwdIdeal.nD Cert.MlaAFwdIdeal.τ).loc Cert.MlaAFwdIdeal.main_arg0)
          ∧ r.2.mem ((c.tc : Thread Cert.MlaAFwdIdeal.nD Cert.MlaAFwdIdeal.τ).loc Cert.MlaAFwdIdeal.main_arg1) = m ((c.tc : Thread Cert.MlaAFwdIdeal.nD Cert.MlaAFwdIdeal.τ).loc Cert.MlaAFwdIdeal.main_arg1))
      ∧ θ_run (Cert.MlaAFwdRefIdeal.defs (F := Ideal)) (onTc (τ := Cert.MlaAFwdRefIdeal.τ) (Cert.MlaAFwdRefIdeal.main (F := Ideal))) ⟨m', fun _ => 0, g'⟩ (fun r => ∀ c : Dev Cert.MlaAFwdRefIdeal.nD,
          r.2.mem ((c.tc : Thread Cert.MlaAFwdRefIdeal.nD Cert.MlaAFwdRefIdeal.τ).loc Cert.MlaAFwdRefIdeal.main_v2) = v0 c
          ∧ r.2.mem ((c.tc : Thread Cert.MlaAFwdRefIdeal.nD Cert.MlaAFwdRefIdeal.τ).loc Cert.MlaAFwdRefIdeal.main_arg0) = m' ((c.tc : Thread Cert.MlaAFwdRefIdeal.nD Cert.MlaAFwdRefIdeal.τ).loc Cert.MlaAFwdRefIdeal.main_arg0)
          ∧ r.2.mem ((c.tc : Thread Cert.MlaAFwdRefIdeal.nD Cert.MlaAFwdRefIdeal.τ).loc Cert.MlaAFwdRefIdeal.main_arg1) = m' ((c.tc : Thread Cert.MlaAFwdRefIdeal.nD Cert.MlaAFwdRefIdeal.τ).loc Cert.MlaAFwdRefIdeal.main_arg1))

def preserves_MlaQbDx_MlaQbDxIdeal : Prop :=
  True

def algebraic_MlaQbDxIdeal_MlaQbDxRefIdeal [hMlaQbDxIdeal : Cert.MlaQbDxIdeal.Facts] [hMlaQbDxRefIdeal : Cert.MlaQbDxRefIdeal.Facts] : Prop :=
  ∀ (m : (ℓ : Loc Cert.MlaQbDxIdeal.nD Cert.MlaQbDxIdeal.τ Cert.MlaQbDxIdeal.sig) → Buf (Elt Ideal) ℓ) (g : Dev Cert.MlaQbDxIdeal.nD → PrngReg)
    (m' : (ℓ : Loc Cert.MlaQbDxRefIdeal.nD Cert.MlaQbDxRefIdeal.τ Cert.MlaQbDxRefIdeal.sig) → Buf (Elt Ideal) ℓ) (g' : Dev Cert.MlaQbDxRefIdeal.nD → PrngReg), Pre_MlaQbDxIdeal m →
    (∀ c : Dev Cert.MlaQbDxIdeal.nD,
      m' ((c.tc : Thread Cert.MlaQbDxRefIdeal.nD Cert.MlaQbDxRefIdeal.τ).loc Cert.MlaQbDxRefIdeal.main_arg0) = m ((c.tc : Thread Cert.MlaQbDxIdeal.nD Cert.MlaQbDxIdeal.τ).loc Cert.MlaQbDxIdeal.main_arg0)
      ∧ m' ((c.tc : Thread Cert.MlaQbDxRefIdeal.nD Cert.MlaQbDxRefIdeal.τ).loc Cert.MlaQbDxRefIdeal.main_arg1) = m ((c.tc : Thread Cert.MlaQbDxIdeal.nD Cert.MlaQbDxIdeal.τ).loc Cert.MlaQbDxIdeal.main_arg1)) →
    ∃ (v0 : (c : Dev Cert.MlaQbDxIdeal.nD) → Buf (Elt Ideal) ((c.tc : Thread Cert.MlaQbDxIdeal.nD Cert.MlaQbDxIdeal.τ).loc Cert.MlaQbDxIdeal.main_v0)),
      θ_run (Cert.MlaQbDxIdeal.defs (F := Ideal)) (onTc (τ := Cert.MlaQbDxIdeal.τ) (Cert.MlaQbDxIdeal.main (F := Ideal))) ⟨m, fun _ => 0, g⟩ (fun r => ∀ c : Dev Cert.MlaQbDxIdeal.nD,
          r.2.mem ((c.tc : Thread Cert.MlaQbDxIdeal.nD Cert.MlaQbDxIdeal.τ).loc Cert.MlaQbDxIdeal.main_v0) = v0 c
          ∧ r.2.mem ((c.tc : Thread Cert.MlaQbDxIdeal.nD Cert.MlaQbDxIdeal.τ).loc Cert.MlaQbDxIdeal.main_arg0) = m ((c.tc : Thread Cert.MlaQbDxIdeal.nD Cert.MlaQbDxIdeal.τ).loc Cert.MlaQbDxIdeal.main_arg0)
          ∧ r.2.mem ((c.tc : Thread Cert.MlaQbDxIdeal.nD Cert.MlaQbDxIdeal.τ).loc Cert.MlaQbDxIdeal.main_arg1) = m ((c.tc : Thread Cert.MlaQbDxIdeal.nD Cert.MlaQbDxIdeal.τ).loc Cert.MlaQbDxIdeal.main_arg1))
      ∧ θ_run (Cert.MlaQbDxRefIdeal.defs (F := Ideal)) (onTc (τ := Cert.MlaQbDxRefIdeal.τ) (Cert.MlaQbDxRefIdeal.main (F := Ideal))) ⟨m', fun _ => 0, g'⟩ (fun r => ∀ c : Dev Cert.MlaQbDxRefIdeal.nD,
          r.2.mem ((c.tc : Thread Cert.MlaQbDxRefIdeal.nD Cert.MlaQbDxRefIdeal.τ).loc Cert.MlaQbDxRefIdeal.main_v4) = v0 c
          ∧ r.2.mem ((c.tc : Thread Cert.MlaQbDxRefIdeal.nD Cert.MlaQbDxRefIdeal.τ).loc Cert.MlaQbDxRefIdeal.main_arg0) = m' ((c.tc : Thread Cert.MlaQbDxRefIdeal.nD Cert.MlaQbDxRefIdeal.τ).loc Cert.MlaQbDxRefIdeal.main_arg0)
          ∧ r.2.mem ((c.tc : Thread Cert.MlaQbDxRefIdeal.nD Cert.MlaQbDxRefIdeal.τ).loc Cert.MlaQbDxRefIdeal.main_arg1) = m' ((c.tc : Thread Cert.MlaQbDxRefIdeal.nD Cert.MlaQbDxRefIdeal.τ).loc Cert.MlaQbDxRefIdeal.main_arg1))

def preserves_MlaQbDw_MlaQbDwIdeal : Prop :=
  True

def algebraic_MlaQbDwIdeal_MlaQbDwRefIdeal [hMlaQbDwIdeal : Cert.MlaQbDwIdeal.Facts] [hMlaQbDwRefIdeal : Cert.MlaQbDwRefIdeal.Facts] : Prop :=
  ∀ (m : (ℓ : Loc Cert.MlaQbDwIdeal.nD Cert.MlaQbDwIdeal.τ Cert.MlaQbDwIdeal.sig) → Buf (Elt Ideal) ℓ) (g : Dev Cert.MlaQbDwIdeal.nD → PrngReg)
    (m' : (ℓ : Loc Cert.MlaQbDwRefIdeal.nD Cert.MlaQbDwRefIdeal.τ Cert.MlaQbDwRefIdeal.sig) → Buf (Elt Ideal) ℓ) (g' : Dev Cert.MlaQbDwRefIdeal.nD → PrngReg), Pre_MlaQbDwIdeal m →
    (∀ c : Dev Cert.MlaQbDwIdeal.nD,
      m' ((c.tc : Thread Cert.MlaQbDwRefIdeal.nD Cert.MlaQbDwRefIdeal.τ).loc Cert.MlaQbDwRefIdeal.main_arg0) = m ((c.tc : Thread Cert.MlaQbDwIdeal.nD Cert.MlaQbDwIdeal.τ).loc Cert.MlaQbDwIdeal.main_arg0)
      ∧ m' ((c.tc : Thread Cert.MlaQbDwRefIdeal.nD Cert.MlaQbDwRefIdeal.τ).loc Cert.MlaQbDwRefIdeal.main_arg1) = m ((c.tc : Thread Cert.MlaQbDwIdeal.nD Cert.MlaQbDwIdeal.τ).loc Cert.MlaQbDwIdeal.main_arg1)) →
    ∃ (v0 : (c : Dev Cert.MlaQbDwIdeal.nD) → Buf (Elt Ideal) ((c.tc : Thread Cert.MlaQbDwIdeal.nD Cert.MlaQbDwIdeal.τ).loc Cert.MlaQbDwIdeal.main_v0)),
      θ_run (Cert.MlaQbDwIdeal.defs (F := Ideal)) (onTc (τ := Cert.MlaQbDwIdeal.τ) (Cert.MlaQbDwIdeal.main (F := Ideal))) ⟨m, fun _ => 0, g⟩ (fun r => ∀ c : Dev Cert.MlaQbDwIdeal.nD,
          r.2.mem ((c.tc : Thread Cert.MlaQbDwIdeal.nD Cert.MlaQbDwIdeal.τ).loc Cert.MlaQbDwIdeal.main_v0) = v0 c
          ∧ r.2.mem ((c.tc : Thread Cert.MlaQbDwIdeal.nD Cert.MlaQbDwIdeal.τ).loc Cert.MlaQbDwIdeal.main_arg0) = m ((c.tc : Thread Cert.MlaQbDwIdeal.nD Cert.MlaQbDwIdeal.τ).loc Cert.MlaQbDwIdeal.main_arg0)
          ∧ r.2.mem ((c.tc : Thread Cert.MlaQbDwIdeal.nD Cert.MlaQbDwIdeal.τ).loc Cert.MlaQbDwIdeal.main_arg1) = m ((c.tc : Thread Cert.MlaQbDwIdeal.nD Cert.MlaQbDwIdeal.τ).loc Cert.MlaQbDwIdeal.main_arg1))
      ∧ θ_run (Cert.MlaQbDwRefIdeal.defs (F := Ideal)) (onTc (τ := Cert.MlaQbDwRefIdeal.τ) (Cert.MlaQbDwRefIdeal.main (F := Ideal))) ⟨m', fun _ => 0, g'⟩ (fun r => ∀ c : Dev Cert.MlaQbDwRefIdeal.nD,
          r.2.mem ((c.tc : Thread Cert.MlaQbDwRefIdeal.nD Cert.MlaQbDwRefIdeal.τ).loc Cert.MlaQbDwRefIdeal.main_v8) = v0 c
          ∧ r.2.mem ((c.tc : Thread Cert.MlaQbDwRefIdeal.nD Cert.MlaQbDwRefIdeal.τ).loc Cert.MlaQbDwRefIdeal.main_arg0) = m' ((c.tc : Thread Cert.MlaQbDwRefIdeal.nD Cert.MlaQbDwRefIdeal.τ).loc Cert.MlaQbDwRefIdeal.main_arg0)
          ∧ r.2.mem ((c.tc : Thread Cert.MlaQbDwRefIdeal.nD Cert.MlaQbDwRefIdeal.τ).loc Cert.MlaQbDwRefIdeal.main_arg1) = m' ((c.tc : Thread Cert.MlaQbDwRefIdeal.nD Cert.MlaQbDwRefIdeal.τ).loc Cert.MlaQbDwRefIdeal.main_arg1))

def preserves_MlaQbFwd_MlaQbFwdIdeal : Prop :=
  True

def algebraic_MlaQbFwdIdeal_MlaQbFwdRefIdeal [hMlaQbFwdIdeal : Cert.MlaQbFwdIdeal.Facts] [hMlaQbFwdRefIdeal : Cert.MlaQbFwdRefIdeal.Facts] : Prop :=
  ∀ (m : (ℓ : Loc Cert.MlaQbFwdIdeal.nD Cert.MlaQbFwdIdeal.τ Cert.MlaQbFwdIdeal.sig) → Buf (Elt Ideal) ℓ) (g : Dev Cert.MlaQbFwdIdeal.nD → PrngReg)
    (m' : (ℓ : Loc Cert.MlaQbFwdRefIdeal.nD Cert.MlaQbFwdRefIdeal.τ Cert.MlaQbFwdRefIdeal.sig) → Buf (Elt Ideal) ℓ) (g' : Dev Cert.MlaQbFwdRefIdeal.nD → PrngReg), Pre_MlaQbFwdIdeal m →
    (∀ c : Dev Cert.MlaQbFwdIdeal.nD,
      m' ((c.tc : Thread Cert.MlaQbFwdRefIdeal.nD Cert.MlaQbFwdRefIdeal.τ).loc Cert.MlaQbFwdRefIdeal.main_arg0) = m ((c.tc : Thread Cert.MlaQbFwdIdeal.nD Cert.MlaQbFwdIdeal.τ).loc Cert.MlaQbFwdIdeal.main_arg0)
      ∧ m' ((c.tc : Thread Cert.MlaQbFwdRefIdeal.nD Cert.MlaQbFwdRefIdeal.τ).loc Cert.MlaQbFwdRefIdeal.main_arg1) = m ((c.tc : Thread Cert.MlaQbFwdIdeal.nD Cert.MlaQbFwdIdeal.τ).loc Cert.MlaQbFwdIdeal.main_arg1)) →
    ∃ (v0 : (c : Dev Cert.MlaQbFwdIdeal.nD) → Buf (Elt Ideal) ((c.tc : Thread Cert.MlaQbFwdIdeal.nD Cert.MlaQbFwdIdeal.τ).loc Cert.MlaQbFwdIdeal.main_v0)),
      θ_run (Cert.MlaQbFwdIdeal.defs (F := Ideal)) (onTc (τ := Cert.MlaQbFwdIdeal.τ) (Cert.MlaQbFwdIdeal.main (F := Ideal))) ⟨m, fun _ => 0, g⟩ (fun r => ∀ c : Dev Cert.MlaQbFwdIdeal.nD,
          r.2.mem ((c.tc : Thread Cert.MlaQbFwdIdeal.nD Cert.MlaQbFwdIdeal.τ).loc Cert.MlaQbFwdIdeal.main_v0) = v0 c
          ∧ r.2.mem ((c.tc : Thread Cert.MlaQbFwdIdeal.nD Cert.MlaQbFwdIdeal.τ).loc Cert.MlaQbFwdIdeal.main_arg0) = m ((c.tc : Thread Cert.MlaQbFwdIdeal.nD Cert.MlaQbFwdIdeal.τ).loc Cert.MlaQbFwdIdeal.main_arg0)
          ∧ r.2.mem ((c.tc : Thread Cert.MlaQbFwdIdeal.nD Cert.MlaQbFwdIdeal.τ).loc Cert.MlaQbFwdIdeal.main_arg1) = m ((c.tc : Thread Cert.MlaQbFwdIdeal.nD Cert.MlaQbFwdIdeal.τ).loc Cert.MlaQbFwdIdeal.main_arg1))
      ∧ θ_run (Cert.MlaQbFwdRefIdeal.defs (F := Ideal)) (onTc (τ := Cert.MlaQbFwdRefIdeal.τ) (Cert.MlaQbFwdRefIdeal.main (F := Ideal))) ⟨m', fun _ => 0, g'⟩ (fun r => ∀ c : Dev Cert.MlaQbFwdRefIdeal.nD,
          r.2.mem ((c.tc : Thread Cert.MlaQbFwdRefIdeal.nD Cert.MlaQbFwdRefIdeal.τ).loc Cert.MlaQbFwdRefIdeal.main_v2) = v0 c
          ∧ r.2.mem ((c.tc : Thread Cert.MlaQbFwdRefIdeal.nD Cert.MlaQbFwdRefIdeal.τ).loc Cert.MlaQbFwdRefIdeal.main_arg0) = m' ((c.tc : Thread Cert.MlaQbFwdRefIdeal.nD Cert.MlaQbFwdRefIdeal.τ).loc Cert.MlaQbFwdRefIdeal.main_arg0)
          ∧ r.2.mem ((c.tc : Thread Cert.MlaQbFwdRefIdeal.nD Cert.MlaQbFwdRefIdeal.τ).loc Cert.MlaQbFwdRefIdeal.main_arg1) = m' ((c.tc : Thread Cert.MlaQbFwdRefIdeal.nD Cert.MlaQbFwdRefIdeal.τ).loc Cert.MlaQbFwdRefIdeal.main_arg1))

def preserves_MlaKvbDx_MlaKvbDxIdeal : Prop :=
  True

def algebraic_MlaKvbDxIdeal_MlaKvbDxRefIdeal [hMlaKvbDxIdeal : Cert.MlaKvbDxIdeal.Facts] [hMlaKvbDxRefIdeal : Cert.MlaKvbDxRefIdeal.Facts] : Prop :=
  ∀ (m : (ℓ : Loc Cert.MlaKvbDxIdeal.nD Cert.MlaKvbDxIdeal.τ Cert.MlaKvbDxIdeal.sig) → Buf (Elt Ideal) ℓ) (g : Dev Cert.MlaKvbDxIdeal.nD → PrngReg)
    (m' : (ℓ : Loc Cert.MlaKvbDxRefIdeal.nD Cert.MlaKvbDxRefIdeal.τ Cert.MlaKvbDxRefIdeal.sig) → Buf (Elt Ideal) ℓ) (g' : Dev Cert.MlaKvbDxRefIdeal.nD → PrngReg), Pre_MlaKvbDxIdeal m →
    (∀ c : Dev Cert.MlaKvbDxIdeal.nD,
      m' ((c.tc : Thread Cert.MlaKvbDxRefIdeal.nD Cert.MlaKvbDxRefIdeal.τ).loc Cert.MlaKvbDxRefIdeal.main_arg0) = m ((c.tc : Thread Cert.MlaKvbDxIdeal.nD Cert.MlaKvbDxIdeal.τ).loc Cert.MlaKvbDxIdeal.main_arg0)
      ∧ m' ((c.tc : Thread Cert.MlaKvbDxRefIdeal.nD Cert.MlaKvbDxRefIdeal.τ).loc Cert.MlaKvbDxRefIdeal.main_arg1) = m ((c.tc : Thread Cert.MlaKvbDxIdeal.nD Cert.MlaKvbDxIdeal.τ).loc Cert.MlaKvbDxIdeal.main_arg1)) →
    ∃ (v0 : (c : Dev Cert.MlaKvbDxIdeal.nD) → Buf (Elt Ideal) ((c.tc : Thread Cert.MlaKvbDxIdeal.nD Cert.MlaKvbDxIdeal.τ).loc Cert.MlaKvbDxIdeal.main_v0)),
      θ_run (Cert.MlaKvbDxIdeal.defs (F := Ideal)) (onTc (τ := Cert.MlaKvbDxIdeal.τ) (Cert.MlaKvbDxIdeal.main (F := Ideal))) ⟨m, fun _ => 0, g⟩ (fun r => ∀ c : Dev Cert.MlaKvbDxIdeal.nD,
          r.2.mem ((c.tc : Thread Cert.MlaKvbDxIdeal.nD Cert.MlaKvbDxIdeal.τ).loc Cert.MlaKvbDxIdeal.main_v0) = v0 c
          ∧ r.2.mem ((c.tc : Thread Cert.MlaKvbDxIdeal.nD Cert.MlaKvbDxIdeal.τ).loc Cert.MlaKvbDxIdeal.main_arg0) = m ((c.tc : Thread Cert.MlaKvbDxIdeal.nD Cert.MlaKvbDxIdeal.τ).loc Cert.MlaKvbDxIdeal.main_arg0)
          ∧ r.2.mem ((c.tc : Thread Cert.MlaKvbDxIdeal.nD Cert.MlaKvbDxIdeal.τ).loc Cert.MlaKvbDxIdeal.main_arg1) = m ((c.tc : Thread Cert.MlaKvbDxIdeal.nD Cert.MlaKvbDxIdeal.τ).loc Cert.MlaKvbDxIdeal.main_arg1))
      ∧ θ_run (Cert.MlaKvbDxRefIdeal.defs (F := Ideal)) (onTc (τ := Cert.MlaKvbDxRefIdeal.τ) (Cert.MlaKvbDxRefIdeal.main (F := Ideal))) ⟨m', fun _ => 0, g'⟩ (fun r => ∀ c : Dev Cert.MlaKvbDxRefIdeal.nD,
          r.2.mem ((c.tc : Thread Cert.MlaKvbDxRefIdeal.nD Cert.MlaKvbDxRefIdeal.τ).loc Cert.MlaKvbDxRefIdeal.main_v4) = v0 c
          ∧ r.2.mem ((c.tc : Thread Cert.MlaKvbDxRefIdeal.nD Cert.MlaKvbDxRefIdeal.τ).loc Cert.MlaKvbDxRefIdeal.main_arg0) = m' ((c.tc : Thread Cert.MlaKvbDxRefIdeal.nD Cert.MlaKvbDxRefIdeal.τ).loc Cert.MlaKvbDxRefIdeal.main_arg0)
          ∧ r.2.mem ((c.tc : Thread Cert.MlaKvbDxRefIdeal.nD Cert.MlaKvbDxRefIdeal.τ).loc Cert.MlaKvbDxRefIdeal.main_arg1) = m' ((c.tc : Thread Cert.MlaKvbDxRefIdeal.nD Cert.MlaKvbDxRefIdeal.τ).loc Cert.MlaKvbDxRefIdeal.main_arg1))

def preserves_MlaKvbDw_MlaKvbDwIdeal : Prop :=
  True

def algebraic_MlaKvbDwIdeal_MlaKvbDwRefIdeal [hMlaKvbDwIdeal : Cert.MlaKvbDwIdeal.Facts] [hMlaKvbDwRefIdeal : Cert.MlaKvbDwRefIdeal.Facts] : Prop :=
  ∀ (m : (ℓ : Loc Cert.MlaKvbDwIdeal.nD Cert.MlaKvbDwIdeal.τ Cert.MlaKvbDwIdeal.sig) → Buf (Elt Ideal) ℓ) (g : Dev Cert.MlaKvbDwIdeal.nD → PrngReg)
    (m' : (ℓ : Loc Cert.MlaKvbDwRefIdeal.nD Cert.MlaKvbDwRefIdeal.τ Cert.MlaKvbDwRefIdeal.sig) → Buf (Elt Ideal) ℓ) (g' : Dev Cert.MlaKvbDwRefIdeal.nD → PrngReg), Pre_MlaKvbDwIdeal m →
    (∀ c : Dev Cert.MlaKvbDwIdeal.nD,
      m' ((c.tc : Thread Cert.MlaKvbDwRefIdeal.nD Cert.MlaKvbDwRefIdeal.τ).loc Cert.MlaKvbDwRefIdeal.main_arg0) = m ((c.tc : Thread Cert.MlaKvbDwIdeal.nD Cert.MlaKvbDwIdeal.τ).loc Cert.MlaKvbDwIdeal.main_arg0)
      ∧ m' ((c.tc : Thread Cert.MlaKvbDwRefIdeal.nD Cert.MlaKvbDwRefIdeal.τ).loc Cert.MlaKvbDwRefIdeal.main_arg1) = m ((c.tc : Thread Cert.MlaKvbDwIdeal.nD Cert.MlaKvbDwIdeal.τ).loc Cert.MlaKvbDwIdeal.main_arg1)) →
    ∃ (v0 : (c : Dev Cert.MlaKvbDwIdeal.nD) → Buf (Elt Ideal) ((c.tc : Thread Cert.MlaKvbDwIdeal.nD Cert.MlaKvbDwIdeal.τ).loc Cert.MlaKvbDwIdeal.main_v0)),
      θ_run (Cert.MlaKvbDwIdeal.defs (F := Ideal)) (onTc (τ := Cert.MlaKvbDwIdeal.τ) (Cert.MlaKvbDwIdeal.main (F := Ideal))) ⟨m, fun _ => 0, g⟩ (fun r => ∀ c : Dev Cert.MlaKvbDwIdeal.nD,
          r.2.mem ((c.tc : Thread Cert.MlaKvbDwIdeal.nD Cert.MlaKvbDwIdeal.τ).loc Cert.MlaKvbDwIdeal.main_v0) = v0 c
          ∧ r.2.mem ((c.tc : Thread Cert.MlaKvbDwIdeal.nD Cert.MlaKvbDwIdeal.τ).loc Cert.MlaKvbDwIdeal.main_arg0) = m ((c.tc : Thread Cert.MlaKvbDwIdeal.nD Cert.MlaKvbDwIdeal.τ).loc Cert.MlaKvbDwIdeal.main_arg0)
          ∧ r.2.mem ((c.tc : Thread Cert.MlaKvbDwIdeal.nD Cert.MlaKvbDwIdeal.τ).loc Cert.MlaKvbDwIdeal.main_arg1) = m ((c.tc : Thread Cert.MlaKvbDwIdeal.nD Cert.MlaKvbDwIdeal.τ).loc Cert.MlaKvbDwIdeal.main_arg1))
      ∧ θ_run (Cert.MlaKvbDwRefIdeal.defs (F := Ideal)) (onTc (τ := Cert.MlaKvbDwRefIdeal.τ) (Cert.MlaKvbDwRefIdeal.main (F := Ideal))) ⟨m', fun _ => 0, g'⟩ (fun r => ∀ c : Dev Cert.MlaKvbDwRefIdeal.nD,
          r.2.mem ((c.tc : Thread Cert.MlaKvbDwRefIdeal.nD Cert.MlaKvbDwRefIdeal.τ).loc Cert.MlaKvbDwRefIdeal.main_v8) = v0 c
          ∧ r.2.mem ((c.tc : Thread Cert.MlaKvbDwRefIdeal.nD Cert.MlaKvbDwRefIdeal.τ).loc Cert.MlaKvbDwRefIdeal.main_arg0) = m' ((c.tc : Thread Cert.MlaKvbDwRefIdeal.nD Cert.MlaKvbDwRefIdeal.τ).loc Cert.MlaKvbDwRefIdeal.main_arg0)
          ∧ r.2.mem ((c.tc : Thread Cert.MlaKvbDwRefIdeal.nD Cert.MlaKvbDwRefIdeal.τ).loc Cert.MlaKvbDwRefIdeal.main_arg1) = m' ((c.tc : Thread Cert.MlaKvbDwRefIdeal.nD Cert.MlaKvbDwRefIdeal.τ).loc Cert.MlaKvbDwRefIdeal.main_arg1))

def preserves_MlaKvbFwd_MlaKvbFwdIdeal : Prop :=
  True

def algebraic_MlaKvbFwdIdeal_MlaKvbFwdRefIdeal [hMlaKvbFwdIdeal : Cert.MlaKvbFwdIdeal.Facts] [hMlaKvbFwdRefIdeal : Cert.MlaKvbFwdRefIdeal.Facts] : Prop :=
  ∀ (m : (ℓ : Loc Cert.MlaKvbFwdIdeal.nD Cert.MlaKvbFwdIdeal.τ Cert.MlaKvbFwdIdeal.sig) → Buf (Elt Ideal) ℓ) (g : Dev Cert.MlaKvbFwdIdeal.nD → PrngReg)
    (m' : (ℓ : Loc Cert.MlaKvbFwdRefIdeal.nD Cert.MlaKvbFwdRefIdeal.τ Cert.MlaKvbFwdRefIdeal.sig) → Buf (Elt Ideal) ℓ) (g' : Dev Cert.MlaKvbFwdRefIdeal.nD → PrngReg), Pre_MlaKvbFwdIdeal m →
    (∀ c : Dev Cert.MlaKvbFwdIdeal.nD,
      m' ((c.tc : Thread Cert.MlaKvbFwdRefIdeal.nD Cert.MlaKvbFwdRefIdeal.τ).loc Cert.MlaKvbFwdRefIdeal.main_arg0) = m ((c.tc : Thread Cert.MlaKvbFwdIdeal.nD Cert.MlaKvbFwdIdeal.τ).loc Cert.MlaKvbFwdIdeal.main_arg0)
      ∧ m' ((c.tc : Thread Cert.MlaKvbFwdRefIdeal.nD Cert.MlaKvbFwdRefIdeal.τ).loc Cert.MlaKvbFwdRefIdeal.main_arg1) = m ((c.tc : Thread Cert.MlaKvbFwdIdeal.nD Cert.MlaKvbFwdIdeal.τ).loc Cert.MlaKvbFwdIdeal.main_arg1)) →
    ∃ (v0 : (c : Dev Cert.MlaKvbFwdIdeal.nD) → Buf (Elt Ideal) ((c.tc : Thread Cert.MlaKvbFwdIdeal.nD Cert.MlaKvbFwdIdeal.τ).loc Cert.MlaKvbFwdIdeal.main_v0)),
      θ_run (Cert.MlaKvbFwdIdeal.defs (F := Ideal)) (onTc (τ := Cert.MlaKvbFwdIdeal.τ) (Cert.MlaKvbFwdIdeal.main (F := Ideal))) ⟨m, fun _ => 0, g⟩ (fun r => ∀ c : Dev Cert.MlaKvbFwdIdeal.nD,
          r.2.mem ((c.tc : Thread Cert.MlaKvbFwdIdeal.nD Cert.MlaKvbFwdIdeal.τ).loc Cert.MlaKvbFwdIdeal.main_v0) = v0 c
          ∧ r.2.mem ((c.tc : Thread Cert.MlaKvbFwdIdeal.nD Cert.MlaKvbFwdIdeal.τ).loc Cert.MlaKvbFwdIdeal.main_arg0) = m ((c.tc : Thread Cert.MlaKvbFwdIdeal.nD Cert.MlaKvbFwdIdeal.τ).loc Cert.MlaKvbFwdIdeal.main_arg0)
          ∧ r.2.mem ((c.tc : Thread Cert.MlaKvbFwdIdeal.nD Cert.MlaKvbFwdIdeal.τ).loc Cert.MlaKvbFwdIdeal.main_arg1) = m ((c.tc : Thread Cert.MlaKvbFwdIdeal.nD Cert.MlaKvbFwdIdeal.τ).loc Cert.MlaKvbFwdIdeal.main_arg1))
      ∧ θ_run (Cert.MlaKvbFwdRefIdeal.defs (F := Ideal)) (onTc (τ := Cert.MlaKvbFwdRefIdeal.τ) (Cert.MlaKvbFwdRefIdeal.main (F := Ideal))) ⟨m', fun _ => 0, g'⟩ (fun r => ∀ c : Dev Cert.MlaKvbFwdRefIdeal.nD,
          r.2.mem ((c.tc : Thread Cert.MlaKvbFwdRefIdeal.nD Cert.MlaKvbFwdRefIdeal.τ).loc Cert.MlaKvbFwdRefIdeal.main_v2) = v0 c
          ∧ r.2.mem ((c.tc : Thread Cert.MlaKvbFwdRefIdeal.nD Cert.MlaKvbFwdRefIdeal.τ).loc Cert.MlaKvbFwdRefIdeal.main_arg0) = m' ((c.tc : Thread Cert.MlaKvbFwdRefIdeal.nD Cert.MlaKvbFwdRefIdeal.τ).loc Cert.MlaKvbFwdRefIdeal.main_arg0)
          ∧ r.2.mem ((c.tc : Thread Cert.MlaKvbFwdRefIdeal.nD Cert.MlaKvbFwdRefIdeal.τ).loc Cert.MlaKvbFwdRefIdeal.main_arg1) = m' ((c.tc : Thread Cert.MlaKvbFwdRefIdeal.nD Cert.MlaKvbFwdRefIdeal.τ).loc Cert.MlaKvbFwdRefIdeal.main_arg1))

def preserves_MlaODx_MlaODxIdeal : Prop :=
  True

def algebraic_MlaODxIdeal_MlaODxRefIdeal [hMlaODxIdeal : Cert.MlaODxIdeal.Facts] [hMlaODxRefIdeal : Cert.MlaODxRefIdeal.Facts] : Prop :=
  ∀ (m : (ℓ : Loc Cert.MlaODxIdeal.nD Cert.MlaODxIdeal.τ Cert.MlaODxIdeal.sig) → Buf (Elt Ideal) ℓ) (g : Dev Cert.MlaODxIdeal.nD → PrngReg)
    (m' : (ℓ : Loc Cert.MlaODxRefIdeal.nD Cert.MlaODxRefIdeal.τ Cert.MlaODxRefIdeal.sig) → Buf (Elt Ideal) ℓ) (g' : Dev Cert.MlaODxRefIdeal.nD → PrngReg), Pre_MlaODxIdeal m →
    (∀ c : Dev Cert.MlaODxIdeal.nD,
      m' ((c.tc : Thread Cert.MlaODxRefIdeal.nD Cert.MlaODxRefIdeal.τ).loc Cert.MlaODxRefIdeal.main_arg0) = m ((c.tc : Thread Cert.MlaODxIdeal.nD Cert.MlaODxIdeal.τ).loc Cert.MlaODxIdeal.main_arg0)
      ∧ m' ((c.tc : Thread Cert.MlaODxRefIdeal.nD Cert.MlaODxRefIdeal.τ).loc Cert.MlaODxRefIdeal.main_arg1) = m ((c.tc : Thread Cert.MlaODxIdeal.nD Cert.MlaODxIdeal.τ).loc Cert.MlaODxIdeal.main_arg1)) →
    ∃ (v0 : (c : Dev Cert.MlaODxIdeal.nD) → Buf (Elt Ideal) ((c.tc : Thread Cert.MlaODxIdeal.nD Cert.MlaODxIdeal.τ).loc Cert.MlaODxIdeal.main_v0)),
      θ_run (Cert.MlaODxIdeal.defs (F := Ideal)) (onTc (τ := Cert.MlaODxIdeal.τ) (Cert.MlaODxIdeal.main (F := Ideal))) ⟨m, fun _ => 0, g⟩ (fun r => ∀ c : Dev Cert.MlaODxIdeal.nD,
          r.2.mem ((c.tc : Thread Cert.MlaODxIdeal.nD Cert.MlaODxIdeal.τ).loc Cert.MlaODxIdeal.main_v0) = v0 c
          ∧ r.2.mem ((c.tc : Thread Cert.MlaODxIdeal.nD Cert.MlaODxIdeal.τ).loc Cert.MlaODxIdeal.main_arg0) = m ((c.tc : Thread Cert.MlaODxIdeal.nD Cert.MlaODxIdeal.τ).loc Cert.MlaODxIdeal.main_arg0)
          ∧ r.2.mem ((c.tc : Thread Cert.MlaODxIdeal.nD Cert.MlaODxIdeal.τ).loc Cert.MlaODxIdeal.main_arg1) = m ((c.tc : Thread Cert.MlaODxIdeal.nD Cert.MlaODxIdeal.τ).loc Cert.MlaODxIdeal.main_arg1))
      ∧ θ_run (Cert.MlaODxRefIdeal.defs (F := Ideal)) (onTc (τ := Cert.MlaODxRefIdeal.τ) (Cert.MlaODxRefIdeal.main (F := Ideal))) ⟨m', fun _ => 0, g'⟩ (fun r => ∀ c : Dev Cert.MlaODxRefIdeal.nD,
          r.2.mem ((c.tc : Thread Cert.MlaODxRefIdeal.nD Cert.MlaODxRefIdeal.τ).loc Cert.MlaODxRefIdeal.main_v4) = v0 c
          ∧ r.2.mem ((c.tc : Thread Cert.MlaODxRefIdeal.nD Cert.MlaODxRefIdeal.τ).loc Cert.MlaODxRefIdeal.main_arg0) = m' ((c.tc : Thread Cert.MlaODxRefIdeal.nD Cert.MlaODxRefIdeal.τ).loc Cert.MlaODxRefIdeal.main_arg0)
          ∧ r.2.mem ((c.tc : Thread Cert.MlaODxRefIdeal.nD Cert.MlaODxRefIdeal.τ).loc Cert.MlaODxRefIdeal.main_arg1) = m' ((c.tc : Thread Cert.MlaODxRefIdeal.nD Cert.MlaODxRefIdeal.τ).loc Cert.MlaODxRefIdeal.main_arg1))

def preserves_MlaODw_MlaODwIdeal : Prop :=
  True

def algebraic_MlaODwIdeal_MlaODwRefIdeal [hMlaODwIdeal : Cert.MlaODwIdeal.Facts] [hMlaODwRefIdeal : Cert.MlaODwRefIdeal.Facts] : Prop :=
  ∀ (m : (ℓ : Loc Cert.MlaODwIdeal.nD Cert.MlaODwIdeal.τ Cert.MlaODwIdeal.sig) → Buf (Elt Ideal) ℓ) (g : Dev Cert.MlaODwIdeal.nD → PrngReg)
    (m' : (ℓ : Loc Cert.MlaODwRefIdeal.nD Cert.MlaODwRefIdeal.τ Cert.MlaODwRefIdeal.sig) → Buf (Elt Ideal) ℓ) (g' : Dev Cert.MlaODwRefIdeal.nD → PrngReg), Pre_MlaODwIdeal m →
    (∀ c : Dev Cert.MlaODwIdeal.nD,
      m' ((c.tc : Thread Cert.MlaODwRefIdeal.nD Cert.MlaODwRefIdeal.τ).loc Cert.MlaODwRefIdeal.main_arg0) = m ((c.tc : Thread Cert.MlaODwIdeal.nD Cert.MlaODwIdeal.τ).loc Cert.MlaODwIdeal.main_arg0)
      ∧ m' ((c.tc : Thread Cert.MlaODwRefIdeal.nD Cert.MlaODwRefIdeal.τ).loc Cert.MlaODwRefIdeal.main_arg1) = m ((c.tc : Thread Cert.MlaODwIdeal.nD Cert.MlaODwIdeal.τ).loc Cert.MlaODwIdeal.main_arg1)) →
    ∃ (v0 : (c : Dev Cert.MlaODwIdeal.nD) → Buf (Elt Ideal) ((c.tc : Thread Cert.MlaODwIdeal.nD Cert.MlaODwIdeal.τ).loc Cert.MlaODwIdeal.main_v0)),
      θ_run (Cert.MlaODwIdeal.defs (F := Ideal)) (onTc (τ := Cert.MlaODwIdeal.τ) (Cert.MlaODwIdeal.main (F := Ideal))) ⟨m, fun _ => 0, g⟩ (fun r => ∀ c : Dev Cert.MlaODwIdeal.nD,
          r.2.mem ((c.tc : Thread Cert.MlaODwIdeal.nD Cert.MlaODwIdeal.τ).loc Cert.MlaODwIdeal.main_v0) = v0 c
          ∧ r.2.mem ((c.tc : Thread Cert.MlaODwIdeal.nD Cert.MlaODwIdeal.τ).loc Cert.MlaODwIdeal.main_arg0) = m ((c.tc : Thread Cert.MlaODwIdeal.nD Cert.MlaODwIdeal.τ).loc Cert.MlaODwIdeal.main_arg0)
          ∧ r.2.mem ((c.tc : Thread Cert.MlaODwIdeal.nD Cert.MlaODwIdeal.τ).loc Cert.MlaODwIdeal.main_arg1) = m ((c.tc : Thread Cert.MlaODwIdeal.nD Cert.MlaODwIdeal.τ).loc Cert.MlaODwIdeal.main_arg1))
      ∧ θ_run (Cert.MlaODwRefIdeal.defs (F := Ideal)) (onTc (τ := Cert.MlaODwRefIdeal.τ) (Cert.MlaODwRefIdeal.main (F := Ideal))) ⟨m', fun _ => 0, g'⟩ (fun r => ∀ c : Dev Cert.MlaODwRefIdeal.nD,
          r.2.mem ((c.tc : Thread Cert.MlaODwRefIdeal.nD Cert.MlaODwRefIdeal.τ).loc Cert.MlaODwRefIdeal.main_v4) = v0 c
          ∧ r.2.mem ((c.tc : Thread Cert.MlaODwRefIdeal.nD Cert.MlaODwRefIdeal.τ).loc Cert.MlaODwRefIdeal.main_arg0) = m' ((c.tc : Thread Cert.MlaODwRefIdeal.nD Cert.MlaODwRefIdeal.τ).loc Cert.MlaODwRefIdeal.main_arg0)
          ∧ r.2.mem ((c.tc : Thread Cert.MlaODwRefIdeal.nD Cert.MlaODwRefIdeal.τ).loc Cert.MlaODwRefIdeal.main_arg1) = m' ((c.tc : Thread Cert.MlaODwRefIdeal.nD Cert.MlaODwRefIdeal.τ).loc Cert.MlaODwRefIdeal.main_arg1))

def preserves_MlaOFwd_MlaOFwdIdeal : Prop :=
  True

def algebraic_MlaOFwdIdeal_MlaOFwdRefIdeal [hMlaOFwdIdeal : Cert.MlaOFwdIdeal.Facts] [hMlaOFwdRefIdeal : Cert.MlaOFwdRefIdeal.Facts] : Prop :=
  ∀ (m : (ℓ : Loc Cert.MlaOFwdIdeal.nD Cert.MlaOFwdIdeal.τ Cert.MlaOFwdIdeal.sig) → Buf (Elt Ideal) ℓ) (g : Dev Cert.MlaOFwdIdeal.nD → PrngReg)
    (m' : (ℓ : Loc Cert.MlaOFwdRefIdeal.nD Cert.MlaOFwdRefIdeal.τ Cert.MlaOFwdRefIdeal.sig) → Buf (Elt Ideal) ℓ) (g' : Dev Cert.MlaOFwdRefIdeal.nD → PrngReg), Pre_MlaOFwdIdeal m →
    (∀ c : Dev Cert.MlaOFwdIdeal.nD,
      m' ((c.tc : Thread Cert.MlaOFwdRefIdeal.nD Cert.MlaOFwdRefIdeal.τ).loc Cert.MlaOFwdRefIdeal.main_arg0) = m ((c.tc : Thread Cert.MlaOFwdIdeal.nD Cert.MlaOFwdIdeal.τ).loc Cert.MlaOFwdIdeal.main_arg0)
      ∧ m' ((c.tc : Thread Cert.MlaOFwdRefIdeal.nD Cert.MlaOFwdRefIdeal.τ).loc Cert.MlaOFwdRefIdeal.main_arg1) = m ((c.tc : Thread Cert.MlaOFwdIdeal.nD Cert.MlaOFwdIdeal.τ).loc Cert.MlaOFwdIdeal.main_arg1)) →
    ∃ (v0 : (c : Dev Cert.MlaOFwdIdeal.nD) → Buf (Elt Ideal) ((c.tc : Thread Cert.MlaOFwdIdeal.nD Cert.MlaOFwdIdeal.τ).loc Cert.MlaOFwdIdeal.main_v0)),
      θ_run (Cert.MlaOFwdIdeal.defs (F := Ideal)) (onTc (τ := Cert.MlaOFwdIdeal.τ) (Cert.MlaOFwdIdeal.main (F := Ideal))) ⟨m, fun _ => 0, g⟩ (fun r => ∀ c : Dev Cert.MlaOFwdIdeal.nD,
          r.2.mem ((c.tc : Thread Cert.MlaOFwdIdeal.nD Cert.MlaOFwdIdeal.τ).loc Cert.MlaOFwdIdeal.main_v0) = v0 c
          ∧ r.2.mem ((c.tc : Thread Cert.MlaOFwdIdeal.nD Cert.MlaOFwdIdeal.τ).loc Cert.MlaOFwdIdeal.main_arg0) = m ((c.tc : Thread Cert.MlaOFwdIdeal.nD Cert.MlaOFwdIdeal.τ).loc Cert.MlaOFwdIdeal.main_arg0)
          ∧ r.2.mem ((c.tc : Thread Cert.MlaOFwdIdeal.nD Cert.MlaOFwdIdeal.τ).loc Cert.MlaOFwdIdeal.main_arg1) = m ((c.tc : Thread Cert.MlaOFwdIdeal.nD Cert.MlaOFwdIdeal.τ).loc Cert.MlaOFwdIdeal.main_arg1))
      ∧ θ_run (Cert.MlaOFwdRefIdeal.defs (F := Ideal)) (onTc (τ := Cert.MlaOFwdRefIdeal.τ) (Cert.MlaOFwdRefIdeal.main (F := Ideal))) ⟨m', fun _ => 0, g'⟩ (fun r => ∀ c : Dev Cert.MlaOFwdRefIdeal.nD,
          r.2.mem ((c.tc : Thread Cert.MlaOFwdRefIdeal.nD Cert.MlaOFwdRefIdeal.τ).loc Cert.MlaOFwdRefIdeal.main_v2) = v0 c
          ∧ r.2.mem ((c.tc : Thread Cert.MlaOFwdRefIdeal.nD Cert.MlaOFwdRefIdeal.τ).loc Cert.MlaOFwdRefIdeal.main_arg0) = m' ((c.tc : Thread Cert.MlaOFwdRefIdeal.nD Cert.MlaOFwdRefIdeal.τ).loc Cert.MlaOFwdRefIdeal.main_arg0)
          ∧ r.2.mem ((c.tc : Thread Cert.MlaOFwdRefIdeal.nD Cert.MlaOFwdRefIdeal.τ).loc Cert.MlaOFwdRefIdeal.main_arg1) = m' ((c.tc : Thread Cert.MlaOFwdRefIdeal.nD Cert.MlaOFwdRefIdeal.τ).loc Cert.MlaOFwdRefIdeal.main_arg1))

def preserves_ConvBwd_ConvBwdIdeal : Prop :=
  True

def algebraic_ConvBwdIdeal_ConvBwdRefIdeal_pre_finite_cotangent [hConvBwdIdeal : Cert.ConvBwdIdeal.Facts] [hConvBwdRefIdeal : Cert.ConvBwdRefIdeal.Facts] [hPre_finite_cotangent : Cert.Pre_finite_cotangent.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_cotangent m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v65) = v0 c
          ∧ r.2.mem ((c.tc : Thread Cert.ConvBwdRefIdeal.nD Cert.ConvBwdRefIdeal.τ).loc Cert.ConvBwdRefIdeal.main_v63) = v1 c
          ∧ r.2.mem ((c.tc : Thread Cert.ConvBwdRefIdeal.nD Cert.ConvBwdRefIdeal.τ).loc Cert.ConvBwdRefIdeal.main_v29) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v25) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v11) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v5) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v0) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def preserves_ResidBwd_ResidBwdIdeal : Prop :=
  True

def algebraic_ResidBwdIdeal_ResidBwdRefIdeal [hResidBwdIdeal : Cert.ResidBwdIdeal.Facts] [hResidBwdRefIdeal : Cert.ResidBwdRefIdeal.Facts] : Prop :=
  ∀ (m : (ℓ : Loc Cert.ResidBwdIdeal.nD Cert.ResidBwdIdeal.τ Cert.ResidBwdIdeal.sig) → Buf (Elt Ideal) ℓ) (g : Dev Cert.ResidBwdIdeal.nD → PrngReg)
    (m' : (ℓ : Loc Cert.ResidBwdRefIdeal.nD Cert.ResidBwdRefIdeal.τ Cert.ResidBwdRefIdeal.sig) → Buf (Elt Ideal) ℓ) (g' : Dev Cert.ResidBwdRefIdeal.nD → PrngReg), Pre_ResidBwdIdeal m →
    (∀ c : Dev Cert.ResidBwdIdeal.nD,
      m' ((c.tc : Thread Cert.ResidBwdRefIdeal.nD Cert.ResidBwdRefIdeal.τ).loc Cert.ResidBwdRefIdeal.main_arg0) = m ((c.tc : Thread Cert.ResidBwdIdeal.nD Cert.ResidBwdIdeal.τ).loc Cert.ResidBwdIdeal.main_arg0)
      ∧ m' ((c.tc : Thread Cert.ResidBwdRefIdeal.nD Cert.ResidBwdRefIdeal.τ).loc Cert.ResidBwdRefIdeal.main_arg1) = m ((c.tc : Thread Cert.ResidBwdIdeal.nD Cert.ResidBwdIdeal.τ).loc Cert.ResidBwdIdeal.main_arg1)
      ∧ m' ((c.tc : Thread Cert.ResidBwdRefIdeal.nD Cert.ResidBwdRefIdeal.τ).loc Cert.ResidBwdRefIdeal.main_arg2) = m ((c.tc : Thread Cert.ResidBwdIdeal.nD Cert.ResidBwdIdeal.τ).loc Cert.ResidBwdIdeal.main_arg2)
      ∧ m' ((c.tc : Thread Cert.ResidBwdRefIdeal.nD Cert.ResidBwdRefIdeal.τ).loc Cert.ResidBwdRefIdeal.main_arg3) = m ((c.tc : Thread Cert.ResidBwdIdeal.nD Cert.ResidBwdIdeal.τ).loc Cert.ResidBwdIdeal.main_arg3)) →
    ∃ (v0 : (c : Dev Cert.ResidBwdIdeal.nD) → Buf (Elt Ideal) ((c.tc : Thread Cert.ResidBwdIdeal.nD Cert.ResidBwdIdeal.τ).loc Cert.ResidBwdIdeal.main_v0_0)) (v1 : (c : Dev Cert.ResidBwdIdeal.nD) → Buf (Elt Ideal) ((c.tc : Thread Cert.ResidBwdIdeal.nD Cert.ResidBwdIdeal.τ).loc Cert.ResidBwdIdeal.main_v0_1)) (v2 : (c : Dev Cert.ResidBwdIdeal.nD) → Buf (Elt Ideal) ((c.tc : Thread Cert.ResidBwdIdeal.nD Cert.ResidBwdIdeal.τ).loc Cert.ResidBwdIdeal.main_v0_2)),
      θ_run (Cert.ResidBwdIdeal.defs (F := Ideal)) (onTc (τ := Cert.ResidBwdIdeal.τ) (Cert.ResidBwdIdeal.main (F := Ideal))) ⟨m, fun _ => 0, g⟩ (fun r => ∀ c : Dev Cert.ResidBwdIdeal.nD,
          r.2.mem ((c.tc : Thread Cert.ResidBwdIdeal.nD Cert.ResidBwdIdeal.τ).loc Cert.ResidBwdIdeal.main_v0_0) = v0 c
          ∧ r.2.mem ((c.tc : Thread Cert.ResidBwdIdeal.nD Cert.ResidBwdIdeal.τ).loc Cert.ResidBwdIdeal.main_v0_1) = v1 c
          ∧ r.2.mem ((c.tc : Thread Cert.ResidBwdIdeal.nD Cert.ResidBwdIdeal.τ).loc Cert.ResidBwdIdeal.main_v0_2) = v2 c
          ∧ r.2.mem ((c.tc : Thread Cert.ResidBwdIdeal.nD Cert.ResidBwdIdeal.τ).loc Cert.ResidBwdIdeal.main_arg0) = m ((c.tc : Thread Cert.ResidBwdIdeal.nD Cert.ResidBwdIdeal.τ).loc Cert.ResidBwdIdeal.main_arg0)
          ∧ r.2.mem ((c.tc : Thread Cert.ResidBwdIdeal.nD Cert.ResidBwdIdeal.τ).loc Cert.ResidBwdIdeal.main_arg1) = m ((c.tc : Thread Cert.ResidBwdIdeal.nD Cert.ResidBwdIdeal.τ).loc Cert.ResidBwdIdeal.main_arg1)
          ∧ r.2.mem ((c.tc : Thread Cert.ResidBwdIdeal.nD Cert.ResidBwdIdeal.τ).loc Cert.ResidBwdIdeal.main_arg2) = m ((c.tc : Thread Cert.ResidBwdIdeal.nD Cert.ResidBwdIdeal.τ).loc Cert.ResidBwdIdeal.main_arg2)
          ∧ r.2.mem ((c.tc : Thread Cert.ResidBwdIdeal.nD Cert.ResidBwdIdeal.τ).loc Cert.ResidBwdIdeal.main_arg3) = m ((c.tc : Thread Cert.ResidBwdIdeal.nD Cert.ResidBwdIdeal.τ).loc Cert.ResidBwdIdeal.main_arg3))
      ∧ θ_run (Cert.ResidBwdRefIdeal.defs (F := Ideal)) (onTc (τ := Cert.ResidBwdRefIdeal.τ) (Cert.ResidBwdRefIdeal.main (F := Ideal))) ⟨m', fun _ => 0, g'⟩ (fun r => ∀ c : Dev Cert.ResidBwdRefIdeal.nD,
          r.2.mem ((c.tc : Thread Cert.ResidBwdRefIdeal.nD Cert.ResidBwdRefIdeal.τ).loc Cert.ResidBwdRefIdeal.main_arg3) = v0 c
          ∧ r.2.mem ((c.tc : Thread Cert.ResidBwdRefIdeal.nD Cert.ResidBwdRefIdeal.τ).loc Cert.ResidBwdRefIdeal.main_v7) = v1 c
          ∧ r.2.mem ((c.tc : Thread Cert.ResidBwdRefIdeal.nD Cert.ResidBwdRefIdeal.τ).loc Cert.ResidBwdRefIdeal.main_v12) = v2 c
          ∧ r.2.mem ((c.tc : Thread Cert.ResidBwdRefIdeal.nD Cert.ResidBwdRefIdeal.τ).loc Cert.ResidBwdRefIdeal.main_arg0) = m' ((c.tc : Thread Cert.ResidBwdRefIdeal.nD Cert.ResidBwdRefIdeal.τ).loc Cert.ResidBwdRefIdeal.main_arg0)
          ∧ r.2.mem ((c.tc : Thread Cert.ResidBwdRefIdeal.nD Cert.ResidBwdRefIdeal.τ).loc Cert.ResidBwdRefIdeal.main_arg1) = m' ((c.tc : Thread Cert.ResidBwdRefIdeal.nD Cert.ResidBwdRefIdeal.τ).loc Cert.ResidBwdRefIdeal.main_arg1)
          ∧ r.2.mem ((c.tc : Thread Cert.ResidBwdRefIdeal.nD Cert.ResidBwdRefIdeal.τ).loc Cert.ResidBwdRefIdeal.main_arg2) = m' ((c.tc : Thread Cert.ResidBwdRefIdeal.nD Cert.ResidBwdRefIdeal.τ).loc Cert.ResidBwdRefIdeal.main_arg2)
          ∧ r.2.mem ((c.tc : Thread Cert.ResidBwdRefIdeal.nD Cert.ResidBwdRefIdeal.τ).loc Cert.ResidBwdRefIdeal.main_arg3) = m' ((c.tc : Thread Cert.ResidBwdRefIdeal.nD Cert.ResidBwdRefIdeal.τ).loc Cert.ResidBwdRefIdeal.main_arg3))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)) →
    ∃ (v0 : (c : Dev Cert.ResidFwdIdeal.nD) → Buf (Elt Ideal) ((c.tc : Thread Cert.ResidFwdIdeal.nD Cert.ResidFwdIdeal.τ).loc Cert.ResidFwdIdeal.main_v0)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v0) = v0 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v4) = v0 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v22) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v0_1)) (v1 : (c : Dev Cert.AdamGuIdeal.nD) → Buf (Elt Ideal) ((c.tc : Thread Cert.AdamGuIdeal.nD Cert.AdamGuIdeal.τ).loc Cert.AdamGuIdeal.main_v0_2)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_1) = v0 c
          ∧ r.2.mem ((c.tc : Thread Cert.AdamGuIdeal.nD Cert.AdamGuIdeal.τ).loc Cert.AdamGuIdeal.main_v0_2) = v1 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v4) = v0 c
          ∧ r.2.mem ((c.tc : Thread Cert.AdamGuRefIdeal.nD Cert.AdamGuRefIdeal.τ).loc Cert.AdamGuRefIdeal.main_v10) = v1 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def Claim : Prop :=
  ∃ (hSsd : Cert.Ssd.Facts) (hSsdIdeal : Cert.SsdIdeal.Facts) (hSsdRefIdeal : Cert.SsdRefIdeal.Facts) (hSsdFwd : Cert.SsdFwd.Facts) (hSsdFwdIdeal : Cert.SsdFwdIdeal.Facts) (hSsdFwdRefIdeal : Cert.SsdFwdRefIdeal.Facts) (hGuDx : Cert.GuDx.Facts) (hGuDxIdeal : Cert.GuDxIdeal.Facts) (hGuDxRefIdeal : Cert.GuDxRefIdeal.Facts) (hGuDw : Cert.GuDw.Facts) (hGuDwIdeal : Cert.GuDwIdeal.Facts) (hGuDwRefIdeal : Cert.GuDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGuFwd : Cert.GuFwd.Facts) (hGuFwdIdeal : Cert.GuFwdIdeal.Facts) (hGuFwdRefIdeal : Cert.GuFwdRefIdeal.Facts) (hDownFwd : Cert.DownFwd.Facts) (hDownFwdIdeal : Cert.DownFwdIdeal.Facts) (hDownFwdRefIdeal : Cert.DownFwdRefIdeal.Facts) (hSsdZDx : Cert.SsdZDx.Facts) (hSsdZDxIdeal : Cert.SsdZDxIdeal.Facts) (hSsdZDxRefIdeal : Cert.SsdZDxRefIdeal.Facts) (hSsdZDw : Cert.SsdZDw.Facts) (hSsdZDwIdeal : Cert.SsdZDwIdeal.Facts) (hSsdZDwRefIdeal : Cert.SsdZDwRefIdeal.Facts) (hSsdZFwd : Cert.SsdZFwd.Facts) (hSsdZFwdIdeal : Cert.SsdZFwdIdeal.Facts) (hSsdZFwdRefIdeal : Cert.SsdZFwdRefIdeal.Facts) (hSsdXbcDx : Cert.SsdXbcDx.Facts) (hSsdXbcDxIdeal : Cert.SsdXbcDxIdeal.Facts) (hSsdXbcDxRefIdeal : Cert.SsdXbcDxRefIdeal.Facts) (hSsdXbcDw : Cert.SsdXbcDw.Facts) (hSsdXbcDwIdeal : Cert.SsdXbcDwIdeal.Facts) (hSsdXbcDwRefIdeal : Cert.SsdXbcDwRefIdeal.Facts) (hSsdXbcFwd : Cert.SsdXbcFwd.Facts) (hSsdXbcFwdIdeal : Cert.SsdXbcFwdIdeal.Facts) (hSsdXbcFwdRefIdeal : Cert.SsdXbcFwdRefIdeal.Facts) (hSsdDtDx : Cert.SsdDtDx.Facts) (hSsdDtDxIdeal : Cert.SsdDtDxIdeal.Facts) (hSsdDtDxRefIdeal : Cert.SsdDtDxRefIdeal.Facts) (hSsdDtDw : Cert.SsdDtDw.Facts) (hSsdDtDwIdeal : Cert.SsdDtDwIdeal.Facts) (hSsdDtDwRefIdeal : Cert.SsdDtDwRefIdeal.Facts) (hSsdDtFwd : Cert.SsdDtFwd.Facts) (hSsdDtFwdIdeal : Cert.SsdDtFwdIdeal.Facts) (hSsdDtFwdRefIdeal : Cert.SsdDtFwdRefIdeal.Facts) (hSsdOutDx : Cert.SsdOutDx.Facts) (hSsdOutDxIdeal : Cert.SsdOutDxIdeal.Facts) (hSsdOutDxRefIdeal : Cert.SsdOutDxRefIdeal.Facts) (hSsdOutDw : Cert.SsdOutDw.Facts) (hSsdOutDwIdeal : Cert.SsdOutDwIdeal.Facts) (hSsdOutDwRefIdeal : Cert.SsdOutDwRefIdeal.Facts) (hSsdOutFwd : Cert.SsdOutFwd.Facts) (hSsdOutFwdIdeal : Cert.SsdOutFwdIdeal.Facts) (hSsdOutFwdRefIdeal : Cert.SsdOutFwdRefIdeal.Facts) (hMlaADx : Cert.MlaADx.Facts) (hMlaADxIdeal : Cert.MlaADxIdeal.Facts) (hMlaADxRefIdeal : Cert.MlaADxRefIdeal.Facts) (hMlaADw : Cert.MlaADw.Facts) (hMlaADwIdeal : Cert.MlaADwIdeal.Facts) (hMlaADwRefIdeal : Cert.MlaADwRefIdeal.Facts) (hMlaAFwd : Cert.MlaAFwd.Facts) (hMlaAFwdIdeal : Cert.MlaAFwdIdeal.Facts) (hMlaAFwdRefIdeal : Cert.MlaAFwdRefIdeal.Facts) (hMlaQbDx : Cert.MlaQbDx.Facts) (hMlaQbDxIdeal : Cert.MlaQbDxIdeal.Facts) (hMlaQbDxRefIdeal : Cert.MlaQbDxRefIdeal.Facts) (hMlaQbDw : Cert.MlaQbDw.Facts) (hMlaQbDwIdeal : Cert.MlaQbDwIdeal.Facts) (hMlaQbDwRefIdeal : Cert.MlaQbDwRefIdeal.Facts) (hMlaQbFwd : Cert.MlaQbFwd.Facts) (hMlaQbFwdIdeal : Cert.MlaQbFwdIdeal.Facts) (hMlaQbFwdRefIdeal : Cert.MlaQbFwdRefIdeal.Facts) (hMlaKvbDx : Cert.MlaKvbDx.Facts) (hMlaKvbDxIdeal : Cert.MlaKvbDxIdeal.Facts) (hMlaKvbDxRefIdeal : Cert.MlaKvbDxRefIdeal.Facts) (hMlaKvbDw : Cert.MlaKvbDw.Facts) (hMlaKvbDwIdeal : Cert.MlaKvbDwIdeal.Facts) (hMlaKvbDwRefIdeal : Cert.MlaKvbDwRefIdeal.Facts) (hMlaKvbFwd : Cert.MlaKvbFwd.Facts) (hMlaKvbFwdIdeal : Cert.MlaKvbFwdIdeal.Facts) (hMlaKvbFwdRefIdeal : Cert.MlaKvbFwdRefIdeal.Facts) (hMlaODx : Cert.MlaODx.Facts) (hMlaODxIdeal : Cert.MlaODxIdeal.Facts) (hMlaODxRefIdeal : Cert.MlaODxRefIdeal.Facts) (hMlaODw : Cert.MlaODw.Facts) (hMlaODwIdeal : Cert.MlaODwIdeal.Facts) (hMlaODwRefIdeal : Cert.MlaODwRefIdeal.Facts) (hMlaOFwd : Cert.MlaOFwd.Facts) (hMlaOFwdIdeal : Cert.MlaOFwdIdeal.Facts) (hMlaOFwdRefIdeal : Cert.MlaOFwdRefIdeal.Facts) (hConvBwd : Cert.ConvBwd.Facts) (hConvBwdIdeal : Cert.ConvBwdIdeal.Facts) (hConvBwdRefIdeal : Cert.ConvBwdRefIdeal.Facts) (hConvFwd : Cert.ConvFwd.Facts) (hConvFwdIdeal : Cert.ConvFwdIdeal.Facts) (hConvFwdRefIdeal : Cert.ConvFwdRefIdeal.Facts) (hSwigluBwd : Cert.SwigluBwd.Facts) (hSwigluBwdIdeal : Cert.SwigluBwdIdeal.Facts) (hSwigluBwdRefIdeal : Cert.SwigluBwdRefIdeal.Facts) (hSwigluFwd : Cert.SwigluFwd.Facts) (hSwigluFwdIdeal : Cert.SwigluFwdIdeal.Facts) (hSwigluFwdRefIdeal : Cert.SwigluFwdRefIdeal.Facts) (hAdaDw : Cert.AdaDw.Facts) (hAdaDwIdeal : Cert.AdaDwIdeal.Facts) (hAdaDwRefIdeal : Cert.AdaDwRefIdeal.Facts) (hAdaFwd : Cert.AdaFwd.Facts) (hAdaFwdIdeal : Cert.AdaFwdIdeal.Facts) (hAdaFwdRefIdeal : Cert.AdaFwdRefIdeal.Facts) (hResidBwd : Cert.ResidBwd.Facts) (hResidBwdIdeal : Cert.ResidBwdIdeal.Facts) (hResidBwdRefIdeal : Cert.ResidBwdRefIdeal.Facts) (hResidFwd : Cert.ResidFwd.Facts) (hResidFwdIdeal : Cert.ResidFwdIdeal.Facts) (hResidFwdRefIdeal : Cert.ResidFwdRefIdeal.Facts) (hLossHead : Cert.LossHead.Facts) (hLossHeadIdeal : Cert.LossHeadIdeal.Facts) (hLossHeadRefIdeal : Cert.LossHeadRefIdeal.Facts) (hAdamGu : Cert.AdamGu.Facts) (hAdamGuIdeal : Cert.AdamGuIdeal.Facts) (hAdamGuRefIdeal : Cert.AdamGuRefIdeal.Facts) (hPre_all_finite : Cert.Pre_all_finite.Facts) (hPre_finite_inputs : Cert.Pre_finite_inputs.Facts) (hPre_finite_cotangent : Cert.Pre_finite_cotangent.Facts),
    quiescent_Ssd (hSsd := hSsd)
    ∧ quiescent_SsdIdeal (hSsdIdeal := hSsdIdeal)
    ∧ quiescent_SsdIdeal_pre_all_finite (hSsdIdeal := hSsdIdeal) (hPre_all_finite := hPre_all_finite)
    ∧ quiescent_SsdRefIdeal (hSsdRefIdeal := hSsdRefIdeal)
    ∧ quiescent_SsdRefIdeal_pre_all_finite (hSsdRefIdeal := hSsdRefIdeal) (hPre_all_finite := hPre_all_finite)
    ∧ quiescent_SsdFwd (hSsdFwd := hSsdFwd)
    ∧ quiescent_SsdFwdIdeal (hSsdFwdIdeal := hSsdFwdIdeal)
    ∧ quiescent_SsdFwdIdeal_pre_finite_inputs (hSsdFwdIdeal := hSsdFwdIdeal) (hPre_finite_inputs := hPre_finite_inputs)
    ∧ quiescent_SsdFwdRefIdeal (hSsdFwdRefIdeal := hSsdFwdRefIdeal)
    ∧ quiescent_SsdFwdRefIdeal_pre_finite_inputs (hSsdFwdRefIdeal := hSsdFwdRefIdeal) (hPre_finite_inputs := hPre_finite_inputs)
    ∧ quiescent_GuDx (hGuDx := hGuDx)
    ∧ quiescent_GuDxIdeal (hGuDxIdeal := hGuDxIdeal)
    ∧ quiescent_GuDxRefIdeal (hGuDxRefIdeal := hGuDxRefIdeal)
    ∧ quiescent_GuDw (hGuDw := hGuDw)
    ∧ quiescent_GuDwIdeal (hGuDwIdeal := hGuDwIdeal)
    ∧ quiescent_GuDwRefIdeal (hGuDwRefIdeal := hGuDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GuFwd (hGuFwd := hGuFwd)
    ∧ quiescent_GuFwdIdeal (hGuFwdIdeal := hGuFwdIdeal)
    ∧ quiescent_GuFwdRefIdeal (hGuFwdRefIdeal := hGuFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_SsdZDx (hSsdZDx := hSsdZDx)
    ∧ quiescent_SsdZDxIdeal (hSsdZDxIdeal := hSsdZDxIdeal)
    ∧ quiescent_SsdZDxRefIdeal (hSsdZDxRefIdeal := hSsdZDxRefIdeal)
    ∧ quiescent_SsdZDw (hSsdZDw := hSsdZDw)
    ∧ quiescent_SsdZDwIdeal (hSsdZDwIdeal := hSsdZDwIdeal)
    ∧ quiescent_SsdZDwRefIdeal (hSsdZDwRefIdeal := hSsdZDwRefIdeal)
    ∧ quiescent_SsdZFwd (hSsdZFwd := hSsdZFwd)
    ∧ quiescent_SsdZFwdIdeal (hSsdZFwdIdeal := hSsdZFwdIdeal)
    ∧ quiescent_SsdZFwdRefIdeal (hSsdZFwdRefIdeal := hSsdZFwdRefIdeal)
    ∧ quiescent_SsdXbcDx (hSsdXbcDx := hSsdXbcDx)
    ∧ quiescent_SsdXbcDxIdeal (hSsdXbcDxIdeal := hSsdXbcDxIdeal)
    ∧ quiescent_SsdXbcDxRefIdeal (hSsdXbcDxRefIdeal := hSsdXbcDxRefIdeal)
    ∧ quiescent_SsdXbcDw (hSsdXbcDw := hSsdXbcDw)
    ∧ quiescent_SsdXbcDwIdeal (hSsdXbcDwIdeal := hSsdXbcDwIdeal)
    ∧ quiescent_SsdXbcDwRefIdeal (hSsdXbcDwRefIdeal := hSsdXbcDwRefIdeal)
    ∧ quiescent_SsdXbcFwd (hSsdXbcFwd := hSsdXbcFwd)
    ∧ quiescent_SsdXbcFwdIdeal (hSsdXbcFwdIdeal := hSsdXbcFwdIdeal)
    ∧ quiescent_SsdXbcFwdRefIdeal (hSsdXbcFwdRefIdeal := hSsdXbcFwdRefIdeal)
    ∧ quiescent_SsdDtDx (hSsdDtDx := hSsdDtDx)
    ∧ quiescent_SsdDtDxIdeal (hSsdDtDxIdeal := hSsdDtDxIdeal)
    ∧ quiescent_SsdDtDxRefIdeal (hSsdDtDxRefIdeal := hSsdDtDxRefIdeal)
    ∧ quiescent_SsdDtDw (hSsdDtDw := hSsdDtDw)
    ∧ quiescent_SsdDtDwIdeal (hSsdDtDwIdeal := hSsdDtDwIdeal)
    ∧ quiescent_SsdDtDwRefIdeal (hSsdDtDwRefIdeal := hSsdDtDwRefIdeal)
    ∧ quiescent_SsdDtFwd (hSsdDtFwd := hSsdDtFwd)
    ∧ quiescent_SsdDtFwdIdeal (hSsdDtFwdIdeal := hSsdDtFwdIdeal)
    ∧ quiescent_SsdDtFwdRefIdeal (hSsdDtFwdRefIdeal := hSsdDtFwdRefIdeal)
    ∧ quiescent_SsdOutDx (hSsdOutDx := hSsdOutDx)
    ∧ quiescent_SsdOutDxIdeal (hSsdOutDxIdeal := hSsdOutDxIdeal)
    ∧ quiescent_SsdOutDxRefIdeal (hSsdOutDxRefIdeal := hSsdOutDxRefIdeal)
    ∧ quiescent_SsdOutDw (hSsdOutDw := hSsdOutDw)
    ∧ quiescent_SsdOutDwIdeal (hSsdOutDwIdeal := hSsdOutDwIdeal)
    ∧ quiescent_SsdOutDwRefIdeal (hSsdOutDwRefIdeal := hSsdOutDwRefIdeal)
    ∧ quiescent_SsdOutFwd (hSsdOutFwd := hSsdOutFwd)
    ∧ quiescent_SsdOutFwdIdeal (hSsdOutFwdIdeal := hSsdOutFwdIdeal)
    ∧ quiescent_SsdOutFwdRefIdeal (hSsdOutFwdRefIdeal := hSsdOutFwdRefIdeal)
    ∧ quiescent_MlaADx (hMlaADx := hMlaADx)
    ∧ quiescent_MlaADxIdeal (hMlaADxIdeal := hMlaADxIdeal)
    ∧ quiescent_MlaADxRefIdeal (hMlaADxRefIdeal := hMlaADxRefIdeal)
    ∧ quiescent_MlaADw (hMlaADw := hMlaADw)
    ∧ quiescent_MlaADwIdeal (hMlaADwIdeal := hMlaADwIdeal)
    ∧ quiescent_MlaADwRefIdeal (hMlaADwRefIdeal := hMlaADwRefIdeal)
    ∧ quiescent_MlaAFwd (hMlaAFwd := hMlaAFwd)
    ∧ quiescent_MlaAFwdIdeal (hMlaAFwdIdeal := hMlaAFwdIdeal)
    ∧ quiescent_MlaAFwdRefIdeal (hMlaAFwdRefIdeal := hMlaAFwdRefIdeal)
    ∧ quiescent_MlaQbDx (hMlaQbDx := hMlaQbDx)
    ∧ quiescent_MlaQbDxIdeal (hMlaQbDxIdeal := hMlaQbDxIdeal)
    ∧ quiescent_MlaQbDxRefIdeal (hMlaQbDxRefIdeal := hMlaQbDxRefIdeal)
    ∧ quiescent_MlaQbDw (hMlaQbDw := hMlaQbDw)
    ∧ quiescent_MlaQbDwIdeal (hMlaQbDwIdeal := hMlaQbDwIdeal)
    ∧ quiescent_MlaQbDwRefIdeal (hMlaQbDwRefIdeal := hMlaQbDwRefIdeal)
    ∧ quiescent_MlaQbFwd (hMlaQbFwd := hMlaQbFwd)
    ∧ quiescent_MlaQbFwdIdeal (hMlaQbFwdIdeal := hMlaQbFwdIdeal)
    ∧ quiescent_MlaQbFwdRefIdeal (hMlaQbFwdRefIdeal := hMlaQbFwdRefIdeal)
    ∧ quiescent_MlaKvbDx (hMlaKvbDx := hMlaKvbDx)
    ∧ quiescent_MlaKvbDxIdeal (hMlaKvbDxIdeal := hMlaKvbDxIdeal)
    ∧ quiescent_MlaKvbDxRefIdeal (hMlaKvbDxRefIdeal := hMlaKvbDxRefIdeal)
    ∧ quiescent_MlaKvbDw (hMlaKvbDw := hMlaKvbDw)
    ∧ quiescent_MlaKvbDwIdeal (hMlaKvbDwIdeal := hMlaKvbDwIdeal)
    ∧ quiescent_MlaKvbDwRefIdeal (hMlaKvbDwRefIdeal := hMlaKvbDwRefIdeal)
    ∧ quiescent_MlaKvbFwd (hMlaKvbFwd := hMlaKvbFwd)
    ∧ quiescent_MlaKvbFwdIdeal (hMlaKvbFwdIdeal := hMlaKvbFwdIdeal)
    ∧ quiescent_MlaKvbFwdRefIdeal (hMlaKvbFwdRefIdeal := hMlaKvbFwdRefIdeal)
    ∧ quiescent_MlaODx (hMlaODx := hMlaODx)
    ∧ quiescent_MlaODxIdeal (hMlaODxIdeal := hMlaODxIdeal)
    ∧ quiescent_MlaODxRefIdeal (hMlaODxRefIdeal := hMlaODxRefIdeal)
    ∧ quiescent_MlaODw (hMlaODw := hMlaODw)
    ∧ quiescent_MlaODwIdeal (hMlaODwIdeal := hMlaODwIdeal)
    ∧ quiescent_MlaODwRefIdeal (hMlaODwRefIdeal := hMlaODwRefIdeal)
    ∧ quiescent_MlaOFwd (hMlaOFwd := hMlaOFwd)
    ∧ quiescent_MlaOFwdIdeal (hMlaOFwdIdeal := hMlaOFwdIdeal)
    ∧ quiescent_MlaOFwdRefIdeal (hMlaOFwdRefIdeal := hMlaOFwdRefIdeal)
    ∧ quiescent_ConvBwd (hConvBwd := hConvBwd)
    ∧ quiescent_ConvBwdIdeal (hConvBwdIdeal := hConvBwdIdeal)
    ∧ quiescent_ConvBwdIdeal_pre_finite_cotangent (hConvBwdIdeal := hConvBwdIdeal) (hPre_finite_cotangent := hPre_finite_cotangent)
    ∧ quiescent_ConvBwdRefIdeal (hConvBwdRefIdeal := hConvBwdRefIdeal)
    ∧ quiescent_ConvBwdRefIdeal_pre_finite_cotangent (hConvBwdRefIdeal := hConvBwdRefIdeal) (hPre_finite_cotangent := hPre_finite_cotangent)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_ResidBwd (hResidBwd := hResidBwd)
    ∧ quiescent_ResidBwdIdeal (hResidBwdIdeal := hResidBwdIdeal)
    ∧ quiescent_ResidBwdRefIdeal (hResidBwdRefIdeal := hResidBwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ preserves_Ssd_SsdIdeal
    ∧ algebraic_SsdIdeal_SsdRefIdeal_pre_all_finite (hSsdIdeal := hSsdIdeal) (hSsdRefIdeal := hSsdRefIdeal) (hPre_all_finite := hPre_all_finite)
    ∧ preserves_SsdFwd_SsdFwdIdeal
    ∧ algebraic_SsdFwdIdeal_SsdFwdRefIdeal_pre_finite_inputs (hSsdFwdIdeal := hSsdFwdIdeal) (hSsdFwdRefIdeal := hSsdFwdRefIdeal) (hPre_finite_inputs := hPre_finite_inputs)
    ∧ preserves_GuDx_GuDxIdeal
    ∧ algebraic_GuDxIdeal_GuDxRefIdeal (hGuDxIdeal := hGuDxIdeal) (hGuDxRefIdeal := hGuDxRefIdeal)
    ∧ preserves_GuDw_GuDwIdeal
    ∧ algebraic_GuDwIdeal_GuDwRefIdeal (hGuDwIdeal := hGuDwIdeal) (hGuDwRefIdeal := hGuDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GuFwd_GuFwdIdeal
    ∧ algebraic_GuFwdIdeal_GuFwdRefIdeal (hGuFwdIdeal := hGuFwdIdeal) (hGuFwdRefIdeal := hGuFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_SsdZDx_SsdZDxIdeal
    ∧ algebraic_SsdZDxIdeal_SsdZDxRefIdeal (hSsdZDxIdeal := hSsdZDxIdeal) (hSsdZDxRefIdeal := hSsdZDxRefIdeal)
    ∧ preserves_SsdZDw_SsdZDwIdeal
    ∧ algebraic_SsdZDwIdeal_SsdZDwRefIdeal (hSsdZDwIdeal := hSsdZDwIdeal) (hSsdZDwRefIdeal := hSsdZDwRefIdeal)
    ∧ preserves_SsdZFwd_SsdZFwdIdeal
    ∧ algebraic_SsdZFwdIdeal_SsdZFwdRefIdeal (hSsdZFwdIdeal := hSsdZFwdIdeal) (hSsdZFwdRefIdeal := hSsdZFwdRefIdeal)
    ∧ preserves_SsdXbcDx_SsdXbcDxIdeal
    ∧ algebraic_SsdXbcDxIdeal_SsdXbcDxRefIdeal (hSsdXbcDxIdeal := hSsdXbcDxIdeal) (hSsdXbcDxRefIdeal := hSsdXbcDxRefIdeal)
    ∧ preserves_SsdXbcDw_SsdXbcDwIdeal
    ∧ algebraic_SsdXbcDwIdeal_SsdXbcDwRefIdeal (hSsdXbcDwIdeal := hSsdXbcDwIdeal) (hSsdXbcDwRefIdeal := hSsdXbcDwRefIdeal)
    ∧ preserves_SsdXbcFwd_SsdXbcFwdIdeal
    ∧ algebraic_SsdXbcFwdIdeal_SsdXbcFwdRefIdeal (hSsdXbcFwdIdeal := hSsdXbcFwdIdeal) (hSsdXbcFwdRefIdeal := hSsdXbcFwdRefIdeal)
    ∧ preserves_SsdDtDx_SsdDtDxIdeal
    ∧ algebraic_SsdDtDxIdeal_SsdDtDxRefIdeal (hSsdDtDxIdeal := hSsdDtDxIdeal) (hSsdDtDxRefIdeal := hSsdDtDxRefIdeal)
    ∧ preserves_SsdDtDw_SsdDtDwIdeal
    ∧ algebraic_SsdDtDwIdeal_SsdDtDwRefIdeal (hSsdDtDwIdeal := hSsdDtDwIdeal) (hSsdDtDwRefIdeal := hSsdDtDwRefIdeal)
    ∧ preserves_SsdDtFwd_SsdDtFwdIdeal
    ∧ algebraic_SsdDtFwdIdeal_SsdDtFwdRefIdeal (hSsdDtFwdIdeal := hSsdDtFwdIdeal) (hSsdDtFwdRefIdeal := hSsdDtFwdRefIdeal)
    ∧ preserves_SsdOutDx_SsdOutDxIdeal
    ∧ algebraic_SsdOutDxIdeal_SsdOutDxRefIdeal (hSsdOutDxIdeal := hSsdOutDxIdeal) (hSsdOutDxRefIdeal := hSsdOutDxRefIdeal)
    ∧ preserves_SsdOutDw_SsdOutDwIdeal
    ∧ algebraic_SsdOutDwIdeal_SsdOutDwRefIdeal (hSsdOutDwIdeal := hSsdOutDwIdeal) (hSsdOutDwRefIdeal := hSsdOutDwRefIdeal)
    ∧ preserves_SsdOutFwd_SsdOutFwdIdeal
    ∧ algebraic_SsdOutFwdIdeal_SsdOutFwdRefIdeal (hSsdOutFwdIdeal := hSsdOutFwdIdeal) (hSsdOutFwdRefIdeal := hSsdOutFwdRefIdeal)
    ∧ preserves_MlaADx_MlaADxIdeal
    ∧ algebraic_MlaADxIdeal_MlaADxRefIdeal (hMlaADxIdeal := hMlaADxIdeal) (hMlaADxRefIdeal := hMlaADxRefIdeal)
    ∧ preserves_MlaADw_MlaADwIdeal
    ∧ algebraic_MlaADwIdeal_MlaADwRefIdeal (hMlaADwIdeal := hMlaADwIdeal) (hMlaADwRefIdeal := hMlaADwRefIdeal)
    ∧ preserves_MlaAFwd_MlaAFwdIdeal
    ∧ algebraic_MlaAFwdIdeal_MlaAFwdRefIdeal (hMlaAFwdIdeal := hMlaAFwdIdeal) (hMlaAFwdRefIdeal := hMlaAFwdRefIdeal)
    ∧ preserves_MlaQbDx_MlaQbDxIdeal
    ∧ algebraic_MlaQbDxIdeal_MlaQbDxRefIdeal (hMlaQbDxIdeal := hMlaQbDxIdeal) (hMlaQbDxRefIdeal := hMlaQbDxRefIdeal)
    ∧ preserves_MlaQbDw_MlaQbDwIdeal
    ∧ algebraic_MlaQbDwIdeal_MlaQbDwRefIdeal (hMlaQbDwIdeal := hMlaQbDwIdeal) (hMlaQbDwRefIdeal := hMlaQbDwRefIdeal)
    ∧ preserves_MlaQbFwd_MlaQbFwdIdeal
    ∧ algebraic_MlaQbFwdIdeal_MlaQbFwdRefIdeal (hMlaQbFwdIdeal := hMlaQbFwdIdeal) (hMlaQbFwdRefIdeal := hMlaQbFwdRefIdeal)
    ∧ preserves_MlaKvbDx_MlaKvbDxIdeal
    ∧ algebraic_MlaKvbDxIdeal_MlaKvbDxRefIdeal (hMlaKvbDxIdeal := hMlaKvbDxIdeal) (hMlaKvbDxRefIdeal := hMlaKvbDxRefIdeal)
    ∧ preserves_MlaKvbDw_MlaKvbDwIdeal
    ∧ algebraic_MlaKvbDwIdeal_MlaKvbDwRefIdeal (hMlaKvbDwIdeal := hMlaKvbDwIdeal) (hMlaKvbDwRefIdeal := hMlaKvbDwRefIdeal)
    ∧ preserves_MlaKvbFwd_MlaKvbFwdIdeal
    ∧ algebraic_MlaKvbFwdIdeal_MlaKvbFwdRefIdeal (hMlaKvbFwdIdeal := hMlaKvbFwdIdeal) (hMlaKvbFwdRefIdeal := hMlaKvbFwdRefIdeal)
    ∧ preserves_MlaODx_MlaODxIdeal
    ∧ algebraic_MlaODxIdeal_MlaODxRefIdeal (hMlaODxIdeal := hMlaODxIdeal) (hMlaODxRefIdeal := hMlaODxRefIdeal)
    ∧ preserves_MlaODw_MlaODwIdeal
    ∧ algebraic_MlaODwIdeal_MlaODwRefIdeal (hMlaODwIdeal := hMlaODwIdeal) (hMlaODwRefIdeal := hMlaODwRefIdeal)
    ∧ preserves_MlaOFwd_MlaOFwdIdeal
    ∧ algebraic_MlaOFwdIdeal_MlaOFwdRefIdeal (hMlaOFwdIdeal := hMlaOFwdIdeal) (hMlaOFwdRefIdeal := hMlaOFwdRefIdeal)
    ∧ preserves_ConvBwd_ConvBwdIdeal
    ∧ algebraic_ConvBwdIdeal_ConvBwdRefIdeal_pre_finite_cotangent (hConvBwdIdeal := hConvBwdIdeal) (hConvBwdRefIdeal := hConvBwdRefIdeal) (hPre_finite_cotangent := hPre_finite_cotangent)
    ∧ preserves_ConvFwd_ConvFwdIdeal
    ∧ algebraic_ConvFwdIdeal_ConvFwdRefIdeal (hConvFwdIdeal := hConvFwdIdeal) (hConvFwdRefIdeal := hConvFwdRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_ResidBwd_ResidBwdIdeal
    ∧ algebraic_ResidBwdIdeal_ResidBwdRefIdeal (hResidBwdIdeal := hResidBwdIdeal) (hResidBwdRefIdeal := hResidBwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamGu_AdamGuIdeal
    ∧ algebraic_AdamGuIdeal_AdamGuRefIdeal (hAdamGuIdeal := hAdamGuIdeal) (hAdamGuRefIdeal := hAdamGuRefIdeal)
-- ==== Pre_all_finite.lean ====
abbrev S32x4096x64 : Shape := ⟨3, ![32, 4096, 64]⟩
abbrev S4x4096x8 : Shape := ⟨3, ![4, 4096, 8]⟩
abbrev S4x4096x128 : Shape := ⟨3, ![4, 4096, 128]⟩
abbrev S32x1x1 : Shape := ⟨3, ![32, 1, 1]⟩
abbrev S_ : Shape := ⟨0, ![]⟩

class Facts : Prop where
  bcast_S_S32x4096x64 : S_.BroadcastsInDim S32x4096x64 (![] : Fin 0 → Fin S32x4096x64.rank)
  bcast_S_S4x4096x8 : S_.BroadcastsInDim S4x4096x8 (![] : Fin 0 → Fin S4x4096x8.rank)
  bcast_S_S4x4096x128 : S_.BroadcastsInDim S4x4096x128 (![] : Fin 0 → Fin S4x4096x128.rank)
  bcast_S_S32x1x1 : S_.BroadcastsInDim S32x1x1 (![] : Fin 0 → Fin S32x1x1.rank)

variable [Facts]

def fn_part1 {F : FTy → Type} [FloatOps F] (main_arg6 : FVec F S32x4096x64 .f32) (main_v2 : IVec S32x4096x64 1) (main_v5 : IVec S4x4096x8 1) (main_v8 : IVec S4x4096x8 1) (main_v11 : IVec S4x4096x128 1) (main_v14 : IVec S4x4096x128 1) (main_v17 : IVec S32x1x1 1) : IVec S32x4096x64 1 × IVec S4x4096x8 1 × IVec S4x4096x8 1 × IVec S4x4096x128 1 × IVec S4x4096x128 1 × IVec S32x1x1 1 × IVec S32x4096x64 1 :=
  let main_v18 : FVec F S32x4096x64 .f32 := Host.absf main_arg6
  let main_cst_5 : FVec F S_ .f32 := constant S_ .f32 0x7F800000#32
  let main_v19 : FVec F S32x4096x64 .f32 := broadcastInDim S32x4096x64 ![] bcast_S_S32x4096x64 main_cst_5
  let main_v20 : IVec S32x4096x64 1 := cmpf .olt main_v18 main_v19
  (main_v2, main_v5, main_v8, main_v11, main_v14, main_v17, main_v20)

def fn {F : FTy → Type} [FloatOps F] (main_arg0 : FVec F S32x4096x64 .f32) (main_arg1 : FVec F S4x4096x8 .f32) (main_arg2 : FVec F S4x4096x8 .f32) (main_arg3 : FVec F S4x4096x128 .f32) (main_arg4 : FVec F S4x4096x128 .f32) (main_arg5 : FVec F S32x1x1 .f32) (main_arg6 : FVec F S32x4096x64 .f32) : IVec S32x4096x64 1 × IVec S4x4096x8 1 × IVec S4x4096x8 1 × IVec S4x4096x128 1 × IVec S4x4096x128 1 × IVec S32x1x1 1 × IVec S32x4096x64 1 :=
  let main_v0 : FVec F S32x4096x64 .f32 := Host.absf main_arg0
  let main_cst : FVec F S_ .f32 := constant S_ .f32 0x7F800000#32
  let main_v1 : FVec F S32x4096x64 .f32 := broadcastInDim S32x4096x64 ![] bcast_S_S32x4096x64 main_cst
  let main_v2 : IVec S32x4096x64 1 := cmpf .olt main_v0 main_v1
  let main_v3 : FVec F S4x4096x8 .f32 := Host.absf main_arg1
  let main_cst_0 : FVec F S_ .f32 := constant S_ .f32 0x7F800000#32
  let main_v4 : FVec F S4x4096x8 .f32 := broadcastInDim S4x4096x8 ![] bcast_S_S4x4096x8 main_cst_0
  let main_v5 : IVec S4x4096x8 1 := cmpf .olt main_v3 main_v4
  let main_v6 : FVec F S4x4096x8 .f32 := Host.absf main_arg2
  let main_cst_1 : FVec F S_ .f32 := constant S_ .f32 0x7F800000#32
  let main_v7 : FVec F S4x4096x8 .f32 := broadcastInDim S4x4096x8 ![] bcast_S_S4x4096x8 main_cst_1
  let main_v8 : IVec S4x4096x8 1 := cmpf .olt main_v6 main_v7
  let main_v9 : FVec F S4x4096x128 .f32 := Host.absf main_arg3
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_v12 : FVec F S4x4096x128 .f32 := Host.absf main_arg4
  let main_cst_3 : FVec F S_ .f32 := constant S_ .f32 0x7F800000#32
  let main_v13 : FVec F S4x4096x128 .f32 := broadcastInDim S4x4096x128 ![] bcast_S_S4x4096x128 main_cst_3
  let main_v14 : IVec S4x4096x128 1 := cmpf .olt main_v12 main_v13
  let main_v15 : FVec F S32x1x1 .f32 := Host.absf main_arg5
  let main_cst_4 : FVec F S_ .f32 := constant S_ .f32 0x7F800000#32
  let main_v16 : FVec F S32x1x1 .f32 := broadcastInDim S32x1x1 ![] bcast_S_S32x1x1 main_cst_4
  let main_v17 : IVec S32x1x1 1 := cmpf .olt main_v15 main_v16
  fn_part1 (F := F) main_arg6 main_v2 main_v5 main_v8 main_v11 main_v14 main_v17
-- ==== Pre_finite_cotangent.lean ====
abbrev S4096x3072 : Shape := ⟨2, ![4096, 3072]⟩
abbrev S4x3072 : Shape := ⟨2, ![4, 3072]⟩
abbrev S1x3072 : Shape := ⟨2, ![1, 3072]⟩
abbrev S_ : Shape := ⟨0, ![]⟩

class Facts : Prop where
  bcast_S_S4096x3072 : S_.BroadcastsInDim S4096x3072 (![] : Fin 0 → Fin S4096x3072.rank)

variable [Facts]

def fn {F : FTy → Type} [FloatOps F] (main_arg0 : FVec F S4096x3072 .f32) (main_arg1 : FVec F S4x3072 .f32) (main_arg2 : FVec F S1x3072 .f32) (main_arg3 : FVec F S4096x3072 .f32) : IVec S4096x3072 1 :=
  let main_v0 : FVec F S4096x3072 .f32 := Host.absf main_arg3
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  main_v2
-- ==== Pre_finite_inputs.lean ====
abbrev S32x4096x64 : Shape := ⟨3, ![32, 4096, 64]⟩
abbrev S4x4096x8 : Shape := ⟨3, ![4, 4096, 8]⟩
abbrev S4x4096x128 : Shape := ⟨3, ![4, 4096, 128]⟩
abbrev S32x1x1 : Shape := ⟨3, ![32, 1, 1]⟩
abbrev S_ : Shape := ⟨0, ![]⟩

class Facts : Prop where
  bcast_S_S32x4096x64 : S_.BroadcastsInDim S32x4096x64 (![] : Fin 0 → Fin S32x4096x64.rank)
  bcast_S_S4x4096x8 : S_.BroadcastsInDim S4x4096x8 (![] : Fin 0 → Fin S4x4096x8.rank)
  bcast_S_S4x4096x128 : S_.BroadcastsInDim S4x4096x128 (![] : Fin 0 → Fin S4x4096x128.rank)
  bcast_S_S32x1x1 : S_.BroadcastsInDim S32x1x1 (![] : Fin 0 → Fin S32x1x1.rank)

variable [Facts]

def fn {F : FTy → Type} [FloatOps F] (main_arg0 : FVec F S32x4096x64 .f32) (main_arg1 : FVec F S4x4096x8 .f32) (main_arg2 : FVec F S4x4096x8 .f32) (main_arg3 : FVec F S4x4096x128 .f32) (main_arg4 : FVec F S4x4096x128 .f32) (main_arg5 : FVec F S32x1x1 .f32) : IVec S32x4096x64 1 × IVec S4x4096x8 1 × IVec S4x4096x8 1 × IVec S4x4096x128 1 × IVec S4x4096x128 1 × IVec S32x1x1 1 :=
  let main_v0 : FVec F S32x4096x64 .f32 := Host.absf main_arg0
  let main_cst : FVec F S_ .f32 := constant S_ .f32 0x7F800000#32
  let main_v1 : FVec F S32x4096x64 .f32 := broadcastInDim S32x4096x64 ![] bcast_S_S32x4096x64 main_cst
  let main_v2 : IVec S32x4096x64 1 := cmpf .olt main_v0 main_v1
  let main_v3 : FVec F S4x4096x8 .f32 := Host.absf main_arg1
  let main_cst_0 : FVec F S_ .f32 := constant S_ .f32 0x7F800000#32
  let main_v4 : FVec F S4x4096x8 .f32 := broadcastInDim S4x4096x8 ![] bcast_S_S4x4096x8 main_cst_0
  let main_v5 : IVec S4x4096x8 1 := cmpf .olt main_v3 main_v4
  let main_v6 : FVec F S4x4096x8 .f32 := Host.absf main_arg2
  let main_cst_1 : FVec F S_ .f32 := constant S_ .f32 0x7F800000#32
  let main_v7 : FVec F S4x4096x8 .f32 := broadcastInDim S4x4096x8 ![] bcast_S_S4x4096x8 main_cst_1
  let main_v8 : IVec S4x4096x8 1 := cmpf .olt main_v6 main_v7
  let main_v9 : FVec F S4x4096x128 .f32 := Host.absf main_arg3
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_v12 : FVec F S4x4096x128 .f32 := Host.absf main_arg4
  let main_cst_3 : FVec F S_ .f32 := constant S_ .f32 0x7F800000#32
  let main_v13 : FVec F S4x4096x128 .f32 := broadcastInDim S4x4096x128 ![] bcast_S_S4x4096x128 main_cst_3
  let main_v14 : IVec S4x4096x128 1 := cmpf .olt main_v12 main_v13
  let main_v15 : FVec F S32x1x1 .f32 := Host.absf main_arg5
  let main_cst_4 : FVec F S_ .f32 := constant S_ .f32 0x7F800000#32
  let main_v16 : FVec F S32x1x1 .f32 := broadcastInDim S32x1x1 ![] bcast_S_S32x1x1 main_cst_4
  let main_v17 : IVec S32x1x1 1 := cmpf .olt main_v15 main_v16
  (main_v2, main_v5, main_v8, main_v11, main_v14, main_v17)
-- ==== Ssd.lean ====
abbrev S32x4096x64 : Shape := ⟨3, ![32, 4096, 64]⟩
abbrev S4x4096x8 : Shape := ⟨3, ![4, 4096, 8]⟩
abbrev S4x4096x128 : Shape := ⟨3, ![4, 4096, 128]⟩
abbrev S32x1x1 : Shape := ⟨3, ![32, 1, 1]⟩
abbrev S4x8x32x128x64 : Shape := ⟨5, ![4, 8, 32, 128, 64]⟩
abbrev S4x32x128x8 : Shape := ⟨4, ![4, 32, 128, 8]⟩
abbrev S4x8x32x128 : Shape := ⟨4, ![4, 8, 32, 128]⟩
abbrev S4x8x32x128x1 : Shape := ⟨5, ![4, 8, 32, 128, 1]⟩
abbrev S4x32x128x128 : Shape := ⟨4, ![4, 32, 128, 128]⟩
abbrev S4x8x32x1 : Shape := ⟨4, ![4, 8, 32, 1]⟩
abbrev S4x8x32 : Shape := ⟨3, ![4, 8, 32]⟩
abbrev S4x8x32x32x32 : Shape := ⟨5, ![4, 8, 32, 32, 32]⟩
abbrev S4x8x1x1x32 : Shape := ⟨5, ![4, 8, 1, 1, 32]⟩
abbrev S_ : Shape := ⟨0, ![]⟩
abbrev S4x8x32x32 : Shape := ⟨4, ![4, 8, 32, 32]⟩
abbrev S4x32x8x64x128 : Shape := ⟨5, ![4, 32, 8, 64, 128]⟩
abbrev S32x32x128x64 : Shape := ⟨4, ![32, 32, 128, 64]⟩
abbrev S4x8x4096 : Shape := ⟨3, ![4, 8, 4096]⟩
abbrev S32x1x4096 : Shape := ⟨3, ![32, 1, 4096]⟩
abbrev S8x128x64 : Shape := ⟨3, ![8, 128, 64]⟩
abbrev S1x128x8 : Shape := ⟨3, ![1, 128, 8]⟩
abbrev S8x1x128 : Shape := ⟨3, ![8, 1, 128]⟩
abbrev S1x128x128 : Shape := ⟨3, ![1, 128, 128]⟩
abbrev S8x1x1 : Shape := ⟨3, ![8, 1, 1]⟩
abbrev S8x1x128x64 : Shape := ⟨4, ![8, 1, 128, 64]⟩
abbrev S128x128 : Shape := ⟨2, ![128, 128]⟩
abbrev S128x1 : Shape := ⟨2, ![128, 1]⟩
abbrev S128x8 : Shape := ⟨2, ![128, 8]⟩
abbrev S1x1x128 : Shape := ⟨3, ![1, 1, 128]⟩
abbrev S1x128 : Shape := ⟨2, ![1, 128]⟩
abbrev S1x128x64 : Shape := ⟨3, ![1, 128, 64]⟩
abbrev S128x64 : Shape := ⟨2, ![128, 64]⟩
abbrev S1x1x128x64 : Shape := ⟨4, ![1, 1, 128, 64]⟩
abbrev S128 : Shape := ⟨1, ![128]⟩
abbrev S1 : Shape := ⟨1, ![1]⟩
abbrev S1x1x1 : Shape := ⟨3, ![1, 1, 1]⟩
abbrev S1x1 : Shape := ⟨2, ![1, 1]⟩
abbrev S1x128x1 : Shape := ⟨3, ![1, 128, 1]⟩
abbrev S1x64 : Shape := ⟨2, ![1, 64]⟩

abbrev nBuf : Space → Nat
  | .hbm => 62
  | .vmem => 33
  | .smem => 0
  | _ => 0

abbrev bufTy : (tb : Table) → Fin (tcTables nBuf tb) → BufTy
  | .hbm, ⟨0, _⟩ => ⟨S32x4096x64, .f32⟩
  | .hbm, ⟨1, _⟩ => ⟨S4x4096x8, .f32⟩
  | .hbm, ⟨2, _⟩ => ⟨S4x4096x8, .f32⟩
  | .hbm, ⟨3, _⟩ => ⟨S4x4096x128, .f32⟩
  | .hbm, ⟨4, _⟩ => ⟨S4x4096x128, .f32⟩
  | .hbm, ⟨5, _⟩ => ⟨S32x1x1, .f32⟩
  | .hbm, ⟨6, _⟩ => ⟨S32x4096x64, .f32⟩
  | .hbm, ⟨7, _⟩ => ⟨S4x8x32x128x64, .f32⟩
  | .hbm, ⟨8, _⟩ => ⟨S4x32x128x8, .f32⟩
  | .hbm, ⟨9, _⟩ => ⟨S4x8x32x128, .f32⟩
  | .hbm, ⟨10, _⟩ => ⟨S4x8x32x128x1, .f32⟩
  | .hbm, ⟨11, _⟩ => ⟨S4x8x32x128x64, .f32⟩
  | .hbm, ⟨12, _⟩ => ⟨S4x8x32x128x64, .f32⟩
  | .hbm, ⟨13, _⟩ => ⟨S4x32x128x8, .f32⟩
  | .hbm, ⟨14, _⟩ => ⟨S4x8x32x128, .f32⟩
  | .hbm, ⟨15, _⟩ => ⟨S4x32x128x128, .f32⟩
  | .hbm, ⟨16, _⟩ => ⟨S4x32x128x128, .f32⟩
  | .hbm, ⟨17, _⟩ => ⟨S4x8x32x1, .f32⟩
  | .hbm, ⟨18, _⟩ => ⟨S4x8x32, .f32⟩
  | .hbm, ⟨19, _⟩ => ⟨S4x8x32x32x32, .i32⟩
  | .hbm, ⟨20, _⟩ => ⟨S4x8x32x32x32, .i32⟩
  | .hbm, ⟨21, _⟩ => ⟨S4x8x32x32x32, .i32⟩
  | .hbm, ⟨22, _⟩ => ⟨S4x8x32x32x32, .i1⟩
  | .hbm, ⟨23, _⟩ => ⟨S4x8x32x32x32, .i1⟩
  | .hbm, ⟨24, _⟩ => ⟨S4x8x32x32x32, .i1⟩
  | .hbm, ⟨25, _⟩ => ⟨S4x8x1x1x32, .f32⟩
  | .hbm, ⟨26, _⟩ => ⟨S4x8x32x32x32, .f32⟩
  | .hbm, ⟨27, _⟩ => ⟨S_, .f32⟩
  | .hbm, ⟨28, _⟩ => ⟨S4x8x32x32x32, .f32⟩
  | .hbm, ⟨29, _⟩ => ⟨S4x8x32x32x32, .f32⟩
  | .hbm, ⟨30, _⟩ => ⟨S_, .f32⟩
  | .hbm, ⟨31, _⟩ => ⟨S4x8x32x32, .f32⟩
  | .hbm, ⟨32, _⟩ => ⟨S4x8x32x32, .i32⟩
  | .hbm, ⟨33, _⟩ => ⟨S4x8x32x32, .i32⟩
  | .hbm, ⟨34, _⟩ => ⟨S4x8x32x32, .i1⟩
  | .hbm, ⟨35, _⟩ => ⟨S_, .f32⟩
  | .hbm, ⟨36, _⟩ => ⟨S4x8x32x32, .f32⟩
  | .hbm, ⟨37, _⟩ => ⟨S4x8x32x32, .f32⟩
  | .hbm, ⟨38, _⟩ => ⟨S4x8x32x32, .f32⟩
  | .hbm, ⟨39, _⟩ => ⟨S4x8x32x1, .f32⟩
  | .hbm, ⟨40, _⟩ => ⟨S4x8x32x128, .f32⟩
  | .hbm, ⟨41, _⟩ => ⟨S4x8x32x128, .f32⟩
  | .hbm, ⟨42, _⟩ => ⟨S4x8x32x128, .f32⟩
  | .hbm, ⟨43, _⟩ => ⟨S4x8x32x128x1, .f32⟩
  | .hbm, ⟨44, _⟩ => ⟨S4x8x32x128x64, .f32⟩
  | .hbm, ⟨45, _⟩ => ⟨S4x8x32x128x64, .f32⟩
  | .hbm, ⟨46, _⟩ => ⟨S4x32x8x64x128, .f32⟩
  | .hbm, ⟨47, _⟩ => ⟨S4x8x32x128x64, .f32⟩
  | .hbm, ⟨48, _⟩ => ⟨S4x8x32x128x64, .f32⟩
  | .hbm, ⟨49, _⟩ => ⟨S32x32x128x64, .f32⟩
  | .hbm, ⟨50, _⟩ => ⟨S4x8x4096, .f32⟩
  | .hbm, ⟨51, _⟩ => ⟨S32x1x4096, .f32⟩
  | .hbm, ⟨52, _⟩ => ⟨S32x4096x64, .f32⟩
  | .hbm, ⟨53, _⟩ => ⟨S4x4096x8, .f32⟩
  | .hbm, ⟨54, _⟩ => ⟨S4x4096x8, .f32⟩
  | .hbm, ⟨55, _⟩ => ⟨S32x1x4096, .f32⟩
  | .hbm, ⟨56, _⟩ => ⟨S4x4096x128, .f32⟩
  | .hbm, ⟨57, _⟩ => ⟨S4x4096x128, .f32⟩
  | .hbm, ⟨58, _⟩ => ⟨S32x1x1, .f32⟩
  | .hbm, ⟨59, _⟩ => ⟨S4x8x4096, .f32⟩
  | .hbm, ⟨60, _⟩ => ⟨S4x4096x8, .f32⟩
  | .hbm, ⟨61, _⟩ => ⟨S4x4096x8, .f32⟩
  | .local _ .vmem, ⟨0, _⟩ => ⟨S8x128x64, .f32⟩
  | .local _ .vmem, ⟨1, _⟩ => ⟨S8x128x64, .f32⟩
  | .local _ .vmem, ⟨2, _⟩ => ⟨S1x128x8, .f32⟩
  | .local _ .vmem, ⟨3, _⟩ => ⟨S1x128x8, .f32⟩
  | .local _ .vmem, ⟨4, _⟩ => ⟨S1x128x8, .f32⟩
  | .local _ .vmem, ⟨5, _⟩ => ⟨S1x128x8, .f32⟩
  | .local _ .vmem, ⟨6, _⟩ => ⟨S8x1x128, .f32⟩
  | .local _ .vmem, ⟨7, _⟩ => ⟨S8x1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S8x1x1, .f32⟩
  | .local _ .vmem, ⟨13, _⟩ => ⟨S8x1x1, .f32⟩
  | .local _ .vmem, ⟨14, _⟩ => ⟨S8x1x128x64, .f32⟩
  | .local _ .vmem, ⟨15, _⟩ => ⟨S8x1x128x64, .f32⟩
  | .local _ .vmem, ⟨16, _⟩ => ⟨S8x128x64, .f32⟩
  | .local _ .vmem, ⟨17, _⟩ => ⟨S8x128x64, .f32⟩
  | .local _ .vmem, ⟨18, _⟩ => ⟨S8x128x64, .f32⟩
  | .local _ .vmem, ⟨19, _⟩ => ⟨S8x128x64, .f32⟩
  | .local _ .vmem, ⟨20, _⟩ => ⟨S1x128x8, .f32⟩
  | .local _ .vmem, ⟨21, _⟩ => ⟨S1x128x8, .f32⟩
  | .local _ .vmem, ⟨22, _⟩ => ⟨S1x128x8, .f32⟩
  | .local _ .vmem, ⟨23, _⟩ => ⟨S1x128x8, .f32⟩
  | .local _ .vmem, ⟨24, _⟩ => ⟨S8x1x128, .f32⟩
  | .local _ .vmem, ⟨25, _⟩ => ⟨S8x1x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S8x1x1, .f32⟩
  | .local _ .vmem, ⟨31, _⟩ => ⟨S8x1x1, .f32⟩
  | .local _ .vmem, ⟨32, _⟩ => ⟨S8x128x64, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42_0 : Ref sig .tc := ⟨.hbm, 52, rfl⟩
abbrev main_v42_1 : Ref sig .tc := ⟨.hbm, 53, rfl⟩
abbrev main_v42_2 : Ref sig .tc := ⟨.hbm, 54, rfl⟩
abbrev main_v42_3 : Ref sig .tc := ⟨.hbm, 55, rfl⟩
abbrev main_v42_4 : Ref sig .tc := ⟨.hbm, 56, rfl⟩
abbrev main_v42_5 : Ref sig .tc := ⟨.hbm, 57, rfl⟩
abbrev main_v42_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== SsdRefIdeal.lean ====
abbrev S32x4096x64 : Shape := ⟨3, ![32, 4096, 64]⟩
abbrev S4x4096x8 : Shape := ⟨3, ![4, 4096, 8]⟩
abbrev S4x4096x128 : Shape := ⟨3, ![4, 4096, 128]⟩
abbrev S32x1x1 : Shape := ⟨3, ![32, 1, 1]⟩
abbrev S4x8x32x128x64 : Shape := ⟨5, ![4, 8, 32, 128, 64]⟩
abbrev S4x32x128x8 : Shape := ⟨4, ![4, 32, 128, 8]⟩
abbrev S4x8x32x128 : Shape := ⟨4, ![4, 8, 32, 128]⟩
abbrev S4x8x32x128x1 : Shape := ⟨5, ![4, 8, 32, 128, 1]⟩
abbrev S4x32x128x128 : Shape := ⟨4, ![4, 32, 128, 128]⟩
abbrev S4x8x32x1x128 : Shape := ⟨5, ![4, 8, 32, 1, 128]⟩
abbrev S4x8x32x128x128 : Shape := ⟨5, ![4, 8, 32, 128, 128]⟩
abbrev S_ : Shape := ⟨0, ![]⟩
abbrev S4x1x32x128x128 : Shape := ⟨5, ![4, 1, 32, 128, 128]⟩
abbrev S4x8x32x1 : Shape := ⟨4, ![4, 8, 32, 1]⟩
abbrev S4x8x32 : Shape := ⟨3, ![4, 8, 32]⟩
abbrev S4x8x32x32x32 : Shape := ⟨5, ![4, 8, 32, 32, 32]⟩
abbrev S4x8x1x1x32 : Shape := ⟨5, ![4, 8, 1, 1, 32]⟩
abbrev S4x8x32x32 : Shape := ⟨4, ![4, 8, 32, 32]⟩
abbrev S4x32x8x64x128 : Shape := ⟨5, ![4, 32, 8, 64, 128]⟩
abbrev S4x8x128x64x32 : Shape := ⟨5, ![4, 8, 128, 64, 32]⟩
abbrev S4x8x32x64x128 : Shape := ⟨5, ![4, 8, 32, 64, 128]⟩
abbrev S32 : Shape := ⟨1, ![32]⟩

abbrev nBuf : Space → Nat
  | .hbm => 196
  | .vmem => 0
  | .smem => 0
  | _ => 0

abbrev hbmTy0_0 (i : Nat) : BufTy := match i % 128 with
  | 0 => ⟨S32x4096x64, .f32⟩
  | 1 => ⟨S4x4096x8, .f32⟩
  | 2 => ⟨S4x4096x8, .f32⟩
  | 3 => ⟨S4x4096x128, .f32⟩
  | 4 => ⟨S4x4096x128, .f32⟩
  | 5 => ⟨S32x1x1, .f32⟩
  | 6 => ⟨S32x4096x64, .f32⟩
  | 7 => ⟨S32x4096x64, .f32⟩
  | 8 => ⟨S32x4096x64, .f32⟩
  | 9 => ⟨S4x8x32x128x64, .f32⟩
  | 10 => ⟨S4x32x128x8, .f32⟩
  | 11 => ⟨S4x8x32x128, .f32⟩
  | 12 => ⟨S4x8x32x128x1, .f32⟩
  | 13 => ⟨S4x8x32x128x64, .f32⟩
  | 14 => ⟨S4x8x32x128x64, .f32⟩
  | 15 => ⟨S4x32x128x8, .f32⟩
  | 16 => ⟨S4x8x32x128, .f32⟩
  | 17 => ⟨S4x32x128x128, .f32⟩
  | 18 => ⟨S4x32x128x128, .f32⟩
  | 19 => ⟨S4x8x32x128x1, .f32⟩
  | 20 => ⟨S4x8x32x1x128, .f32⟩
  | 21 => ⟨S4x8x32x128x128, .f32⟩
  | 22 => ⟨S4x8x32x128x128, .f32⟩
  | 23 => ⟨S4x8x32x128x128, .f32⟩
  | 24 => ⟨S4x8x32x128x128, .i32⟩
  | 25 => ⟨S4x8x32x128x128, .i32⟩
  | 26 => ⟨S4x8x32x128x128, .i1⟩
  | 27 => ⟨S_, .f32⟩
  | 28 => ⟨S4x8x32x128x128, .f32⟩
  | 29 => ⟨S4x8x32x128x128, .f32⟩
  | 30 => ⟨S_, .f32⟩
  | 31 => ⟨S4x8x32x128x128, .f32⟩
  | 32 => ⟨S4x8x32x128x128, .f32⟩
  | 33 => ⟨S4x32x128x128, .f32⟩
  | 34 => ⟨S4x1x32x128x128, .f32⟩
  | 35 => ⟨S4x8x32x128x128, .f32⟩
  | 36 => ⟨S4x8x32x128x128, .f32⟩
  | 37 => ⟨S4x8x32x128x64, .f32⟩
  | 38 => ⟨S4x8x32x1, .f32⟩
  | 39 => ⟨S4x8x32, .f32⟩
  | 40 => ⟨S4x8x32x32x32, .i32⟩
  | 41 => ⟨S4x8x32x32x32, .i32⟩
  | 42 => ⟨S4x8x32x32x32, .i32⟩
  | 43 => ⟨S4x8x32x32x32, .i1⟩
  | 44 => ⟨S4x8x32x32x32, .i1⟩
  | 45 => ⟨S4x8x32x32x32, .i1⟩
  | 46 => ⟨S4x8x1x1x32, .f32⟩
  | 47 => ⟨S4x8x32x32x32, .f32⟩
  | 48 => ⟨S_, .f32⟩
  | 49 => ⟨S4x8x32x32x32, .f32⟩
  | 50 => ⟨S4x8x32x32x32, .f32⟩
  | 51 => ⟨S_, .f32⟩
  | 52 => ⟨S4x8x32x32x32, .f32⟩
  | 53 => ⟨S_, .f32⟩
  | 54 => ⟨S4x8x32x32, .f32⟩
  | 55 => ⟨S4x8x32x32, .i32⟩
  | 56 => ⟨S4x8x32x32, .i32⟩
  | 57 => ⟨S4x8x32x32, .i1⟩
  | 58 => ⟨S_, .f32⟩
  | 59 => ⟨S4x8x32x32, .f32⟩
  | 60 => ⟨S4x8x32x32, .f32⟩
  | 61 => ⟨S_, .f32⟩
  | 62 => ⟨S4x8x32x32, .f32⟩
  | 63 => ⟨S4x8x32x32, .f32⟩
  | 64 => ⟨S4x8x32x1, .f32⟩
  | 65 => ⟨S4x8x32x128, .f32⟩
  | 66 => ⟨S4x8x32x128, .f32⟩
  | 67 => ⟨S4x8x32x128, .f32⟩
  | 68 => ⟨S4x8x32x128x1, .f32⟩
  | 69 => ⟨S4x8x32x128x64, .f32⟩
  | 70 => ⟨S4x8x32x128x64, .f32⟩
  | 71 => ⟨S4x32x8x64x128, .f32⟩
  | 72 => ⟨S4x8x32x128x64, .f32⟩
  | 73 => ⟨S4x8x32x128x64, .f32⟩
  | 74 => ⟨S4x32x8x64x128, .f32⟩
  | 75 => ⟨S4x8x32x128x64, .f32⟩
  | 76 => ⟨S4x8x32x128, .f32⟩
  | 77 => ⟨S4x8x32x128x1, .f32⟩
  | 78 => ⟨S4x8x32x128x64, .f32⟩
  | 79 => ⟨S4x8x32x128x64, .f32⟩
  | 80 => ⟨S4x8x32x128x64, .f32⟩
  | 81 => ⟨S32x4096x64, .f32⟩
  | 82 => ⟨S32x4096x64, .f32⟩
  | 83 => ⟨S32x4096x64, .f32⟩
  | 84 => ⟨S32x4096x64, .f32⟩
  | 85 => ⟨S4x8x32x128x64, .f32⟩
  | 86 => ⟨S4x8x32x128x64, .f32⟩
  | 87 => ⟨S_, .f32⟩
  | 88 => ⟨S4x8x32x128, .f32⟩
  | 89 => ⟨S4x8x32x128x1, .f32⟩
  | 90 => ⟨S4x8x32x128x64, .f32⟩
  | 91 => ⟨S4x8x32x128x64, .f32⟩
  | 92 => ⟨S_, .f32⟩
  | 93 => ⟨S4x8x32x128, .f32⟩
  | 94 => ⟨S4x8x32x128, .f32⟩
  | 95 => ⟨S4x32x8x64x128, .f32⟩
  | 96 => ⟨S4x32x128x128, .f32⟩
  | 97 => ⟨S4x32x8x64x128, .f32⟩
  | 98 => ⟨S4x8x32x128x64, .f32⟩
  | 99 => ⟨S4x8x128x64x32, .f32⟩
  | 100 => ⟨S4x8x32x128x64, .f32⟩
  | 101 => ⟨S4x8x32x32, .f32⟩
  | 102 => ⟨S4x32x8x64x128, .f32⟩
  | 103 => ⟨S4x32x128x128, .f32⟩
  | 104 => ⟨S4x32x128x128, .f32⟩
  | 105 => ⟨S4x32x8x64x128, .f32⟩
  | 106 => ⟨S4x8x32x128x64, .f32⟩
  | 107 => ⟨S4x8x32x128x64, .f32⟩
  | 108 => ⟨S4x8x32x128x64, .f32⟩
  | 109 => ⟨S4x8x32x128x64, .f32⟩
  | 110 => ⟨S_, .f32⟩
  | 111 => ⟨S4x8x32x128, .f32⟩
  | 112 => ⟨S4x8x32x128x1, .f32⟩
  | 113 => ⟨S_, .f32⟩
  | 114 => ⟨S4x8x32x128, .f32⟩
  | 115 => ⟨S4x8x32x128, .f32⟩
  | 116 => ⟨S_, .f32⟩
  | 117 => ⟨S4x8x32, .f32⟩
  | 118 => ⟨S4x8x32x1, .f32⟩
  | 119 => ⟨S4x8x32x128, .f32⟩
  | 120 => ⟨S4x8x32x128, .f32⟩
  | 121 => ⟨S_, .f32⟩
  | 122 => ⟨S4x8x32x128, .f32⟩
  | 123 => ⟨S4x8x32x128, .f32⟩
  | 124 => ⟨S4x8x32x32, .f32⟩
  | 125 => ⟨S_, .f32⟩
  | 126 => ⟨S4x8x32x32, .f32⟩
  | 127 => ⟨S4x8x32x32, .f32⟩
  | _ => ⟨S32x4096x64, .f32⟩

abbrev hbmTy0_1 (i : Nat) : BufTy := match i % 128 with
  | 0 => ⟨S4x8x32x32x32, .f32⟩
  | 1 => ⟨S_, .f32⟩
  | 2 => ⟨S4x8x32x32x32, .f32⟩
  | 3 => ⟨S4x8x32x32x32, .f32⟩
  | 4 => ⟨S_, .f32⟩
  | 5 => ⟨S4x8x32, .f32⟩
  | 6 => ⟨S4x8x1x1x32, .f32⟩
  | 7 => ⟨S_, .f32⟩
  | 8 => ⟨S4x8x32, .f32⟩
  | 9 => ⟨S4x8x32x1, .f32⟩
  | 10 => ⟨S_, .f32⟩
  | 11 => ⟨S4x8x32x128, .f32⟩
  | 12 => ⟨S4x8x32x128, .f32⟩
  | 13 => ⟨S4x8x32x64x128, .f32⟩
  | 14 => ⟨S4x8x32x128x64, .f32⟩
  | 15 => ⟨S4x8x32x128x64, .f32⟩
  | 16 => ⟨S4x8x32x128x128, .f32⟩
  | 17 => ⟨S4x8x32x128x128, .f32⟩
  | 18 => ⟨S4x8x32x128x128, .f32⟩
  | 19 => ⟨S4x8x32x128x128, .f32⟩
  | 20 => ⟨S_, .f32⟩
  | 21 => ⟨S4x32x128x128, .f32⟩
  | 22 => ⟨S4x1x32x128x128, .f32⟩
  | 23 => ⟨S_, .f32⟩
  | 24 => ⟨S4x32x128x128, .f32⟩
  | 25 => ⟨S4x32x128x128, .f32⟩
  | 26 => ⟨S4x32x128x128, .f32⟩
  | 27 => ⟨S4x32x128x128, .f32⟩
  | 28 => ⟨S4x32x128x128, .f32⟩
  | 29 => ⟨S4x8x32x128x128, .f32⟩
  | 30 => ⟨S_, .f32⟩
  | 31 => ⟨S4x8x32x128x128, .f32⟩
  | 32 => ⟨S4x8x32x128x128, .f32⟩
  | 33 => ⟨S_, .f32⟩
  | 34 => ⟨S4x8x32x128, .f32⟩
  | 35 => ⟨S4x8x32x128x1, .f32⟩
  | 36 => ⟨S4x8x32x128x128, .f32⟩
  | 37 => ⟨S_, .f32⟩
  | 38 => ⟨S4x8x32x128, .f32⟩
  | 39 => ⟨S4x8x32x1x128, .f32⟩
  | 40 => ⟨S_, .f32⟩
  | 41 => ⟨S4x8x32x128, .f32⟩
  | 42 => ⟨S4x8x32x128, .f32⟩
  | 43 => ⟨S_, .f32⟩
  | 44 => ⟨S4x8x32x128, .f32⟩
  | 45 => ⟨S4x8x32x128, .f32⟩
  | 46 => ⟨S4x4096x128, .f32⟩
  | 47 => ⟨S4x4096x128, .f32⟩
  | 48 => ⟨S4x32x128x8, .f32⟩
  | 49 => ⟨S4x4096x8, .f32⟩
  | 50 => ⟨S4x8x32x128x64, .f32⟩
  | 51 => ⟨S_, .f32⟩
  | 52 => ⟨S4x8x32x128, .f32⟩
  | 53 => ⟨S4x8x32x128x1, .f32⟩
  | 54 => ⟨S4x8x32x128x64, .f32⟩
  | 55 => ⟨S4x8x32x128x64, .f32⟩
  | 56 => ⟨S_, .f32⟩
  | 57 => ⟨S4x8x32x128, .f32⟩
  | 58 => ⟨S4x32x128x8, .f32⟩
  | 59 => ⟨S4x4096x8, .f32⟩
  | 60 => ⟨S32x4096x64, .f32⟩
  | 61 => ⟨S32x4096x64, .f32⟩
  | 62 => ⟨S32x4096x64, .f32⟩
  | 63 => ⟨S32x4096x64, .f32⟩
  | 64 => ⟨S32x4096x64, .f32⟩
  | 65 => ⟨S_, .f32⟩
  | 66 => ⟨S32, .f32⟩
  | 67 => ⟨S32x1x1, .f32⟩
  | _ => ⟨S32x4096x64, .f32⟩

abbrev hbmTy (i : Nat) : BufTy := match i / 128 with
  | 0 => hbmTy0_0 i
  | 1 => hbmTy0_1 i
  | _ => ⟨S32x4096x64, .f32⟩

abbrev bufTy : (tb : Table) → Fin (tcTables nBuf tb) → BufTy
  | .hbm, ⟨i, _⟩ => hbmTy i
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_8 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_cst_10 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_11 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_12 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_cst_13 : Ref sig .tc := ⟨.hbm, 129, rfl⟩
abbrev main_v108 : Ref sig .tc := ⟨.hbm, 130, rfl⟩
abbrev main_v109 : Ref sig .tc := ⟨.hbm, 131, rfl⟩
abbrev main_cst_14 : Ref sig .tc := ⟨.hbm, 132, rfl⟩
abbrev main_v110 : Ref sig .tc := ⟨.hbm, 133, rfl⟩
abbrev main_v111 : Ref sig .tc := ⟨.hbm, 134, rfl⟩
abbrev main_cst_15 : Ref sig .tc := ⟨.hbm, 135, rfl⟩
abbrev main_v112 : Ref sig .tc := ⟨.hbm, 136, rfl⟩
abbrev main_v113 : Ref sig .tc := ⟨.hbm, 137, rfl⟩
abbrev main_cst_16 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_17 : Ref sig .tc := ⟨.hbm, 148, rfl⟩
abbrev main_v123 : Ref sig .tc := ⟨.hbm, 149, rfl⟩
abbrev main_v124 : Ref sig .tc := ⟨.hbm, 150, rfl⟩
abbrev main_cst_18 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_19 : Ref sig .tc := ⟨.hbm, 158, rfl⟩
abbrev main_v131 : Ref sig .tc := ⟨.hbm, 159, rfl⟩
abbrev main_v132 : Ref sig .tc := ⟨.hbm, 160, rfl⟩
abbrev main_cst_20 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_21 : Ref sig .tc := ⟨.hbm, 165, rfl⟩
abbrev main_v136 : Ref sig .tc := ⟨.hbm, 166, rfl⟩
abbrev main_v137 : Ref sig .tc := ⟨.hbm, 167, rfl⟩
abbrev main_cst_22 : Ref sig .tc := ⟨.hbm, 168, rfl⟩
abbrev main_v138 : Ref sig .tc := ⟨.hbm, 169, rfl⟩
abbrev main_v139 : Ref sig .tc := ⟨.hbm, 170, rfl⟩
abbrev main_cst_23 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_24 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_25 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_26 : Ref sig .tc := ⟨.hbm, 193, rfl⟩
abbrev main_v159 : Ref sig .tc := ⟨.hbm, 194, rfl⟩
abbrev main_v160 : Ref sig .tc := ⟨.hbm, 195, rfl⟩

abbrev nD : Nat := 1
abbrev τ : Topo := Topo.v7x

variable {F : FTy → Type} [FloatOps F]
-- ==== SsdFwd.lean ====
abbrev S32x4096x64 : Shape := ⟨3, ![32, 4096, 64]⟩
abbrev S4x4096x8 : Shape := ⟨3, ![4, 4096, 8]⟩
abbrev S4x4096x128 : Shape := ⟨3, ![4, 4096, 128]⟩
abbrev S32x1x1 : Shape := ⟨3, ![32, 1, 1]⟩
abbrev S4x8x4096 : Shape := ⟨3, ![4, 8, 4096]⟩
abbrev S32x1x4096 : Shape := ⟨3, ![32, 1, 4096]⟩
abbrev S32x32x128x64 : Shape := ⟨4, ![32, 32, 128, 64]⟩
abbrev S8x128x64 : Shape := ⟨3, ![8, 128, 64]⟩
abbrev S1x128x8 : Shape := ⟨3, ![1, 128, 8]⟩
abbrev S8x1x128 : Shape := ⟨3, ![8, 1, 128]⟩
abbrev S1x128x128 : Shape := ⟨3, ![1, 128, 128]⟩
abbrev S8x1x1 : Shape := ⟨3, ![8, 1, 1]⟩
abbrev S8x1x128x64 : Shape := ⟨4, ![8, 1, 128, 64]⟩
abbrev S128x128 : Shape := ⟨2, ![128, 128]⟩
abbrev S128x8 : Shape := ⟨2, ![128, 8]⟩
abbrev S128x1 : Shape := ⟨2, ![128, 1]⟩
abbrev S1x1x128 : Shape := ⟨3, ![1, 1, 128]⟩
abbrev S1x128 : Shape := ⟨2, ![1, 128]⟩
abbrev S1x128x64 : Shape := ⟨3, ![1, 128, 64]⟩
abbrev S128x64 : Shape := ⟨2, ![128, 64]⟩
abbrev S1x1x128x64 : Shape := ⟨4, ![1, 1, 128, 64]⟩
abbrev S1x1x1 : Shape := ⟨3, ![1, 1, 1]⟩
abbrev S1x1 : Shape := ⟨2, ![1, 1]⟩
abbrev S1x64 : Shape := ⟨2, ![1, 64]⟩

abbrev nBuf : Space → Nat
  | .hbm => 10
  | .vmem => 19
  | .smem => 0
  | _ => 0

abbrev bufTy : (tb : Table) → Fin (tcTables nBuf tb) → BufTy
  | .hbm, ⟨0, _⟩ => ⟨S32x4096x64, .f32⟩
  | .hbm, ⟨1, _⟩ => ⟨S4x4096x8, .f32⟩
  | .hbm, ⟨2, _⟩ => ⟨S4x4096x8, .f32⟩
  | .hbm, ⟨3, _⟩ => ⟨S4x4096x128, .f32⟩
  | .hbm, ⟨4, _⟩ => ⟨S4x4096x128, .f32⟩
  | .hbm, ⟨5, _⟩ => ⟨S32x1x1, .f32⟩
  | .hbm, ⟨6, _⟩ => ⟨S4x8x4096, .f32⟩
  | .hbm, ⟨7, _⟩ => ⟨S32x1x4096, .f32⟩
  | .hbm, ⟨8, _⟩ => ⟨S32x4096x64, .f32⟩
  | .hbm, ⟨9, _⟩ => ⟨S32x32x128x64, .f32⟩
  | .local _ .vmem, ⟨0, _⟩ => ⟨S8x128x64, .f32⟩
  | .local _ .vmem, ⟨1, _⟩ => ⟨S8x128x64, .f32⟩
  | .local _ .vmem, ⟨2, _⟩ => ⟨S1x128x8, .f32⟩
  | .local _ .vmem, ⟨3, _⟩ => ⟨S1x128x8, .f32⟩
  | .local _ .vmem, ⟨4, _⟩ => ⟨S1x128x8, .f32⟩
  | .local _ .vmem, ⟨5, _⟩ => ⟨S1x128x8, .f32⟩
  | .local _ .vmem, ⟨6, _⟩ => ⟨S8x1x128, .f32⟩
  | .local _ .vmem, ⟨7, _⟩ => ⟨S8x1x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S8x1x1, .f32⟩
  | .local _ .vmem, ⟨13, _⟩ => ⟨S8x1x1, .f32⟩
  | .local _ .vmem, ⟨14, _⟩ => ⟨S8x128x64, .f32⟩
  | .local _ .vmem, ⟨15, _⟩ => ⟨S8x128x64, .f32⟩
  | .local _ .vmem, ⟨16, _⟩ => ⟨S8x1x128x64, .f32⟩
  | .local _ .vmem, ⟨17, _⟩ => ⟨S8x1x128x64, .f32⟩
  | .local _ .vmem, ⟨18, _⟩ => ⟨S8x128x64, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdFwdRefIdeal.lean ====
abbrev S32x4096x64 : Shape := ⟨3, ![32, 4096, 64]⟩
abbrev S4x4096x8 : Shape := ⟨3, ![4, 4096, 8]⟩
abbrev S4x4096x128 : Shape := ⟨3, ![4, 4096, 128]⟩
abbrev S32x1x1 : Shape := ⟨3, ![32, 1, 1]⟩
abbrev S4x8x32x128x64 : Shape := ⟨5, ![4, 8, 32, 128, 64]⟩
abbrev S4x32x128x8 : Shape := ⟨4, ![4, 32, 128, 8]⟩
abbrev S4x8x32x128 : Shape := ⟨4, ![4, 8, 32, 128]⟩
abbrev S4x8x32x128x1 : Shape := ⟨5, ![4, 8, 32, 128, 1]⟩
abbrev S4x32x128x128 : Shape := ⟨4, ![4, 32, 128, 128]⟩
abbrev S4x8x32x1x128 : Shape := ⟨5, ![4, 8, 32, 1, 128]⟩
abbrev S4x8x32x128x128 : Shape := ⟨5, ![4, 8, 32, 128, 128]⟩
abbrev S_ : Shape := ⟨0, ![]⟩
abbrev S4x1x32x128x128 : Shape := ⟨5, ![4, 1, 32, 128, 128]⟩
abbrev S4x8x32x1 : Shape := ⟨4, ![4, 8, 32, 1]⟩
abbrev S4x8x32 : Shape := ⟨3, ![4, 8, 32]⟩
abbrev S4x8x32x32x32 : Shape := ⟨5, ![4, 8, 32, 32, 32]⟩
abbrev S4x8x1x1x32 : Shape := ⟨5, ![4, 8, 1, 1, 32]⟩
abbrev S4x8x32x32 : Shape := ⟨4, ![4, 8, 32, 32]⟩
abbrev S4x32x8x64x128 : Shape := ⟨5, ![4, 32, 8, 64, 128]⟩
abbrev S32x32x128x64 : Shape := ⟨4, ![32, 32, 128, 64]⟩

abbrev nBuf : Space → Nat
  | .hbm => 119
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S4x4096x8, .f32⟩
  | .hbm, ⟨2, _⟩ => ⟨S4x4096x8, .f32⟩
  | .hbm, ⟨3, _⟩ => ⟨S4x4096x128, .f32⟩
  | .hbm, ⟨4, _⟩ => ⟨S4x4096x128, .f32⟩
  | .hbm, ⟨5, _⟩ => ⟨S32x1x1, .f32⟩
  | .hbm, ⟨6, _⟩ => ⟨S4x8x32x128x64, .f32⟩
  | .hbm, ⟨7, _⟩ => ⟨S4x32x128x8, .f32⟩
  | .hbm, ⟨8, _⟩ => ⟨S4x8x32x128, .f32⟩
  | .hbm, ⟨9, _⟩ => ⟨S4x8x32x128x1, .f32⟩
  | .hbm, ⟨10, _⟩ => ⟨S4x8x32x128x64, .f32⟩
  | .hbm, ⟨11, _⟩ => ⟨S4x8x32x128x64, .f32⟩
  | .hbm, ⟨12, _⟩ => ⟨S4x32x128x8, .f32⟩
  | .hbm, ⟨13, _⟩ => ⟨S4x8x32x128, .f32⟩
  | .hbm, ⟨14, _⟩ => ⟨S4x32x128x128, .f32⟩
  | .hbm, ⟨15, _⟩ => ⟨S4x32x128x128, .f32⟩
  | .hbm, ⟨16, _⟩ => ⟨S32x4096x64, .f32⟩
  | .hbm, ⟨17, _⟩ => ⟨S32x4096x64, .f32⟩
  | .hbm, ⟨18, _⟩ => ⟨S4x8x32x128x64, .f32⟩
  | .hbm, ⟨19, _⟩ => ⟨S4x32x128x8, .f32⟩
  | .hbm, ⟨20, _⟩ => ⟨S4x8x32x128, .f32⟩
  | .hbm, ⟨21, _⟩ => ⟨S4x8x32x128x1, .f32⟩
  | .hbm, ⟨22, _⟩ => ⟨S4x8x32x128x64, .f32⟩
  | .hbm, ⟨23, _⟩ => ⟨S4x8x32x128x64, .f32⟩
  | .hbm, ⟨24, _⟩ => ⟨S4x32x128x8, .f32⟩
  | .hbm, ⟨25, _⟩ => ⟨S4x8x32x128, .f32⟩
  | .hbm, ⟨26, _⟩ => ⟨S4x32x128x128, .f32⟩
  | .hbm, ⟨27, _⟩ => ⟨S4x32x128x128, .f32⟩
  | .hbm, ⟨28, _⟩ => ⟨S4x8x32x128x1, .f32⟩
  | .hbm, ⟨29, _⟩ => ⟨S4x8x32x1x128, .f32⟩
  | .hbm, ⟨30, _⟩ => ⟨S4x8x32x128x128, .f32⟩
  | .hbm, ⟨31, _⟩ => ⟨S4x8x32x128x128, .f32⟩
  | .hbm, ⟨32, _⟩ => ⟨S4x8x32x128x128, .f32⟩
  | .hbm, ⟨33, _⟩ => ⟨S4x8x32x128x128, .i32⟩
  | .hbm, ⟨34, _⟩ => ⟨S4x8x32x128x128, .i32⟩
  | .hbm, ⟨35, _⟩ => ⟨S4x8x32x128x128, .i1⟩
  | .hbm, ⟨36, _⟩ => ⟨S_, .f32⟩
  | .hbm, ⟨37, _⟩ => ⟨S4x8x32x128x128, .f32⟩
  | .hbm, ⟨38, _⟩ => ⟨S4x8x32x128x128, .f32⟩
  | .hbm, ⟨39, _⟩ => ⟨S4x8x32x128x128, .f32⟩
  | .hbm, ⟨40, _⟩ => ⟨S4x32x128x128, .f32⟩
  | .hbm, ⟨41, _⟩ => ⟨S4x1x32x128x128, .f32⟩
  | .hbm, ⟨42, _⟩ => ⟨S4x8x32x128x128, .f32⟩
  | .hbm, ⟨43, _⟩ => ⟨S4x8x32x128x128, .f32⟩
  | .hbm, ⟨44, _⟩ => ⟨S4x8x32x128x64, .f32⟩
  | .hbm, ⟨45, _⟩ => ⟨S4x8x32x1, .f32⟩
  | .hbm, ⟨46, _⟩ => ⟨S4x8x32, .f32⟩
  | .hbm, ⟨47, _⟩ => ⟨S4x8x32x32x32, .i32⟩
  | .hbm, ⟨48, _⟩ => ⟨S4x8x32x32x32, .i32⟩
  | .hbm, ⟨49, _⟩ => ⟨S4x8x32x32x32, .i32⟩
  | .hbm, ⟨50, _⟩ => ⟨S4x8x32x32x32, .i1⟩
  | .hbm, ⟨51, _⟩ => ⟨S4x8x32x32x32, .i1⟩
  | .hbm, ⟨52, _⟩ => ⟨S4x8x32x32x32, .i1⟩
  | .hbm, ⟨53, _⟩ => ⟨S4x8x1x1x32, .f32⟩
  | .hbm, ⟨54, _⟩ => ⟨S4x8x32x32x32, .f32⟩
  | .hbm, ⟨55, _⟩ => ⟨S_, .f32⟩
  | .hbm, ⟨56, _⟩ => ⟨S4x8x32x32x32, .f32⟩
  | .hbm, ⟨57, _⟩ => ⟨S4x8x32x32x32, .f32⟩
  | .hbm, ⟨58, _⟩ => ⟨S_, .f32⟩
  | .hbm, ⟨59, _⟩ => ⟨S4x8x32x32, .f32⟩
  | .hbm, ⟨60, _⟩ => ⟨S4x8x32x32, .i32⟩
  | .hbm, ⟨61, _⟩ => ⟨S4x8x32x32, .i32⟩
  | .hbm, ⟨62, _⟩ => ⟨S4x8x32x32, .i1⟩
  | .hbm, ⟨63, _⟩ => ⟨S_, .f32⟩
  | .hbm, ⟨64, _⟩ => ⟨S4x8x32x32, .f32⟩
  | .hbm, ⟨65, _⟩ => ⟨S4x8x32x32, .f32⟩
  | .hbm, ⟨66, _⟩ => ⟨S4x8x32x32, .f32⟩
  | .hbm, ⟨67, _⟩ => ⟨S4x8x32x1, .f32⟩
  | .hbm, ⟨68, _⟩ => ⟨S4x8x32x128, .f32⟩
  | .hbm, ⟨69, _⟩ => ⟨S4x8x32x128, .f32⟩
  | .hbm, ⟨70, _⟩ => ⟨S4x8x32x128, .f32⟩
  | .hbm, ⟨71, _⟩ => ⟨S4x8x32x128x1, .f32⟩
  | .hbm, ⟨72, _⟩ => ⟨S4x8x32x128x64, .f32⟩
  | .hbm, ⟨73, _⟩ => ⟨S4x8x32x128x64, .f32⟩
  | .hbm, ⟨74, _⟩ => ⟨S4x32x8x64x128, .f32⟩
  | .hbm, ⟨75, _⟩ => ⟨S4x8x32x128x64, .f32⟩
  | .hbm, ⟨76, _⟩ => ⟨S4x8x32x128x64, .f32⟩
  | .hbm, ⟨77, _⟩ => ⟨S4x32x8x64x128, .f32⟩
  | .hbm, ⟨78, _⟩ => ⟨S4x8x32x128x64, .f32⟩
  | .hbm, ⟨79, _⟩ => ⟨S4x8x32x128, .f32⟩
  | .hbm, ⟨80, _⟩ => ⟨S4x8x32x128x1, .f32⟩
  | .hbm, ⟨81, _⟩ => ⟨S4x8x32x128x64, .f32⟩
  | .hbm, ⟨82, _⟩ => ⟨S4x8x32x128x64, .f32⟩
  | .hbm, ⟨83, _⟩ => ⟨S4x8x32x128x64, .f32⟩
  | .hbm, ⟨84, _⟩ => ⟨S32x4096x64, .f32⟩
  | .hbm, ⟨85, _⟩ => ⟨S32x4096x64, .f32⟩
  | .hbm, ⟨86, _⟩ => ⟨S4x8x32x1, .f32⟩
  | .hbm, ⟨87, _⟩ => ⟨S4x8x32, .f32⟩
  | .hbm, ⟨88, _⟩ => ⟨S4x8x32x32x32, .i32⟩
  | .hbm, ⟨89, _⟩ => ⟨S4x8x32x32x32, .i32⟩
  | .hbm, ⟨90, _⟩ => ⟨S4x8x32x32x32, .i32⟩
  | .hbm, ⟨91, _⟩ => ⟨S4x8x32x32x32, .i1⟩
  | .hbm, ⟨92, _⟩ => ⟨S4x8x32x32x32, .i1⟩
  | .hbm, ⟨93, _⟩ => ⟨S4x8x32x32x32, .i1⟩
  | .hbm, ⟨94, _⟩ => ⟨S4x8x1x1x32, .f32⟩
  | .hbm, ⟨95, _⟩ => ⟨S4x8x32x32x32, .f32⟩
  | .hbm, ⟨96, _⟩ => ⟨S_, .f32⟩
  | .hbm, ⟨97, _⟩ => ⟨S4x8x32x32x32, .f32⟩
  | .hbm, ⟨98, _⟩ => ⟨S4x8x32x32x32, .f32⟩
  | .hbm, ⟨99, _⟩ => ⟨S_, .f32⟩
  | .hbm, ⟨100, _⟩ => ⟨S4x8x32x32, .f32⟩
  | .hbm, ⟨101, _⟩ => ⟨S4x8x32x32, .i32⟩
  | .hbm, ⟨102, _⟩ => ⟨S4x8x32x32, .i32⟩
  | .hbm, ⟨103, _⟩ => ⟨S4x8x32x32, .i1⟩
  | .hbm, ⟨104, _⟩ => ⟨S_, .f32⟩
  | .hbm, ⟨105, _⟩ => ⟨S4x8x32x32, .f32⟩
  | .hbm, ⟨106, _⟩ => ⟨S4x8x32x32, .f32⟩
  | .hbm, ⟨107, _⟩ => ⟨S4x8x32x32, .f32⟩
  | .hbm, ⟨108, _⟩ => ⟨S4x8x32x1, .f32⟩
  | .hbm, ⟨109, _⟩ => ⟨S4x8x32x128, .f32⟩
  | .hbm, ⟨110, _⟩ => ⟨S4x8x32x128, .f32⟩
  | .hbm, ⟨111, _⟩ => ⟨S4x8x32x128, .f32⟩
  | .hbm, ⟨112, _⟩ => ⟨S4x8x32x128x1, .f32⟩
  | .hbm, ⟨113, _⟩ => ⟨S4x8x32x128x64, .f32⟩
  | .hbm, ⟨114, _⟩ => ⟨S4x8x32x128x64, .f32⟩
  | .hbm, ⟨115, _⟩ => ⟨S4x32x8x64x128, .f32⟩
  | .hbm, ⟨116, _⟩ => ⟨S4x8x32x128x64, .f32⟩
  | .hbm, ⟨117, _⟩ => ⟨S4x8x32x128x64, .f32⟩
  | .hbm, ⟨118, _⟩ => ⟨S32x32x128x64, .f32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_0 : Ref sig .tc := ⟨.hbm, 55, rfl⟩
abbrev main_v48 : Ref sig .tc := ⟨.hbm, 56, rfl⟩
abbrev main_v49 : Ref sig .tc := ⟨.hbm, 57, rfl⟩
abbrev main_cst_1 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_2 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_3 : Ref sig .tc := ⟨.hbm, 96, rfl⟩
abbrev main_v86 : Ref sig .tc := ⟨.hbm, 97, rfl⟩
abbrev main_v87 : Ref sig .tc := ⟨.hbm, 98, rfl⟩
abbrev main_cst_4 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_5 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩

abbrev nD : Nat := 1
abbrev τ : Topo := Topo.v7x

variable {F : FTy → Type} [FloatOps F]
-- ==== GuDx.lean ====
abbrev S4096x5632 : Shape := ⟨2, ![4096, 5632]⟩
abbrev S4x8192x1408 : Shape := ⟨3, ![4, 8192, 1408]⟩
abbrev S4096x1024 : Shape := ⟨2, ![4096, 1024]⟩
abbrev S2048x1408 : Shape := ⟨2, ![2048, 1408]⟩
abbrev S1x1024x1408 : Shape := ⟨3, ![1, 1024, 1408]⟩
abbrev S2048x1024 : Shape := ⟨2, ![2048, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x8192x1408, .bf16⟩
  | .hbm, ⟨2, _⟩ => ⟨S4096x1024, .bf16⟩
  | .local _ .vmem, ⟨0, _⟩ => ⟨S2048x1408, .bf16⟩
  | .local _ .vmem, ⟨1, _⟩ => ⟨S2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDxRefIdeal.lean ====
abbrev S4096x5632 : Shape := ⟨2, ![4096, 5632]⟩
abbrev S4x8192x1408 : Shape := ⟨3, ![4, 8192, 1408]⟩
abbrev S_ : Shape := ⟨0, ![]⟩
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x8192x1408, .bf16⟩
  | .hbm, ⟨2, _⟩ => ⟨S_, .f32⟩
  | .hbm, ⟨3, _⟩ => ⟨S4096x1024, .f32⟩
  | .hbm, ⟨4, _⟩ => ⟨S4x1024x1408, .bf16⟩
  | .hbm, ⟨5, _⟩ => ⟨S1024x4x1408, .bf16⟩
  | .hbm, ⟨6, _⟩ => ⟨S1024x5632, .bf16⟩
  | .hbm, ⟨7, _⟩ => ⟨S1024x5632, .f32⟩
  | .hbm, ⟨8, _⟩ => ⟨S4096x5632, .f32⟩
  | .hbm, ⟨9, _⟩ => ⟨S4096x5632, .f32⟩
  | .hbm, ⟨10, _⟩ => ⟨S4096x1024, .f32⟩
  | .hbm, ⟨11, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GuDw.lean ====
abbrev S4096x1024 : Shape := ⟨2, ![4096, 1024]⟩
abbrev S4096x5632 : Shape := ⟨2, ![4096, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuDwRefIdeal.lean ====
abbrev S4096x1024 : Shape := ⟨2, ![4096, 1024]⟩
abbrev S4096x5632 : Shape := ⟨2, ![4096, 5632]⟩
abbrev S_ : Shape := ⟨0, ![]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S4x1024x1408, .f32⟩
  | .hbm, ⟨4, _⟩ => ⟨S4096x1024, .f32⟩
  | .hbm, ⟨5, _⟩ => ⟨S1024x4x1408, .f32⟩
  | .hbm, ⟨6, _⟩ => ⟨S1024x5632, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GuFwd.lean ====
abbrev S4096x1024 : Shape := ⟨2, ![4096, 1024]⟩
abbrev S4x8192x1408 : Shape := ⟨3, ![4, 8192, 1408]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x8192x1408, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 arg2
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v16.toNat, v17.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuFwdRefIdeal.lean ====
abbrev S4096x1024 : Shape := ⟨2, ![4096, 1024]⟩
abbrev S4x8192x1408 : Shape := ⟨3, ![4, 8192, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x8192x1408, .bf16⟩
  | .hbm, ⟨2, _⟩ => ⟨S4096x1024, .f32⟩
  | .hbm, ⟨3, _⟩ => ⟨S4x1024x1408, .bf16⟩
  | .hbm, ⟨4, _⟩ => ⟨S1024x4x1408, .bf16⟩
  | .hbm, ⟨5, _⟩ => ⟨S1024x5632, .bf16⟩
  | .hbm, ⟨6, _⟩ => ⟨S1024x5632, .f32⟩
  | .hbm, ⟨7, _⟩ => ⟨S4096x5632, .f32⟩
  | .hbm, ⟨8, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DownFwd.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdZDx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S4096x1024, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZDxIdeal.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S4096x1024, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZDxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x1024, .f32⟩
  | .hbm, ⟨7, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdZDw.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZDwIdeal.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S2048x1024, .f32⟩
  | .hbm, ⟨7, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdZFwd.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZFwdIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdZFwdRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdXbcDx.lean ====
abbrev S4096x3072 : Shape := ⟨2, ![4096, 3072]⟩
abbrev S1024x3072 : Shape := ⟨2, ![1024, 3072]⟩
abbrev S4096x1024 : Shape := ⟨2, ![4096, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S1024x3072, .bf16⟩
  | .hbm, ⟨2, _⟩ => ⟨S4096x1024, .bf16⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcDxIdeal.lean ====
abbrev S4096x3072 : Shape := ⟨2, ![4096, 3072]⟩
abbrev S1024x3072 : Shape := ⟨2, ![1024, 3072]⟩
abbrev S4096x1024 : Shape := ⟨2, ![4096, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S1024x3072, .bf16⟩
  | .hbm, ⟨2, _⟩ => ⟨S4096x1024, .bf16⟩
  | .local _ .vmem, ⟨0, _⟩ => ⟨S1024x1536, .f32⟩
  | .local _ .vmem, ⟨1, _⟩ => ⟨S1024x1536, .f32⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcDxRefIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x1024, .f32⟩
  | .hbm, ⟨7, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdXbcDw.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .f32⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcDwIdeal.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .f32⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S3072x1024, .f32⟩
  | .hbm, ⟨7, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdXbcFwd.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcFwdIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdXbcFwdRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdDtDx.lean ====
abbrev S4096x32 : Shape := ⟨2, ![4096, 32]⟩
abbrev S1024x32 : Shape := ⟨2, ![1024, 32]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x32, .f32⟩
  | .hbm, ⟨1, _⟩ => ⟨S1024x32, .bf16⟩
  | .hbm, ⟨2, _⟩ => ⟨S4096x1024, .bf16⟩
  | .local _ .vmem, ⟨0, _⟩ => ⟨S1024x32, .f32⟩
  | .local _ .vmem, ⟨1, _⟩ => ⟨S1024x32, .f32⟩
  | .local _ .vmem, ⟨2, _⟩ => ⟨S1024x32, .bf16⟩
  | .local _ .vmem, ⟨3, _⟩ => ⟨S1024x1024, .bf16⟩
  | .local _ .vmem, ⟨4, _⟩ => ⟨S1024x1024, .bf16⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDtDxIdeal.lean ====
abbrev S4096x32 : Shape := ⟨2, ![4096, 32]⟩
abbrev S1024x32 : Shape := ⟨2, ![1024, 32]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x32, .f32⟩
  | .hbm, ⟨1, _⟩ => ⟨S1024x32, .bf16⟩
  | .hbm, ⟨2, _⟩ => ⟨S4096x1024, .bf16⟩
  | .local _ .vmem, ⟨0, _⟩ => ⟨S1024x32, .f32⟩
  | .local _ .vmem, ⟨1, _⟩ => ⟨S1024x32, .f32⟩
  | .local _ .vmem, ⟨2, _⟩ => ⟨S1024x32, .bf16⟩
  | .local _ .vmem, ⟨3, _⟩ => ⟨S1024x1024, .bf16⟩
  | .local _ .vmem, ⟨4, _⟩ => ⟨S1024x1024, .bf16⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDtDxRefIdeal.lean ====
abbrev S4096x32 : Shape := ⟨2, ![4096, 32]⟩
abbrev S1024x32 : Shape := ⟨2, ![1024, 32]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S1024x32, .bf16⟩
  | .hbm, ⟨2, _⟩ => ⟨S_, .f32⟩
  | .hbm, ⟨3, _⟩ => ⟨S4096x1024, .f32⟩
  | .hbm, ⟨4, _⟩ => ⟨S1024x32, .f32⟩
  | .hbm, ⟨5, _⟩ => ⟨S4096x32, .f32⟩
  | .hbm, ⟨6, _⟩ => ⟨S4096x1024, .f32⟩
  | .hbm, ⟨7, _⟩ => ⟨S4096x1024, .bf16⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdDtDw.lean ====
abbrev S4096x1024 : Shape := ⟨2, ![4096, 1024]⟩
abbrev S4096x32 : Shape := ⟨2, ![4096, 32]⟩
abbrev S1024x32 : Shape := ⟨2, ![1024, 32]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x32, .f32⟩
  | .hbm, ⟨2, _⟩ => ⟨S1024x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsdDtDwIdeal.lean ====
abbrev S4096x1024 : Shape := ⟨2, ![4096, 1024]⟩
abbrev S4096x32 : Shape := ⟨2, ![4096, 32]⟩
abbrev S1024x32 : Shape := ⟨2, ![1024, 32]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x32, .f32⟩
  | .hbm, ⟨2, _⟩ => ⟨S1024x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .f32⟩
  | .local _ .vmem, ⟨3, _⟩ => ⟨S1024x32, .f32⟩
  | .local _ .vmem, ⟨4, _⟩ => ⟨S1024x32, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SsdDtDwRefIdeal.lean ====
abbrev S4096x1024 : Shape := ⟨2, ![4096, 1024]⟩
abbrev S4096x32 : Shape := ⟨2, ![4096, 32]⟩
abbrev S_ : Shape := ⟨0, ![]⟩
abbrev S1024x32 : Shape := ⟨2, ![1024, 32]⟩
abbrev S32x1024 : Shape := ⟨2, ![32, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x32, .f32⟩
  | .hbm, ⟨2, _⟩ => ⟨S_, .f32⟩
  | .hbm, ⟨3, _⟩ => ⟨S1024x32, .f32⟩
  | .hbm, ⟨4, _⟩ => ⟨S4096x1024, .f32⟩
  | .hbm, ⟨5, _⟩ => ⟨S4096x32, .f32⟩
  | .hbm, ⟨6, _⟩ => ⟨S32x1024, .f32⟩
  | .hbm, ⟨7, _⟩ => ⟨S1024x32, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdDtFwd.lean ====
abbrev S4096x1024 : Shape := ⟨2, ![4096, 1024]⟩
abbrev S1024x32 : Shape := ⟨2, ![1024, 32]⟩
abbrev S4096x32 : Shape := ⟨2, ![4096, 32]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .bf16⟩
  | .local _ .vmem, ⟨3, _⟩ => ⟨S1024x32, .f32⟩
  | .local _ .vmem, ⟨4, _⟩ => ⟨S1024x32, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDtFwdIdeal.lean ====
abbrev S4096x1024 : Shape := ⟨2, ![4096, 1024]⟩
abbrev S1024x32 : Shape := ⟨2, ![1024, 32]⟩
abbrev S4096x32 : Shape := ⟨2, ![4096, 32]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x32, .f32⟩
  | .local _ .vmem, ⟨0, _⟩ => ⟨S1024x1024, .bf16⟩
  | .local _ .vmem, ⟨1, _⟩ => ⟨S1024x1024, .bf16⟩
  | .local _ .vmem, ⟨2, _⟩ => ⟨S1024x32, .bf16⟩
  | .local _ .vmem, ⟨3, _⟩ => ⟨S1024x32, .f32⟩
  | .local _ .vmem, ⟨4, _⟩ => ⟨S1024x32, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdDtFwdRefIdeal.lean ====
abbrev S4096x1024 : Shape := ⟨2, ![4096, 1024]⟩
abbrev S1024x32 : Shape := ⟨2, ![1024, 32]⟩
abbrev S4096x32 : Shape := ⟨2, ![4096, 32]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x32, .bf16⟩
  | .hbm, ⟨2, _⟩ => ⟨S4096x1024, .f32⟩
  | .hbm, ⟨3, _⟩ => ⟨S1024x32, .f32⟩
  | .hbm, ⟨4, _⟩ => ⟨S4096x32, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdOutDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDxIdeal.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdOutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDwIdeal.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdOutFwd.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutFwdIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutFwdRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaADx.lean ====
abbrev S4096x672 : Shape := ⟨2, ![4096, 672]⟩
abbrev S1024x672 : Shape := ⟨2, ![1024, 672]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x672, .f32⟩
  | .hbm, ⟨1, _⟩ => ⟨S1024x672, .bf16⟩
  | .hbm, ⟨2, _⟩ => ⟨S4096x1024, .bf16⟩
  | .local _ .vmem, ⟨0, _⟩ => ⟨S1024x672, .f32⟩
  | .local _ .vmem, ⟨1, _⟩ => ⟨S1024x672, .f32⟩
  | .local _ .vmem, ⟨2, _⟩ => ⟨S1024x672, .bf16⟩
  | .local _ .vmem, ⟨3, _⟩ => ⟨S1024x1024, .bf16⟩
  | .local _ .vmem, ⟨4, _⟩ => ⟨S1024x1024, .bf16⟩
  | _, _ => ⟨S4096x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaADxIdeal.lean ====
abbrev S4096x672 : Shape := ⟨2, ![4096, 672]⟩
abbrev S1024x672 : Shape := ⟨2, ![1024, 672]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x672, .f32⟩
  | .hbm, ⟨1, _⟩ => ⟨S1024x672, .bf16⟩
  | .hbm, ⟨2, _⟩ => ⟨S4096x1024, .bf16⟩
  | .local _ .vmem, ⟨0, _⟩ => ⟨S1024x672, .f32⟩
  | .local _ .vmem, ⟨1, _⟩ => ⟨S1024x672, .f32⟩
  | .local _ .vmem, ⟨2, _⟩ => ⟨S1024x672, .bf16⟩
  | .local _ .vmem, ⟨3, _⟩ => ⟨S1024x1024, .bf16⟩
  | .local _ .vmem, ⟨4, _⟩ => ⟨S1024x1024, .bf16⟩
  | _, _ => ⟨S4096x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaADxRefIdeal.lean ====
abbrev S4096x672 : Shape := ⟨2, ![4096, 672]⟩
abbrev S1024x672 : Shape := ⟨2, ![1024, 672]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x672, .f32⟩
  | .hbm, ⟨1, _⟩ => ⟨S1024x672, .bf16⟩
  | .hbm, ⟨2, _⟩ => ⟨S_, .f32⟩
  | .hbm, ⟨3, _⟩ => ⟨S4096x1024, .f32⟩
  | .hbm, ⟨4, _⟩ => ⟨S1024x672, .f32⟩
  | .hbm, ⟨5, _⟩ => ⟨S4096x672, .f32⟩
  | .hbm, ⟨6, _⟩ => ⟨S4096x1024, .f32⟩
  | .hbm, ⟨7, _⟩ => ⟨S4096x1024, .bf16⟩
  | _, _ => ⟨S4096x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaADw.lean ====
abbrev S4096x1024 : Shape := ⟨2, ![4096, 1024]⟩
abbrev S4096x672 : Shape := ⟨2, ![4096, 672]⟩
abbrev S1024x672 : Shape := ⟨2, ![1024, 672]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x672, .f32⟩
  | .hbm, ⟨2, _⟩ => ⟨S1024x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .f32⟩
  | .local _ .vmem, ⟨3, _⟩ => ⟨S1024x672, .f32⟩
  | .local _ .vmem, ⟨4, _⟩ => ⟨S1024x672, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaADwIdeal.lean ====
abbrev S4096x1024 : Shape := ⟨2, ![4096, 1024]⟩
abbrev S4096x672 : Shape := ⟨2, ![4096, 672]⟩
abbrev S1024x672 : Shape := ⟨2, ![1024, 672]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x672, .f32⟩
  | .hbm, ⟨2, _⟩ => ⟨S1024x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .f32⟩
  | .local _ .vmem, ⟨3, _⟩ => ⟨S1024x672, .f32⟩
  | .local _ .vmem, ⟨4, _⟩ => ⟨S1024x672, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaADwRefIdeal.lean ====
abbrev S4096x1024 : Shape := ⟨2, ![4096, 1024]⟩
abbrev S4096x672 : Shape := ⟨2, ![4096, 672]⟩
abbrev S_ : Shape := ⟨0, ![]⟩
abbrev S1024x672 : Shape := ⟨2, ![1024, 672]⟩
abbrev S672x1024 : Shape := ⟨2, ![672, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x672, .f32⟩
  | .hbm, ⟨2, _⟩ => ⟨S_, .f32⟩
  | .hbm, ⟨3, _⟩ => ⟨S1024x672, .f32⟩
  | .hbm, ⟨4, _⟩ => ⟨S4096x1024, .f32⟩
  | .hbm, ⟨5, _⟩ => ⟨S4096x672, .f32⟩
  | .hbm, ⟨6, _⟩ => ⟨S672x1024, .f32⟩
  | .hbm, ⟨7, _⟩ => ⟨S1024x672, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaAFwd.lean ====
abbrev S4096x1024 : Shape := ⟨2, ![4096, 1024]⟩
abbrev S1024x672 : Shape := ⟨2, ![1024, 672]⟩
abbrev S4096x672 : Shape := ⟨2, ![4096, 672]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x672, .bf16⟩
  | .hbm, ⟨2, _⟩ => ⟨S4096x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .bf16⟩
  | .local _ .vmem, ⟨3, _⟩ => ⟨S1024x672, .f32⟩
  | .local _ .vmem, ⟨4, _⟩ => ⟨S1024x672, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaAFwdIdeal.lean ====
abbrev S4096x1024 : Shape := ⟨2, ![4096, 1024]⟩
abbrev S1024x672 : Shape := ⟨2, ![1024, 672]⟩
abbrev S4096x672 : Shape := ⟨2, ![4096, 672]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x672, .bf16⟩
  | .hbm, ⟨2, _⟩ => ⟨S4096x672, .f32⟩
  | .local _ .vmem, ⟨0, _⟩ => ⟨S1024x1024, .bf16⟩
  | .local _ .vmem, ⟨1, _⟩ => ⟨S1024x1024, .bf16⟩
  | .local _ .vmem, ⟨2, _⟩ => ⟨S1024x672, .bf16⟩
  | .local _ .vmem, ⟨3, _⟩ => ⟨S1024x672, .f32⟩
  | .local _ .vmem, ⟨4, _⟩ => ⟨S1024x672, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x672 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaAFwdRefIdeal.lean ====
abbrev S4096x1024 : Shape := ⟨2, ![4096, 1024]⟩
abbrev S1024x672 : Shape := ⟨2, ![1024, 672]⟩
abbrev S4096x672 : Shape := ⟨2, ![4096, 672]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x672, .bf16⟩
  | .hbm, ⟨2, _⟩ => ⟨S4096x1024, .f32⟩
  | .hbm, ⟨3, _⟩ => ⟨S1024x672, .f32⟩
  | .hbm, ⟨4, _⟩ => ⟨S4096x672, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaQbDx.lean ====
abbrev S4096x1536 : Shape := ⟨2, ![4096, 1536]⟩
abbrev S384x1536 : Shape := ⟨2, ![384, 1536]⟩
abbrev S4096x384 : Shape := ⟨2, ![4096, 384]⟩
abbrev S1024x1536 : Shape := ⟨2, ![1024, 1536]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .f32⟩
  | .hbm, ⟨1, _⟩ => ⟨S384x1536, .bf16⟩
  | .hbm, ⟨2, _⟩ => ⟨S4096x384, .bf16⟩
  | .local _ .vmem, ⟨0, _⟩ => ⟨S1024x1536, .f32⟩
  | .local _ .vmem, ⟨1, _⟩ => ⟨S1024x1536, .f32⟩
  | .local _ .vmem, ⟨2, _⟩ => ⟨S384x1536, .bf16⟩
  | .local _ .vmem, ⟨3, _⟩ => ⟨S1024x384, .bf16⟩
  | .local _ .vmem, ⟨4, _⟩ => ⟨S1024x384, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQbDxIdeal.lean ====
abbrev S4096x1536 : Shape := ⟨2, ![4096, 1536]⟩
abbrev S384x1536 : Shape := ⟨2, ![384, 1536]⟩
abbrev S4096x384 : Shape := ⟨2, ![4096, 384]⟩
abbrev S1024x1536 : Shape := ⟨2, ![1024, 1536]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1536, .f32⟩
  | .hbm, ⟨1, _⟩ => ⟨S384x1536, .bf16⟩
  | .hbm, ⟨2, _⟩ => ⟨S4096x384, .bf16⟩
  | .local _ .vmem, ⟨0, _⟩ => ⟨S1024x1536, .f32⟩
  | .local _ .vmem, ⟨1, _⟩ => ⟨S1024x1536, .f32⟩
  | .local _ .vmem, ⟨2, _⟩ => ⟨S384x1536, .bf16⟩
  | .local _ .vmem, ⟨3, _⟩ => ⟨S1024x384, .bf16⟩
  | .local _ .vmem, ⟨4, _⟩ => ⟨S1024x384, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQbDxRefIdeal.lean ====
abbrev S4096x1536 : Shape := ⟨2, ![4096, 1536]⟩
abbrev S384x1536 : Shape := ⟨2, ![384, 1536]⟩
abbrev S_ : Shape := ⟨0, ![]⟩
abbrev S4096x384 : Shape := ⟨2, ![4096, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S384x1536, .bf16⟩
  | .hbm, ⟨2, _⟩ => ⟨S_, .f32⟩
  | .hbm, ⟨3, _⟩ => ⟨S4096x384, .f32⟩
  | .hbm, ⟨4, _⟩ => ⟨S384x1536, .f32⟩
  | .hbm, ⟨5, _⟩ => ⟨S4096x1536, .f32⟩
  | .hbm, ⟨6, _⟩ => ⟨S4096x384, .f32⟩
  | .hbm, ⟨7, _⟩ => ⟨S4096x384, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaQbDw.lean ====
abbrev S4096x384 : Shape := ⟨2, ![4096, 384]⟩
abbrev S4096x1536 : Shape := ⟨2, ![4096, 1536]⟩
abbrev S4x384x384 : Shape := ⟨3, ![4, 384, 384]⟩
abbrev S1024x384 : Shape := ⟨2, ![1024, 384]⟩
abbrev S1x384x384 : Shape := ⟨3, ![1, 384, 384]⟩
abbrev S384x384 : Shape := ⟨2, ![384, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S4096x1536, .f32⟩
  | .hbm, ⟨2, _⟩ => ⟨S4x384x384, .f32⟩
  | .local _ .vmem, ⟨0, _⟩ => ⟨S1024x384, .bf16⟩
  | .local _ .vmem, ⟨1, _⟩ => ⟨S1024x384, .bf16⟩
  | .local _ .vmem, ⟨2, _⟩ => ⟨S1024x384, .f32⟩
  | .local _ .vmem, ⟨3, _⟩ => ⟨S1024x384, .f32⟩
  | .local _ .vmem, ⟨4, _⟩ => ⟨S1x384x384, .f32⟩
  | .local _ .vmem, ⟨5, _⟩ => ⟨S1x384x384, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQbDwIdeal.lean ====
abbrev S4096x384 : Shape := ⟨2, ![4096, 384]⟩
abbrev S4096x1536 : Shape := ⟨2, ![4096, 1536]⟩
abbrev S4x384x384 : Shape := ⟨3, ![4, 384, 384]⟩
abbrev S1024x384 : Shape := ⟨2, ![1024, 384]⟩
abbrev S1x384x384 : Shape := ⟨3, ![1, 384, 384]⟩
abbrev S384x384 : Shape := ⟨2, ![384, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S4096x1536, .f32⟩
  | .hbm, ⟨2, _⟩ => ⟨S4x384x384, .f32⟩
  | .local _ .vmem, ⟨0, _⟩ => ⟨S1024x384, .bf16⟩
  | .local _ .vmem, ⟨1, _⟩ => ⟨S1024x384, .bf16⟩
  | .local _ .vmem, ⟨2, _⟩ => ⟨S1024x384, .f32⟩
  | .local _ .vmem, ⟨3, _⟩ => ⟨S1024x384, .f32⟩
  | .local _ .vmem, ⟨4, _⟩ => ⟨S1x384x384, .f32⟩
  | .local _ .vmem, ⟨5, _⟩ => ⟨S1x384x384, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x384x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQbDwRefIdeal.lean ====
abbrev S4096x384 : Shape := ⟨2, ![4096, 384]⟩
abbrev S4096x1536 : Shape := ⟨2, ![4096, 1536]⟩
abbrev S_ : Shape := ⟨0, ![]⟩
abbrev S4x384x384 : Shape := ⟨3, ![4, 384, 384]⟩
abbrev S384x4x384 : Shape := ⟨3, ![384, 4, 384]⟩
abbrev S384x1536 : Shape := ⟨2, ![384, 1536]⟩
abbrev S1536x384 : Shape := ⟨2, ![1536, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1536, .f32⟩
  | .hbm, ⟨2, _⟩ => ⟨S_, .f32⟩
  | .hbm, ⟨3, _⟩ => ⟨S4x384x384, .f32⟩
  | .hbm, ⟨4, _⟩ => ⟨S4096x384, .f32⟩
  | .hbm, ⟨5, _⟩ => ⟨S384x4x384, .f32⟩
  | .hbm, ⟨6, _⟩ => ⟨S384x1536, .f32⟩
  | .hbm, ⟨7, _⟩ => ⟨S4096x1536, .f32⟩
  | .hbm, ⟨8, _⟩ => ⟨S1536x384, .f32⟩
  | .hbm, ⟨9, _⟩ => ⟨S384x1536, .f32⟩
  | .hbm, ⟨10, _⟩ => ⟨S384x4x384, .f32⟩
  | .hbm, ⟨11, _⟩ => ⟨S4x384x384, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlaQbFwd.lean ====
abbrev S4096x384 : Shape := ⟨2, ![4096, 384]⟩
abbrev S384x1536 : Shape := ⟨2, ![384, 1536]⟩
abbrev S4096x1536 : Shape := ⟨2, ![4096, 1536]⟩
abbrev S1024x384 : Shape := ⟨2, ![1024, 384]⟩
abbrev S384x768 : Shape := ⟨2, ![384, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x1536, .bf16⟩
  | .hbm, ⟨2, _⟩ => ⟨S4096x1536, .f32⟩
  | .local _ .vmem, ⟨0, _⟩ => ⟨S1024x384, .bf16⟩
  | .local _ .vmem, ⟨1, _⟩ => ⟨S1024x384, .bf16⟩
  | .local _ .vmem, ⟨2, _⟩ => ⟨S384x768, .bf16⟩
  | .local _ .vmem, ⟨3, _⟩ => ⟨S384x768, .bf16⟩
  | .local _ .vmem, ⟨4, _⟩ => ⟨S1024x768, .f32⟩
  | .local _ .vmem, ⟨5, _⟩ => ⟨S1024x768, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQbFwdIdeal.lean ====
abbrev S4096x384 : Shape := ⟨2, ![4096, 384]⟩
abbrev S384x1536 : Shape := ⟨2, ![384, 1536]⟩
abbrev S4096x1536 : Shape := ⟨2, ![4096, 1536]⟩
abbrev S1024x384 : Shape := ⟨2, ![1024, 384]⟩
abbrev S384x768 : Shape := ⟨2, ![384, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x1536, .bf16⟩
  | .hbm, ⟨2, _⟩ => ⟨S4096x1536, .f32⟩
  | .local _ .vmem, ⟨0, _⟩ => ⟨S1024x384, .bf16⟩
  | .local _ .vmem, ⟨1, _⟩ => ⟨S1024x384, .bf16⟩
  | .local _ .vmem, ⟨2, _⟩ => ⟨S384x768, .bf16⟩
  | .local _ .vmem, ⟨3, _⟩ => ⟨S384x768, .bf16⟩
  | .local _ .vmem, ⟨4, _⟩ => ⟨S1024x768, .f32⟩
  | .local _ .vmem, ⟨5, _⟩ => ⟨S1024x768, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaQbFwdRefIdeal.lean ====
abbrev S4096x384 : Shape := ⟨2, ![4096, 384]⟩
abbrev S384x1536 : Shape := ⟨2, ![384, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1536, .bf16⟩
  | .hbm, ⟨2, _⟩ => ⟨S4096x384, .f32⟩
  | .hbm, ⟨3, _⟩ => ⟨S384x1536, .f32⟩
  | .hbm, ⟨4, _⟩ => ⟨S4096x1536, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaKvbDx.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S256x2048, .bf16⟩
  | .hbm, ⟨2, _⟩ => ⟨S4096x256, .bf16⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .bf16⟩
  | .local _ .vmem, ⟨4, _⟩ => ⟨S1024x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvbDxIdeal.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S256x2048, .bf16⟩
  | .hbm, ⟨2, _⟩ => ⟨S4096x256, .bf16⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .bf16⟩
  | .local _ .vmem, ⟨4, _⟩ => ⟨S1024x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvbDxRefIdeal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .bf16⟩
  | .hbm, ⟨2, _⟩ => ⟨S_, .f32⟩
  | .hbm, ⟨3, _⟩ => ⟨S4096x256, .f32⟩
  | .hbm, ⟨4, _⟩ => ⟨S256x2048, .f32⟩
  | .hbm, ⟨5, _⟩ => ⟨S4096x2048, .f32⟩
  | .hbm, ⟨6, _⟩ => ⟨S4096x256, .f32⟩
  | .hbm, ⟨7, _⟩ => ⟨S4096x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaKvbDw.lean ====
abbrev S4096x256 : Shape := ⟨2, ![4096, 256]⟩
abbrev S4096x2048 : Shape := ⟨2, ![4096, 2048]⟩
abbrev S4x256x512 : Shape := ⟨3, ![4, 256, 512]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .f32⟩
  | .hbm, ⟨2, _⟩ => ⟨S4x256x512, .f32⟩
  | .local _ .vmem, ⟨0, _⟩ => ⟨S1024x256, .bf16⟩
  | .local _ .vmem, ⟨1, _⟩ => ⟨S1024x256, .bf16⟩
  | .local _ .vmem, ⟨2, _⟩ => ⟨S1024x512, .f32⟩
  | .local _ .vmem, ⟨3, _⟩ => ⟨S1024x512, .f32⟩
  | .local _ .vmem, ⟨4, _⟩ => ⟨S1x256x512, .f32⟩
  | .local _ .vmem, ⟨5, _⟩ => ⟨S1x256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvbDwIdeal.lean ====
abbrev S4096x256 : Shape := ⟨2, ![4096, 256]⟩
abbrev S4096x2048 : Shape := ⟨2, ![4096, 2048]⟩
abbrev S4x256x512 : Shape := ⟨3, ![4, 256, 512]⟩
abbrev S1024x256 : Shape := ⟨2, ![1024, 256]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .f32⟩
  | .hbm, ⟨2, _⟩ => ⟨S4x256x512, .f32⟩
  | .local _ .vmem, ⟨0, _⟩ => ⟨S1024x256, .bf16⟩
  | .local _ .vmem, ⟨1, _⟩ => ⟨S1024x256, .bf16⟩
  | .local _ .vmem, ⟨2, _⟩ => ⟨S1024x512, .f32⟩
  | .local _ .vmem, ⟨3, _⟩ => ⟨S1024x512, .f32⟩
  | .local _ .vmem, ⟨4, _⟩ => ⟨S1x256x512, .f32⟩
  | .local _ .vmem, ⟨5, _⟩ => ⟨S1x256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvbDwRefIdeal.lean ====
abbrev S4096x256 : Shape := ⟨2, ![4096, 256]⟩
abbrev S4096x2048 : Shape := ⟨2, ![4096, 2048]⟩
abbrev S_ : Shape := ⟨0, ![]⟩
abbrev S4x256x512 : Shape := ⟨3, ![4, 256, 512]⟩
abbrev S256x4x512 : Shape := ⟨3, ![256, 4, 512]⟩
abbrev S256x2048 : Shape := ⟨2, ![256, 2048]⟩
abbrev S2048x256 : Shape := ⟨2, ![2048, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .f32⟩
  | .hbm, ⟨2, _⟩ => ⟨S_, .f32⟩
  | .hbm, ⟨3, _⟩ => ⟨S4x256x512, .f32⟩
  | .hbm, ⟨4, _⟩ => ⟨S4096x256, .f32⟩
  | .hbm, ⟨5, _⟩ => ⟨S256x4x512, .f32⟩
  | .hbm, ⟨6, _⟩ => ⟨S256x2048, .f32⟩
  | .hbm, ⟨7, _⟩ => ⟨S4096x2048, .f32⟩
  | .hbm, ⟨8, _⟩ => ⟨S2048x256, .f32⟩
  | .hbm, ⟨9, _⟩ => ⟨S256x2048, .f32⟩
  | .hbm, ⟨10, _⟩ => ⟨S256x4x512, .f32⟩
  | .hbm, ⟨11, _⟩ => ⟨S4x256x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlaKvbFwd.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvbFwdIdeal.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaKvbFwdRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaODx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaODxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaODw.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaODwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlaOFwd.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlaOFwdRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ConvBwd.lean ====
abbrev S4096x3072 : Shape := ⟨2, ![4096, 3072]⟩
abbrev S4x3072 : Shape := ⟨2, ![4, 3072]⟩
abbrev S1x3072 : Shape := ⟨2, ![1, 3072]⟩
abbrev S512x1024 : Shape := ⟨2, ![512, 1024]⟩
abbrev S8x1024 : Shape := ⟨2, ![8, 1024]⟩
abbrev S4x1024 : Shape := ⟨2, ![4, 1024]⟩
abbrev S1x1024 : Shape := ⟨2, ![1, 1024]⟩
abbrev S528x1024 : Shape := ⟨2, ![528, 1024]⟩
abbrev S520x1024 : Shape := ⟨2, ![520, 1024]⟩
abbrev S1024 : Shape := ⟨1, ![1024]⟩

abbrev nBuf : Space → Nat
  | .hbm => 7
  | .vmem => 20
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S4096x3072, .f32⟩
  | .hbm, ⟨5, _⟩ => ⟨S4x3072, .f32⟩
  | .hbm, ⟨6, _⟩ => ⟨S1x3072, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S4x1024, .f32⟩
  | .local _ .vmem, ⟨11, _⟩ => ⟨S4x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S4x1024, .f32⟩
  | .local _ .vmem, ⟨17, _⟩ => ⟨S4x1024, .f32⟩
  | .local _ .vmem, ⟨18, _⟩ => ⟨S1x1024, .f32⟩
  | .local _ .vmem, ⟨19, _⟩ => ⟨S1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg1 : BitVec 32 := BitVec.ofNat 32 (i 1).val
  let c0_i32_29 : BitVec 32 := 0#32
  let v96 : BitVec 1 := Scalar.cmpi .eq arg1 c0_i32_29
  let v97 : BitVec 32 := Scalar.extui v96
  let c0_i32_30 : BitVec 32 := 0#32
  let v98 : BitVec 1 := Scalar.cmpi .ne v97 c0_i32_30
  v98

def k0_cond2 (i : grid0.Coords) : BitVec 1 :=
  let arg1 : BitVec 32 := BitVec.ofNat 32 (i 1).val
  let c0_i32_31 : BitVec 32 := 0#32
  let v99 : BitVec 1 := Scalar.cmpi .sgt arg1 c0_i32_31
  let v100 : BitVec 32 := Scalar.extui v99
  let c0_i32_32 : BitVec 32 := 0#32
  let v101 : BitVec 1 := Scalar.cmpi .ne v100 c0_i32_32
  v101

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvBwdRefIdeal.lean ====
abbrev S4096x3072 : Shape := ⟨2, ![4096, 3072]⟩
abbrev S4x3072 : Shape := ⟨2, ![4, 3072]⟩
abbrev S1x3072 : Shape := ⟨2, ![1, 3072]⟩
abbrev S_ : Shape := ⟨0, ![]⟩
abbrev S3x3072 : Shape := ⟨2, ![3, 3072]⟩
abbrev S4099x3072 : Shape := ⟨2, ![4099, 3072]⟩
abbrev S3072 : Shape := ⟨1, ![3072]⟩

abbrev nBuf : Space → Nat
  | .hbm => 101
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S1x3072, .f32⟩
  | .hbm, ⟨3, _⟩ => ⟨S4096x3072, .f32⟩
  | .hbm, ⟨4, _⟩ => ⟨S_, .f32⟩
  | .hbm, ⟨5, _⟩ => ⟨S3x3072, .f32⟩
  | .hbm, ⟨6, _⟩ => ⟨S4099x3072, .f32⟩
  | .hbm, ⟨7, _⟩ => ⟨S_, .f32⟩
  | .hbm, ⟨8, _⟩ => ⟨S3x3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S_, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S1x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S1x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S_, .f32⟩
  | .hbm, ⟨51, _⟩ => ⟨S3072, .f32⟩
  | .hbm, ⟨52, _⟩ => ⟨S1x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S_, .f32⟩
  | .hbm, ⟨60, _⟩ => ⟨S4099x3072, .f32⟩
  | .hbm, ⟨61, _⟩ => ⟨S_, .f32⟩
  | .hbm, ⟨62, _⟩ => ⟨S4x3072, .f32⟩
  | .hbm, ⟨63, _⟩ => ⟨S4096x3072, .f32⟩
  | .hbm, ⟨64, _⟩ => ⟨S4096x3072, .f32⟩
  | .hbm, ⟨65, _⟩ => ⟨S4096x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S_, .f32⟩
  | .hbm, ⟨70, _⟩ => ⟨S4099x3072, .f32⟩
  | .hbm, ⟨71, _⟩ => ⟨S4099x3072, .f32⟩
  | .hbm, ⟨72, _⟩ => ⟨S_, .f32⟩
  | .hbm, ⟨73, _⟩ => ⟨S4x3072, .f32⟩
  | .hbm, ⟨74, _⟩ => ⟨S4x3072, .f32⟩
  | .hbm, ⟨75, _⟩ => ⟨S4096x3072, .f32⟩
  | .hbm, ⟨76, _⟩ => ⟨S4096x3072, .f32⟩
  | .hbm, ⟨77, _⟩ => ⟨S4096x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S4099x3072, .f32⟩
  | .hbm, ⟨83, _⟩ => ⟨S4099x3072, .f32⟩
  | .hbm, ⟨84, _⟩ => ⟨S_, .f32⟩
  | .hbm, ⟨85, _⟩ => ⟨S4x3072, .f32⟩
  | .hbm, ⟨86, _⟩ => ⟨S4x3072, .f32⟩
  | .hbm, ⟨87, _⟩ => ⟨S4096x3072, .f32⟩
  | .hbm, ⟨88, _⟩ => ⟨S4096x3072, .f32⟩
  | .hbm, ⟨89, _⟩ => ⟨S4096x3072, .f32⟩
  | .hbm, ⟨90, _⟩ => ⟨S_, .f32⟩
  | .hbm, ⟨91, _⟩ => ⟨S3072, .f32⟩
  | .hbm, ⟨92, _⟩ => ⟨S1x3072, .f32⟩
  | .hbm, ⟨93, _⟩ => ⟨S_, .f32⟩
  | .hbm, ⟨94, _⟩ => ⟨S4099x3072, .f32⟩
  | .hbm, ⟨95, _⟩ => ⟨S4099x3072, .f32⟩
  | .hbm, ⟨96, _⟩ => ⟨S_, .f32⟩
  | .hbm, ⟨97, _⟩ => ⟨S4x3072, .f32⟩
  | .hbm, ⟨98, _⟩ => ⟨S4x3072, .f32⟩
  | .hbm, ⟨99, _⟩ => ⟨S3x3072, .f32⟩
  | .hbm, ⟨100, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]
-- ==== ConvFwd.lean ====
abbrev S4096x3072 : Shape := ⟨2, ![4096, 3072]⟩
abbrev S4x3072 : Shape := ⟨2, ![4, 3072]⟩
abbrev S1x3072 : Shape := ⟨2, ![1, 3072]⟩
abbrev S512x1024 : Shape := ⟨2, ![512, 1024]⟩
abbrev S8x1024 : Shape := ⟨2, ![8, 1024]⟩
abbrev S4x1024 : Shape := ⟨2, ![4, 1024]⟩
abbrev S1x1024 : Shape := ⟨2, ![1, 1024]⟩
abbrev S520x1024 : Shape := ⟨2, ![520, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S1x3072, .f32⟩
  | .hbm, ⟨3, _⟩ => ⟨S4096x3072, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFwdRefIdeal.lean ====
abbrev S4096x3072 : Shape := ⟨2, ![4096, 3072]⟩
abbrev S4x3072 : Shape := ⟨2, ![4, 3072]⟩
abbrev S1x3072 : Shape := ⟨2, ![1, 3072]⟩
abbrev S_ : Shape := ⟨0, ![]⟩
abbrev S3x3072 : Shape := ⟨2, ![3, 3072]⟩
abbrev S4099x3072 : Shape := ⟨2, ![4099, 3072]⟩

abbrev nBuf : Space → Nat
  | .hbm => 39
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S1x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S1x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S1x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== SwigluBwd.lean ====
abbrev S4096x5632 : Shape := ⟨2, ![4096, 5632]⟩
abbrev S4096x2816 : Shape := ⟨2, ![4096, 2816]⟩
abbrev S128x5632 : Shape := ⟨2, ![128, 5632]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S128x5632, .bf16⟩
  | .local _ .vmem, ⟨1, _⟩ => ⟨S128x5632, .bf16⟩
  | .local _ .vmem, ⟨2, _⟩ => ⟨S128x2816, .bf16⟩
  | .local _ .vmem, ⟨3, _⟩ => ⟨S128x2816, .bf16⟩
  | .local _ .vmem, ⟨4, _⟩ => ⟨S128x5632, .bf16⟩
  | .local _ .vmem, ⟨5, _⟩ => ⟨S128x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluBwdRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩

abbrev nD : Nat := 1
abbrev τ : Topo := Topo.v7x

variable {F : FTy → Type} [FloatOps F]
-- ==== SwigluFwd.lean ====
abbrev S4096x5632 : Shape := ⟨2, ![4096, 5632]⟩
abbrev S4096x2816 : Shape := ⟨2, ![4096, 2816]⟩
abbrev S128x5632 : Shape := ⟨2, ![128, 5632]⟩
abbrev S128x2816 : Shape := ⟨2, ![128, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S128x5632, .bf16⟩
  | .local _ .vmem, ⟨1, _⟩ => ⟨S128x5632, .bf16⟩
  | .local _ .vmem, ⟨2, _⟩ => ⟨S128x2816, .bf16⟩
  | .local _ .vmem, ⟨3, _⟩ => ⟨S128x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluFwdRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== AdaDw.lean ====
abbrev S8x1024 : Shape := ⟨2, ![8, 1024]⟩
abbrev S8x2304 : Shape := ⟨2, ![8, 2304]⟩
abbrev S1024x2304 : Shape := ⟨2, ![1024, 2304]⟩
abbrev S8x1152 : Shape := ⟨2, ![8, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .local _ .vmem, ⟨0, _⟩ => ⟨S8x1024, .f32⟩
  | .local _ .vmem, ⟨1, _⟩ => ⟨S8x1152, .f32⟩
  | .local _ .vmem, ⟨2, _⟩ => ⟨S8x1152, .f32⟩
  | .local _ .vmem, ⟨3, _⟩ => ⟨S1024x1152, .f32⟩
  | .local _ .vmem, ⟨4, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S8x1024 : Shape := ⟨2, ![8, 1024]⟩
abbrev S8x2304 : Shape := ⟨2, ![8, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S_, .f32⟩
  | .hbm, ⟨3, _⟩ => ⟨S1024x2304, .f32⟩
  | .hbm, ⟨4, _⟩ => ⟨S8x2304, .f32⟩
  | .hbm, ⟨5, _⟩ => ⟨S2304x1024, .f32⟩
  | .hbm, ⟨6, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdaFwd.lean ====
abbrev S8x1024 : Shape := ⟨2, ![8, 1024]⟩
abbrev S1024x2304 : Shape := ⟨2, ![1024, 2304]⟩
abbrev S8x2304 : Shape := ⟨2, ![8, 2304]⟩
abbrev S1024x1152 : Shape := ⟨2, ![1024, 1152]⟩
abbrev S8x1152 : Shape := ⟨2, ![8, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S8x2304, .f32⟩
  | .local _ .vmem, ⟨0, _⟩ => ⟨S8x1024, .f32⟩
  | .local _ .vmem, ⟨1, _⟩ => ⟨S1024x1152, .f32⟩
  | .local _ .vmem, ⟨2, _⟩ => ⟨S1024x1152, .f32⟩
  | .local _ .vmem, ⟨3, _⟩ => ⟨S8x1152, .f32⟩
  | .local _ .vmem, ⟨4, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaFwdRefIdeal.lean ====
abbrev S8x1024 : Shape := ⟨2, ![8, 1024]⟩
abbrev S1024x2304 : Shape := ⟨2, ![1024, 2304]⟩
abbrev S8x2304 : Shape := ⟨2, ![8, 2304]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ResidBwd.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_11 : BitVec 32 := 0#32
  let v17 : BitVec 1 := Scalar.cmpi .ne v16 c0_i32_11
  v17

def k0_cond2 (i : grid0.Coords) : BitVec 1 :=
  let arg0 : BitVec 32 := BitVec.ofNat 32 (i 0).val
  let c0_i32_12 : BitVec 32 := 0#32
  let v18 : BitVec 1 := Scalar.cmpi .sgt arg0 c0_i32_12
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ResidBwdRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== ResidFwd.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidFwdRefIdeal.lean ====
abbrev S4096x1024 : Shape := ⟨2, ![4096, 1024]⟩
abbrev S1x1024 : Shape := ⟨2, ![1, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== AdamGu.lean ====
abbrev S8192x1408 : Shape := ⟨2, ![8192, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGuRefIdeal.lean ====
abbrev S8192x1408 : Shape := ⟨2, ![8192, 1408]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S8192x1408, .f32⟩
  | .hbm, ⟨3, _⟩ => ⟨S8192x1408, .f32⟩
  | .hbm, ⟨4, _⟩ => ⟨S_, .f32⟩
  | .hbm, ⟨5, _⟩ => ⟨S8192x1408, .f32⟩
  | .hbm, ⟨6, _⟩ => ⟨S8192x1408, .f32⟩
  | .hbm, ⟨7, _⟩ => ⟨S_, .f32⟩
  | .hbm, ⟨8, _⟩ => ⟨S8192x1408, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.GuDx.lean ====
/-
  The gradient of the feed-forward's gate and up product by its left operand: the kernel's array, summed over four column blocks, is the reference's product.
-/
module

public import proofs.«01_k».proof.Proof.Gen.GuDxIdeal.Frame
public import proofs.«01_k».proof.Proof.Gen.GuDxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuDxIdeal.Product

open Cert.GuDxIdeal Cert.GuDxIdeal.Gen

variable (m : (ℓ : Loc nD τ sig) → Buf (Elt Ideal) ℓ)

/-- The reference's term over its two arguments. -/
abbrev product (X : FVec Ideal S4096x5632 .bf16) (W : FVec Ideal S4x8192x1408 .bf16) : FVec Ideal S4096x1024 .bf16 :=
  truncf .bf16 (Host.dotGeneral Cert.GuDxRefIdeal.dot_S4096x5632_S1024x5632_S4096x1024_1_1_0_0_n_n none (extf .f32 X Cert.GuDxRefIdeal.Gen.bitsLt_bf16_f32) (extf .f32 (shapeCast _ (transpose Cert.GuDxRefIdeal.S1024x4x1408 [1, 0, 2] (extractStridedSlice Cert.GuDxRefIdeal.S4x1024x1408 ![0, 1024, 0] W Cert.GuDxRefIdeal.Gen.slices_S4x8192x1408_S4x1024x1408_0_1024_0) Cert.GuDxRefIdeal.Gen.transposes_S4x1024x1408_S1024x4x1408_1_0_2) Cert.GuDxRefIdeal.Gen.shapeCasts_S1024x4x1408_S1024x5632) Cert.GuDxRefIdeal.Gen.bitsLt_bf16_f32)) Cert.GuDxRefIdeal.Gen.bitsLt_bf16_f32

/-- Where the blocks of the two operands and of the result lie at point `t`. -/
theorem place : ∀ t : Fin cfg0.N, win0_0.index t = ![t.val / 4, t.val % 4] ∧ win0_1.index t = ![t.val % 4, 1, 0] ∧ win0_2.index t = ![t.val / 4, 0] :=
  (by decide +kernel : ∀ t : Fin grid0.N, _)

/-- The weight's row in its slot that a column of the result names. -/
theorem row_lt (j : S4096x1024.Idx) : 1024 + (j 1).val < 8192 := by
  have h1 : (j 1).val < 1024 := (j 1).isLt
  omega

/-- The first point of a run leaves its addend in the accumulator, -/
theorem addend_at (x0 : FVec Ideal S2048x1408 .bf16) (x1 : FVec Ideal S1x1024x1408 .bf16) (j) :
    k0_pay2 (F := Ideal) x0 x1 j = ∑ k : Fin 1408, x0 (ix2 (j 0) k) * x1 (ix3 0 (j 1) k) := by
  pointwise [k0_pay1, k0_pay2]

/-- a later one adds its own, -/
theorem step_at (x0 : FVec Ideal S2048x1408 .bf16) (x1 : FVec Ideal S1x1024x1408 .bf16) (acc : FVec Ideal S2048x1024 .f32) (j) :
    k0_pay3 (F := Ideal) x0 x1 acc j = acc j + ∑ k : Fin 1408, x0 (ix2 (j 0) k) * x1 (ix3 0 (j 1) k) := by
  pointwise [k0_pay1, k0_pay3]

/-- and the last one copies the accumulator to the result's block. -/
theorem copied (acc : FVec Ideal S2048x1024 .f32) (j) : k0_pay4 (F := Ideal) acc j = acc j := by
  pointwise [k0_pay4]

/-- The block after the run's last point is the accumulator. -/
theorem last_point (c : Dev nD) (t : Fin cfg0.N) (h : t.val % 4 = 3) (j) :
    (outsAt0 m c t.val t.isLt).1 j = (outsAt0 m c t.val t.isLt).2 j := by
  rw [outsAt0_C m c t (by omega) (by omega) h]; frame_out; rw [copied]

/-- The product at an index. -/
theorem product_at (X : FVec Ideal S4096x5632 .bf16) (W : FVec Ideal S4x8192x1408 .bf16) (j) : product X W j
    = ∑ k : Fin 5632, X (ix2 (j 0) k) * W (ix3 ⟨k.val / 1408, by omega⟩ ⟨1024 + (j 1).val, row_lt j⟩ ⟨k.val % 1408, by omega⟩) := by
  pointwise [product]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, last_point m c t ((flush0_2 t).mp hf),
    Pipeline.eq_sum_fin_of_reset_step_apply_of_flush (fun n h => (outsAt0 m c n h).2) 4 (fun _ => 0) _
    (fun t h j => by rw [outsAt0_A m c t h (by omega) (by omega)]; frame_out; rw [addend_at]; exact (zero_add _).symm)
    (fun t h j => by
      by_cases h3 : t.val % 4 = 3
      · rw [outsAt0_C m c t h (by omega) h3]; frame_out; simp only [read_unread_whole]; rw [step_at]
      · rw [outsAt0_B m c t h (by omega) h3]; frame_out; simp only [read_unread_whole]; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

end Cert.GuDxIdeal.Product

end
-- ==== Proof.GuDw.lean ====
/-
  The gradient of the feed-forward's gate and up product by its weight: the kernel's array, summed over four row blocks, is the reference's product.
-/
module

public import proofs.«01_k».proof.Proof.Gen.GuDwIdeal.Frame
public import proofs.«01_k».proof.Proof.Gen.GuDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuDwIdeal.Product

open Cert.GuDwIdeal Cert.GuDwIdeal.Gen

variable (m : (ℓ : Loc nD τ sig) → Buf (Elt Ideal) ℓ)

/-- The reference's term over its two arguments. -/
abbrev product (X : FVec Ideal S4096x1024 .bf16) (G : FVec Ideal S4096x5632 .bf16) : FVec Ideal S4x1024x1408 .f32 :=
  transpose Cert.GuDwRefIdeal.S4x1024x1408 [1, 0, 2] (shapeCast _ (transpose Cert.GuDwRefIdeal.S1024x5632 [1, 0] (Host.dotGeneral Cert.GuDwRefIdeal.dot_S4096x5632_S4096x1024_S5632x1024_0_0_1_1_n_n none (extf .f32 G Cert.GuDwRefIdeal.Gen.bitsLt_bf16_f32) (extf .f32 X Cert.GuDwRefIdeal.Gen.bitsLt_bf16_f32)) Cert.GuDwRefIdeal.Gen.transposes_S5632x1024_S1024x5632_1_0) Cert.GuDwRefIdeal.Gen.shapeCasts_S1024x5632_S1024x4x1408) Cert.GuDwRefIdeal.Gen.transposes_S1024x4x1408_S4x1024x1408_1_0_2

/-- Where the blocks of the two operands and of the result lie at point `t`. -/
theorem place : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The column of the wide product that slot and lane name. -/
theorem lane_lt (j : S4x1024x1408.Idx) : (j 0).val * 1408 + (j 2).val < 5632 := by
  have h0 : (j 0).val < 4 := (j 0).isLt
  have h2 : (j 2).val < 1408 := (j 2).isLt
  omega

/-- The addend of one point, at an index. -/
theorem addend_at (x0 : FVec Ideal S1024x1024 .bf16) (x1 : FVec Ideal S1024x1408 .bf16) (j) :
    k0_pay2 (F := Ideal) x0 x1 j = ∑ k : Fin 1024, x0 (ix2 k (j 1)) * x1 (ix2 k (j 2)) := by
  pointwise [k0_pay1, k0_pay2]

/-- A later point adds its addend to what the block holds. -/
theorem step_at (x0 : FVec Ideal S1024x1024 .bf16) (x1 : FVec Ideal S1024x1408 .bf16) (acc : FVec Ideal S1x1024x1408 .f32) (j) :
    k0_pay3 (F := Ideal) x0 x1 acc j = acc j + ∑ k : Fin 1024, x0 (ix2 k (j 1)) * x1 (ix2 k (j 2)) := by
  pointwise [k0_pay1, k0_pay3]

/-- The product at an index. -/
theorem product_at (X0 X1) (j) : product X0 X1 j = ∑ k : Fin 4096, X0 (ix2 k (j 1)) * X1 (ix2 k ⟨(j 0).val * 1408 + (j 2).val, lane_lt j⟩) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

end Cert.GuDwIdeal.Product

end
-- ==== Proof.DownDx.lean ====
/-
  The gradient of the feed-forward's down product by its left operand: the kernel's array is the reference's product.
-/
module

public import proofs.«01_k».proof.Proof.Gen.DownDxIdeal.Frame
public import proofs.«01_k».proof.Proof.Gen.DownDxRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownDxIdeal.Product

open Cert.DownDxIdeal Cert.DownDxIdeal.Gen

variable (m : (ℓ : Loc nD τ sig) → Buf (Elt Ideal) ℓ)

/-- The reference's term over its two arguments. -/
abbrev product (X : FVec Ideal S4096x1024 .f32) (W : FVec Ideal S2816x1024 .bf16) : FVec Ideal S4096x2816 .bf16 :=
  truncf .bf16 (Host.dotGeneral Cert.DownDxRefIdeal.dot_S4096x1024_S2816x1024_S4096x2816_1_1_0_0_n_n none X (extf .f32 W Cert.DownDxRefIdeal.Gen.bitsLt_bf16_f32)) Cert.DownDxRefIdeal.Gen.bitsLt_bf16_f32

/-- Where the blocks of the two operands and of the result lie at point `t`. -/
theorem place : ∀ t : Fin cfg0.N, win0_0.index t = ![t.val / 2, 0] ∧ win0_1.index t = ![t.val % 2, 0] ∧ win0_2.index t = ![t.val / 2, t.val % 2] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

end Cert.DownDxIdeal.Product

end
-- ==== Proof.DownDw.lean ====
/-
  The gradient of the feed-forward's down product by its right operand: the kernel's array, summed over four row blocks, is the reference's product.
-/
module

public import proofs.«01_k».proof.Proof.Gen.DownDwIdeal.Frame
public import proofs.«01_k».proof.Proof.Gen.DownDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownDwIdeal.Product

open Cert.DownDwIdeal Cert.DownDwIdeal.Gen

variable (m : (ℓ : Loc nD τ sig) → Buf (Elt Ideal) ℓ)

/-- The reference's term over its two arguments. -/
abbrev product (X : FVec Ideal S4096x2816 .bf16) (G : FVec Ideal S4096x1024 .f32) : FVec Ideal S2816x1024 .f32 :=
  transpose Cert.DownDwRefIdeal.S2816x1024 [1, 0] (Host.dotGeneral Cert.DownDwRefIdeal.dot_S4096x1024_S4096x2816_S1024x2816_0_0_1_1_n_n none G (extf .f32 X Cert.DownDwRefIdeal.Gen.bitsLt_bf16_f32)) Cert.DownDwRefIdeal.Gen.transposes_S1024x2816_S2816x1024_1_0

/-- Where the blocks of the two operands and of the result lie at point `t`. -/
theorem place : ∀ t : Fin cfg0.N, win0_0.index t = ![t.val % 4, t.val / 4] ∧ win0_1.index t = ![t.val % 4, 0] ∧ win0_2.index t = ![t.val / 4, 0] :=
  (by decide +kernel : ∀ t : Fin grid0.N, _)

/-- The addend of one point, at an index. -/
theorem addend_at (x0 : FVec Ideal S1024x1408 .bf16) (x1 : FVec Ideal S1024x1024 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1408 .bf16) (x1 : FVec Ideal S1024x1024 .f32) (acc : FVec Ideal S1408x1024 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X0 X1) (j) : product X0 X1 j = ∑ k : Fin 4096, X0 (ix2 k (j 0)) * X1 (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

end Cert.DownDwIdeal.Product

end
-- ==== Proof.GuFwd.lean ====
/-
  The feed-forward's gate and up product: the kernel's array is the reference's product.
-/
module

public import proofs.«01_k».proof.Proof.Gen.GuFwdIdeal.Frame
public import proofs.«01_k».proof.Proof.Gen.GuFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GuFwdIdeal.Product

open Cert.GuFwdIdeal Cert.GuFwdIdeal.Gen

variable (m : (ℓ : Loc nD τ sig) → Buf (Elt Ideal) ℓ)

/-- The reference's term over its two arguments. -/
abbrev product (X : FVec Ideal S4096x1024 .bf16) (W : FVec Ideal S4x8192x1408 .bf16) : FVec Ideal S4096x5632 .bf16 :=
  truncf .bf16 (Host.dotGeneral Cert.GuFwdRefIdeal.dot_S4096x1024_S1024x5632_S4096x5632_1_0_0_1_n_n none (extf .f32 X Cert.GuFwdRefIdeal.Gen.bitsLt_bf16_f32) (extf .f32 (shapeCast _ (transpose Cert.GuFwdRefIdeal.S1024x4x1408 [1, 0, 2] (extractStridedSlice Cert.GuFwdRefIdeal.S4x1024x1408 ![0, 1024, 0] W Cert.GuFwdRefIdeal.Gen.slices_S4x8192x1408_S4x1024x1408_0_1024_0) Cert.GuFwdRefIdeal.Gen.transposes_S4x1024x1408_S1024x4x1408_1_0_2) Cert.GuFwdRefIdeal.Gen.shapeCasts_S1024x4x1408_S1024x5632) Cert.GuFwdRefIdeal.Gen.bitsLt_bf16_f32)) Cert.GuFwdRefIdeal.Gen.bitsLt_bf16_f32

/-- Where the blocks of the two operands and of the result lie at point `t`. -/
theorem place : ∀ t : Fin cfg0.N, win0_0.index t = ![t.val / 4, 0] ∧ win0_1.index t = ![t.val % 4, 1, 0] ∧ win0_2.index t = ![t.val / 4, t.val % 4] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

end Cert.GuFwdIdeal.Product

end
-- ==== Proof.DownFwd.lean ====
/-
  The feed-forward's down product: the kernel's array is the reference's product.
-/
module

public import proofs.«01_k».proof.Proof.Gen.DownFwdIdeal.Frame
public import proofs.«01_k».proof.Proof.Gen.DownFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownFwdIdeal.Product

open Cert.DownFwdIdeal Cert.DownFwdIdeal.Gen

variable (m : (ℓ : Loc nD τ sig) → Buf (Elt Ideal) ℓ)

/-- The reference's term over its two arguments. -/
abbrev product (X : FVec Ideal S4096x2816 .bf16) (W : FVec Ideal S2816x1024 .bf16) : FVec Ideal S4096x1024 .f32 :=
  Host.dotGeneral Cert.DownFwdRefIdeal.dot_S4096x2816_S2816x1024_S4096x1024_1_0_0_1_n_n none (extf .f32 X Cert.DownFwdRefIdeal.Gen.bitsLt_bf16_f32) (extf .f32 W Cert.DownFwdRefIdeal.Gen.bitsLt_bf16_f32)

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

end Cert.DownFwdIdeal.Product

end
-- ==== Proof.Products.lean ====
/-
  The six feed-forward products: kernel and reference end with the same array.
-/
module

public import proofs.«01_k».proof.Defs
public import proofs.«01_k».proof.Proof.GuDx
public import proofs.«01_k».proof.Proof.Gen.GuDxIdeal.Value
public import proofs.«01_k».proof.Proof.GuDw
public import proofs.«01_k».proof.Proof.Gen.GuDwIdeal.Value
public import proofs.«01_k».proof.Proof.DownDx
public import proofs.«01_k».proof.Proof.Gen.DownDxIdeal.Value
public import proofs.«01_k».proof.Proof.DownDw
public import proofs.«01_k».proof.Proof.Gen.DownDwIdeal.Value
public import proofs.«01_k».proof.Proof.GuFwd
public import proofs.«01_k».proof.Proof.Gen.GuFwdIdeal.Value
public import proofs.«01_k».proof.Proof.DownFwd
public import proofs.«01_k».proof.Proof.Gen.DownFwdIdeal.Value

@[expose] public section

noncomputable section

open Idealize.ShloMosaic Idealize.ShloMosaic.TcCoe Idealize.SL.Sem

namespace Cert.Products

theorem guDx : Cert.algebraic_GuDxIdeal_GuDxRefIdeal := fun m g m' g' _ same =>
  ⟨fun c => Cert.GuDxIdeal.Product.product (m ((c.tc : Thread Cert.GuDxIdeal.nD Cert.GuDxIdeal.τ).loc Cert.GuDxIdeal.main_arg0)) (m ((c.tc : Thread Cert.GuDxIdeal.nD Cert.GuDxIdeal.τ).loc Cert.GuDxIdeal.main_arg1)),
    (θ_run _ _ _).mono (fun _ h c => ⟨(h c).1.trans (Cert.GuDxIdeal.Product.final m c), (h c).2.1, (h c).2.2⟩) (Cert.GuDxIdeal.Value.run_blocks m g),
    (θ_run _ _ _).mono (fun _ h c => ⟨(h c).1.trans (by rw [(same c).1, (same c).2]), (h c).2.1, (h c).2.2⟩) (Cert.GuDxRefIdeal.Value.run m' g')⟩

theorem guDw : Cert.algebraic_GuDwIdeal_GuDwRefIdeal := fun m g m' g' _ same =>
  ⟨fun c => Cert.GuDwIdeal.Product.product (m ((c.tc : Thread Cert.GuDwIdeal.nD Cert.GuDwIdeal.τ).loc Cert.GuDwIdeal.main_arg0)) (m ((c.tc : Thread Cert.GuDwIdeal.nD Cert.GuDwIdeal.τ).loc Cert.GuDwIdeal.main_arg1)),
    (θ_run _ _ _).mono (fun _ h c => ⟨(h c).1.trans (Cert.GuDwIdeal.Product.final m c), (h c).2.1, (h c).2.2⟩) (Cert.GuDwIdeal.Value.run_blocks m g),
    (θ_run _ _ _).mono (fun _ h c => ⟨(h c).1.trans (by rw [(same c).1, (same c).2]), (h c).2.1, (h c).2.2⟩) (Cert.GuDwRefIdeal.Value.run m' g')⟩

theorem downDx : Cert.algebraic_DownDxIdeal_DownDxRefIdeal := fun m g m' g' _ same =>
  ⟨fun c => Cert.DownDxIdeal.Product.product (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)),
    (θ_run _ _ _).mono (fun _ h c => ⟨(h c).1.trans (Cert.DownDxIdeal.Product.final m c), (h c).2.1, (h c).2.2⟩) (Cert.DownDxIdeal.Value.run_blocks m g),
    (θ_run _ _ _).mono (fun _ h c => ⟨(h c).1.trans (by rw [(same c).1, (same c).2]), (h c).2.1, (h c).2.2⟩) (Cert.DownDxRefIdeal.Value.run m' g')⟩

theorem downDw : Cert.algebraic_DownDwIdeal_DownDwRefIdeal := fun m g m' g' _ same =>
  ⟨fun c => Cert.DownDwIdeal.Product.product (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)),
    (θ_run _ _ _).mono (fun _ h c => ⟨(h c).1.trans (Cert.DownDwIdeal.Product.final m c), (h c).2.1, (h c).2.2⟩) (Cert.DownDwIdeal.Value.run_blocks m g),
    (θ_run _ _ _).mono (fun _ h c => ⟨(h c).1.trans (by rw [(same c).1, (same c).2]), (h c).2.1, (h c).2.2⟩) (Cert.DownDwRefIdeal.Value.run m' g')⟩

theorem guFwd : Cert.algebraic_GuFwdIdeal_GuFwdRefIdeal := fun m g m' g' _ same =>
  ⟨fun c => Cert.GuFwdIdeal.Product.product (m ((c.tc : Thread Cert.GuFwdIdeal.nD Cert.GuFwdIdeal.τ).loc Cert.GuFwdIdeal.main_arg0)) (m ((c.tc : Thread Cert.GuFwdIdeal.nD Cert.GuFwdIdeal.τ).loc Cert.GuFwdIdeal.main_arg1)),
    (θ_run _ _ _).mono (fun _ h c => ⟨(h c).1.trans (Cert.GuFwdIdeal.Product.final m c), (h c).2.1, (h c).2.2⟩) (Cert.GuFwdIdeal.Value.run_blocks m g),
    (θ_run _ _ _).mono (fun _ h c => ⟨(h c).1.trans (by rw [(same c).1, (same c).2]), (h c).2.1, (h c).2.2⟩) (Cert.GuFwdRefIdeal.Value.run m' g')⟩

theorem downFwd : Cert.algebraic_DownFwdIdeal_DownFwdRefIdeal := fun m g m' g' _ same =>
  ⟨fun c => Cert.DownFwdIdeal.Product.product (m ((c.tc : Thread Cert.DownFwdIdeal.nD Cert.DownFwdIdeal.τ).loc Cert.DownFwdIdeal.main_arg0)) (m ((c.tc : Thread Cert.DownFwdIdeal.nD Cert.DownFwdIdeal.τ).loc Cert.DownFwdIdeal.main_arg1)),
    (θ_run _ _ _).mono (fun _ h c => ⟨(h c).1.trans (Cert.DownFwdIdeal.Product.final m c), (h c).2.1, (h c).2.2⟩) (Cert.DownFwdIdeal.Value.run_blocks m g),
    (θ_run _ _ _).mono (fun _ h c => ⟨(h c).1.trans (by rw [(same c).1, (same c).2]), (h c).2.1, (h c).2.2⟩) (Cert.DownFwdRefIdeal.Value.run m' g')⟩

end Cert.Products

end
-- ==== Proof.References.lean ====
/-
  The references' frames: each reference is straight-line host code, so its run, which says what every result holds,
  also leaves the arguments and, having no semaphores, every counter alone.
-/
module

public import proofs.«01_k».proof.Defs
public import proofs.«01_k».proof.Proof.Gen.SsdRefIdeal.Run
public import proofs.«01_k».proof.Proof.Gen.SsdFwdRefIdeal.Run
public import proofs.«01_k».proof.Proof.Gen.GuDxRefIdeal.Run
public import proofs.«01_k».proof.Proof.Gen.GuDwRefIdeal.Run
public import proofs.«01_k».proof.Proof.Gen.DownDxRefIdeal.Run
public import proofs.«01_k».proof.Proof.Gen.DownDwRefIdeal.Run
public import proofs.«01_k».proof.Proof.Gen.GuFwdRefIdeal.Run
public import proofs.«01_k».proof.Proof.Gen.DownFwdRefIdeal.Run
public import proofs.«01_k».proof.Proof.Gen.SsdZDxRefIdeal.Run
public import proofs.«01_k».proof.Proof.Gen.SsdZDwRefIdeal.Run
public import proofs.«01_k».proof.Proof.Gen.SsdZFwdRefIdeal.Run
public import proofs.«01_k».proof.Proof.Gen.SsdXbcDxRefIdeal.Run
public import proofs.«01_k».proof.Proof.Gen.SsdXbcDwRefIdeal.Run
public import proofs.«01_k».proof.Proof.Gen.SsdXbcFwdRefIdeal.Run
public import proofs.«01_k».proof.Proof.Gen.SsdDtDxRefIdeal.Run
public import proofs.«01_k».proof.Proof.Gen.SsdDtDwRefIdeal.Run
public import proofs.«01_k».proof.Proof.Gen.SsdDtFwdRefIdeal.Run
public import proofs.«01_k».proof.Proof.Gen.SsdOutDxRefIdeal.Run
public import proofs.«01_k».proof.Proof.Gen.SsdOutDwRefIdeal.Run
public import proofs.«01_k».proof.Proof.Gen.SsdOutFwdRefIdeal.Run
public import proofs.«01_k».proof.Proof.Gen.MlaADxRefIdeal.Run
public import proofs.«01_k».proof.Proof.Gen.MlaADwRefIdeal.Run
public import proofs.«01_k».proof.Proof.Gen.MlaAFwdRefIdeal.Run
public import proofs.«01_k».proof.Proof.Gen.MlaQbDxRefIdeal.Run
public import proofs.«01_k».proof.Proof.Gen.MlaQbDwRefIdeal.Run
public import proofs.«01_k».proof.Proof.Gen.MlaQbFwdRefIdeal.Run
public import proofs.«01_k».proof.Proof.Gen.MlaKvbDxRefIdeal.Run
public import proofs.«01_k».proof.Proof.Gen.MlaKvbDwRefIdeal.Run
public import proofs.«01_k».proof.Proof.Gen.MlaKvbFwdRefIdeal.Run
public import proofs.«01_k».proof.Proof.Gen.MlaODxRefIdeal.Run
public import proofs.«01_k».proof.Proof.Gen.MlaODwRefIdeal.Run
public import proofs.«01_k».proof.Proof.Gen.MlaOFwdRefIdeal.Run
public import proofs.«01_k».proof.Proof.Gen.ConvBwdRefIdeal.Run
public import proofs.«01_k».proof.Proof.Gen.ConvFwdRefIdeal.Run
public import proofs.«01_k».proof.Proof.Gen.AdaDwRefIdeal.Run
public import proofs.«01_k».proof.Proof.Gen.AdaFwdRefIdeal.Run
public import proofs.«01_k».proof.Proof.Gen.SwigluBwdRefIdeal.Run
public import proofs.«01_k».proof.Proof.Gen.SwigluFwdRefIdeal.Run
public import proofs.«01_k».proof.Proof.Gen.ResidBwdRefIdeal.Run
public import proofs.«01_k».proof.Proof.Gen.ResidFwdRefIdeal.Run
public import proofs.«01_k».proof.Proof.Gen.LossHeadRefIdeal.Run
public import proofs.«01_k».proof.Proof.Gen.AdamGuRefIdeal.Run

@[expose] public section

noncomputable section

open Idealize.ShloMosaic Idealize.ShloMosaic.TcCoe Idealize.SL.Sem

namespace Cert.References

theorem ssd : Cert.quiescent_SsdRefIdeal := fun m g _ =>
  (θ_run _ _ _).mono (fun r h => ⟨fun c => (h c).2.2.2.2.2.2, sem_eq_zero_of_no_sems (by decide) r.2⟩) (Cert.SsdRefIdeal.Value.run m g)

theorem ssdFwd : Cert.quiescent_SsdFwdRefIdeal := fun m g _ =>
  (θ_run _ _ _).mono (fun r h => ⟨fun c => (h c).2.2, sem_eq_zero_of_no_sems (by decide) r.2⟩) (Cert.SsdFwdRefIdeal.Value.run m g)

theorem guDx : Cert.quiescent_GuDxRefIdeal := fun m g _ =>
  (θ_run _ _ _).mono (fun r h => ⟨fun c => (h c).2, sem_eq_zero_of_no_sems (by decide) r.2⟩) (Cert.GuDxRefIdeal.Value.run m g)

theorem guDw : Cert.quiescent_GuDwRefIdeal := fun m g _ =>
  (θ_run _ _ _).mono (fun r h => ⟨fun c => (h c).2, sem_eq_zero_of_no_sems (by decide) r.2⟩) (Cert.GuDwRefIdeal.Value.run m g)

theorem downDx : Cert.quiescent_DownDxRefIdeal := fun m g _ =>
  (θ_run _ _ _).mono (fun r h => ⟨fun c => (h c).2, sem_eq_zero_of_no_sems (by decide) r.2⟩) (Cert.DownDxRefIdeal.Value.run m g)

theorem downDw : Cert.quiescent_DownDwRefIdeal := fun m g _ =>
  (θ_run _ _ _).mono (fun r h => ⟨fun c => (h c).2, sem_eq_zero_of_no_sems (by decide) r.2⟩) (Cert.DownDwRefIdeal.Value.run m g)

theorem guFwd : Cert.quiescent_GuFwdRefIdeal := fun m g _ =>
  (θ_run _ _ _).mono (fun r h => ⟨fun c => (h c).2, sem_eq_zero_of_no_sems (by decide) r.2⟩) (Cert.GuFwdRefIdeal.Value.run m g)

theorem downFwd : Cert.quiescent_DownFwdRefIdeal := fun m g _ =>
  (θ_run _ _ _).mono (fun r h => ⟨fun c => (h c).2, sem_eq_zero_of_no_sems (by decide) r.2⟩) (Cert.DownFwdRefIdeal.Value.run m g)

theorem ssdZDx : Cert.quiescent_SsdZDxRefIdeal := fun m g _ =>
  (θ_run _ _ _).mono (fun r h => ⟨fun c => (h c).2, sem_eq_zero_of_no_sems (by decide) r.2⟩) (Cert.SsdZDxRefIdeal.Value.run m g)

theorem ssdZDw : Cert.quiescent_SsdZDwRefIdeal := fun m g _ =>
  (θ_run _ _ _).mono (fun r h => ⟨fun c => (h c).2, sem_eq_zero_of_no_sems (by decide) r.2⟩) (Cert.SsdZDwRefIdeal.Value.run m g)

theorem ssdZFwd : Cert.quiescent_SsdZFwdRefIdeal := fun m g _ =>
  (θ_run _ _ _).mono (fun r h => ⟨fun c => (h c).2, sem_eq_zero_of_no_sems (by decide) r.2⟩) (Cert.SsdZFwdRefIdeal.Value.run m g)

theorem ssdXbcDx : Cert.quiescent_SsdXbcDxRefIdeal := fun m g _ =>
  (θ_run _ _ _).mono (fun r h => ⟨fun c => (h c).2, sem_eq_zero_of_no_sems (by decide) r.2⟩) (Cert.SsdXbcDxRefIdeal.Value.run m g)

theorem ssdXbcDw : Cert.quiescent_SsdXbcDwRefIdeal := fun m g _ =>
  (θ_run _ _ _).mono (fun r h => ⟨fun c => (h c).2, sem_eq_zero_of_no_sems (by decide) r.2⟩) (Cert.SsdXbcDwRefIdeal.Value.run m g)

theorem ssdXbcFwd : Cert.quiescent_SsdXbcFwdRefIdeal := fun m g _ =>
  (θ_run _ _ _).mono (fun r h => ⟨fun c => (h c).2, sem_eq_zero_of_no_sems (by decide) r.2⟩) (Cert.SsdXbcFwdRefIdeal.Value.run m g)

theorem ssdDtDx : Cert.quiescent_SsdDtDxRefIdeal := fun m g _ =>
  (θ_run _ _ _).mono (fun r h => ⟨fun c => (h c).2, sem_eq_zero_of_no_sems (by decide) r.2⟩) (Cert.SsdDtDxRefIdeal.Value.run m g)

theorem ssdDtDw : Cert.quiescent_SsdDtDwRefIdeal := fun m g _ =>
  (θ_run _ _ _).mono (fun r h => ⟨fun c => (h c).2, sem_eq_zero_of_no_sems (by decide) r.2⟩) (Cert.SsdDtDwRefIdeal.Value.run m g)

theorem ssdDtFwd : Cert.quiescent_SsdDtFwdRefIdeal := fun m g _ =>
  (θ_run _ _ _).mono (fun r h => ⟨fun c => (h c).2, sem_eq_zero_of_no_sems (by decide) r.2⟩) (Cert.SsdDtFwdRefIdeal.Value.run m g)

theorem ssdOutDx : Cert.quiescent_SsdOutDxRefIdeal := fun m g _ =>
  (θ_run _ _ _).mono (fun r h => ⟨fun c => (h c).2, sem_eq_zero_of_no_sems (by decide) r.2⟩) (Cert.SsdOutDxRefIdeal.Value.run m g)

theorem ssdOutDw : Cert.quiescent_SsdOutDwRefIdeal := fun m g _ =>
  (θ_run _ _ _).mono (fun r h => ⟨fun c => (h c).2, sem_eq_zero_of_no_sems (by decide) r.2⟩) (Cert.SsdOutDwRefIdeal.Value.run m g)

theorem ssdOutFwd : Cert.quiescent_SsdOutFwdRefIdeal := fun m g _ =>
  (θ_run _ _ _).mono (fun r h => ⟨fun c => (h c).2, sem_eq_zero_of_no_sems (by decide) r.2⟩) (Cert.SsdOutFwdRefIdeal.Value.run m g)

theorem mlaADx : Cert.quiescent_MlaADxRefIdeal := fun m g _ =>
  (θ_run _ _ _).mono (fun r h => ⟨fun c => (h c).2, sem_eq_zero_of_no_sems (by decide) r.2⟩) (Cert.MlaADxRefIdeal.Value.run m g)

theorem mlaADw : Cert.quiescent_MlaADwRefIdeal := fun m g _ =>
  (θ_run _ _ _).mono (fun r h => ⟨fun c => (h c).2, sem_eq_zero_of_no_sems (by decide) r.2⟩) (Cert.MlaADwRefIdeal.Value.run m g)

theorem mlaAFwd : Cert.quiescent_MlaAFwdRefIdeal := fun m g _ =>
  (θ_run _ _ _).mono (fun r h => ⟨fun c => (h c).2, sem_eq_zero_of_no_sems (by decide) r.2⟩) (Cert.MlaAFwdRefIdeal.Value.run m g)

theorem mlaQbDx : Cert.quiescent_MlaQbDxRefIdeal := fun m g _ =>
  (θ_run _ _ _).mono (fun r h => ⟨fun c => (h c).2, sem_eq_zero_of_no_sems (by decide) r.2⟩) (Cert.MlaQbDxRefIdeal.Value.run m g)

theorem mlaQbDw : Cert.quiescent_MlaQbDwRefIdeal := fun m g _ =>
  (θ_run _ _ _).mono (fun r h => ⟨fun c => (h c).2, sem_eq_zero_of_no_sems (by decide) r.2⟩) (Cert.MlaQbDwRefIdeal.Value.run m g)

theorem mlaQbFwd : Cert.quiescent_MlaQbFwdRefIdeal := fun m g _ =>
  (θ_run _ _ _).mono (fun r h => ⟨fun c => (h c).2, sem_eq_zero_of_no_sems (by decide) r.2⟩) (Cert.MlaQbFwdRefIdeal.Value.run m g)

theorem mlaKvbDx : Cert.quiescent_MlaKvbDxRefIdeal := fun m g _ =>
  (θ_run _ _ _).mono (fun r h => ⟨fun c => (h c).2, sem_eq_zero_of_no_sems (by decide) r.2⟩) (Cert.MlaKvbDxRefIdeal.Value.run m g)

theorem mlaKvbDw : Cert.quiescent_MlaKvbDwRefIdeal := fun m g _ =>
  (θ_run _ _ _).mono (fun r h => ⟨fun c => (h c).2, sem_eq_zero_of_no_sems (by decide) r.2⟩) (Cert.MlaKvbDwRefIdeal.Value.run m g)

theorem mlaKvbFwd : Cert.quiescent_MlaKvbFwdRefIdeal := fun m g _ =>
  (θ_run _ _ _).mono (fun r h => ⟨fun c => (h c).2, sem_eq_zero_of_no_sems (by decide) r.2⟩) (Cert.MlaKvbFwdRefIdeal.Value.run m g)

theorem mlaODx : Cert.quiescent_MlaODxRefIdeal := fun m g _ =>
  (θ_run _ _ _).mono (fun r h => ⟨fun c => (h c).2, sem_eq_zero_of_no_sems (by decide) r.2⟩) (Cert.MlaODxRefIdeal.Value.run m g)

theorem mlaODw : Cert.quiescent_MlaODwRefIdeal := fun m g _ =>
  (θ_run _ _ _).mono (fun r h => ⟨fun c => (h c).2, sem_eq_zero_of_no_sems (by decide) r.2⟩) (Cert.MlaODwRefIdeal.Value.run m g)

theorem mlaOFwd : Cert.quiescent_MlaOFwdRefIdeal := fun m g _ =>
  (θ_run _ _ _).mono (fun r h => ⟨fun c => (h c).2, sem_eq_zero_of_no_sems (by decide) r.2⟩) (Cert.MlaOFwdRefIdeal.Value.run m g)

theorem convBwd : Cert.quiescent_ConvBwdRefIdeal := fun m g _ =>
  (θ_run _ _ _).mono (fun r h => ⟨fun c => (h c).2.2.2, sem_eq_zero_of_no_sems (by decide) r.2⟩) (Cert.ConvBwdRefIdeal.Value.run m g)

theorem convFwd : Cert.quiescent_ConvFwdRefIdeal := fun m g _ =>
  (θ_run _ _ _).mono (fun r h => ⟨fun c => (h c).2, sem_eq_zero_of_no_sems (by decide) r.2⟩) (Cert.ConvFwdRefIdeal.Value.run m g)

theorem adaDw : Cert.quiescent_AdaDwRefIdeal := fun m g _ =>
  (θ_run _ _ _).mono (fun r h => ⟨fun c => (h c).2, sem_eq_zero_of_no_sems (by decide) r.2⟩) (Cert.AdaDwRefIdeal.Value.run m g)

theorem adaFwd : Cert.quiescent_AdaFwdRefIdeal := fun m g _ =>
  (θ_run _ _ _).mono (fun r h => ⟨fun c => (h c).2, sem_eq_zero_of_no_sems (by decide) r.2⟩) (Cert.AdaFwdRefIdeal.Value.run m g)

theorem swigluBwd : Cert.quiescent_SwigluBwdRefIdeal := fun m g _ =>
  (θ_run _ _ _).mono (fun r h => ⟨fun c => (h c).2, sem_eq_zero_of_no_sems (by decide) r.2⟩) (Cert.SwigluBwdRefIdeal.Value.run m g)

theorem swigluFwd : Cert.quiescent_SwigluFwdRefIdeal := fun m g _ =>
  (θ_run _ _ _).mono (fun r h => ⟨fun c => (h c).2, sem_eq_zero_of_no_sems (by decide) r.2⟩) (Cert.SwigluFwdRefIdeal.Value.run m g)

theorem residBwd : Cert.quiescent_ResidBwdRefIdeal := fun m g _ =>
  (θ_run _ _ _).mono (fun r h => ⟨fun c => (h c).2.2.2, sem_eq_zero_of_no_sems (by decide) r.2⟩) (Cert.ResidBwdRefIdeal.Value.run m g)

theorem residFwd : Cert.quiescent_ResidFwdRefIdeal := fun m g _ =>
  (θ_run _ _ _).mono (fun r h => ⟨fun c => (h c).2, sem_eq_zero_of_no_sems (by decide) r.2⟩) (Cert.ResidFwdRefIdeal.Value.run m g)

theorem lossHead : Cert.quiescent_LossHeadRefIdeal := fun m g _ =>
  (θ_run _ _ _).mono (fun r h => ⟨fun c => (h c).2.2, sem_eq_zero_of_no_sems (by decide) r.2⟩) (Cert.LossHeadRefIdeal.Value.run m g)

theorem adamGu : Cert.quiescent_AdamGuRefIdeal := fun m g _ =>
  (θ_run _ _ _).mono (fun r h => ⟨fun c => (h c).2.2, sem_eq_zero_of_no_sems (by decide) r.2⟩) (Cert.AdamGuRefIdeal.Value.run m g)

end Cert.References

end
-- ==== Proof.Scan.Math.lean ====
/-
  The gradient of the chunked state-space scan over the real numbers. One head of one group is named by `g` and `k`, a
  chunk by `c`, a place within a chunk by `l` or `s`, a coordinate of the state by `n` and a channel by `p`.
-/
module

public import Mathlib.Analysis.SpecialFunctions.Exp
public import Mathlib.Algebra.BigOperators.Fin

@[expose] public section

noncomputable section

namespace Cert.Scan

/-- The seven arguments of the gradient, by group, head, chunk and place. -/
structure Args where
  x : Fin 4 → Fin 8 → Fin 32 → Fin 128 → Fin 64 → ℝ
  dt : Fin 4 → Fin 8 → Fin 32 → Fin 128 → ℝ
  a : Fin 4 → Fin 8 → Fin 32 → Fin 128 → ℝ
  b : Fin 4 → Fin 32 → Fin 128 → Fin 128 → ℝ
  c : Fin 4 → Fin 32 → Fin 128 → Fin 128 → ℝ
  skip : Fin 4 → Fin 8 → ℝ
  dy : Fin 4 → Fin 8 → Fin 32 → Fin 128 → Fin 64 → ℝ

/-- The two inner sums of four, taken first. -/
theorem sum_swap {ι κ μ ν : Type} [Fintype ι] [Fintype κ] [Fintype μ] [Fintype ν] (f : ι → κ → μ → ν → ℝ) :
    ∑ i, ∑ j, ∑ k, ∑ l, f i j k l = ∑ k, ∑ l, ∑ i, ∑ j, f i j k l := by
  calc _ = ∑ i, ∑ k, ∑ j, ∑ l, f i j k l := Finset.sum_congr rfl fun _ _ => Finset.sum_comm
    _ = ∑ k, ∑ i, ∑ j, ∑ l, f i j k l := Finset.sum_comm
    _ = ∑ k, ∑ i, ∑ l, ∑ j, f i j k l := Finset.sum_congr rfl fun _ _ => Finset.sum_congr rfl fun _ _ => Finset.sum_comm
    _ = _ := Finset.sum_congr rfl fun _ _ => Finset.sum_comm

namespace Args

variable (D : Args) (g : Fin 4) (k : Fin 8) (c : Fin 32)

/-- The input times its step. -/
def xdt (l : Fin 128) (p : Fin 64) : ℝ := D.x g k c l p * D.dt g k c l

/-- The decay from the start of the chunk to a place. -/
def e (l : Fin 128) : ℝ := Real.exp (D.a g k c l)

/-- The logarithm of a whole chunk's decay. -/
def last : ℝ := D.a g k c 127

/-- The decay from a place to the end of the chunk. -/
def dte (l : Fin 128) : ℝ := Real.exp (D.last g k c - D.a g k c l)

/-- The decay between two places of a chunk, nothing forwards in time. -/
def lm (l s : Fin 128) : ℝ := if s ≤ l then Real.exp (D.a g k c l - D.a g k c s) else 0

/-- The products of the chunk's output and input vectors. -/
def cb (l s : Fin 128) : ℝ := ∑ n : Fin 128, D.c g c l n * D.b g c s n

/-- What a chunk adds to the state. -/
def st (n : Fin 128) (p : Fin 64) : ℝ := ∑ l : Fin 128, D.b g c l n * (D.dte g k c l * D.xdt g k c l p)

/-- The decay over the chunks strictly between `j` and `c`, nothing unless `j` comes before `c`. -/
def dec (c j : Fin 32) : ℝ := if j < c then Real.exp (∑ i : Fin 32, if j < i ∧ i < c then D.last g k i else 0) else 0

/-- The state that enters a chunk. -/
def hp (n : Fin 128) (p : Fin 64) : ℝ := ∑ j : Fin 32, D.dec g k c j * D.st g k j n p

/-- The gradient of the state that enters a chunk, of what that chunk itself reads of it. -/
def u (n : Fin 128) (p : Fin 64) : ℝ := ∑ l : Fin 128, D.c g c l n * (D.e g k c l * D.dy g k c l p)

/-- The gradient of the state that leaves a chunk. -/
def dh (n : Fin 128) (p : Fin 64) : ℝ := ∑ c' : Fin 32, D.dec g k c' c * D.u g k c' n p

/-- What the backward recurrence makes of `dh` at a chunk: the gradient of the state that enters it. -/
def next (n : Fin 128) (p : Fin 64) : ℝ := Real.exp (D.last g k c) * D.dh g k c n p + D.u g k c n p

/-- The products of an output's gradient and an input. -/
def gx (l s : Fin 128) : ℝ := ∑ p : Fin 64, D.dy g k c l p * D.xdt g k c s p

/-- The gradient of the decay's logarithm between two places. -/
def dseg (l s : Fin 128) : ℝ := D.gx g k c l s * D.lm g k c l s * D.cb g c l s

/-- The state's gradient read by the input vectors. -/
def bdh (l : Fin 128) (p : Fin 64) : ℝ := ∑ n : Fin 128, D.b g c l n * D.dh g k c n p

/-- The entering state read by the output vectors. -/
def ch (l : Fin 128) (p : Fin 64) : ℝ := ∑ n : Fin 128, D.c g c l n * D.hp g k c n p

/-- The gradient of the input times its step. -/
def dxdt (l : Fin 128) (p : Fin 64) : ℝ :=
  (∑ s : Fin 128, D.cb g c s l * D.lm g k c s l * D.dy g k c s p) + D.dte g k c l * D.bdh g k c l p

def dx (l : Fin 128) (p : Fin 64) : ℝ := D.dxdt g k c l p * D.dt g k c l + D.skip g k * D.dy g k c l p

def ddt (l : Fin 128) : ℝ := ∑ p : Fin 64, D.dxdt g k c l p * D.x g k c l p

/-- The gradient of a place's decay to the chunk's end, times that decay. -/
def dend (l : Fin 128) : ℝ := (∑ p : Fin 64, D.xdt g k c l p * D.bdh g k c l p) * D.dte g k c l

/-- The gradient of the logarithm of the whole chunk's decay, of the state passing through. -/
def through : ℝ := (∑ n : Fin 128, ∑ p : Fin 64, D.hp g k c n p * D.dh g k c n p) * Real.exp (D.last g k c)

/-- The gradient of the decay's logarithm at a place, without what that place gives as an input. -/
def dacOwn (l : Fin 128) : ℝ :=
  (∑ s : Fin 128, D.dseg g k c l s) + (∑ p : Fin 64, D.dy g k c l p * D.ch g k c l p) * D.e g k c l - D.dend g k c l
    + if l = 127 then (∑ s : Fin 128, D.dend g k c s) + D.through g k c else 0

def dac (l : Fin 128) : ℝ := D.dacOwn g k c l + -∑ s : Fin 128, D.dseg g k c s l

/-- One head's share of the gradient of the output vectors. -/
def dc1 (l n : Fin 128) : ℝ :=
  (∑ s : Fin 128, D.gx g k c l s * D.lm g k c l s * D.b g c s n) + D.e g k c l * ∑ p : Fin 64, D.dy g k c l p * D.hp g k c n p

/-- One head's share of the gradient of the input vectors. -/
def db1 (l n : Fin 128) : ℝ :=
  (∑ s : Fin 128, D.gx g k c s l * D.lm g k c s l * D.c g c s n) + ∑ p : Fin 64, D.xdt g k c l p * D.dte g k c l * D.dh g k c n p

/-- One chunk's share of the gradient of the skip. -/
def dskip1 : ℝ := ∑ l : Fin 128, ∑ p : Fin 64, D.dy g k c l p * D.x g k c l p

/-- Between a chunk and a later one lies the next chunk and what lies beyond it. -/
theorem dec_step (c c' c'' : Fin 32) (h : c'.val + 1 = c.val) :
    D.dec g k c'' c' = Real.exp (D.last g k c) * D.dec g k c'' c + if c'' = c then 1 else 0 := by
  have split (hc : c < c'') : (∑ i : Fin 32, if c' < i ∧ i < c'' then D.last g k i else 0)
      = D.last g k c + ∑ i : Fin 32, if c < i ∧ i < c'' then D.last g k i else 0 := by
    have (i : Fin 32) : (if c' < i ∧ i < c'' then D.last g k i else 0)
        = (if i = c then D.last g k i else 0) + if c < i ∧ i < c'' then D.last g k i else 0 := by
      by_cases hi : i = c
      · subst hi; simp [hc, Fin.lt_def, ← h]
      · have : (c' < i ∧ i < c'') ↔ (c < i ∧ i < c'') := by
          have : i.val ≠ c.val := fun e => hi (Fin.ext e)
          simp only [Fin.lt_def]; omega
        simp [hi, this]
    simp only [this, Finset.sum_add_distrib, Finset.sum_ite_eq', Finset.mem_univ, if_true]
  unfold dec
  rcases lt_trichotomy c'' c with hc | hc | hc
  · have h1 : ¬ c' < c'' := by simp only [Fin.lt_def] at *; omega
    have h2 : ¬ c < c'' := by simp only [Fin.lt_def] at *; omega
    simp [h1, h2, hc.ne]
  · subst hc
    have h1 : c' < c'' := by simp only [Fin.lt_def]; omega
    have (i : Fin 32) : ¬ (c' < i ∧ i < c'') := by simp only [Fin.lt_def]; omega
    simp [h1, this]
  · have h1 : c' < c'' := by simp only [Fin.lt_def] at *; omega
    simp only [h1, hc, if_true, hc.ne', if_false, add_zero, split hc, Real.exp_add]

/-- No chunk comes after the last one. -/
theorem dh_last (n : Fin 128) (p : Fin 64) : D.dh g k 31 n p = 0 := by
  have (c' : Fin 32) : ¬ (31 : Fin 32) < c' := by rw [Fin.lt_def]; show ¬ (31 < c'.val); omega
  simp [dh, dec, this]

/-- The backward recurrence. -/
theorem dh_step (c c' : Fin 32) (h : c'.val + 1 = c.val) (n : Fin 128) (p : Fin 64) :
    D.dh g k c' n p = D.next g k c n p := by
  simp only [next, dh, D.dec_step g k c c' _ h, add_mul, Finset.sum_add_distrib, Finset.mul_sum, ite_mul, one_mul, zero_mul,
    Finset.sum_ite_eq', Finset.mem_univ, if_true, mul_assoc]

/-- Decaying up to a chunk, through it and on is decaying all the way. -/
theorem dec_through (c j c' : Fin 32) :
    D.dec g k c j * D.dec g k c' c * Real.exp (D.last g k c) = if j < c ∧ c < c' then D.dec g k c' j else 0 := by
  unfold dec
  by_cases h1 : j < c <;> by_cases h2 : c < c'
  · have (i : Fin 32) : (if j < i ∧ i < c' then D.last g k i else 0)
        = ((if j < i ∧ i < c then D.last g k i else 0) + if c < i ∧ i < c' then D.last g k i else 0)
          + if i = c then D.last g k i else 0 := by
      rcases lt_trichotomy i c with hi | hi | hi
      · have a1 : i < c' := hi.trans h2
        have a2 : ¬ c < i := hi.asymm
        simp [hi, a1, a2, hi.ne]
      · subst hi; simp [h1, h2]
      · have a1 : j < i := h1.trans hi
        have a2 : ¬ i < c := hi.asymm
        simp [hi, a1, a2, hi.ne']
    simp only [h1, h2, h1.trans h2, and_self, if_true, this, Finset.sum_add_distrib, Finset.sum_ite_eq', Finset.mem_univ, Real.exp_add]
  all_goals simp [h1, h2]

/-- The gradient through a chunk's own decay, as the sum over the pairs of chunks around it. -/
theorem through_eq : D.through g k c = ∑ j : Fin 32, ∑ c' : Fin 32, if j < c ∧ c < c' then
    (∑ n : Fin 128, ∑ p : Fin 64, D.u g k c' n p * D.st g k j n p) * D.dec g k c' j else 0 := by
  have (j c' : Fin 32) : (if j < c ∧ c < c' then
      (∑ n : Fin 128, ∑ p : Fin 64, D.u g k c' n p * D.st g k j n p) * D.dec g k c' j else 0)
      = (∑ n : Fin 128, ∑ p : Fin 64, D.u g k c' n p * D.st g k j n p)
        * (D.dec g k c j * D.dec g k c' c * Real.exp (D.last g k c)) := by
    rw [D.dec_through g k c j c']; split <;> simp
  simp only [this]
  have inner (n : Fin 128) (p : Fin 64) : D.hp g k c n p * D.dh g k c n p * Real.exp (D.last g k c) = ∑ j : Fin 32, ∑ c' : Fin 32,
      D.u g k c' n p * D.st g k j n p * (D.dec g k c j * D.dec g k c' c * Real.exp (D.last g k c)) := by
    rw [hp, dh, Finset.sum_mul_sum, Finset.sum_mul]
    refine Finset.sum_congr rfl fun j _ => ?_
    rw [Finset.sum_mul]
    exact Finset.sum_congr rfl fun c' _ => by ring
  rw [through]
  simp only [Finset.sum_mul, inner]
  exact sum_swap _

end Args

end Cert.Scan

end
-- ==== Proof.Scan.Coe.lean ====
/-
  Sums, exponentials and masks of real numbers among the extended reals.
-/
module

public import Idealize.ShloMosaic.Lib.Pipeline.ValueKit
public import Idealize.ShloMosaic.Lib.Pointwise
public import Idealize.ShloMosaic.Lib.WordCmp

@[expose] public section

noncomputable section

open Idealize.ShloMosaic Idealize.ShloMosaic.TcCoe Idealize.SL.Sem Idealize.ShloMosaic.WordCmp

namespace Cert.Scan

/-- A sum of real numbers, summed as extended ones. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem coe_zero : (0 : EReal) = ((0 : ℝ) : EReal) := rfl

/-- A choice between real numbers. -/
theorem coe_ite (p : Prop) [Decidable p] (a b : ℝ) : (if p then (a : EReal) else (b : EReal)) = ((if p then a else b : ℝ) : EReal) := by
  split <;> rfl

theorem negInf : Ideal.ofBits .f32 4286578688#32 = (⊥ : EReal) := by simp [Ideal.ofBits, Ideal.ieee]

/-- The exponential of a number, or of minus infinity, as a mask chooses. -/
theorem exp_ite (p : Prop) [Decidable p] (a : ℝ) : Ideal.exp (if p then (a : EReal) else ⊥) = ((if p then Real.exp a else 0 : ℝ) : EReal) := by
  split
  · exact Ideal.exp_coe a
  · exact Ideal.exp_bot

/-- The masks over places of a chunk. -/
theorem mask_ge {n : ℕ} (hn : n ≤ 4096) (l s : Fin n) {α : Type} (x y : α) :
    Scalar.select (IntOp.cmpi .sge (BitVec.ofNat 32 l.val) (BitVec.ofNat 32 s.val)) x y = if s ≤ l then x else y := by
  have := l.isLt
  have := s.isLt
  rw [cmpi_sge_ofNat (by omega) (by omega), select_ofBool]
  simp only [decide_eq_true_eq, Fin.val_fin_le]

theorem mask_le {n : ℕ} (hn : n ≤ 4096) (l s : Fin n) {α : Type} (x y : α) :
    Scalar.select (IntOp.cmpi .sle (BitVec.ofNat 32 l.val) (BitVec.ofNat 32 s.val)) x y = if l ≤ s then x else y := by
  have := l.isLt
  have := s.isLt
  rw [cmpi_sle_ofNat (by omega) (by omega), select_ofBool]
  simp only [decide_eq_true_eq, Fin.val_fin_le]

theorem mask_lt {n : ℕ} (hn : n ≤ 4096) (l s : Fin n) {α : Type} (x y : α) :
    Scalar.select (IntOp.cmpi .slt (BitVec.ofNat 32 l.val) (BitVec.ofNat 32 s.val)) x y = if l < s then x else y := by
  have := l.isLt
  have := s.isLt
  rw [cmpi_slt_ofNat (by omega) (by omega), select_ofBool]
  simp only [decide_eq_true_eq, Fin.val_fin_lt]

theorem mask_between {n : ℕ} (hn : n ≤ 4096) (j i l : Fin n) {α : Type} (x y : α) :
    Scalar.select (IntOp.andi (IntOp.cmpi .slt (BitVec.ofNat 32 j.val) (BitVec.ofNat 32 i.val)) (IntOp.cmpi .slt (BitVec.ofNat 32 i.val) (BitVec.ofNat 32 l.val))) x y
      = if j < i ∧ i < l then x else y := by
  have := j.isLt
  have := i.isLt
  have := l.isLt
  rw [cmpi_slt_ofNat (by omega) (by omega), cmpi_slt_ofNat (by omega) (by omega)]
  have (p q : Bool) : IntOp.andi (BitVec.ofBool p) (BitVec.ofBool q) = BitVec.ofBool (p && q) := by cases p <;> cases q <;> rfl
  rw [this, select_ofBool]
  simp only [Bool.and_eq_true, decide_eq_true_eq, Fin.val_fin_lt]

theorem mask_eq {n : ℕ} (hn : n ≤ 4096) (l s : Fin n) {α : Type} (x y : α) :
    Scalar.select (IntOp.cmpi .eq (BitVec.ofNat 32 l.val) (BitVec.ofNat 32 s.val)) x y = if l = s then x else y := by
  have := l.isLt
  have := s.isLt
  rw [cmpi_eq_ofNat (by omega) (by omega), select_ofBool]
  simp only [decide_eq_true_eq, Fin.val_inj]

end Cert.Scan

end
-- ==== Proof.Scan.Args.lean ====
/-
  The arrays that the scan's gradient is given, as real numbers by group, head, chunk and place.
-/
module

public import proofs.«01_k».proof.Proof.Scan.Math
public import proofs.«01_k».proof.Proof.Scan.Coe

@[expose] public section

noncomputable section

open Idealize.ShloMosaic Idealize.ShloMosaic.TcCoe Idealize.SL.Sem

namespace Cert.Scan

/-- Head `k` of group `g` among all heads, and place `l` of chunk `c` among all places. -/
def hd (g : Fin 4) (k : Fin 8) : Fin 32 := ⟨8 * g.val + k.val, by omega⟩
def pl (c : Fin 32) (l : Fin 128) : Fin 4096 := ⟨128 * c.val + l.val, by omega⟩

/-- Where a head's group and its place there, and a place of a chunk, are read. -/
theorem hd_div (g : Fin 4) (k : Fin 8) (p : (hd g k).val / 8 < 4) : (⟨(hd g k).val / 8, p⟩ : Fin 4) = g := by
  apply Fin.ext; show (8 * g.val + k.val) / 8 = g.val; omega

theorem hd_mod (g : Fin 4) (k : Fin 8) (p : (hd g k).val % 8 < 8) : (⟨(hd g k).val % 8, p⟩ : Fin 8) = k := by
  apply Fin.ext; show (8 * g.val + k.val) % 8 = k.val; omega

theorem hd_whole (g : Fin 4) (k : Fin 8) (p : (hd g k).val / 8 * 8 + (hd g k).val % 8 < 32) :
    (⟨(hd g k).val / 8 * 8 + (hd g k).val % 8, p⟩ : Fin 32) = hd g k := by
  apply Fin.ext; show (hd g k).val / 8 * 8 + (hd g k).val % 8 = (hd g k).val; omega

theorem hd_mk (g : Fin 4) (k : Fin 8) (p : g.val * 8 + k.val < 32) : (⟨g.val * 8 + k.val, p⟩ : Fin 32) = hd g k := by
  apply Fin.ext; show g.val * 8 + k.val = 8 * g.val + k.val; omega

theorem pl_mk (c : Fin 32) (l : Fin 128) (p : c.val * 128 + l.val < 4096) : (⟨c.val * 128 + l.val, p⟩ : Fin 4096) = pl c l := by
  apply Fin.ext; show c.val * 128 + l.val = 128 * c.val + l.val; omega

theorem pl_end (c : Fin 32) (p : c.val * 128 + 127 < 4096) : (⟨c.val * 128 + 127, p⟩ : Fin 4096) = pl c 127 := pl_mk c 127 p

/-- An array of extended reals. -/
abbrev Arr (s : Shape) : Type := s.Idx → Elt Ideal .f32

/-- The arrays hold the numbers. -/
structure Args.In (D : Args) (x : Arr ⟨3, ![32, 4096, 64]⟩) (dt a : Arr ⟨3, ![4, 4096, 8]⟩) (b c : Arr ⟨3, ![4, 4096, 128]⟩) (skip : Arr ⟨3, ![32, 1, 1]⟩)
    (dy : Arr ⟨3, ![32, 4096, 64]⟩) : Prop where
  x : ∀ g k c l p, x (ix3 (hd g k) (pl c l) p) = ((D.x g k c l p : ℝ) : EReal)
  dt : ∀ g k c l, dt (ix3 g (pl c l) k) = ((D.dt g k c l : ℝ) : EReal)
  a : ∀ g k c l, a (ix3 g (pl c l) k) = ((D.a g k c l : ℝ) : EReal)
  b : ∀ g C l n, b (ix3 g (pl C l) n) = ((D.b g C l n : ℝ) : EReal)
  c : ∀ g C l n, c (ix3 g (pl C l) n) = ((D.c g C l n : ℝ) : EReal)
  skip : ∀ g k, skip (ix3 (hd g k) 0 0) = ((D.skip g k : ℝ) : EReal)
  dy : ∀ g k c l p, dy (ix3 (hd g k) (pl c l) p) = ((D.dy g k c l p : ℝ) : EReal)

end Cert.Scan

end
-- ==== Proof.Scan.Entry.lean ====
/-
  What the host computes before the scan gradient's kernel: the decay's logarithm in the other layout and the entering states.
-/
module

public import proofs.«01_k».proof.Proof.Gen.SsdIdeal.Frame
public import proofs.«01_k».proof.Proof.Scan.Args

@[expose] public section

set_option maxRecDepth 16384

noncomputable section

open Idealize.ShloMosaic Idealize.ShloMosaic.TcCoe Idealize.SL.Sem

namespace Cert.SsdIdeal.Scan

open Cert.SsdIdeal Cert.SsdIdeal.Gen Cert.Scan

variable (m : (ℓ : Loc nD τ sig) → Buf (Elt Ideal) ℓ)

/-- The arguments hold `D`. -/
abbrev Holds (D : Args) (c : Dev nD) : Prop :=
  D.In (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

variable {m} {D : Args} {c : Dev nD} (h : Holds m D c)
include h

theorem row_at (g : Fin 4) (k : Fin 8) (C : Fin 32) (s : Fin 128) :
    (V m c main_v41 : Vec Ideal S32x1x4096 .f32) (ix3 (hd g k) 0 (pl C s)) = ((D.a g k C s : ℝ) : EReal) := by
  show (StableHlo.after hostOps0 (fun b => m (c, b)) main_v41 : Vec Ideal S32x1x4096 .f32) _ = _
  after_results
  pointwise
  rw [hd_div, hd_mod]
  exact h.a g k C s

theorem state_at (g : Fin 4) (k : Fin 8) (C : Fin 32) (n : Fin 128) (p : Fin 64) :
    (V m c main_v39 : Vec Ideal S32x32x128x64 .f32) (ix4 (hd g k) C n p) = ((D.hp g k C n p : ℝ) : EReal) := by
  show (StableHlo.after hostOps0 (fun b => m (c, b)) main_v39 : Vec Ideal S32x32x128x64 .f32) _ = _
  after_results
  pointwise
  have hx : ∀ g k c' l p, m (c, Proc.tc.devRef main_arg0) (ix3 (hd g k) (pl c' l) p) = _ := h.x
  have ht : ∀ g k c' l, m (c, Proc.tc.devRef main_arg1) (ix3 g (pl c' l) k) = _ := h.dt
  have ha : ∀ g k c' l, m (c, Proc.tc.devRef main_arg2) (ix3 g (pl c' l) k) = _ := h.a
  have hb : ∀ g c' l n, m (c, Proc.tc.devRef main_arg3) (ix3 g (pl c' l) n) = _ := h.b
  simp only [hd_div, hd_mod, hd_whole, pl_mk, pl_end, hx, ht, ha, hb, mask_between (n := 32) (by decide), mask_lt (n := 32) (by decide), negInf]
  simp only [coe_zero, coe_ite, coe_sum, ← EReal.coe_sub, Ideal.exp_coe, ← EReal.coe_mul]
  simp only [exp_ite, coe_sum, ← EReal.coe_mul]
  exact congrArg _ (Finset.sum_congr rfl fun j _ => congrArg _ (Finset.sum_congr rfl fun l _ => mul_comm _ _))

end Cert.SsdIdeal.Scan

end
-- ==== Proof.Scan.Head.lean ====
/-
  One head's work in one step of the scan gradient's kernel, as vectors: the same operations for each of the eight heads.
-/
module

public import proofs.«01_k».proof.Proof.Gen.SsdIdeal.Skeleton
public import Idealize.ShloMosaic.Lib.Pipeline.ValueKit
public import Idealize.ShloMosaic.Lib.Pipeline.ReadBack
public import Idealize.ShloMosaic.Lib.Pointwise

@[expose] public section

noncomputable section

open Idealize.ShloMosaic Idealize.ShloMosaic.TcCoe Idealize.SL.Sem

namespace Cert.SsdIdeal.Scan

open Cert.SsdIdeal Cert.SsdIdeal.Gen

/-- What a head's work reads: the chunk's input and output vectors, the decay's logarithm along rows (`a`) and along a row
    (`ar`), the step along rows, and the head's input, output gradient, entering state, gradient of the leaving state and skip. -/
structure Head where
  b : FVec Ideal S128x128 .f32
  c : FVec Ideal S128x128 .f32
  a : FVec Ideal S128x128 .f32
  dt : FVec Ideal S128x128 .f32
  ar : FVec Ideal S1x128 .f32
  x : FVec Ideal S128x64 .f32
  g : FVec Ideal S128x64 .f32
  h : FVec Ideal S128x64 .f32
  dh : FVec Ideal S128x64 .f32
  sk : FVec Ideal S1x1 .f32

namespace Head

variable (v : Head)

/-- Rows against rows of 64 channels, rows against rows of 128, and the two plain products. -/
abbrev ntP (a b : FVec Ideal S128x64 .f32) : FVec Ideal S128x128 .f32 :=
  matmul dot_S128x64_S128x64_S128x128_1_1_0_0_n_n none (truncf .bf16 a bitsLt_bf16_f32) (truncf .bf16 b bitsLt_bf16_f32) (constant S128x128 .f32 0x00000000#32)
abbrev ntN (a b : FVec Ideal S128x128 .f32) : FVec Ideal S128x128 .f32 :=
  matmul dot_S128x128_S128x128_S128x128_1_1_0_0_n_n none (truncf .bf16 a bitsLt_bf16_f32) (truncf .bf16 b bitsLt_bf16_f32) (constant S128x128 .f32 0x00000000#32)
abbrev nnP (a : FVec Ideal S128x128 .f32) (b : FVec Ideal S128x64 .f32) : FVec Ideal S128x64 .f32 :=
  matmul dot_S128x128_S128x64_S128x64_1_0_0_1_n_n none (truncf .bf16 a bitsLt_bf16_f32) (truncf .bf16 b bitsLt_bf16_f32) (constant S128x64 .f32 0x00000000#32)
abbrev nnN (a b : FVec Ideal S128x128 .f32) : FVec Ideal S128x128 .f32 :=
  matmul dot_S128x128_S128x128_S128x128_1_0_0_1_n_n none (truncf .bf16 a bitsLt_bf16_f32) (truncf .bf16 b bitsLt_bf16_f32) (constant S128x128 .f32 0x00000000#32)

/-- The left columns of a square, and its first column. -/
abbrev left (a : FVec Ideal S128x128 .f32) : FVec Ideal S128x64 .f32 := extractStridedSlice S128x64 ![0, 0] a slices_S128x128_o0_0_S128x64
abbrev first (a : FVec Ideal S128x128 .f32) : FVec Ideal S128x1 .f32 := extractStridedSlice S128x1 ![0, 0] a slices_S128x128_o0_0_S128x1

/-- Sums along the rows of 64 and of 128, and over the whole of a vector. -/
abbrev sumP (a : FVec Ideal S128x64 .f32) : FVec Ideal S128x1 .f32 :=
  shapeCast S128x1 (multiReduction .add [1] S128 a 0x00000000#32 reduces_S128x64_S128 (.inl rfl) rfl) shapeCasts_S128_S128x1
abbrev sumN (a : FVec Ideal S128x128 .f32) : FVec Ideal S128x1 .f32 :=
  shapeCast S128x1 (multiReduction .add [1] S128 a 0x00000000#32 reduces_S128x128_S128 (.inl rfl) rfl) shapeCasts_S128_S128x1
abbrev totalP (a : FVec Ideal S128x64 .f32) : FVec Ideal S1x1 .f32 :=
  broadcast S1x1 (extractAt ![0, 0, 0] (shapeCast S1x1x1 (multiReduction .add [1, 2] S1 (shapeCast S1x128x64 a shapeCasts_S128x64_S1x128x64) 0x00000000#32
    reduces_S1x128x64_S1 (.inl rfl) rfl) shapeCasts_S1_S1x1x1) inpos_S1x1x1_p0_0_0)
abbrev total1 (a : FVec Ideal S128x1 .f32) : FVec Ideal S1x1 .f32 :=
  broadcast S1x1 (extractAt ![0, 0, 0] (shapeCast S1x1x1 (multiReduction .add [1, 2] S1 (shapeCast S1x128x1 a shapeCasts_S128x1_S1x128x1) 0x00000000#32
    reduces_S1x128x1_S1 (.inl rfl) rfl) shapeCasts_S1_S1x1x1) inpos_S1x1x1_p0_0_0)

/-- The logarithm of the chunk's decay, on one row. -/
def al : FVec Ideal S1x128 .f32 := extractStridedSlice S1x128 ![127, 0] v.a slices_S128x128_o127_0_S1x128
def lm : FVec Ideal S128x128 .f32 :=
  exp (select (cmpi .sge (iota .tc S128x128 32 [0] iota_S128x128_d0_w32) (iota .tc S128x128 32 [1] iota_S128x128_d1_w32))
    (subf v.a (broadcastTo S128x128 v.ar broadcasts_S1x128_S128x128)) (broadcast S128x128 (Scalar.ofBits .f32 0xFF800000#32)))
def lmt : FVec Ideal S128x128 .f32 :=
  exp (select (cmpi .sle (iota .tc S128x128 32 [0] iota_S128x128_d0_w32) (iota .tc S128x128 32 [1] iota_S128x128_d1_w32))
    (subf (broadcastTo S128x128 v.ar broadcasts_S1x128_S128x128) v.a) (broadcast S128x128 (Scalar.ofBits .f32 0xFF800000#32)))
def xdt : FVec Ideal S128x64 .f32 := mulf v.x (left v.dt)
def e : FVec Ideal S128x128 .f32 := exp v.a
def dte : FVec Ideal S128x128 .f32 := exp (subf (broadcastTo S128x128 v.al broadcasts_S1x128_S128x128) v.a)
def el : FVec Ideal S1x128 .f32 := exp v.al
def cb : FVec Ideal S128x128 .f32 := ntN v.c v.b
def cbt : FVec Ideal S128x128 .f32 := ntN v.b v.c
def dcb : FVec Ideal S128x128 .f32 := mulf (ntP v.g v.xdt) v.lm
def dcbt : FVec Ideal S128x128 .f32 := mulf (ntP v.xdt v.g) v.lmt
def dseg : FVec Ideal S128x128 .f32 := mulf v.dcb v.cb
def ch : FVec Ideal S128x64 .f32 := nnP v.c v.h
def bdh : FVec Ideal S128x64 .f32 := nnP v.b v.dh
def dxdt : FVec Ideal S128x64 .f32 := addf (nnP (mulf v.cbt v.lmt) v.g) (mulf (left v.dte) v.bdh)
def dc : FVec Ideal S128x128 .f32 := addf (nnN v.dcb v.b) (mulf v.e (ntP v.g v.h))
def db : FVec Ideal S128x128 .f32 := addf (nnN v.dcbt v.c) (ntP (mulf v.xdt (left v.dte)) v.dh)
def dE : FVec Ideal S128x1 .f32 := sumP (mulf v.g v.ch)
def dDte : FVec Ideal S128x1 .f32 := sumP (mulf v.xdt v.bdh)
def dLast : FVec Ideal S1x1 .f32 :=
  addf (total1 (mulf v.dDte (first v.dte))) (mulf (totalP (mulf v.h v.dh)) (extractStridedSlice S1x1 ![0, 0] v.el slices_S1x128_o0_0_S1x1))
def dac : FVec Ideal S128x1 .f32 :=
  addf (subf (addf (sumN v.dseg) (mulf v.dE (first v.e))) (mulf v.dDte (first v.dte)))
    (select (cmpi .eq (iota .tc S128x1 32 [0] iota_S128x1_d0_w32) (broadcast S128x1 127#32))
      (broadcastTo S128x1 (shapeCast S1x1 v.dLast shapeCasts_S1x1_S1x1) broadcasts_S1x1_S128x1) (broadcast S128x1 (Scalar.ofBits .f32 0x00000000#32)))
def dacr : FVec Ideal S1x1x128 .f32 :=
  shapeCast S1x1x128 (subf (broadcast S1x128 (Scalar.ofBits .f32 0x00000000#32))
    (shapeCast S1x128 (multiReduction .add [0] S128 v.dseg 0x00000000#32 reduces_S128x128_S128_2 (.inl rfl) rfl) shapeCasts_S128_S1x128)) shapeCasts_S1x128_S1x1x128
def dx : FVec Ideal S1x128x64 .f32 :=
  shapeCast S1x128x64 (addf (mulf v.dxdt (left v.dt)) (mulf (broadcastTo S128x64 v.sk broadcasts_S1x1_S128x64) v.g)) shapeCasts_S128x64_S1x128x64
/-- The skip's gradient, added to what is there. -/
def dskip (o : FVec Ideal S1x1 .f32) : FVec Ideal S1x1x1 .f32 := shapeCast S1x1x1 (addf o (totalP (mulf v.g v.x))) shapeCasts_S1x1_S1x1x1
def ddt : FVec Ideal S128x1 .f32 := sumP (mulf v.dxdt v.x)
def next : FVec Ideal S1x128x64 .f32 :=
  shapeCast S1x128x64 (addf (mulf (broadcastTo S128x64 (extractStridedSlice S1x64 ![0, 0] v.el slices_S1x128_o0_0_S1x64) broadcasts_S1x64_S128x64) v.dh)
    (nnP (transpose S128x128 [1, 0] v.c transposes_S128x128_p1_0_S128x128) (mulf (left v.e) v.g))) shapeCasts_S128x64_S1x128x64

end Head

/-- Head `j`'s column of an array of eight columns replaced. -/
abbrev putCol (j : BitVec 32) (w : FVec Ideal S128x1 .f32) (o : FVec Ideal S128x8 .f32) : FVec Ideal S128x8 .f32 :=
  select (cmpi .eq (iota .tc S128x8 32 [1] iota_S128x8_d1_w32) (broadcast S128x8 j))
    (broadcastTo S128x8 (shapeCast S128x1 w shapeCasts_S128x1_S128x1) broadcasts_S128x1_S128x8) o

/-- The blocks that one step reads: the input, its step, the decay's logarithm in both layouts, input and output vectors, skip,
    entering states and output gradient, and the gradients of the leaving states. -/
structure Blocks where
  x : Vec Ideal S8x128x64 .f32
  dt : Vec Ideal S1x128x8 .f32
  a : Vec Ideal S1x128x8 .f32
  ar : Vec Ideal S8x1x128 .f32
  b : Vec Ideal S1x128x128 .f32
  c : Vec Ideal S1x128x128 .f32
  sk : Vec Ideal S8x1x1 .f32
  hp : Vec Ideal S8x1x128x64 .f32
  dy : Vec Ideal S8x128x64 .f32
  dh : Vec Ideal S8x128x64 .f32

/-- The parts of the blocks that belong to head `j` lie within them. -/
structure Fits (j : ℕ) : Prop where
  col : S128x8.Slices ![0, j] S128x1
  xs : ∀ i, ![j, 0, 0] i + ![1, 128, 64] i ≤ S8x128x64.size i
  row : ∀ i, ![j, 0, 0] i + ![1, 1, 128] i ≤ S8x1x128.size i
  one : ∀ i, ![j, 0, 0] i + ![1, 1, 1] i ≤ S8x1x1.size i
  st : ∀ i, ![j, 0, 0, 0] i + ![1, 1, 128, 64] i ≤ S8x1x128x64.size i

theorem fits : ∀ j : Fin 8, Fits j.val := fun j => ⟨by revert j; decide, by revert j; decide, by revert j; decide, by revert j; decide, by revert j; decide⟩

namespace Blocks

variable (X : Blocks)

/-- A column of a block, along the rows of a square. -/
abbrev col (w : FVec Ideal S1x128x8 .f32) (j : ℕ) (h : Fits j) : FVec Ideal S128x128 .f32 :=
  broadcastTo S128x128 (shapeCast S128x1 (extractStridedSlice S128x1 ![0, j] (shapeCast S128x8 w shapeCasts_S1x128x8_S128x8) h.col) shapeCasts_S128x1_S128x1)
    broadcasts_S128x1_S128x128

/-- What head `j`'s work reads of the blocks. -/
def head (j : ℕ) (h : Fits j) : Head where
  b := shapeCast S128x128 X.b shapeCasts_S1x128x128_S128x128
  c := shapeCast S128x128 X.c shapeCasts_S1x128x128_S128x128
  a := col X.a j h
  dt := col X.dt j h
  ar := shapeCast S1x128 (View.ld X.ar (Rect.unit ![j, 0, 0] ![1, 1, 128] h.row)) shapeCasts_S1x1x128_S1x128
  x := shapeCast S128x64 (View.ld X.x (Rect.unit ![j, 0, 0] ![1, 128, 64] h.xs)) shapeCasts_S1x128x64_S128x64
  g := shapeCast S128x64 (View.ld X.dy (Rect.unit ![j, 0, 0] ![1, 128, 64] h.xs)) shapeCasts_S1x128x64_S128x64
  h := shapeCast S128x64 (View.ld X.hp (Rect.unit ![j, 0, 0, 0] ![1, 1, 128, 64] h.st)) shapeCasts_S1x1x128x64_S128x64
  dh := shapeCast S128x64 (View.ld X.dh (Rect.unit ![j, 0, 0] ![1, 128, 64] h.xs)) shapeCasts_S1x128x64_S128x64
  sk := shapeCast S1x1 (View.ld X.sk (Rect.unit ![j, 0, 0] ![1, 1, 1] h.one)) shapeCasts_S1x1x1_S1x1

/-- Head `k`'s work. -/
abbrev H (k : Fin 8) : Head := X.head k.val (fits k)

/-- The gradients that add up over the heads, and those that take a column of each. -/
def dcAll : FVec Ideal S1x128x128 .f32 := shapeCast S1x128x128
  (addf (addf (addf (addf (addf (addf (addf (addf (broadcast S128x128 (Scalar.ofBits .f32 0x00000000#32)) (X.H 0).dc) (X.H 1).dc) (X.H 2).dc) (X.H 3).dc)
    (X.H 4).dc) (X.H 5).dc) (X.H 6).dc) (X.H 7).dc) shapeCasts_S128x128_S1x128x128
def dbAll : FVec Ideal S1x128x128 .f32 := shapeCast S1x128x128
  (addf (addf (addf (addf (addf (addf (addf (addf (broadcast S128x128 (Scalar.ofBits .f32 0x00000000#32)) (X.H 0).db) (X.H 1).db) (X.H 2).db) (X.H 3).db)
    (X.H 4).db) (X.H 5).db) (X.H 6).db) (X.H 7).db) shapeCasts_S128x128_S1x128x128
def dacAll : FVec Ideal S1x128x8 .f32 := shapeCast S1x128x8
  (putCol 7#32 (X.H 7).dac (putCol 6#32 (X.H 6).dac (putCol 5#32 (X.H 5).dac (putCol 4#32 (X.H 4).dac (putCol 3#32 (X.H 3).dac (putCol 2#32 (X.H 2).dac
    (putCol 1#32 (X.H 1).dac (putCol 0#32 (X.H 0).dac (broadcast S128x8 (Scalar.ofBits .f32 0x00000000#32)))))))))) shapeCasts_S128x8_S1x128x8
def ddtAll : FVec Ideal S1x128x8 .f32 := shapeCast S1x128x8
  (putCol 7#32 (X.H 7).ddt (putCol 6#32 (X.H 6).ddt (putCol 5#32 (X.H 5).ddt (putCol 4#32 (X.H 4).ddt (putCol 3#32 (X.H 3).ddt (putCol 2#32 (X.H 2).ddt
    (putCol 1#32 (X.H 1).ddt (putCol 0#32 (X.H 0).ddt (broadcast S128x8 (Scalar.ofBits .f32 0x00000000#32)))))))))) shapeCasts_S128x8_S1x128x8

end Blocks

end Cert.SsdIdeal.Scan

end
-- ==== Proof.Scan.HeadReal.lean ====
/-
  One head's work over real numbers: where everything it reads is real, each of its vectors is the real gradient's.
-/
module

public import proofs.«01_k».proof.Proof.Scan.Head
public import proofs.«01_k».proof.Proof.Scan.Math
public import proofs.«01_k».proof.Proof.Scan.Coe

@[expose] public section

set_option maxRecDepth 16384

noncomputable section

open Idealize.ShloMosaic Idealize.ShloMosaic.TcCoe Idealize.SL.Sem

namespace Cert.SsdIdeal.Scan

open Cert.SsdIdeal Cert.SsdIdeal.Gen Cert.Scan

namespace Head

/-- The head's vectors hold what one head of one chunk is given. -/
structure Of (v : Head) (D : Args) (G : Fin 4) (K : Fin 8) (C : Fin 32) : Prop where
  b : ∀ l n, v.b (ix2 l n) = ((D.b G C l n : ℝ) : EReal)
  c : ∀ l n, v.c (ix2 l n) = ((D.c G C l n : ℝ) : EReal)
  a : ∀ l s, v.a (ix2 l s) = ((D.a G K C l : ℝ) : EReal)
  dt : ∀ l s, v.dt (ix2 l s) = ((D.dt G K C l : ℝ) : EReal)
  ar : ∀ s, v.ar (ix2 0 s) = ((D.a G K C s : ℝ) : EReal)
  x : ∀ l p, v.x (ix2 l p) = ((D.x G K C l p : ℝ) : EReal)
  g : ∀ l p, v.g (ix2 l p) = ((D.dy G K C l p : ℝ) : EReal)
  h : ∀ n p, v.h (ix2 n p) = ((D.hp G K C n p : ℝ) : EReal)
  dh : ∀ n p, v.dh (ix2 n p) = ((D.dh G K C n p : ℝ) : EReal)
  sk : v.sk (ix2 0 0) = ((D.skip G K : ℝ) : EReal)

variable {v : Head} {D : Args} {g : Fin 4} {k : Fin 8} {c : Fin 32} (V : v.Of D g k c)
include V

theorem lm_at (l s : Fin 128) : v.lm (ix2 l s) = ((D.lm g k c l s : ℝ) : EReal) := by
  pointwise [lm, V.a, V.ar]
  rw [mask_ge (by decide), ← EReal.coe_sub]
  exact (congrArg _ (by rw [negInf])).trans (exp_ite _ _)

theorem lmt_at (l s : Fin 128) : v.lmt (ix2 l s) = ((D.lm g k c s l : ℝ) : EReal) := by
  pointwise [lmt, V.a, V.ar]
  rw [mask_le (by decide), ← EReal.coe_sub]
  exact (congrArg _ (by rw [negInf])).trans (exp_ite _ _)

theorem al_at (s : Fin 128) : v.al (ix2 0 s) = ((D.last g k c : ℝ) : EReal) := by
  pointwise [al, V.a]
  rfl

theorem xdt_at (l : Fin 128) (p : Fin 64) : v.xdt (ix2 l p) = ((D.xdt g k c l p : ℝ) : EReal) := by
  pointwise [xdt, V.x, V.dt]
  rfl

theorem e_at (l s : Fin 128) : v.e (ix2 l s) = ((D.e g k c l : ℝ) : EReal) := by
  pointwise [e, V.a]
  exact Ideal.exp_coe _

theorem dte_at (l s : Fin 128) : v.dte (ix2 l s) = ((D.dte g k c l : ℝ) : EReal) := by
  pointwise [dte, V.a, al_at V]
  rw [← EReal.coe_sub]
  exact Ideal.exp_coe _

theorem el_at (s : Fin 128) : v.el (ix2 0 s) = ((Real.exp (D.last g k c) : ℝ) : EReal) := by
  pointwise [el, al_at V]
  exact Ideal.exp_coe _

theorem cb_at (l s : Fin 128) : v.cb (ix2 l s) = ((D.cb g c l s : ℝ) : EReal) := by
  pointwise [cb, V.c, V.b]
  simp only [← EReal.coe_mul, coe_sum]
  rfl

theorem cbt_at (l s : Fin 128) : v.cbt (ix2 l s) = ((D.cb g c s l : ℝ) : EReal) := by
  pointwise [cbt, V.c, V.b]
  simp only [← EReal.coe_mul, coe_sum, mul_comm (D.b g c l _)]
  rfl

theorem dcb_at (l s : Fin 128) : v.dcb (ix2 l s) = ((D.gx g k c l s * D.lm g k c l s : ℝ) : EReal) := by
  pointwise [dcb, V.g, xdt_at V, lm_at V]
  simp only [← EReal.coe_mul, coe_sum]
  rfl

theorem dcbt_at (l s : Fin 128) : v.dcbt (ix2 l s) = ((D.gx g k c s l * D.lm g k c s l : ℝ) : EReal) := by
  pointwise [dcbt, V.g, xdt_at V, lmt_at V]
  simp only [← EReal.coe_mul, coe_sum, mul_comm (D.xdt g k c l _)]
  rfl

theorem dseg_at (l s : Fin 128) : v.dseg (ix2 l s) = ((D.dseg g k c l s : ℝ) : EReal) := by
  pointwise [dseg, dcb_at V, cb_at V]
  rfl

theorem ch_at (l : Fin 128) (p : Fin 64) : v.ch (ix2 l p) = ((D.ch g k c l p : ℝ) : EReal) := by
  pointwise [ch, V.c, V.h]
  simp only [← EReal.coe_mul, coe_sum]
  rfl

theorem bdh_at (l : Fin 128) (p : Fin 64) : v.bdh (ix2 l p) = ((D.bdh g k c l p : ℝ) : EReal) := by
  pointwise [bdh, V.b, V.dh]
  simp only [← EReal.coe_mul, coe_sum]
  rfl

theorem dxdt_at (l : Fin 128) (p : Fin 64) : v.dxdt (ix2 l p) = ((D.dxdt g k c l p : ℝ) : EReal) := by
  pointwise [dxdt, cbt_at V, lmt_at V, V.g, dte_at V, bdh_at V]
  simp only [← EReal.coe_mul, coe_sum, ← EReal.coe_add]
  rfl

theorem dc_at (l n : Fin 128) : v.dc (ix2 l n) = ((D.dc1 g k c l n : ℝ) : EReal) := by
  pointwise [dc, dcb_at V, V.b, e_at V, V.g, V.h]
  simp only [← EReal.coe_mul, coe_sum, ← EReal.coe_add]
  rfl

theorem db_at (l n : Fin 128) : v.db (ix2 l n) = ((D.db1 g k c l n : ℝ) : EReal) := by
  pointwise [db, dcbt_at V, V.c, xdt_at V, dte_at V, V.dh]
  simp only [← EReal.coe_mul, coe_sum, ← EReal.coe_add]
  rfl

theorem dE_at (l : Fin 128) : v.dE (ix2 l 0) = ((∑ p : Fin 64, D.dy g k c l p * D.ch g k c l p : ℝ) : EReal) := by
  pointwise [dE, V.g, ch_at V]
  simp only [← EReal.coe_mul, coe_sum]

theorem dDte_at (l : Fin 128) : v.dDte (ix2 l 0) = ((∑ p : Fin 64, D.xdt g k c l p * D.bdh g k c l p : ℝ) : EReal) := by
  pointwise [dDte, xdt_at V, bdh_at V]
  simp only [← EReal.coe_mul, coe_sum]

theorem dLast_at : v.dLast (ix2 0 0) = (((∑ s : Fin 128, D.dend g k c s) + D.through g k c : ℝ) : EReal) := by
  pointwise [dLast, dDte_at V, dte_at V, V.h, V.dh, el_at V]
  simp only [Fin.sum_univ_one, ← EReal.coe_mul, coe_sum, ← EReal.coe_add]
  rfl

theorem dac_at (l : Fin 128) : v.dac (ix2 l 0) = ((D.dacOwn g k c l : ℝ) : EReal) := by
  pointwise [dac, dseg_at V, dE_at V, e_at V, dDte_at V, dte_at V, dLast_at V]
  have end_at (y : EReal) : Scalar.select (IntOp.cmpi .eq (BitVec.ofNat 32 l.val) 127#32) y 0 = if l = 127 then y else 0 := mask_eq (by decide) l 127 y 0
  rw [end_at, coe_zero, coe_ite]
  simp only [← EReal.coe_mul, coe_sum, ← EReal.coe_add, ← EReal.coe_sub]
  rfl

theorem dacr_at (s : Fin 128) : v.dacr (ix3 0 0 s) = ((-∑ l : Fin 128, D.dseg g k c l s : ℝ) : EReal) := by
  pointwise [dacr, dseg_at V]
  rw [coe_sum, zero_sub, EReal.coe_neg]

theorem dx_at (l : Fin 128) (p : Fin 64) : v.dx (ix3 0 l p) = ((D.dx g k c l p : ℝ) : EReal) := by
  pointwise [dx, dxdt_at V, V.dt, V.sk, V.g]
  simp only [← EReal.coe_mul, ← EReal.coe_add]
  rfl

theorem dskip_at (o : FVec Ideal S1x1 .f32) (r : ℝ) (h : o (ix2 0 0) = (r : EReal)) :
    v.dskip o (ix3 0 0 0) = ((r + D.dskip1 g k c : ℝ) : EReal) := by
  pointwise [dskip, V.g, V.x, h]
  simp only [← EReal.coe_mul, coe_sum, ← EReal.coe_add]
  rfl

theorem ddt_at (l : Fin 128) : v.ddt (ix2 l 0) = ((D.ddt g k c l : ℝ) : EReal) := by
  pointwise [ddt, dxdt_at V, V.x]
  simp only [← EReal.coe_mul, coe_sum]
  rfl

theorem next_at (n : Fin 128) (p : Fin 64) : v.next (ix3 0 n p) = ((D.next g k c n p : ℝ) : EReal) := by
  pointwise [next, el_at V, V.dh, V.c, e_at V, V.g]
  simp only [← EReal.coe_mul, coe_sum, ← EReal.coe_add]
  rfl

end Head

end Cert.SsdIdeal.Scan

end
-- ==== Proof.Scan.Match.lean ====
/-
  What one step of the scan gradient's kernel stores is the heads' work on the blocks it reads.
-/
module

public import proofs.«01_k».proof.Proof.Gen.SsdIdeal.Frame
public import proofs.«01_k».proof.Proof.Scan.Head

@[expose] public section

set_option maxRecDepth 16384

noncomputable section

open Idealize.ShloMosaic Idealize.ShloMosaic.TcCoe Idealize.SL.Sem
open Idealize.ShloMosaic.Pipeline (Dat)

namespace Cert.SsdIdeal.Scan

open Cert.SsdIdeal Cert.SsdIdeal.Gen

variable (m : (ℓ : Loc nD τ sig) → Buf (Elt Ideal) ℓ)

/-- What step `t` reads, with `dh` the carried gradients. -/
def blocks (c : Dev nD) (t : Fin cfg0.N) (dh : Vec Ideal S8x128x64 .f32) : Blocks where
  x := iblk m c 0 t
  dt := iblk m c 1 t
  a := iblk m c 2 t
  ar := iblk m c 3 t
  b := iblk m c 4 t
  c := iblk m c 5 t
  sk := iblk m c 6 t
  hp := iblk m c 7 t
  dy := iblk m c 8 t
  dh := dh

/-- Eight arrays of one shape, stacked. -/
def stack {p q : ℕ} (G : Fin 8 → (⟨3, ![1, p, q]⟩ : Shape).Idx → Elt Ideal .f32) : (⟨3, ![8, p, q]⟩ : Shape).Idx → Elt Ideal .f32 :=
  fun y => G (y 0) (ix3 0 (y 1) (y 2))

/-- A head's share of a stack is its place there. -/
theorem share {p q : ℕ} (G : Fin 8 → (⟨3, ![1, p, q]⟩ : Shape).Idx → Elt Ideal .f32) (j : Fin 8) (w : (⟨3, ![1, p, q]⟩ : Shape).Idx → Elt Ideal .f32)
    (hw : w = G j) (inb) (x : (Rect.unit (s := ⟨3, ![8, p, q]⟩) ![j.val, 0, 0] ![1, p, q] inb).shape.Idx) :
    w x = stack G ((Rect.unit (s := ⟨3, ![8, p, q]⟩) ![j.val, 0, 0] ![1, p, q] inb).emb x) := by
  subst hw
  have h0 : (Rect.unit (s := ⟨3, ![8, p, q]⟩) ![j.val, 0, 0] ![1, p, q] inb).emb x 0 = j := by
    apply Fin.ext
    rw [Rect.emb_apply]
    have : (x 0 : ℕ) < 1 := (x 0).isLt
    show j.val + 1 * (x 0 : ℕ) = j.val
    omega
  have hx : (ix3 0 ((Rect.unit (s := ⟨3, ![8, p, q]⟩) ![j.val, 0, 0] ![1, p, q] inb).emb x 1) ((Rect.unit (s := ⟨3, ![8, p, q]⟩) ![j.val, 0, 0] ![1, p, q] inb).emb x 2)
      : (⟨3, ![1, p, q]⟩ : Shape).Idx) = x := by
    funext a
    match a with
    | 0 => apply Fin.ext; have : (x 0 : ℕ) < 1 := (x 0).isLt; show 0 = (x 0 : ℕ); omega
    | 1 => apply Fin.ext; show 0 + 1 * (x 1 : ℕ) = (x 1 : ℕ); omega
    | 2 => apply Fin.ext; show 0 + 1 * (x 2 : ℕ) = (x 2 : ℕ); omega
  rw [stack, h0, hx]

/-- Eight stores, head by head, leave the stack of what they store. -/
theorem stacked {p q : ℕ} (G : Fin 8 → (⟨3, ![1, p, q]⟩ : Shape).Idx → Elt Ideal .f32) {w0 w1 w2 w3 w4 w5 w6 w7 : (⟨3, ![1, p, q]⟩ : Shape).Idx → Elt Ideal .f32}
    {i0 i1 i2 i3 i4 i5 i6 i7} (L : List (View.Piece (Elt Ideal) (⟨3, ![8, p, q]⟩ : Shape) .f32)) (y : (⟨3, ![8, p, q]⟩ : Shape).Idx)
    (h7 : w7 = G 7) (h6 : w6 = G 6) (h5 : w5 = G 5) (h4 : w4 = G 4) (h3 : w3 = G 3) (h2 : w2 = G 2) (h1 : w1 = G 1) (h0 : w0 = G 0)
    (hc : ∃ r ∈ ([⟨Rect.unit ![7, 0, 0] ![1, p, q] i7, w7⟩, ⟨Rect.unit ![6, 0, 0] ![1, p, q] i6, w6⟩, ⟨Rect.unit ![5, 0, 0] ![1, p, q] i5, w5⟩, ⟨Rect.unit ![4, 0, 0] ![1, p, q] i4, w4⟩, ⟨Rect.unit ![3, 0, 0] ![1, p, q] i3, w3⟩, ⟨Rect.unit ![2, 0, 0] ![1, p, q] i2, w2⟩, ⟨Rect.unit ![1, 0, 0] ![1, p, q] i1, w1⟩, ⟨Rect.unit ![0, 0, 0] ![1, p, q] i0, w0⟩] : List (View.Piece (Elt Ideal) (⟨3, ![8, p, q]⟩ : Shape) .f32)), y ∈ r.1.set) :
    View.canon ([⟨Rect.unit ![7, 0, 0] ![1, p, q] i7, w7⟩, ⟨Rect.unit ![6, 0, 0] ![1, p, q] i6, w6⟩, ⟨Rect.unit ![5, 0, 0] ![1, p, q] i5, w5⟩, ⟨Rect.unit ![4, 0, 0] ![1, p, q] i4, w4⟩, ⟨Rect.unit ![3, 0, 0] ![1, p, q] i3, w3⟩, ⟨Rect.unit ![2, 0, 0] ![1, p, q] i2, w2⟩, ⟨Rect.unit ![1, 0, 0] ![1, p, q] i1, w1⟩, ⟨Rect.unit ![0, 0, 0] ![1, p, q] i0, w0⟩] ++ L : List (View.Piece (Elt Ideal) (⟨3, ![8, p, q]⟩ : Shape) .f32)) y = stack G y :=
  View.canon_append_of_piecesOf (stack G) L [⟨Rect.unit ![7, 0, 0] ![1, p, q] i7, w7⟩, ⟨Rect.unit ![6, 0, 0] ![1, p, q] i6, w6⟩, ⟨Rect.unit ![5, 0, 0] ![1, p, q] i5, w5⟩, ⟨Rect.unit ![4, 0, 0] ![1, p, q] i4, w4⟩, ⟨Rect.unit ![3, 0, 0] ![1, p, q] i3, w3⟩, ⟨Rect.unit ![2, 0, 0] ![1, p, q] i2, w2⟩, ⟨Rect.unit ![1, 0, 0] ![1, p, q] i1, w1⟩, ⟨Rect.unit ![0, 0, 0] ![1, p, q] i0, w0⟩] ⟨share G 7 w7 h7 i7, share G 6 w6 h6 i6, share G 5 w5 h5 i5, share G 4 w4 h4 i4, share G 3 w3 h3 i3, share G 2 w2 h2 i2, share G 1 w1 h1 i1, share G 0 w0 h0 i0, trivial⟩ y hc

/-- A head's skip gradient, added to `o`. -/
def Blocks.skip (X : Blocks) (o : Vec Ideal S8x1x1 .f32) (k : Fin 8) : FVec Ideal S1x1x1 .f32 :=
  (X.H k).dskip (shapeCast S1x1 (View.ld o (Rect.unit ![k.val, 0, 0] ![1, 1, 1] (fits k).one)) shapeCasts_S1x1x1_S1x1)

/-- What a step leaves in the seven results and in the carried gradients, `o` being the skip's gradient before it. -/
def Blocks.out (X : Blocks) (o : Vec Ideal S8x1x1 .f32) : Vec Ideal S8x128x64 .f32 × Vec Ideal S1x128x8 .f32 × Vec Ideal S1x128x8 .f32 × Vec Ideal S8x1x128 .f32
    × Vec Ideal S1x128x128 .f32 × Vec Ideal S1x128x128 .f32 × Vec Ideal S8x1x1 .f32 × Vec Ideal S8x128x64 .f32 :=
  (stack fun k => (X.H k).dx, X.ddtAll, X.dacAll, stack fun k => (X.H k).dacr, X.dbAll, X.dcAll,
    stack (X.skip o), stack fun k => (X.H k).next)

set_option maxHeartbeats 4000000 in
/-- A step that isn't the last chunk's, over what the step before left. -/
theorem out_B (c : Dev nD) (t : Fin cfg0.N) (h : ¬ t.val % 32 = 0) : outsAt0 m c t.val t.isLt
    = (blocks m c t (outsAt0 m c (t.val - 1) (by omega)).2.2.2.2.2.2.2).out (outsAt0 m c (t.val - 1) (by omega)).2.2.2.2.2.2.1 := by
  rw [outsAt0_B m c t h, blocks]
  generalize (outsAt0 m c (t.val - 1) _).2.2.2.2.2.2.2 = H
  generalize (outsAt0 m c (t.val - 1) _).2.2.2.2.2.2.1 = O
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  refine Prod.ext (funext fun y => ?_) (Prod.ext (funext fun y => ?_) (Prod.ext (funext fun y => ?_) (Prod.ext (funext fun y => ?_) (Prod.ext (funext fun y => ?_)
    (Prod.ext (funext fun y => ?_) (Prod.ext (funext fun y => ?_) (funext fun y => ?_)))))))
  · frame_out
    try simp only [↓read_unread_whole]
    exact stacked (fun k => ((Blocks.mk X0 X1 X2 X3 X4 X5 X6 X7 X8 H).H k).dx) [] y rfl rfl rfl rfl rfl rfl rfl rfl (View.cover_of_tiled_head _ _ _ rfl y)
  · frame_out
    try simp only [↓read_unread_whole]
    rfl
  · frame_out
    try simp only [↓read_unread_whole]
    rfl
  · frame_out
    try simp only [↓read_unread_whole]
    exact stacked (fun k => ((Blocks.mk X0 X1 X2 X3 X4 X5 X6 X7 X8 H).H k).dacr) [] y rfl rfl rfl rfl rfl rfl rfl rfl (View.cover_of_tiled_head _ _ _ rfl y)
  · frame_out
    try simp only [↓read_unread_whole]
    rfl
  · frame_out
    try simp only [↓read_unread_whole]
    rfl
  · frame_out
    try simp only [↓read_unread_whole]
    exact stacked ((Blocks.mk X0 X1 X2 X3 X4 X5 X6 X7 X8 H).skip O) [] y rfl rfl rfl rfl rfl rfl rfl rfl (View.cover_of_tiled_head _ _ _ rfl y)
  · frame_out
    try simp only [↓read_unread_whole]
    exact stacked (fun k => ((Blocks.mk X0 X1 X2 X3 X4 X5 X6 X7 X8 H).H k).next) [] y rfl rfl rfl rfl rfl rfl rfl rfl (View.cover_of_tiled_head _ _ _ rfl y)

set_option maxHeartbeats 4000000 in
/-- The step of a group's last chunk, over zeros. -/
theorem out_A (c : Dev nD) (t : Fin cfg0.N) (h : t.val % 32 = 0) : outsAt0 m c t.val t.isLt = (blocks m c t (k0_pay2 : FVec Ideal S8x128x64 .f32)).out (k0_pay3 : FVec Ideal S8x1x1 .f32) := by
  rw [outsAt0_A m c t h, blocks]
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  refine Prod.ext (funext fun y => ?_) (Prod.ext (funext fun y => ?_) (Prod.ext (funext fun y => ?_) (Prod.ext (funext fun y => ?_) (Prod.ext (funext fun y => ?_)
    (Prod.ext (funext fun y => ?_) (Prod.ext (funext fun y => ?_) (funext fun y => ?_)))))))
  · frame_out
    try simp (disch := decide) only [↓View.readCov_skip, ↓View.readCov_fill]
    generalize k0_pay2 (F := Ideal) = H
    generalize k0_pay3 (F := Ideal) = O
    exact stacked (fun k => ((Blocks.mk X0 X1 X2 X3 X4 X5 X6 X7 X8 H).H k).dx) [] y rfl rfl rfl rfl rfl rfl rfl rfl (View.cover_of_tiled_head _ _ _ rfl y)
  · frame_out
    try simp (disch := decide) only [↓View.readCov_skip, ↓View.readCov_fill]
    generalize k0_pay2 (F := Ideal) = H
    generalize k0_pay3 (F := Ideal) = O
    rfl
  · frame_out
    try simp (disch := decide) only [↓View.readCov_skip, ↓View.readCov_fill]
    generalize k0_pay2 (F := Ideal) = H
    generalize k0_pay3 (F := Ideal) = O
    rfl
  · frame_out
    try simp (disch := decide) only [↓View.readCov_skip, ↓View.readCov_fill]
    generalize k0_pay2 (F := Ideal) = H
    generalize k0_pay3 (F := Ideal) = O
    exact stacked (fun k => ((Blocks.mk X0 X1 X2 X3 X4 X5 X6 X7 X8 H).H k).dacr) [] y rfl rfl rfl rfl rfl rfl rfl rfl (View.cover_of_tiled_head _ _ _ rfl y)
  · frame_out
    try simp (disch := decide) only [↓View.readCov_skip, ↓View.readCov_fill]
    generalize k0_pay2 (F := Ideal) = H
    generalize k0_pay3 (F := Ideal) = O
    rfl
  · frame_out
    try simp (disch := decide) only [↓View.readCov_skip, ↓View.readCov_fill]
    generalize k0_pay2 (F := Ideal) = H
    generalize k0_pay3 (F := Ideal) = O
    rfl
  · frame_out
    try simp (disch := decide) only [↓View.readCov_skip, ↓View.readCov_fill]
    generalize k0_pay2 (F := Ideal) = H
    generalize k0_pay3 (F := Ideal) = O
    exact stacked ((Blocks.mk X0 X1 X2 X3 X4 X5 X6 X7 X8 H).skip O) [⟨_, _⟩] y rfl rfl rfl rfl rfl rfl rfl rfl (View.cover_of_tiled_head _ _ _ rfl y)
  · frame_out
    try simp (disch := decide) only [↓View.readCov_skip, ↓View.readCov_fill]
    generalize k0_pay2 (F := Ideal) = H
    generalize k0_pay3 (F := Ideal) = O
    exact stacked (fun k => ((Blocks.mk X0 X1 X2 X3 X4 X5 X6 X7 X8 H).H k).next) [⟨_, _⟩] y rfl rfl rfl rfl rfl rfl rfl rfl (View.cover_of_tiled_head _ _ _ rfl y)

end Cert.SsdIdeal.Scan

end
-- ==== Proof.Scan.BlocksReal.lean ====
/-
  One step's work over real numbers: where the blocks it reads are real, so is all it stores.
-/
module

public import proofs.«01_k».proof.Proof.Scan.HeadReal
public import proofs.«01_k».proof.Proof.Scan.Match

@[expose] public section

set_option maxRecDepth 16384

noncomputable section

open Idealize.ShloMosaic Idealize.ShloMosaic.TcCoe Idealize.SL.Sem

namespace Cert.SsdIdeal.Scan

open Cert.SsdIdeal Cert.SsdIdeal.Gen Cert.Scan

/-- A head's part of a block of eight, at a place of it. -/
theorem ld_head {p q : ℕ} (X : (⟨3, ![8, p, q]⟩ : Shape).Idx → Elt Ideal .f32) (k : Fin 8) (inb) (y : Fin p) (z : Fin q) :
    (View.ld (Val := Elt Ideal) (e' := .f32) X (Rect.unit (s := ⟨3, ![8, p, q]⟩) ![k.val, 0, 0] ![1, p, q] inb) : (⟨3, ![1, p, q]⟩ : Shape).Idx → Elt Ideal .f32) (ix3 0 y z) = X (ix3 k y z) := by
  refine congrArg X (funext fun a => ?_)
  match a with
  | 0 => apply Fin.ext; show k.val + 1 * 0 = k.val; omega
  | 1 => apply Fin.ext; show 0 + 1 * y.val = y.val; omega
  | 2 => apply Fin.ext; show 0 + 1 * z.val = z.val; omega

theorem ld_state {p q : ℕ} (X : (⟨4, ![8, 1, p, q]⟩ : Shape).Idx → Elt Ideal .f32) (k : Fin 8) (inb) (y : Fin p) (z : Fin q) :
    (View.ld (Val := Elt Ideal) (e' := .f32) X (Rect.unit (s := ⟨4, ![8, 1, p, q]⟩) ![k.val, 0, 0, 0] ![1, 1, p, q] inb) : (⟨4, ![1, 1, p, q]⟩ : Shape).Idx → Elt Ideal .f32) (ix4 0 0 y z) = X (ix4 k 0 y z) := by
  refine congrArg X (funext fun a => ?_)
  match a with
  | 0 => apply Fin.ext; show k.val + 1 * 0 = k.val; omega
  | 1 => apply Fin.ext; show 0 + 1 * 0 = 0; omega
  | 2 => apply Fin.ext; show 0 + 1 * y.val = y.val; omega
  | 3 => apply Fin.ext; show 0 + 1 * z.val = z.val; omega

/-- An array of one block is its rows. -/
theorem rows_x (w : FVec Ideal S1x128x64 .f32) (y : Fin 128) (z : Fin 64) : shapeCast S128x64 w shapeCasts_S1x128x64_S128x64 (ix2 y z) = w (ix3 0 y z) := by
  pointwise

theorem rows_row (w : FVec Ideal S1x1x128 .f32) (z : Fin 128) : shapeCast S1x128 w shapeCasts_S1x1x128_S1x128 (ix2 0 z) = w (ix3 0 0 z) := by
  pointwise

theorem rows_one (w : FVec Ideal S1x1x1 .f32) : shapeCast S1x1 w shapeCasts_S1x1x1_S1x1 (ix2 0 0) = w (ix3 0 0 0) := by
  pointwise

theorem rows_state (w : FVec Ideal S1x1x128x64 .f32) (y : Fin 128) (z : Fin 64) :
    shapeCast S128x64 w shapeCasts_S1x1x128x64_S128x64 (ix2 y z) = w (ix4 0 0 y z) := by
  pointwise

namespace Blocks

/-- The blocks hold what one chunk of a group's eight heads is given. -/
structure Of (X : Blocks) (D : Args) (G : Fin 4) (C : Fin 32) : Prop where
  x : ∀ k l p, X.x (ix3 k l p) = ((D.x G k C l p : ℝ) : EReal)
  dt : ∀ k l, X.dt (ix3 0 l k) = ((D.dt G k C l : ℝ) : EReal)
  a : ∀ k l, X.a (ix3 0 l k) = ((D.a G k C l : ℝ) : EReal)
  ar : ∀ k s, X.ar (ix3 k 0 s) = ((D.a G k C s : ℝ) : EReal)
  b : ∀ l n, X.b (ix3 0 l n) = ((D.b G C l n : ℝ) : EReal)
  c : ∀ l n, X.c (ix3 0 l n) = ((D.c G C l n : ℝ) : EReal)
  sk : ∀ k, X.sk (ix3 k 0 0) = ((D.skip G k : ℝ) : EReal)
  hp : ∀ k n p, X.hp (ix4 k 0 n p) = ((D.hp G k C n p : ℝ) : EReal)
  dy : ∀ k l p, X.dy (ix3 k l p) = ((D.dy G k C l p : ℝ) : EReal)
  dh : ∀ k n p, X.dh (ix3 k n p) = ((D.dh G k C n p : ℝ) : EReal)

variable {X : Blocks} {D : Args} {g : Fin 4} {c : Fin 32} (V : X.Of D g c)
include V

theorem head_of (k : Fin 8) : (X.H k).Of D g k c := by
  constructor
  · intro l n
    pointwise [H, head, V.b]
  · intro l n
    pointwise [H, head, V.c]
  · intro l s
    pointwise [H, head, col, V.a]
  · intro l s
    pointwise [H, head, col, V.dt]
  · exact fun s => (rows_row _ s).trans ((ld_head X.ar k _ 0 s).trans (V.ar k s))
  · exact fun l p => (rows_x _ l p).trans ((ld_head X.x k _ l p).trans (V.x k l p))
  · exact fun l p => (rows_x _ l p).trans ((ld_head X.dy k _ l p).trans (V.dy k l p))
  · exact fun n p => (rows_state _ n p).trans ((ld_state X.hp k _ n p).trans (V.hp k n p))
  · exact fun n p => (rows_x _ n p).trans ((ld_head X.dh k _ n p).trans (V.dh k n p))
  · exact (rows_one _).trans ((ld_head X.sk k _ 0 0).trans (V.sk k))

theorem dcAll_at (l n : Fin 128) : X.dcAll (ix3 0 l n) = ((∑ k : Fin 8, D.dc1 g k c l n : ℝ) : EReal) := by
  have at_head (k : Fin 8) : (X.H k).dc (ix2 l n) = ((D.dc1 g k c l n : ℝ) : EReal) := Head.dc_at (head_of V k) l n
  pointwise [dcAll, at_head]
  simp only [← EReal.coe_add, Fin.sum_univ_eight]

theorem dbAll_at (l n : Fin 128) : X.dbAll (ix3 0 l n) = ((∑ k : Fin 8, D.db1 g k c l n : ℝ) : EReal) := by
  have at_head (k : Fin 8) : (X.H k).db (ix2 l n) = ((D.db1 g k c l n : ℝ) : EReal) := Head.db_at (head_of V k) l n
  pointwise [dbAll, at_head]
  simp only [← EReal.coe_add, Fin.sum_univ_eight]

theorem ddtAll_at (l : Fin 128) (k : Fin 8) : X.ddtAll (ix3 0 l k) = ((D.ddt g k c l : ℝ) : EReal) := by
  refine Eq.trans ?_ (Head.ddt_at (head_of V k) l)
  pointwise [ddtAll]
  match k with
  | 0 => rfl
  | 1 => rfl
  | 2 => rfl
  | 3 => rfl
  | 4 => rfl
  | 5 => rfl
  | 6 => rfl
  | 7 => rfl

theorem dacAll_at (l : Fin 128) (k : Fin 8) : X.dacAll (ix3 0 l k) = ((D.dacOwn g k c l : ℝ) : EReal) := by
  refine Eq.trans ?_ (Head.dac_at (head_of V k) l)
  pointwise [dacAll]
  match k with
  | 0 => rfl
  | 1 => rfl
  | 2 => rfl
  | 3 => rfl
  | 4 => rfl
  | 5 => rfl
  | 6 => rfl
  | 7 => rfl

theorem skip_at (o : Vec Ideal S8x1x1 .f32) (r : Fin 8 → ℝ) (h : ∀ k, o (ix3 k 0 0) = ((r k : ℝ) : EReal)) (k : Fin 8) :
    X.skip o k (ix3 0 0 0) = ((r k + D.dskip1 g k c : ℝ) : EReal) :=
  Head.dskip_at (head_of V k) _ (r k) ((rows_one _).trans ((ld_head o k _ 0 0).trans (h k)))

end Blocks

end Cert.SsdIdeal.Scan

end
-- ==== Proof.Scan.Region.lean ====
/-
  What each step of the scan gradient's kernel reads, and so what it stores: the real gradients of one chunk of a group's heads.
-/
module

public import proofs.«01_k».proof.Proof.Scan.Entry
public import proofs.«01_k».proof.Proof.Scan.BlocksReal

@[expose] public section

set_option maxRecDepth 16384

noncomputable section

open Idealize.ShloMosaic Idealize.ShloMosaic.TcCoe Idealize.SL.Sem
open Idealize.ShloMosaic.Pipeline (Dat)

namespace Cert.SsdIdeal.Scan

open Cert.SsdIdeal Cert.SsdIdeal.Gen Cert.Scan

/-- The group and the chunk of a step: the chunks are taken from the last to the first. -/
def gr (t : Fin cfg0.N) : Fin 4 := ⟨t.val / 32, by have : t.val < 128 := lt_of_lt_of_eq t.isLt N_0; omega⟩
def ck (t : Fin cfg0.N) : Fin 32 := ⟨31 - t.val % 32, by omega⟩

/-- Where the blocks of a step lie. -/
theorem place : ∀ t : Fin cfg0.N, win0_0.index t = ![t.val / 32, 31 - t.val % 32, 0] ∧ win0_1.index t = ![t.val / 32, 31 - t.val % 32, 0]
    ∧ win0_2.index t = ![t.val / 32, 31 - t.val % 32, 0] ∧ win0_3.index t = ![t.val / 32, 0, 31 - t.val % 32]
    ∧ win0_4.index t = ![t.val / 32, 31 - t.val % 32, 0] ∧ win0_5.index t = ![t.val / 32, 31 - t.val % 32, 0]
    ∧ win0_6.index t = ![t.val / 32, 0, 0] ∧ win0_7.index t = ![t.val / 32, 31 - t.val % 32, 0, 0] ∧ win0_8.index t = ![t.val / 32, 31 - t.val % 32, 0] :=
  (by decide +kernel : ∀ t : Fin grid0.N, _)

variable {m : (ℓ : Loc nD τ sig) → Buf (Elt Ideal) ℓ} {D : Args} {c : Dev nD} (h : Holds m D c)
include h

set_option maxHeartbeats 1600000 in
/-- What a step reads is one chunk of its group, if the carried gradients are. -/
theorem blocks_of (t : Fin cfg0.N) (dh : Vec Ideal S8x128x64 .f32) (hd : ∀ k n p, dh (ix3 k n p) = ((D.dh (gr t) k (ck t) n p : ℝ) : EReal)) :
    (blocks m c t dh).Of D (gr t) (ck t) where
  x k l p := by
    rw [← h.x]
    blk_point [blocks, iblk, place t, Cert.Scan.hd, pl, gr, ck]
  dt k l := by
    rw [← h.dt]
    blk_point [blocks, iblk, place t, Cert.Scan.hd, pl, gr, ck]
  a k l := by
    rw [← h.a]
    blk_point [blocks, iblk, place t, Cert.Scan.hd, pl, gr, ck]
  ar k s := by
    rw [← row_at h]
    show (V m c main_v41 : Vec Ideal S32x1x4096 .f32) (((cfg0.win 3).blk t).view.emb (ix3 k 0 s)) = _
    generalize (V m c main_v41 : Vec Ideal S32x1x4096 .f32) = W
    blk_ext [place t, Cert.Scan.hd, pl, gr, ck]
  b l n := by
    rw [← h.b]
    blk_point [blocks, iblk, place t, Cert.Scan.hd, pl, gr, ck]
  c l n := by
    rw [← h.c]
    blk_point [blocks, iblk, place t, Cert.Scan.hd, pl, gr, ck]
  sk k := by
    rw [← h.skip]
    blk_point [blocks, iblk, place t, Cert.Scan.hd, pl, gr, ck]
  hp k n p := by
    rw [← state_at h]
    show (V m c main_v39 : Vec Ideal S32x32x128x64 .f32) (((cfg0.win 7).blk t).view.emb (ix4 k 0 n p)) = _
    generalize (V m c main_v39 : Vec Ideal S32x32x128x64 .f32) = W
    blk_ext [place t, Cert.Scan.hd, pl, gr, ck]
  dy k l p := by
    rw [← h.dy]
    blk_point [blocks, iblk, place t, Cert.Scan.hd, pl, gr, ck]
  dh := hd

end Cert.SsdIdeal.Scan

end
-- ==== Proof.Scan.Steps.lean ====
/-
  What the steps of the scan gradient's kernel leave: by induction over the steps, the carried gradients being the recurrence's.
-/
module

public import proofs.«01_k».proof.Proof.Scan.Region

@[expose] public section

set_option maxRecDepth 16384

noncomputable section

open Idealize.ShloMosaic Idealize.ShloMosaic.TcCoe Idealize.SL.Sem
open Idealize.ShloMosaic.Pipeline (Dat)

namespace Cert.SsdIdeal.Scan

open Cert.SsdIdeal Cert.SsdIdeal.Gen Cert.Scan

/-- The results' blocks of one chunk of a group hold the real gradients, the skip's one holding `r`. -/
structure Stored (D : Args) (g : Fin 4) (C : Fin 32) (r : Fin 8 → ℝ) (o : Vec Ideal S8x128x64 .f32 × Vec Ideal S1x128x8 .f32 × Vec Ideal S1x128x8 .f32
    × Vec Ideal S8x1x128 .f32 × Vec Ideal S1x128x128 .f32 × Vec Ideal S1x128x128 .f32 × Vec Ideal S8x1x1 .f32 × Vec Ideal S8x128x64 .f32) : Prop where
  dx : ∀ k l p, o.1 (ix3 k l p) = ((D.dx g k C l p : ℝ) : EReal)
  ddt : ∀ k l, o.2.1 (ix3 0 l k) = ((D.ddt g k C l : ℝ) : EReal)
  dac : ∀ k l, o.2.2.1 (ix3 0 l k) = ((D.dacOwn g k C l : ℝ) : EReal)
  dacr : ∀ k s, o.2.2.2.1 (ix3 k 0 s) = ((-∑ l, D.dseg g k C l s : ℝ) : EReal)
  db : ∀ l n, o.2.2.2.2.1 (ix3 0 l n) = ((∑ k, D.db1 g k C l n : ℝ) : EReal)
  dc : ∀ l n, o.2.2.2.2.2.1 (ix3 0 l n) = ((∑ k, D.dc1 g k C l n : ℝ) : EReal)
  skip : ∀ k, o.2.2.2.2.2.2.1 (ix3 k 0 0) = ((r k : ℝ) : EReal)
  next : ∀ k n p, o.2.2.2.2.2.2.2 (ix3 k n p) = ((D.next g k C n p : ℝ) : EReal)

/-- A step stores the gradients of what it reads. -/
theorem out_stored {X : Blocks} {D : Args} {g : Fin 4} {C : Fin 32} (V : X.Of D g C) (o : Vec Ideal S8x1x1 .f32) (r : Fin 8 → ℝ)
    (h : ∀ k, o (ix3 k 0 0) = ((r k : ℝ) : EReal)) : Stored D g C (fun k => r k + D.dskip1 g k C) (X.out o) where
  dx k l p := Head.dx_at (Blocks.head_of V k) l p
  ddt k l := Blocks.ddtAll_at V l k
  dac k l := Blocks.dacAll_at V l k
  dacr k s := Head.dacr_at (Blocks.head_of V k) s
  db l n := Blocks.dbAll_at V l n
  dc l n := Blocks.dcAll_at V l n
  skip k := Blocks.skip_at V o r h k
  next k n p := Head.next_at (Blocks.head_of V k) n p

/-- The skip's gradient of the chunks from `C` on. -/
def skipFrom (D : Args) (g : Fin 4) (C : Fin 32) (k : Fin 8) : ℝ := ∑ c' : Fin 32, if C ≤ c' then D.dskip1 g k c' else 0

theorem skipFrom_last (D : Args) (g : Fin 4) (k : Fin 8) : skipFrom D g 31 k = 0 + D.dskip1 g k 31 := by
  have (c' : Fin 32) : (31 : Fin 32) ≤ c' ↔ c' = 31 := by rw [Fin.le_def, Fin.ext_iff]; show 31 ≤ c'.val ↔ c'.val = 31; omega
  simp [skipFrom, this]

theorem skipFrom_step (D : Args) (g : Fin 4) (C C' : Fin 32) (h : C.val + 1 = C'.val) (k : Fin 8) : skipFrom D g C k = skipFrom D g C' k + D.dskip1 g k C := by
  have (c' : Fin 32) : (if C ≤ c' then D.dskip1 g k c' else 0) = (if C' ≤ c' then D.dskip1 g k c' else 0) + if c' = C then D.dskip1 g k c' else 0 := by
    by_cases e : c' = C
    · subst e
      have : ¬ C' ≤ c' := by rw [Fin.le_def]; omega
      simp [this]
    · have : C ≤ c' ↔ C' ≤ c' := by
        have : c'.val ≠ C.val := fun i => e (Fin.ext i)
        simp only [Fin.le_def]; omega
      simp [e, this]
  simp only [skipFrom, this, Finset.sum_add_distrib, Finset.sum_ite_eq', Finset.mem_univ, if_true]

theorem skipFrom_first (D : Args) (g : Fin 4) (k : Fin 8) : skipFrom D g 0 k = ∑ c', D.dskip1 g k c' := by
  simp [skipFrom]

/-- What the first step of a group starts from: nothing. -/
theorem fresh_state (k : Fin 8) (n : Fin 128) (p : Fin 64) : (k0_pay2 : FVec Ideal S8x128x64 .f32) (ix3 k n p) = 0 := by
  pointwise [k0_pay2]
theorem fresh_skip (k : Fin 8) : (k0_pay3 : FVec Ideal S8x1x1 .f32) (ix3 k 0 0) = 0 := by
  pointwise [k0_pay3]

variable {m : (ℓ : Loc nD τ sig) → Buf (Elt Ideal) ℓ} {D : Args} {c : Dev nD} (h : Holds m D c)
include h

theorem stored_first (t : Fin cfg0.N) (ht : t.val % 32 = 0) : Stored D (gr t) (ck t) (skipFrom D (gr t) (ck t)) (outsAt0 m c t.val t.isLt) := by
  have hc : ck t = 31 := Fin.ext (by show 31 - t.val % 32 = 31; omega)
  rw [out_A m c t ht]
  have := out_stored (blocks_of h t (k0_pay2 : FVec Ideal S8x128x64 .f32) fun k n p => by rw [hc, D.dh_last]; exact fresh_state k n p)
    (k0_pay3 : FVec Ideal S8x1x1 .f32) (fun _ => 0) fun k => fresh_skip k
  rw [hc] at this ⊢
  rwa [show skipFrom D (gr t) 31 = fun k => 0 + D.dskip1 (gr t) k 31 from funext (skipFrom_last D (gr t))]

theorem stored_later (t : Fin cfg0.N) (ht : ¬ t.val % 32 = 0) (t' : Fin cfg0.N) (e : t'.val = t.val - 1)
    (ih : Stored D (gr t') (ck t') (skipFrom D (gr t') (ck t')) (outsAt0 m c t'.val t'.isLt)) :
    Stored D (gr t) (ck t) (skipFrom D (gr t) (ck t)) (outsAt0 m c t.val t.isLt) := by
  have hg : gr t' = gr t := Fin.ext (by show t'.val / 32 = t.val / 32; omega)
  have hc : (ck t).val + 1 = (ck t').val := by show 31 - t.val % 32 + 1 = 31 - t'.val % 32; omega
  rw [out_B m c t ht]
  obtain ⟨n', hn'⟩ := t'
  obtain rfl : n' = t.val - 1 := e
  rw [hg] at ih
  have := out_stored (blocks_of h t _ fun k n p => by rw [D.dh_step _ _ _ _ hc]; exact ih.next k n p) _ _ ih.skip
  rwa [show skipFrom D (gr t) (ck t) = fun k => skipFrom D (gr t) (ck ⟨t.val - 1, hn'⟩) k + D.dskip1 (gr t) k (ck t) from funext (skipFrom_step D (gr t) _ _ hc)]

/-- Every step stores its chunk's gradients. -/
theorem stored : ∀ (n : ℕ) (hn : n < cfg0.N), Stored D (gr ⟨n, hn⟩) (ck ⟨n, hn⟩) (skipFrom D (gr ⟨n, hn⟩) (ck ⟨n, hn⟩)) (outsAt0 m c n hn)
  | 0, hn => stored_first h ⟨0, hn⟩ rfl
  | n + 1, hn => by
    by_cases h0 : (n + 1) % 32 = 0
    · exact stored_first h ⟨n + 1, hn⟩ h0
    · exact stored_later h ⟨n + 1, hn⟩ h0 ⟨n, by omega⟩ rfl (stored n (by omega))

end Cert.SsdIdeal.Scan

end
-- ==== Proof.Scan.Results.lean ====
/-
  Arrays of real numbers given by group, head, chunk and place, in the layouts that the scan's gradient uses.
-/
module

public import proofs.«01_k».proof.Proof.Scan.Args

@[expose] public section

noncomputable section

open Idealize.ShloMosaic Idealize.ShloMosaic.TcCoe Idealize.SL.Sem

namespace Cert.Scan

/-- The group and the place there of a head, the chunk and the place there of a place. -/
def hdG (i : Fin 32) : Fin 4 := ⟨i.val / 8, by omega⟩
def hdK (i : Fin 32) : Fin 8 := ⟨i.val % 8, by omega⟩
def plC (i : Fin 4096) : Fin 32 := ⟨i.val / 128, by omega⟩
def plL (i : Fin 4096) : Fin 128 := ⟨i.val % 128, by omega⟩

theorem hd_eta (i : Fin 32) : hd (hdG i) (hdK i) = i := by apply Fin.ext; show 8 * (i.val / 8) + i.val % 8 = i.val; omega
theorem pl_eta (i : Fin 4096) : pl (plC i) (plL i) = i := by apply Fin.ext; show 128 * (i.val / 128) + i.val % 128 = i.val; omega
theorem hdG_hd (g : Fin 4) (k : Fin 8) : hdG (hd g k) = g := by apply Fin.ext; show (8 * g.val + k.val) / 8 = g.val; omega
theorem hdK_hd (g : Fin 4) (k : Fin 8) : hdK (hd g k) = k := by apply Fin.ext; show (8 * g.val + k.val) % 8 = k.val; omega
theorem plC_pl (c : Fin 32) (l : Fin 128) : plC (pl c l) = c := by apply Fin.ext; show (128 * c.val + l.val) / 128 = c.val; omega
theorem plL_pl (c : Fin 32) (l : Fin 128) : plL (pl c l) = l := by apply Fin.ext; show (128 * c.val + l.val) % 128 = l.val; omega

theorem pl_div (c : Fin 32) (l : Fin 128) (p : (pl c l).val / 128 < 32) : (⟨(pl c l).val / 128, p⟩ : Fin 32) = c := plC_pl c l
theorem pl_mod (c : Fin 32) (l : Fin 128) (p : (pl c l).val % 128 < 128) : (⟨(pl c l).val % 128, p⟩ : Fin 128) = l := plL_pl c l

/-- All places are the places of the chunks. -/
theorem sum_pl {M : Type} [AddCommMonoid M] (f : Fin 4096 → M) : ∑ i, f i = ∑ c, ∑ l, f (pl c l) := by
  rw [← Fintype.sum_prod_type' fun c l => f (pl c l)]
  exact (Fintype.sum_bijective (fun x : Fin 32 × Fin 128 => pl x.1 x.2)
    ⟨fun x y h => Prod.ext (by have := congrArg plC h; simpa only [plC_pl] using this) (by have := congrArg plL h; simpa only [plL_pl] using this),
      fun i => ⟨(plC i, plL i), pl_eta i⟩⟩ _ _ fun _ => rfl).symm

/-- By head and place, and channel. -/
def byHead (f : Fin 4 → Fin 8 → Fin 32 → Fin 128 → Fin 64 → ℝ) : Arr ⟨3, ![32, 4096, 64]⟩ :=
  fun i => ((f (hdG (i 0)) (hdK (i 0)) (plC (i 1)) (plL (i 1)) (i 2) : ℝ) : EReal)

/-- By group and place, and head. -/
def byStep (f : Fin 4 → Fin 8 → Fin 32 → Fin 128 → ℝ) : Arr ⟨3, ![4, 4096, 8]⟩ :=
  fun i => ((f (i 0) (i 2) (plC (i 1)) (plL (i 1)) : ℝ) : EReal)

/-- By head, and place. -/
def byRow (f : Fin 4 → Fin 8 → Fin 32 → Fin 128 → ℝ) : Arr ⟨3, ![32, 1, 4096]⟩ :=
  fun i => ((f (hdG (i 0)) (hdK (i 0)) (plC (i 2)) (plL (i 2)) : ℝ) : EReal)

/-- By group and place, and coordinate of the state. -/
def byPlace (f : Fin 4 → Fin 32 → Fin 128 → Fin 128 → ℝ) : Arr ⟨3, ![4, 4096, 128]⟩ :=
  fun i => ((f (i 0) (plC (i 1)) (plL (i 1)) (i 2) : ℝ) : EReal)

/-- By head alone. -/
def bySkip (f : Fin 4 → Fin 8 → ℝ) : Arr ⟨3, ![32, 1, 1]⟩ := fun i => ((f (hdG (i 0)) (hdK (i 0)) : ℝ) : EReal)

theorem byHead_at (f) (g k c l p) : byHead f (ix3 (hd g k) (pl c l) p) = ((f g k c l p : ℝ) : EReal) := by
  show ((f (hdG (hd g k)) (hdK (hd g k)) (plC (pl c l)) (plL (pl c l)) p : ℝ) : EReal) = _
  rw [hdG_hd, hdK_hd, plC_pl, plL_pl]

theorem byStep_at (f) (g k c l) : byStep f (ix3 g (pl c l) k) = ((f g k c l : ℝ) : EReal) := by
  show ((f g k (plC (pl c l)) (plL (pl c l)) : ℝ) : EReal) = _
  rw [plC_pl, plL_pl]

theorem byRow_at (f) (g k c l) : byRow f (ix3 (hd g k) 0 (pl c l)) = ((f g k c l : ℝ) : EReal) := by
  show ((f (hdG (hd g k)) (hdK (hd g k)) (plC (pl c l)) (plL (pl c l)) : ℝ) : EReal) = _
  rw [hdG_hd, hdK_hd, plC_pl, plL_pl]

theorem byPlace_at (f) (g c l n) : byPlace f (ix3 g (pl c l) n) = ((f g c l n : ℝ) : EReal) := by
  show ((f g (plC (pl c l)) (plL (pl c l)) n : ℝ) : EReal) = _
  rw [plC_pl, plL_pl]

theorem bySkip_at (f) (g k) : bySkip f (ix3 (hd g k) 0 0) = ((f g k : ℝ) : EReal) := by
  show ((f (hdG (hd g k)) (hdK (hd g k)) : ℝ) : EReal) = _
  rw [hdG_hd, hdK_hd]

/-- An index of an array of three axes, by its coordinates. -/
theorem ix3_eta {a b c : ℕ} (i : (⟨3, ![a, b, c]⟩ : Shape).Idx) : i = ix3 (i 0) (i 1) (i 2) := by
  funext d
  match d with
  | 0 => rfl
  | 1 => rfl
  | 2 => rfl

theorem eq_byHead (X : Arr ⟨3, ![32, 4096, 64]⟩) (f) (h : ∀ g k c l p, X (ix3 (hd g k) (pl c l) p) = ((f g k c l p : ℝ) : EReal)) : X = byHead f := by
  funext i
  obtain ⟨a, b, d, rfl⟩ : ∃ (a : Fin 32) (b : Fin 4096) (d : Fin 64), i = ix3 a b d := ⟨i 0, i 1, i 2, ix3_eta i⟩
  have := h (hdG a) (hdK a) (plC b) (plL b) d
  rw [hd_eta, pl_eta] at this
  exact this

theorem eq_byStep (X : Arr ⟨3, ![4, 4096, 8]⟩) (f) (h : ∀ g k c l, X (ix3 g (pl c l) k) = ((f g k c l : ℝ) : EReal)) : X = byStep f := by
  funext i
  obtain ⟨a, b, d, rfl⟩ : ∃ (a : Fin 4) (b : Fin 4096) (d : Fin 8), i = ix3 a b d := ⟨i 0, i 1, i 2, ix3_eta i⟩
  have := h a d (plC b) (plL b)
  rw [pl_eta] at this
  exact this

theorem eq_byPlace (X : Arr ⟨3, ![4, 4096, 128]⟩) (f) (h : ∀ g c l n, X (ix3 g (pl c l) n) = ((f g c l n : ℝ) : EReal)) : X = byPlace f := by
  funext i
  obtain ⟨a, b, d, rfl⟩ : ∃ (a : Fin 4) (b : Fin 4096) (d : Fin 128), i = ix3 a b d := ⟨i 0, i 1, i 2, ix3_eta i⟩
  have := h a (plC b) (plL b) d
  rw [pl_eta] at this
  exact this

theorem eq_bySkip (X : Arr ⟨3, ![32, 1, 1]⟩) (f) (h : ∀ g k, X (ix3 (hd g k) 0 0) = ((f g k : ℝ) : EReal)) : X = bySkip f := by
  funext i
  obtain ⟨a, b, d, rfl⟩ : ∃ (a : Fin 32) (b : Fin 1) (d : Fin 1), i = ix3 a b d := ⟨i 0, i 1, i 2, ix3_eta i⟩
  have := h (hdG a) (hdK a)
  rw [hd_eta] at this
  have hb : b = 0 := Subsingleton.elim _ _
  have hd : d = 0 := Subsingleton.elim _ _
  subst hb hd
  exact this

end Cert.Scan

end
-- ==== Proof.Scan.Final.lean ====
/-
  The arrays that the scan gradient's kernel leaves: the real gradients.
-/
module

public import proofs.«01_k».proof.Proof.Scan.Steps
public import proofs.«01_k».proof.Proof.Scan.Results

@[expose] public section

set_option maxRecDepth 16384

noncomputable section

open Idealize.ShloMosaic Idealize.ShloMosaic.TcCoe Idealize.SL.Sem
open Idealize.ShloMosaic.Pipeline (Dat)

namespace Cert.SsdIdeal.Scan

open Cert.SsdIdeal Cert.SsdIdeal.Gen Cert.Scan

/-- Where the results' blocks of a step lie. -/
theorem place_out : ∀ t : Fin cfg0.N, win0_9.index t = ![t.val / 32, 31 - t.val % 32, 0] ∧ win0_10.index t = ![t.val / 32, 31 - t.val % 32, 0]
    ∧ win0_11.index t = ![t.val / 32, 31 - t.val % 32, 0] ∧ win0_12.index t = ![t.val / 32, 0, 31 - t.val % 32]
    ∧ win0_13.index t = ![t.val / 32, 31 - t.val % 32, 0] ∧ win0_14.index t = ![t.val / 32, 31 - t.val % 32, 0]
    ∧ win0_15.index t = ![t.val / 32, 0, 0] :=
  (by decide +kernel : ∀ t : Fin grid0.N, _)

variable {m : (ℓ : Loc nD τ sig) → Buf (Elt Ideal) ℓ} {D : Args} {c : Dev nD} (h : Holds m D c)
include h

theorem final_dx : (dats m 0 c).arrAt 9 (cfgs 0).N = byHead D.dx := by
  refine (dats m 0 c).arrAt_eq_of_covers 9 _ (by decide +kernel) fun t hf y => ?_
  obtain ⟨k, l, p, rfl⟩ : ∃ (k : Fin 8) (l : Fin 128) (p : Fin 64), y = ix3 k l p := ⟨y 0, y 1, y 2, ix3_eta y⟩
  refine Eq.trans ?_ ((byHead_at D.dx (gr t) k (ck t) l p).symm.trans (congrArg (byHead D.dx) ?_))
  · blk_simp
    rw [after0_9]
    exact (stored h t.val t.isLt).dx k l p
  · blk_ext [place_out t, Cert.Scan.hd, pl, gr, ck]

theorem final_dacr : (dats m 0 c).arrAt 12 (cfgs 0).N = byRow fun g k C s => -∑ l, D.dseg g k C l s := by
  refine (dats m 0 c).arrAt_eq_of_covers 12 _ (by decide +kernel) fun t hf y => ?_
  obtain ⟨k, l, p, rfl⟩ : ∃ (k : Fin 8) (l : Fin 1) (p : Fin 128), y = ix3 k l p := ⟨y 0, y 1, y 2, ix3_eta y⟩
  obtain rfl : l = 0 := Subsingleton.elim _ _
  refine Eq.trans ?_ ((byRow_at _ (gr t) k (ck t) p).symm.trans (congrArg (byRow _) ?_))
  · blk_simp
    rw [after0_12]
    exact (stored h t.val t.isLt).dacr k p
  · blk_ext [place_out t, Cert.Scan.hd, pl, gr, ck]

theorem final_ddt : (dats m 0 c).arrAt 10 (cfgs 0).N = byStep D.ddt := by
  refine (dats m 0 c).arrAt_eq_of_covers 10 _ (by decide +kernel) fun t hf y => ?_
  obtain ⟨a, l, k, rfl⟩ : ∃ (a : Fin 1) (l : Fin 128) (k : Fin 8), y = ix3 a l k := ⟨y 0, y 1, y 2, ix3_eta y⟩
  obtain rfl : a = 0 := Subsingleton.elim _ _
  refine Eq.trans ?_ ((byStep_at _ (gr t) k (ck t) l).symm.trans (congrArg (byStep _) ?_))
  · blk_simp
    rw [after0_10]
    exact (stored h t.val t.isLt).ddt k l
  · blk_ext [place_out t, pl, gr, ck]

theorem final_dac : (dats m 0 c).arrAt 11 (cfgs 0).N = byStep D.dacOwn := by
  refine (dats m 0 c).arrAt_eq_of_covers 11 _ (by decide +kernel) fun t hf y => ?_
  obtain ⟨a, l, k, rfl⟩ : ∃ (a : Fin 1) (l : Fin 128) (k : Fin 8), y = ix3 a l k := ⟨y 0, y 1, y 2, ix3_eta y⟩
  obtain rfl : a = 0 := Subsingleton.elim _ _
  refine Eq.trans ?_ ((byStep_at _ (gr t) k (ck t) l).symm.trans (congrArg (byStep _) ?_))
  · blk_simp
    rw [after0_11]
    exact (stored h t.val t.isLt).dac k l
  · blk_ext [place_out t, pl, gr, ck]

theorem final_db : (dats m 0 c).arrAt 13 (cfgs 0).N = byPlace fun g C l n => ∑ k, D.db1 g k C l n := by
  refine (dats m 0 c).arrAt_eq_of_covers 13 _ (by decide +kernel) fun t hf y => ?_
  obtain ⟨a, l, k, rfl⟩ : ∃ (a : Fin 1) (l : Fin 128) (k : Fin 128), y = ix3 a l k := ⟨y 0, y 1, y 2, ix3_eta y⟩
  obtain rfl : a = 0 := Subsingleton.elim _ _
  refine Eq.trans ?_ ((byPlace_at _ (gr t) (ck t) l k).symm.trans (congrArg (byPlace _) ?_))
  · blk_simp
    rw [after0_13]
    exact (stored h t.val t.isLt).db l k
  · blk_ext [place_out t, pl, gr, ck]

theorem final_dc : (dats m 0 c).arrAt 14 (cfgs 0).N = byPlace fun g C l n => ∑ k, D.dc1 g k C l n := by
  refine (dats m 0 c).arrAt_eq_of_covers 14 _ (by decide +kernel) fun t hf y => ?_
  obtain ⟨a, l, k, rfl⟩ : ∃ (a : Fin 1) (l : Fin 128) (k : Fin 128), y = ix3 a l k := ⟨y 0, y 1, y 2, ix3_eta y⟩
  obtain rfl : a = 0 := Subsingleton.elim _ _
  refine Eq.trans ?_ ((byPlace_at _ (gr t) (ck t) l k).symm.trans (congrArg (byPlace _) ?_))
  · blk_simp
    rw [after0_14]
    exact (stored h t.val t.isLt).dc l k
  · blk_ext [place_out t, pl, gr, ck]

theorem final_skip : (dats m 0 c).arrAt 15 (cfgs 0).N = bySkip fun g k => ∑ C, D.dskip1 g k C := by
  refine (dats m 0 c).arrAt_eq_of_covers 15 _ (by decide +kernel) fun t hf y => ?_
  obtain ⟨k, a, b, rfl⟩ : ∃ (k : Fin 8) (l : Fin 1) (p : Fin 1), y = ix3 k l p := ⟨y 0, y 1, y 2, ix3_eta y⟩
  obtain rfl : a = 0 := Subsingleton.elim _ _
  obtain rfl : b = 0 := Subsingleton.elim _ _
  have hl : t.val % 32 = 31 := (flush0_15 t).mp hf
  have hc : ck t = 0 := Fin.ext (by show 31 - t.val % 32 = 0; omega)
  refine Eq.trans ?_ ((bySkip_at _ (gr t) k).symm.trans (congrArg (bySkip _) ?_))
  · blk_simp
    rw [after0_15]
    refine ((stored h t.val t.isLt).skip k).trans ?_
    rw [← skipFrom_first, ← hc]
  · blk_ext [place_out t, Cert.Scan.hd, gr]

end Cert.SsdIdeal.Scan

end
-- ==== Proof.Scan.KernelRun.lean ====
/-
  The kernel's run over real arguments leaves the real gradients.
-/
module

public import proofs.«01_k».proof.Proof.Scan.Final

@[expose] public section

set_option maxRecDepth 16384

noncomputable section

open Idealize.ShloMosaic Idealize.ShloMosaic.TcCoe Idealize.SL.Sem
open Idealize.ShloMosaic.Pipeline (Dat)

namespace Cert.SsdIdeal.Scan

open Cert.SsdIdeal Cert.SsdIdeal.Gen Cert.Scan

/-- The two parts of the gradient of the decay's logarithm, in their two layouts, add up to it. -/
theorem dac_sum (D : Args) : (addf (byStep D.dacOwn : FVec Ideal S4x4096x8 .f32) (transpose S4x4096x8 [0, 2, 1] (shapeCast S4x8x4096
      (byRow fun g k C s => -∑ l, D.dseg g k C l s : FVec Ideal S32x1x4096 .f32) shapeCasts_S32x1x4096_S4x8x4096) transposes_S4x8x4096_S4x4096x8_0_2_1)
    : FVec Ideal S4x4096x8 .f32) = byStep D.dac := by
  refine eq_byStep _ _ fun g k C l => ?_
  pointwise
  rw [hd_mk, byStep_at, byRow_at]
  rfl

variable (m : (ℓ : Loc nD τ sig) → Buf (Elt Ideal) ℓ)

/-- What the host's operations after the kernel leave in the gradient of the decay's logarithm. -/
theorem tail_dac (c : Dev nD) : Pipeline.afterTail₀ cfgs (dats m) 0 (V0 m) [hostOps1] c main_v45
    = (addf ((dats m 0 c).arrAt 11 (cfgs 0).N : FVec Ideal S4x4096x8 .f32) (transpose S4x4096x8 [0, 2, 1] (shapeCast S4x8x4096
      ((dats m 0 c).arrAt 12 (cfgs 0).N : FVec Ideal S32x1x4096 .f32) shapeCasts_S32x1x4096_S4x8x4096) transposes_S4x8x4096_S4x4096x8_0_2_1)
      : FVec Ideal S4x4096x8 .f32) := by
  show StableHlo.after hostOps1 (Pipeline.withArrays (cfgs 0).spec c (V0 m c) fun w => (dats m 0 c).arrAt w (cfgs 0).N) (Proc.devRef .tc main_v45) = _
  after_results
  have h11 := Pipeline.withArrays_arr (cfgs 0).spec (by decide) c (V0 m c) (fun w => (dats m 0 c).arrAt w (cfgs 0).N) 11
  have h12 := Pipeline.withArrays_arr (cfgs 0).spec (by decide) c (V0 m c) (fun w => (dats m 0 c).arrAt w (cfgs 0).N) 12
  exact congrArg₂ (fun (a : FVec Ideal S4x4096x8 .f32) (b : FVec Ideal S32x1x4096 .f32) => addf a (transpose S4x4096x8 [0, 2, 1]
    (shapeCast S4x8x4096 b shapeCasts_S32x1x4096_S4x8x4096) transposes_S4x8x4096_S4x4096x8_0_2_1)) h11 h12

theorem ran (ρ : Dev nD → PrngReg) (D : Dev nD → Args) (hD : ∀ c, Holds m (D c) c) :
    θ_run defs (onTc (τ := τ) (main (F := Ideal))) ⟨m, fun _ => 0, ρ⟩ fun r => ∀ c : Dev nD,
      r.2.mem ((c.tc : Thread nD τ).loc main_v42_0) = byHead (D c).dx
      ∧ r.2.mem ((c.tc : Thread nD τ).loc main_v42_1) = byStep (D c).ddt
      ∧ r.2.mem ((c.tc : Thread nD τ).loc main_v45) = byStep (D c).dac
      ∧ r.2.mem ((c.tc : Thread nD τ).loc main_v42_4) = byPlace (fun g C l n => ∑ k, (D c).db1 g k C l n)
      ∧ r.2.mem ((c.tc : Thread nD τ).loc main_v42_5) = byPlace (fun g C l n => ∑ k, (D c).dc1 g k C l n)
      ∧ r.2.mem ((c.tc : Thread nD τ).loc main_v42_6) = bySkip (fun g k => ∑ C, (D c).dskip1 g k C)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (θ_run_and (run_main m ρ) (unchanged m ρ))
  obtain ⟨harr, hrest⟩ := h.1 c
  refine ⟨(harr 9).trans (final_dx (hD c)), (harr 10).trans (final_ddt (hD c)), ?_, (harr 13).trans (final_db (hD c)), (harr 14).trans (final_dc (hD c)),
    (harr 15).trans (final_skip (hD c)), h.2 c⟩
  refine (hrest main_v45 (by decide)).trans ((tail_dac m c).trans ?_)
  rw [final_dac (hD c), final_dacr (hD c)]
  exact dac_sum (D c)

end Cert.SsdIdeal.Scan

end
-- ==== Proof.Scan.RefReal.lean ====
/-
  The reference's terms over real numbers: where its arguments are real, each is the real gradient's quantity.
-/
module

public import proofs.«01_k».proof.Proof.Gen.SsdRefIdeal.Run
public import proofs.«01_k».proof.Proof.Scan.Results

@[expose] public section

set_option maxRecDepth 16384

noncomputable section

open Idealize.ShloMosaic Idealize.ShloMosaic.TcCoe Idealize.SL.Sem

namespace Cert.SsdRefIdeal.Scan

open Cert.SsdRefIdeal Cert.SsdRefIdeal.Gen Cert.SsdRefIdeal.Value Cert.Scan

/-- The arguments hold `D`. -/
abbrev Holds (V : Valuation τ sig (Elt Ideal)) (D : Args) : Prop :=
  D.In (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6))

variable {V : Valuation τ sig (Elt Ideal)} {D : Args} (h : Holds V D) (g : Fin 4) (k : Fin 8) (c : Fin 32)
include h

theorem x_at (l : Fin 128) (p : Fin 64) : (res_main_v2 V : Vec Ideal S4x8x32x128x64 .f32) (ix5 g k c l p) = ((D.x g k c l p : ℝ) : EReal) := by
  pointwise [res_main_v2]
  rw [hd_mk, pl_mk]
  exact h.x g k c l p

theorem dt_at (l : Fin 128) : (res_main_v5 V : Vec Ideal _ .f32) (ix5 g k c l 0) = ((D.dt g k c l : ℝ) : EReal) := by
  pointwise [res_main_v5]
  rw [pl_mk]
  exact h.dt g k c l

theorem xdt_at (l : Fin 128) (p : Fin 64) : (res_main_v7 V : Vec Ideal _ .f32) (ix5 g k c l p) = ((D.xdt g k c l p : ℝ) : EReal) := by
  pointwise [res_main_v7, x_at h, dt_at h]
  rfl

theorem a_at (l : Fin 128) : (res_main_v9 V : Vec Ideal _ .f32) (ix4 g k c l) = ((D.a g k c l : ℝ) : EReal) := by
  pointwise [res_main_v9]
  rw [pl_mk]
  exact h.a g k c l

theorem b_at (l n : Fin 128) : (res_main_v10 V : Vec Ideal _ .f32) (ix4 g c l n) = ((D.b g c l n : ℝ) : EReal) := by
  pointwise [res_main_v10]
  rw [pl_mk]
  exact h.b g c l n

theorem c_at (l n : Fin 128) : (res_main_v11 V : Vec Ideal _ .f32) (ix4 g c l n) = ((D.c g c l n : ℝ) : EReal) := by
  pointwise [res_main_v11]
  rw [pl_mk]
  exact h.c g c l n

theorem lm_at (l s : Fin 128) : (res_main_v23 V : Vec Ideal _ .f32) (ix5 g k c l s) = ((D.lm g k c l s : ℝ) : EReal) := by
  pointwise [res_main_v23, res_main_v19, a_at h]
  rw [mask_le (by decide), ← EReal.coe_sub]
  exact (congrArg _ (by rw [negInf])).trans (exp_ite _ _)

theorem cb_at (l s : Fin 128) : (res_main_v25 V : Vec Ideal _ .f32) (ix5 g 0 c l s) = ((D.cb g c l s : ℝ) : EReal) := by
  pointwise [res_main_v25, c_at h, b_at h]
  simp only [← EReal.coe_mul, coe_sum]
  exact congrArg _ (Finset.sum_congr rfl fun _ _ => by ring)

theorem cl_at (l s : Fin 128) : (res_main_v27 V : Vec Ideal _ .f32) (ix5 g k c l s) = ((D.cb g c l s * D.lm g k c l s : ℝ) : EReal) := by
  pointwise [res_main_v27, cb_at h, lm_at h]
  rfl

theorem dec_at (c j : Fin 32) : (res_main_v49 V : Vec Ideal _ .f32) (ix4 g k c j) = ((D.dec g k c j : ℝ) : EReal) := by
  pointwise [res_main_v49, res_main_v45, res_main_v36, res_main_v33, a_at h]
  simp only [mask_between (n := 32) (by decide), mask_lt (n := 32) (by decide), negInf, coe_zero, coe_ite, coe_sum]
  exact exp_ite _ _

theorem dte_at (l : Fin 128) : (res_main_v53 V : Vec Ideal _ .f32) (ix4 g k c l) = ((D.dte g k c l : ℝ) : EReal) := by
  pointwise [res_main_v53, a_at h]
  rw [← EReal.coe_sub]
  exact Ideal.exp_coe _

theorem dteb_at (l : Fin 128) : (res_main_v54 V : Vec Ideal _ .f32) (ix5 g k c l 0) = ((D.dte g k c l : ℝ) : EReal) := by
  pointwise [res_main_v54, dte_at h]

theorem xdte_at (l : Fin 128) (p : Fin 64) : (res_main_v56 V : Vec Ideal _ .f32) (ix5 g k c l p) = ((D.dte g k c l * D.xdt g k c l p : ℝ) : EReal) := by
  pointwise [res_main_v56, dteb_at h, xdt_at h]
  rfl

theorem st_at (n : Fin 128) (p : Fin 64) : (res_main_v58 V : Vec Ideal _ .f32) (ix5 g k c n p) = ((D.st g k c n p : ℝ) : EReal) := by
  pointwise [res_main_v58, xdte_at h, b_at h]
  simp only [← EReal.coe_mul, coe_sum]
  exact congrArg _ (Finset.sum_congr rfl fun _ _ => by ring)

theorem hp_at (n : Fin 128) (p : Fin 64) : (res_main_v59 V : Vec Ideal _ .f32) (ix5 g k c n p) = ((D.hp g k c n p : ℝ) : EReal) := by
  pointwise [res_main_v59, dec_at h, st_at h]
  simp only [← EReal.coe_mul, coe_sum]
  rfl

theorem ch_at (l : Fin 128) (p : Fin 64) : (res_main_v61 V : Vec Ideal _ .f32) (ix5 g k c l p) = ((D.ch g k c l p : ℝ) : EReal) := by
  pointwise [res_main_v61, hp_at h, c_at h]
  simp only [← EReal.coe_mul, coe_sum]
  exact congrArg _ (Finset.sum_congr rfl fun _ _ => by ring)

theorem e_at (l : Fin 128) : (res_main_v62 V : Vec Ideal _ .f32) (ix4 g k c l) = ((D.e g k c l : ℝ) : EReal) := by
  pointwise [res_main_v62, a_at h]
  exact Ideal.exp_coe _

theorem eb_at (l : Fin 128) : (res_main_v63 V : Vec Ideal _ .f32) (ix5 g k c l 0) = ((D.e g k c l : ℝ) : EReal) := by
  pointwise [res_main_v63, e_at h]

theorem dyw_at (l : Fin 128) (p : Fin 64) : (res_main_v70 V : Vec Ideal S32x4096x64 .f32) (ix3 (hd g k) (pl c l) p) = ((D.dy g k c l p : ℝ) : EReal) := by
  pointwise [res_main_v70]
  exact h.dy g k c l p

theorem dy_at (l : Fin 128) (p : Fin 64) : (res_main_v71 V : Vec Ideal _ .f32) (ix5 g k c l p) = ((D.dy g k c l p : ℝ) : EReal) := by
  pointwise [res_main_v71]
  rw [hd_mk, pl_mk]
  exact h.dy g k c l p

theorem edy_at (l : Fin 128) (p : Fin 64) : (res_main_v79 V : Vec Ideal _ .f32) (ix5 g c k p l) = ((D.dy g k c l p * D.e g k c l : ℝ) : EReal) := by
  pointwise [res_main_v79, dy_at h, eb_at h]
  rfl

theorem u_at (n : Fin 128) (p : Fin 64) : (res_main_v82 V : Vec Ideal _ .f32) (ix5 g k c n p) = ((D.u g k c n p : ℝ) : EReal) := by
  pointwise [res_main_v82, edy_at h, c_at h]
  simp only [← EReal.coe_mul, coe_sum]
  exact congrArg _ (Finset.sum_congr rfl fun _ _ => by ring)

theorem dh_at (n : Fin 128) (p : Fin 64) : (res_main_v86 V : Vec Ideal _ .f32) (ix5 g c k p n) = ((D.dh g k c n p : ℝ) : EReal) := by
  pointwise [res_main_v86, u_at h, dec_at h]
  simp only [← EReal.coe_mul, coe_sum]
  exact congrArg _ (Finset.sum_congr rfl fun _ _ => by ring)

theorem bdh_at (l : Fin 128) (p : Fin 64) : (res_main_v90 V : Vec Ideal _ .f32) (ix5 g k c l p) = ((D.bdh g k c l p : ℝ) : EReal) := by
  pointwise [res_main_v90, dh_at h, b_at h]
  simp only [← EReal.coe_mul, coe_sum]
  exact congrArg _ (Finset.sum_congr rfl fun _ _ => by ring)

theorem dend_at (l : Fin 128) : (res_main_v97 V : Vec Ideal _ .f32) (ix4 g k c l) = ((D.dend g k c l : ℝ) : EReal) := by
  pointwise [res_main_v97, bdh_at h, xdt_at h, dte_at h]
  simp only [Fin.sum_univ_one, ← EReal.coe_mul, coe_sum]
  exact congrArg _ (congrArg (· * _) (Finset.sum_congr rfl fun _ _ => by ring))

theorem dxdt_at (l : Fin 128) (p : Fin 64) : (res_main_v118 V : Vec Ideal _ .f32) (ix5 g k c l p) = ((D.dxdt g k c l p : ℝ) : EReal) := by
  pointwise [res_main_v118, dteb_at h, bdh_at h, dy_at h, cl_at h]
  simp only [← EReal.coe_mul, coe_sum, ← EReal.coe_add]
  rw [add_comm]
  exact congrArg _ (congrArg (· + _) (Finset.sum_congr rfl fun _ _ => by ring))

theorem gx_at (l s : Fin 128) : (res_main_v119 V : Vec Ideal _ .f32) (ix5 g k c l s) = ((D.gx g k c l s : ℝ) : EReal) := by
  pointwise [res_main_v119, dy_at h, xdt_at h]
  simp only [← EReal.coe_mul, coe_sum]
  rfl

theorem gl_at (l s : Fin 128) : (res_main_v125 V : Vec Ideal _ .f32) (ix4 g c l s) = ((∑ k, D.gx g k c l s * D.lm g k c l s : ℝ) : EReal) := by
  pointwise [res_main_v125, gx_at h, lm_at h]
  simp only [Fin.sum_univ_one, ← EReal.coe_mul, coe_sum]

theorem dseg_at (l s : Fin 128) : (res_main_v132 V : Vec Ideal _ .f32) (ix5 g k c l s) = ((D.dseg g k c l s : ℝ) : EReal) := by
  pointwise [res_main_v132, res_main_v19, cb_at h, gx_at h, lm_at h]
  rw [mask_le (by decide), coe_zero]
  simp only [← EReal.coe_mul]
  refine (coe_ite _ _ _).trans (congrArg _ ?_)
  rw [Args.dseg]
  by_cases hs : s ≤ l
  · rw [if_pos hs]; ring
  · rw [if_neg hs, Args.lm, if_neg hs]; ring

/-- The gradient through a chunk's own decay, summed over the chunks after it and before it. -/
theorem through_at : (∑ c' : Fin 32, ∑ j : Fin 32, Scalar.select (res_main_v36 (F := Ideal) V (ix5 g k c' j c)) (Scalar.select (res_main_v45 (F := Ideal) V (ix4 g k c' j))
    (HMul.hMul (α := EReal) (β := EReal) (γ := EReal)
      (∑ n : Fin 128, ∑ p : Fin 64, HMul.hMul (α := EReal) (β := EReal) (γ := EReal) (res_main_v82 V (ix5 g k c' n p)) (res_main_v58 V (ix5 g k j n p)))
      (res_main_v49 V (ix4 g k c' j))) 0) 0) = ((D.through g k c : ℝ) : EReal) := by
  rw [Args.through_eq, Finset.sum_comm, ← coe_sum]
  refine Finset.sum_congr rfl fun j _ => ?_
  rw [← coe_sum]
  refine Finset.sum_congr rfl fun c' _ => ?_
  pointwise [res_main_v36, res_main_v33, res_main_v45]
  rw [mask_between (n := 32) (by decide), mask_lt (n := 32) (by decide)]
  simp only [u_at h, st_at h, dec_at h, ← EReal.coe_mul, coe_sum]
  by_cases hc : j < c ∧ c < c'
  · rw [if_pos hc, if_pos hc, if_pos (hc.1.trans hc.2)]
  · rw [if_neg hc, if_neg hc, coe_zero]

end Cert.SsdRefIdeal.Scan

end
-- ==== Proof.Scan.RefRun.lean ====
/-
  The reference's run over real arguments leaves the real gradients.
-/
module

public import proofs.«01_k».proof.Proof.Scan.RefReal

@[expose] public section

set_option maxRecDepth 16384

noncomputable section

open Idealize.ShloMosaic Idealize.ShloMosaic.TcCoe Idealize.SL.Sem

namespace Cert.SsdRefIdeal.Scan

open Cert.SsdRefIdeal Cert.SsdRefIdeal.Gen Cert.SsdRefIdeal.Value Cert.Scan

set_option maxHeartbeats 1600000 in
theorem ran (m : (ℓ : Loc nD τ sig) → Buf (Elt Ideal) ℓ) (ρ : Dev nD → PrngReg) (D : Dev nD → Args) (hD : ∀ c, Holds (StableHlo.launchContents m c) (D c)) :
    θ_run defs (onTc (τ := τ) (main (F := Ideal))) ⟨m, fun _ => 0, ρ⟩ fun r => ∀ c : Dev nD,
      r.2.mem ((c.tc : Thread nD τ).loc main_v157) = byHead (D c).dx
      ∧ r.2.mem ((c.tc : Thread nD τ).loc main_v153) = byStep (D c).ddt
      ∧ r.2.mem ((c.tc : Thread nD τ).loc main_v145) = byStep (D c).dac
      ∧ r.2.mem ((c.tc : Thread nD τ).loc main_v143) = byPlace (fun g C l n => ∑ k, (D c).db1 g k C l n)
      ∧ r.2.mem ((c.tc : Thread nD τ).loc main_v142) = byPlace (fun g C l n => ∑ k, (D c).dc1 g k C l n)
      ∧ r.2.mem ((c.tc : Thread nD τ).loc main_v160) = bySkip (fun g k => ∑ C, (D c).dskip1 g k C)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h0, h1, h2, h3, h4, h5, hargs⟩ := h c
  have H := hD c
  generalize StableHlo.launchContents m c = V at *
  generalize D c = D at *
  refine ⟨h0.trans (eq_byHead _ _ fun g k C l p => ?_), h1.trans (eq_byStep _ _ fun g k C l => ?_), h2.trans (eq_byStep _ _ fun g k C l => ?_),
    h3.trans (eq_byPlace _ _ fun g C l n => ?_), h4.trans (eq_byPlace _ _ fun g C l n => ?_), h5.trans (eq_bySkip _ _ fun g k => ?_), hargs⟩
  · clear * - H
    pointwise
    simp only [hd_div, hd_mod, pl_div, pl_mod, dxdt_at H, dt_at H, H.skip, dyw_at H, ← EReal.coe_mul, ← EReal.coe_add]
    rfl
  · clear * - H
    pointwise
    simp only [pl_div, pl_mod, x_at H, dxdt_at H, ← EReal.coe_mul, coe_sum, Fin.sum_univ_one]
    exact congrArg _ (Finset.sum_congr rfl fun _ _ => mul_comm _ _)
  · clear * - H
    pointwise
    have hl : ((pl C l).val / 128 < 32 ∧ 127 ≤ (pl C l).val % 128 ∧ (pl C l).val % 128 - 127 < 1) ↔ l = 127 := by
      rw [Fin.ext_iff]; show _ ↔ l.val = 127; simp only [pl]; omega
    simp only [pl_div, pl_mod, Fin.sum_univ_one, through_at H, ch_at H, dy_at H, e_at H, dend_at H, dseg_at H, ← EReal.coe_mul, ← EReal.coe_neg, coe_sum]
    by_cases h127 : l = 127
    · simp only [dif_pos (hl.mpr h127), ← EReal.coe_add]
      refine congrArg _ ?_
      rw [Args.dac, Args.dacOwn, if_pos h127]
      simp only [Finset.sum_neg_distrib, mul_comm (D.ch g k C l _)]
      ring
    · simp only [dif_neg (hl.not.mpr h127), coe_zero, ← EReal.coe_add]
      refine congrArg _ ?_
      rw [Args.dac, Args.dacOwn, if_neg h127]
      simp only [Finset.sum_neg_distrib, mul_comm (D.ch g k C l _)]
      ring
  · clear * - H
    pointwise
    simp only [pl_div, pl_mod, dh_at H, xdte_at H, gl_at H, c_at H, ← EReal.coe_mul, coe_sum, ← EReal.coe_add]
    refine congrArg _ ?_
    simp only [Args.db1, Finset.sum_add_distrib, Finset.sum_mul]
    rw [add_comm, Finset.sum_comm]
    exact congrArg (_ + ·) (Finset.sum_congr rfl fun _ _ => Finset.sum_congr rfl fun _ _ => by ring)
  · clear * - H
    pointwise
    simp only [pl_div, pl_mod, edy_at H, hp_at H, gl_at H, b_at H, ← EReal.coe_mul, coe_sum, ← EReal.coe_add]
    refine congrArg _ ?_
    simp only [Args.dc1, Finset.sum_add_distrib, Finset.sum_mul, Finset.mul_sum]
    rw [add_comm, Finset.sum_comm]
    exact congrArg (_ + ·) (Finset.sum_congr rfl fun _ _ => Finset.sum_congr rfl fun _ _ => by ring)
  · clear * - H
    pointwise
    simp only [sum_pl, dyw_at H, H.x, ← EReal.coe_mul, coe_sum]
    rfl

end Cert.SsdRefIdeal.Scan

end
-- ==== Proof.Scan.Finite.lean ====
/-
  The precondition: every element of the arguments is finite, so they hold real numbers.
-/
module

public import proofs.«01_k».proof.Pre_all_finite
public import proofs.«01_k».proof.Proof.Scan.Results

@[expose] public section

noncomputable section

open Idealize.ShloMosaic Idealize.ShloMosaic.TcCoe Idealize.SL.Sem

namespace Cert.Scan

instance finiteFacts : Cert.Pre_all_finite.Facts where
  bcast_S_S32x4096x64 := by decide
  bcast_S_S4x4096x8 := by decide
  bcast_S_S4x4096x128 := by decide
  bcast_S_S32x1x1 := by decide

/-- An array compared with infinity. -/
abbrev below (s : Shape) (hb : Pre_all_finite.S_.BroadcastsInDim s (![] : Fin 0 → Fin s.rank)) (x : FVec Ideal s .f32) : IVec s 1 :=
  cmpf .olt (Host.absf x) (broadcastInDim s ![] hb (constant Pre_all_finite.S_ .f32 0x7F800000#32 : FVec Ideal Pre_all_finite.S_ .f32))

/-- An element whose size is below infinity is the real number that it is. -/
theorem real_of_below {s : Shape} {hb} {x : FVec Ideal s .f32} (h : below s hb x = fun _ => 1#1) (i : s.Idx) :
    x i = ((EReal.toReal (x i) : ℝ) : EReal) := by
  have htop : Ideal.ofBits .f32 0x7F800000#32 = (⊤ : EReal) := by simp [Ideal.ofBits, Ideal.ieee]
  have hi : Ideal.cmp .olt (max (x i : EReal) (-(x i : EReal))) (Ideal.ofBits .f32 0x7F800000#32) = 1#1 := congrFun h i
  rw [htop] at hi
  have hlt : max (x i : EReal) (-(x i : EReal)) < ⊤ := by
    by_contra hn
    simp [Ideal.cmp, hn] at hi
  rw [max_lt_iff] at hlt
  refine (EReal.coe_toReal (ne_of_lt hlt.1) fun hb => ?_).symm
  rw [hb] at hlt
  simp at hlt

/-- The real numbers in the arrays. -/
def argsOf (x : Arr ⟨3, ![32, 4096, 64]⟩) (dt a : Arr ⟨3, ![4, 4096, 8]⟩) (b c : Arr ⟨3, ![4, 4096, 128]⟩) (skip : Arr ⟨3, ![32, 1, 1]⟩)
    (dy : Arr ⟨3, ![32, 4096, 64]⟩) : Args where
  x g k C l p := EReal.toReal (x (ix3 (hd g k) (pl C l) p))
  dt g k C l := EReal.toReal (dt (ix3 g (pl C l) k))
  a g k C l := EReal.toReal (a (ix3 g (pl C l) k))
  b g C l n := EReal.toReal (b (ix3 g (pl C l) n))
  c g C l n := EReal.toReal (c (ix3 g (pl C l) n))
  skip g k := EReal.toReal (skip (ix3 (hd g k) 0 0))
  dy g k C l p := EReal.toReal (dy (ix3 (hd g k) (pl C l) p))

/-- Finite arrays hold the real numbers in them. -/
theorem argsOf_in {x : Arr ⟨3, ![32, 4096, 64]⟩} {dt a : Arr ⟨3, ![4, 4096, 8]⟩} {b c : Arr ⟨3, ![4, 4096, 128]⟩} {skip : Arr ⟨3, ![32, 1, 1]⟩}
    {dy : Arr ⟨3, ![32, 4096, 64]⟩} {r0 r1 r2 r3 r4 r5 r6}
    (h : Cert.Pre_all_finite.fn (F := Ideal) x dt a b c skip dy = (r0, r1, r2, r3, r4, r5, r6))
    (h0 : r0 = fun _ => 1#1) (h1 : r1 = fun _ => 1#1) (h2 : r2 = fun _ => 1#1) (h3 : r3 = fun _ => 1#1) (h4 : r4 = fun _ => 1#1)
    (h5 : r5 = fun _ => 1#1) (h6 : r6 = fun _ => 1#1) : (argsOf x dt a b c skip dy).In x dt a b c skip dy := by
  subst h0 h1 h2 h3 h4 h5 h6
  simp only [Pre_all_finite.fn, Pre_all_finite.fn_part1, Prod.mk.injEq] at h
  obtain ⟨h0, h1, h2, h3, h4, h5, h6⟩ := h
  exact ⟨fun _ _ _ _ _ => real_of_below h0 _, fun _ _ _ _ => real_of_below h1 _, fun _ _ _ _ => real_of_below h2 _, fun _ _ _ _ => real_of_below h3 _,
    fun _ _ _ _ => real_of_below h4 _, fun _ _ => real_of_below h5 _, fun _ _ _ _ _ => real_of_below h6 _⟩

end Cert.Scan

end
-- ==== Proof.Scan.lean ====
/-
  The scan's gradient: the kernel, which goes through the chunks from the last to the first and carries the gradient of the state between
  them, and the derivative of the scan leave the same six results.
-/
module

public import proofs.«01_k».proof.Defs
public import proofs.«01_k».proof.Proof.Scan.KernelRun
public import proofs.«01_k».proof.Proof.Scan.RefRun
public import proofs.«01_k».proof.Proof.Scan.Finite

@[expose] public section

noncomputable section

open Idealize.ShloMosaic Idealize.ShloMosaic.TcCoe Idealize.SL.Sem

namespace Cert.Scan

/-- The real numbers in the kernel's arguments on a device. -/
abbrev args (m : (ℓ : Loc SsdIdeal.nD SsdIdeal.τ SsdIdeal.sig) → Buf (Elt Ideal) ℓ) (c : Dev SsdIdeal.nD) : Args :=
  argsOf (m ((c : Thread SsdIdeal.nD SsdIdeal.τ).loc SsdIdeal.main_arg0)) (m ((c : Thread SsdIdeal.nD SsdIdeal.τ).loc SsdIdeal.main_arg1))
    (m ((c : Thread SsdIdeal.nD SsdIdeal.τ).loc SsdIdeal.main_arg2)) (m ((c : Thread SsdIdeal.nD SsdIdeal.τ).loc SsdIdeal.main_arg3))
    (m ((c : Thread SsdIdeal.nD SsdIdeal.τ).loc SsdIdeal.main_arg4)) (m ((c : Thread SsdIdeal.nD SsdIdeal.τ).loc SsdIdeal.main_arg5))
    (m ((c : Thread SsdIdeal.nD SsdIdeal.τ).loc SsdIdeal.main_arg6))

theorem holds (m : (ℓ : Loc SsdIdeal.nD SsdIdeal.τ SsdIdeal.sig) → Buf (Elt Ideal) ℓ) (hfin : Pre_SsdIdeal_all_finite m) (c : Dev SsdIdeal.nD) :
    SsdIdeal.Scan.Holds m (args m c) c := by
  obtain ⟨h0, h1, h2, h3, h4, h5, h6⟩ := hfin c
  exact argsOf_in rfl h0 h1 h2 h3 h4 h5 h6

theorem algebraic : Cert.algebraic_SsdIdeal_SsdRefIdeal_pre_all_finite := by
  intro m g m' g' hfin hargs
  refine ⟨fun c => byHead (args m c).dx, fun c => byStep (args m c).ddt, fun c => byStep (args m c).dac,
    fun c => byPlace (fun G C l n => ∑ k, (args m c).db1 G k C l n), fun c => byPlace (fun G C l n => ∑ k, (args m c).dc1 G k C l n),
    fun c => bySkip (fun G k => ∑ C, (args m c).dskip1 G k C), SsdIdeal.Scan.ran m g (args m) (holds m hfin), ?_⟩
  refine SsdRefIdeal.Scan.ran m' g' (args m) fun c => ?_
  obtain ⟨h0, h1, h2, h3, h4, h5, h6⟩ := hargs c
  show (args m c).In (m' ((c : Thread SsdRefIdeal.nD SsdRefIdeal.τ).loc SsdRefIdeal.main_arg0))
    (m' ((c : Thread SsdRefIdeal.nD SsdRefIdeal.τ).loc SsdRefIdeal.main_arg1))
    (m' ((c : Thread SsdRefIdeal.nD SsdRefIdeal.τ).loc SsdRefIdeal.main_arg2))
    (m' ((c : Thread SsdRefIdeal.nD SsdRefIdeal.τ).loc SsdRefIdeal.main_arg3))
    (m' ((c : Thread SsdRefIdeal.nD SsdRefIdeal.τ).loc SsdRefIdeal.main_arg4))
    (m' ((c : Thread SsdRefIdeal.nD SsdRefIdeal.τ).loc SsdRefIdeal.main_arg5))
    (m' ((c : Thread SsdRefIdeal.nD SsdRefIdeal.τ).loc SsdRefIdeal.main_arg6))
  rw [h0, h1, h2, h3, h4, h5, h6]
  exact holds m hfin c

end Cert.Scan

end
-- ==== Proof.ScanFwd.Math.lean ====
/-
  The scan in real numbers: what a chunk gives at its places, and the state it hands to the next chunk.
-/
module

public import proofs.«01_k».proof.Proof.Scan.Math

@[expose] public section

noncomputable section

namespace Cert.Scan

namespace Args

variable (D : Args) (g : Fin 4) (k : Fin 8) (c : Fin 32)

/-- What the chunk's own places, the entering state and the skip give at a place. -/
def y (l : Fin 128) (p : Fin 64) : ℝ :=
  (∑ s : Fin 128, D.cb g c l s * D.lm g k c l s * D.xdt g k c s p) + D.e g k c l * D.ch g k c l p + D.skip g k * D.x g k c l p

/-- What the forward recurrence makes of the state that enters a chunk. -/
def leave (n : Fin 128) (p : Fin 64) : ℝ := Real.exp (D.last g k c) * D.hp g k c n p + D.st g k c n p

/-- Between an earlier chunk and the next one lies what lies before this one, and this one. -/
theorem dec_grow (c c' j : Fin 32) (h : c.val + 1 = c'.val) :
    D.dec g k c' j = Real.exp (D.last g k c) * D.dec g k c j + if j = c then 1 else 0 := by
  have split (hj : j < c) : (∑ i : Fin 32, if j < i ∧ i < c' then D.last g k i else 0)
      = D.last g k c + ∑ i : Fin 32, if j < i ∧ i < c then D.last g k i else 0 := by
    have (i : Fin 32) : (if j < i ∧ i < c' then D.last g k i else 0)
        = (if i = c then D.last g k i else 0) + if j < i ∧ i < c then D.last g k i else 0 := by
      by_cases hi : i = c
      · subst hi; simp [hj, Fin.lt_def, ← h]
      · have : (j < i ∧ i < c') ↔ (j < i ∧ i < c) := by
          have : i.val ≠ c.val := fun e => hi (Fin.ext e)
          simp only [Fin.lt_def]; omega
        simp [hi, this]
    simp only [this, Finset.sum_add_distrib, Finset.sum_ite_eq', Finset.mem_univ, if_true]
  unfold dec
  rcases lt_trichotomy j c with hj | hj | hj
  · have h1 : j < c' := by simp only [Fin.lt_def] at *; omega
    simp only [h1, hj, if_true, hj.ne, if_false, add_zero, split hj, Real.exp_add]
  · subst hj
    have h1 : j < c' := by simp only [Fin.lt_def]; omega
    have (i : Fin 32) : ¬ (j < i ∧ i < c') := by simp only [Fin.lt_def]; omega
    simp [h1, this]
  · have h1 : ¬ j < c' := by simp only [Fin.lt_def] at *; omega
    have h2 : ¬ j < c := by simp only [Fin.lt_def] at *; omega
    simp [h1, h2, hj.ne']

/-- Nothing enters the first chunk. -/
theorem hp_first (n : Fin 128) (p : Fin 64) : D.hp g k 0 n p = 0 := by
  have (j : Fin 32) : ¬ j < (0 : Fin 32) := by rw [Fin.lt_def]; show ¬ (j.val < 0); omega
  simp [hp, dec, this]

/-- The forward recurrence. -/
theorem hp_step (c c' : Fin 32) (h : c.val + 1 = c'.val) (n : Fin 128) (p : Fin 64) :
    D.hp g k c' n p = D.leave g k c n p := by
  simp only [leave, hp, D.dec_grow g k c c' _ h, add_mul, Finset.sum_add_distrib, Finset.mul_sum, ite_mul, one_mul, zero_mul,
    Finset.sum_ite_eq', Finset.sum_ite_eq, Finset.mem_univ, if_true, mul_assoc]

/-- The same numbers with a given output gradient of nothing. -/
def still : Args := { D with dy := fun _ _ _ _ _ => 0 }

/-- Without an output gradient no gradient is carried. -/
theorem still_dh (n : Fin 128) (p : Fin 64) : D.still.dh g k c n p = 0 := by
  simp [dh, u, still]

end Args

end Cert.Scan

end
-- ==== Proof.ScanFwd.Head.lean ====
/-
  One head's work in one step of the scan's kernel, as vectors, over what the work of the scan's gradient has in common with it.
-/
module

public import proofs.«01_k».proof.Proof.Gen.SsdFwdIdeal.Skeleton
public import proofs.«01_k».proof.Proof.Scan.BlocksReal
public import proofs.«01_k».proof.Proof.ScanFwd.Math

@[expose] public section

noncomputable section

open Idealize.ShloMosaic Idealize.ShloMosaic.TcCoe Idealize.SL.Sem

namespace Cert.SsdFwdIdeal.Scan

open Cert.SsdIdeal Cert.SsdIdeal.Gen Cert.SsdIdeal.Scan Cert.SsdIdeal.Scan.Head Cert.Scan

/-- The blocks that one step reads: the input, its step, the decay's logarithm in both layouts, input and output vectors, skip,
    and the entering states. -/
structure Given where
  x : Vec Ideal S8x128x64 .f32
  dt : Vec Ideal S1x128x8 .f32
  a : Vec Ideal S1x128x8 .f32
  ar : Vec Ideal S8x1x128 .f32
  b : Vec Ideal S1x128x128 .f32
  c : Vec Ideal S1x128x128 .f32
  sk : Vec Ideal S8x1x1 .f32
  h : Vec Ideal S8x128x64 .f32

/-- What a place gives: the chunk's own places, the entering state, the skip. -/
def out (v : Head) : FVec Ideal S1x128x64 .f32 :=
  shapeCast S1x128x64 (addf (addf (nnP (mulf v.cb v.lm) v.xdt) (mulf (left v.e) v.ch)) (mulf (broadcastTo S128x64 v.sk broadcasts_S1x1_S128x64) v.x))
    shapeCasts_S128x64_S1x128x64

/-- The state that leaves the chunk. -/
def leave (v : Head) : FVec Ideal S1x128x64 .f32 :=
  shapeCast S1x128x64 (addf (mulf (broadcastTo S128x64 (extractStridedSlice S1x64 ![0, 0] v.el slices_S1x128_o0_0_S1x64) broadcasts_S1x64_S128x64) v.h)
    (nnP (transpose S128x128 [1, 0] v.b transposes_S128x128_p1_0_S128x128) (mulf v.xdt (left v.dte)))) shapeCasts_S128x64_S1x128x64

namespace Given

variable (X : Given)

/-- What head `k`'s work reads of the blocks, with no output gradient. -/
def H (k : Fin 8) : Head where
  b := shapeCast S128x128 X.b shapeCasts_S1x128x128_S128x128
  c := shapeCast S128x128 X.c shapeCasts_S1x128x128_S128x128
  a := Blocks.col X.a k.val (fits k)
  dt := Blocks.col X.dt k.val (fits k)
  ar := shapeCast S1x128 (View.ld X.ar (Rect.unit ![k.val, 0, 0] ![1, 1, 128] (fits k).row)) shapeCasts_S1x1x128_S1x128
  x := shapeCast S128x64 (View.ld X.x (Rect.unit ![k.val, 0, 0] ![1, 128, 64] (fits k).xs)) shapeCasts_S1x128x64_S128x64
  g := fun _ => (0 : EReal)
  h := shapeCast S128x64 (View.ld X.h (Rect.unit ![k.val, 0, 0] ![1, 128, 64] (fits k).xs)) shapeCasts_S1x128x64_S128x64
  dh := fun _ => (0 : EReal)
  sk := shapeCast S1x1 (View.ld X.sk (Rect.unit ![k.val, 0, 0] ![1, 1, 1] (fits k).one)) shapeCasts_S1x1x1_S1x1

/-- The blocks hold what one chunk of a group's eight heads is given. -/
structure Of (X : Given) (D : Args) (G : Fin 4) (C : Fin 32) : Prop where
  x : ∀ k l p, X.x (ix3 k l p) = ((D.x G k C l p : ℝ) : EReal)
  dt : ∀ k l, X.dt (ix3 0 l k) = ((D.dt G k C l : ℝ) : EReal)
  a : ∀ k l, X.a (ix3 0 l k) = ((D.a G k C l : ℝ) : EReal)
  ar : ∀ k s, X.ar (ix3 k 0 s) = ((D.a G k C s : ℝ) : EReal)
  b : ∀ l n, X.b (ix3 0 l n) = ((D.b G C l n : ℝ) : EReal)
  c : ∀ l n, X.c (ix3 0 l n) = ((D.c G C l n : ℝ) : EReal)
  sk : ∀ k, X.sk (ix3 k 0 0) = ((D.skip G k : ℝ) : EReal)
  h : ∀ k n p, X.h (ix3 k n p) = ((D.hp G k C n p : ℝ) : EReal)

variable {X} {D : Args} {g : Fin 4} {c : Fin 32} (V : X.Of D g c) (k : Fin 8)
include V

theorem head_of : (X.H k).Of D.still g k c := by
  constructor
  · intro l n
    pointwise [H, V.b]
    rfl
  · intro l n
    pointwise [H, V.c]
    rfl
  · intro l s
    pointwise [H, Blocks.col, V.a]
    rfl
  · intro l s
    pointwise [H, Blocks.col, V.dt]
    rfl
  · exact fun s => (rows_row _ s).trans ((ld_head X.ar k _ 0 s).trans (V.ar k s))
  · exact fun l p => (rows_x _ l p).trans ((ld_head X.x k _ l p).trans (V.x k l p))
  · exact fun l p => rfl
  · exact fun n p => (rows_x _ n p).trans ((ld_head X.h k _ n p).trans (V.h k n p))
  · intro n p
    rw [D.still_dh]
    rfl
  · exact (rows_one _).trans ((ld_head X.sk k _ 0 0).trans (V.sk k))

theorem out_at (l : Fin 128) (p : Fin 64) : out (X.H k) (ix3 0 l p) = ((D.y g k c l p : ℝ) : EReal) := by
  have W := head_of V k
  pointwise [out, cb_at W, lm_at W, xdt_at W, e_at W, ch_at W, W.sk, W.x]
  simp only [← EReal.coe_mul, coe_sum, ← EReal.coe_add]
  rfl

theorem leave_at (n : Fin 128) (p : Fin 64) : leave (X.H k) (ix3 0 n p) = ((D.leave g k c n p : ℝ) : EReal) := by
  have W := head_of V k
  pointwise [leave, el_at W, W.h, W.b, xdt_at W, dte_at W]
  simp only [← EReal.coe_mul, coe_sum, ← EReal.coe_add]
  exact congrArg _ (congrArg (_ + ·) (Finset.sum_congr rfl fun _ _ => congrArg _ (mul_comm _ _)))

end Given

end Cert.SsdFwdIdeal.Scan

end
-- ==== Proof.ScanFwd.Match.lean ====
/-
  What one step of the scan's kernel stores is the heads' work on the blocks it reads.
-/
module

public import proofs.«01_k».proof.Proof.Gen.SsdFwdIdeal.Frame
public import proofs.«01_k».proof.Proof.Scan.Match
public import proofs.«01_k».proof.Proof.ScanFwd.Head

@[expose] public section

set_option maxRecDepth 16384

noncomputable section

open Idealize.ShloMosaic Idealize.ShloMosaic.TcCoe Idealize.SL.Sem
open Idealize.ShloMosaic.Pipeline (Dat)

namespace Cert.SsdFwdIdeal.Scan

open Cert.SsdFwdIdeal Cert.SsdFwdIdeal.Gen
open Cert.SsdIdeal.Scan (Head stack stacked)

variable (m : (ℓ : Loc nD τ sig) → Buf (Elt Ideal) ℓ)

/-- What step `t` reads, with `h` the carried states. -/
def given (c : Dev nD) (t : Fin cfg0.N) (h : Vec Ideal S8x128x64 .f32) : Given where
  x := iblk m c 0 t
  dt := iblk m c 1 t
  a := iblk m c 2 t
  ar := iblk m c 3 t
  b := iblk m c 4 t
  c := iblk m c 5 t
  sk := iblk m c 6 t
  h := h

/-- The state that entered the chunk, kept. -/
def saved (v : Head) : FVec Ideal S1x1x128x64 .f32 := shapeCast S1x1x128x64 v.h shapeCasts_S128x64_S1x1x128x64

/-- Eight states, stacked. -/
def states {p q : ℕ} (G : Fin 8 → (⟨4, ![1, 1, p, q]⟩ : Shape).Idx → Elt Ideal .f32) : (⟨4, ![8, 1, p, q]⟩ : Shape).Idx → Elt Ideal .f32 :=
  fun y => G (y 0) (ix4 0 0 (y 2) (y 3))

/-- A head's share of the states is its place there. -/
theorem share_states {p q : ℕ} (G : Fin 8 → (⟨4, ![1, 1, p, q]⟩ : Shape).Idx → Elt Ideal .f32) (j : Fin 8) (w : (⟨4, ![1, 1, p, q]⟩ : Shape).Idx → Elt Ideal .f32)
    (hw : w = G j) (inb) (x : (Rect.unit (s := ⟨4, ![8, 1, p, q]⟩) ![j.val, 0, 0, 0] ![1, 1, p, q] inb).shape.Idx) :
    w x = states G ((Rect.unit (s := ⟨4, ![8, 1, p, q]⟩) ![j.val, 0, 0, 0] ![1, 1, p, q] inb).emb x) := by
  subst hw
  have h0 : (Rect.unit (s := ⟨4, ![8, 1, p, q]⟩) ![j.val, 0, 0, 0] ![1, 1, p, q] inb).emb x 0 = j := by
    apply Fin.ext
    rw [Rect.emb_apply]
    have : (x 0 : ℕ) < 1 := (x 0).isLt
    show j.val + 1 * (x 0 : ℕ) = j.val
    omega
  have hx : (ix4 0 0 ((Rect.unit (s := ⟨4, ![8, 1, p, q]⟩) ![j.val, 0, 0, 0] ![1, 1, p, q] inb).emb x 2)
      ((Rect.unit (s := ⟨4, ![8, 1, p, q]⟩) ![j.val, 0, 0, 0] ![1, 1, p, q] inb).emb x 3) : (⟨4, ![1, 1, p, q]⟩ : Shape).Idx) = x := by
    funext a
    match a with
    | 0 => apply Fin.ext; have : (x 0 : ℕ) < 1 := (x 0).isLt; show 0 = (x 0 : ℕ); omega
    | 1 => apply Fin.ext; have : (x 1 : ℕ) < 1 := (x 1).isLt; show 0 = (x 1 : ℕ); omega
    | 2 => apply Fin.ext; show 0 + 1 * (x 2 : ℕ) = (x 2 : ℕ); omega
    | 3 => apply Fin.ext; show 0 + 1 * (x 3 : ℕ) = (x 3 : ℕ); omega
  rw [states, h0, hx]

/-- Eight stores, head by head, leave the stack of states of what they store. -/
theorem stacked_states {p q : ℕ} (G : Fin 8 → (⟨4, ![1, 1, p, q]⟩ : Shape).Idx → Elt Ideal .f32) {w0 w1 w2 w3 w4 w5 w6 w7 : (⟨4, ![1, 1, p, q]⟩ : Shape).Idx → Elt Ideal .f32}
    {i0 i1 i2 i3 i4 i5 i6 i7} (L : List (View.Piece (Elt Ideal) (⟨4, ![8, 1, p, q]⟩ : Shape) .f32)) (y : (⟨4, ![8, 1, p, q]⟩ : Shape).Idx)
    (h7 : w7 = G 7) (h6 : w6 = G 6) (h5 : w5 = G 5) (h4 : w4 = G 4) (h3 : w3 = G 3) (h2 : w2 = G 2) (h1 : w1 = G 1) (h0 : w0 = G 0)
    (hc : ∃ r ∈ ([⟨Rect.unit ![7, 0, 0, 0] ![1, 1, p, q] i7, w7⟩, ⟨Rect.unit ![6, 0, 0, 0] ![1, 1, p, q] i6, w6⟩, ⟨Rect.unit ![5, 0, 0, 0] ![1, 1, p, q] i5, w5⟩, ⟨Rect.unit ![4, 0, 0, 0] ![1, 1, p, q] i4, w4⟩, ⟨Rect.unit ![3, 0, 0, 0] ![1, 1, p, q] i3, w3⟩, ⟨Rect.unit ![2, 0, 0, 0] ![1, 1, p, q] i2, w2⟩, ⟨Rect.unit ![1, 0, 0, 0] ![1, 1, p, q] i1, w1⟩, ⟨Rect.unit ![0, 0, 0, 0] ![1, 1, p, q] i0, w0⟩] : List (View.Piece (Elt Ideal) (⟨4, ![8, 1, p, q]⟩ : Shape) .f32)), y ∈ r.1.set) :
    View.canon ([⟨Rect.unit ![7, 0, 0, 0] ![1, 1, p, q] i7, w7⟩, ⟨Rect.unit ![6, 0, 0, 0] ![1, 1, p, q] i6, w6⟩, ⟨Rect.unit ![5, 0, 0, 0] ![1, 1, p, q] i5, w5⟩, ⟨Rect.unit ![4, 0, 0, 0] ![1, 1, p, q] i4, w4⟩, ⟨Rect.unit ![3, 0, 0, 0] ![1, 1, p, q] i3, w3⟩, ⟨Rect.unit ![2, 0, 0, 0] ![1, 1, p, q] i2, w2⟩, ⟨Rect.unit ![1, 0, 0, 0] ![1, 1, p, q] i1, w1⟩, ⟨Rect.unit ![0, 0, 0, 0] ![1, 1, p, q] i0, w0⟩] ++ L : List (View.Piece (Elt Ideal) (⟨4, ![8, 1, p, q]⟩ : Shape) .f32)) y = states G y :=
  View.canon_append_of_piecesOf (states G) L [⟨Rect.unit ![7, 0, 0, 0] ![1, 1, p, q] i7, w7⟩, ⟨Rect.unit ![6, 0, 0, 0] ![1, 1, p, q] i6, w6⟩, ⟨Rect.unit ![5, 0, 0, 0] ![1, 1, p, q] i5, w5⟩, ⟨Rect.unit ![4, 0, 0, 0] ![1, 1, p, q] i4, w4⟩, ⟨Rect.unit ![3, 0, 0, 0] ![1, 1, p, q] i3, w3⟩, ⟨Rect.unit ![2, 0, 0, 0] ![1, 1, p, q] i2, w2⟩, ⟨Rect.unit ![1, 0, 0, 0] ![1, 1, p, q] i1, w1⟩, ⟨Rect.unit ![0, 0, 0, 0] ![1, 1, p, q] i0, w0⟩] ⟨share_states G 7 w7 h7 i7, share_states G 6 w6 h6 i6, share_states G 5 w5 h5 i5, share_states G 4 w4 h4 i4, share_states G 3 w3 h3 i3, share_states G 2 w2 h2 i2, share_states G 1 w1 h1 i1, share_states G 0 w0 h0 i0, trivial⟩ y hc

/-- What a step leaves in the two results and in the carried states. -/
def Given.all (X : Given) : Vec Ideal S8x128x64 .f32 × Vec Ideal S8x1x128x64 .f32 × Vec Ideal S8x128x64 .f32 :=
  (stack fun k => out (X.H k), states fun k => saved (X.H k), stack fun k => leave (X.H k))

set_option maxHeartbeats 4000000 in
/-- A step that isn't the first chunk's, over what the step before left. -/
theorem all_B (c : Dev nD) (t : Fin cfg0.N) (h : ¬ t.val % 32 = 0) : outsAt0 m c t.val t.isLt = (given m c t (outsAt0 m c (t.val - 1) (by omega)).2.2).all := by
  rw [outsAt0_B m c t h, given]
  generalize (outsAt0 m c (t.val - 1) _).2.2 = H
  generalize iblk m c 0 t = X0
  generalize iblk m c 1 t = X1
  generalize iblk m c 2 t = X2
  generalize iblk m c 3 t = X3
  generalize iblk m c 4 t = X4
  generalize iblk m c 5 t = X5
  generalize iblk m c 6 t = X6
  refine Prod.ext (funext fun y => ?_) (Prod.ext (funext fun y => ?_) (funext fun y => ?_))
  · frame_out
    try simp only [↓read_unread_whole]
    exact stacked (fun k => out ((Given.mk X0 X1 X2 X3 X4 X5 X6 H).H k)) [] y rfl rfl rfl rfl rfl rfl rfl rfl (View.cover_of_tiled_head _ _ _ rfl y)
  · frame_out
    try simp only [↓read_unread_whole]
    exact stacked_states (fun k => saved ((Given.mk X0 X1 X2 X3 X4 X5 X6 H).H k)) [] y rfl rfl rfl rfl rfl rfl rfl rfl (View.cover_of_tiled_head _ _ _ rfl y)
  · frame_out
    try simp only [↓read_unread_whole]
    exact stacked (fun k => leave ((Given.mk X0 X1 X2 X3 X4 X5 X6 H).H k)) [] y rfl rfl rfl rfl rfl rfl rfl rfl (View.cover_of_tiled_head _ _ _ rfl y)

set_option maxHeartbeats 4000000 in
/-- The step of a group's first chunk, over zeros. -/
theorem all_A (c : Dev nD) (t : Fin cfg0.N) (h : t.val % 32 = 0) : outsAt0 m c t.val t.isLt = (given m c t (k0_pay2 : FVec Ideal S8x128x64 .f32)).all := by
  rw [outsAt0_A m c t h, given]
  generalize iblk m c 0 t = X0
  generalize iblk m c 1 t = X1
  generalize iblk m c 2 t = X2
  generalize iblk m c 3 t = X3
  generalize iblk m c 4 t = X4
  generalize iblk m c 5 t = X5
  generalize iblk m c 6 t = X6
  refine Prod.ext (funext fun y => ?_) (Prod.ext (funext fun y => ?_) (funext fun y => ?_))
  · frame_out
    try simp (disch := decide) only [↓View.readCov_skip, ↓View.readCov_fill]
    generalize k0_pay2 (F := Ideal) = H
    exact stacked (fun k => out ((Given.mk X0 X1 X2 X3 X4 X5 X6 H).H k)) [] y rfl rfl rfl rfl rfl rfl rfl rfl (View.cover_of_tiled_head _ _ _ rfl y)
  · frame_out
    try simp (disch := decide) only [↓View.readCov_skip, ↓View.readCov_fill]
    generalize k0_pay2 (F := Ideal) = H
    exact stacked_states (fun k => saved ((Given.mk X0 X1 X2 X3 X4 X5 X6 H).H k)) [] y rfl rfl rfl rfl rfl rfl rfl rfl (View.cover_of_tiled_head _ _ _ rfl y)
  · frame_out
    try simp (disch := decide) only [↓View.readCov_skip, ↓View.readCov_fill]
    generalize k0_pay2 (F := Ideal) = H
    exact stacked (fun k => leave ((Given.mk X0 X1 X2 X3 X4 X5 X6 H).H k)) [⟨_, _⟩] y rfl rfl rfl rfl rfl rfl rfl rfl (View.cover_of_tiled_head _ _ _ rfl y)

end Cert.SsdFwdIdeal.Scan

end
-- ==== Proof.ScanFwd.Steps.lean ====
/-
  What every step of the scan's kernel reads and stores: one chunk of a group's eight heads.
-/
module

public import proofs.«01_k».proof.Proof.ScanFwd.Match
public import proofs.«01_k».proof.Proof.Scan.Args

@[expose] public section

set_option maxRecDepth 16384

noncomputable section

open Idealize.ShloMosaic Idealize.ShloMosaic.TcCoe Idealize.SL.Sem
open Idealize.ShloMosaic.Pipeline (Dat)

namespace Cert.SsdFwdIdeal.Scan

open Cert.SsdFwdIdeal Cert.SsdFwdIdeal.Gen Cert.Scan

/-- The group and the chunk of a step: the chunks are taken in order. -/
def gr (t : Fin cfg0.N) : Fin 4 := ⟨t.val / 32, by have : t.val < 128 := lt_of_lt_of_eq t.isLt N_0; omega⟩
def ck (t : Fin cfg0.N) : Fin 32 := ⟨t.val % 32, by omega⟩

/-- Where the blocks of a step lie. -/
theorem place : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, 0, t.val % 32]
    ∧ win0_4.index t = ![t.val / 32, t.val % 32, 0] ∧ win0_5.index t = ![t.val / 32, t.val % 32, 0]
    ∧ win0_6.index t = ![t.val / 32, 0, 0] ∧ win0_7.index t = ![t.val / 32, t.val % 32, 0] ∧ win0_8.index t = ![t.val / 32, t.val % 32, 0, 0] :=
  (by decide +kernel : ∀ t : Fin grid0.N, _)

variable (m : (ℓ : Loc nD τ sig) → Buf (Elt Ideal) ℓ)

/-- The arguments hold `D`, which has no output gradient. -/
abbrev Holds (D : Args) (c : Dev nD) : Prop :=
  D.In (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (fun _ => (0 : EReal))

/-- What the first step of a group starts from: nothing. -/
theorem fresh (k : Fin 8) (n : Fin 128) (p : Fin 64) : (k0_pay2 : FVec Ideal S8x128x64 .f32) (ix3 k n p) = 0 := by
  pointwise [k0_pay2]

/-- The results' blocks of one chunk of a group hold the real numbers. -/
structure Stored (D : Args) (G : Fin 4) (C : Fin 32) (o : Vec Ideal S8x128x64 .f32 × Vec Ideal S8x1x128x64 .f32 × Vec Ideal S8x128x64 .f32) : Prop where
  y : ∀ k l p, o.1 (ix3 k l p) = ((D.y G k C l p : ℝ) : EReal)
  hp : ∀ k n p, o.2.1 (ix4 k 0 n p) = ((D.hp G k C n p : ℝ) : EReal)
  leave : ∀ k n p, o.2.2 (ix3 k n p) = ((D.leave G k C n p : ℝ) : EReal)

/-- A step stores what belongs to what it reads. -/
theorem all_stored {X : Given} {D : Args} {G : Fin 4} {C : Fin 32} (V : X.Of D G C) : Stored D G C X.all where
  y k l p := Given.out_at V k l p
  hp k n p := by
    have h : (X.H k).h (ix2 n p) = ((D.hp G k C n p : ℝ) : EReal) := (Given.head_of V k).h n p
    show saved (X.H k) (ix4 0 0 n p) = _
    pointwise [saved, h]
  leave k n p := Given.leave_at V k n p

variable {m} {D : Args} {c : Dev nD} (h : Holds m D c)
include h

theorem row_at (g : Fin 4) (k : Fin 8) (C : Fin 32) (s : Fin 128) :
    (V m c main_v1 : Vec Ideal S32x1x4096 .f32) (ix3 (hd g k) 0 (pl C s)) = ((D.a g k C s : ℝ) : EReal) := by
  show (StableHlo.after hostOps0 (fun b => m (c, b)) main_v1 : Vec Ideal S32x1x4096 .f32) _ = _
  after_results
  pointwise
  rw [hd_div, hd_mod]
  exact h.a g k C s

set_option maxHeartbeats 1600000 in
/-- What a step reads is one chunk of its group, if the carried states are. -/
theorem given_of (t : Fin cfg0.N) (s : Vec Ideal S8x128x64 .f32) (hs : ∀ k n p, s (ix3 k n p) = ((D.hp (gr t) k (ck t) n p : ℝ) : EReal)) :
    (given m c t s).Of D (gr t) (ck t) where
  x k l p := by
    rw [← h.x]
    blk_point [given, iblk, place t, Cert.Scan.hd, pl, gr, ck]
  dt k l := by
    rw [← h.dt]
    blk_point [given, iblk, place t, Cert.Scan.hd, pl, gr, ck]
  a k l := by
    rw [← h.a]
    blk_point [given, iblk, place t, Cert.Scan.hd, pl, gr, ck]
  ar k s := by
    rw [← row_at h]
    show (V m c main_v1 : Vec Ideal S32x1x4096 .f32) (((cfg0.win 3).blk t).view.emb (ix3 k 0 s)) = _
    generalize (V m c main_v1 : Vec Ideal S32x1x4096 .f32) = W
    blk_ext [place t, Cert.Scan.hd, pl, gr, ck]
  b l n := by
    rw [← h.b]
    blk_point [given, iblk, place t, Cert.Scan.hd, pl, gr, ck]
  c l n := by
    rw [← h.c]
    blk_point [given, iblk, place t, Cert.Scan.hd, pl, gr, ck]
  sk k := by
    rw [← h.skip]
    blk_point [given, iblk, place t, Cert.Scan.hd, pl, gr, ck]
  h := hs

theorem stored_first (t : Fin cfg0.N) (ht : t.val % 32 = 0) : Stored D (gr t) (ck t) (outsAt0 m c t.val t.isLt) := by
  have hc : ck t = 0 := Fin.ext ht
  rw [all_A m c t ht]
  exact all_stored (given_of h t _ fun k n p => by rw [hc, D.hp_first]; exact fresh k n p)

theorem stored_later (t : Fin cfg0.N) (ht : ¬ t.val % 32 = 0) (t' : Fin cfg0.N) (e : t'.val = t.val - 1)
    (ih : Stored D (gr t') (ck t') (outsAt0 m c t'.val t'.isLt)) : Stored D (gr t) (ck t) (outsAt0 m c t.val t.isLt) := by
  have hg : gr t' = gr t := Fin.ext (by show t'.val / 32 = t.val / 32; omega)
  have hc : (ck t').val + 1 = (ck t).val := by show t'.val % 32 + 1 = t.val % 32; omega
  rw [all_B m c t ht]
  obtain ⟨n', hn'⟩ := t'
  obtain rfl : n' = t.val - 1 := e
  rw [hg] at ih
  exact all_stored (given_of h t _ fun k n p => by rw [D.hp_step _ _ _ _ hc]; exact ih.leave k n p)

/-- Every step stores its chunk's results. -/
theorem stored : ∀ (n : ℕ) (hn : n < cfg0.N), Stored D (gr ⟨n, hn⟩) (ck ⟨n, hn⟩) (outsAt0 m c n hn)
  | 0, hn => stored_first h ⟨0, hn⟩ rfl
  | n + 1, hn => by
    by_cases h0 : (n + 1) % 32 = 0
    · exact stored_first h ⟨n + 1, hn⟩ h0
    · exact stored_later h ⟨n + 1, hn⟩ h0 ⟨n, by omega⟩ rfl (stored n (by omega))

end Cert.SsdFwdIdeal.Scan

end
-- ==== Proof.ScanFwd.Results.lean ====
/-
  The states of all chunks as an array, by coordinates.
-/
module

public import proofs.«01_k».proof.Proof.Scan.Results

@[expose] public section

noncomputable section

open Idealize.ShloMosaic Idealize.ShloMosaic.TcCoe Idealize.SL.Sem

namespace Cert.Scan

/-- By head and chunk, and place of the state. -/
def byState (f : Fin 4 → Fin 8 → Fin 32 → Fin 128 → Fin 64 → ℝ) : Arr ⟨4, ![32, 32, 128, 64]⟩ :=
  fun i => ((f (hdG (i 0)) (hdK (i 0)) (i 1) (i 2) (i 3) : ℝ) : EReal)

theorem byState_at (f) (g k c n p) : byState f (ix4 (hd g k) c n p) = ((f g k c n p : ℝ) : EReal) := by
  show ((f (hdG (hd g k)) (hdK (hd g k)) c n p : ℝ) : EReal) = _
  rw [hdG_hd, hdK_hd]

/-- An index of an array of four axes, by its coordinates. -/
theorem ix4_eta {a b c d : ℕ} (i : (⟨4, ![a, b, c, d]⟩ : Shape).Idx) : i = ix4 (i 0) (i 1) (i 2) (i 3) := by
  funext e
  match e with
  | 0 => rfl
  | 1 => rfl
  | 2 => rfl
  | 3 => rfl

theorem eq_byState (X : Arr ⟨4, ![32, 32, 128, 64]⟩) (f) (h : ∀ g k c n p, X (ix4 (hd g k) c n p) = ((f g k c n p : ℝ) : EReal)) : X = byState f := by
  funext i
  obtain ⟨a, b, d, e, rfl⟩ : ∃ (a : Fin 32) (b : Fin 32) (d : Fin 128) (e : Fin 64), i = ix4 a b d e := ⟨i 0, i 1, i 2, i 3, ix4_eta i⟩
  have := h (hdG a) (hdK a) b d e
  rw [hd_eta] at this
  exact this

end Cert.Scan

end
-- ==== Proof.ScanFwd.KernelRun.lean ====
/-
  What the scan's kernel leaves in its two results.
-/
module

public import proofs.«01_k».proof.Proof.ScanFwd.Steps
public import proofs.«01_k».proof.Proof.ScanFwd.Results

@[expose] public section

set_option maxRecDepth 16384

noncomputable section

open Idealize.ShloMosaic Idealize.ShloMosaic.TcCoe Idealize.SL.Sem
open Idealize.ShloMosaic.Pipeline (Dat)

namespace Cert.SsdFwdIdeal.Scan

open Cert.SsdFwdIdeal Cert.SsdFwdIdeal.Gen Cert.Scan

variable {m : (ℓ : Loc nD τ sig) → Buf (Elt Ideal) ℓ} {D : Args} {c : Dev nD} (h : Holds m D c)
include h

theorem final_y : (dats m 0 c).arrAt 7 (cfgs 0).N = byHead D.y := by
  refine (dats m 0 c).arrAt_eq_of_covers 7 _ (by decide +kernel) fun t hf y => ?_
  obtain ⟨k, l, p, rfl⟩ : ∃ (k : Fin 8) (l : Fin 128) (p : Fin 64), y = ix3 k l p := ⟨y 0, y 1, y 2, ix3_eta y⟩
  refine Eq.trans ?_ ((byHead_at D.y (gr t) k (ck t) l p).symm.trans (congrArg (byHead D.y) ?_))
  · blk_simp
    rw [after0_7]
    exact (stored h t.val t.isLt).y k l p
  · blk_ext [place t, Cert.Scan.hd, pl, gr, ck]

theorem final_hp : (dats m 0 c).arrAt 8 (cfgs 0).N = byState D.hp := by
  refine (dats m 0 c).arrAt_eq_of_covers 8 _ (by decide +kernel) fun t hf y => ?_
  obtain ⟨k, a, n, p, rfl⟩ : ∃ (k : Fin 8) (a : Fin 1) (n : Fin 128) (p : Fin 64), y = ix4 k a n p := ⟨y 0, y 1, y 2, y 3, ix4_eta y⟩
  obtain rfl : a = 0 := Subsingleton.elim _ _
  refine Eq.trans ?_ ((byState_at D.hp (gr t) k (ck t) n p).symm.trans (congrArg (byState D.hp) ?_))
  · blk_simp
    rw [after0_8]
    exact (stored h t.val t.isLt).hp k n p
  · blk_ext [place t, Cert.Scan.hd, gr, ck]

omit h in
theorem ran (m : (ℓ : Loc nD τ sig) → Buf (Elt Ideal) ℓ) (ρ : Dev nD → PrngReg) (D : Dev nD → Args) (hD : ∀ c, Holds m (D c) c) :
    θ_run defs (onTc (τ := τ) (main (F := Ideal))) ⟨m, fun _ => 0, ρ⟩ fun r => ∀ c : Dev nD,
      r.2.mem ((c.tc : Thread nD τ).loc main_v2_0) = byHead (D c).y
      ∧ r.2.mem ((c.tc : Thread nD τ).loc main_v2_1) = byState (D c).hp
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (θ_run_and (run_main m ρ) (unchanged m ρ))
  obtain ⟨harr, hrest⟩ := h.1 c
  exact ⟨(harr 7).trans (final_y (hD c)), (harr 8).trans (final_hp (hD c)), h.2 c⟩

end Cert.SsdFwdIdeal.Scan

end
-- ==== Proof.ScanFwd.RefRun.lean ====
/-
  What the scan, written plainly, leaves in its two results.
-/
module

public import proofs.«01_k».proof.Proof.Gen.SsdFwdRefIdeal.Run
public import proofs.«01_k».proof.Proof.ScanFwd.Results
public import proofs.«01_k».proof.Proof.ScanFwd.Math

@[expose] public section

set_option maxRecDepth 16384

noncomputable section

open Idealize.ShloMosaic Idealize.ShloMosaic.TcCoe Idealize.SL.Sem

namespace Cert.SsdFwdRefIdeal.Scan

open Cert.SsdFwdRefIdeal Cert.SsdFwdRefIdeal.Gen Cert.SsdFwdRefIdeal.Value Cert.Scan

/-! The parts of the scan, as functions of the arguments. -/

variable (x : FVec Ideal S32x4096x64 .f32) (dt a : FVec Ideal S4x4096x8 .f32) (b c : FVec Ideal S4x4096x128 .f32)

/-- Steps or logarithms by head and chunk; the vectors by chunk; the input times its step. -/
def byChunk (w : FVec Ideal S4x4096x8 .f32) : FVec Ideal S4x8x32x128 .f32 :=
  transpose S4x8x32x128 [0, 3, 1, 2] (shapeCast S4x32x128x8 w shapeCasts_S4x4096x8_S4x32x128x8) transposes_S4x32x128x8_S4x8x32x128_0_3_1_2
def vecs (w : FVec Ideal S4x4096x128 .f32) : FVec Ideal S4x32x128x128 .f32 := shapeCast S4x32x128x128 w shapeCasts_S4x4096x128_S4x32x128x128
/-- A number at every place, for all channels. -/
def spread (w : FVec Ideal S4x8x32x128 .f32) : FVec Ideal S4x8x32x128x64 .f32 :=
  broadcastInDim S4x8x32x128x64 ![0, 1, 2, 3, 4] bcast_S4x8x32x128x1_S4x8x32x128x64_0_1_2_3_4 (broadcastInDim S4x8x32x128x1 ![0, 1, 2, 3] bcast_S4x8x32x128_S4x8x32x128x1_0_1_2_3 w)
def xdt : FVec Ideal S4x8x32x128x64 .f32 := mulf (shapeCast S4x8x32x128x64 x shapeCasts_S32x4096x64_S4x8x32x128x64) (spread (byChunk dt))
/-- The decay between two places of a chunk. -/
def lm : FVec Ideal S4x8x32x128x128 .f32 :=
  Host.exp (select (cmpi .sle (iotaInDim S4x8x32x128x128 32 4) (iotaInDim S4x8x32x128x128 32 3)) (subf (broadcastInDim S4x8x32x128x128 ![0, 1, 2, 3, 4] bcast_S4x8x32x128x1_S4x8x32x128x128_0_1_2_3_4 (broadcastInDim S4x8x32x128x1 ![0, 1, 2, 3] bcast_S4x8x32x128_S4x8x32x128x1_0_1_2_3 (byChunk a))) (broadcastInDim S4x8x32x128x128 ![0, 1, 2, 3, 4] bcast_S4x8x32x1x128_S4x8x32x128x128_0_1_2_3_4 (broadcastInDim S4x8x32x1x128 ![0, 1, 2, 4] bcast_S4x8x32x128_S4x8x32x1x128_0_1_2_4 (byChunk a)))) (broadcastInDim S4x8x32x128x128 ![] bcast_S_S4x8x32x128x128 (constant S_ .f32 0xFF800000#32)))
def cb : FVec Ideal S4x32x128x128 .f32 := Host.dotGeneral dot_S4x32x128x128_S4x32x128x128_S4x32x128x128_3_3_2_2_01_01 none (vecs c) (vecs b)
/-- The logarithm of each chunk's decay, and the decay over the chunks between two. -/
def last : FVec Ideal S4x8x32x1 .f32 := extractStridedSlice S4x8x32x1 ![0, 0, 0, 127] (byChunk a) slices_S4x8x32x128_S4x8x32x1_0_0_0_127
def dec : FVec Ideal S4x8x32x32 .f32 :=
  Host.exp (select (cmpi .slt (iotaInDim S4x8x32x32 32 3) (iotaInDim S4x8x32x32 32 2)) (Host.reduceAdd (select (andi (cmpi .slt (iotaInDim S4x8x32x32x32 32 3) (iotaInDim S4x8x32x32x32 32 4)) (cmpi .slt (iotaInDim S4x8x32x32x32 32 4) (iotaInDim S4x8x32x32x32 32 2))) (broadcastInDim S4x8x32x32x32 ![0, 1, 2, 3, 4] bcast_S4x8x1x1x32_S4x8x32x32x32_0_1_2_3_4 (broadcastInDim S4x8x1x1x32 ![0, 1, 4] bcast_S4x8x32_S4x8x1x1x32_0_1_4 (shapeCast S4x8x32 (last a) shapeCasts_S4x8x32x1_S4x8x32))) (broadcastInDim S4x8x32x32x32 ![] bcast_S_S4x8x32x32x32 (constant S_ .f32 0x00000000#32))) (constant S_ .f32 0x00000000#32) reducesTo_S4x8x32x32x32_S4x8x32x32_d4 h_S_) (broadcastInDim S4x8x32x32 ![] bcast_S_S4x8x32x32 (constant S_ .f32 0xFF800000#32)))
/-- What a chunk adds to the state, and the state that enters a chunk. -/
def st : FVec Ideal S4x8x32x128x64 .f32 :=
  transpose S4x8x32x128x64 [0, 2, 1, 4, 3] (Host.dotGeneral dot_S4x8x32x128x64_S4x32x128x128_S4x32x8x64x128_3_2_14_3_02_01 none (mulf (spread (Host.exp (subf (broadcastInDim S4x8x32x128 ![0, 1, 2, 3] bcast_S4x8x32x1_S4x8x32x128_0_1_2_3 (last a)) (byChunk a)))) (xdt x dt)) (vecs b)) transposes_S4x32x8x64x128_S4x8x32x128x64_0_2_1_4_3
def hp : FVec Ideal S4x8x32x128x64 .f32 := Host.dotGeneral dot_S4x8x32x32_S4x8x32x128x64_S4x8x32x128x64_3_2_2_34_01_01 none (dec a) (st x dt a b)
def ch : FVec Ideal S4x8x32x128x64 .f32 :=
  transpose S4x8x32x128x64 [0, 2, 1, 4, 3] (Host.dotGeneral dot_S4x8x32x128x64_S4x32x128x128_S4x32x8x64x128_3_3_14_2_02_01 none (hp x dt a b) (vecs c)) transposes_S4x32x8x64x128_S4x8x32x128x64_0_2_1_4_3
def own : FVec Ideal S4x8x32x128x64 .f32 :=
  Host.dotGeneral dot_S4x8x32x128x128_S4x8x32x128x64_S4x8x32x128x64_4_3_3_4_012_012 none (mulf (broadcastInDim S4x8x32x128x128 ![0, 1, 2, 3, 4] bcast_S4x1x32x128x128_S4x8x32x128x128_0_1_2_3_4 (broadcastInDim S4x1x32x128x128 ![0, 2, 3, 4] bcast_S4x32x128x128_S4x1x32x128x128_0_2_3_4 (cb b c))) (lm a)) (xdt x dt)

section
variable {x dt a b c} {skip : FVec Ideal S32x1x1 .f32} {dy : FVec Ideal S32x4096x64 .f32} {D : Args} (h : D.In x dt a b c skip dy)
include h

theorem a_at (g k C l) : byChunk a (ix4 g k C l) = ((D.a g k C l : ℝ) : EReal) := by
  pointwise [byChunk]
  rw [pl_mk]
  exact h.a g k C l

theorem dt_at (g k C l) : byChunk dt (ix4 g k C l) = ((D.dt g k C l : ℝ) : EReal) := by
  pointwise [byChunk]
  rw [pl_mk]
  exact h.dt g k C l

theorem b_at (g C l n) : vecs b (ix4 g C l n) = ((D.b g C l n : ℝ) : EReal) := by
  pointwise [vecs]
  rw [pl_mk]
  exact h.b g C l n

theorem c_at (g C l n) : vecs c (ix4 g C l n) = ((D.c g C l n : ℝ) : EReal) := by
  pointwise [vecs]
  rw [pl_mk]
  exact h.c g C l n

theorem xdt_at (g k C l p) : xdt x dt (ix5 g k C l p) = ((D.xdt g k C l p : ℝ) : EReal) := by
  pointwise [xdt, spread, dt_at h]
  rw [hd_mk, pl_mk, h.x, ← EReal.coe_mul]
  rfl

theorem lm_at (g k C l s) : lm a (ix5 g k C l s) = ((D.lm g k C l s : ℝ) : EReal) := by
  pointwise [lm, a_at h]
  rw [mask_le (by decide), ← EReal.coe_sub]
  exact (congrArg _ (by rw [negInf])).trans (exp_ite _ _)

theorem cb_at (g C l s) : cb b c (ix4 g C l s) = ((D.cb g C l s : ℝ) : EReal) := by
  pointwise [cb, c_at h, b_at h]
  simp only [← EReal.coe_mul, coe_sum]
  rfl

theorem last_at (g k C) : last a (ix4 g k C 0) = ((D.last g k C : ℝ) : EReal) := by
  pointwise [last, a_at h]
  rfl

theorem dec_at (g k C j) : dec a (ix4 g k C j) = ((D.dec g k C j : ℝ) : EReal) := by
  pointwise [dec, last_at h]
  simp only [mask_between (n := 32) (by decide), mask_lt (n := 32) (by decide), negInf, coe_zero, coe_ite, coe_sum]
  exact exp_ite _ _

theorem st_at (g k C n p) : st x dt a b (ix5 g k C n p) = ((D.st g k C n p : ℝ) : EReal) := by
  pointwise [st, spread, last_at h, a_at h, xdt_at h, b_at h]
  simp only [← EReal.coe_sub, Ideal.exp_coe, ← EReal.coe_mul, coe_sum]
  exact congrArg _ (Finset.sum_congr rfl fun _ _ => mul_comm _ _)

theorem hp_at (g k C n p) : hp x dt a b (ix5 g k C n p) = ((D.hp g k C n p : ℝ) : EReal) := by
  pointwise [hp, dec_at h, st_at h]
  simp only [← EReal.coe_mul, coe_sum]
  rfl

theorem ch_at (g k C l p) : ch x dt a b c (ix5 g k C l p) = ((D.ch g k C l p : ℝ) : EReal) := by
  pointwise [ch, hp_at h, c_at h]
  simp only [← EReal.coe_mul, coe_sum]
  exact congrArg _ (Finset.sum_congr rfl fun _ _ => mul_comm _ _)

theorem own_at (g k C l p) : own x dt a b c (ix5 g k C l p) = ((∑ s, D.cb g C l s * D.lm g k C l s * D.xdt g k C s p : ℝ) : EReal) := by
  pointwise [own, cb_at h, lm_at h, xdt_at h]
  simp only [← EReal.coe_mul, coe_sum]

end

variable (m : (ℓ : Loc nD τ sig) → Buf (Elt Ideal) ℓ)

/-- The arguments hold `D`, which has no output gradient. -/
abbrev Holds (D : Args) (c : Dev nD) : Prop :=
  D.In (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (fun _ => (0 : EReal))

set_option maxHeartbeats 1600000 in
theorem ran (ρ : Dev nD → PrngReg) (D : Dev nD → Args) (hD : ∀ c, Holds m (D c) c) :
    θ_run defs (onTc (τ := τ) (main (F := Ideal))) ⟨m, fun _ => 0, ρ⟩ fun r => ∀ c : Dev nD,
      r.2.mem ((c.tc : Thread nD τ).loc main_v75) = byHead (D c).y
      ∧ r.2.mem ((c.tc : Thread nD τ).loc main_v105) = byState (D c).hp
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, hargs⟩ := h c
  have H : (D c).In (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (fun _ => (0 : EReal)) := hD c
  refine ⟨h0.trans (eq_byHead _ _ fun g k C l p => ?_), h1.trans (eq_byState _ _ fun g k C n p => ?_), hargs⟩
  · show addf (shapeCast S32x4096x64 (addf (own (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (mulf (ch (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (spread (Host.exp (byChunk (m ((c.tc : Thread nD τ).loc main_arg2))))))) shapeCasts_S4x8x32x128x64_S32x4096x64 : FVec Ideal S32x4096x64 .f32)
      (mulf (broadcastInDim S32x4096x64 ![0, 1, 2] bcast_S32x1x1_S32x4096x64_0_1_2 (m ((c.tc : Thread nD τ).loc main_arg5) : FVec Ideal S32x1x1 .f32)) (m ((c.tc : Thread nD τ).loc main_arg0) : FVec Ideal S32x4096x64 .f32)) (ix3 (hd g k) (pl C l) p) = _
    generalize D c = D at *
    generalize m ((c.tc : Thread nD τ).loc main_arg0) = w0 at *
    generalize m ((c.tc : Thread nD τ).loc main_arg1) = w1 at *
    generalize m ((c.tc : Thread nD τ).loc main_arg2) = w2 at *
    generalize m ((c.tc : Thread nD τ).loc main_arg3) = w3 at *
    generalize m ((c.tc : Thread nD τ).loc main_arg4) = w4 at *
    generalize m ((c.tc : Thread nD τ).loc main_arg5) = w5 at *
    clear * - H
    pointwise [spread]
    simp only [hd_div, hd_mod, pl_div, pl_mod]
    rw [own_at H, ch_at H, a_at H, H.skip, H.x]
    simp only [Ideal.exp_coe, ← EReal.coe_mul, ← EReal.coe_add]
    refine congrArg _ ?_
    rw [Args.y, Args.e, mul_comm (D.ch g k C l p)]
  · show shapeCast S32x32x128x64 (hp (m ((c.tc : Thread nD τ).loc main_arg0)) (m ((c.tc : Thread nD τ).loc main_arg1)) (m ((c.tc : Thread nD τ).loc main_arg2)) (m ((c.tc : Thread nD τ).loc main_arg3))) shapeCasts_S4x8x32x128x64_S32x32x128x64 (ix4 (hd g k) C n p) = _
    generalize D c = D at *
    generalize m ((c.tc : Thread nD τ).loc main_arg0) = w0 at *
    generalize m ((c.tc : Thread nD τ).loc main_arg1) = w1 at *
    generalize m ((c.tc : Thread nD τ).loc main_arg2) = w2 at *
    generalize m ((c.tc : Thread nD τ).loc main_arg3) = w3 at *
    generalize m ((c.tc : Thread nD τ).loc main_arg4) = w4 at *
    generalize m ((c.tc : Thread nD τ).loc main_arg5) = w5 at *
    clear * - H
    pointwise
    simp only [hd_div, hd_mod]
    exact hp_at H g k C n p

end Cert.SsdFwdRefIdeal.Scan

end
-- ==== Proof.ScanFwd.lean ====
/-
  The scan: the kernel, which goes through the chunks in order and carries the state between them, and the scan written plainly leave the
  same results, the outputs and the states that enter the chunks.
-/
module

public import proofs.«01_k».proof.Defs
public import proofs.«01_k».proof.Proof.Scan.Finite
public import proofs.«01_k».proof.Proof.ScanFwd.KernelRun
public import proofs.«01_k».proof.Proof.ScanFwd.RefRun

@[expose] public section

noncomputable section

open Idealize.ShloMosaic Idealize.ShloMosaic.TcCoe Idealize.SL.Sem

namespace Cert.ScanFwd

open Cert.Scan

instance finiteFacts : Cert.Pre_finite_inputs.Facts where
  bcast_S_S32x4096x64 := by decide
  bcast_S_S4x4096x8 := by decide
  bcast_S_S4x4096x128 := by decide
  bcast_S_S32x1x1 := by decide

/-- Finite arrays hold the real numbers in them. -/
theorem argsOf_in {x : Arr ⟨3, ![32, 4096, 64]⟩} {dt a : Arr ⟨3, ![4, 4096, 8]⟩} {b c : Arr ⟨3, ![4, 4096, 128]⟩} {skip : Arr ⟨3, ![32, 1, 1]⟩}
    {r0 r1 r2 r3 r4 r5} (h : Cert.Pre_finite_inputs.fn (F := Ideal) x dt a b c skip = (r0, r1, r2, r3, r4, r5))
    (h0 : r0 = fun _ => 1#1) (h1 : r1 = fun _ => 1#1) (h2 : r2 = fun _ => 1#1) (h3 : r3 = fun _ => 1#1) (h4 : r4 = fun _ => 1#1)
    (h5 : r5 = fun _ => 1#1) : (argsOf x dt a b c skip fun _ => (0 : EReal)).In x dt a b c skip fun _ => (0 : EReal) := by
  subst h0 h1 h2 h3 h4 h5
  simp only [Pre_finite_inputs.fn, Prod.mk.injEq] at h
  obtain ⟨h0, h1, h2, h3, h4, h5⟩ := h
  exact ⟨fun _ _ _ _ _ => real_of_below h0 _, fun _ _ _ _ => real_of_below h1 _, fun _ _ _ _ => real_of_below h2 _, fun _ _ _ _ => real_of_below h3 _,
    fun _ _ _ _ => real_of_below h4 _, fun _ _ => real_of_below h5 _, fun _ _ _ _ _ => (EReal.coe_toReal (by simp) (by simp)).symm⟩

/-- The real numbers in the kernel's arguments on a device. -/
abbrev args (m : (ℓ : Loc SsdFwdIdeal.nD SsdFwdIdeal.τ SsdFwdIdeal.sig) → Buf (Elt Ideal) ℓ) (c : Dev SsdFwdIdeal.nD) : Args :=
  argsOf (m ((c : Thread SsdFwdIdeal.nD SsdFwdIdeal.τ).loc SsdFwdIdeal.main_arg0)) (m ((c : Thread SsdFwdIdeal.nD SsdFwdIdeal.τ).loc SsdFwdIdeal.main_arg1))
    (m ((c : Thread SsdFwdIdeal.nD SsdFwdIdeal.τ).loc SsdFwdIdeal.main_arg2)) (m ((c : Thread SsdFwdIdeal.nD SsdFwdIdeal.τ).loc SsdFwdIdeal.main_arg3))
    (m ((c : Thread SsdFwdIdeal.nD SsdFwdIdeal.τ).loc SsdFwdIdeal.main_arg4)) (m ((c : Thread SsdFwdIdeal.nD SsdFwdIdeal.τ).loc SsdFwdIdeal.main_arg5)) fun _ => (0 : EReal)

theorem holds (m : (ℓ : Loc SsdFwdIdeal.nD SsdFwdIdeal.τ SsdFwdIdeal.sig) → Buf (Elt Ideal) ℓ) (hfin : Pre_SsdFwdIdeal_finite_inputs m) (c : Dev SsdFwdIdeal.nD) :
    SsdFwdIdeal.Scan.Holds m (args m c) c := by
  obtain ⟨h0, h1, h2, h3, h4, h5⟩ := hfin c
  exact argsOf_in rfl h0 h1 h2 h3 h4 h5

theorem algebraic : Cert.algebraic_SsdFwdIdeal_SsdFwdRefIdeal_pre_finite_inputs := by
  intro m g m' g' hfin hargs
  refine ⟨fun c => byHead (args m c).y, fun c => byState (args m c).hp, SsdFwdIdeal.Scan.ran m g (args m) (holds m hfin), ?_⟩
  refine SsdFwdRefIdeal.Scan.ran m' g' (args m) fun c => ?_
  obtain ⟨h0, h1, h2, h3, h4, h5⟩ := hargs c
  show (args m c).In (m' ((c : Thread SsdFwdRefIdeal.nD SsdFwdRefIdeal.τ).loc SsdFwdRefIdeal.main_arg0))
    (m' ((c : Thread SsdFwdRefIdeal.nD SsdFwdRefIdeal.τ).loc SsdFwdRefIdeal.main_arg1)) (m' ((c : Thread SsdFwdRefIdeal.nD SsdFwdRefIdeal.τ).loc SsdFwdRefIdeal.main_arg2))
    (m' ((c : Thread SsdFwdRefIdeal.nD SsdFwdRefIdeal.τ).loc SsdFwdRefIdeal.main_arg3)) (m' ((c : Thread SsdFwdRefIdeal.nD SsdFwdRefIdeal.τ).loc SsdFwdRefIdeal.main_arg4))
    (m' ((c : Thread SsdFwdRefIdeal.nD SsdFwdRefIdeal.τ).loc SsdFwdRefIdeal.main_arg5)) (fun _ => (0 : EReal))
  rw [h0, h1, h2, h3, h4, h5]
  exact holds m hfin c

end Cert.ScanFwd

end
-- ==== Proof.Conv.Math.lean ====
/-
  The short convolution of one channel, its activation, and the gradients of both, as functions on the extended reals.
-/
module

public import Idealize.ShloMosaic.Lib.Pipeline.ValueKit
public import Idealize.ShloMosaic.Lib.Pointwise

@[expose] public section

noncomputable section

open Idealize.ShloMosaic

namespace Cert.Conv

/-- The values one channel takes over the sequence. -/
abbrev Col := Fin 4096 → EReal

/-- What weight `k` multiplies at position `t`: the input `3 - k` positions earlier, or zero before the start. -/
def tap (u : Col) (k : Fin 4) (t : Fin 4096) : EReal :=
  if h : t.val + k.val < 3 then 0 else u ⟨t.val + k.val - 3, by omega⟩

theorem tap_zero (u : Col) (t : Fin 4096) : tap u 0 t = if h : t.val < 3 then 0 else u ⟨t.val - 3, by omega⟩ := rfl

theorem tap_one (u : Col) (t : Fin 4096) : tap u 1 t = if h : 1 + t.val < 3 then 0 else u ⟨1 + t.val - 3, by omega⟩ := by
  simp only [tap, Fin.val_one, Nat.add_comm]

theorem tap_two (u : Col) (t : Fin 4096) : tap u 2 t = if h : 2 + t.val < 3 then 0 else u ⟨2 + t.val - 3, by omega⟩ := by
  simp only [tap, Fin.val_two, Nat.add_comm]

theorem tap_three (u : Col) (t : Fin 4096) : tap u 3 t = u t := by
  simp only [tap, show (3 : Fin 4).val = 3 from rfl, Nat.add_sub_cancel]
  exact dif_neg (by omega)

/-- The convolution at position `t`. -/
def conv (u : Col) (w : Fin 4 → EReal) (b : EReal) (t : Fin 4096) : EReal :=
  w 0 * tap u 0 t + w 1 * tap u 1 t + w 2 * tap u 2 t + w 3 * tap u 3 t + b

/-- The activation. -/
def silu (x : EReal) : EReal := x * Ideal.logistic x

/-- The derivative of the activation. -/
def slope (x : EReal) : EReal := Ideal.logistic x * (1 + x * (1 - Ideal.logistic x))

/-- The cotangent of the convolution's value at position `t`. -/
def grad (u : Col) (w : Fin 4 → EReal) (b : EReal) (g : Col) (t : Fin 4096) : EReal := g t * slope (conv u w b t)

/-- The value `s` positions later, or zero past the end. -/
def ahead (d : Col) (s : ℕ) (t : Fin 4096) : EReal := if h : t.val + s < 4096 then d ⟨t.val + s, h⟩ else 0

theorem ahead_zero (d : Col) (t : Fin 4096) : ahead d 0 t = d t := dif_pos t.isLt

/-- A scaled value taken where the later position exists is the scaled later value. -/
theorem mul_ahead (x : EReal) (d : Col) (s : ℕ) (t : Fin 4096) {p : Prop} [Decidable p] (hp : p ↔ t.val + s < 4096) (f : p → EReal)
    (hf : ∀ h, f h = x * d ⟨t.val + s, hp.1 h⟩) : dite p f (fun _ => 0) = x * ahead d s t := by
  rw [ahead]
  by_cases h : p
  · rw [dif_pos h, dif_pos (hp.1 h), hf]
  · rw [dif_neg h, dif_neg fun g => h (hp.2 g), mul_zero]

/-- The cotangent of the input at position `t`, from that of the convolution. -/
def back (d : Col) (w : Fin 4 → EReal) (t : Fin 4096) : EReal :=
  w 0 * ahead d 3 t + w 1 * ahead d 2 t + w 2 * ahead d 1 t + w 3 * ahead d 0 t

theorem back_eq (d : Col) (w : Fin 4 → EReal) (t : Fin 4096) :
    w 3 * d t + w 2 * ahead d 1 t + w 1 * ahead d 2 t + w 0 * ahead d 3 t = back d w t := by
  rw [back, ahead_zero]
  abel

/-- A choice by a counter below eight being some number below eight. -/
theorem select_eq (n : ℕ) (hn : n < 8) (c : ℕ) (hc : c < 8) (x y : EReal) :
    Scalar.select (Scalar.cmpi .eq (BitVec.ofNat 32 n) (BitVec.ofNat 32 c)) x y = if n = c then x else y := by
  have e : ∀ p q : Fin 8, Scalar.cmpi .eq (BitVec.ofNat 32 p.val) (BitVec.ofNat 32 q.val) = if p = q then 1#1 else 0#1 := by decide
  have := e ⟨n, hn⟩ ⟨c, hc⟩
  rw [show Scalar.cmpi .eq (BitVec.ofNat 32 n) (BitVec.ofNat 32 c) = _ from this]
  by_cases h : n = c <;> simp [h, Scalar.select]

/-- Rows that hold the input from eight positions before block `n` on hold what the weights multiply. -/
theorem tap_of {N n : ℕ} (U : Col) (E : Fin N → EReal)
    (hE : ∀ q : Fin N, (h : n * 512 + q.val < 4104) → E q = if g : n * 512 + q.val < 8 then 0 else U ⟨n * 512 + q.val - 8, by omega⟩)
    (k : Fin 4) (a : ℕ) (ha : n * 512 + a < 4096) (q : Fin N) (hq : q.val = a + 5 + k.val) :
    E q = tap U k ⟨n * 512 + a, ha⟩ := by
  have hk := k.isLt
  rw [hE q (by omega), tap]
  by_cases h : n * 512 + a + k.val < 3
  · rw [dif_pos (by omega), dif_pos h]
  · rw [dif_neg (by omega), dif_neg h]
    exact congrArg U (Fin.ext (by simp only; omega))

/-- Rows that hold values from block `n` on, zero past the end, hold what lies `s` positions later. -/
theorem ahead_of {N n : ℕ} (d : Col) (E : Fin N → EReal)
    (hE : ∀ q : Fin N, E q = if h : n * 512 + q.val < 4096 then d ⟨n * 512 + q.val, h⟩ else 0)
    (s a : ℕ) (ha : n * 512 + a < 4096) (q : Fin N) (hq : q.val = a + s) : E q = ahead d s ⟨n * 512 + a, ha⟩ := by
  rw [hE q, ahead]
  by_cases h : n * 512 + a + s < 4096
  · rw [dif_pos (by omega), dif_pos h]
    exact congrArg d (Fin.ext (by simp only; omega))
  · rw [dif_neg (by omega), dif_neg h]

/-- The derivative of the activation times a finite cotangent is the sum the chain rule writes. -/
theorem slope_split (x : EReal) (g : ℝ) : (g : EReal) * slope x
    = (g : EReal) * Ideal.logistic x + x * (g : EReal) * (Ideal.logistic x * (1 - Ideal.logistic x)) := by
  have z : (1 : EReal) - 1 = 0 := by
    rw [← EReal.coe_one, ← EReal.coe_sub, sub_self, EReal.coe_zero]
  induction x with
  | bot => simp [slope]
  | top => simp [slope, z]
  | coe x =>
    rw [slope, Ideal.logistic_coe]
    norm_cast
    ring_nf

/-- The cotangent of the convolution's value as the chain rule writes it. -/
def gradSum (u : Col) (w : Fin 4 → EReal) (b : EReal) (g : Col) (t : Fin 4096) : EReal :=
  g t * Ideal.logistic (conv u w b t) + conv u w b t * g t * (Ideal.logistic (conv u w b t) * (1 - Ideal.logistic (conv u w b t)))

/-- A value that is a real number. -/
def Real (x : EReal) : Prop := ∃ r : ℝ, x = (r : EReal)

/-- For a finite cotangent of the result the two forms of the convolution's cotangent agree. -/
theorem grad_eq (u : Col) (w : Fin 4 → EReal) (b : EReal) {g : Col} (hg : ∀ t, Real (g t)) : grad u w b g = gradSum u w b g := by
  funext t
  obtain ⟨y, hy⟩ := hg t
  rw [grad, gradSum, hy]
  exact slope_split _ y

/-- A sum over the sequence is the sum over the eight blocks of the sums within them. -/
theorem sum_blocks (f : Col) (F : Fin 8 → Fin 512 → EReal) (h : ∀ n r, F n r = f ⟨n.val * 512 + r.val, by omega⟩) :
    ∑ n, ∑ r, F n r = ∑ t, f t :=
  Fin.sum_mul_add_congr fun n r _ => h n r

end Cert.Conv

end
-- ==== Proof.Conv.Block.lean ====
/-
  What one point of the convolution's gradient computes in a channel, from blocks that hold the channel's columns.
-/
module

public import proofs.«01_k».proof.Proof.Conv.Math
public import proofs.«01_k».proof.Proof.Gen.ConvBwdIdeal.Frame

@[expose] public section

set_option maxRecDepth 16384

noncomputable section

open Idealize.ShloMosaic Idealize.ShloMosaic.TcCoe Idealize.SL.Sem

namespace Cert.Conv.Bwd

open Cert.ConvBwdIdeal Cert.ConvBwdIdeal.Gen

/-- The blocks of row block `n` hold, in channel `ch`, the input `U`, the weights `W`, the bias `B` and the cotangent `G`. -/
structure Holds (i : grid0.Coords) (u : Vec Ideal S512x1024 .f32) (p q : Vec Ideal S8x1024 .f32) (g : Vec Ideal S512x1024 .f32)
    (gn : Vec Ideal S8x1024 .f32) (w : Vec Ideal S4x1024 .f32) (b : Vec Ideal S1x1024 .f32) (n : ℕ) (ch : Fin 1024)
    (U : Col) (W : Fin 4 → EReal) (B : EReal) (G : Col) : Prop where
  at_ : (i 1).val = n
  lt : n < 8
  u : ∀ r : Fin 512, u (ix2 r ch) = U ⟨n * 512 + r.val, by omega⟩
  p : ∀ (_ : 0 < n) (r : Fin 8), p (ix2 r ch) = U ⟨n * 512 + r.val - 8, by omega⟩
  q : ∀ (_ : n < 7) (r : Fin 8), q (ix2 r ch) = U ⟨n * 512 + 512 + r.val, by omega⟩
  g : ∀ r : Fin 512, g (ix2 r ch) = G ⟨n * 512 + r.val, by omega⟩
  gn : ∀ (_ : n < 7) (r : Fin 8), gn (ix2 r ch) = G ⟨n * 512 + 512 + r.val, by omega⟩
  w : ∀ k : Fin 4, w (ix2 k ch) = W k
  b : b (ix2 0 ch) = B

variable {i : grid0.Coords} {u : Vec Ideal S512x1024 .f32} {p q : Vec Ideal S8x1024 .f32} {g : Vec Ideal S512x1024 .f32}
  {gn : Vec Ideal S8x1024 .f32} {w : Vec Ideal S4x1024 .f32} {b : Vec Ideal S1x1024 .f32} {n : ℕ} {ch : Fin 1024}
  {U : Col} {W : Fin 4 → EReal} {B : EReal} {G : Col}

/-- The extended rows. -/
theorem rows_at (h : Holds i u p q g gn w b n ch U W B G) (r : Fin 528) (hr : n * 512 + r.val < 4104) :
    k0_pay5 i p u q (ix2 r ch) = if g : n * 512 + r.val < 8 then 0 else U ⟨n * 512 + r.val - 8, by omega⟩ := by
  have lt := h.lt
  have e := fun x y => select_eq n lt 0 (by omega) x y
  pointwise [k0_pay5]
  simp only [h.at_, e]
  by_cases h8 : r.val < 8
  · rw [dif_pos h8]
    by_cases h0 : n = 0
    · rw [if_pos h0, dif_pos (by omega)]
    · rw [if_neg h0, dif_neg (by omega), h.p (by omega)]
  · rw [dif_neg h8]
    by_cases h5 : r.val - 8 < 512
    · rw [dif_pos h5, dif_neg (by omega), h.u]
      exact congrArg U (Fin.ext (by simp only; omega))
    · rw [dif_neg h5, dif_neg (by omega), h.q (by omega)]
      exact congrArg U (Fin.ext (by simp only; omega))

/-- What a weight multiplies, read from the extended rows. -/
theorem tap_at (h : Holds i u p q g gn w b n ch U W B G) (k : Fin 4) (a : ℕ) (ha : n * 512 + a < 4096) (r : Fin 528) (hr : r.val = a + 5 + k.val) :
    k0_pay5 i p u q (ix2 r ch) = tap U k ⟨n * 512 + a, ha⟩ :=
  tap_of U (fun r => k0_pay5 i p u q (ix2 r ch)) (fun r hr => rows_at h r hr) k a ha r hr

/-- The convolution, recomputed on the block's rows and on the eight after them. -/
theorem conv_at (h : Holds i u p q g gn w b n ch U W B G) (a : Fin 520) (ha : n * 512 + a.val < 4096) :
    k0_pay6 i w p u q b (ix2 a ch) = conv U W B ⟨n * 512 + a.val, ha⟩ := by
  pointwise [k0_pay6]
  rw [h.w, h.w, h.w, h.w, h.b, tap_at h 0 a.val ha _ (by simp only [Fin.val_zero]; omega), tap_at h 1 a.val ha _ (by simp only [Fin.val_one]; omega),
    tap_at h 2 a.val ha _ (by simp only [Fin.val_two]; omega),
    tap_at h 3 a.val ha _ (by simp only [show ((3 : Fin 4).val) = 3 from rfl]; omega)]
  rfl

/-- The flag of the last row block. -/
abbrev last (i : grid0.Coords) : BitVec 1 := Scalar.cmpi .eq (BitVec.ofNat 32 (i 1).val) 7#32

/-- The cotangent of the convolution on those rows, zero past the end. -/
theorem grad_at (h : Holds i u p q g gn w b n ch U W B G) (a : Fin 520) :
    k0_pay7 (k0_pay6 i w p u q b) g (last i) gn (ix2 a ch) = if ha : n * 512 + a.val < 4096 then grad U W B G ⟨n * 512 + a.val, ha⟩ else 0 := by
  have lt := h.lt
  have e := fun x y => select_eq n lt 7 (by omega) x y
  pointwise [k0_pay7]
  simp only [last, h.at_, e]
  by_cases ha : n * 512 + a.val < 4096
  · rw [dif_pos ha, conv_at h a ha, grad, slope]
    by_cases h5 : a.val < 512
    · rw [dif_pos h5, h.g]
    · rw [dif_neg h5, if_neg (by omega), h.gn (by omega)]
      exact congrArg (fun t => G t * _) (Fin.ext (by simp only; omega))
  · rw [dif_neg ha, dif_neg (by omega), if_pos (by omega), zero_mul]

/-- The cotangent of the input. -/
theorem back_at (h : Holds i u p q g gn w b n ch U W B G) (a : Fin 512) :
    k0_pay8 w (k0_pay6 i w p u q b) g (last i) gn (ix2 a ch) = back (grad U W B G) W ⟨n * 512 + a.val, by have := h.lt; omega⟩ := by
  have lt := h.lt
  have key := fun (s : ℕ) (r : Fin 520) (hr : r.val = a.val + s) => ahead_of (n := n) (grad U W B G)
    (fun r => k0_pay7 (k0_pay6 i w p u q b) g (last i) gn (ix2 r ch)) (fun r => grad_at h r) s a.val (by omega) r hr
  pointwise [k0_pay8]
  rw [h.w, h.w, h.w, h.w, key 3 _ (by simp only; omega), key 2 _ (by simp only; omega), key 1 _ (by simp only; omega), key 0 _ (by simp only; omega)]
  rfl

/-- The cotangent on the block's own rows. -/
theorem own_at (h : Holds i u p q g gn w b n ch U W B G) (a : Fin 512) :
    k0_pay9 (k0_pay6 i w p u q b) g (last i) gn (ix2 a ch) = grad U W B G ⟨n * 512 + a.val, by have := h.lt; omega⟩ := by
  have lt := h.lt
  pointwise [k0_pay9]
  rw [grad_at h, dif_pos (by simp only; omega)]

/-- The block's part of the bias's cotangent. -/
theorem bias_at (h : Holds i u p q g gn w b n ch U W B G) (z : Fin 1) :
    k0_pay2 (k0_pay9 (k0_pay6 i w p u q b) g (last i) gn) (ix2 z ch)
      = ∑ r : Fin 512, grad U W B G ⟨n * 512 + r.val, by have := h.lt; omega⟩ := by
  pointwise [k0_pay2]
  exact Finset.sum_congr rfl fun r _ => own_at h r

/-- The block's part of a weight's cotangent. -/
theorem weight_at (h : Holds i u p q g gn w b n ch U W B G) (k : Fin 4) :
    k0_pay1 (k0_pay5 i p u q) (k0_pay9 (k0_pay6 i w p u q b) g (last i) gn)
        (k0_pay10 (k0_pay5 i p u q) (k0_pay6 i w p u q b) g (last i) gn) (k0_pay11 (k0_pay5 i p u q) (k0_pay6 i w p u q b) g (last i) gn) (ix2 k ch)
      = ∑ r : Fin 512, grad U W B G ⟨n * 512 + r.val, by have := h.lt; omega⟩ * tap U k ⟨n * 512 + r.val, by have := h.lt; omega⟩ := by
  have lt := h.lt
  pointwise [k0_pay1]
  obtain rfl | rfl | rfl | rfl := (by decide : ∀ k : Fin 4, k = 0 ∨ k = 1 ∨ k = 2 ∨ k = 3) k
  · refine (dif_pos (by decide)).trans ?_
    pointwise [k0_pay10]
    exact Finset.sum_congr rfl fun r _ => congrArg₂ (· * ·) (own_at h r) (tap_at h 0 r.val (by omega) _ (by simp only [Fin.val_zero]; omega))
  · refine (dif_neg (by decide)).trans ((dif_pos (by decide)).trans ?_)
    pointwise [k0_pay11]
    exact Finset.sum_congr rfl fun r _ => congrArg₂ (· * ·) (own_at h r) (tap_at h 1 r.val (by omega) _ (by simp only [Fin.val_one]; omega))
  · refine (dif_neg (by decide)).trans ((dif_neg (by decide)).trans ((dif_pos (by decide)).trans ?_))
    exact Finset.sum_congr rfl fun r _ => congrArg₂ (· * ·) (own_at h r) (tap_at h 2 r.val (by omega) _ (by simp only [Fin.val_two]; omega))
  · refine (dif_neg (by decide)).trans ((dif_neg (by decide)).trans ((dif_neg (by decide)).trans ?_))
    exact Finset.sum_congr rfl fun r _ => congrArg₂ (· * ·) (own_at h r)
      (tap_at h 3 r.val (by omega) _ (by simp only [show ((3 : Fin 4).val) = 3 from rfl]; omega))

/-- A later point adds its part to what the weights' block holds. -/
theorem weight_step (x : FVec Ideal S528x1024 .f32) (d : FVec Ideal S512x1024 .f32) (r0 r1 : FVec Ideal S1x1024 .f32)
    (acc : Vec Ideal S4x1024 .f32) (j) : k0_pay3 x d r0 r1 acc j = acc j + k0_pay1 x d r0 r1 j := by
  pointwise [k0_pay3]

/-- A later point adds its part to what the bias's block holds. -/
theorem bias_step (d : FVec Ideal S512x1024 .f32) (acc : Vec Ideal S1x1024 .f32) (j) : k0_pay4 d acc j = acc j + k0_pay2 d j := by
  pointwise [k0_pay4]

end Cert.Conv.Bwd

end
-- ==== Proof.Conv.BwdRef.lean ====
/-
  What the reference's gradient of the short convolution holds, element by element.
-/
module

public import proofs.«01_k».proof.Proof.Conv.Math
public import proofs.«01_k».proof.Proof.Gen.ConvBwdRefIdeal.Run

@[expose] public section

set_option maxRecDepth 16384

noncomputable section

open Idealize.ShloMosaic Idealize.ShloMosaic.TcCoe Idealize.SL.Sem

namespace Cert.Conv.BwdRef

open Cert.ConvBwdRefIdeal Cert.ConvBwdRefIdeal.Gen

variable (u d c g : FVec Ideal S4096x3072 .f32) (w : FVec Ideal S4x3072 .f32) (b : FVec Ideal S1x3072 .f32)

/-- Three rows of zeros before the input. -/
def padded : FVec Ideal S4099x3072 .f32 :=
  concatenate S4099x3072 0 [⟨S3x3072, (broadcastInDim S3x3072 ![] bcast_S_S3x3072 (constant S_ .f32 0x00000000#32))⟩, ⟨S4096x3072, u⟩] concatenates_S3x3072_S4096x3072_S4099x3072_d0

/-- What weight 0 multiplies. -/
def shift0 : FVec Ideal S4096x3072 .f32 :=
  extractStridedSlice S4096x3072 ![0, 0] (padded u) slices_S4099x3072_S4096x3072_0_0

/-- What weight 1 multiplies. -/
def shift1 : FVec Ideal S4096x3072 .f32 :=
  extractStridedSlice S4096x3072 ![1, 0] (padded u) slices_S4099x3072_S4096x3072_1_0

/-- What weight 2 multiplies. -/
def shift2 : FVec Ideal S4096x3072 .f32 :=
  extractStridedSlice S4096x3072 ![2, 0] (padded u) slices_S4099x3072_S4096x3072_2_0

/-- What weight 3 multiplies. -/
def shift3 : FVec Ideal S4096x3072 .f32 :=
  extractStridedSlice S4096x3072 ![3, 0] (padded u) slices_S4099x3072_S4096x3072_3_0

/-- The convolution. -/
def convAll : FVec Ideal S4096x3072 .f32 :=
  addf (addf (addf (addf (addf (broadcastInDim S4096x3072 ![] bcast_S_S4096x3072 (constant S_ .f32 0x00000000#32)) (mulf (broadcastInDim S4096x3072 ![0, 1] bcast_S1x3072_S4096x3072_0_1 (extractStridedSlice S1x3072 ![0, 0] w slices_S4x3072_S1x3072_0_0)) (shift0 u))) (mulf (broadcastInDim S4096x3072 ![0, 1] bcast_S1x3072_S4096x3072_0_1 (extractStridedSlice S1x3072 ![1, 0] w slices_S4x3072_S1x3072_1_0)) (shift1 u))) (mulf (broadcastInDim S4096x3072 ![0, 1] bcast_S1x3072_S4096x3072_0_1 (extractStridedSlice S1x3072 ![2, 0] w slices_S4x3072_S1x3072_2_0)) (shift2 u))) (mulf (broadcastInDim S4096x3072 ![0, 1] bcast_S1x3072_S4096x3072_0_1 (extractStridedSlice S1x3072 ![3, 0] w slices_S4x3072_S1x3072_3_0)) (shift3 u))) (broadcastInDim S4096x3072 ![0, 1] bcast_S1x3072_S4096x3072_0_1 b)

/-- The logistic function of every element. -/
def gate : FVec Ideal S4096x3072 .f32 :=
  Host.divf (broadcastInDim S4096x3072 ![] bcast_S_S4096x3072 (constant S_ .f32 0x3F800000#32)) (addf (broadcastInDim S4096x3072 ![] bcast_S_S4096x3072 (constant S_ .f32 0x3F800000#32)) (Host.exp (Host.negf c)))

/-- The cotangent of the convolution's value. -/
def cot : FVec Ideal S4096x3072 .f32 :=
  addf (mulf g (gate c)) (mulf (mulf c g) (mulf (gate c) (subf (broadcastInDim S4096x3072 ![] bcast_S_S4096x3072 (constant S_ .f32 0x3F800000#32)) (gate c))))

/-- The cotangent of the bias. -/
def biasOf : FVec Ideal S1x3072 .f32 :=
  shapeCast _ (Host.reduceAdd d (constant S_ .f32 0x00000000#32) reducesTo_S4096x3072_S3072_d0 h_S_) shapeCasts_S3072_S1x3072

/-- The cotangent of the weights. -/
def weightsOf : FVec Ideal S4x3072 .f32 :=
  addf (addf (addf (pad S4x3072 ![3, 0] ![0, 0] ![0, 0] (shapeCast _ (Host.reduceAdd (mulf d (shift3 u)) (constant S_ .f32 0x00000000#32) reducesTo_S4096x3072_S3072_d0 h_S_) shapeCasts_S3072_S1x3072) (constant S_ .f32 0x00000000#32) pads_S1x3072_S4x3072_300_000 h_S_) (pad S4x3072 ![2, 0] ![1, 0] ![0, 0] (shapeCast _ (Host.reduceAdd (mulf d (shift2 u)) (constant S_ .f32 0x00000000#32) reducesTo_S4096x3072_S3072_d0 h_S_) shapeCasts_S3072_S1x3072) (constant S_ .f32 0x00000000#32) pads_S1x3072_S4x3072_210_000 h_S_)) (pad S4x3072 ![1, 0] ![2, 0] ![0, 0] (shapeCast _ (Host.reduceAdd (mulf d (shift1 u)) (constant S_ .f32 0x00000000#32) reducesTo_S4096x3072_S3072_d0 h_S_) shapeCasts_S3072_S1x3072) (constant S_ .f32 0x00000000#32) pads_S1x3072_S4x3072_120_000 h_S_)) (pad S4x3072 ![0, 0] ![3, 0] ![0, 0] (shapeCast _ (Host.reduceAdd (mulf d (shift0 u)) (constant S_ .f32 0x00000000#32) reducesTo_S4096x3072_S3072_d0 h_S_) shapeCasts_S3072_S1x3072) (constant S_ .f32 0x00000000#32) pads_S1x3072_S4x3072_030_000 h_S_)

/-- The cotangent of the input. -/
def inputOf : FVec Ideal S4096x3072 .f32 :=
  extractStridedSlice S4096x3072 ![3, 0] (addf (addf (addf (pad S4099x3072 ![3, 0] ![0, 0] ![0, 0] (mulf (broadcastInDim S4096x3072 ![0, 1] bcast_S1x3072_S4096x3072_0_1 (extractStridedSlice S1x3072 ![3, 0] w slices_S4x3072_S1x3072_3_0)) d) (constant S_ .f32 0x00000000#32) pads_S4096x3072_S4099x3072_300_000 h_S_) (pad S4099x3072 ![2, 0] ![1, 0] ![0, 0] (mulf (broadcastInDim S4096x3072 ![0, 1] bcast_S1x3072_S4096x3072_0_1 (extractStridedSlice S1x3072 ![2, 0] w slices_S4x3072_S1x3072_2_0)) d) (constant S_ .f32 0x00000000#32) pads_S4096x3072_S4099x3072_210_000 h_S_)) (pad S4099x3072 ![1, 0] ![2, 0] ![0, 0] (mulf (broadcastInDim S4096x3072 ![0, 1] bcast_S1x3072_S4096x3072_0_1 (extractStridedSlice S1x3072 ![1, 0] w slices_S4x3072_S1x3072_1_0)) d) (constant S_ .f32 0x00000000#32) pads_S4096x3072_S4099x3072_120_000 h_S_)) (pad S4099x3072 ![0, 0] ![3, 0] ![0, 0] (mulf (broadcastInDim S4096x3072 ![0, 1] bcast_S1x3072_S4096x3072_0_1 (extractStridedSlice S1x3072 ![0, 0] w slices_S4x3072_S1x3072_0_0)) d) (constant S_ .f32 0x00000000#32) pads_S4096x3072_S4099x3072_030_000 h_S_)) slices_S4099x3072_S4096x3072_3_0

theorem shift0_at (j : S4096x3072.Idx) : shift0 u j = tap (fun t => u (ix2 t (j 1))) 0 (j 0) := by
  pointwise [shift0, padded, tap_zero]

theorem shift1_at (j : S4096x3072.Idx) : shift1 u j = tap (fun t => u (ix2 t (j 1))) 1 (j 0) := by
  pointwise [shift1, padded, tap_one]

theorem shift2_at (j : S4096x3072.Idx) : shift2 u j = tap (fun t => u (ix2 t (j 1))) 2 (j 0) := by
  pointwise [shift2, padded, tap_two]

theorem shift3_at (j : S4096x3072.Idx) : shift3 u j = tap (fun t => u (ix2 t (j 1))) 3 (j 0) := by
  pointwise [shift3, padded, tap_three]

theorem convAll_at (j : S4096x3072.Idx) :
    convAll u w b j = conv (fun t => u (ix2 t (j 1))) (fun k => w (ix2 k (j 1))) (b (ix2 0 (j 1))) (j 0) := by
  pointwise [convAll, conv, shift0_at, shift1_at, shift2_at, shift3_at]

theorem cot_at (j : S4096x3072.Idx) :
    cot (convAll u w b) g j
      = gradSum (fun t => u (ix2 t (j 1))) (fun k => w (ix2 k (j 1))) (b (ix2 0 (j 1))) (fun t => g (ix2 t (j 1))) (j 0) := by
  pointwise [cot, gate, gradSum, Ideal.logistic, convAll_at]

theorem biasOf_at (j : S1x3072.Idx) : biasOf d j = ∑ t : Fin 4096, d (ix2 t (j 1)) := by
  pointwise [biasOf]

theorem weightsOf_at (j : S4x3072.Idx) :
    weightsOf u d j = ∑ t : Fin 4096, d (ix2 t (j 1)) * tap (fun t => u (ix2 t (j 1))) (j 0) t := by
  pointwise [weightsOf, shift0_at, shift1_at, shift2_at, shift3_at]
  generalize j 0 = k
  obtain rfl | rfl | rfl | rfl := (by decide : ∀ k : Fin 4, k = 0 ∨ k = 1 ∨ k = 2 ∨ k = 3) k
  all_goals simp

theorem inputOf_at (j : S4096x3072.Idx) :
    inputOf d w j = back (fun t => d (ix2 t (j 1))) (fun k => w (ix2 k (j 1))) (j 0) := by
  pointwise [inputOf]
  have lt : (j 0).val < 4096 := (j 0).isLt
  refine (congrArg₂ (· + ·) (congrArg₂ (· + ·) (congrArg₂ (· + ·) rfl
    (mul_ahead (w (ix2 2 (j 1))) (fun t => d (ix2 t (j 1))) 1 (j 0) (by omega) _ fun h => ?_))
    (mul_ahead (w (ix2 1 (j 1))) (fun t => d (ix2 t (j 1))) 2 (j 0) (by omega) _ fun h => ?_))
    (mul_ahead (w (ix2 0 (j 1))) (fun t => d (ix2 t (j 1))) 3 (j 0) (by omega) _ fun h => ?_)).trans ?_
  · exact congrArg (fun t => w (ix2 2 (j 1)) * d (ix2 t (j 1))) (Fin.ext (by simp only; omega))
  · exact congrArg (fun t => w (ix2 1 (j 1)) * d (ix2 t (j 1))) (Fin.ext (by simp only; omega))
  · exact congrArg (fun t => w (ix2 0 (j 1)) * d (ix2 t (j 1))) (Fin.ext (by simp only; omega))
  · refine (congrArg₂ (· + ·) (congrArg₂ (· + ·) (congrArg₂ (· + ·) (congrArg (w (ix2 3 (j 1)) * d ·) ?_) rfl) rfl) rfl).trans
      (back_eq (fun t => d (ix2 t (j 1))) (fun k => w (ix2 k (j 1))) (j 0))
    exact eq_ix2 j

end Cert.Conv.BwdRef

end
-- ==== Proof.Conv.Bwd.lean ====
/-
  The gradient of the short convolution with its activation: for a finite cotangent the kernel's three arrays are the reference's.
-/
module

public import proofs.«01_k».proof.Defs
public import proofs.«01_k».proof.Proof.Conv.Block
public import proofs.«01_k».proof.Proof.Conv.BwdRef
public import proofs.«01_k».proof.Proof.Scan.Finite
public import proofs.«01_k».proof.Proof.Gen.ConvBwdIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Conv.Bwd

open Cert.ConvBwdIdeal Cert.ConvBwdIdeal.Gen

/-- A channel of an array of rows. -/
abbrev col (x : FVec Ideal S4096x3072 .f32) (ch : Fin 3072) : Col := fun t => x (ix2 t ch)

/-- A channel's weights. -/
abbrev weights (w : FVec Ideal S4x3072 .f32) (ch : Fin 3072) : Fin 4 → EReal := fun k => w (ix2 k ch)

section value

variable (u : FVec Ideal S4096x3072 .f32) (w : FVec Ideal S4x3072 .f32) (b : FVec Ideal S1x3072 .f32) (g : FVec Ideal S4096x3072 .f32)

/-- The cotangent of the convolution in a channel. -/
def cotangent (ch : Fin 3072) : Col := grad (col u ch) (weights w ch) (b (ix2 0 ch)) (col g ch)

/-- The cotangent of the input. -/
def input : FVec Ideal S4096x3072 .f32 := fun j => back (cotangent u w b g (j 1)) (weights w (j 1)) (j 0)

/-- The cotangent of the weights. -/
def weight : FVec Ideal S4x3072 .f32 := fun j => ∑ t, cotangent u w b g (j 1) t * tap (col u (j 1)) (j 0) t

/-- The cotangent of the bias. -/
def bias : FVec Ideal S1x3072 .f32 := fun j => ∑ t, cotangent u w b g (j 1) t

end value

variable (m : (ℓ : Loc nD τ sig) → Buf (Elt Ideal) ℓ)

/-- Where the blocks of the operands and of the results lie at point `t`. -/
theorem place : ∀ t : Fin cfg0.N, win0_0.index t = ![t.val % 8, t.val / 8] ∧ win0_1.index t = ![t.val % 8 * 64 - 1, t.val / 8]
    ∧ win0_2.index t = ![min (t.val % 8 * 64 + 64) 511, t.val / 8] ∧ win0_3.index t = ![t.val % 8, t.val / 8]
    ∧ win0_4.index t = ![min (t.val % 8 * 64 + 64) 511, t.val / 8] ∧ win0_5.index t = ![0, t.val / 8] ∧ win0_6.index t = ![0, t.val / 8]
    ∧ win0_7.index t = ![t.val % 8, t.val / 8] ∧ win0_8.index t = ![0, t.val / 8] ∧ win0_9.index t = ![0, t.val / 8]
    ∧ (grid0.coords t 1).val = t.val % 8 :=
  (by decide +kernel : ∀ t : Fin grid0.N, _)

/-- The channel that lane `ch` of the blocks at point `t` is. -/
def chan (t : Fin cfg0.N) (ch : Fin 1024) : Fin 3072 := ⟨t.val / 8 * 1024 + ch.val, by have : t.val < 24 := t.isLt; omega⟩

/-- The blocks at point `t` hold the arguments' channels. -/
theorem holds (c : Dev nD) (t : Fin cfg0.N) (ch : Fin 1024) :
    Holds (grid0.coords t) (iblk m c 0 t) (iblk m c 1 t) (iblk m c 2 t) (iblk m c 3 t) (iblk m c 4 t) (iblk m c 5 t) (iblk m c 6 t) (t.val % 8) ch
      (col (m ((c : Thread nD τ).loc main_arg0)) (chan t ch)) (weights (m ((c : Thread nD τ).loc main_arg1)) (chan t ch))
      (m ((c : Thread nD τ).loc main_arg2) (ix2 0 (chan t ch))) (col (m ((c : Thread nD τ).loc main_arg3)) (chan t ch)) where
  at_ := (place t).2.2.2.2.2.2.2.2.2.2
  lt := by omega
  u := fun r => by blk_point [iblk, V, place t, chan]
  p := fun h r => by blk_point [iblk, V, place t, chan]
  q := fun h r => by blk_point [iblk, V, place t, chan]
  g := fun r => by blk_point [iblk, V, place t, chan]
  gn := fun h r => by blk_point [iblk, V, place t, chan]
  w := fun k => by blk_point [iblk, V, place t, chan]
  b := by blk_point [iblk, V, place t, chan]

/-- The input's cotangent after the run. -/
theorem final_input (c : Dev nD) : (dats m 0 c).arrAt 7 (cfgs 0).N
    = input (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  have e : (outsAt0 m c t.val t.isLt).1 y = back (cotangent (m ((c : Thread nD τ).loc main_arg0)) (m ((c : Thread nD τ).loc main_arg1))
      (m ((c : Thread nD τ).loc main_arg2)) (m ((c : Thread nD τ).loc main_arg3)) (chan t (y 1))) (weights (m ((c : Thread nD τ).loc main_arg1)) (chan t (y 1)))
      ⟨t.val % 8 * 512 + (y 0).val, by have : (y 0).val < 512 := (y 0).isLt; omega⟩ := by
    rw [eq_ix2 y]
    by_cases h : t.val % 8 = 0
    · rw [outsAt0_A m c t h (by omega)]; frame_out
      exact back_at (holds m c t (y 1)) (y 0)
    · rw [outsAt0_B m c t h (by omega)]; frame_out
      exact back_at (holds m c t (y 1)) (y 0)
  refine e.trans ?_
  have e1 : chan t (y 1) = (((cfg0.win 7).blk t).view.emb y) 1 := Fin.ext (by blk_point [place t, chan])
  have e0 : (⟨t.val % 8 * 512 + (y 0).val, by have : (y 0).val < 512 := (y 0).isLt; omega⟩ : Fin 4096)
      = (((cfg0.win 7).blk t).view.emb y) 0 := Fin.ext (by blk_point [place t])
  rw [e1, e0]
  rfl

/-- The points of a run lie on one channel block. -/
theorem chan_run (t : Fin cfg0.N) (s : Fin 8) (h) (ch : Fin 1024) : chan ⟨8 * (t.val / 8) + s.val, h⟩ ch = chan t ch :=
  Fin.ext (by simp only [chan]; omega)

/-- The row block of a run's `s`-th point is block `s`. -/
theorem row_run (t : Fin cfg0.N) (s : Fin 8) (r : Fin 512) (h) :
    (⟨(8 * (t.val / 8) + s.val) % 8 * 512 + r.val, h⟩ : Fin 4096) = ⟨s.val * 512 + r.val, by omega⟩ := Fin.ext (by simp only; omega)

/-- The weights' cotangent after the run. -/
theorem final_weight (c : Dev nD) : (dats m 0 c).arrAt 8 (cfgs 0).N
    = weight (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t hf y => ?_
  blk_simp
  have lt8 := fun n : ℕ => Nat.mod_lt n (show 0 < 8 by omega)
  rw [after0_8, Pipeline.eq_sum_fin_of_reset_step_apply_of_flush (fun n h => (outsAt0 m c n h).2.1) 8 (fun _ => 0)
    (fun t y => ∑ r : Fin 512, cotangent (m ((c : Thread nD τ).loc main_arg0)) (m ((c : Thread nD τ).loc main_arg1))
      (m ((c : Thread nD τ).loc main_arg2)) (m ((c : Thread nD τ).loc main_arg3)) (chan t (y 1)) ⟨t.val % 8 * 512 + r.val, by have := lt8 t.val; omega⟩
        * tap (col (m ((c : Thread nD τ).loc main_arg0)) (chan t (y 1))) (y 0) ⟨t.val % 8 * 512 + r.val, by have := lt8 t.val; omega⟩)
    (fun t h j => by
      rw [eq_ix2 j, outsAt0_A m c t h (by omega)]; frame_out
      exact (weight_at (holds m c t (j 1)) (j 0)).trans (zero_add _).symm)
    (fun t h j => by
      rw [eq_ix2 j, outsAt0_B m c t h (by omega)]; frame_out
      exact (weight_step _ _ _ _ _ _).trans (congrArg (_ + ·) (weight_at (holds m c t (j 1)) (j 0))))
    t ((flush0_8 t).mp hf) _, zero_add]
  refine sum_blocks (fun p => cotangent (m ((c : Thread nD τ).loc main_arg0)) (m ((c : Thread nD τ).loc main_arg1))
    (m ((c : Thread nD τ).loc main_arg2)) (m ((c : Thread nD τ).loc main_arg3)) ((((cfg0.win 8).blk t).view.emb y) 1) p * tap (col (m ((c : Thread nD τ).loc main_arg0)) ((((cfg0.win 8).blk t).view.emb y) 1)) ((((cfg0.win 8).blk t).view.emb y) 0) p) _ fun s r => ?_
  simp only [row_run]
  have e0 : y 0 = (((cfg0.win 8).blk t).view.emb y) 0 := Fin.ext (by blk_point [place t])
  have e1 : chan t (y 1) = (((cfg0.win 8).blk t).view.emb y) 1 := Fin.ext (by blk_point [place t, chan])
  have e2 := (chan_run t s (Pipeline.run_point_lt_of_flush t ((flush0_8 t).mp hf) s) (y 1)).trans e1
  exact congrArg₂ (fun (ch : Fin 3072) (k : Fin 4) => cotangent (m ((c : Thread nD τ).loc main_arg0)) (m ((c : Thread nD τ).loc main_arg1))
    (m ((c : Thread nD τ).loc main_arg2)) (m ((c : Thread nD τ).loc main_arg3)) ch ⟨s.val * 512 + r.val, by omega⟩
    * tap (col (m ((c : Thread nD τ).loc main_arg0)) ch) k ⟨s.val * 512 + r.val, by omega⟩) e2 e0

/-- The bias's cotangent after the run. -/
theorem final_bias (c : Dev nD) : (dats m 0 c).arrAt 9 (cfgs 0).N
    = bias (m ((c : Thread nD τ).loc main_arg0)) (m ((c : Thread nD τ).loc main_arg1)) (m ((c : Thread nD τ).loc main_arg2))
        (m ((c : Thread nD τ).loc main_arg3)) := by
  refine (dats m 0 c).arrAt_eq_of_covers 9 _ (by decide +kernel) fun t hf y => ?_
  blk_simp
  have lt8 := fun n : ℕ => Nat.mod_lt n (show 0 < 8 by omega)
  rw [after0_9, Pipeline.eq_sum_fin_of_reset_step_apply_of_flush (fun n h => (outsAt0 m c n h).2.2) 8 (fun _ => 0)
    (fun t y => ∑ r : Fin 512, cotangent (m ((c : Thread nD τ).loc main_arg0)) (m ((c : Thread nD τ).loc main_arg1))
      (m ((c : Thread nD τ).loc main_arg2)) (m ((c : Thread nD τ).loc main_arg3)) (chan t (y 1)) ⟨t.val % 8 * 512 + r.val, by have := lt8 t.val; omega⟩)
    (fun t h j => by
      rw [eq_ix2 j, outsAt0_A m c t h (by omega)]; frame_out
      exact (bias_at (holds m c t (j 1)) (j 0)).trans (zero_add _).symm)
    (fun t h j => by
      rw [eq_ix2 j, outsAt0_B m c t h (by omega)]; frame_out
      exact (bias_step _ _ _).trans (congrArg (_ + ·) (bias_at (holds m c t (j 1)) (j 0))))
    t ((flush0_9 t).mp hf) _, zero_add]
  refine sum_blocks (fun p => cotangent (m ((c : Thread nD τ).loc main_arg0)) (m ((c : Thread nD τ).loc main_arg1))
    (m ((c : Thread nD τ).loc main_arg2)) (m ((c : Thread nD τ).loc main_arg3)) ((((cfg0.win 9).blk t).view.emb y) 1) p) _ fun s r => ?_
  simp only [row_run]
  have e1 : chan t (y 1) = (((cfg0.win 9).blk t).view.emb y) 1 := Fin.ext (by blk_point [place t, chan])
  have e2 := (chan_run t s (Pipeline.run_point_lt_of_flush t ((flush0_9 t).mp hf) s) (y 1)).trans e1
  exact congrArg (fun ch : Fin 3072 => cotangent (m ((c : Thread nD τ).loc main_arg0)) (m ((c : Thread nD τ).loc main_arg1))
    (m ((c : Thread nD τ).loc main_arg2)) (m ((c : Thread nD τ).loc main_arg3)) ch ⟨s.val * 512 + r.val, by omega⟩) e2

section reference

variable {u : FVec Ideal S4096x3072 .f32} {w : FVec Ideal S4x3072 .f32} {b : FVec Ideal S1x3072 .f32} {g : FVec Ideal S4096x3072 .f32}

/-- The reference's cotangent of the convolution is the kernel's. -/
theorem cot_eq (h : ∀ j, Real (g j)) (ch : Fin 3072) : (fun t => BwdRef.cot (BwdRef.convAll u w b) g (ix2 t ch)) = cotangent u w b g ch := by
  rw [cotangent, grad_eq _ _ _ (fun _ => h _)]
  exact funext fun t => BwdRef.cot_at u g w b (ix2 t ch)

theorem input_eq (h : ∀ j, Real (g j)) : BwdRef.inputOf (BwdRef.cot (BwdRef.convAll u w b) g) w = input u w b g :=
  funext fun j => (BwdRef.inputOf_at _ w j).trans (congrArg (back · _ _) (cot_eq h (j 1)))

theorem weight_eq (h : ∀ j, Real (g j)) : BwdRef.weightsOf u (BwdRef.cot (BwdRef.convAll u w b) g) = weight u w b g :=
  funext fun j => (BwdRef.weightsOf_at u _ j).trans
    (Finset.sum_congr rfl fun t _ => congrArg (· * tap (col u (j 1)) (j 0) t) (congrFun (cot_eq h (j 1)) t))

theorem bias_eq (h : ∀ j, Real (g j)) : BwdRef.biasOf (BwdRef.cot (BwdRef.convAll u w b) g) = bias u w b g :=
  funext fun j => (BwdRef.biasOf_at _ j).trans (Finset.sum_congr rfl fun t _ => congrFun (cot_eq h (j 1)) t)

end reference

instance finiteFacts : Cert.Pre_finite_cotangent.Facts where
  bcast_S_S4096x3072 := by decide

/-- Kernel and reference end with the same three arrays. -/
theorem agree : Cert.algebraic_ConvBwdIdeal_ConvBwdRefIdeal_pre_finite_cotangent := by
  intro m g m' g' hfin same
  have fin : ∀ (c : Dev nD) (j : S4096x3072.Idx), Real (m ((c.tc : Thread nD τ).loc main_arg3) j) :=
    fun c j => ⟨_, Scan.real_of_below (hfin c) j⟩
  refine ⟨fun c => input (m ((c.tc : Thread nD τ).loc main_arg0)) (m ((c.tc : Thread nD τ).loc main_arg1)) (m ((c.tc : Thread nD τ).loc main_arg2))
      (m ((c.tc : Thread nD τ).loc main_arg3)),
    fun c => weight (m ((c.tc : Thread nD τ).loc main_arg0)) (m ((c.tc : Thread nD τ).loc main_arg1)) (m ((c.tc : Thread nD τ).loc main_arg2))
      (m ((c.tc : Thread nD τ).loc main_arg3)),
    fun c => bias (m ((c.tc : Thread nD τ).loc main_arg0)) (m ((c.tc : Thread nD τ).loc main_arg1)) (m ((c.tc : Thread nD τ).loc main_arg2))
      (m ((c.tc : Thread nD τ).loc main_arg3)),
    (θ_run _ _ _).mono (fun _ h c => ⟨(h c).1.trans (final_input m c), (h c).2.1.trans (final_weight m c), (h c).2.2.1.trans (final_bias m c), (h c).2.2.2⟩)
      (Cert.ConvBwdIdeal.Value.run_blocks m g),
    (θ_run _ _ _).mono (fun _ h c => ⟨(h c).1.trans ?_, (h c).2.1.trans ?_, (h c).2.2.1.trans ?_, (h c).2.2.2⟩) (Cert.ConvBwdRefIdeal.Value.run m' g')⟩
  · refine Eq.trans ?_ (input_eq (fin c))
    rw [← (same c).1, ← (same c).2.1, ← (same c).2.2.1, ← (same c).2.2.2]
    rfl
  · refine Eq.trans ?_ (weight_eq (fin c))
    rw [← (same c).1, ← (same c).2.1, ← (same c).2.2.1, ← (same c).2.2.2]
    rfl
  · refine Eq.trans ?_ (bias_eq (fin c))
    rw [← (same c).1, ← (same c).2.1, ← (same c).2.2.1, ← (same c).2.2.2]
    rfl

end Cert.Conv.Bwd

end
-- ==== Proof.Conv.Fwd.lean ====
/-
  The short convolution with its activation: the kernel's array is the reference's.
-/
module

public import proofs.«01_k».proof.Defs
public import proofs.«01_k».proof.Proof.Conv.Math
public import proofs.«01_k».proof.Proof.Gen.ConvFwdIdeal.Value
public import proofs.«01_k».proof.Proof.Gen.ConvFwdRefIdeal.Run
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Conv.Fwd

open Cert.ConvFwdIdeal Cert.ConvFwdIdeal.Gen

/-- The mathematics of the call over its three arguments. -/
def value (u : FVec Ideal S4096x3072 .f32) (w : FVec Ideal S4x3072 .f32) (b : FVec Ideal S1x3072 .f32) : FVec Ideal S4096x3072 .f32 :=
  fun j => silu (conv (fun t => u (ix2 t (j 1))) (fun k => w (ix2 k (j 1))) (b (ix2 0 (j 1))) (j 0))

/-- What one point stores in a channel, when its blocks hold the channel's column `U` and weights `W`, `B`. -/
theorem stored_of (i : grid0.Coords) (w : Vec Ideal S4x1024 .f32) (p : Vec Ideal S8x1024 .f32) (u : Vec Ideal S512x1024 .f32)
    (b : Vec Ideal S1x1024 .f32) (n : ℕ) (hi : (i 1).val = n) (hn : n < 8) (j : S512x1024.Idx) (U : Col) (W : Fin 4 → EReal) (B : EReal)
    (hw : ∀ k, w (ix2 k (j 1)) = W k) (hb : b (ix2 0 (j 1)) = B)
    (hu : ∀ r : Fin 512, u (ix2 r (j 1)) = U ⟨n * 512 + r.val, by omega⟩)
    (hp : ∀ (h : 0 < n) (r : Fin 8), p (ix2 r (j 1)) = U ⟨n * 512 + r.val - 8, by omega⟩) :
    k0_pay1 i p u w b j = silu (conv U W B ⟨n * 512 + (j 0).val, by have := (j 0).isLt; change (j 0).val < 512 at this; omega⟩) := by
  have lt : (j 0).val < 512 := (j 0).isLt
  have key := fun (k : Fin 4) (q : Fin 520) (hq : q.val = (j 0).val + 5 + k.val) => tap_of (n := n) U
    (fun q : Fin 520 => if h : q.val < 8 then Scalar.select (Scalar.cmpi .eq (BitVec.ofNat 32 (i 1).val) 0#32) 0 (p (ix2 ⟨q.val, h⟩ (j 1)))
      else u (ix2 ⟨q.val - 8, by omega⟩ (j 1)))
    (fun q _ => by
      have e := fun x y => select_eq n hn 0 (by omega) x y
      simp only [hi, e]
      by_cases h8 : q.val < 8
      · rw [dif_pos h8]
        by_cases h0 : n = 0
        · rw [if_pos h0, dif_pos (by omega)]
        · rw [if_neg h0, dif_neg (by omega), hp (by omega)]
      · rw [dif_neg h8, dif_neg (by omega), hu]
        exact congrArg U (Fin.ext (by simp only; omega)))
    k (j 0).val (by omega) q hq
  pointwise [k0_pay1]
  rw [hw, hw, hw, hw, hb]
  have k0 := key 0 ⟨(8 + (j 0).val + 520 - 3) % 520, by omega⟩ (by simp only [Fin.val_zero]; omega)
  have k1 := key 1 ⟨(8 + (j 0).val + 520 - 2) % 520, by omega⟩ (by simp only [Fin.val_one]; omega)
  have k2 := key 2 ⟨(8 + (j 0).val + 520 - 1) % 520, by omega⟩ (by simp only [Fin.val_two]; omega)
  have k3 := key 3 ⟨(8 + (j 0).val + 520) % 520, by omega⟩ (by simp only [show ((3 : Fin 4).val) = 3 from rfl]; omega)
  simp only at k0 k1 k2 k3
  rw [k0, k1, k2, k3]
  rfl

variable (m : (ℓ : Loc nD τ sig) → Buf (Elt Ideal) ℓ)

/-- Where the blocks of the operands and of the result lie at point `t`. -/
theorem place : ∀ t : Fin cfg0.N, win0_0.index t = ![t.val % 8, t.val / 8] ∧ win0_1.index t = ![t.val % 8 * 64 - 1, t.val / 8]
    ∧ win0_2.index t = ![0, t.val / 8] ∧ win0_3.index t = ![0, t.val / 8] ∧ win0_4.index t = ![t.val % 8, t.val / 8]
    ∧ (grid0.coords t 1).val = t.val % 8 :=
  (by decide +kernel : ∀ t : Fin grid0.N, _)

/-- What point `t` stores at `y` is the value at the element of the result under `y`. -/
theorem stored (c : Dev nD) (t : Fin cfg0.N) (y) : k0_pay1 (grid0.coords t) (iblk m c 1 t) (iblk m c 0 t) (iblk m c 2 t) (iblk m c 3 t) y
    = value (m ((c : Thread nD τ).loc main_arg0)) (m ((c : Thread nD τ).loc main_arg1)) (m ((c : Thread nD τ).loc main_arg2))
      (((cfg0.win 4).blk t).view.emb y) := by
  refine (stored_of _ _ _ _ _ (t.val % 8) (place t).2.2.2.2.2 (by omega) y
    (fun s => m ((c : Thread nD τ).loc main_arg0) (ix2 s ((((cfg0.win 4).blk t).view.emb y) 1)))
    (fun k => m ((c : Thread nD τ).loc main_arg1) (ix2 k ((((cfg0.win 4).blk t).view.emb y) 1)))
    (m ((c : Thread nD τ).loc main_arg2) (ix2 0 ((((cfg0.win 4).blk t).view.emb y) 1))) ?_ ?_ ?_ ?_).trans ?_
  · intro k
    blk_point [iblk, V, place t]
  · blk_point [iblk, V, place t]
  · intro r
    blk_point [iblk, V, place t]
  · intro h r
    blk_point [iblk, V, place t]
  · refine congrArg silu (congrArg (conv _ _ _) (Fin.ext ?_))
    blk_point [iblk, V, place t]

/-- The result after the run is the value. -/
theorem final (c : Dev nD) : (dats m 0 c).arrAt 4 (cfgs 0).N
    = value (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact stored m c t y

/-- The reference's array is the value. -/
theorem reference (mr : (ℓ : Loc Cert.ConvFwdRefIdeal.nD Cert.ConvFwdRefIdeal.τ Cert.ConvFwdRefIdeal.sig) → Buf (Elt Ideal) ℓ)
    (c : Dev Cert.ConvFwdRefIdeal.nD) :
    Cert.ConvFwdRefIdeal.Value.res_main_v25 (F := Ideal) mr c
      = value (mr ((c.tc : Thread Cert.ConvFwdRefIdeal.nD Cert.ConvFwdRefIdeal.τ).loc Cert.ConvFwdRefIdeal.main_arg0)) (mr ((c.tc : Thread Cert.ConvFwdRefIdeal.nD Cert.ConvFwdRefIdeal.τ).loc Cert.ConvFwdRefIdeal.main_arg1))
          (mr ((c.tc : Thread Cert.ConvFwdRefIdeal.nD Cert.ConvFwdRefIdeal.τ).loc Cert.ConvFwdRefIdeal.main_arg2)) := by
  funext j
  pointwise [Cert.ConvFwdRefIdeal.Value.res_main_v25, Cert.ConvFwdRefIdeal.Value.fn_main_v1, value, silu, conv, tap_zero, tap_one, tap_two, tap_three, Ideal.logistic]

/-- Kernel and reference end with the same array. -/
theorem agree : Cert.algebraic_ConvFwdIdeal_ConvFwdRefIdeal := fun m g m' g' _ same =>
  ⟨fun c => value (m ((c.tc : Thread nD τ).loc main_arg0)) (m ((c.tc : Thread nD τ).loc main_arg1)) (m ((c.tc : Thread nD τ).loc main_arg2)),
    (θ_run _ _ _).mono (fun _ h c => ⟨(h c).1.trans (final m c), (h c).2⟩) (Cert.ConvFwdIdeal.Value.run_blocks m g),
    (θ_run _ _ _).mono (fun _ h c => ⟨(h c).1.trans ((reference m' c).trans (by rw [(same c).1, (same c).2.1, (same c).2.2])), (h c).2⟩)
      (Cert.ConvFwdRefIdeal.Value.run m' g')⟩

end Cert.Conv.Fwd

end
-- ==== Proof.Projections.SsdZ.lean ====
/-
  The state-space block's gate projection, and its gradients by its two operands: each call's array is its reference's product.
-/
module

public import proofs.«01_k».proof.Defs
public import proofs.«01_k».proof.Proof.Gen.SsdZDxIdeal.Frame
public import proofs.«01_k».proof.Proof.Gen.SsdZDxIdeal.Value
public import proofs.«01_k».proof.Proof.Gen.SsdZDxRefIdeal.Run
public import proofs.«01_k».proof.Proof.Gen.SsdZDwIdeal.Frame
public import proofs.«01_k».proof.Proof.Gen.SsdZDwIdeal.Value
public import proofs.«01_k».proof.Proof.Gen.SsdZDwRefIdeal.Run
public import proofs.«01_k».proof.Proof.Gen.SsdZFwdIdeal.Frame
public import proofs.«01_k».proof.Proof.Gen.SsdZFwdIdeal.Value
public import proofs.«01_k».proof.Proof.Gen.SsdZFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.SsdZ

namespace Dx

open Cert.SsdZDxIdeal Cert.SsdZDxIdeal.Gen

variable (m : (ℓ : Loc nD τ sig) → Buf (Elt Ideal) ℓ)

/-- The reference's term over its two arguments. -/
abbrev product (G : FVec Ideal S4096x2048 .f32) (W : FVec Ideal S1024x2048 .bf16) : FVec Ideal S4096x1024 .bf16 :=
  truncf .bf16 (Host.dotGeneral Cert.SsdZDxRefIdeal.dot_S4096x2048_S1024x2048_S4096x1024_1_1_0_0_n_n none G (extf .f32 W Cert.SsdZDxRefIdeal.Gen.bitsLt_bf16_f32)) Cert.SsdZDxRefIdeal.Gen.bitsLt_bf16_f32

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdZDxIdeal_SsdZDxRefIdeal := fun m g m' g' _ same =>
  ⟨fun c => product (m ((c.tc : Thread Cert.SsdZDxIdeal.nD Cert.SsdZDxIdeal.τ).loc Cert.SsdZDxIdeal.main_arg0)) (m ((c.tc : Thread Cert.SsdZDxIdeal.nD Cert.SsdZDxIdeal.τ).loc Cert.SsdZDxIdeal.main_arg1)),
    (θ_run _ _ _).mono (fun _ h c => ⟨(h c).1.trans (final m c), (h c).2.1, (h c).2.2⟩) (Cert.SsdZDxIdeal.Value.run_blocks m g),
    (θ_run _ _ _).mono (fun _ h c => ⟨(h c).1.trans (by rw [(same c).1, (same c).2]), (h c).2.1, (h c).2.2⟩) (Cert.SsdZDxRefIdeal.Value.run m' g')⟩

end Dx

namespace Dw

open Cert.SsdZDwIdeal Cert.SsdZDwIdeal.Gen

variable (m : (ℓ : Loc nD τ sig) → Buf (Elt Ideal) ℓ)

/-- The reference's term over its two arguments. -/
abbrev product (X : FVec Ideal S4096x1024 .bf16) (G : FVec Ideal S4096x2048 .f32) : FVec Ideal S1024x2048 .f32 :=
  transpose Cert.SsdZDwRefIdeal.S1024x2048 [1, 0] (Host.dotGeneral Cert.SsdZDwRefIdeal.dot_S4096x2048_S4096x1024_S2048x1024_0_0_1_1_n_n none G (extf .f32 X Cert.SsdZDwRefIdeal.Gen.bitsLt_bf16_f32)) Cert.SsdZDwRefIdeal.Gen.transposes_S2048x1024_S1024x2048_1_0

/-- Where the blocks of the two operands and of the result lie at point `t`. -/
theorem place : ∀ t : Fin cfg0.N, win0_0.index t = ![t.val % 4, 0] ∧ win0_1.index t = ![t.val % 4, t.val / 4] ∧ win0_2.index t = ![0, t.val / 4] :=
  (by decide +kernel : ∀ t : Fin grid0.N, _)

/-- The addend of one point, at an index. -/
theorem addend_at (x0 : FVec Ideal S1024x1024 .bf16) (x1 : FVec Ideal S1024x1024 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1024 .bf16) (x1 : FVec Ideal S1024x1024 .f32) (acc : FVec Ideal S1024x1024 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X G) (j) : product X G j = ∑ k : Fin 4096, X (ix2 k (j 0)) * G (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_SsdZDwIdeal_SsdZDwRefIdeal := fun m g m' g' _ same =>
  ⟨fun c => product (m ((c.tc : Thread Cert.SsdZDwIdeal.nD Cert.SsdZDwIdeal.τ).loc Cert.SsdZDwIdeal.main_arg0)) (m ((c.tc : Thread Cert.SsdZDwIdeal.nD Cert.SsdZDwIdeal.τ).loc Cert.SsdZDwIdeal.main_arg1)),
    (θ_run _ _ _).mono (fun _ h c => ⟨(h c).1.trans (final m c), (h c).2.1, (h c).2.2⟩) (Cert.SsdZDwIdeal.Value.run_blocks m g),
    (θ_run _ _ _).mono (fun _ h c => ⟨(h c).1.trans (by rw [(same c).1, (same c).2]), (h c).2.1, (h c).2.2⟩) (Cert.SsdZDwRefIdeal.Value.run m' g')⟩

end Dw

namespace Fwd

open Cert.SsdZFwdIdeal Cert.SsdZFwdIdeal.Gen

variable (m : (ℓ : Loc nD τ sig) → Buf (Elt Ideal) ℓ)

/-- The reference's term over its two arguments. -/
abbrev product (X : FVec Ideal S4096x1024 .bf16) (W : FVec Ideal S1024x2048 .bf16) : FVec Ideal S4096x2048 .f32 :=
  Host.dotGeneral Cert.SsdZFwdRefIdeal.dot_S4096x1024_S1024x2048_S4096x2048_1_0_0_1_n_n none (extf .f32 X Cert.SsdZFwdRefIdeal.Gen.bitsLt_bf16_f32) (extf .f32 W Cert.SsdZFwdRefIdeal.Gen.bitsLt_bf16_f32)

/-- Where the blocks of the two operands and of the result lie at point `t`. -/
theorem place : ∀ t : Fin cfg0.N, win0_0.index t = ![t.val / 2, 0] ∧ win0_1.index t = ![0, t.val % 2] ∧ win0_2.index t = ![t.val / 2, t.val % 2] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdZFwdIdeal_SsdZFwdRefIdeal := fun m g m' g' _ same =>
  ⟨fun c => product (m ((c.tc : Thread Cert.SsdZFwdIdeal.nD Cert.SsdZFwdIdeal.τ).loc Cert.SsdZFwdIdeal.main_arg0)) (m ((c.tc : Thread Cert.SsdZFwdIdeal.nD Cert.SsdZFwdIdeal.τ).loc Cert.SsdZFwdIdeal.main_arg1)),
    (θ_run _ _ _).mono (fun _ h c => ⟨(h c).1.trans (final m c), (h c).2.1, (h c).2.2⟩) (Cert.SsdZFwdIdeal.Value.run_blocks m g),
    (θ_run _ _ _).mono (fun _ h c => ⟨(h c).1.trans (by rw [(same c).1, (same c).2]), (h c).2.1, (h c).2.2⟩) (Cert.SsdZFwdRefIdeal.Value.run m' g')⟩

end Fwd

end Cert.Projections.SsdZ

end
-- ==== Proof.Projections.SsdXbc.lean ====
/-
  The state-space block's projection to the scan's inputs, and its gradients by its two operands: each call's array is its reference's product.
-/
module

public import proofs.«01_k».proof.Defs
public import proofs.«01_k».proof.Proof.Gen.SsdXbcDxIdeal.Frame
public import proofs.«01_k».proof.Proof.Gen.SsdXbcDxIdeal.Value
public import proofs.«01_k».proof.Proof.Gen.SsdXbcDxRefIdeal.Run
public import proofs.«01_k».proof.Proof.Gen.SsdXbcDwIdeal.Frame
public import proofs.«01_k».proof.Proof.Gen.SsdXbcDwIdeal.Value
public import proofs.«01_k».proof.Proof.Gen.SsdXbcDwRefIdeal.Run
public import proofs.«01_k».proof.Proof.Gen.SsdXbcFwdIdeal.Frame
public import proofs.«01_k».proof.Proof.Gen.SsdXbcFwdIdeal.Value
public import proofs.«01_k».proof.Proof.Gen.SsdXbcFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.SsdXbc

namespace Dx

open Cert.SsdXbcDxIdeal Cert.SsdXbcDxIdeal.Gen

variable (m : (ℓ : Loc nD τ sig) → Buf (Elt Ideal) ℓ)

/-- The reference's term over its two arguments. -/
abbrev product (G : FVec Ideal S4096x3072 .f32) (W : FVec Ideal S1024x3072 .bf16) : FVec Ideal S4096x1024 .bf16 :=
  truncf .bf16 (Host.dotGeneral Cert.SsdXbcDxRefIdeal.dot_S4096x3072_S1024x3072_S4096x1024_1_1_0_0_n_n none G (extf .f32 W Cert.SsdXbcDxRefIdeal.Gen.bitsLt_bf16_f32)) Cert.SsdXbcDxRefIdeal.Gen.bitsLt_bf16_f32

/-- Where the blocks of the two operands and of the result lie at point `t`. -/
theorem place : ∀ t : Fin cfg0.N, win0_0.index t = ![t.val / 2, t.val % 2] ∧ win0_1.index t = ![0, t.val % 2] ∧ win0_2.index t = ![t.val / 2, 0] :=
  (by decide +kernel : ∀ t : Fin grid0.N, _)

/-- The first point of a pair leaves its addend in the accumulator, -/
theorem addend_at (x0 : FVec Ideal S1024x1536 .f32) (x1 : FVec Ideal S1024x1536 .bf16) (j) :
    k0_pay2 (F := Ideal) x0 x1 j = ∑ k : Fin 1536, x0 (ix2 (j 0) k) * x1 (ix2 (j 1) k) := by
  pointwise [k0_pay1, k0_pay2]

/-- the second adds its own, -/
theorem step_at (x0 : FVec Ideal S1024x1536 .f32) (x1 : FVec Ideal S1024x1536 .bf16) (acc : FVec Ideal S1024x1024 .f32) (j) :
    k0_pay3 (F := Ideal) x0 x1 acc j = acc j + ∑ k : Fin 1536, x0 (ix2 (j 0) k) * x1 (ix2 (j 1) k) := by
  pointwise [k0_pay1, k0_pay3]

/-- and copies the accumulator to the result's block. -/
theorem copied (acc : FVec Ideal S1024x1024 .f32) (j) : k0_pay4 (F := Ideal) acc j = acc j := by
  pointwise [k0_pay4]

/-- The block after the pair's second point is the accumulator. -/
theorem last_point (c : Dev nD) (t : Fin cfg0.N) (h : t.val % 2 = 1) (j) :
    (outsAt0 m c t.val t.isLt).1 j = (outsAt0 m c t.val t.isLt).2 j := by
  rw [outsAt0_B m c t (by omega) h h]; frame_out; rw [copied]

/-- The product at an index. -/
theorem product_at (G W) (j) : product G W j = ∑ k : Fin 3072, G (ix2 (j 0) k) * W (ix2 (j 1) k) := by
  pointwise [product]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, last_point m c t ((flush0_2 t).mp hf),
    Pipeline.eq_sum_fin_of_reset_step_apply_of_flush (fun n h => (outsAt0 m c n h).2) 2 (fun _ => 0) _
    (fun t h j => by rw [outsAt0_A m c t h (by omega) (by omega)]; frame_out; rw [addend_at]; exact (zero_add _).symm)
    (fun t h j => by rw [outsAt0_B m c t h (by omega) (by omega)]; frame_out; simp only [read_unread_whole]; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_SsdXbcDxIdeal_SsdXbcDxRefIdeal := fun m g m' g' _ same =>
  ⟨fun c => product (m ((c.tc : Thread Cert.SsdXbcDxIdeal.nD Cert.SsdXbcDxIdeal.τ).loc Cert.SsdXbcDxIdeal.main_arg0)) (m ((c.tc : Thread Cert.SsdXbcDxIdeal.nD Cert.SsdXbcDxIdeal.τ).loc Cert.SsdXbcDxIdeal.main_arg1)),
    (θ_run _ _ _).mono (fun _ h c => ⟨(h c).1.trans (final m c), (h c).2.1, (h c).2.2⟩) (Cert.SsdXbcDxIdeal.Value.run_blocks m g),
    (θ_run _ _ _).mono (fun _ h c => ⟨(h c).1.trans (by rw [(same c).1, (same c).2]), (h c).2.1, (h c).2.2⟩) (Cert.SsdXbcDxRefIdeal.Value.run m' g')⟩

end Dx

namespace Dw

open Cert.SsdXbcDwIdeal Cert.SsdXbcDwIdeal.Gen

variable (m : (ℓ : Loc nD τ sig) → Buf (Elt Ideal) ℓ)

/-- The reference's term over its two arguments. -/
abbrev product (X : FVec Ideal S4096x1024 .bf16) (G : FVec Ideal S4096x3072 .f32) : FVec Ideal S1024x3072 .f32 :=
  transpose Cert.SsdXbcDwRefIdeal.S1024x3072 [1, 0] (Host.dotGeneral Cert.SsdXbcDwRefIdeal.dot_S4096x3072_S4096x1024_S3072x1024_0_0_1_1_n_n none G (extf .f32 X Cert.SsdXbcDwRefIdeal.Gen.bitsLt_bf16_f32)) Cert.SsdXbcDwRefIdeal.Gen.transposes_S3072x1024_S1024x3072_1_0

/-- Where the blocks of the two operands and of the result lie at point `t`. -/
theorem place : ∀ t : Fin cfg0.N, win0_0.index t = ![t.val % 4, 0] ∧ win0_1.index t = ![t.val % 4, t.val / 4] ∧ win0_2.index t = ![0, t.val / 4] :=
  (by decide +kernel : ∀ t : Fin grid0.N, _)

/-- The addend of one point, at an index. -/
theorem addend_at (x0 : FVec Ideal S1024x1024 .bf16) (x1 : FVec Ideal S1024x1024 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1024 .bf16) (x1 : FVec Ideal S1024x1024 .f32) (acc : FVec Ideal S1024x1024 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X G) (j) : product X G j = ∑ k : Fin 4096, X (ix2 k (j 0)) * G (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_SsdXbcDwIdeal_SsdXbcDwRefIdeal := fun m g m' g' _ same =>
  ⟨fun c => product (m ((c.tc : Thread Cert.SsdXbcDwIdeal.nD Cert.SsdXbcDwIdeal.τ).loc Cert.SsdXbcDwIdeal.main_arg0)) (m ((c.tc : Thread Cert.SsdXbcDwIdeal.nD Cert.SsdXbcDwIdeal.τ).loc Cert.SsdXbcDwIdeal.main_arg1)),
    (θ_run _ _ _).mono (fun _ h c => ⟨(h c).1.trans (final m c), (h c).2.1, (h c).2.2⟩) (Cert.SsdXbcDwIdeal.Value.run_blocks m g),
    (θ_run _ _ _).mono (fun _ h c => ⟨(h c).1.trans (by rw [(same c).1, (same c).2]), (h c).2.1, (h c).2.2⟩) (Cert.SsdXbcDwRefIdeal.Value.run m' g')⟩

end Dw

namespace Fwd

open Cert.SsdXbcFwdIdeal Cert.SsdXbcFwdIdeal.Gen

variable (m : (ℓ : Loc nD τ sig) → Buf (Elt Ideal) ℓ)

/-- The reference's term over its two arguments. -/
abbrev product (X : FVec Ideal S4096x1024 .bf16) (W : FVec Ideal S1024x3072 .bf16) : FVec Ideal S4096x3072 .f32 :=
  Host.dotGeneral Cert.SsdXbcFwdRefIdeal.dot_S4096x1024_S1024x3072_S4096x3072_1_0_0_1_n_n none (extf .f32 X Cert.SsdXbcFwdRefIdeal.Gen.bitsLt_bf16_f32) (extf .f32 W Cert.SsdXbcFwdRefIdeal.Gen.bitsLt_bf16_f32)

/-- Where the blocks of the two operands and of the result lie at point `t`. -/
theorem place : ∀ t : Fin cfg0.N, win0_0.index t = ![t.val / 3, 0] ∧ win0_1.index t = ![0, t.val % 3] ∧ win0_2.index t = ![t.val / 3, t.val % 3] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdXbcFwdIdeal_SsdXbcFwdRefIdeal := fun m g m' g' _ same =>
  ⟨fun c => product (m ((c.tc : Thread Cert.SsdXbcFwdIdeal.nD Cert.SsdXbcFwdIdeal.τ).loc Cert.SsdXbcFwdIdeal.main_arg0)) (m ((c.tc : Thread Cert.SsdXbcFwdIdeal.nD Cert.SsdXbcFwdIdeal.τ).loc Cert.SsdXbcFwdIdeal.main_arg1)),
    (θ_run _ _ _).mono (fun _ h c => ⟨(h c).1.trans (final m c), (h c).2.1, (h c).2.2⟩) (Cert.SsdXbcFwdIdeal.Value.run_blocks m g),
    (θ_run _ _ _).mono (fun _ h c => ⟨(h c).1.trans (by rw [(same c).1, (same c).2]), (h c).2.1, (h c).2.2⟩) (Cert.SsdXbcFwdRefIdeal.Value.run m' g')⟩

end Fwd

end Cert.Projections.SsdXbc

end
-- ==== Proof.Projections.SsdDt.lean ====
/-
  The state-space block's projection to the step sizes, and its gradients by its two operands: each call's array is its reference's product.
-/
module

public import proofs.«01_k».proof.Defs
public import proofs.«01_k».proof.Proof.Gen.SsdDtDxIdeal.Frame
public import proofs.«01_k».proof.Proof.Gen.SsdDtDxIdeal.Value
public import proofs.«01_k».proof.Proof.Gen.SsdDtDxRefIdeal.Run
public import proofs.«01_k».proof.Proof.Gen.SsdDtDwIdeal.Frame
public import proofs.«01_k».proof.Proof.Gen.SsdDtDwIdeal.Value
public import proofs.«01_k».proof.Proof.Gen.SsdDtDwRefIdeal.Run
public import proofs.«01_k».proof.Proof.Gen.SsdDtFwdIdeal.Frame
public import proofs.«01_k».proof.Proof.Gen.SsdDtFwdIdeal.Value
public import proofs.«01_k».proof.Proof.Gen.SsdDtFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.SsdDt

namespace Dx

open Cert.SsdDtDxIdeal Cert.SsdDtDxIdeal.Gen

variable (m : (ℓ : Loc nD τ sig) → Buf (Elt Ideal) ℓ)

/-- The reference's term over its two arguments. -/
abbrev product (G : FVec Ideal S4096x32 .f32) (W : FVec Ideal S1024x32 .bf16) : FVec Ideal S4096x1024 .bf16 :=
  truncf .bf16 (Host.dotGeneral Cert.SsdDtDxRefIdeal.dot_S4096x32_S1024x32_S4096x1024_1_1_0_0_n_n none G (extf .f32 W Cert.SsdDtDxRefIdeal.Gen.bitsLt_bf16_f32)) Cert.SsdDtDxRefIdeal.Gen.bitsLt_bf16_f32

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdDtDxIdeal_SsdDtDxRefIdeal := fun m g m' g' _ same =>
  ⟨fun c => product (m ((c.tc : Thread Cert.SsdDtDxIdeal.nD Cert.SsdDtDxIdeal.τ).loc Cert.SsdDtDxIdeal.main_arg0)) (m ((c.tc : Thread Cert.SsdDtDxIdeal.nD Cert.SsdDtDxIdeal.τ).loc Cert.SsdDtDxIdeal.main_arg1)),
    (θ_run _ _ _).mono (fun _ h c => ⟨(h c).1.trans (final m c), (h c).2.1, (h c).2.2⟩) (Cert.SsdDtDxIdeal.Value.run_blocks m g),
    (θ_run _ _ _).mono (fun _ h c => ⟨(h c).1.trans (by rw [(same c).1, (same c).2]), (h c).2.1, (h c).2.2⟩) (Cert.SsdDtDxRefIdeal.Value.run m' g')⟩

end Dx

namespace Dw

open Cert.SsdDtDwIdeal Cert.SsdDtDwIdeal.Gen

variable (m : (ℓ : Loc nD τ sig) → Buf (Elt Ideal) ℓ)

/-- The reference's term over its two arguments. -/
abbrev product (X : FVec Ideal S4096x1024 .bf16) (G : FVec Ideal S4096x32 .f32) : FVec Ideal S1024x32 .f32 :=
  transpose Cert.SsdDtDwRefIdeal.S1024x32 [1, 0] (Host.dotGeneral Cert.SsdDtDwRefIdeal.dot_S4096x32_S4096x1024_S32x1024_0_0_1_1_n_n none G (extf .f32 X Cert.SsdDtDwRefIdeal.Gen.bitsLt_bf16_f32)) Cert.SsdDtDwRefIdeal.Gen.transposes_S32x1024_S1024x32_1_0

/-- Where the blocks of the two operands and of the result lie at point `t`. -/
theorem place : ∀ t : Fin cfg0.N, win0_0.index t = ![t.val % 4, 0] ∧ win0_1.index t = ![t.val % 4, 0] ∧ win0_2.index t = ![0, 0] :=
  (by decide +kernel : ∀ t : Fin grid0.N, _)

/-- The addend of one point, at an index. -/
theorem addend_at (x0 : FVec Ideal S1024x1024 .bf16) (x1 : FVec Ideal S1024x32 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1024 .bf16) (x1 : FVec Ideal S1024x32 .f32) (acc : FVec Ideal S1024x32 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X G) (j) : product X G j = ∑ k : Fin 4096, X (ix2 k (j 0)) * G (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by have lt : t.val < 4 := t.isLt; omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_SsdDtDwIdeal_SsdDtDwRefIdeal := fun m g m' g' _ same =>
  ⟨fun c => product (m ((c.tc : Thread Cert.SsdDtDwIdeal.nD Cert.SsdDtDwIdeal.τ).loc Cert.SsdDtDwIdeal.main_arg0)) (m ((c.tc : Thread Cert.SsdDtDwIdeal.nD Cert.SsdDtDwIdeal.τ).loc Cert.SsdDtDwIdeal.main_arg1)),
    (θ_run _ _ _).mono (fun _ h c => ⟨(h c).1.trans (final m c), (h c).2.1, (h c).2.2⟩) (Cert.SsdDtDwIdeal.Value.run_blocks m g),
    (θ_run _ _ _).mono (fun _ h c => ⟨(h c).1.trans (by rw [(same c).1, (same c).2]), (h c).2.1, (h c).2.2⟩) (Cert.SsdDtDwRefIdeal.Value.run m' g')⟩

end Dw

namespace Fwd

open Cert.SsdDtFwdIdeal Cert.SsdDtFwdIdeal.Gen

variable (m : (ℓ : Loc nD τ sig) → Buf (Elt Ideal) ℓ)

/-- The reference's term over its two arguments. -/
abbrev product (X : FVec Ideal S4096x1024 .bf16) (W : FVec Ideal S1024x32 .bf16) : FVec Ideal S4096x32 .f32 :=
  Host.dotGeneral Cert.SsdDtFwdRefIdeal.dot_S4096x1024_S1024x32_S4096x32_1_0_0_1_n_n none (extf .f32 X Cert.SsdDtFwdRefIdeal.Gen.bitsLt_bf16_f32) (extf .f32 W Cert.SsdDtFwdRefIdeal.Gen.bitsLt_bf16_f32)

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdDtFwdIdeal_SsdDtFwdRefIdeal := fun m g m' g' _ same =>
  ⟨fun c => product (m ((c.tc : Thread Cert.SsdDtFwdIdeal.nD Cert.SsdDtFwdIdeal.τ).loc Cert.SsdDtFwdIdeal.main_arg0)) (m ((c.tc : Thread Cert.SsdDtFwdIdeal.nD Cert.SsdDtFwdIdeal.τ).loc Cert.SsdDtFwdIdeal.main_arg1)),
    (θ_run _ _ _).mono (fun _ h c => ⟨(h c).1.trans (final m c), (h c).2.1, (h c).2.2⟩) (Cert.SsdDtFwdIdeal.Value.run_blocks m g),
    (θ_run _ _ _).mono (fun _ h c => ⟨(h c).1.trans (by rw [(same c).1, (same c).2]), (h c).2.1, (h c).2.2⟩) (Cert.SsdDtFwdRefIdeal.Value.run m' g')⟩

end Fwd

end Cert.Projections.SsdDt

end
-- ==== Proof.Projections.SsdOut.lean ====
/-
  The state-space block's output projection, and its gradients by its two operands: each call's array is its reference's product.
-/
module

public import proofs.«01_k».proof.Defs
public import proofs.«01_k».proof.Proof.Gen.SsdOutDxIdeal.Frame
public import proofs.«01_k».proof.Proof.Gen.SsdOutDxIdeal.Value
public import proofs.«01_k».proof.Proof.Gen.SsdOutDxRefIdeal.Run
public import proofs.«01_k».proof.Proof.Gen.SsdOutDwIdeal.Frame
public import proofs.«01_k».proof.Proof.Gen.SsdOutDwIdeal.Value
public import proofs.«01_k».proof.Proof.Gen.SsdOutDwRefIdeal.Run
public import proofs.«01_k».proof.Proof.Gen.SsdOutFwdIdeal.Frame
public import proofs.«01_k».proof.Proof.Gen.SsdOutFwdIdeal.Value
public import proofs.«01_k».proof.Proof.Gen.SsdOutFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.SsdOut

namespace Dx

open Cert.SsdOutDxIdeal Cert.SsdOutDxIdeal.Gen

variable (m : (ℓ : Loc nD τ sig) → Buf (Elt Ideal) ℓ)

/-- The reference's term over its two arguments. -/
abbrev product (G : FVec Ideal S4096x1024 .f32) (W : FVec Ideal S2048x1024 .bf16) : FVec Ideal S4096x2048 .bf16 :=
  truncf .bf16 (Host.dotGeneral Cert.SsdOutDxRefIdeal.dot_S4096x1024_S2048x1024_S4096x2048_1_1_0_0_n_n none G (extf .f32 W Cert.SsdOutDxRefIdeal.Gen.bitsLt_bf16_f32)) Cert.SsdOutDxRefIdeal.Gen.bitsLt_bf16_f32

/-- Where the blocks of the two operands and of the result lie at point `t`. -/
theorem place : ∀ t : Fin cfg0.N, win0_0.index t = ![t.val / 2, 0] ∧ win0_1.index t = ![t.val % 2, 0] ∧ win0_2.index t = ![t.val / 2, t.val % 2] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdOutDxIdeal_SsdOutDxRefIdeal := fun m g m' g' _ same =>
  ⟨fun c => product (m ((c.tc : Thread Cert.SsdOutDxIdeal.nD Cert.SsdOutDxIdeal.τ).loc Cert.SsdOutDxIdeal.main_arg0)) (m ((c.tc : Thread Cert.SsdOutDxIdeal.nD Cert.SsdOutDxIdeal.τ).loc Cert.SsdOutDxIdeal.main_arg1)),
    (θ_run _ _ _).mono (fun _ h c => ⟨(h c).1.trans (final m c), (h c).2.1, (h c).2.2⟩) (Cert.SsdOutDxIdeal.Value.run_blocks m g),
    (θ_run _ _ _).mono (fun _ h c => ⟨(h c).1.trans (by rw [(same c).1, (same c).2]), (h c).2.1, (h c).2.2⟩) (Cert.SsdOutDxRefIdeal.Value.run m' g')⟩

end Dx

namespace Dw

open Cert.SsdOutDwIdeal Cert.SsdOutDwIdeal.Gen

variable (m : (ℓ : Loc nD τ sig) → Buf (Elt Ideal) ℓ)

/-- The reference's term over its two arguments. -/
abbrev product (X : FVec Ideal S4096x2048 .bf16) (G : FVec Ideal S4096x1024 .f32) : FVec Ideal S2048x1024 .f32 :=
  transpose Cert.SsdOutDwRefIdeal.S2048x1024 [1, 0] (Host.dotGeneral Cert.SsdOutDwRefIdeal.dot_S4096x1024_S4096x2048_S1024x2048_0_0_1_1_n_n none G (extf .f32 X Cert.SsdOutDwRefIdeal.Gen.bitsLt_bf16_f32)) Cert.SsdOutDwRefIdeal.Gen.transposes_S1024x2048_S2048x1024_1_0

/-- Where the blocks of the two operands and of the result lie at point `t`. -/
theorem place : ∀ t : Fin cfg0.N, win0_0.index t = ![t.val % 4, t.val / 4] ∧ win0_1.index t = ![t.val % 4, 0] ∧ win0_2.index t = ![t.val / 4, 0] :=
  (by decide +kernel : ∀ t : Fin grid0.N, _)

/-- The addend of one point, at an index. -/
theorem addend_at (x0 : FVec Ideal S1024x1024 .bf16) (x1 : FVec Ideal S1024x1024 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1024 .bf16) (x1 : FVec Ideal S1024x1024 .f32) (acc : FVec Ideal S1024x1024 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X G) (j) : product X G j = ∑ k : Fin 4096, X (ix2 k (j 0)) * G (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_SsdOutDwIdeal_SsdOutDwRefIdeal := fun m g m' g' _ same =>
  ⟨fun c => product (m ((c.tc : Thread Cert.SsdOutDwIdeal.nD Cert.SsdOutDwIdeal.τ).loc Cert.SsdOutDwIdeal.main_arg0)) (m ((c.tc : Thread Cert.SsdOutDwIdeal.nD Cert.SsdOutDwIdeal.τ).loc Cert.SsdOutDwIdeal.main_arg1)),
    (θ_run _ _ _).mono (fun _ h c => ⟨(h c).1.trans (final m c), (h c).2.1, (h c).2.2⟩) (Cert.SsdOutDwIdeal.Value.run_blocks m g),
    (θ_run _ _ _).mono (fun _ h c => ⟨(h c).1.trans (by rw [(same c).1, (same c).2]), (h c).2.1, (h c).2.2⟩) (Cert.SsdOutDwRefIdeal.Value.run m' g')⟩

end Dw

namespace Fwd

open Cert.SsdOutFwdIdeal Cert.SsdOutFwdIdeal.Gen

variable (m : (ℓ : Loc nD τ sig) → Buf (Elt Ideal) ℓ)

/-- The reference's term over its two arguments. -/
abbrev product (X : FVec Ideal S4096x2048 .bf16) (W : FVec Ideal S2048x1024 .bf16) : FVec Ideal S4096x1024 .f32 :=
  Host.dotGeneral Cert.SsdOutFwdRefIdeal.dot_S4096x2048_S2048x1024_S4096x1024_1_0_0_1_n_n none (extf .f32 X Cert.SsdOutFwdRefIdeal.Gen.bitsLt_bf16_f32) (extf .f32 W Cert.SsdOutFwdRefIdeal.Gen.bitsLt_bf16_f32)

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SsdOutFwdIdeal_SsdOutFwdRefIdeal := fun m g m' g' _ same =>
  ⟨fun c => product (m ((c.tc : Thread Cert.SsdOutFwdIdeal.nD Cert.SsdOutFwdIdeal.τ).loc Cert.SsdOutFwdIdeal.main_arg0)) (m ((c.tc : Thread Cert.SsdOutFwdIdeal.nD Cert.SsdOutFwdIdeal.τ).loc Cert.SsdOutFwdIdeal.main_arg1)),
    (θ_run _ _ _).mono (fun _ h c => ⟨(h c).1.trans (final m c), (h c).2.1, (h c).2.2⟩) (Cert.SsdOutFwdIdeal.Value.run_blocks m g),
    (θ_run _ _ _).mono (fun _ h c => ⟨(h c).1.trans (by rw [(same c).1, (same c).2]), (h c).2.1, (h c).2.2⟩) (Cert.SsdOutFwdRefIdeal.Value.run m' g')⟩

end Fwd

end Cert.Projections.SsdOut

end
-- ==== Proof.Projections.MlaA.lean ====
/-
  The attention's projection to the latents, and its gradients by its two operands: each call's array is its reference's product.
-/
module

public import proofs.«01_k».proof.Defs
public import proofs.«01_k».proof.Proof.Gen.MlaADxIdeal.Frame
public import proofs.«01_k».proof.Proof.Gen.MlaADxIdeal.Value
public import proofs.«01_k».proof.Proof.Gen.MlaADxRefIdeal.Run
public import proofs.«01_k».proof.Proof.Gen.MlaADwIdeal.Frame
public import proofs.«01_k».proof.Proof.Gen.MlaADwIdeal.Value
public import proofs.«01_k».proof.Proof.Gen.MlaADwRefIdeal.Run
public import proofs.«01_k».proof.Proof.Gen.MlaAFwdIdeal.Frame
public import proofs.«01_k».proof.Proof.Gen.MlaAFwdIdeal.Value
public import proofs.«01_k».proof.Proof.Gen.MlaAFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.MlaA

namespace Dx

open Cert.MlaADxIdeal Cert.MlaADxIdeal.Gen

variable (m : (ℓ : Loc nD τ sig) → Buf (Elt Ideal) ℓ)

/-- The reference's term over its two arguments. -/
abbrev product (G : FVec Ideal S4096x672 .f32) (W : FVec Ideal S1024x672 .bf16) : FVec Ideal S4096x1024 .bf16 :=
  truncf .bf16 (Host.dotGeneral Cert.MlaADxRefIdeal.dot_S4096x672_S1024x672_S4096x1024_1_1_0_0_n_n none G (extf .f32 W Cert.MlaADxRefIdeal.Gen.bitsLt_bf16_f32)) Cert.MlaADxRefIdeal.Gen.bitsLt_bf16_f32

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaADxIdeal_MlaADxRefIdeal := fun m g m' g' _ same =>
  ⟨fun c => product (m ((c.tc : Thread Cert.MlaADxIdeal.nD Cert.MlaADxIdeal.τ).loc Cert.MlaADxIdeal.main_arg0)) (m ((c.tc : Thread Cert.MlaADxIdeal.nD Cert.MlaADxIdeal.τ).loc Cert.MlaADxIdeal.main_arg1)),
    (θ_run _ _ _).mono (fun _ h c => ⟨(h c).1.trans (final m c), (h c).2.1, (h c).2.2⟩) (Cert.MlaADxIdeal.Value.run_blocks m g),
    (θ_run _ _ _).mono (fun _ h c => ⟨(h c).1.trans (by rw [(same c).1, (same c).2]), (h c).2.1, (h c).2.2⟩) (Cert.MlaADxRefIdeal.Value.run m' g')⟩

end Dx

namespace Dw

open Cert.MlaADwIdeal Cert.MlaADwIdeal.Gen

variable (m : (ℓ : Loc nD τ sig) → Buf (Elt Ideal) ℓ)

/-- The reference's term over its two arguments. -/
abbrev product (X : FVec Ideal S4096x1024 .bf16) (G : FVec Ideal S4096x672 .f32) : FVec Ideal S1024x672 .f32 :=
  transpose Cert.MlaADwRefIdeal.S1024x672 [1, 0] (Host.dotGeneral Cert.MlaADwRefIdeal.dot_S4096x672_S4096x1024_S672x1024_0_0_1_1_n_n none G (extf .f32 X Cert.MlaADwRefIdeal.Gen.bitsLt_bf16_f32)) Cert.MlaADwRefIdeal.Gen.transposes_S672x1024_S1024x672_1_0

/-- Where the blocks of the two operands and of the result lie at point `t`. -/
theorem place : ∀ t : Fin cfg0.N, win0_0.index t = ![t.val % 4, 0] ∧ win0_1.index t = ![t.val % 4, 0] ∧ win0_2.index t = ![0, 0] :=
  (by decide +kernel : ∀ t : Fin grid0.N, _)

/-- The addend of one point, at an index. -/
theorem addend_at (x0 : FVec Ideal S1024x1024 .bf16) (x1 : FVec Ideal S1024x672 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1024 .bf16) (x1 : FVec Ideal S1024x672 .f32) (acc : FVec Ideal S1024x672 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X G) (j) : product X G j = ∑ k : Fin 4096, X (ix2 k (j 0)) * G (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by have lt : t.val < 4 := t.isLt; omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_MlaADwIdeal_MlaADwRefIdeal := fun m g m' g' _ same =>
  ⟨fun c => product (m ((c.tc : Thread Cert.MlaADwIdeal.nD Cert.MlaADwIdeal.τ).loc Cert.MlaADwIdeal.main_arg0)) (m ((c.tc : Thread Cert.MlaADwIdeal.nD Cert.MlaADwIdeal.τ).loc Cert.MlaADwIdeal.main_arg1)),
    (θ_run _ _ _).mono (fun _ h c => ⟨(h c).1.trans (final m c), (h c).2.1, (h c).2.2⟩) (Cert.MlaADwIdeal.Value.run_blocks m g),
    (θ_run _ _ _).mono (fun _ h c => ⟨(h c).1.trans (by rw [(same c).1, (same c).2]), (h c).2.1, (h c).2.2⟩) (Cert.MlaADwRefIdeal.Value.run m' g')⟩

end Dw

namespace Fwd

open Cert.MlaAFwdIdeal Cert.MlaAFwdIdeal.Gen

variable (m : (ℓ : Loc nD τ sig) → Buf (Elt Ideal) ℓ)

/-- The reference's term over its two arguments. -/
abbrev product (X : FVec Ideal S4096x1024 .bf16) (W : FVec Ideal S1024x672 .bf16) : FVec Ideal S4096x672 .f32 :=
  Host.dotGeneral Cert.MlaAFwdRefIdeal.dot_S4096x1024_S1024x672_S4096x672_1_0_0_1_n_n none (extf .f32 X Cert.MlaAFwdRefIdeal.Gen.bitsLt_bf16_f32) (extf .f32 W Cert.MlaAFwdRefIdeal.Gen.bitsLt_bf16_f32)

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaAFwdIdeal_MlaAFwdRefIdeal := fun m g m' g' _ same =>
  ⟨fun c => product (m ((c.tc : Thread Cert.MlaAFwdIdeal.nD Cert.MlaAFwdIdeal.τ).loc Cert.MlaAFwdIdeal.main_arg0)) (m ((c.tc : Thread Cert.MlaAFwdIdeal.nD Cert.MlaAFwdIdeal.τ).loc Cert.MlaAFwdIdeal.main_arg1)),
    (θ_run _ _ _).mono (fun _ h c => ⟨(h c).1.trans (final m c), (h c).2.1, (h c).2.2⟩) (Cert.MlaAFwdIdeal.Value.run_blocks m g),
    (θ_run _ _ _).mono (fun _ h c => ⟨(h c).1.trans (by rw [(same c).1, (same c).2]), (h c).2.1, (h c).2.2⟩) (Cert.MlaAFwdRefIdeal.Value.run m' g')⟩

end Fwd

end Cert.Projections.MlaA

end
-- ==== Proof.Projections.MlaQb.lean ====
/-
  The attention's projection to the queries, and its gradients by its two operands: each call's array is its reference's product.
-/
module

public import proofs.«01_k».proof.Defs
public import proofs.«01_k».proof.Proof.Gen.MlaQbDxIdeal.Frame
public import proofs.«01_k».proof.Proof.Gen.MlaQbDxIdeal.Value
public import proofs.«01_k».proof.Proof.Gen.MlaQbDxRefIdeal.Run
public import proofs.«01_k».proof.Proof.Gen.MlaQbDwIdeal.Frame
public import proofs.«01_k».proof.Proof.Gen.MlaQbDwIdeal.Value
public import proofs.«01_k».proof.Proof.Gen.MlaQbDwRefIdeal.Run
public import proofs.«01_k».proof.Proof.Gen.MlaQbFwdIdeal.Frame
public import proofs.«01_k».proof.Proof.Gen.MlaQbFwdIdeal.Value
public import proofs.«01_k».proof.Proof.Gen.MlaQbFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.MlaQb

namespace Dx

open Cert.MlaQbDxIdeal Cert.MlaQbDxIdeal.Gen

variable (m : (ℓ : Loc nD τ sig) → Buf (Elt Ideal) ℓ)

/-- The reference's term over its two arguments. -/
abbrev product (G : FVec Ideal S4096x1536 .f32) (W : FVec Ideal S384x1536 .bf16) : FVec Ideal S4096x384 .bf16 :=
  truncf .bf16 (Host.dotGeneral Cert.MlaQbDxRefIdeal.dot_S4096x1536_S384x1536_S4096x384_1_1_0_0_n_n none G (extf .f32 W Cert.MlaQbDxRefIdeal.Gen.bitsLt_bf16_f32)) Cert.MlaQbDxRefIdeal.Gen.bitsLt_bf16_f32

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaQbDxIdeal_MlaQbDxRefIdeal := fun m g m' g' _ same =>
  ⟨fun c => product (m ((c.tc : Thread Cert.MlaQbDxIdeal.nD Cert.MlaQbDxIdeal.τ).loc Cert.MlaQbDxIdeal.main_arg0)) (m ((c.tc : Thread Cert.MlaQbDxIdeal.nD Cert.MlaQbDxIdeal.τ).loc Cert.MlaQbDxIdeal.main_arg1)),
    (θ_run _ _ _).mono (fun _ h c => ⟨(h c).1.trans (final m c), (h c).2.1, (h c).2.2⟩) (Cert.MlaQbDxIdeal.Value.run_blocks m g),
    (θ_run _ _ _).mono (fun _ h c => ⟨(h c).1.trans (by rw [(same c).1, (same c).2]), (h c).2.1, (h c).2.2⟩) (Cert.MlaQbDxRefIdeal.Value.run m' g')⟩

end Dx

namespace Dw

open Cert.MlaQbDwIdeal Cert.MlaQbDwIdeal.Gen

variable (m : (ℓ : Loc nD τ sig) → Buf (Elt Ideal) ℓ)

/-- The reference's term over its two arguments. -/
abbrev product (X : FVec Ideal S4096x384 .bf16) (G : FVec Ideal S4096x1536 .f32) : FVec Ideal S4x384x384 .f32 :=
  transpose Cert.MlaQbDwRefIdeal.S4x384x384 [1, 0, 2] (shapeCast _ (transpose Cert.MlaQbDwRefIdeal.S384x1536 [1, 0] (Host.dotGeneral Cert.MlaQbDwRefIdeal.dot_S4096x1536_S4096x384_S1536x384_0_0_1_1_n_n none G (extf .f32 X Cert.MlaQbDwRefIdeal.Gen.bitsLt_bf16_f32)) Cert.MlaQbDwRefIdeal.Gen.transposes_S1536x384_S384x1536_1_0) Cert.MlaQbDwRefIdeal.Gen.shapeCasts_S384x1536_S384x4x384) Cert.MlaQbDwRefIdeal.Gen.transposes_S384x4x384_S4x384x384_1_0_2

/-- Where the blocks of the two operands and of the result lie at point `t`. -/
theorem place : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The column of the wide product that slot and lane name. -/
theorem lane_lt (j : S4x384x384.Idx) : (j 0).val * 384 + (j 2).val < 1536 := by
  have h0 : (j 0).val < 4 := (j 0).isLt
  have h2 : (j 2).val < 384 := (j 2).isLt
  omega

/-- The addend of one point, at an index. -/
theorem addend_at (x0 : FVec Ideal S1024x384 .bf16) (x1 : FVec Ideal S1024x384 .f32) (j) :
    k0_pay2 (F := Ideal) x0 x1 j = ∑ k : Fin 1024, x0 (ix2 k (j 1)) * x1 (ix2 k (j 2)) := by
  pointwise [k0_pay1, k0_pay2]

/-- A later point adds its addend to what the block holds. -/
theorem step_at (x0 : FVec Ideal S1024x384 .bf16) (x1 : FVec Ideal S1024x384 .f32) (acc : FVec Ideal S1x384x384 .f32) (j) :
    k0_pay3 (F := Ideal) x0 x1 acc j = acc j + ∑ k : Fin 1024, x0 (ix2 k (j 1)) * x1 (ix2 k (j 2)) := by
  pointwise [k0_pay1, k0_pay3]

/-- The product at an index. -/
theorem product_at (X G) (j) : product X G j = ∑ k : Fin 4096, X (ix2 k (j 1)) * G (ix2 k ⟨(j 0).val * 384 + (j 2).val, lane_lt j⟩) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_MlaQbDwIdeal_MlaQbDwRefIdeal := fun m g m' g' _ same =>
  ⟨fun c => product (m ((c.tc : Thread Cert.MlaQbDwIdeal.nD Cert.MlaQbDwIdeal.τ).loc Cert.MlaQbDwIdeal.main_arg0)) (m ((c.tc : Thread Cert.MlaQbDwIdeal.nD Cert.MlaQbDwIdeal.τ).loc Cert.MlaQbDwIdeal.main_arg1)),
    (θ_run _ _ _).mono (fun _ h c => ⟨(h c).1.trans (final m c), (h c).2.1, (h c).2.2⟩) (Cert.MlaQbDwIdeal.Value.run_blocks m g),
    (θ_run _ _ _).mono (fun _ h c => ⟨(h c).1.trans (by rw [(same c).1, (same c).2]), (h c).2.1, (h c).2.2⟩) (Cert.MlaQbDwRefIdeal.Value.run m' g')⟩

end Dw

namespace Fwd

open Cert.MlaQbFwdIdeal Cert.MlaQbFwdIdeal.Gen

variable (m : (ℓ : Loc nD τ sig) → Buf (Elt Ideal) ℓ)

/-- The reference's term over its two arguments. -/
abbrev product (X : FVec Ideal S4096x384 .bf16) (W : FVec Ideal S384x1536 .bf16) : FVec Ideal S4096x1536 .f32 :=
  Host.dotGeneral Cert.MlaQbFwdRefIdeal.dot_S4096x384_S384x1536_S4096x1536_1_0_0_1_n_n none (extf .f32 X Cert.MlaQbFwdRefIdeal.Gen.bitsLt_bf16_f32) (extf .f32 W Cert.MlaQbFwdRefIdeal.Gen.bitsLt_bf16_f32)

/-- Where the blocks of the two operands and of the result lie at point `t`. -/
theorem place : ∀ t : Fin cfg0.N, win0_0.index t = ![t.val / 2, 0] ∧ win0_1.index t = ![0, t.val % 2] ∧ win0_2.index t = ![t.val / 2, t.val % 2] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaQbFwdIdeal_MlaQbFwdRefIdeal := fun m g m' g' _ same =>
  ⟨fun c => product (m ((c.tc : Thread Cert.MlaQbFwdIdeal.nD Cert.MlaQbFwdIdeal.τ).loc Cert.MlaQbFwdIdeal.main_arg0)) (m ((c.tc : Thread Cert.MlaQbFwdIdeal.nD Cert.MlaQbFwdIdeal.τ).loc Cert.MlaQbFwdIdeal.main_arg1)),
    (θ_run _ _ _).mono (fun _ h c => ⟨(h c).1.trans (final m c), (h c).2.1, (h c).2.2⟩) (Cert.MlaQbFwdIdeal.Value.run_blocks m g),
    (θ_run _ _ _).mono (fun _ h c => ⟨(h c).1.trans (by rw [(same c).1, (same c).2]), (h c).2.1, (h c).2.2⟩) (Cert.MlaQbFwdRefIdeal.Value.run m' g')⟩

end Fwd

end Cert.Projections.MlaQb

end
-- ==== Proof.Projections.MlaKvb.lean ====
/-
  The attention's projection to the keys and values, and its gradients by its two operands: each call's array is its reference's product.
-/
module

public import proofs.«01_k».proof.Defs
public import proofs.«01_k».proof.Proof.Gen.MlaKvbDxIdeal.Frame
public import proofs.«01_k».proof.Proof.Gen.MlaKvbDxIdeal.Value
public import proofs.«01_k».proof.Proof.Gen.MlaKvbDxRefIdeal.Run
public import proofs.«01_k».proof.Proof.Gen.MlaKvbDwIdeal.Frame
public import proofs.«01_k».proof.Proof.Gen.MlaKvbDwIdeal.Value
public import proofs.«01_k».proof.Proof.Gen.MlaKvbDwRefIdeal.Run
public import proofs.«01_k».proof.Proof.Gen.MlaKvbFwdIdeal.Frame
public import proofs.«01_k».proof.Proof.Gen.MlaKvbFwdIdeal.Value
public import proofs.«01_k».proof.Proof.Gen.MlaKvbFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.MlaKvb

namespace Dx

open Cert.MlaKvbDxIdeal Cert.MlaKvbDxIdeal.Gen

variable (m : (ℓ : Loc nD τ sig) → Buf (Elt Ideal) ℓ)

/-- The reference's term over its two arguments. -/
abbrev product (G : FVec Ideal S4096x2048 .f32) (W : FVec Ideal S256x2048 .bf16) : FVec Ideal S4096x256 .bf16 :=
  truncf .bf16 (Host.dotGeneral Cert.MlaKvbDxRefIdeal.dot_S4096x2048_S256x2048_S4096x256_1_1_0_0_n_n none G (extf .f32 W Cert.MlaKvbDxRefIdeal.Gen.bitsLt_bf16_f32)) Cert.MlaKvbDxRefIdeal.Gen.bitsLt_bf16_f32

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaKvbDxIdeal_MlaKvbDxRefIdeal := fun m g m' g' _ same =>
  ⟨fun c => product (m ((c.tc : Thread Cert.MlaKvbDxIdeal.nD Cert.MlaKvbDxIdeal.τ).loc Cert.MlaKvbDxIdeal.main_arg0)) (m ((c.tc : Thread Cert.MlaKvbDxIdeal.nD Cert.MlaKvbDxIdeal.τ).loc Cert.MlaKvbDxIdeal.main_arg1)),
    (θ_run _ _ _).mono (fun _ h c => ⟨(h c).1.trans (final m c), (h c).2.1, (h c).2.2⟩) (Cert.MlaKvbDxIdeal.Value.run_blocks m g),
    (θ_run _ _ _).mono (fun _ h c => ⟨(h c).1.trans (by rw [(same c).1, (same c).2]), (h c).2.1, (h c).2.2⟩) (Cert.MlaKvbDxRefIdeal.Value.run m' g')⟩

end Dx

namespace Dw

open Cert.MlaKvbDwIdeal Cert.MlaKvbDwIdeal.Gen

variable (m : (ℓ : Loc nD τ sig) → Buf (Elt Ideal) ℓ)

/-- The reference's term over its two arguments. -/
abbrev product (X : FVec Ideal S4096x256 .bf16) (G : FVec Ideal S4096x2048 .f32) : FVec Ideal S4x256x512 .f32 :=
  transpose Cert.MlaKvbDwRefIdeal.S4x256x512 [1, 0, 2] (shapeCast _ (transpose Cert.MlaKvbDwRefIdeal.S256x2048 [1, 0] (Host.dotGeneral Cert.MlaKvbDwRefIdeal.dot_S4096x2048_S4096x256_S2048x256_0_0_1_1_n_n none G (extf .f32 X Cert.MlaKvbDwRefIdeal.Gen.bitsLt_bf16_f32)) Cert.MlaKvbDwRefIdeal.Gen.transposes_S2048x256_S256x2048_1_0) Cert.MlaKvbDwRefIdeal.Gen.shapeCasts_S256x2048_S256x4x512) Cert.MlaKvbDwRefIdeal.Gen.transposes_S256x4x512_S4x256x512_1_0_2

/-- Where the blocks of the two operands and of the result lie at point `t`. -/
theorem place : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The column of the wide product that slot and lane name. -/
theorem lane_lt (j : S4x256x512.Idx) : (j 0).val * 512 + (j 2).val < 2048 := by
  have h0 : (j 0).val < 4 := (j 0).isLt
  have h2 : (j 2).val < 512 := (j 2).isLt
  omega

/-- The addend of one point, at an index. -/
theorem addend_at (x0 : FVec Ideal S1024x256 .bf16) (x1 : FVec Ideal S1024x512 .f32) (j) :
    k0_pay2 (F := Ideal) x0 x1 j = ∑ k : Fin 1024, x0 (ix2 k (j 1)) * x1 (ix2 k (j 2)) := by
  pointwise [k0_pay1, k0_pay2]

/-- A later point adds its addend to what the block holds. -/
theorem step_at (x0 : FVec Ideal S1024x256 .bf16) (x1 : FVec Ideal S1024x512 .f32) (acc : FVec Ideal S1x256x512 .f32) (j) :
    k0_pay3 (F := Ideal) x0 x1 acc j = acc j + ∑ k : Fin 1024, x0 (ix2 k (j 1)) * x1 (ix2 k (j 2)) := by
  pointwise [k0_pay1, k0_pay3]

/-- The product at an index. -/
theorem product_at (X G) (j) : product X G j = ∑ k : Fin 4096, X (ix2 k (j 1)) * G (ix2 k ⟨(j 0).val * 512 + (j 2).val, lane_lt j⟩) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_MlaKvbDwIdeal_MlaKvbDwRefIdeal := fun m g m' g' _ same =>
  ⟨fun c => product (m ((c.tc : Thread Cert.MlaKvbDwIdeal.nD Cert.MlaKvbDwIdeal.τ).loc Cert.MlaKvbDwIdeal.main_arg0)) (m ((c.tc : Thread Cert.MlaKvbDwIdeal.nD Cert.MlaKvbDwIdeal.τ).loc Cert.MlaKvbDwIdeal.main_arg1)),
    (θ_run _ _ _).mono (fun _ h c => ⟨(h c).1.trans (final m c), (h c).2.1, (h c).2.2⟩) (Cert.MlaKvbDwIdeal.Value.run_blocks m g),
    (θ_run _ _ _).mono (fun _ h c => ⟨(h c).1.trans (by rw [(same c).1, (same c).2]), (h c).2.1, (h c).2.2⟩) (Cert.MlaKvbDwRefIdeal.Value.run m' g')⟩

end Dw

namespace Fwd

open Cert.MlaKvbFwdIdeal Cert.MlaKvbFwdIdeal.Gen

variable (m : (ℓ : Loc nD τ sig) → Buf (Elt Ideal) ℓ)

/-- The reference's term over its two arguments. -/
abbrev product (X : FVec Ideal S4096x256 .bf16) (W : FVec Ideal S256x2048 .bf16) : FVec Ideal S4096x2048 .f32 :=
  Host.dotGeneral Cert.MlaKvbFwdRefIdeal.dot_S4096x256_S256x2048_S4096x2048_1_0_0_1_n_n none (extf .f32 X Cert.MlaKvbFwdRefIdeal.Gen.bitsLt_bf16_f32) (extf .f32 W Cert.MlaKvbFwdRefIdeal.Gen.bitsLt_bf16_f32)

/-- Where the blocks of the two operands and of the result lie at point `t`. -/
theorem place : ∀ t : Fin cfg0.N, win0_0.index t = ![t.val / 2, 0] ∧ win0_1.index t = ![0, t.val % 2] ∧ win0_2.index t = ![t.val / 2, t.val % 2] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaKvbFwdIdeal_MlaKvbFwdRefIdeal := fun m g m' g' _ same =>
  ⟨fun c => product (m ((c.tc : Thread Cert.MlaKvbFwdIdeal.nD Cert.MlaKvbFwdIdeal.τ).loc Cert.MlaKvbFwdIdeal.main_arg0)) (m ((c.tc : Thread Cert.MlaKvbFwdIdeal.nD Cert.MlaKvbFwdIdeal.τ).loc Cert.MlaKvbFwdIdeal.main_arg1)),
    (θ_run _ _ _).mono (fun _ h c => ⟨(h c).1.trans (final m c), (h c).2.1, (h c).2.2⟩) (Cert.MlaKvbFwdIdeal.Value.run_blocks m g),
    (θ_run _ _ _).mono (fun _ h c => ⟨(h c).1.trans (by rw [(same c).1, (same c).2]), (h c).2.1, (h c).2.2⟩) (Cert.MlaKvbFwdRefIdeal.Value.run m' g')⟩

end Fwd

end Cert.Projections.MlaKvb

end
-- ==== Proof.Projections.MlaO.lean ====
/-
  The attention's output projection, and its gradients by its two operands: each call's array is its reference's product.
-/
module

public import proofs.«01_k».proof.Defs
public import proofs.«01_k».proof.Proof.Gen.MlaODxIdeal.Frame
public import proofs.«01_k».proof.Proof.Gen.MlaODxIdeal.Value
public import proofs.«01_k».proof.Proof.Gen.MlaODxRefIdeal.Run
public import proofs.«01_k».proof.Proof.Gen.MlaODwIdeal.Frame
public import proofs.«01_k».proof.Proof.Gen.MlaODwIdeal.Value
public import proofs.«01_k».proof.Proof.Gen.MlaODwRefIdeal.Run
public import proofs.«01_k».proof.Proof.Gen.MlaOFwdIdeal.Frame
public import proofs.«01_k».proof.Proof.Gen.MlaOFwdIdeal.Value
public import proofs.«01_k».proof.Proof.Gen.MlaOFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Projections.MlaO

namespace Dx

open Cert.MlaODxIdeal Cert.MlaODxIdeal.Gen

variable (m : (ℓ : Loc nD τ sig) → Buf (Elt Ideal) ℓ)

/-- The reference's term over its two arguments. -/
abbrev product (G : FVec Ideal S4096x1024 .f32) (W : FVec Ideal S1024x1024 .bf16) : FVec Ideal S4096x1024 .bf16 :=
  truncf .bf16 (Host.dotGeneral Cert.MlaODxRefIdeal.dot_S4096x1024_S1024x1024_S4096x1024_1_1_0_0_n_n none G (extf .f32 W Cert.MlaODxRefIdeal.Gen.bitsLt_bf16_f32)) Cert.MlaODxRefIdeal.Gen.bitsLt_bf16_f32

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaODxIdeal_MlaODxRefIdeal := fun m g m' g' _ same =>
  ⟨fun c => product (m ((c.tc : Thread Cert.MlaODxIdeal.nD Cert.MlaODxIdeal.τ).loc Cert.MlaODxIdeal.main_arg0)) (m ((c.tc : Thread Cert.MlaODxIdeal.nD Cert.MlaODxIdeal.τ).loc Cert.MlaODxIdeal.main_arg1)),
    (θ_run _ _ _).mono (fun _ h c => ⟨(h c).1.trans (final m c), (h c).2.1, (h c).2.2⟩) (Cert.MlaODxIdeal.Value.run_blocks m g),
    (θ_run _ _ _).mono (fun _ h c => ⟨(h c).1.trans (by rw [(same c).1, (same c).2]), (h c).2.1, (h c).2.2⟩) (Cert.MlaODxRefIdeal.Value.run m' g')⟩

end Dx

namespace Dw

open Cert.MlaODwIdeal Cert.MlaODwIdeal.Gen

variable (m : (ℓ : Loc nD τ sig) → Buf (Elt Ideal) ℓ)

/-- The reference's term over its two arguments. -/
abbrev product (X : FVec Ideal S4096x1024 .bf16) (G : FVec Ideal S4096x1024 .f32) : FVec Ideal S1024x1024 .f32 :=
  transpose Cert.MlaODwRefIdeal.S1024x1024 [1, 0] (Host.dotGeneral Cert.MlaODwRefIdeal.dot_S4096x1024_S4096x1024_S1024x1024_0_0_1_1_n_n none G (extf .f32 X Cert.MlaODwRefIdeal.Gen.bitsLt_bf16_f32)) Cert.MlaODwRefIdeal.Gen.transposes_S1024x1024_S1024x1024_1_0

/-- Where the blocks of the two operands and of the result lie at point `t`. -/
theorem place : ∀ t : Fin cfg0.N, win0_0.index t = ![t.val % 4, 0] ∧ win0_1.index t = ![t.val % 4, 0] ∧ win0_2.index t = ![0, 0] :=
  (by decide +kernel : ∀ t : Fin grid0.N, _)

/-- The addend of one point, at an index. -/
theorem addend_at (x0 : FVec Ideal S1024x1024 .bf16) (x1 : FVec Ideal S1024x1024 .f32) (j) :
    k0_pay1 (F := Ideal) x0 x1 j = ∑ k : Fin 1024, x0 (ix2 k (j 0)) * x1 (ix2 k (j 1)) := by
  pointwise [k0_pay1, k0_pay1]

/-- A later point adds its addend to what the block holds. -/
theorem step_at (x0 : FVec Ideal S1024x1024 .bf16) (x1 : FVec Ideal S1024x1024 .f32) (acc : FVec Ideal S1024x1024 .f32) (j) :
    k0_pay2 (F := Ideal) x0 x1 acc j = acc j + ∑ k : Fin 1024, x0 (ix2 k (j 0)) * x1 (ix2 k (j 1)) := by
  pointwise [k0_pay1, k0_pay2]

/-- The product at an index. -/
theorem product_at (X G) (j) : product X G j = ∑ k : Fin 4096, X (ix2 k (j 0)) * G (ix2 k (j 1)) := by
  pointwise [product]
  exact Finset.sum_congr rfl fun k _ => mul_comm _ _

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by have lt : t.val < 4 := t.isLt; omega)]; frame_out; rw [addend_at]; exact (zero_add _).symm)
    (fun t h j => by rw [outsAt0_B m c t h (by omega)]; frame_out; rw [step_at])
    t ((flush0_2 t).mp hf) _, zero_add, product_at]
  refine Fin.sum_mul_add_congr fun s k hl => ?_
  blk_point [iblk, V, place t, place ⟨_, Pipeline.run_point_lt_of_flush t ((flush0_2 t).mp hf) s⟩]

/-- Kernel and reference end with the same array. -/
theorem agree : Cert.algebraic_MlaODwIdeal_MlaODwRefIdeal := fun m g m' g' _ same =>
  ⟨fun c => product (m ((c.tc : Thread Cert.MlaODwIdeal.nD Cert.MlaODwIdeal.τ).loc Cert.MlaODwIdeal.main_arg0)) (m ((c.tc : Thread Cert.MlaODwIdeal.nD Cert.MlaODwIdeal.τ).loc Cert.MlaODwIdeal.main_arg1)),
    (θ_run _ _ _).mono (fun _ h c => ⟨(h c).1.trans (final m c), (h c).2.1, (h c).2.2⟩) (Cert.MlaODwIdeal.Value.run_blocks m g),
    (θ_run _ _ _).mono (fun _ h c => ⟨(h c).1.trans (by rw [(same c).1, (same c).2]), (h c).2.1, (h c).2.2⟩) (Cert.MlaODwRefIdeal.Value.run m' g')⟩

end Dw

namespace Fwd

open Cert.MlaOFwdIdeal Cert.MlaOFwdIdeal.Gen

variable (m : (ℓ : Loc nD τ sig) → Buf (Elt Ideal) ℓ)

/-- The reference's term over its two arguments. -/
abbrev product (X : FVec Ideal S4096x1024 .bf16) (W : FVec Ideal S1024x1024 .bf16) : FVec Ideal S4096x1024 .f32 :=
  Host.dotGeneral Cert.MlaOFwdRefIdeal.dot_S4096x1024_S1024x1024_S4096x1024_1_0_0_1_n_n none (extf .f32 X Cert.MlaOFwdRefIdeal.Gen.bitsLt_bf16_f32) (extf .f32 W Cert.MlaOFwdRefIdeal.Gen.bitsLt_bf16_f32)

/-- Where the blocks of the two operands and of the result lie at point `t`. -/
theorem place : ∀ t : Fin cfg0.N, win0_0.index t = ![t.val, 0] ∧ win0_1.index t = ![0, 0] ∧ win0_2.index t = ![t.val, 0] :=
  (by decide +kernel : ∀ t : Fin grid0.N, _)

/-- What point `t` stores at `y` is the product at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_MlaOFwdIdeal_MlaOFwdRefIdeal := fun m g m' g' _ same =>
  ⟨fun c => product (m ((c.tc : Thread Cert.MlaOFwdIdeal.nD Cert.MlaOFwdIdeal.τ).loc Cert.MlaOFwdIdeal.main_arg0)) (m ((c.tc : Thread Cert.MlaOFwdIdeal.nD Cert.MlaOFwdIdeal.τ).loc Cert.MlaOFwdIdeal.main_arg1)),
    (θ_run _ _ _).mono (fun _ h c => ⟨(h c).1.trans (final m c), (h c).2.1, (h c).2.2⟩) (Cert.MlaOFwdIdeal.Value.run_blocks m g),
    (θ_run _ _ _).mono (fun _ h c => ⟨(h c).1.trans (by rw [(same c).1, (same c).2]), (h c).2.1, (h c).2.2⟩) (Cert.MlaOFwdRefIdeal.Value.run m' g')⟩

end Fwd

end Cert.Projections.MlaO

end
-- ==== Proof.Rows.Ada.lean ====
/-
  The conditioning's product, and the gradient of its weight: each call's array is its reference's product.
-/
module

public import proofs.«01_k».proof.Defs
public import proofs.«01_k».proof.Proof.Gen.AdaDwIdeal.Frame
public import proofs.«01_k».proof.Proof.Gen.AdaDwIdeal.Value
public import proofs.«01_k».proof.Proof.Gen.AdaDwRefIdeal.Run
public import proofs.«01_k».proof.Proof.Gen.AdaFwdIdeal.Frame
public import proofs.«01_k».proof.Proof.Gen.AdaFwdIdeal.Value
public import proofs.«01_k».proof.Proof.Gen.AdaFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows.Ada

namespace Dw

open Cert.AdaDwIdeal Cert.AdaDwIdeal.Gen

variable (m : (ℓ : Loc nD τ sig) → Buf (Elt Ideal) ℓ)

/-- The reference's term over its two arguments. -/
abbrev product (X : FVec Ideal S8x1024 .f32) (G : FVec Ideal S8x2304 .f32) : FVec Ideal S1024x2304 .f32 :=
  transpose Cert.AdaDwRefIdeal.S1024x2304 [1, 0] (Host.dotGeneral Cert.AdaDwRefIdeal.dot_S8x2304_S8x1024_S2304x1024_0_0_1_1_n_n none G X) Cert.AdaDwRefIdeal.Gen.transposes_S2304x1024_S1024x2304_1_0

/-- Where the blocks of the operands and of the results lie at point `t`. -/
theorem place : ∀ t : Fin cfg0.N, win0_0.index t = ![0, 0] ∧ win0_1.index t = ![0, t.val] ∧ win0_2.index t = ![0, t.val] :=
  (by decide +kernel : ∀ t : Fin grid0.N, _)

/-- What point `t` stores at `y` is the value at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  refine Finset.sum_congr rfl fun k _ => (mul_comm _ _).trans ?_
  blk_point [iblk, V, place t]

/-- The result after the run is the value. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_AdaDwIdeal_AdaDwRefIdeal := fun m g m' g' _ same =>
  ⟨fun c => product (m ((c.tc : Thread nD τ).loc main_arg0)) (m ((c.tc : Thread nD τ).loc main_arg1)),
    (θ_run _ _ _).mono (fun _ h c => ⟨(h c).1.trans (final m c), (h c).2⟩) (Cert.AdaDwIdeal.Value.run_blocks m g),
    (θ_run _ _ _).mono (fun _ h c => ⟨(h c).1.trans (by rw [(same c).1, (same c).2]), (h c).2⟩) (Cert.AdaDwRefIdeal.Value.run m' g')⟩

end Dw

namespace Fwd

open Cert.AdaFwdIdeal Cert.AdaFwdIdeal.Gen

variable (m : (ℓ : Loc nD τ sig) → Buf (Elt Ideal) ℓ)

/-- The reference's term over its two arguments. -/
abbrev product (X : FVec Ideal S8x1024 .f32) (W : FVec Ideal S1024x2304 .f32) : FVec Ideal S8x2304 .f32 :=
  Host.dotGeneral Cert.AdaFwdRefIdeal.dot_S8x1024_S1024x2304_S8x2304_1_0_0_1_n_n none X W

/-- Where the blocks of the operands and of the results lie at point `t`. -/
theorem place : ∀ t : Fin cfg0.N, win0_0.index t = ![0, 0] ∧ win0_1.index t = ![0, t.val] ∧ win0_2.index t = ![0, t.val] :=
  (by decide +kernel : ∀ t : Fin grid0.N, _)

/-- What point `t` stores at `y` is the value at the element of the result under `y`. -/
theorem stored (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, place t]

/-- The result after the run is the value. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_AdaFwdIdeal_AdaFwdRefIdeal := fun m g m' g' _ same =>
  ⟨fun c => product (m ((c.tc : Thread nD τ).loc main_arg0)) (m ((c.tc : Thread nD τ).loc main_arg1)),
    (θ_run _ _ _).mono (fun _ h c => ⟨(h c).1.trans (final m c), (h c).2⟩) (Cert.AdaFwdIdeal.Value.run_blocks m g),
    (θ_run _ _ _).mono (fun _ h c => ⟨(h c).1.trans (by rw [(same c).1, (same c).2]), (h c).2⟩) (Cert.AdaFwdRefIdeal.Value.run m' g')⟩

end Fwd

end Cert.Rows.Ada

end
-- ==== Proof.Rows.Swiglu.lean ====
/-
  The gated activation of the feed-forward block, and its gradient: each call's array is its reference's.
-/
module

public import proofs.«01_k».proof.Defs
public import proofs.«01_k».proof.Proof.Gen.SwigluBwdIdeal.Frame
public import proofs.«01_k».proof.Proof.Gen.SwigluBwdIdeal.Value
public import proofs.«01_k».proof.Proof.Gen.SwigluBwdRefIdeal.Run
public import proofs.«01_k».proof.Proof.Gen.SwigluFwdIdeal.Frame
public import proofs.«01_k».proof.Proof.Gen.SwigluFwdIdeal.Value
public import proofs.«01_k».proof.Proof.Gen.SwigluFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows.Swiglu

namespace Bwd

open Cert.SwigluBwdIdeal Cert.SwigluBwdIdeal.Gen

variable (m : (ℓ : Loc nD τ sig) → Buf (Elt Ideal) ℓ)

/-- The reference's term over its two arguments. -/
abbrev value (X : FVec Ideal S4096x5632 .bf16) (G : FVec Ideal S4096x2816 .bf16) : FVec Ideal S4096x5632 .bf16 :=
  truncf .bf16 (concatenate Cert.SwigluBwdRefIdeal.S4096x5632 1 [⟨Cert.SwigluBwdRefIdeal.S4096x2816, (addf (mulf (mulf (extf .f32 G Cert.SwigluBwdRefIdeal.Gen.bitsLt_bf16_f32) (extractStridedSlice Cert.SwigluBwdRefIdeal.S4096x2816 ![0, 2816] (extf .f32 X Cert.SwigluBwdRefIdeal.Gen.bitsLt_bf16_f32) Cert.SwigluBwdRefIdeal.Gen.slices_S4096x5632_S4096x2816_0_2816)) (Host.divf (broadcastInDim Cert.SwigluBwdRefIdeal.S4096x2816 ![] Cert.SwigluBwdRefIdeal.Gen.bcast_S_S4096x2816 (constant Cert.SwigluBwdRefIdeal.S_ .f32 0x3F800000#32)) (addf (broadcastInDim Cert.SwigluBwdRefIdeal.S4096x2816 ![] Cert.SwigluBwdRefIdeal.Gen.bcast_S_S4096x2816 (constant Cert.SwigluBwdRefIdeal.S_ .f32 0x3F800000#32)) (Host.exp (Host.negf (extractStridedSlice Cert.SwigluBwdRefIdeal.S4096x2816 ![0, 0] (extf .f32 X Cert.SwigluBwdRefIdeal.Gen.bitsLt_bf16_f32) Cert.SwigluBwdRefIdeal.Gen.slices_S4096x5632_S4096x2816_0_0)))))) (mulf (mulf (extractStridedSlice Cert.SwigluBwdRefIdeal.S4096x2816 ![0, 0] (extf .f32 X Cert.SwigluBwdRefIdeal.Gen.bitsLt_bf16_f32) Cert.SwigluBwdRefIdeal.Gen.slices_S4096x5632_S4096x2816_0_0) (mulf (extf .f32 G Cert.SwigluBwdRefIdeal.Gen.bitsLt_bf16_f32) (extractStridedSlice Cert.SwigluBwdRefIdeal.S4096x2816 ![0, 2816] (extf .f32 X Cert.SwigluBwdRefIdeal.Gen.bitsLt_bf16_f32) Cert.SwigluBwdRefIdeal.Gen.slices_S4096x5632_S4096x2816_0_2816))) (mulf (Host.divf (broadcastInDim Cert.SwigluBwdRefIdeal.S4096x2816 ![] Cert.SwigluBwdRefIdeal.Gen.bcast_S_S4096x2816 (constant Cert.SwigluBwdRefIdeal.S_ .f32 0x3F800000#32)) (addf (broadcastInDim Cert.SwigluBwdRefIdeal.S4096x2816 ![] Cert.SwigluBwdRefIdeal.Gen.bcast_S_S4096x2816 (constant Cert.SwigluBwdRefIdeal.S_ .f32 0x3F800000#32)) (Host.exp (Host.negf (extractStridedSlice Cert.SwigluBwdRefIdeal.S4096x2816 ![0, 0] (extf .f32 X Cert.SwigluBwdRefIdeal.Gen.bitsLt_bf16_f32) Cert.SwigluBwdRefIdeal.Gen.slices_S4096x5632_S4096x2816_0_0))))) (subf (broadcastInDim Cert.SwigluBwdRefIdeal.S4096x2816 ![] Cert.SwigluBwdRefIdeal.Gen.bcast_S_S4096x2816 (constant Cert.SwigluBwdRefIdeal.S_ .f32 0x3F800000#32)) (Host.divf (broadcastInDim Cert.SwigluBwdRefIdeal.S4096x2816 ![] Cert.SwigluBwdRefIdeal.Gen.bcast_S_S4096x2816 (constant Cert.SwigluBwdRefIdeal.S_ .f32 0x3F800000#32)) (addf (broadcastInDim Cert.SwigluBwdRefIdeal.S4096x2816 ![] Cert.SwigluBwdRefIdeal.Gen.bcast_S_S4096x2816 (constant Cert.SwigluBwdRefIdeal.S_ .f32 0x3F800000#32)) (Host.exp (Host.negf (extractStridedSlice Cert.SwigluBwdRefIdeal.S4096x2816 ![0, 0] (extf .f32 X Cert.SwigluBwdRefIdeal.Gen.bitsLt_bf16_f32) Cert.SwigluBwdRefIdeal.Gen.slices_S4096x5632_S4096x2816_0_0)))))))))⟩, ⟨Cert.SwigluBwdRefIdeal.S4096x2816, (mulf (mulf (extractStridedSlice Cert.SwigluBwdRefIdeal.S4096x2816 ![0, 0] (extf .f32 X Cert.SwigluBwdRefIdeal.Gen.bitsLt_bf16_f32) Cert.SwigluBwdRefIdeal.Gen.slices_S4096x5632_S4096x2816_0_0) (Host.divf (broadcastInDim Cert.SwigluBwdRefIdeal.S4096x2816 ![] Cert.SwigluBwdRefIdeal.Gen.bcast_S_S4096x2816 (constant Cert.SwigluBwdRefIdeal.S_ .f32 0x3F800000#32)) (addf (broadcastInDim Cert.SwigluBwdRefIdeal.S4096x2816 ![] Cert.SwigluBwdRefIdeal.Gen.bcast_S_S4096x2816 (constant Cert.SwigluBwdRefIdeal.S_ .f32 0x3F800000#32)) (Host.exp (Host.negf (extractStridedSlice Cert.SwigluBwdRefIdeal.S4096x2816 ![0, 0] (extf .f32 X Cert.SwigluBwdRefIdeal.Gen.bitsLt_bf16_f32) Cert.SwigluBwdRefIdeal.Gen.slices_S4096x5632_S4096x2816_0_0)))))) (extf .f32 G Cert.SwigluBwdRefIdeal.Gen.bitsLt_bf16_f32))⟩] Cert.SwigluBwdRefIdeal.Gen.concatenates_S4096x2816_S4096x2816_S4096x5632_d1) Cert.SwigluBwdRefIdeal.Gen.bitsLt_bf16_f32

/-- Where the blocks of the operands and of the results lie at point `t`. -/
theorem place : ∀ t : Fin cfg0.N, win0_0.index t = ![t.val, 0] ∧ win0_1.index t = ![t.val, 0] ∧ win0_2.index t = ![t.val, 0] :=
  (by decide +kernel : ∀ t : Fin grid0.N, _)

/-- What point `t` stores at `y` is the value at the element of the result under `y`. -/
theorem stored (c : Dev nD) (t : Fin cfg0.N) (y) : k0_pay1 (iblk m c 0 t) (iblk m c 1 t) y
    = value (m ((c : Thread nD τ).loc main_arg0)) (m ((c : Thread nD τ).loc main_arg1)) (((cfg0.win 2).blk t).view.emb y) := by
  pointwise [k0_pay1, value, Ideal.logistic]
  have e : ((((cfg0.win 2).blk t).view.emb y) 1).val = (y 1).val := by blk_point [place t]
  by_cases h : (y 1).val < 2816 <;> simp only [e, h, dite_true, dite_false, zero_add, add_zero] <;> blk_point [iblk, V, place t]

/-- The result after the run is the value. -/
theorem final (c : Dev nD) : (dats m 0 c).arrAt 2 (cfgs 0).N = value (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

/-- Kernel and reference end with the same array. -/
theorem agree : Cert.algebraic_SwigluBwdIdeal_SwigluBwdRefIdeal := fun m g m' g' _ same =>
  ⟨fun c => value (m ((c.tc : Thread nD τ).loc main_arg0)) (m ((c.tc : Thread nD τ).loc main_arg1)),
    (θ_run _ _ _).mono (fun _ h c => ⟨(h c).1.trans (final m c), (h c).2⟩) (Cert.SwigluBwdIdeal.Value.run_blocks m g),
    (θ_run _ _ _).mono (fun _ h c => ⟨(h c).1.trans (by rw [(same c).1, (same c).2]), (h c).2⟩) (Cert.SwigluBwdRefIdeal.Value.run m' g')⟩

end Bwd

namespace Fwd

open Cert.SwigluFwdIdeal Cert.SwigluFwdIdeal.Gen

variable (m : (ℓ : Loc nD τ sig) → Buf (Elt Ideal) ℓ)

/-- The reference's term over its argument. -/
abbrev value (X : FVec Ideal S4096x5632 .bf16) : FVec Ideal S4096x2816 .bf16 :=
  truncf .bf16 (mulf (mulf (extractStridedSlice Cert.SwigluFwdRefIdeal.S4096x2816 ![0, 0] (extf .f32 X Cert.SwigluFwdRefIdeal.Gen.bitsLt_bf16_f32) Cert.SwigluFwdRefIdeal.Gen.slices_S4096x5632_S4096x2816_0_0) (Host.divf (broadcastInDim Cert.SwigluFwdRefIdeal.S4096x2816 ![] Cert.SwigluFwdRefIdeal.Gen.bcast_S_S4096x2816 (constant Cert.SwigluFwdRefIdeal.S_ .f32 0x3F800000#32)) (addf (broadcastInDim Cert.SwigluFwdRefIdeal.S4096x2816 ![] Cert.SwigluFwdRefIdeal.Gen.bcast_S_S4096x2816 (constant Cert.SwigluFwdRefIdeal.S_ .f32 0x3F800000#32)) (Host.exp (Host.negf (extractStridedSlice Cert.SwigluFwdRefIdeal.S4096x2816 ![0, 0] (extf .f32 X Cert.SwigluFwdRefIdeal.Gen.bitsLt_bf16_f32) Cert.SwigluFwdRefIdeal.Gen.slices_S4096x5632_S4096x2816_0_0)))))) (extractStridedSlice Cert.SwigluFwdRefIdeal.S4096x2816 ![0, 2816] (extf .f32 X Cert.SwigluFwdRefIdeal.Gen.bitsLt_bf16_f32) Cert.SwigluFwdRefIdeal.Gen.slices_S4096x5632_S4096x2816_0_2816)) Cert.SwigluFwdRefIdeal.Gen.bitsLt_bf16_f32

/-- Where the blocks of the operands and of the results lie at point `t`. -/
theorem place : ∀ t : Fin cfg0.N, win0_0.index t = ![t.val, 0] ∧ win0_1.index t = ![t.val, 0] :=
  (by decide +kernel : ∀ t : Fin grid0.N, _)

/-- What point `t` stores at `y` is the value at the element of the result under `y`. -/
theorem stored (c : Dev nD) (t : Fin cfg0.N) (y) : k0_pay1 (iblk m c 0 t) y
    = value (m ((c : Thread nD τ).loc main_arg0)) (((cfg0.win 1).blk t).view.emb y) := by
  pointwise [k0_pay1, value, Ideal.logistic]
  blk_point [iblk, V, place t]

/-- The result after the run is the value. -/
theorem final (c : Dev nD) : (dats m 0 c).arrAt 1 (cfgs 0).N = value (m ((c : Thread nD τ).loc main_arg0)) := by
  refine (dats m 0 c).arrAt_eq_of_covers 1 _ (by decide +kernel) fun t _ y => ?_
  blk_simp
  rw [after0_1]; frame_out
  exact stored m c t y

/-- Kernel and reference end with the same array. -/
theorem agree : Cert.algebraic_SwigluFwdIdeal_SwigluFwdRefIdeal := fun m g m' g' _ same =>
  ⟨fun c => value (m ((c.tc : Thread nD τ).loc main_arg0)),
    (θ_run _ _ _).mono (fun _ h c => ⟨(h c).1.trans (final m c), (h c).2⟩) (Cert.SwigluFwdIdeal.Value.run_blocks m g),
    (θ_run _ _ _).mono (fun _ h c => ⟨(h c).1.trans (by rw [same c]), (h c).2⟩) (Cert.SwigluFwdRefIdeal.Value.run m' g')⟩

end Fwd

end Cert.Rows.Swiglu

end
-- ==== Proof.Rows.Math.lean ====
/-
  Sums scaled by a constant that is no less than zero, and the loss head's constants.
-/
module

public import proofs.«01_k».proof.Proof.Conv.Math
public import Idealize.ShloMosaic.Lib.Pointwise
public import Idealize.ShloMosaic.Lib.Pipeline.ReadBack

@[expose] public section

noncomputable section

open Idealize.ShloMosaic

namespace Cert.Rows

/-- Half, as the programs write it. -/
def half : EReal := Scalar.ofBits (F := Ideal) .f32 0x3F000000#32

theorem half_eq : half = ((1 / 2 : ℝ) : EReal) := by
  simp [half, Ideal.ofBits, Ideal.ieee, -EReal.coe_mul]; norm_num

/-- A constant that is no less than zero passes through a sum. -/
theorem mul_sum {ι : Type} (s : Finset ι) (r : ℝ) (h : 0 ≤ r) (f : ι → EReal) : (r : EReal) * ∑ i ∈ s, f i = ∑ i ∈ s, (r : EReal) * f i := by
  classical
  induction s using Finset.induction_on with
  | empty => simp
  | insert i s hi ih => rw [Finset.sum_insert hi, Finset.sum_insert hi, EReal.left_distrib_of_nonneg_of_ne_top (EReal.coe_nonneg.mpr h) (EReal.coe_ne_top r), ih]

theorem half_sum {n : ℕ} (f : Fin n → EReal) : half * ∑ i, f i = ∑ i, half * f i := by
  rw [half_eq]; exact mul_sum _ _ (by norm_num) f

/-- The loss head's constants. -/
theorem inv_width : Ideal.ofBits .f32 0x3A800000#32 = ((1 / 1024 : ℝ) : EReal) := by
  simp [Ideal.ofBits, Ideal.ieee, -EReal.coe_mul]; norm_num

theorem half_inv_width : Ideal.ofBits .f32 0x3A000000#32 = ((1 / 2048 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The mean's weight times the square's factor is one over the width. -/
theorem slope_eq (x : EReal) : Ideal.div (half * 1) ((1024 : ℝ) : EReal) * (((2 : ℝ) : EReal) * x) = x * ((1 / 1024 : ℝ) : EReal) := by
  rw [mul_one, half_eq, Ideal.div_coe (by norm_num), ← mul_assoc, ← EReal.coe_mul, ← EReal.coe_mul, mul_comm]
  norm_num

/-- Half the mean is the sum scaled once. -/
theorem scale_eq (x : EReal) : Ideal.div (half * x) ((1024 : ℝ) : EReal) = x * ((1 / 2048 : ℝ) : EReal) := by
  rw [half_eq, Ideal.div_coe (by norm_num), mul_comm _ x, mul_assoc, ← EReal.coe_mul]
  norm_num

theorem sum_scale {n : ℕ} (f : Fin n → EReal) : (∑ i, f i) * ((1 / 2048 : ℝ) : EReal) = ∑ i, f i * ((1 / 2048 : ℝ) : EReal) := by
  rw [mul_comm, mul_sum _ _ (by norm_num)]
  exact Finset.sum_congr rfl fun i _ => mul_comm _ _

end Cert.Rows

end
-- ==== Proof.Rows.ResidBwd.lean ====
/-
  The gradient of the gated residual sum: the call's three arrays are the reference's.
-/
module

public import proofs.«01_k».proof.Defs
public import proofs.«01_k».proof.Proof.Rows.Math
public import proofs.«01_k».proof.Proof.Gen.ResidBwdIdeal.Frame
public import proofs.«01_k».proof.Proof.Gen.ResidBwdIdeal.Value
public import proofs.«01_k».proof.Proof.Gen.ResidBwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows.Resid

namespace Bwd

open Cert.ResidBwdIdeal Cert.ResidBwdIdeal.Gen

variable (m : (ℓ : Loc nD τ sig) → Buf (Elt Ideal) ℓ)

/-- The reference's cotangent of the summand. -/
abbrev second (G : FVec Ideal S1x1024 .f32) (D : FVec Ideal S4096x1024 .f32) : FVec Ideal S4096x1024 .f32 :=
  mulf (broadcastInDim Cert.ResidBwdRefIdeal.S4096x1024 ![0, 1] Cert.ResidBwdRefIdeal.Gen.bcast_S1x1024_S4096x1024_0_1 (mulf (broadcastInDim Cert.ResidBwdRefIdeal.S1x1024 ![] Cert.ResidBwdRefIdeal.Gen.bcast_S_S1x1024 (constant Cert.ResidBwdRefIdeal.S_ .f32 0x3F000000#32)) G)) (shapeCast _ D Cert.ResidBwdRefIdeal.Gen.shapeCasts_S4096x1024_S4096x1024)

/-- The reference's cotangent of the gate. -/
abbrev gate (Y : FVec Ideal S4096x1024 .f32) (D : FVec Ideal S4096x1024 .f32) : FVec Ideal S1x1024 .f32 :=
  mulf (broadcastInDim Cert.ResidBwdRefIdeal.S1x1024 ![] Cert.ResidBwdRefIdeal.Gen.bcast_S_S1x1024 (constant Cert.ResidBwdRefIdeal.S_ .f32 0x3F000000#32)) (shapeCast _ (Host.reduceAdd (mulf (shapeCast _ D Cert.ResidBwdRefIdeal.Gen.shapeCasts_S4096x1024_S4096x1024) Y) (constant Cert.ResidBwdRefIdeal.S_ .f32 0x00000000#32) Cert.ResidBwdRefIdeal.Gen.reducesTo_S4096x1024_S1024_d0 Cert.ResidBwdRefIdeal.Gen.h_S_) Cert.ResidBwdRefIdeal.Gen.shapeCasts_S1024_S1x1024)

/-- Where the blocks of the operands and of the results lie at point `t`. -/
theorem place : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] :=
  (by decide +kernel : ∀ t : Fin grid0.N, _)

/-- The cotangent of the sum passes to the first summand. -/
theorem final_first (c : Dev nD) : (dats m 0 c).arrAt 4 (cfgs 0).N = m ((c : Thread nD τ).loc main_arg3) := by
  refine (dats m 0 c).arrAt_eq_of_covers 4 _ (by decide +kernel) fun t _ y => ?_
  blk_simp
  rw [after0_4]
  have e : (outsAt0 m c t.val t.isLt).1 y = iblk m c 3 t y := by
    by_cases h : t.val % 8 = 0
    · rw [outsAt0_A m c t h (by have lt : t.val < 8 := t.isLt; omega)]; frame_out
    · rw [outsAt0_B m c t h (by omega)]; frame_out
  refine e.trans ?_
  blk_point [iblk, V, place t]

/-- The second summand's cotangent after the run. -/
theorem final_second (c : Dev nD) : (dats m 0 c).arrAt 5 (cfgs 0).N
    = second (m ((c : Thread nD τ).loc main_arg2)) (m ((c : Thread nD τ).loc main_arg3)) := by
  refine (dats m 0 c).arrAt_eq_of_covers 5 _ (by decide +kernel) fun t _ y => ?_
  blk_simp
  rw [after0_5]
  have e : (outsAt0 m c t.val t.isLt).2.1 y = k0_pay2 (iblk m c 2 t) (iblk m c 3 t) y := by
    by_cases h : t.val % 8 = 0
    · rw [outsAt0_A m c t h (by have lt : t.val < 8 := t.isLt; omega)]; frame_out
    · rw [outsAt0_B m c t h (by omega)]; frame_out
  refine e.trans ?_
  pointwise [k0_pay1, k0_pay2, second]
  blk_point [iblk, V, place t]

/-- What one point adds to the gate's cotangent, -/
theorem addend_at (x0 x2 : FVec Ideal S512x1024 .f32) (j) :
    k0_pay3 (F := Ideal) x0 x2 j = half * ∑ k : Fin 512, x2 (ix2 k (j 1)) * x0 (ix2 k (j 1)) := by
  pointwise [k0_pay1, k0_pay3, half]

/-- and to what the block holds. -/
theorem step_at (x0 x2 : FVec Ideal S512x1024 .f32) (acc : FVec Ideal S1x1024 .f32) (j) :
    k0_pay4 (F := Ideal) x0 x2 acc j = acc j + half * ∑ k : Fin 512, x2 (ix2 k (j 1)) * x0 (ix2 k (j 1)) := by
  pointwise [k0_pay1, k0_pay3, k0_pay4, half]

/-- The reference's cotangent of the gate at an index. -/
theorem gate_at (Y D) (j) : gate Y D j = ∑ k : Fin 4096, half * (D (ix2 k (j 1)) * Y (ix2 k (j 1))) := by
  rw [← half_sum]
  pointwise [gate, half]

/-- The gate's cotangent after the run. -/
theorem final_gate (c : Dev nD) : (dats m 0 c).arrAt 6 (cfgs 0).N
    = gate (m ((c : Thread nD τ).loc main_arg1)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0) _
    (fun t h j => by rw [outsAt0_A m c t h (by have lt : t.val < 8 := t.isLt; omega)]; frame_out; rw [addend_at, half_sum]; exact (zero_add _).symm)
    (fun t h j => by rw [outsAt0_B m c t h (by omega)]; frame_out; rw [step_at, half_sum])
    t ((flush0_6 t).mp hf) _, zero_add, gate_at]
  refine Conv.sum_blocks _ _ fun s k => ?_
  blk_point [iblk, V, place t, place ⟨_, Pipeline.run_point_lt_of_flush t ((flush0_6 t).mp hf) s⟩]

/-- Kernel and reference end with the same arrays. -/
theorem agree : Cert.algebraic_ResidBwdIdeal_ResidBwdRefIdeal := fun m g m' g' _ same =>
  ⟨fun c => (m ((c.tc : Thread nD τ).loc main_arg3)),
    fun c => second (m ((c.tc : Thread nD τ).loc main_arg2)) (m ((c.tc : Thread nD τ).loc main_arg3)),
    fun c => gate (m ((c.tc : Thread nD τ).loc main_arg1)) (m ((c.tc : Thread nD τ).loc main_arg3)),
    (θ_run _ _ _).mono (fun _ h c => ⟨(h c).1.trans (final_first m c), (h c).2.1.trans (final_second m c), (h c).2.2.1.trans (final_gate m c), (h c).2.2.2⟩) (Cert.ResidBwdIdeal.Value.run_blocks m g),
    (θ_run _ _ _).mono (fun _ h c => ⟨(h c).1.trans (by rw [(same c).2.2.2]), (h c).2.1.trans (by rw [(same c).2.2.1, (same c).2.2.2]), (h c).2.2.1.trans (by rw [(same c).2.1, (same c).2.2.2]), (h c).2.2.2⟩) (Cert.ResidBwdRefIdeal.Value.run m' g')⟩

end Bwd

end Cert.Rows.Resid

end
-- ==== Proof.Rows.ResidFwd.lean ====
/-
  The gated residual sum: the call's array is the reference's.
-/
module

public import proofs.«01_k».proof.Defs
public import proofs.«01_k».proof.Proof.Gen.ResidFwdIdeal.Frame
public import proofs.«01_k».proof.Proof.Gen.ResidFwdIdeal.Value
public import proofs.«01_k».proof.Proof.Gen.ResidFwdRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows.Resid

namespace Fwd

open Cert.ResidFwdIdeal Cert.ResidFwdIdeal.Gen

variable (m : (ℓ : Loc nD τ sig) → Buf (Elt Ideal) ℓ)

/-- The reference's term over its three arguments. -/
abbrev value (X : FVec Ideal S4096x1024 .f32) (Y : FVec Ideal S4096x1024 .f32) (G : FVec Ideal S1x1024 .f32) : FVec Ideal S4096x1024 .f32 :=
  addf X (mulf (broadcastInDim Cert.ResidFwdRefIdeal.S4096x1024 ![0, 1] Cert.ResidFwdRefIdeal.Gen.bcast_S1x1024_S4096x1024_0_1 (mulf (broadcastInDim Cert.ResidFwdRefIdeal.S1x1024 ![] Cert.ResidFwdRefIdeal.Gen.bcast_S_S1x1024 (constant Cert.ResidFwdRefIdeal.S_ .f32 0x3F000000#32)) G)) Y)

/-- Where the blocks of the operands and of the results lie at point `t`. -/
theorem place : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- What point `t` stores at `y` is the value at the element of the result under `y`. -/
theorem stored (c : Dev nD) (t : Fin cfg0.N) (y) : k0_pay1 (iblk m c 0 t) (iblk m c 1 t) (iblk m c 2 t) y
    = value (m ((c : Thread nD τ).loc main_arg0)) (m ((c : Thread nD τ).loc main_arg1)) (m ((c : Thread nD τ).loc main_arg2)) (((cfg0.win 3).blk t).view.emb y) := by
  pointwise [k0_pay1, value]
  blk_point [iblk, V, place t]

/-- The result after the run is the value. -/
theorem final (c : Dev nD) : (dats m 0 c).arrAt 3 (cfgs 0).N = value (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact stored m c t y

/-- Kernel and reference end with the same array. -/
theorem agree : Cert.algebraic_ResidFwdIdeal_ResidFwdRefIdeal := fun m g m' g' _ same =>
  ⟨fun c => value (m ((c.tc : Thread nD τ).loc main_arg0)) (m ((c.tc : Thread nD τ).loc main_arg1)) (m ((c.tc : Thread nD τ).loc main_arg2)),
    (θ_run _ _ _).mono (fun _ h c => ⟨(h c).1.trans (final m c), (h c).2⟩) (Cert.ResidFwdIdeal.Value.run_blocks m g),
    (θ_run _ _ _).mono (fun _ h c => ⟨(h c).1.trans (by rw [(same c).1, (same c).2.1, (same c).2.2]), (h c).2⟩) (Cert.ResidFwdRefIdeal.Value.run m' g')⟩

end Fwd

end Cert.Rows.Resid

end
-- ==== Proof.Rows.LossHead.lean ====
/-
  The loss head: the gradient it sends back and the losses of the features are the reference's.
-/
module

public import proofs.«01_k».proof.Defs
public import proofs.«01_k».proof.Proof.Rows.Math
public import proofs.«01_k».proof.Proof.Gen.LossHeadIdeal.Frame
public import proofs.«01_k».proof.Proof.Gen.LossHeadIdeal.Value
public import proofs.«01_k».proof.Proof.Gen.LossHeadRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows

namespace LossHead

open Cert.LossHeadIdeal Cert.LossHeadIdeal.Gen

variable (m : (ℓ : Loc nD τ sig) → Buf (Elt Ideal) ℓ)

/-- The reference's gradient. -/
abbrev slope (Y : FVec Ideal S4096x1024 .f32) (T : FVec Ideal S4096x1024 .f32) : FVec Ideal S4096x1024 .f32 :=
  mulf (broadcastInDim Cert.LossHeadRefIdeal.S4096x1024 ![0] Cert.LossHeadRefIdeal.Gen.bcast_S4096_S4096x1024_0 (Host.divf (broadcastInDim Cert.LossHeadRefIdeal.S4096 ![] Cert.LossHeadRefIdeal.Gen.bcast_S_S4096 (mulf (constant Cert.LossHeadRefIdeal.S_ .f32 0x3F000000#32) (constant Cert.LossHeadRefIdeal.S_ .f32 0x3F800000#32))) (broadcastInDim Cert.LossHeadRefIdeal.S4096 ![] Cert.LossHeadRefIdeal.Gen.bcast_S_S4096 (constant Cert.LossHeadRefIdeal.S_ .f32 0x44800000#32)))) (mulf (broadcastInDim Cert.LossHeadRefIdeal.S4096x1024 ![] Cert.LossHeadRefIdeal.Gen.bcast_S_S4096x1024 (constant Cert.LossHeadRefIdeal.S_ .f32 0x40000000#32)) (subf Y T))

/-- The reference's loss of every feature. -/
abbrev loss (Y : FVec Ideal S4096x1024 .f32) (T : FVec Ideal S4096x1024 .f32) : FVec Ideal S1x1024 .f32 :=
  Host.divf (mulf (broadcastInDim Cert.LossHeadRefIdeal.S1x1024 ![] Cert.LossHeadRefIdeal.Gen.bcast_S_S1x1024 (constant Cert.LossHeadRefIdeal.S_ .f32 0x3F000000#32)) (broadcastInDim Cert.LossHeadRefIdeal.S1x1024 ![1] Cert.LossHeadRefIdeal.Gen.bcast_S1024_S1x1024_1 (Host.reduceAdd (mulf (subf Y T) (subf Y T)) (constant Cert.LossHeadRefIdeal.S_ .f32 0x00000000#32) Cert.LossHeadRefIdeal.Gen.reducesTo_S4096x1024_S1024_d0 Cert.LossHeadRefIdeal.Gen.h_S_))) (broadcastInDim Cert.LossHeadRefIdeal.S1x1024 ![] Cert.LossHeadRefIdeal.Gen.bcast_S_S1x1024 (constant Cert.LossHeadRefIdeal.S_ .f32 0x44800000#32))

/-- Where the blocks of the operands and of the results lie at point `t`. -/
theorem place : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- What one point stores of the gradient. -/
theorem slope_at (y t : FVec Ideal S512x1024 .f32) (j) : k0_pay2 (F := Ideal) y t j = (y j - t j) * ((1 / 1024 : ℝ) : EReal) := by
  rw [← inv_width]
  pointwise [k0_pay1, k0_pay2]

/-- The reference's gradient at an index. -/
theorem slope_ref (Y T) (j) : slope Y T j = (Y j - T j) * ((1 / 1024 : ℝ) : EReal) := by
  rw [← slope_eq, ← width, ← two]
  pointwise [slope, half]

/-- The gradient after the run. -/
theorem final_slope (c : Dev nD) : (dats m 0 c).arrAt 2 (cfgs 0).N
    = slope (m ((c : Thread nD τ).loc main_arg0)) (m ((c : Thread nD τ).loc main_arg1)) := by
  refine (dats m 0 c).arrAt_eq_of_covers 2 _ (by decide +kernel) fun t _ y => ?_
  blk_simp
  rw [after0_2]
  have e : (outsAt0 m c t.val t.isLt).1 y = k0_pay2 (iblk m c 0 t) (iblk m c 1 t) y := by
    by_cases h : t.val % 8 = 0
    · rw [outsAt0_A m c t h (by have lt : t.val < 8 := t.isLt; omega)]; frame_out
    · rw [outsAt0_B m c t h (by omega)]; frame_out
  refine e.trans ?_
  rw [slope_at, slope_ref]
  blk_point [iblk, V, place t]

/-- What one point adds to the losses, -/
theorem addend_at (y t : FVec Ideal S512x1024 .f32) (j) : k0_pay3 (F := Ideal) y t j
    = ∑ k : Fin 512, (y (ix2 k (j 1)) - t (ix2 k (j 1))) * (y (ix2 k (j 1)) - t (ix2 k (j 1))) * ((1 / 2048 : ℝ) : EReal) := by
  rw [← sum_scale, ← half_inv_width]
  pointwise [k0_pay1, k0_pay3]

/-- and to what the block holds. -/
theorem step_at (y t : FVec Ideal S512x1024 .f32) (acc : FVec Ideal S1x1024 .f32) (j) : k0_pay4 (F := Ideal) y t acc j
    = acc j + ∑ k : Fin 512, (y (ix2 k (j 1)) - t (ix2 k (j 1))) * (y (ix2 k (j 1)) - t (ix2 k (j 1))) * ((1 / 2048 : ℝ) : EReal) := by
  rw [← sum_scale, ← half_inv_width]
  pointwise [k0_pay1, k0_pay3, k0_pay4]

/-- The reference's losses at an index. -/
theorem loss_at (Y T) (j) : loss Y T j
    = ∑ k : Fin 4096, (Y (ix2 k (j 1)) - T (ix2 k (j 1))) * (Y (ix2 k (j 1)) - T (ix2 k (j 1))) * ((1 / 2048 : ℝ) : EReal) := by
  rw [← sum_scale, ← scale_eq, ← width]
  pointwise [loss, half]

/-- The losses after the run. -/
theorem final_loss (c : Dev nD) : (dats m 0 c).arrAt 3 (cfgs 0).N
    = loss (m ((c : Thread nD τ).loc main_arg0)) (m ((c : Thread nD τ).loc main_arg1)) := by
  refine (dats m 0 c).arrAt_eq_of_covers 3 _ (by decide +kernel) fun t hf y => ?_
  blk_simp
  rw [after0_3, Pipeline.eq_sum_fin_of_reset_step_apply_of_flush (fun n h => (outsAt0 m c n h).2) 8 (fun _ => 0) _
    (fun t h j => by rw [outsAt0_A m c t h (by have lt : t.val < 8 := t.isLt; omega)]; frame_out; rw [addend_at]; exact (zero_add _).symm)
    (fun t h j => by rw [outsAt0_B m c t h (by omega)]; frame_out; rw [step_at])
    t ((flush0_3 t).mp hf) _, zero_add, loss_at]
  refine Conv.sum_blocks _ _ fun s k => ?_
  blk_point [iblk, V, place t, place ⟨_, Pipeline.run_point_lt_of_flush t ((flush0_3 t).mp hf) s⟩]

/-- Kernel and reference end with the same arrays. -/
theorem agree : Cert.algebraic_LossHeadIdeal_LossHeadRefIdeal := fun m g m' g' _ same =>
  ⟨fun c => slope (m ((c.tc : Thread nD τ).loc main_arg0)) (m ((c.tc : Thread nD τ).loc main_arg1)),
    fun c => loss (m ((c.tc : Thread nD τ).loc main_arg0)) (m ((c.tc : Thread nD τ).loc main_arg1)),
    (θ_run _ _ _).mono (fun _ h c => ⟨(h c).1.trans (final_slope m c), (h c).2.1.trans (final_loss m c), (h c).2.2⟩) (Cert.LossHeadIdeal.Value.run_blocks m g),
    (θ_run _ _ _).mono (fun _ h c => ⟨(h c).1.trans (by rw [(same c).1, (same c).2]), (h c).2.1.trans (by rw [(same c).1, (same c).2]), (h c).2.2⟩) (Cert.LossHeadRefIdeal.Value.run m' g')⟩

end LossHead

end Cert.Rows

end
-- ==== Proof.Rows.AdamGu.lean ====
/-
  The optimiser's two moments of the feed-forward block's first weight: the call's two arrays are the reference's.
-/
module

public import proofs.«01_k».proof.Defs
public import proofs.«01_k».proof.Proof.Gen.AdamGuIdeal.Frame
public import proofs.«01_k».proof.Proof.Gen.AdamGuIdeal.Value
public import proofs.«01_k».proof.Proof.Gen.AdamGuRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Rows

namespace AdamGu

open Cert.AdamGuIdeal Cert.AdamGuIdeal.Gen

variable (m : (ℓ : Loc nD τ sig) → Buf (Elt Ideal) ℓ)

/-- The reference's first moment. -/
abbrev first (M : FVec Ideal S8192x1408 .f32) (G : FVec Ideal S8192x1408 .f32) : FVec Ideal S8192x1408 .f32 :=
  addf (mulf (broadcastInDim Cert.AdamGuRefIdeal.S8192x1408 ![] Cert.AdamGuRefIdeal.Gen.bcast_S_S8192x1408 (constant Cert.AdamGuRefIdeal.S_ .f32 0x3F666666#32)) M) (mulf (broadcastInDim Cert.AdamGuRefIdeal.S8192x1408 ![] Cert.AdamGuRefIdeal.Gen.bcast_S_S8192x1408 (constant Cert.AdamGuRefIdeal.S_ .f32 0x3DCCCCCD#32)) G)

/-- The reference's second moment. -/
abbrev second (V : FVec Ideal S8192x1408 .f32) (G : FVec Ideal S8192x1408 .f32) : FVec Ideal S8192x1408 .f32 :=
  addf (mulf (broadcastInDim Cert.AdamGuRefIdeal.S8192x1408 ![] Cert.AdamGuRefIdeal.Gen.bcast_S_S8192x1408 (constant Cert.AdamGuRefIdeal.S_ .f32 0x3F7FBE77#32)) V) (mulf (broadcastInDim Cert.AdamGuRefIdeal.S8192x1408 ![] Cert.AdamGuRefIdeal.Gen.bcast_S_S8192x1408 (constant Cert.AdamGuRefIdeal.S_ .f32 0x3A83126F#32)) (mulf G G))

/-- Where the blocks of the operands and of the results lie at point `t`. -/
theorem place : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- What point `t` stores at `y` is the value at the element of the result under `y`. -/
theorem stored_first (c : Dev nD) (t : Fin cfg0.N) (y) : k0_pay1 (iblk m c 3 t) (iblk m c 1 t) y
    = first (m ((c : Thread nD τ).loc main_arg1)) (m ((c : Thread nD τ).loc main_arg3)) (((cfg0.win 5).blk t).view.emb y) := by
  pointwise [k0_pay1, first]
  blk_point [iblk, V, place t]

/-- The result after the run is the value. -/
theorem final_first (c : Dev nD) : (dats m 0 c).arrAt 5 (cfgs 0).N = first (m ((c : Thread nD τ).loc main_arg1)) (m ((c : Thread nD τ).loc main_arg3)) := by
  refine (dats m 0 c).arrAt_eq_of_covers 5 _ (by decide +kernel) fun t _ y => ?_
  blk_simp
  rw [after0_5]; frame_out
  exact stored_first m c t y

/-- What point `t` stores at `y` is the value at the element of the result under `y`. -/
theorem stored_second (c : Dev nD) (t : Fin cfg0.N) (y) : k0_pay2 (iblk m c 3 t) (iblk m c 2 t) y
    = second (m ((c : Thread nD τ).loc main_arg2)) (m ((c : Thread nD τ).loc main_arg3)) (((cfg0.win 6).blk t).view.emb y) := by
  pointwise [k0_pay1, k0_pay2, second]
  blk_point [iblk, V, place t]

/-- The result after the run is the value. -/
theorem final_second (c : Dev nD) : (dats m 0 c).arrAt 6 (cfgs 0).N = second (m ((c : Thread nD τ).loc main_arg2)) (m ((c : Thread nD τ).loc main_arg3)) := by
  refine (dats m 0 c).arrAt_eq_of_covers 6 _ (by decide +kernel) fun t _ y => ?_
  blk_simp
  rw [after0_6]; frame_out
  exact stored_second m c t y

/-- Kernel and reference end with the same arrays. -/
theorem agree : Cert.algebraic_AdamGuIdeal_AdamGuRefIdeal := fun m g m' g' _ same =>
  ⟨fun c => first (m ((c.tc : Thread nD τ).loc main_arg1)) (m ((c.tc : Thread nD τ).loc main_arg3)),
    fun c => second (m ((c.tc : Thread nD τ).loc main_arg2)) (m ((c.tc : Thread nD τ).loc main_arg3)),
    (θ_run _ _ _).mono (fun _ h c => ⟨(h c).2.1.trans (final_first m c), (h c).2.2.1.trans (final_second m c), (h c).2.2.2⟩) (Cert.AdamGuIdeal.Value.run_blocks m g),
    (θ_run _ _ _).mono (fun _ h c => ⟨(h c).1.trans (by rw [(same c).2.1, (same c).2.2.2]), (h c).2.1.trans (by rw [(same c).2.2.1, (same c).2.2.2]), (h c).2.2⟩) (Cert.AdamGuRefIdeal.Value.run m' g')⟩

end AdamGu

end Cert.Rows

end
-- ==== Proof.lean ====
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.GuDx
public import proofs.«01_k».proof.Proof.Gen.GuDx.Skeleton
public import proofs.«01_k».proof.Proof.Gen.GuDx.Launch
public import proofs.«01_k».proof.Proof.Gen.GuDx.Points
public import proofs.«01_k».proof.Proof.Gen.GuDx.Frame
public import proofs.«01_k».proof.Proof.Gen.GuDxIdeal
public import proofs.«01_k».proof.Proof.Gen.GuDxIdeal.Skeleton
public import proofs.«01_k».proof.Proof.Gen.GuDxIdeal.Launch
public import proofs.«01_k».proof.Proof.Gen.GuDxIdeal.Points
public import proofs.«01_k».proof.Proof.Gen.GuDxIdeal.Frame
public import proofs.«01_k».proof.Proof.Gen.GuDxRefIdeal
public import proofs.«01_k».proof.Proof.Gen.GuDw
public import proofs.«01_k».proof.Proof.Gen.GuDw.Skeleton
public import proofs.«01_k».proof.Proof.Gen.GuDw.Launch
public import proofs.«01_k».proof.Proof.Gen.GuDw.Points
public import proofs.«01_k».proof.Proof.Gen.GuDw.Frame
public import proofs.«01_k».proof.Proof.Gen.GuDwIdeal
public import proofs.«01_k».proof.Proof.Gen.GuDwIdeal.Skeleton
public import proofs.«01_k».proof.Proof.Gen.GuDwIdeal.Launch
public import proofs.«01_k».proof.Proof.Gen.GuDwIdeal.Points
public import proofs.«01_k».proof.Proof.Gen.GuDwIdeal.Frame
public import proofs.«01_k».proof.Proof.Gen.GuDwRefIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.GuFwd
public import proofs.«01_k».proof.Proof.Gen.GuFwd.Skeleton
public import proofs.«01_k».proof.Proof.Gen.GuFwd.Launch
public import proofs.«01_k».proof.Proof.Gen.GuFwd.Points
public import proofs.«01_k».proof.Proof.Gen.GuFwd.Frame
public import proofs.«01_k».proof.Proof.Gen.GuFwdIdeal
public import proofs.«01_k».proof.Proof.Gen.GuFwdIdeal.Skeleton
public import proofs.«01_k».proof.Proof.Gen.GuFwdIdeal.Launch
public import proofs.«01_k».proof.Proof.Gen.GuFwdIdeal.Points
public import proofs.«01_k».proof.Proof.Gen.GuFwdIdeal.Frame
public import proofs.«01_k».proof.Proof.Gen.GuFwdRefIdeal
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.GuDxIdeal.Value
public import proofs.«01_k».proof.Proof.Gen.GuDwIdeal.Value
public import proofs.«01_k».proof.Proof.Gen.DownDxIdeal.Value
public import proofs.«01_k».proof.Proof.Gen.DownDwIdeal.Value
public import proofs.«01_k».proof.Proof.Gen.GuFwdIdeal.Value
public import proofs.«01_k».proof.Proof.Gen.DownFwdIdeal.Value
public import proofs.«01_k».proof.Proof.Gen.SsdRefIdeal.Run
public import proofs.«01_k».proof.Proof.Gen.GuDxRefIdeal.Run
public import proofs.«01_k».proof.Proof.Gen.GuDwRefIdeal.Run
public import proofs.«01_k».proof.Proof.Gen.DownDxRefIdeal.Run
public import proofs.«01_k».proof.Proof.Gen.DownDwRefIdeal.Run
public import proofs.«01_k».proof.Proof.Gen.GuFwdRefIdeal.Run
public import proofs.«01_k».proof.Proof.Gen.DownFwdRefIdeal.Run
public import proofs.«01_k».proof.Proof.Gen.SsdFwd
public import proofs.«01_k».proof.Proof.Gen.SsdFwd.Skeleton
public import proofs.«01_k».proof.Proof.Gen.SsdFwd.Launch
public import proofs.«01_k».proof.Proof.Gen.SsdFwd.Points
public import proofs.«01_k».proof.Proof.Gen.SsdFwd.Frame
public import proofs.«01_k».proof.Proof.Gen.SsdFwdIdeal
public import proofs.«01_k».proof.Proof.Gen.SsdFwdIdeal.Skeleton
public import proofs.«01_k».proof.Proof.Gen.SsdFwdIdeal.Launch
public import proofs.«01_k».proof.Proof.Gen.SsdFwdIdeal.Points
public import proofs.«01_k».proof.Proof.Gen.SsdFwdIdeal.Frame
public import proofs.«01_k».proof.Proof.Gen.SsdFwdRefIdeal
public import proofs.«01_k».proof.Proof.Gen.SsdFwdRefIdeal.Run
public import proofs.«01_k».proof.Proof.Gen.SsdZDx
public import proofs.«01_k».proof.Proof.Gen.SsdZDx.Skeleton
public import proofs.«01_k».proof.Proof.Gen.SsdZDx.Launch
public import proofs.«01_k».proof.Proof.Gen.SsdZDx.Points
public import proofs.«01_k».proof.Proof.Gen.SsdZDx.Frame
public import proofs.«01_k».proof.Proof.Gen.SsdZDxIdeal
public import proofs.«01_k».proof.Proof.Gen.SsdZDxIdeal.Skeleton
public import proofs.«01_k».proof.Proof.Gen.SsdZDxIdeal.Launch
public import proofs.«01_k».proof.Proof.Gen.SsdZDxIdeal.Points
public import proofs.«01_k».proof.Proof.Gen.SsdZDxIdeal.Frame
public import proofs.«01_k».proof.Proof.Gen.SsdZDxRefIdeal
public import proofs.«01_k».proof.Proof.Gen.SsdZDxRefIdeal.Run
public import proofs.«01_k».proof.Proof.Gen.SsdZDw
public import proofs.«01_k».proof.Proof.Gen.SsdZDw.Skeleton
public import proofs.«01_k».proof.Proof.Gen.SsdZDw.Launch
public import proofs.«01_k».proof.Proof.Gen.SsdZDw.Points
public import proofs.«01_k».proof.Proof.Gen.SsdZDw.Frame
public import proofs.«01_k».proof.Proof.Gen.SsdZDwIdeal
public import proofs.«01_k».proof.Proof.Gen.SsdZDwIdeal.Skeleton
public import proofs.«01_k».proof.Proof.Gen.SsdZDwIdeal.Launch
public import proofs.«01_k».proof.Proof.Gen.SsdZDwIdeal.Points
public import proofs.«01_k».proof.Proof.Gen.SsdZDwIdeal.Frame
public import proofs.«01_k».proof.Proof.Gen.SsdZDwRefIdeal
public import proofs.«01_k».proof.Proof.Gen.SsdZDwRefIdeal.Run
public import proofs.«01_k».proof.Proof.Gen.SsdZFwd
public import proofs.«01_k».proof.Proof.Gen.SsdZFwd.Skeleton
public import proofs.«01_k».proof.Proof.Gen.SsdZFwd.Launch
public import proofs.«01_k».proof.Proof.Gen.SsdZFwd.Points
public import proofs.«01_k».proof.Proof.Gen.SsdZFwd.Frame
public import proofs.«01_k».proof.Proof.Gen.SsdZFwdIdeal
public import proofs.«01_k».proof.Proof.Gen.SsdZFwdIdeal.Skeleton
public import proofs.«01_k».proof.Proof.Gen.SsdZFwdIdeal.Launch
public import proofs.«01_k».proof.Proof.Gen.SsdZFwdIdeal.Points
public import proofs.«01_k».proof.Proof.Gen.SsdZFwdIdeal.Frame
public import proofs.«01_k».proof.Proof.Gen.SsdZFwdRefIdeal
public import proofs.«01_k».proof.Proof.Gen.SsdZFwdRefIdeal.Run
public import proofs.«01_k».proof.Proof.Gen.SsdXbcDx
public import proofs.«01_k».proof.Proof.Gen.SsdXbcDx.Skeleton
public import proofs.«01_k».proof.Proof.Gen.SsdXbcDx.Launch
public import proofs.«01_k».proof.Proof.Gen.SsdXbcDx.Points
public import proofs.«01_k».proof.Proof.Gen.SsdXbcDx.Frame
public import proofs.«01_k».proof.Proof.Gen.SsdXbcDxIdeal
public import proofs.«01_k».proof.Proof.Gen.SsdXbcDxIdeal.Skeleton
public import proofs.«01_k».proof.Proof.Gen.SsdXbcDxIdeal.Launch
public import proofs.«01_k».proof.Proof.Gen.SsdXbcDxIdeal.Points
public import proofs.«01_k».proof.Proof.Gen.SsdXbcDxIdeal.Frame
public import proofs.«01_k».proof.Proof.Gen.SsdXbcDxRefIdeal
public import proofs.«01_k».proof.Proof.Gen.SsdXbcDxRefIdeal.Run
public import proofs.«01_k».proof.Proof.Gen.SsdXbcDw
public import proofs.«01_k».proof.Proof.Gen.SsdXbcDw.Skeleton
public import proofs.«01_k».proof.Proof.Gen.SsdXbcDw.Launch
public import proofs.«01_k».proof.Proof.Gen.SsdXbcDw.Points
public import proofs.«01_k».proof.Proof.Gen.SsdXbcDw.Frame
public import proofs.«01_k».proof.Proof.Gen.SsdXbcDwIdeal
public import proofs.«01_k».proof.Proof.Gen.SsdXbcDwIdeal.Skeleton
public import proofs.«01_k».proof.Proof.Gen.SsdXbcDwIdeal.Launch
public import proofs.«01_k».proof.Proof.Gen.SsdXbcDwIdeal.Points
public import proofs.«01_k».proof.Proof.Gen.SsdXbcDwIdeal.Frame
public import proofs.«01_k».proof.Proof.Gen.SsdXbcDwRefIdeal
public import proofs.«01_k».proof.Proof.Gen.SsdXbcDwRefIdeal.Run
public import proofs.«01_k».proof.Proof.Gen.SsdXbcFwd
public import proofs.«01_k».proof.Proof.Gen.SsdXbcFwd.Skeleton
public import proofs.«01_k».proof.Proof.Gen.SsdXbcFwd.Launch
public import proofs.«01_k».proof.Proof.Gen.SsdXbcFwd.Points
public import proofs.«01_k».proof.Proof.Gen.SsdXbcFwd.Frame
public import proofs.«01_k».proof.Proof.Gen.SsdXbcFwdIdeal
public import proofs.«01_k».proof.Proof.Gen.SsdXbcFwdIdeal.Skeleton
public import proofs.«01_k».proof.Proof.Gen.SsdXbcFwdIdeal.Launch
public import proofs.«01_k».proof.Proof.Gen.SsdXbcFwdIdeal.Points
public import proofs.«01_k».proof.Proof.Gen.SsdXbcFwdIdeal.Frame
public import proofs.«01_k».proof.Proof.Gen.SsdXbcFwdRefIdeal
public import proofs.«01_k».proof.Proof.Gen.SsdXbcFwdRefIdeal.Run
public import proofs.«01_k».proof.Proof.Gen.SsdDtDx
public import proofs.«01_k».proof.Proof.Gen.SsdDtDx.Skeleton
public import proofs.«01_k».proof.Proof.Gen.SsdDtDx.Launch
public import proofs.«01_k».proof.Proof.Gen.SsdDtDx.Points
public import proofs.«01_k».proof.Proof.Gen.SsdDtDx.Frame
public import proofs.«01_k».proof.Proof.Gen.SsdDtDxIdeal
public import proofs.«01_k».proof.Proof.Gen.SsdDtDxIdeal.Skeleton
public import proofs.«01_k».proof.Proof.Gen.SsdDtDxIdeal.Launch
public import proofs.«01_k».proof.Proof.Gen.SsdDtDxIdeal.Points
public import proofs.«01_k».proof.Proof.Gen.SsdDtDxIdeal.Frame
public import proofs.«01_k».proof.Proof.Gen.SsdDtDxRefIdeal
public import proofs.«01_k».proof.Proof.Gen.SsdDtDxRefIdeal.Run
public import proofs.«01_k».proof.Proof.Gen.SsdDtDw
public import proofs.«01_k».proof.Proof.Gen.SsdDtDw.Skeleton
public import proofs.«01_k».proof.Proof.Gen.SsdDtDw.Launch
public import proofs.«01_k».proof.Proof.Gen.SsdDtDw.Points
public import proofs.«01_k».proof.Proof.Gen.SsdDtDw.Frame
public import proofs.«01_k».proof.Proof.Gen.SsdDtDwIdeal
public import proofs.«01_k».proof.Proof.Gen.SsdDtDwIdeal.Skeleton
public import proofs.«01_k».proof.Proof.Gen.SsdDtDwIdeal.Launch
public import proofs.«01_k».proof.Proof.Gen.SsdDtDwIdeal.Points
public import proofs.«01_k».proof.Proof.Gen.SsdDtDwIdeal.Frame
public import proofs.«01_k».proof.Proof.Gen.SsdDtDwRefIdeal
public import proofs.«01_k».proof.Proof.Gen.SsdDtDwRefIdeal.Run
public import proofs.«01_k».proof.Proof.Gen.SsdDtFwd
public import proofs.«01_k».proof.Proof.Gen.SsdDtFwd.Skeleton
public import proofs.«01_k».proof.Proof.Gen.SsdDtFwd.Launch
public import proofs.«01_k».proof.Proof.Gen.SsdDtFwd.Points
public import proofs.«01_k».proof.Proof.Gen.SsdDtFwd.Frame
public import proofs.«01_k».proof.Proof.Gen.SsdDtFwdIdeal
public import proofs.«01_k».proof.Proof.Gen.SsdDtFwdIdeal.Skeleton
public import proofs.«01_k».proof.Proof.Gen.SsdDtFwdIdeal.Launch
public import proofs.«01_k».proof.Proof.Gen.SsdDtFwdIdeal.Points
public import proofs.«01_k».proof.Proof.Gen.SsdDtFwdIdeal.Frame
public import proofs.«01_k».proof.Proof.Gen.SsdDtFwdRefIdeal
public import proofs.«01_k».proof.Proof.Gen.SsdDtFwdRefIdeal.Run
public import proofs.«01_k».proof.Proof.Gen.SsdOutDx
public import proofs.«01_k».proof.Proof.Gen.SsdOutDx.Skeleton
public import proofs.«01_k».proof.Proof.Gen.SsdOutDx.Launch
public import proofs.«01_k».proof.Proof.Gen.SsdOutDx.Points
public import proofs.«01_k».proof.Proof.Gen.SsdOutDx.Frame
public import proofs.«01_k».proof.Proof.Gen.SsdOutDxIdeal
public import proofs.«01_k».proof.Proof.Gen.SsdOutDxIdeal.Skeleton
public import proofs.«01_k».proof.Proof.Gen.SsdOutDxIdeal.Launch
public import proofs.«01_k».proof.Proof.Gen.SsdOutDxIdeal.Points
public import proofs.«01_k».proof.Proof.Gen.SsdOutDxIdeal.Frame
public import proofs.«01_k».proof.Proof.Gen.SsdOutDxRefIdeal
public import proofs.«01_k».proof.Proof.Gen.SsdOutDxRefIdeal.Run
public import proofs.«01_k».proof.Proof.Gen.SsdOutDw
public import proofs.«01_k».proof.Proof.Gen.SsdOutDw.Skeleton
public import proofs.«01_k».proof.Proof.Gen.SsdOutDw.Launch
public import proofs.«01_k».proof.Proof.Gen.SsdOutDw.Points
public import proofs.«01_k».proof.Proof.Gen.SsdOutDw.Frame
public import proofs.«01_k».proof.Proof.Gen.SsdOutDwIdeal
public import proofs.«01_k».proof.Proof.Gen.SsdOutDwIdeal.Skeleton
public import proofs.«01_k».proof.Proof.Gen.SsdOutDwIdeal.Launch
public import proofs.«01_k».proof.Proof.Gen.SsdOutDwIdeal.Points
public import proofs.«01_k».proof.Proof.Gen.SsdOutDwIdeal.Frame
public import proofs.«01_k».proof.Proof.Gen.SsdOutDwRefIdeal
public import proofs.«01_k».proof.Proof.Gen.SsdOutDwRefIdeal.Run
public import proofs.«01_k».proof.Proof.Gen.SsdOutFwd
public import proofs.«01_k».proof.Proof.Gen.SsdOutFwd.Skeleton
public import proofs.«01_k».proof.Proof.Gen.SsdOutFwd.Launch
public import proofs.«01_k».proof.Proof.Gen.SsdOutFwd.Points
public import proofs.«01_k».proof.Proof.Gen.SsdOutFwd.Frame
public import proofs.«01_k».proof.Proof.Gen.SsdOutFwdIdeal
public import proofs.«01_k».proof.Proof.Gen.SsdOutFwdIdeal.Skeleton
public import proofs.«01_k».proof.Proof.Gen.SsdOutFwdIdeal.Launch
public import proofs.«01_k».proof.Proof.Gen.SsdOutFwdIdeal.Points
public import proofs.«01_k».proof.Proof.Gen.SsdOutFwdIdeal.Frame
public import proofs.«01_k».proof.Proof.Gen.SsdOutFwdRefIdeal
public import proofs.«01_k».proof.Proof.Gen.SsdOutFwdRefIdeal.Run
public import proofs.«01_k».proof.Proof.Gen.MlaADx
public import proofs.«01_k».proof.Proof.Gen.MlaADx.Skeleton
public import proofs.«01_k».proof.Proof.Gen.MlaADx.Launch
public import proofs.«01_k».proof.Proof.Gen.MlaADx.Points
public import proofs.«01_k».proof.Proof.Gen.MlaADx.Frame
public import proofs.«01_k».proof.Proof.Gen.MlaADxIdeal
public import proofs.«01_k».proof.Proof.Gen.MlaADxIdeal.Skeleton
public import proofs.«01_k».proof.Proof.Gen.MlaADxIdeal.Launch
public import proofs.«01_k».proof.Proof.Gen.MlaADxIdeal.Points
public import proofs.«01_k».proof.Proof.Gen.MlaADxIdeal.Frame
public import proofs.«01_k».proof.Proof.Gen.MlaADxRefIdeal
public import proofs.«01_k».proof.Proof.Gen.MlaADxRefIdeal.Run
public import proofs.«01_k».proof.Proof.Gen.MlaADw
public import proofs.«01_k».proof.Proof.Gen.MlaADw.Skeleton
public import proofs.«01_k».proof.Proof.Gen.MlaADw.Launch
public import proofs.«01_k».proof.Proof.Gen.MlaADw.Points
public import proofs.«01_k».proof.Proof.Gen.MlaADw.Frame
public import proofs.«01_k».proof.Proof.Gen.MlaADwIdeal
public import proofs.«01_k».proof.Proof.Gen.MlaADwIdeal.Skeleton
public import proofs.«01_k».proof.Proof.Gen.MlaADwIdeal.Launch
public import proofs.«01_k».proof.Proof.Gen.MlaADwIdeal.Points
public import proofs.«01_k».proof.Proof.Gen.MlaADwIdeal.Frame
public import proofs.«01_k».proof.Proof.Gen.MlaADwRefIdeal
public import proofs.«01_k».proof.Proof.Gen.MlaADwRefIdeal.Run
public import proofs.«01_k».proof.Proof.Gen.MlaAFwd
public import proofs.«01_k».proof.Proof.Gen.MlaAFwd.Skeleton
public import proofs.«01_k».proof.Proof.Gen.MlaAFwd.Launch
public import proofs.«01_k».proof.Proof.Gen.MlaAFwd.Points
public import proofs.«01_k».proof.Proof.Gen.MlaAFwd.Frame
public import proofs.«01_k».proof.Proof.Gen.MlaAFwdIdeal
public import proofs.«01_k».proof.Proof.Gen.MlaAFwdIdeal.Skeleton
public import proofs.«01_k».proof.Proof.Gen.MlaAFwdIdeal.Launch
public import proofs.«01_k».proof.Proof.Gen.MlaAFwdIdeal.Points
public import proofs.«01_k».proof.Proof.Gen.MlaAFwdIdeal.Frame
public import proofs.«01_k».proof.Proof.Gen.MlaAFwdRefIdeal
public import proofs.«01_k».proof.Proof.Gen.MlaAFwdRefIdeal.Run
public import proofs.«01_k».proof.Proof.Gen.MlaQbDx
public import proofs.«01_k».proof.Proof.Gen.MlaQbDx.Skeleton
public import proofs.«01_k».proof.Proof.Gen.MlaQbDx.Launch
public import proofs.«01_k».proof.Proof.Gen.MlaQbDx.Points
public import proofs.«01_k».proof.Proof.Gen.MlaQbDx.Frame
public import proofs.«01_k».proof.Proof.Gen.MlaQbDxIdeal
public import proofs.«01_k».proof.Proof.Gen.MlaQbDxIdeal.Skeleton
public import proofs.«01_k».proof.Proof.Gen.MlaQbDxIdeal.Launch
public import proofs.«01_k».proof.Proof.Gen.MlaQbDxIdeal.Points
public import proofs.«01_k».proof.Proof.Gen.MlaQbDxIdeal.Frame
public import proofs.«01_k».proof.Proof.Gen.MlaQbDxRefIdeal
public import proofs.«01_k».proof.Proof.Gen.MlaQbDxRefIdeal.Run
public import proofs.«01_k».proof.Proof.Gen.MlaQbDw
public import proofs.«01_k».proof.Proof.Gen.MlaQbDw.Skeleton
public import proofs.«01_k».proof.Proof.Gen.MlaQbDw.Launch
public import proofs.«01_k».proof.Proof.Gen.MlaQbDw.Points
public import proofs.«01_k».proof.Proof.Gen.MlaQbDw.Frame
public import proofs.«01_k».proof.Proof.Gen.MlaQbDwIdeal
public import proofs.«01_k».proof.Proof.Gen.MlaQbDwIdeal.Skeleton
public import proofs.«01_k».proof.Proof.Gen.MlaQbDwIdeal.Launch
public import proofs.«01_k».proof.Proof.Gen.MlaQbDwIdeal.Points
public import proofs.«01_k».proof.Proof.Gen.MlaQbDwIdeal.Frame
public import proofs.«01_k».proof.Proof.Gen.MlaQbDwRefIdeal
public import proofs.«01_k».proof.Proof.Gen.MlaQbDwRefIdeal.Run
public import proofs.«01_k».proof.Proof.Gen.MlaQbFwd
public import proofs.«01_k».proof.Proof.Gen.MlaQbFwd.Skeleton
public import proofs.«01_k».proof.Proof.Gen.MlaQbFwd.Launch
public import proofs.«01_k».proof.Proof.Gen.MlaQbFwd.Points
public import proofs.«01_k».proof.Proof.Gen.MlaQbFwd.Frame
public import proofs.«01_k».proof.Proof.Gen.MlaQbFwdIdeal
public import proofs.«01_k».proof.Proof.Gen.MlaQbFwdIdeal.Skeleton
public import proofs.«01_k».proof.Proof.Gen.MlaQbFwdIdeal.Launch
public import proofs.«01_k».proof.Proof.Gen.MlaQbFwdIdeal.Points
public import proofs.«01_k».proof.Proof.Gen.MlaQbFwdIdeal.Frame
public import proofs.«01_k».proof.Proof.Gen.MlaQbFwdRefIdeal
public import proofs.«01_k».proof.Proof.Gen.MlaQbFwdRefIdeal.Run
public import proofs.«01_k».proof.Proof.Gen.MlaKvbDx
public import proofs.«01_k».proof.Proof.Gen.MlaKvbDx.Skeleton
public import proofs.«01_k».proof.Proof.Gen.MlaKvbDx.Launch
public import proofs.«01_k».proof.Proof.Gen.MlaKvbDx.Points
public import proofs.«01_k».proof.Proof.Gen.MlaKvbDx.Frame
public import proofs.«01_k».proof.Proof.Gen.MlaKvbDxIdeal
public import proofs.«01_k».proof.Proof.Gen.MlaKvbDxIdeal.Skeleton
public import proofs.«01_k».proof.Proof.Gen.MlaKvbDxIdeal.Launch
public import proofs.«01_k».proof.Proof.Gen.MlaKvbDxIdeal.Points
public import proofs.«01_k».proof.Proof.Gen.MlaKvbDxIdeal.Frame
public import proofs.«01_k».proof.Proof.Gen.MlaKvbDxRefIdeal
public import proofs.«01_k».proof.Proof.Gen.MlaKvbDxRefIdeal.Run
public import proofs.«01_k».proof.Proof.Gen.MlaKvbDw
public import proofs.«01_k».proof.Proof.Gen.MlaKvbDw.Skeleton
public import proofs.«01_k».proof.Proof.Gen.MlaKvbDw.Launch
public import proofs.«01_k».proof.Proof.Gen.MlaKvbDw.Points
public import proofs.«01_k».proof.Proof.Gen.MlaKvbDw.Frame
public import proofs.«01_k».proof.Proof.Gen.MlaKvbDwIdeal
public import proofs.«01_k».proof.Proof.Gen.MlaKvbDwIdeal.Skeleton
public import proofs.«01_k».proof.Proof.Gen.MlaKvbDwIdeal.Launch
public import proofs.«01_k».proof.Proof.Gen.MlaKvbDwIdeal.Points
public import proofs.«01_k».proof.Proof.Gen.MlaKvbDwIdeal.Frame
public import proofs.«01_k».proof.Proof.Gen.MlaKvbDwRefIdeal
public import proofs.«01_k».proof.Proof.Gen.MlaKvbDwRefIdeal.Run
public import proofs.«01_k».proof.Proof.Gen.MlaKvbFwd
public import proofs.«01_k».proof.Proof.Gen.MlaKvbFwd.Skeleton
public import proofs.«01_k».proof.Proof.Gen.MlaKvbFwd.Launch
public import proofs.«01_k».proof.Proof.Gen.MlaKvbFwd.Points
public import proofs.«01_k».proof.Proof.Gen.MlaKvbFwd.Frame
public import proofs.«01_k».proof.Proof.Gen.MlaKvbFwdIdeal
public import proofs.«01_k».proof.Proof.Gen.MlaKvbFwdIdeal.Skeleton
public import proofs.«01_k».proof.Proof.Gen.MlaKvbFwdIdeal.Launch
public import proofs.«01_k».proof.Proof.Gen.MlaKvbFwdIdeal.Points
public import proofs.«01_k».proof.Proof.Gen.MlaKvbFwdIdeal.Frame
public import proofs.«01_k».proof.Proof.Gen.MlaKvbFwdRefIdeal
public import proofs.«01_k».proof.Proof.Gen.MlaKvbFwdRefIdeal.Run
public import proofs.«01_k».proof.Proof.Gen.MlaODx
public import proofs.«01_k».proof.Proof.Gen.MlaODx.Skeleton
public import proofs.«01_k».proof.Proof.Gen.MlaODx.Launch
public import proofs.«01_k».proof.Proof.Gen.MlaODx.Points
public import proofs.«01_k».proof.Proof.Gen.MlaODx.Frame
public import proofs.«01_k».proof.Proof.Gen.MlaODxIdeal
public import proofs.«01_k».proof.Proof.Gen.MlaODxIdeal.Skeleton
public import proofs.«01_k».proof.Proof.Gen.MlaODxIdeal.Launch
public import proofs.«01_k».proof.Proof.Gen.MlaODxIdeal.Points
public import proofs.«01_k».proof.Proof.Gen.MlaODxIdeal.Frame
public import proofs.«01_k».proof.Proof.Gen.MlaODxRefIdeal
public import proofs.«01_k».proof.Proof.Gen.MlaODxRefIdeal.Run
public import proofs.«01_k».proof.Proof.Gen.MlaODw
public import proofs.«01_k».proof.Proof.Gen.MlaODw.Skeleton
public import proofs.«01_k».proof.Proof.Gen.MlaODw.Launch
public import proofs.«01_k».proof.Proof.Gen.MlaODw.Points
public import proofs.«01_k».proof.Proof.Gen.MlaODw.Frame
public import proofs.«01_k».proof.Proof.Gen.MlaODwIdeal
public import proofs.«01_k».proof.Proof.Gen.MlaODwIdeal.Skeleton
public import proofs.«01_k».proof.Proof.Gen.MlaODwIdeal.Launch
public import proofs.«01_k».proof.Proof.Gen.MlaODwIdeal.Points
public import proofs.«01_k».proof.Proof.Gen.MlaODwIdeal.Frame
public import proofs.«01_k».proof.Proof.Gen.MlaODwRefIdeal
public import proofs.«01_k».proof.Proof.Gen.MlaODwRefIdeal.Run
public import proofs.«01_k».proof.Proof.Gen.MlaOFwd
public import proofs.«01_k».proof.Proof.Gen.MlaOFwd.Skeleton
public import proofs.«01_k».proof.Proof.Gen.MlaOFwd.Launch
public import proofs.«01_k».proof.Proof.Gen.MlaOFwd.Points
public import proofs.«01_k».proof.Proof.Gen.MlaOFwd.Frame
public import proofs.«01_k».proof.Proof.Gen.MlaOFwdIdeal
public import proofs.«01_k».proof.Proof.Gen.MlaOFwdIdeal.Skeleton
public import proofs.«01_k».proof.Proof.Gen.MlaOFwdIdeal.Launch
public import proofs.«01_k».proof.Proof.Gen.MlaOFwdIdeal.Points
public import proofs.«01_k».proof.Proof.Gen.MlaOFwdIdeal.Frame
public import proofs.«01_k».proof.Proof.Gen.MlaOFwdRefIdeal
public import proofs.«01_k».proof.Proof.Gen.MlaOFwdRefIdeal.Run
public import proofs.«01_k».proof.Proof.Gen.SsdZDxIdeal.Value
public import proofs.«01_k».proof.Proof.Gen.SsdZDwIdeal.Value
public import proofs.«01_k».proof.Proof.Gen.SsdZFwdIdeal.Value
public import proofs.«01_k».proof.Proof.Gen.SsdXbcDxIdeal.Value
public import proofs.«01_k».proof.Proof.Gen.SsdXbcDwIdeal.Value
public import proofs.«01_k».proof.Proof.Gen.SsdXbcFwdIdeal.Value
public import proofs.«01_k».proof.Proof.Gen.SsdDtDxIdeal.Value
public import proofs.«01_k».proof.Proof.Gen.SsdDtDwIdeal.Value
public import proofs.«01_k».proof.Proof.Gen.SsdDtFwdIdeal.Value
public import proofs.«01_k».proof.Proof.Gen.SsdOutDxIdeal.Value
public import proofs.«01_k».proof.Proof.Gen.SsdOutDwIdeal.Value
public import proofs.«01_k».proof.Proof.Gen.SsdOutFwdIdeal.Value
public import proofs.«01_k».proof.Proof.Gen.MlaADxIdeal.Value
public import proofs.«01_k».proof.Proof.Gen.MlaADwIdeal.Value
public import proofs.«01_k».proof.Proof.Gen.MlaAFwdIdeal.Value
public import proofs.«01_k».proof.Proof.Gen.MlaQbDxIdeal.Value
public import proofs.«01_k».proof.Proof.Gen.MlaQbDwIdeal.Value
public import proofs.«01_k».proof.Proof.Gen.MlaQbFwdIdeal.Value
public import proofs.«01_k».proof.Proof.Gen.MlaKvbDxIdeal.Value
public import proofs.«01_k».proof.Proof.Gen.MlaKvbDwIdeal.Value
public import proofs.«01_k».proof.Proof.Gen.MlaKvbFwdIdeal.Value
public import proofs.«01_k».proof.Proof.Gen.MlaODxIdeal.Value
public import proofs.«01_k».proof.Proof.Gen.MlaODwIdeal.Value
public import proofs.«01_k».proof.Proof.Gen.MlaOFwdIdeal.Value
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdIdeal.Value
public import proofs.«01_k».proof.Proof.Gen.SwigluBwdRefIdeal
public import proofs.«01_k».proof.Proof.Gen.SwigluBwdRefIdeal.Run
public import proofs.«01_k».proof.Proof.Gen.SwigluFwd
public import proofs.«01_k».proof.Proof.Gen.SwigluFwd.Skeleton
public import proofs.«01_k».proof.Proof.Gen.SwigluFwd.Launch
public import proofs.«01_k».proof.Proof.Gen.SwigluFwd.Points
public import proofs.«01_k».proof.Proof.Gen.SwigluFwd.Frame
public import proofs.«01_k».proof.Proof.Gen.SwigluFwdIdeal
public import proofs.«01_k».proof.Proof.Gen.SwigluFwdIdeal.Skeleton
public import proofs.«01_k».proof.Proof.Gen.SwigluFwdIdeal.Launch
public import proofs.«01_k».proof.Proof.Gen.SwigluFwdIdeal.Points
public import proofs.«01_k».proof.Proof.Gen.SwigluFwdIdeal.Frame
public import proofs.«01_k».proof.Proof.Gen.SwigluFwdIdeal.Value
public import proofs.«01_k».proof.Proof.Gen.SwigluFwdRefIdeal
public import proofs.«01_k».proof.Proof.Gen.SwigluFwdRefIdeal.Run
public import proofs.«01_k».proof.Proof.Gen.AdaDw
public import proofs.«01_k».proof.Proof.Gen.AdaDw.Skeleton
public import proofs.«01_k».proof.Proof.Gen.AdaDw.Launch
public import proofs.«01_k».proof.Proof.Gen.AdaDw.Points
public import proofs.«01_k».proof.Proof.Gen.AdaDw.Frame
public import proofs.«01_k».proof.Proof.Gen.AdaDwIdeal
public import proofs.«01_k».proof.Proof.Gen.AdaDwIdeal.Skeleton
public import proofs.«01_k».proof.Proof.Gen.AdaDwIdeal.Launch
public import proofs.«01_k».proof.Proof.Gen.AdaDwIdeal.Points
public import proofs.«01_k».proof.Proof.Gen.AdaDwIdeal.Frame
public import proofs.«01_k».proof.Proof.Gen.AdaDwIdeal.Value
public import proofs.«01_k».proof.Proof.Gen.AdaDwRefIdeal
public import proofs.«01_k».proof.Proof.Gen.AdaDwRefIdeal.Run
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.ResidBwd
public import proofs.«01_k».proof.Proof.Gen.ResidBwd.Skeleton
public import proofs.«01_k».proof.Proof.Gen.ResidBwd.Launch
public import proofs.«01_k».proof.Proof.Gen.ResidBwd.Points
public import proofs.«01_k».proof.Proof.Gen.ResidBwd.Frame
public import proofs.«01_k».proof.Proof.Gen.ResidBwdIdeal
public import proofs.«01_k».proof.Proof.Gen.ResidBwdIdeal.Skeleton
public import proofs.«01_k».proof.Proof.Gen.ResidBwdIdeal.Launch
public import proofs.«01_k».proof.Proof.Gen.ResidBwdIdeal.Points
public import proofs.«01_k».proof.Proof.Gen.ResidBwdIdeal.Frame
public import proofs.«01_k».proof.Proof.Gen.ResidBwdIdeal.Value
public import proofs.«01_k».proof.Proof.Gen.ResidBwdRefIdeal
public import proofs.«01_k».proof.Proof.Gen.ResidBwdRefIdeal.Run
public import proofs.«01_k».proof.Proof.Gen.ResidFwd
public import proofs.«01_k».proof.Proof.Gen.ResidFwd.Skeleton
public import proofs.«01_k».proof.Proof.Gen.ResidFwd.Launch
public import proofs.«01_k».proof.Proof.Gen.ResidFwd.Points
public import proofs.«01_k».proof.Proof.Gen.ResidFwd.Frame
public import proofs.«01_k».proof.Proof.Gen.ResidFwdIdeal
public import proofs.«01_k».proof.Proof.Gen.ResidFwdIdeal.Skeleton
public import proofs.«01_k».proof.Proof.Gen.ResidFwdIdeal.Launch
public import proofs.«01_k».proof.Proof.Gen.ResidFwdIdeal.Points
public import proofs.«01_k».proof.Proof.Gen.ResidFwdIdeal.Frame
public import proofs.«01_k».proof.Proof.Gen.ResidFwdIdeal.Value
public import proofs.«01_k».proof.Proof.Gen.ResidFwdRefIdeal
public import proofs.«01_k».proof.Proof.Gen.ResidFwdRefIdeal.Run
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.AdamGu
public import proofs.«01_k».proof.Proof.Gen.AdamGu.Skeleton
public import proofs.«01_k».proof.Proof.Gen.AdamGu.Launch
public import proofs.«01_k».proof.Proof.Gen.AdamGu.Points
public import proofs.«01_k».proof.Proof.Gen.AdamGu.Frame
public import proofs.«01_k».proof.Proof.Gen.AdamGuIdeal
public import proofs.«01_k».proof.Proof.Gen.AdamGuIdeal.Skeleton
public import proofs.«01_k».proof.Proof.Gen.AdamGuIdeal.Launch
public import proofs.«01_k».proof.Proof.Gen.AdamGuIdeal.Points
public import proofs.«01_k».proof.Proof.Gen.AdamGuIdeal.Frame
public import proofs.«01_k».proof.Proof.Gen.AdamGuIdeal.Value
public import proofs.«01_k».proof.Proof.Gen.AdamGuRefIdeal
public import proofs.«01_k».proof.Proof.Gen.AdamGuRefIdeal.Run
public import proofs.«01_k».proof.Proof.Products
public import proofs.«01_k».proof.Proof.References
public import proofs.«01_k».proof.Proof.Scan
public import proofs.«01_k».proof.Proof.ScanFwd
public import proofs.«01_k».proof.Proof.Conv.Bwd
public import proofs.«01_k».proof.Proof.Conv.Fwd
public import proofs.«01_k».proof.Proof.Projections.SsdZ
public import proofs.«01_k».proof.Proof.Projections.SsdXbc
public import proofs.«01_k».proof.Proof.Projections.SsdDt
public import proofs.«01_k».proof.Proof.Projections.SsdOut
public import proofs.«01_k».proof.Proof.Projections.MlaA
public import proofs.«01_k».proof.Proof.Projections.MlaQb
public import proofs.«01_k».proof.Proof.Projections.MlaKvb
public import proofs.«01_k».proof.Proof.Projections.MlaO
public import proofs.«01_k».proof.Proof.Rows.Ada
public import proofs.«01_k».proof.Proof.Rows.Swiglu
public import proofs.«01_k».proof.Proof.Rows.ResidBwd
public import proofs.«01_k».proof.Proof.Rows.ResidFwd
public import proofs.«01_k».proof.Proof.Rows.LossHead
public import proofs.«01_k».proof.Proof.Rows.AdamGu
public import Idealize.ShloMosaic.Adequacy
public import Idealize.ShloMosaic.Init

@[expose] public section

noncomputable section

namespace Cert.Proof

open Idealize.ShloMosaic Idealize.SL.Sem Cert.Ssd

theorem claim : Cert.Claim := ⟨Cert.Ssd.Gen.facts, Cert.SsdIdeal.Gen.facts, Cert.SsdRefIdeal.Gen.facts, Cert.SsdFwd.Gen.facts, Cert.SsdFwdIdeal.Gen.facts, Cert.SsdFwdRefIdeal.Gen.facts, Cert.GuDx.Gen.facts, Cert.GuDxIdeal.Gen.facts, Cert.GuDxRefIdeal.Gen.facts, Cert.GuDw.Gen.facts, Cert.GuDwIdeal.Gen.facts, Cert.GuDwRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.GuFwd.Gen.facts, Cert.GuFwdIdeal.Gen.facts, Cert.GuFwdRefIdeal.Gen.facts, Cert.DownFwd.Gen.facts, Cert.DownFwdIdeal.Gen.facts, Cert.DownFwdRefIdeal.Gen.facts, Cert.SsdZDx.Gen.facts, Cert.SsdZDxIdeal.Gen.facts, Cert.SsdZDxRefIdeal.Gen.facts, Cert.SsdZDw.Gen.facts, Cert.SsdZDwIdeal.Gen.facts, Cert.SsdZDwRefIdeal.Gen.facts, Cert.SsdZFwd.Gen.facts, Cert.SsdZFwdIdeal.Gen.facts, Cert.SsdZFwdRefIdeal.Gen.facts, Cert.SsdXbcDx.Gen.facts, Cert.SsdXbcDxIdeal.Gen.facts, Cert.SsdXbcDxRefIdeal.Gen.facts, Cert.SsdXbcDw.Gen.facts, Cert.SsdXbcDwIdeal.Gen.facts, Cert.SsdXbcDwRefIdeal.Gen.facts, Cert.SsdXbcFwd.Gen.facts, Cert.SsdXbcFwdIdeal.Gen.facts, Cert.SsdXbcFwdRefIdeal.Gen.facts, Cert.SsdDtDx.Gen.facts, Cert.SsdDtDxIdeal.Gen.facts, Cert.SsdDtDxRefIdeal.Gen.facts, Cert.SsdDtDw.Gen.facts, Cert.SsdDtDwIdeal.Gen.facts, Cert.SsdDtDwRefIdeal.Gen.facts, Cert.SsdDtFwd.Gen.facts, Cert.SsdDtFwdIdeal.Gen.facts, Cert.SsdDtFwdRefIdeal.Gen.facts, Cert.SsdOutDx.Gen.facts, Cert.SsdOutDxIdeal.Gen.facts, Cert.SsdOutDxRefIdeal.Gen.facts, Cert.SsdOutDw.Gen.facts, Cert.SsdOutDwIdeal.Gen.facts, Cert.SsdOutDwRefIdeal.Gen.facts, Cert.SsdOutFwd.Gen.facts, Cert.SsdOutFwdIdeal.Gen.facts, Cert.SsdOutFwdRefIdeal.Gen.facts, Cert.MlaADx.Gen.facts, Cert.MlaADxIdeal.Gen.facts, Cert.MlaADxRefIdeal.Gen.facts, Cert.MlaADw.Gen.facts, Cert.MlaADwIdeal.Gen.facts, Cert.MlaADwRefIdeal.Gen.facts, Cert.MlaAFwd.Gen.facts, Cert.MlaAFwdIdeal.Gen.facts, Cert.MlaAFwdRefIdeal.Gen.facts, Cert.MlaQbDx.Gen.facts, Cert.MlaQbDxIdeal.Gen.facts, Cert.MlaQbDxRefIdeal.Gen.facts, Cert.MlaQbDw.Gen.facts, Cert.MlaQbDwIdeal.Gen.facts, Cert.MlaQbDwRefIdeal.Gen.facts, Cert.MlaQbFwd.Gen.facts, Cert.MlaQbFwdIdeal.Gen.facts, Cert.MlaQbFwdRefIdeal.Gen.facts, Cert.MlaKvbDx.Gen.facts, Cert.MlaKvbDxIdeal.Gen.facts, Cert.MlaKvbDxRefIdeal.Gen.facts, Cert.MlaKvbDw.Gen.facts, Cert.MlaKvbDwIdeal.Gen.facts, Cert.MlaKvbDwRefIdeal.Gen.facts, Cert.MlaKvbFwd.Gen.facts, Cert.MlaKvbFwdIdeal.Gen.facts, Cert.MlaKvbFwdRefIdeal.Gen.facts, Cert.MlaODx.Gen.facts, Cert.MlaODxIdeal.Gen.facts, Cert.MlaODxRefIdeal.Gen.facts, Cert.MlaODw.Gen.facts, Cert.MlaODwIdeal.Gen.facts, Cert.MlaODwRefIdeal.Gen.facts, Cert.MlaOFwd.Gen.facts, Cert.MlaOFwdIdeal.Gen.facts, Cert.MlaOFwdRefIdeal.Gen.facts, Cert.ConvBwd.Gen.facts, Cert.ConvBwdIdeal.Gen.facts, Cert.ConvBwdRefIdeal.Gen.facts, Cert.ConvFwd.Gen.facts, Cert.ConvFwdIdeal.Gen.facts, Cert.ConvFwdRefIdeal.Gen.facts, Cert.SwigluBwd.Gen.facts, Cert.SwigluBwdIdeal.Gen.facts, Cert.SwigluBwdRefIdeal.Gen.facts, Cert.SwigluFwd.Gen.facts, Cert.SwigluFwdIdeal.Gen.facts, Cert.SwigluFwdRefIdeal.Gen.facts, Cert.AdaDw.Gen.facts, Cert.AdaDwIdeal.Gen.facts, Cert.AdaDwRefIdeal.Gen.facts, Cert.AdaFwd.Gen.facts, Cert.AdaFwdIdeal.Gen.facts, Cert.AdaFwdRefIdeal.Gen.facts, Cert.ResidBwd.Gen.facts, Cert.ResidBwdIdeal.Gen.facts, Cert.ResidBwdRefIdeal.Gen.facts, Cert.ResidFwd.Gen.facts, Cert.ResidFwdIdeal.Gen.facts, Cert.ResidFwdRefIdeal.Gen.facts, Cert.LossHead.Gen.facts, Cert.LossHeadIdeal.Gen.facts, Cert.LossHeadRefIdeal.Gen.facts, Cert.AdamGu.Gen.facts, Cert.AdamGuIdeal.Gen.facts, Cert.AdamGuRefIdeal.Gen.facts, Cert.Scan.finiteFacts, Cert.ScanFwd.finiteFacts, Cert.Conv.Bwd.finiteFacts,
  fun m ρ _ => Cert.Ssd.Gen.frame m ρ,
  fun m ρ _ => Cert.SsdIdeal.Gen.frame m ρ,
  fun m ρ _ => Cert.SsdIdeal.Gen.frame m ρ,
  Cert.References.ssd,
  fun m g _ => Cert.References.ssd m g trivial,
  fun m ρ _ => Cert.SsdFwd.Gen.frame m ρ,
  fun m ρ _ => Cert.SsdFwdIdeal.Gen.frame m ρ,
  fun m ρ _ => Cert.SsdFwdIdeal.Gen.frame m ρ,
  Cert.References.ssdFwd,
  fun m g _ => Cert.References.ssdFwd m g trivial,
  fun m ρ _ => Cert.GuDx.Gen.frame m ρ,
  fun m ρ _ => Cert.GuDxIdeal.Gen.frame m ρ,
  Cert.References.guDx,
  fun m ρ _ => Cert.GuDw.Gen.frame m ρ,
  fun m ρ _ => Cert.GuDwIdeal.Gen.frame m ρ,
  Cert.References.guDw,
  fun m ρ _ => Cert.DownDx.Gen.frame m ρ,
  fun m ρ _ => Cert.DownDxIdeal.Gen.frame m ρ,
  Cert.References.downDx,
  fun m ρ _ => Cert.DownDw.Gen.frame m ρ,
  fun m ρ _ => Cert.DownDwIdeal.Gen.frame m ρ,
  Cert.References.downDw,
  fun m ρ _ => Cert.GuFwd.Gen.frame m ρ,
  fun m ρ _ => Cert.GuFwdIdeal.Gen.frame m ρ,
  Cert.References.guFwd,
  fun m ρ _ => Cert.DownFwd.Gen.frame m ρ,
  fun m ρ _ => Cert.DownFwdIdeal.Gen.frame m ρ,
  Cert.References.downFwd,
  fun m ρ _ => Cert.SsdZDx.Gen.frame m ρ,
  fun m ρ _ => Cert.SsdZDxIdeal.Gen.frame m ρ,
  Cert.References.ssdZDx,
  fun m ρ _ => Cert.SsdZDw.Gen.frame m ρ,
  fun m ρ _ => Cert.SsdZDwIdeal.Gen.frame m ρ,
  Cert.References.ssdZDw,
  fun m ρ _ => Cert.SsdZFwd.Gen.frame m ρ,
  fun m ρ _ => Cert.SsdZFwdIdeal.Gen.frame m ρ,
  Cert.References.ssdZFwd,
  fun m ρ _ => Cert.SsdXbcDx.Gen.frame m ρ,
  fun m ρ _ => Cert.SsdXbcDxIdeal.Gen.frame m ρ,
  Cert.References.ssdXbcDx,
  fun m ρ _ => Cert.SsdXbcDw.Gen.frame m ρ,
  fun m ρ _ => Cert.SsdXbcDwIdeal.Gen.frame m ρ,
  Cert.References.ssdXbcDw,
  fun m ρ _ => Cert.SsdXbcFwd.Gen.frame m ρ,
  fun m ρ _ => Cert.SsdXbcFwdIdeal.Gen.frame m ρ,
  Cert.References.ssdXbcFwd,
  fun m ρ _ => Cert.SsdDtDx.Gen.frame m ρ,
  fun m ρ _ => Cert.SsdDtDxIdeal.Gen.frame m ρ,
  Cert.References.ssdDtDx,
  fun m ρ _ => Cert.SsdDtDw.Gen.frame m ρ,
  fun m ρ _ => Cert.SsdDtDwIdeal.Gen.frame m ρ,
  Cert.References.ssdDtDw,
  fun m ρ _ => Cert.SsdDtFwd.Gen.frame m ρ,
  fun m ρ _ => Cert.SsdDtFwdIdeal.Gen.frame m ρ,
  Cert.References.ssdDtFwd,
  fun m ρ _ => Cert.SsdOutDx.Gen.frame m ρ,
  fun m ρ _ => Cert.SsdOutDxIdeal.Gen.frame m ρ,
  Cert.References.ssdOutDx,
  fun m ρ _ => Cert.SsdOutDw.Gen.frame m ρ,
  fun m ρ _ => Cert.SsdOutDwIdeal.Gen.frame m ρ,
  Cert.References.ssdOutDw,
  fun m ρ _ => Cert.SsdOutFwd.Gen.frame m ρ,
  fun m ρ _ => Cert.SsdOutFwdIdeal.Gen.frame m ρ,
  Cert.References.ssdOutFwd,
  fun m ρ _ => Cert.MlaADx.Gen.frame m ρ,
  fun m ρ _ => Cert.MlaADxIdeal.Gen.frame m ρ,
  Cert.References.mlaADx,
  fun m ρ _ => Cert.MlaADw.Gen.frame m ρ,
  fun m ρ _ => Cert.MlaADwIdeal.Gen.frame m ρ,
  Cert.References.mlaADw,
  fun m ρ _ => Cert.MlaAFwd.Gen.frame m ρ,
  fun m ρ _ => Cert.MlaAFwdIdeal.Gen.frame m ρ,
  Cert.References.mlaAFwd,
  fun m ρ _ => Cert.MlaQbDx.Gen.frame m ρ,
  fun m ρ _ => Cert.MlaQbDxIdeal.Gen.frame m ρ,
  Cert.References.mlaQbDx,
  fun m ρ _ => Cert.MlaQbDw.Gen.frame m ρ,
  fun m ρ _ => Cert.MlaQbDwIdeal.Gen.frame m ρ,
  Cert.References.mlaQbDw,
  fun m ρ _ => Cert.MlaQbFwd.Gen.frame m ρ,
  fun m ρ _ => Cert.MlaQbFwdIdeal.Gen.frame m ρ,
  Cert.References.mlaQbFwd,
  fun m ρ _ => Cert.MlaKvbDx.Gen.frame m ρ,
  fun m ρ _ => Cert.MlaKvbDxIdeal.Gen.frame m ρ,
  Cert.References.mlaKvbDx,
  fun m ρ _ => Cert.MlaKvbDw.Gen.frame m ρ,
  fun m ρ _ => Cert.MlaKvbDwIdeal.Gen.frame m ρ,
  Cert.References.mlaKvbDw,
  fun m ρ _ => Cert.MlaKvbFwd.Gen.frame m ρ,
  fun m ρ _ => Cert.MlaKvbFwdIdeal.Gen.frame m ρ,
  Cert.References.mlaKvbFwd,
  fun m ρ _ => Cert.MlaODx.Gen.frame m ρ,
  fun m ρ _ => Cert.MlaODxIdeal.Gen.frame m ρ,
  Cert.References.mlaODx,
  fun m ρ _ => Cert.MlaODw.Gen.frame m ρ,
  fun m ρ _ => Cert.MlaODwIdeal.Gen.frame m ρ,
  Cert.References.mlaODw,
  fun m ρ _ => Cert.MlaOFwd.Gen.frame m ρ,
  fun m ρ _ => Cert.MlaOFwdIdeal.Gen.frame m ρ,
  Cert.References.mlaOFwd,
  fun m ρ _ => Cert.ConvBwd.Gen.frame m ρ,
  fun m ρ _ => Cert.ConvBwdIdeal.Gen.frame m ρ,
  fun m ρ _ => Cert.ConvBwdIdeal.Gen.frame m ρ,
  Cert.References.convBwd,
  fun m g _ => Cert.References.convBwd m g trivial,
  fun m ρ _ => Cert.ConvFwd.Gen.frame m ρ,
  fun m ρ _ => Cert.ConvFwdIdeal.Gen.frame m ρ,
  Cert.References.convFwd,
  fun m ρ _ => Cert.SwigluBwd.Gen.frame m ρ,
  fun m ρ _ => Cert.SwigluBwdIdeal.Gen.frame m ρ,
  Cert.References.swigluBwd,
  fun m ρ _ => Cert.SwigluFwd.Gen.frame m ρ,
  fun m ρ _ => Cert.SwigluFwdIdeal.Gen.frame m ρ,
  Cert.References.swigluFwd,
  fun m ρ _ => Cert.AdaDw.Gen.frame m ρ,
  fun m ρ _ => Cert.AdaDwIdeal.Gen.frame m ρ,
  Cert.References.adaDw,
  fun m ρ _ => Cert.AdaFwd.Gen.frame m ρ,
  fun m ρ _ => Cert.AdaFwdIdeal.Gen.frame m ρ,
  Cert.References.adaFwd,
  fun m ρ _ => Cert.ResidBwd.Gen.frame m ρ,
  fun m ρ _ => Cert.ResidBwdIdeal.Gen.frame m ρ,
  Cert.References.residBwd,
  fun m ρ _ => Cert.ResidFwd.Gen.frame m ρ,
  fun m ρ _ => Cert.ResidFwdIdeal.Gen.frame m ρ,
  Cert.References.residFwd,
  fun m ρ _ => Cert.LossHead.Gen.frame m ρ,
  fun m ρ _ => Cert.LossHeadIdeal.Gen.frame m ρ,
  Cert.References.lossHead,
  fun m ρ _ => Cert.AdamGu.Gen.frame m ρ,
  fun m ρ _ => Cert.AdamGuIdeal.Gen.frame m ρ,
  Cert.References.adamGu,
  trivial,
  Cert.Scan.algebraic,
  trivial,
  Cert.ScanFwd.algebraic,
  trivial,
  Cert.Products.guDx,
  trivial,
  Cert.Products.guDw,
  trivial,
  Cert.Products.downDx,
  trivial,
  Cert.Products.downDw,
  trivial,
  Cert.Products.guFwd,
  trivial,
  Cert.Products.downFwd,
  trivial,
  Cert.Projections.SsdZ.Dx.agree,
  trivial,
  Cert.Projections.SsdZ.Dw.agree,
  trivial,
  Cert.Projections.SsdZ.Fwd.agree,
  trivial,
  Cert.Projections.SsdXbc.Dx.agree,
  trivial,
  Cert.Projections.SsdXbc.Dw.agree,
  trivial,
  Cert.Projections.SsdXbc.Fwd.agree,
  trivial,
  Cert.Projections.SsdDt.Dx.agree,
  trivial,
  Cert.Projections.SsdDt.Dw.agree,
  trivial,
  Cert.Projections.SsdDt.Fwd.agree,
  trivial,
  Cert.Projections.SsdOut.Dx.agree,
  trivial,
  Cert.Projections.SsdOut.Dw.agree,
  trivial,
  Cert.Projections.SsdOut.Fwd.agree,
  trivial,
  Cert.Projections.MlaA.Dx.agree,
  trivial,
  Cert.Projections.MlaA.Dw.agree,
  trivial,
  Cert.Projections.MlaA.Fwd.agree,
  trivial,
  Cert.Projections.MlaQb.Dx.agree,
  trivial,
  Cert.Projections.MlaQb.Dw.agree,
  trivial,
  Cert.Projections.MlaQb.Fwd.agree,
  trivial,
  Cert.Projections.MlaKvb.Dx.agree,
  trivial,
  Cert.Projections.MlaKvb.Dw.agree,
  trivial,
  Cert.Projections.MlaKvb.Fwd.agree,
  trivial,
  Cert.Projections.MlaO.Dx.agree,
  trivial,
  Cert.Projections.MlaO.Dw.agree,
  trivial,
  Cert.Projections.MlaO.Fwd.agree,
  trivial,
  Cert.Conv.Bwd.agree,
  trivial,
  Cert.Conv.Fwd.agree,
  trivial,
  Cert.Rows.Swiglu.Bwd.agree,
  trivial,
  Cert.Rows.Swiglu.Fwd.agree,
  trivial,
  Cert.Rows.Ada.Dw.agree,
  trivial,
  Cert.Rows.Ada.Fwd.agree,
  trivial,
  Cert.Rows.Resid.Bwd.agree,
  trivial,
  Cert.Rows.Resid.Fwd.agree,
  trivial,
  Cert.Rows.LossHead.agree,
  trivial,
  Cert.Rows.AdamGu.agree⟩

end Cert.Proof

end
